-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_att_finite [hPre_att_finite : Cert.Pre_att_finite.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4))).1 = (fun _ => 1#1)
    ∧ (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4))).2.1 = (fun _ => 1#1)
    ∧ (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4))).2.2.1 = (fun _ => 1#1)
    ∧ (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4))).2.2.2.1 = (fun _ => 1#1)
    ∧ (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2)) (m ((c.tc : Thread Cert.AttKernelIdeal.nD Cert.AttKernelIdeal.τ).loc Cert.AttKernelIdeal.main_arg3)) (m ((c.tc : Thread Cert.AttKernelIdeal.nD Cert.AttKernelIdeal.τ).loc Cert.AttKernelIdeal.main_arg4))).2.2.2.2 = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_att_finite [hPre_att_finite : Cert.Pre_att_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4))).1 = (fun _ => 1#1)
    ∧ (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4))).2.1 = (fun _ => 1#1)
    ∧ (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4))).2.2.1 = (fun _ => 1#1)
    ∧ (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4))).2.2.2.1 = (fun _ => 1#1)
    ∧ (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2)) (m ((c.tc : Thread Cert.AttReferenceIdeal.nD Cert.AttReferenceIdeal.τ).loc Cert.AttReferenceIdeal.main_arg3)) (m ((c.tc : Thread Cert.AttReferenceIdeal.nD Cert.AttReferenceIdeal.τ).loc Cert.AttReferenceIdeal.main_arg4))).2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_OutDwKernel (m : (ℓ : Loc Cert.OutDwKernel.nD Cert.OutDwKernel.τ Cert.OutDwKernel.sig) → Buf (Elt Bits) ℓ) : Prop :=
  True

def Pre_OutDwKernelIdeal (m : (ℓ : Loc Cert.OutDwKernelIdeal.nD Cert.OutDwKernelIdeal.τ Cert.OutDwKernelIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_OutDxKernel (m : (ℓ : Loc Cert.OutDxKernel.nD Cert.OutDxKernel.τ Cert.OutDxKernel.sig) → Buf (Elt Bits) ℓ) : Prop :=
  True

def Pre_OutDxKernelIdeal (m : (ℓ : Loc Cert.OutDxKernelIdeal.nD Cert.OutDxKernelIdeal.τ Cert.OutDxKernelIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDwKernel (m : (ℓ : Loc Cert.InDwKernel.nD Cert.InDwKernel.τ Cert.InDwKernel.sig) → Buf (Elt Bits) ℓ) : Prop :=
  True

def Pre_InDwKernelIdeal (m : (ℓ : Loc Cert.InDwKernelIdeal.nD Cert.InDwKernelIdeal.τ Cert.InDwKernelIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDxKernel (m : (ℓ : Loc Cert.InDxKernel.nD Cert.InDxKernel.τ Cert.InDxKernel.sig) → Buf (Elt Bits) ℓ) : Prop :=
  True

def Pre_InDxKernelIdeal (m : (ℓ : Loc Cert.InDxKernelIdeal.nD Cert.InDxKernelIdeal.τ Cert.InDxKernelIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_AdamUpKernel (m : (ℓ : Loc Cert.AdamUpKernel.nD Cert.AdamUpKernel.τ Cert.AdamUpKernel.sig) → Buf (Elt Bits) ℓ) : Prop :=
  True

def Pre_AdamUpKernelIdeal (m : (ℓ : Loc Cert.AdamUpKernelIdeal.nD Cert.AdamUpKernelIdeal.τ Cert.AdamUpKernelIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDownKernel (m : (ℓ : Loc Cert.AdamDownKernel.nD Cert.AdamDownKernel.τ Cert.AdamDownKernel.sig) → Buf (Elt Bits) ℓ) : Prop :=
  True

def Pre_AdamDownKernelIdeal (m : (ℓ : Loc Cert.AdamDownKernelIdeal.nD Cert.AdamDownKernelIdeal.τ Cert.AdamDownKernelIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUqKernel (m : (ℓ : Loc Cert.AdamUqKernel.nD Cert.AdamUqKernel.τ Cert.AdamUqKernel.sig) → Buf (Elt Bits) ℓ) : Prop :=
  True

def Pre_AdamUqKernelIdeal (m : (ℓ : Loc Cert.AdamUqKernelIdeal.nD Cert.AdamUqKernelIdeal.τ Cert.AdamUqKernelIdeal.sig) → Buf (Elt Ideal) ℓ) : Prop :=
  True

def Pre_AdamUqReferenceIdeal (m : (ℓ : Loc Cert.AdamUqReferenceIdeal.nD Cert.AdamUqReferenceIdeal.τ Cert.AdamUqReferenceIdeal.sig) → Buf (Elt Ideal) ℓ) : Prop :=
  True

def Pre_AdamUkvKernel (m : (ℓ : Loc Cert.AdamUkvKernel.nD Cert.AdamUkvKernel.τ Cert.AdamUkvKernel.sig) → Buf (Elt Bits) ℓ) : Prop :=
  True

def Pre_AdamUkvKernelIdeal (m : (ℓ : Loc Cert.AdamUkvKernelIdeal.nD Cert.AdamUkvKernelIdeal.τ Cert.AdamUkvKernelIdeal.sig) → Buf (Elt Ideal) ℓ) : Prop :=
  True

def Pre_AdamUkvReferenceIdeal (m : (ℓ : Loc Cert.AdamUkvReferenceIdeal.nD Cert.AdamUkvReferenceIdeal.τ Cert.AdamUkvReferenceIdeal.sig) → Buf (Elt Ideal) ℓ) : Prop :=
  True

def Pre_AdamGluKernel (m : (ℓ : Loc Cert.AdamGluKernel.nD Cert.AdamGluKernel.τ Cert.AdamGluKernel.sig) → Buf (Elt Bits) ℓ) : Prop :=
  True

def Pre_AdamGluKernelIdeal (m : (ℓ : Loc Cert.AdamGluKernelIdeal.nD Cert.AdamGluKernelIdeal.τ Cert.AdamGluKernelIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamSmallKernel (m : (ℓ : Loc Cert.AdamSmallKernel.nD Cert.AdamSmallKernel.τ Cert.AdamSmallKernel.sig) → Buf (Elt Bits) ℓ) : Prop :=
  True

def Pre_AdamSmallKernelIdeal (m : (ℓ : Loc Cert.AdamSmallKernelIdeal.nD Cert.AdamSmallKernelIdeal.τ Cert.AdamSmallKernelIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_SumFfnKernel (m : (ℓ : Loc Cert.SumFfnKernel.nD Cert.SumFfnKernel.τ Cert.SumFfnKernel.sig) → Buf (Elt Bits) ℓ) : Prop :=
  True

def Pre_SumFfnKernelIdeal (m : (ℓ : Loc Cert.SumFfnKernelIdeal.nD Cert.SumFfnKernelIdeal.τ Cert.SumFfnKernelIdeal.sig) → Buf (Elt Ideal) ℓ) : Prop :=
  True

def Pre_SumFfnReferenceIdeal (m : (ℓ : Loc Cert.SumFfnReferenceIdeal.nD Cert.SumFfnReferenceIdeal.τ Cert.SumFfnReferenceIdeal.sig) → Buf (Elt Ideal) ℓ) : Prop :=
  True

def Pre_SumInKernel (m : (ℓ : Loc Cert.SumInKernel.nD Cert.SumInKernel.τ Cert.SumInKernel.sig) → Buf (Elt Bits) ℓ) : Prop :=
  True

def Pre_SumInKernelIdeal (m : (ℓ : Loc Cert.SumInKernelIdeal.nD Cert.SumInKernelIdeal.τ Cert.SumInKernelIdeal.sig) → Buf (Elt Ideal) ℓ) : Prop :=
  True

def Pre_SumInReferenceIdeal (m : (ℓ : Loc Cert.SumInReferenceIdeal.nD Cert.SumInReferenceIdeal.τ Cert.SumInReferenceIdeal.sig) → Buf (Elt Ideal) ℓ) : Prop :=
  True

def Pre_SumUqKernel (m : (ℓ : Loc Cert.SumUqKernel.nD Cert.SumUqKernel.τ Cert.SumUqKernel.sig) → Buf (Elt Bits) ℓ) : Prop :=
  True

def Pre_SumUqKernelIdeal (m : (ℓ : Loc Cert.SumUqKernelIdeal.nD Cert.SumUqKernelIdeal.τ Cert.SumUqKernelIdeal.sig) → Buf (Elt Ideal) ℓ) : Prop :=
  True

def Pre_SumUqReferenceIdeal (m : (ℓ : Loc Cert.SumUqReferenceIdeal.nD Cert.SumUqReferenceIdeal.τ Cert.SumUqReferenceIdeal.sig) → Buf (Elt Ideal) ℓ) : Prop :=
  True

def Pre_SumUkvKernel (m : (ℓ : Loc Cert.SumUkvKernel.nD Cert.SumUkvKernel.τ Cert.SumUkvKernel.sig) → Buf (Elt Bits) ℓ) : Prop :=
  True

def Pre_SumUkvKernelIdeal (m : (ℓ : Loc Cert.SumUkvKernelIdeal.nD Cert.SumUkvKernelIdeal.τ Cert.SumUkvKernelIdeal.sig) → Buf (Elt Ideal) ℓ) : Prop :=
  True

def Pre_SumUkvReferenceIdeal (m : (ℓ : Loc Cert.SumUkvReferenceIdeal.nD Cert.SumUkvReferenceIdeal.τ Cert.SumUkvReferenceIdeal.sig) → Buf (Elt Ideal) ℓ) : Prop :=
  True

def Pre_SumOutKernel (m : (ℓ : Loc Cert.SumOutKernel.nD Cert.SumOutKernel.τ Cert.SumOutKernel.sig) → Buf (Elt Bits) ℓ) : Prop :=
  True

def Pre_SumOutKernelIdeal (m : (ℓ : Loc Cert.SumOutKernelIdeal.nD Cert.SumOutKernelIdeal.τ Cert.SumOutKernelIdeal.sig) → Buf (Elt Ideal) ℓ) : Prop :=
  True

def Pre_SumOutReferenceIdeal (m : (ℓ : Loc Cert.SumOutReferenceIdeal.nD Cert.SumOutReferenceIdeal.τ Cert.SumOutReferenceIdeal.sig) → Buf (Elt Ideal) ℓ) : Prop :=
  True

def Pre_SumSmallKernel (m : (ℓ : Loc Cert.SumSmallKernel.nD Cert.SumSmallKernel.τ Cert.SumSmallKernel.sig) → Buf (Elt Bits) ℓ) : Prop :=
  True

def Pre_SumSmallKernelIdeal (m : (ℓ : Loc Cert.SumSmallKernelIdeal.nD Cert.SumSmallKernelIdeal.τ Cert.SumSmallKernelIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_UqKernel (m : (ℓ : Loc Cert.UqKernel.nD Cert.UqKernel.τ Cert.UqKernel.sig) → Buf (Elt Bits) ℓ) : Prop :=
  True

def Pre_UqKernelIdeal (m : (ℓ : Loc Cert.UqKernelIdeal.nD Cert.UqKernelIdeal.τ Cert.UqKernelIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_UqDwKernel (m : (ℓ : Loc Cert.UqDwKernel.nD Cert.UqDwKernel.τ Cert.UqDwKernel.sig) → Buf (Elt Bits) ℓ) : Prop :=
  True

def Pre_UqDwKernelIdeal (m : (ℓ : Loc Cert.UqDwKernelIdeal.nD Cert.UqDwKernelIdeal.τ Cert.UqDwKernelIdeal.sig) → Buf (Elt Ideal) ℓ) : Prop :=
  True

def Pre_UqDwReferenceIdeal (m : (ℓ : Loc Cert.UqDwReferenceIdeal.nD Cert.UqDwReferenceIdeal.τ Cert.UqDwReferenceIdeal.sig) → Buf (Elt Ideal) ℓ) : Prop :=
  True

def Pre_UqDxKernel (m : (ℓ : Loc Cert.UqDxKernel.nD Cert.UqDxKernel.τ Cert.UqDxKernel.sig) → Buf (Elt Bits) ℓ) : Prop :=
  True

def Pre_UqDxKernelIdeal (m : (ℓ : Loc Cert.UqDxKernelIdeal.nD Cert.UqDxKernelIdeal.τ Cert.UqDxKernelIdeal.sig) → Buf (Elt Ideal) ℓ) : Prop :=
  True

def Pre_UqDxReferenceIdeal (m : (ℓ : Loc Cert.UqDxReferenceIdeal.nD Cert.UqDxReferenceIdeal.τ Cert.UqDxReferenceIdeal.sig) → Buf (Elt Ideal) ℓ) : Prop :=
  True

def Pre_UkvKernel (m : (ℓ : Loc Cert.UkvKernel.nD Cert.UkvKernel.τ Cert.UkvKernel.sig) → Buf (Elt Bits) ℓ) : Prop :=
  True

def Pre_UkvKernelIdeal (m : (ℓ : Loc Cert.UkvKernelIdeal.nD Cert.UkvKernelIdeal.τ Cert.UkvKernelIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_UkvDwKernel (m : (ℓ : Loc Cert.UkvDwKernel.nD Cert.UkvDwKernel.τ Cert.UkvDwKernel.sig) → Buf (Elt Bits) ℓ) : Prop :=
  True

def Pre_UkvDwKernelIdeal (m : (ℓ : Loc Cert.UkvDwKernelIdeal.nD Cert.UkvDwKernelIdeal.τ Cert.UkvDwKernelIdeal.sig) → Buf (Elt Ideal) ℓ) : Prop :=
  True

def Pre_UkvDwReferenceIdeal (m : (ℓ : Loc Cert.UkvDwReferenceIdeal.nD Cert.UkvDwReferenceIdeal.τ Cert.UkvDwReferenceIdeal.sig) → Buf (Elt Ideal) ℓ) : Prop :=
  True

def Pre_UkvDxKernel (m : (ℓ : Loc Cert.UkvDxKernel.nD Cert.UkvDxKernel.τ Cert.UkvDxKernel.sig) → Buf (Elt Bits) ℓ) : Prop :=
  True

def Pre_UkvDxKernelIdeal (m : (ℓ : Loc Cert.UkvDxKernelIdeal.nD Cert.UkvDxKernelIdeal.τ Cert.UkvDxKernelIdeal.sig) → Buf (Elt Ideal) ℓ) : Prop :=
  True

def Pre_UkvDxReferenceIdeal (m : (ℓ : Loc Cert.UkvDxReferenceIdeal.nD Cert.UkvDxReferenceIdeal.τ Cert.UkvDxReferenceIdeal.sig) → Buf (Elt Ideal) ℓ) : Prop :=
  True

def Pre_FfnLnKernel (m : (ℓ : Loc Cert.FfnLnKernel.nD Cert.FfnLnKernel.τ Cert.FfnLnKernel.sig) → Buf (Elt Bits) ℓ) : Prop :=
  True

def Pre_FfnLnKernelIdeal (m : (ℓ : Loc Cert.FfnLnKernelIdeal.nD Cert.FfnLnKernelIdeal.τ Cert.FfnLnKernelIdeal.sig) → Buf (Elt Ideal) ℓ) : Prop :=
  True

def Pre_FfnLnReferenceIdeal (m : (ℓ : Loc Cert.FfnLnReferenceIdeal.nD Cert.FfnLnReferenceIdeal.τ Cert.FfnLnReferenceIdeal.sig) → Buf (Elt Ideal) ℓ) : Prop :=
  True

def Pre_MixLnKernel (m : (ℓ : Loc Cert.MixLnKernel.nD Cert.MixLnKernel.τ Cert.MixLnKernel.sig) → Buf (Elt Bits) ℓ) : Prop :=
  True

def Pre_MixLnKernelIdeal (m : (ℓ : Loc Cert.MixLnKernelIdeal.nD Cert.MixLnKernelIdeal.τ Cert.MixLnKernelIdeal.sig) → Buf (Elt Ideal) ℓ) : Prop :=
  True

def Pre_MixLnReferenceIdeal (m : (ℓ : Loc Cert.MixLnReferenceIdeal.nD Cert.MixLnReferenceIdeal.τ Cert.MixLnReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_PrepBwdKernel (m : (ℓ : Loc Cert.PrepBwdKernel.nD Cert.PrepBwdKernel.τ Cert.PrepBwdKernel.sig) → Buf (Elt Bits) ℓ) : Prop :=
  True

def Pre_PrepBwdKernelIdeal (m : (ℓ : Loc Cert.PrepBwdKernelIdeal.nD Cert.PrepBwdKernelIdeal.τ Cert.PrepBwdKernelIdeal.sig) → Buf (Elt Ideal) ℓ) : Prop :=
  True

def Pre_PrepBwdReferenceIdeal (m : (ℓ : Loc Cert.PrepBwdReferenceIdeal.nD Cert.PrepBwdReferenceIdeal.τ Cert.PrepBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2)
      ∧ r.2.mem ((c.tc : Thread Cert.AttKernel.nD Cert.AttKernel.τ).loc Cert.AttKernel.main_arg3) = m ((c.tc : Thread Cert.AttKernel.nD Cert.AttKernel.τ).loc Cert.AttKernel.main_arg3)
      ∧ r.2.mem ((c.tc : Thread Cert.AttKernel.nD Cert.AttKernel.τ).loc Cert.AttKernel.main_arg4) = m ((c.tc : Thread Cert.AttKernel.nD Cert.AttKernel.τ).loc Cert.AttKernel.main_arg4))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
      ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4))
      ∧ r.2.sem = fun _ => 0)

def quiescent_AttKernelIdeal_pre_att_finite [hAttKernelIdeal : Cert.AttKernelIdeal.Facts] [hPre_att_finite : Cert.Pre_att_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_att_finite m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
      ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
      ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3)
      ∧ r.2.mem ((c.tc : Thread Cert.AttReferenceIdeal.nD Cert.AttReferenceIdeal.τ).loc Cert.AttReferenceIdeal.main_arg4) = m ((c.tc : Thread Cert.AttReferenceIdeal.nD Cert.AttReferenceIdeal.τ).loc Cert.AttReferenceIdeal.main_arg4))
      ∧ r.2.sem = fun _ => 0)

def quiescent_AttReferenceIdeal_pre_att_finite [hAttReferenceIdeal : Cert.AttReferenceIdeal.Facts] [hPre_att_finite : Cert.Pre_att_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_att_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2)
      ∧ r.2.mem ((c.tc : Thread Cert.AttReferenceIdeal.nD Cert.AttReferenceIdeal.τ).loc Cert.AttReferenceIdeal.main_arg3) = m ((c.tc : Thread Cert.AttReferenceIdeal.nD Cert.AttReferenceIdeal.τ).loc Cert.AttReferenceIdeal.main_arg3)
      ∧ r.2.mem ((c.tc : Thread Cert.AttReferenceIdeal.nD Cert.AttReferenceIdeal.τ).loc Cert.AttReferenceIdeal.main_arg4) = m ((c.tc : Thread Cert.AttReferenceIdeal.nD Cert.AttReferenceIdeal.τ).loc Cert.AttReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_OutDwKernel [hOutDwKernel : Cert.OutDwKernel.Facts] : Prop :=
  ∀ (m : (ℓ : Loc Cert.OutDwKernel.nD Cert.OutDwKernel.τ Cert.OutDwKernel.sig) → Buf (Elt Bits) ℓ) (g : Dev Cert.OutDwKernel.nD → PrngReg), Pre_OutDwKernel m →
    θ_run (Cert.OutDwKernel.defs (F := Bits)) (onTc (τ := Cert.OutDwKernel.τ) (Cert.OutDwKernel.main (F := Bits))) ⟨m, fun _ => 0, g⟩ (fun r => (∀ c : Dev Cert.OutDwKernel.nD,
      r.2.mem ((c.tc : Thread Cert.OutDwKernel.nD Cert.OutDwKernel.τ).loc Cert.OutDwKernel.main_arg0) = m ((c.tc : Thread Cert.OutDwKernel.nD Cert.OutDwKernel.τ).loc Cert.OutDwKernel.main_arg0)
      ∧ r.2.mem ((c.tc : Thread Cert.OutDwKernel.nD Cert.OutDwKernel.τ).loc Cert.OutDwKernel.main_arg1) = m ((c.tc : Thread Cert.OutDwKernel.nD Cert.OutDwKernel.τ).loc Cert.OutDwKernel.main_arg1))
      ∧ r.2.sem = fun _ => 0)

def quiescent_OutDwKernelIdeal [hOutDwKernelIdeal : Cert.OutDwKernelIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg), Pre_OutDwKernelIdeal m →
    θ_run (Cert.OutDwKernelIdeal.defs (F := Ideal)) (onTc (τ := Cert.OutDwKernelIdeal.τ) (Cert.OutDwKernelIdeal.main (F := Ideal))) ⟨m, fun _ => 0, g⟩ (fun r => (∀ c : Dev Cert.OutDwKernelIdeal.nD,
      r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
      ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_OutDxKernel [hOutDxKernel : Cert.OutDxKernel.Facts] : Prop :=
  ∀ (m : (ℓ : Loc Cert.OutDxKernel.nD Cert.OutDxKernel.τ Cert.OutDxKernel.sig) → Buf (Elt Bits) ℓ) (g : Dev Cert.OutDxKernel.nD → PrngReg), Pre_OutDxKernel m →
    θ_run (Cert.OutDxKernel.defs (F := Bits)) (onTc (τ := Cert.OutDxKernel.τ) (Cert.OutDxKernel.main (F := Bits))) ⟨m, fun _ => 0, g⟩ (fun r => (∀ c : Dev Cert.OutDxKernel.nD,
      r.2.mem ((c.tc : Thread Cert.OutDxKernel.nD Cert.OutDxKernel.τ).loc Cert.OutDxKernel.main_arg0) = m ((c.tc : Thread Cert.OutDxKernel.nD Cert.OutDxKernel.τ).loc Cert.OutDxKernel.main_arg0)
      ∧ r.2.mem ((c.tc : Thread Cert.OutDxKernel.nD Cert.OutDxKernel.τ).loc Cert.OutDxKernel.main_arg1) = m ((c.tc : Thread Cert.OutDxKernel.nD Cert.OutDxKernel.τ).loc Cert.OutDxKernel.main_arg1))
      ∧ r.2.sem = fun _ => 0)

def quiescent_OutDxKernelIdeal [hOutDxKernelIdeal : Cert.OutDxKernelIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg), Pre_OutDxKernelIdeal m →
    θ_run (Cert.OutDxKernelIdeal.defs (F := Ideal)) (onTc (τ := Cert.OutDxKernelIdeal.τ) (Cert.OutDxKernelIdeal.main (F := Ideal))) ⟨m, fun _ => 0, g⟩ (fun r => (∀ c : Dev Cert.OutDxKernelIdeal.nD,
      r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
      ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDwKernel [hInDwKernel : Cert.InDwKernel.Facts] : Prop :=
  ∀ (m : (ℓ : Loc Cert.InDwKernel.nD Cert.InDwKernel.τ Cert.InDwKernel.sig) → Buf (Elt Bits) ℓ) (g : Dev Cert.InDwKernel.nD → PrngReg), Pre_InDwKernel m →
    θ_run (Cert.InDwKernel.defs (F := Bits)) (onTc (τ := Cert.InDwKernel.τ) (Cert.InDwKernel.main (F := Bits))) ⟨m, fun _ => 0, g⟩ (fun r => (∀ c : Dev Cert.InDwKernel.nD,
      r.2.mem ((c.tc : Thread Cert.InDwKernel.nD Cert.InDwKernel.τ).loc Cert.InDwKernel.main_arg0) = m ((c.tc : Thread Cert.InDwKernel.nD Cert.InDwKernel.τ).loc Cert.InDwKernel.main_arg0)
      ∧ r.2.mem ((c.tc : Thread Cert.InDwKernel.nD Cert.InDwKernel.τ).loc Cert.InDwKernel.main_arg1) = m ((c.tc : Thread Cert.InDwKernel.nD Cert.InDwKernel.τ).loc Cert.InDwKernel.main_arg1))
      ∧ r.2.sem = fun _ => 0)

def quiescent_InDwKernelIdeal [hInDwKernelIdeal : Cert.InDwKernelIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg), Pre_InDwKernelIdeal m →
    θ_run (Cert.InDwKernelIdeal.defs (F := Ideal)) (onTc (τ := Cert.InDwKernelIdeal.τ) (Cert.InDwKernelIdeal.main (F := Ideal))) ⟨m, fun _ => 0, g⟩ (fun r => (∀ c : Dev Cert.InDwKernelIdeal.nD,
      r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
      ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDxKernel [hInDxKernel : Cert.InDxKernel.Facts] : Prop :=
  ∀ (m : (ℓ : Loc Cert.InDxKernel.nD Cert.InDxKernel.τ Cert.InDxKernel.sig) → Buf (Elt Bits) ℓ) (g : Dev Cert.InDxKernel.nD → PrngReg), Pre_InDxKernel m →
    θ_run (Cert.InDxKernel.defs (F := Bits)) (onTc (τ := Cert.InDxKernel.τ) (Cert.InDxKernel.main (F := Bits))) ⟨m, fun _ => 0, g⟩ (fun r => (∀ c : Dev Cert.InDxKernel.nD,
      r.2.mem ((c.tc : Thread Cert.InDxKernel.nD Cert.InDxKernel.τ).loc Cert.InDxKernel.main_arg0) = m ((c.tc : Thread Cert.InDxKernel.nD Cert.InDxKernel.τ).loc Cert.InDxKernel.main_arg0)
      ∧ r.2.mem ((c.tc : Thread Cert.InDxKernel.nD Cert.InDxKernel.τ).loc Cert.InDxKernel.main_arg1) = m ((c.tc : Thread Cert.InDxKernel.nD Cert.InDxKernel.τ).loc Cert.InDxKernel.main_arg1)
      ∧ r.2.mem ((c.tc : Thread Cert.InDxKernel.nD Cert.InDxKernel.τ).loc Cert.InDxKernel.main_arg2) = m ((c.tc : Thread Cert.InDxKernel.nD Cert.InDxKernel.τ).loc Cert.InDxKernel.main_arg2))
      ∧ r.2.sem = fun _ => 0)

def quiescent_InDxKernelIdeal [hInDxKernelIdeal : Cert.InDxKernelIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg), Pre_InDxKernelIdeal m →
    θ_run (Cert.InDxKernelIdeal.defs (F := Ideal)) (onTc (τ := Cert.InDxKernelIdeal.τ) (Cert.InDxKernelIdeal.main (F := Ideal))) ⟨m, fun _ => 0, g⟩ (fun r => (∀ c : Dev Cert.InDxKernelIdeal.nD,
      r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
      ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
      ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_AdamUpKernel [hAdamUpKernel : Cert.AdamUpKernel.Facts] : Prop :=
  ∀ (m : (ℓ : Loc Cert.AdamUpKernel.nD Cert.AdamUpKernel.τ Cert.AdamUpKernel.sig) → Buf (Elt Bits) ℓ) (g : Dev Cert.AdamUpKernel.nD → PrngReg), Pre_AdamUpKernel m →
    θ_run (Cert.AdamUpKernel.defs (F := Bits)) (onTc (τ := Cert.AdamUpKernel.τ) (Cert.AdamUpKernel.main (F := Bits))) ⟨m, fun _ => 0, g⟩ (fun r => (∀ c : Dev Cert.AdamUpKernel.nD,
      r.2.mem ((c.tc : Thread Cert.AdamUpKernel.nD Cert.AdamUpKernel.τ).loc Cert.AdamUpKernel.main_arg0) = m ((c.tc : Thread Cert.AdamUpKernel.nD Cert.AdamUpKernel.τ).loc Cert.AdamUpKernel.main_arg0)
      ∧ r.2.mem ((c.tc : Thread Cert.AdamUpKernel.nD Cert.AdamUpKernel.τ).loc Cert.AdamUpKernel.main_arg1) = m ((c.tc : Thread Cert.AdamUpKernel.nD Cert.AdamUpKernel.τ).loc Cert.AdamUpKernel.main_arg1)
      ∧ r.2.mem ((c.tc : Thread Cert.AdamUpKernel.nD Cert.AdamUpKernel.τ).loc Cert.AdamUpKernel.main_arg2) = m ((c.tc : Thread Cert.AdamUpKernel.nD Cert.AdamUpKernel.τ).loc Cert.AdamUpKernel.main_arg2)
      ∧ r.2.mem ((c.tc : Thread Cert.AdamUpKernel.nD Cert.AdamUpKernel.τ).loc Cert.AdamUpKernel.main_arg3) = m ((c.tc : Thread Cert.AdamUpKernel.nD Cert.AdamUpKernel.τ).loc Cert.AdamUpKernel.main_arg3))
      ∧ r.2.sem = fun _ => 0)

def quiescent_AdamUpKernelIdeal [hAdamUpKernelIdeal : Cert.AdamUpKernelIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg), Pre_AdamUpKernelIdeal m →
    θ_run (Cert.AdamUpKernelIdeal.defs (F := Ideal)) (onTc (τ := Cert.AdamUpKernelIdeal.τ) (Cert.AdamUpKernelIdeal.main (F := Ideal))) ⟨m, fun _ => 0, g⟩ (fun r => (∀ c : Dev Cert.AdamUpKernelIdeal.nD,
      r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDownKernel [hAdamDownKernel : Cert.AdamDownKernel.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3))
      ∧ r.2.sem = fun _ => 0)

def quiescent_AdamDownKernelIdeal [hAdamDownKernelIdeal : Cert.AdamDownKernelIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamUqKernel [hAdamUqKernel : Cert.AdamUqKernel.Facts] : Prop :=
  ∀ (m : (ℓ : Loc Cert.AdamUqKernel.nD Cert.AdamUqKernel.τ Cert.AdamUqKernel.sig) → Buf (Elt Bits) ℓ) (g : Dev Cert.AdamUqKernel.nD → PrngReg), Pre_AdamUqKernel m →
    θ_run (Cert.AdamUqKernel.defs (F := Bits)) (onTc (τ := Cert.AdamUqKernel.τ) (Cert.AdamUqKernel.main (F := Bits))) ⟨m, fun _ => 0, g⟩ (fun r => (∀ c : Dev Cert.AdamUqKernel.nD,
      r.2.mem ((c.tc : Thread Cert.AdamUqKernel.nD Cert.AdamUqKernel.τ).loc Cert.AdamUqKernel.main_arg0) = m ((c.tc : Thread Cert.AdamUqKernel.nD Cert.AdamUqKernel.τ).loc Cert.AdamUqKernel.main_arg0)
      ∧ r.2.mem ((c.tc : Thread Cert.AdamUqKernel.nD Cert.AdamUqKernel.τ).loc Cert.AdamUqKernel.main_arg1) = m ((c.tc : Thread Cert.AdamUqKernel.nD Cert.AdamUqKernel.τ).loc Cert.AdamUqKernel.main_arg1)
      ∧ r.2.mem ((c.tc : Thread Cert.AdamUqKernel.nD Cert.AdamUqKernel.τ).loc Cert.AdamUqKernel.main_arg2) = m ((c.tc : Thread Cert.AdamUqKernel.nD Cert.AdamUqKernel.τ).loc Cert.AdamUqKernel.main_arg2)
      ∧ r.2.mem ((c.tc : Thread Cert.AdamUqKernel.nD Cert.AdamUqKernel.τ).loc Cert.AdamUqKernel.main_arg3) = m ((c.tc : Thread Cert.AdamUqKernel.nD Cert.AdamUqKernel.τ).loc Cert.AdamUqKernel.main_arg3))
      ∧ r.2.sem = fun _ => 0)

def quiescent_AdamUqKernelIdeal [hAdamUqKernelIdeal : Cert.AdamUqKernelIdeal.Facts] : Prop :=
  ∀ (m : (ℓ : Loc Cert.AdamUqKernelIdeal.nD Cert.AdamUqKernelIdeal.τ Cert.AdamUqKernelIdeal.sig) → Buf (Elt Ideal) ℓ) (g : Dev Cert.AdamUqKernelIdeal.nD → PrngReg), Pre_AdamUqKernelIdeal m →
    θ_run (Cert.AdamUqKernelIdeal.defs (F := Ideal)) (onTc (τ := Cert.AdamUqKernelIdeal.τ) (Cert.AdamUqKernelIdeal.main (F := Ideal))) ⟨m, fun _ => 0, g⟩ (fun r => (∀ c : Dev Cert.AdamUqKernelIdeal.nD,
      r.2.mem ((c.tc : Thread Cert.AdamUqKernelIdeal.nD Cert.AdamUqKernelIdeal.τ).loc Cert.AdamUqKernelIdeal.main_arg0) = m ((c.tc : Thread Cert.AdamUqKernelIdeal.nD Cert.AdamUqKernelIdeal.τ).loc Cert.AdamUqKernelIdeal.main_arg0)
      ∧ r.2.mem ((c.tc : Thread Cert.AdamUqKernelIdeal.nD Cert.AdamUqKernelIdeal.τ).loc Cert.AdamUqKernelIdeal.main_arg1) = m ((c.tc : Thread Cert.AdamUqKernelIdeal.nD Cert.AdamUqKernelIdeal.τ).loc Cert.AdamUqKernelIdeal.main_arg1)
      ∧ r.2.mem ((c.tc : Thread Cert.AdamUqKernelIdeal.nD Cert.AdamUqKernelIdeal.τ).loc Cert.AdamUqKernelIdeal.main_arg2) = m ((c.tc : Thread Cert.AdamUqKernelIdeal.nD Cert.AdamUqKernelIdeal.τ).loc Cert.AdamUqKernelIdeal.main_arg2)
      ∧ r.2.mem ((c.tc : Thread Cert.AdamUqKernelIdeal.nD Cert.AdamUqKernelIdeal.τ).loc Cert.AdamUqKernelIdeal.main_arg3) = m ((c.tc : Thread Cert.AdamUqKernelIdeal.nD Cert.AdamUqKernelIdeal.τ).loc Cert.AdamUqKernelIdeal.main_arg3))
      ∧ r.2.sem = fun _ => 0)

def quiescent_AdamUqReferenceIdeal [hAdamUqReferenceIdeal : Cert.AdamUqReferenceIdeal.Facts] : Prop :=
  ∀ (m : (ℓ : Loc Cert.AdamUqReferenceIdeal.nD Cert.AdamUqReferenceIdeal.τ Cert.AdamUqReferenceIdeal.sig) → Buf (Elt Ideal) ℓ) (g : Dev Cert.AdamUqReferenceIdeal.nD → PrngReg), Pre_AdamUqReferenceIdeal m →
    θ_run (Cert.AdamUqReferenceIdeal.defs (F := Ideal)) (onTc (τ := Cert.AdamUqReferenceIdeal.τ) (Cert.AdamUqReferenceIdeal.main (F := Ideal))) ⟨m, fun _ => 0, g⟩ (fun r => (∀ c : Dev Cert.AdamUqReferenceIdeal.nD,
      r.2.mem ((c.tc : Thread Cert.AdamUqReferenceIdeal.nD Cert.AdamUqReferenceIdeal.τ).loc Cert.AdamUqReferenceIdeal.main_arg0) = m ((c.tc : Thread Cert.AdamUqReferenceIdeal.nD Cert.AdamUqReferenceIdeal.τ).loc Cert.AdamUqReferenceIdeal.main_arg0)
      ∧ r.2.mem ((c.tc : Thread Cert.AdamUqReferenceIdeal.nD Cert.AdamUqReferenceIdeal.τ).loc Cert.AdamUqReferenceIdeal.main_arg1) = m ((c.tc : Thread Cert.AdamUqReferenceIdeal.nD Cert.AdamUqReferenceIdeal.τ).loc Cert.AdamUqReferenceIdeal.main_arg1)
      ∧ r.2.mem ((c.tc : Thread Cert.AdamUqReferenceIdeal.nD Cert.AdamUqReferenceIdeal.τ).loc Cert.AdamUqReferenceIdeal.main_arg2) = m ((c.tc : Thread Cert.AdamUqReferenceIdeal.nD Cert.AdamUqReferenceIdeal.τ).loc Cert.AdamUqReferenceIdeal.main_arg2)
      ∧ r.2.mem ((c.tc : Thread Cert.AdamUqReferenceIdeal.nD Cert.AdamUqReferenceIdeal.τ).loc Cert.AdamUqReferenceIdeal.main_arg3) = m ((c.tc : Thread Cert.AdamUqReferenceIdeal.nD Cert.AdamUqReferenceIdeal.τ).loc Cert.AdamUqReferenceIdeal.main_arg3))
      ∧ r.2.sem = fun _ => 0)

def quiescent_AdamUkvKernel [hAdamUkvKernel : Cert.AdamUkvKernel.Facts] : Prop :=
  ∀ (m : (ℓ : Loc Cert.AdamUkvKernel.nD Cert.AdamUkvKernel.τ Cert.AdamUkvKernel.sig) → Buf (Elt Bits) ℓ) (g : Dev Cert.AdamUkvKernel.nD → PrngReg), Pre_AdamUkvKernel m →
    θ_run (Cert.AdamUkvKernel.defs (F := Bits)) (onTc (τ := Cert.AdamUkvKernel.τ) (Cert.AdamUkvKernel.main (F := Bits))) ⟨m, fun _ => 0, g⟩ (fun r => (∀ c : Dev Cert.AdamUkvKernel.nD,
      r.2.mem ((c.tc : Thread Cert.AdamUkvKernel.nD Cert.AdamUkvKernel.τ).loc Cert.AdamUkvKernel.main_arg0) = m ((c.tc : Thread Cert.AdamUkvKernel.nD Cert.AdamUkvKernel.τ).loc Cert.AdamUkvKernel.main_arg0)
      ∧ r.2.mem ((c.tc : Thread Cert.AdamUkvKernel.nD Cert.AdamUkvKernel.τ).loc Cert.AdamUkvKernel.main_arg1) = m ((c.tc : Thread Cert.AdamUkvKernel.nD Cert.AdamUkvKernel.τ).loc Cert.AdamUkvKernel.main_arg1)
      ∧ r.2.mem ((c.tc : Thread Cert.AdamUkvKernel.nD Cert.AdamUkvKernel.τ).loc Cert.AdamUkvKernel.main_arg2) = m ((c.tc : Thread Cert.AdamUkvKernel.nD Cert.AdamUkvKernel.τ).loc Cert.AdamUkvKernel.main_arg2)
      ∧ r.2.mem ((c.tc : Thread Cert.AdamUkvKernel.nD Cert.AdamUkvKernel.τ).loc Cert.AdamUkvKernel.main_arg3) = m ((c.tc : Thread Cert.AdamUkvKernel.nD Cert.AdamUkvKernel.τ).loc Cert.AdamUkvKernel.main_arg3))
      ∧ r.2.sem = fun _ => 0)

def quiescent_AdamUkvKernelIdeal [hAdamUkvKernelIdeal : Cert.AdamUkvKernelIdeal.Facts] : Prop :=
  ∀ (m : (ℓ : Loc Cert.AdamUkvKernelIdeal.nD Cert.AdamUkvKernelIdeal.τ Cert.AdamUkvKernelIdeal.sig) → Buf (Elt Ideal) ℓ) (g : Dev Cert.AdamUkvKernelIdeal.nD → PrngReg), Pre_AdamUkvKernelIdeal m →
    θ_run (Cert.AdamUkvKernelIdeal.defs (F := Ideal)) (onTc (τ := Cert.AdamUkvKernelIdeal.τ) (Cert.AdamUkvKernelIdeal.main (F := Ideal))) ⟨m, fun _ => 0, g⟩ (fun r => (∀ c : Dev Cert.AdamUkvKernelIdeal.nD,
      r.2.mem ((c.tc : Thread Cert.AdamUkvKernelIdeal.nD Cert.AdamUkvKernelIdeal.τ).loc Cert.AdamUkvKernelIdeal.main_arg0) = m ((c.tc : Thread Cert.AdamUkvKernelIdeal.nD Cert.AdamUkvKernelIdeal.τ).loc Cert.AdamUkvKernelIdeal.main_arg0)
      ∧ r.2.mem ((c.tc : Thread Cert.AdamUkvKernelIdeal.nD Cert.AdamUkvKernelIdeal.τ).loc Cert.AdamUkvKernelIdeal.main_arg1) = m ((c.tc : Thread Cert.AdamUkvKernelIdeal.nD Cert.AdamUkvKernelIdeal.τ).loc Cert.AdamUkvKernelIdeal.main_arg1)
      ∧ r.2.mem ((c.tc : Thread Cert.AdamUkvKernelIdeal.nD Cert.AdamUkvKernelIdeal.τ).loc Cert.AdamUkvKernelIdeal.main_arg2) = m ((c.tc : Thread Cert.AdamUkvKernelIdeal.nD Cert.AdamUkvKernelIdeal.τ).loc Cert.AdamUkvKernelIdeal.main_arg2)
      ∧ r.2.mem ((c.tc : Thread Cert.AdamUkvKernelIdeal.nD Cert.AdamUkvKernelIdeal.τ).loc Cert.AdamUkvKernelIdeal.main_arg3) = m ((c.tc : Thread Cert.AdamUkvKernelIdeal.nD Cert.AdamUkvKernelIdeal.τ).loc Cert.AdamUkvKernelIdeal.main_arg3))
      ∧ r.2.sem = fun _ => 0)

def quiescent_AdamUkvReferenceIdeal [hAdamUkvReferenceIdeal : Cert.AdamUkvReferenceIdeal.Facts] : Prop :=
  ∀ (m : (ℓ : Loc Cert.AdamUkvReferenceIdeal.nD Cert.AdamUkvReferenceIdeal.τ Cert.AdamUkvReferenceIdeal.sig) → Buf (Elt Ideal) ℓ) (g : Dev Cert.AdamUkvReferenceIdeal.nD → PrngReg), Pre_AdamUkvReferenceIdeal m →
    θ_run (Cert.AdamUkvReferenceIdeal.defs (F := Ideal)) (onTc (τ := Cert.AdamUkvReferenceIdeal.τ) (Cert.AdamUkvReferenceIdeal.main (F := Ideal))) ⟨m, fun _ => 0, g⟩ (fun r => (∀ c : Dev Cert.AdamUkvReferenceIdeal.nD,
      r.2.mem ((c.tc : Thread Cert.AdamUkvReferenceIdeal.nD Cert.AdamUkvReferenceIdeal.τ).loc Cert.AdamUkvReferenceIdeal.main_arg0) = m ((c.tc : Thread Cert.AdamUkvReferenceIdeal.nD Cert.AdamUkvReferenceIdeal.τ).loc Cert.AdamUkvReferenceIdeal.main_arg0)
      ∧ r.2.mem ((c.tc : Thread Cert.AdamUkvReferenceIdeal.nD Cert.AdamUkvReferenceIdeal.τ).loc Cert.AdamUkvReferenceIdeal.main_arg1) = m ((c.tc : Thread Cert.AdamUkvReferenceIdeal.nD Cert.AdamUkvReferenceIdeal.τ).loc Cert.AdamUkvReferenceIdeal.main_arg1)
      ∧ r.2.mem ((c.tc : Thread Cert.AdamUkvReferenceIdeal.nD Cert.AdamUkvReferenceIdeal.τ).loc Cert.AdamUkvReferenceIdeal.main_arg2) = m ((c.tc : Thread Cert.AdamUkvReferenceIdeal.nD Cert.AdamUkvReferenceIdeal.τ).loc Cert.AdamUkvReferenceIdeal.main_arg2)
      ∧ r.2.mem ((c.tc : Thread Cert.AdamUkvReferenceIdeal.nD Cert.AdamUkvReferenceIdeal.τ).loc Cert.AdamUkvReferenceIdeal.main_arg3) = m ((c.tc : Thread Cert.AdamUkvReferenceIdeal.nD Cert.AdamUkvReferenceIdeal.τ).loc Cert.AdamUkvReferenceIdeal.main_arg3))
      ∧ r.2.sem = fun _ => 0)

def quiescent_AdamGluKernel [hAdamGluKernel : Cert.AdamGluKernel.Facts] : Prop :=
  ∀ (m : (ℓ : Loc Cert.AdamGluKernel.nD Cert.AdamGluKernel.τ Cert.AdamGluKernel.sig) → Buf (Elt Bits) ℓ) (g : Dev Cert.AdamGluKernel.nD → PrngReg), Pre_AdamGluKernel m →
    θ_run (Cert.AdamGluKernel.defs (F := Bits)) (onTc (τ := Cert.AdamGluKernel.τ) (Cert.AdamGluKernel.main (F := Bits))) ⟨m, fun _ => 0, g⟩ (fun r => (∀ c : Dev Cert.AdamGluKernel.nD,
      r.2.mem ((c.tc : Thread Cert.AdamGluKernel.nD Cert.AdamGluKernel.τ).loc Cert.AdamGluKernel.main_arg0) = m ((c.tc : Thread Cert.AdamGluKernel.nD Cert.AdamGluKernel.τ).loc Cert.AdamGluKernel.main_arg0)
      ∧ r.2.mem ((c.tc : Thread Cert.AdamGluKernel.nD Cert.AdamGluKernel.τ).loc Cert.AdamGluKernel.main_arg1) = m ((c.tc : Thread Cert.AdamGluKernel.nD Cert.AdamGluKernel.τ).loc Cert.AdamGluKernel.main_arg1)
      ∧ r.2.mem ((c.tc : Thread Cert.AdamGluKernel.nD Cert.AdamGluKernel.τ).loc Cert.AdamGluKernel.main_arg2) = m ((c.tc : Thread Cert.AdamGluKernel.nD Cert.AdamGluKernel.τ).loc Cert.AdamGluKernel.main_arg2)
      ∧ r.2.mem ((c.tc : Thread Cert.AdamGluKernel.nD Cert.AdamGluKernel.τ).loc Cert.AdamGluKernel.main_arg3) = m ((c.tc : Thread Cert.AdamGluKernel.nD Cert.AdamGluKernel.τ).loc Cert.AdamGluKernel.main_arg3))
      ∧ r.2.sem = fun _ => 0)

def quiescent_AdamGluKernelIdeal [hAdamGluKernelIdeal : Cert.AdamGluKernelIdeal.Facts] : Prop :=
  ∀ (m : (ℓ : Loc Cert.AdamGluKernelIdeal.nD Cert.AdamGluKernelIdeal.τ Cert.AdamGluKernelIdeal.sig) → Buf (Elt Ideal) ℓ) (g : Dev Cert.AdamGluKernelIdeal.nD → PrngReg), Pre_AdamGluKernelIdeal m →
    θ_run (Cert.AdamGluKernelIdeal.defs (F := Ideal)) (onTc (τ := Cert.AdamGluKernelIdeal.τ) (Cert.AdamGluKernelIdeal.main (F := Ideal))) ⟨m, fun _ => 0, g⟩ (fun r => (∀ c : Dev Cert.AdamGluKernelIdeal.nD,
      r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
      ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
      ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
      ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamSmallKernel [hAdamSmallKernel : Cert.AdamSmallKernel.Facts] : Prop :=
  ∀ (m : (ℓ : Loc Cert.AdamSmallKernel.nD Cert.AdamSmallKernel.τ Cert.AdamSmallKernel.sig) → Buf (Elt Bits) ℓ) (g : Dev Cert.AdamSmallKernel.nD → PrngReg), Pre_AdamSmallKernel m →
    θ_run (Cert.AdamSmallKernel.defs (F := Bits)) (onTc (τ := Cert.AdamSmallKernel.τ) (Cert.AdamSmallKernel.main (F := Bits))) ⟨m, fun _ => 0, g⟩ (fun r => (∀ c : Dev Cert.AdamSmallKernel.nD,
      r.2.mem ((c.tc : Thread Cert.AdamSmallKernel.nD Cert.AdamSmallKernel.τ).loc Cert.AdamSmallKernel.main_arg0) = m ((c.tc : Thread Cert.AdamSmallKernel.nD Cert.AdamSmallKernel.τ).loc Cert.AdamSmallKernel.main_arg0)
      ∧ r.2.mem ((c.tc : Thread Cert.AdamSmallKernel.nD Cert.AdamSmallKernel.τ).loc Cert.AdamSmallKernel.main_arg1) = m ((c.tc : Thread Cert.AdamSmallKernel.nD Cert.AdamSmallKernel.τ).loc Cert.AdamSmallKernel.main_arg1)
      ∧ r.2.mem ((c.tc : Thread Cert.AdamSmallKernel.nD Cert.AdamSmallKernel.τ).loc Cert.AdamSmallKernel.main_arg2) = m ((c.tc : Thread Cert.AdamSmallKernel.nD Cert.AdamSmallKernel.τ).loc Cert.AdamSmallKernel.main_arg2)
      ∧ r.2.mem ((c.tc : Thread Cert.AdamSmallKernel.nD Cert.AdamSmallKernel.τ).loc Cert.AdamSmallKernel.main_arg3) = m ((c.tc : Thread Cert.AdamSmallKernel.nD Cert.AdamSmallKernel.τ).loc Cert.AdamSmallKernel.main_arg3))
      ∧ r.2.sem = fun _ => 0)

def quiescent_AdamSmallKernelIdeal [hAdamSmallKernelIdeal : Cert.AdamSmallKernelIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg), Pre_AdamSmallKernelIdeal m →
    θ_run (Cert.AdamSmallKernelIdeal.defs (F := Ideal)) (onTc (τ := Cert.AdamSmallKernelIdeal.τ) (Cert.AdamSmallKernelIdeal.main (F := Ideal))) ⟨m, fun _ => 0, g⟩ (fun r => (∀ c : Dev Cert.AdamSmallKernelIdeal.nD,
      r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
      ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
      ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
      ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_SumFfnKernel [hSumFfnKernel : Cert.SumFfnKernel.Facts] : Prop :=
  ∀ (m : (ℓ : Loc Cert.SumFfnKernel.nD Cert.SumFfnKernel.τ Cert.SumFfnKernel.sig) → Buf (Elt Bits) ℓ) (g : Dev Cert.SumFfnKernel.nD → PrngReg), Pre_SumFfnKernel m →
    θ_run (Cert.SumFfnKernel.defs (F := Bits)) (onTc (τ := Cert.SumFfnKernel.τ) (Cert.SumFfnKernel.main (F := Bits))) ⟨m, fun _ => 0, g⟩ (fun r => (∀ c : Dev Cert.SumFfnKernel.nD,
      r.2.mem ((c.tc : Thread Cert.SumFfnKernel.nD Cert.SumFfnKernel.τ).loc Cert.SumFfnKernel.main_arg0) = m ((c.tc : Thread Cert.SumFfnKernel.nD Cert.SumFfnKernel.τ).loc Cert.SumFfnKernel.main_arg0))
      ∧ r.2.sem = fun _ => 0)

def quiescent_SumFfnKernelIdeal [hSumFfnKernelIdeal : Cert.SumFfnKernelIdeal.Facts] : Prop :=
  ∀ (m : (ℓ : Loc Cert.SumFfnKernelIdeal.nD Cert.SumFfnKernelIdeal.τ Cert.SumFfnKernelIdeal.sig) → Buf (Elt Ideal) ℓ) (g : Dev Cert.SumFfnKernelIdeal.nD → PrngReg), Pre_SumFfnKernelIdeal m →
    θ_run (Cert.SumFfnKernelIdeal.defs (F := Ideal)) (onTc (τ := Cert.SumFfnKernelIdeal.τ) (Cert.SumFfnKernelIdeal.main (F := Ideal))) ⟨m, fun _ => 0, g⟩ (fun r => (∀ c : Dev Cert.SumFfnKernelIdeal.nD,
      r.2.mem ((c.tc : Thread Cert.SumFfnKernelIdeal.nD Cert.SumFfnKernelIdeal.τ).loc Cert.SumFfnKernelIdeal.main_arg0) = m ((c.tc : Thread Cert.SumFfnKernelIdeal.nD Cert.SumFfnKernelIdeal.τ).loc Cert.SumFfnKernelIdeal.main_arg0))
      ∧ r.2.sem = fun _ => 0)

def quiescent_SumFfnReferenceIdeal [hSumFfnReferenceIdeal : Cert.SumFfnReferenceIdeal.Facts] : Prop :=
  ∀ (m : (ℓ : Loc Cert.SumFfnReferenceIdeal.nD Cert.SumFfnReferenceIdeal.τ Cert.SumFfnReferenceIdeal.sig) → Buf (Elt Ideal) ℓ) (g : Dev Cert.SumFfnReferenceIdeal.nD → PrngReg), Pre_SumFfnReferenceIdeal m →
    θ_run (Cert.SumFfnReferenceIdeal.defs (F := Ideal)) (onTc (τ := Cert.SumFfnReferenceIdeal.τ) (Cert.SumFfnReferenceIdeal.main (F := Ideal))) ⟨m, fun _ => 0, g⟩ (fun r => (∀ c : Dev Cert.SumFfnReferenceIdeal.nD,
      r.2.mem ((c.tc : Thread Cert.SumFfnReferenceIdeal.nD Cert.SumFfnReferenceIdeal.τ).loc Cert.SumFfnReferenceIdeal.main_arg0) = m ((c.tc : Thread Cert.SumFfnReferenceIdeal.nD Cert.SumFfnReferenceIdeal.τ).loc Cert.SumFfnReferenceIdeal.main_arg0))
      ∧ r.2.sem = fun _ => 0)

def quiescent_SumInKernel [hSumInKernel : Cert.SumInKernel.Facts] : Prop :=
  ∀ (m : (ℓ : Loc Cert.SumInKernel.nD Cert.SumInKernel.τ Cert.SumInKernel.sig) → Buf (Elt Bits) ℓ) (g : Dev Cert.SumInKernel.nD → PrngReg), Pre_SumInKernel m →
    θ_run (Cert.SumInKernel.defs (F := Bits)) (onTc (τ := Cert.SumInKernel.τ) (Cert.SumInKernel.main (F := Bits))) ⟨m, fun _ => 0, g⟩ (fun r => (∀ c : Dev Cert.SumInKernel.nD,
      r.2.mem ((c.tc : Thread Cert.SumInKernel.nD Cert.SumInKernel.τ).loc Cert.SumInKernel.main_arg0) = m ((c.tc : Thread Cert.SumInKernel.nD Cert.SumInKernel.τ).loc Cert.SumInKernel.main_arg0))
      ∧ r.2.sem = fun _ => 0)

def quiescent_SumInKernelIdeal [hSumInKernelIdeal : Cert.SumInKernelIdeal.Facts] : Prop :=
  ∀ (m : (ℓ : Loc Cert.SumInKernelIdeal.nD Cert.SumInKernelIdeal.τ Cert.SumInKernelIdeal.sig) → Buf (Elt Ideal) ℓ) (g : Dev Cert.SumInKernelIdeal.nD → PrngReg), Pre_SumInKernelIdeal m →
    θ_run (Cert.SumInKernelIdeal.defs (F := Ideal)) (onTc (τ := Cert.SumInKernelIdeal.τ) (Cert.SumInKernelIdeal.main (F := Ideal))) ⟨m, fun _ => 0, g⟩ (fun r => (∀ c : Dev Cert.SumInKernelIdeal.nD,
      r.2.mem ((c.tc : Thread Cert.SumInKernelIdeal.nD Cert.SumInKernelIdeal.τ).loc Cert.SumInKernelIdeal.main_arg0) = m ((c.tc : Thread Cert.SumInKernelIdeal.nD Cert.SumInKernelIdeal.τ).loc Cert.SumInKernelIdeal.main_arg0))
      ∧ r.2.sem = fun _ => 0)

def quiescent_SumInReferenceIdeal [hSumInReferenceIdeal : Cert.SumInReferenceIdeal.Facts] : Prop :=
  ∀ (m : (ℓ : Loc Cert.SumInReferenceIdeal.nD Cert.SumInReferenceIdeal.τ Cert.SumInReferenceIdeal.sig) → Buf (Elt Ideal) ℓ) (g : Dev Cert.SumInReferenceIdeal.nD → PrngReg), Pre_SumInReferenceIdeal m →
    θ_run (Cert.SumInReferenceIdeal.defs (F := Ideal)) (onTc (τ := Cert.SumInReferenceIdeal.τ) (Cert.SumInReferenceIdeal.main (F := Ideal))) ⟨m, fun _ => 0, g⟩ (fun r => (∀ c : Dev Cert.SumInReferenceIdeal.nD,
      r.2.mem ((c.tc : Thread Cert.SumInReferenceIdeal.nD Cert.SumInReferenceIdeal.τ).loc Cert.SumInReferenceIdeal.main_arg0) = m ((c.tc : Thread Cert.SumInReferenceIdeal.nD Cert.SumInReferenceIdeal.τ).loc Cert.SumInReferenceIdeal.main_arg0))
      ∧ r.2.sem = fun _ => 0)

def quiescent_SumUqKernel [hSumUqKernel : Cert.SumUqKernel.Facts] : Prop :=
  ∀ (m : (ℓ : Loc Cert.SumUqKernel.nD Cert.SumUqKernel.τ Cert.SumUqKernel.sig) → Buf (Elt Bits) ℓ) (g : Dev Cert.SumUqKernel.nD → PrngReg), Pre_SumUqKernel m →
    θ_run (Cert.SumUqKernel.defs (F := Bits)) (onTc (τ := Cert.SumUqKernel.τ) (Cert.SumUqKernel.main (F := Bits))) ⟨m, fun _ => 0, g⟩ (fun r => (∀ c : Dev Cert.SumUqKernel.nD,
      r.2.mem ((c.tc : Thread Cert.SumUqKernel.nD Cert.SumUqKernel.τ).loc Cert.SumUqKernel.main_arg0) = m ((c.tc : Thread Cert.SumUqKernel.nD Cert.SumUqKernel.τ).loc Cert.SumUqKernel.main_arg0))
      ∧ r.2.sem = fun _ => 0)

def quiescent_SumUqKernelIdeal [hSumUqKernelIdeal : Cert.SumUqKernelIdeal.Facts] : Prop :=
  ∀ (m : (ℓ : Loc Cert.SumUqKernelIdeal.nD Cert.SumUqKernelIdeal.τ Cert.SumUqKernelIdeal.sig) → Buf (Elt Ideal) ℓ) (g : Dev Cert.SumUqKernelIdeal.nD → PrngReg), Pre_SumUqKernelIdeal m →
    θ_run (Cert.SumUqKernelIdeal.defs (F := Ideal)) (onTc (τ := Cert.SumUqKernelIdeal.τ) (Cert.SumUqKernelIdeal.main (F := Ideal))) ⟨m, fun _ => 0, g⟩ (fun r => (∀ c : Dev Cert.SumUqKernelIdeal.nD,
      r.2.mem ((c.tc : Thread Cert.SumUqKernelIdeal.nD Cert.SumUqKernelIdeal.τ).loc Cert.SumUqKernelIdeal.main_arg0) = m ((c.tc : Thread Cert.SumUqKernelIdeal.nD Cert.SumUqKernelIdeal.τ).loc Cert.SumUqKernelIdeal.main_arg0))
      ∧ r.2.sem = fun _ => 0)

def quiescent_SumUqReferenceIdeal [hSumUqReferenceIdeal : Cert.SumUqReferenceIdeal.Facts] : Prop :=
  ∀ (m : (ℓ : Loc Cert.SumUqReferenceIdeal.nD Cert.SumUqReferenceIdeal.τ Cert.SumUqReferenceIdeal.sig) → Buf (Elt Ideal) ℓ) (g : Dev Cert.SumUqReferenceIdeal.nD → PrngReg), Pre_SumUqReferenceIdeal m →
    θ_run (Cert.SumUqReferenceIdeal.defs (F := Ideal)) (onTc (τ := Cert.SumUqReferenceIdeal.τ) (Cert.SumUqReferenceIdeal.main (F := Ideal))) ⟨m, fun _ => 0, g⟩ (fun r => (∀ c : Dev Cert.SumUqReferenceIdeal.nD,
      r.2.mem ((c.tc : Thread Cert.SumUqReferenceIdeal.nD Cert.SumUqReferenceIdeal.τ).loc Cert.SumUqReferenceIdeal.main_arg0) = m ((c.tc : Thread Cert.SumUqReferenceIdeal.nD Cert.SumUqReferenceIdeal.τ).loc Cert.SumUqReferenceIdeal.main_arg0))
      ∧ r.2.sem = fun _ => 0)

def quiescent_SumUkvKernel [hSumUkvKernel : Cert.SumUkvKernel.Facts] : Prop :=
  ∀ (m : (ℓ : Loc Cert.SumUkvKernel.nD Cert.SumUkvKernel.τ Cert.SumUkvKernel.sig) → Buf (Elt Bits) ℓ) (g : Dev Cert.SumUkvKernel.nD → PrngReg), Pre_SumUkvKernel m →
    θ_run (Cert.SumUkvKernel.defs (F := Bits)) (onTc (τ := Cert.SumUkvKernel.τ) (Cert.SumUkvKernel.main (F := Bits))) ⟨m, fun _ => 0, g⟩ (fun r => (∀ c : Dev Cert.SumUkvKernel.nD,
      r.2.mem ((c.tc : Thread Cert.SumUkvKernel.nD Cert.SumUkvKernel.τ).loc Cert.SumUkvKernel.main_arg0) = m ((c.tc : Thread Cert.SumUkvKernel.nD Cert.SumUkvKernel.τ).loc Cert.SumUkvKernel.main_arg0))
      ∧ r.2.sem = fun _ => 0)

def quiescent_SumUkvKernelIdeal [hSumUkvKernelIdeal : Cert.SumUkvKernelIdeal.Facts] : Prop :=
  ∀ (m : (ℓ : Loc Cert.SumUkvKernelIdeal.nD Cert.SumUkvKernelIdeal.τ Cert.SumUkvKernelIdeal.sig) → Buf (Elt Ideal) ℓ) (g : Dev Cert.SumUkvKernelIdeal.nD → PrngReg), Pre_SumUkvKernelIdeal m →
    θ_run (Cert.SumUkvKernelIdeal.defs (F := Ideal)) (onTc (τ := Cert.SumUkvKernelIdeal.τ) (Cert.SumUkvKernelIdeal.main (F := Ideal))) ⟨m, fun _ => 0, g⟩ (fun r => (∀ c : Dev Cert.SumUkvKernelIdeal.nD,
      r.2.mem ((c.tc : Thread Cert.SumUkvKernelIdeal.nD Cert.SumUkvKernelIdeal.τ).loc Cert.SumUkvKernelIdeal.main_arg0) = m ((c.tc : Thread Cert.SumUkvKernelIdeal.nD Cert.SumUkvKernelIdeal.τ).loc Cert.SumUkvKernelIdeal.main_arg0))
      ∧ r.2.sem = fun _ => 0)

def quiescent_SumUkvReferenceIdeal [hSumUkvReferenceIdeal : Cert.SumUkvReferenceIdeal.Facts] : Prop :=
  ∀ (m : (ℓ : Loc Cert.SumUkvReferenceIdeal.nD Cert.SumUkvReferenceIdeal.τ Cert.SumUkvReferenceIdeal.sig) → Buf (Elt Ideal) ℓ) (g : Dev Cert.SumUkvReferenceIdeal.nD → PrngReg), Pre_SumUkvReferenceIdeal m →
    θ_run (Cert.SumUkvReferenceIdeal.defs (F := Ideal)) (onTc (τ := Cert.SumUkvReferenceIdeal.τ) (Cert.SumUkvReferenceIdeal.main (F := Ideal))) ⟨m, fun _ => 0, g⟩ (fun r => (∀ c : Dev Cert.SumUkvReferenceIdeal.nD,
      r.2.mem ((c.tc : Thread Cert.SumUkvReferenceIdeal.nD Cert.SumUkvReferenceIdeal.τ).loc Cert.SumUkvReferenceIdeal.main_arg0) = m ((c.tc : Thread Cert.SumUkvReferenceIdeal.nD Cert.SumUkvReferenceIdeal.τ).loc Cert.SumUkvReferenceIdeal.main_arg0))
      ∧ r.2.sem = fun _ => 0)

def quiescent_SumOutKernel [hSumOutKernel : Cert.SumOutKernel.Facts] : Prop :=
  ∀ (m : (ℓ : Loc Cert.SumOutKernel.nD Cert.SumOutKernel.τ Cert.SumOutKernel.sig) → Buf (Elt Bits) ℓ) (g : Dev Cert.SumOutKernel.nD → PrngReg), Pre_SumOutKernel m →
    θ_run (Cert.SumOutKernel.defs (F := Bits)) (onTc (τ := Cert.SumOutKernel.τ) (Cert.SumOutKernel.main (F := Bits))) ⟨m, fun _ => 0, g⟩ (fun r => (∀ c : Dev Cert.SumOutKernel.nD,
      r.2.mem ((c.tc : Thread Cert.SumOutKernel.nD Cert.SumOutKernel.τ).loc Cert.SumOutKernel.main_arg0) = m ((c.tc : Thread Cert.SumOutKernel.nD Cert.SumOutKernel.τ).loc Cert.SumOutKernel.main_arg0))
      ∧ r.2.sem = fun _ => 0)

def quiescent_SumOutKernelIdeal [hSumOutKernelIdeal : Cert.SumOutKernelIdeal.Facts] : Prop :=
  ∀ (m : (ℓ : Loc Cert.SumOutKernelIdeal.nD Cert.SumOutKernelIdeal.τ Cert.SumOutKernelIdeal.sig) → Buf (Elt Ideal) ℓ) (g : Dev Cert.SumOutKernelIdeal.nD → PrngReg), Pre_SumOutKernelIdeal m →
    θ_run (Cert.SumOutKernelIdeal.defs (F := Ideal)) (onTc (τ := Cert.SumOutKernelIdeal.τ) (Cert.SumOutKernelIdeal.main (F := Ideal))) ⟨m, fun _ => 0, g⟩ (fun r => (∀ c : Dev Cert.SumOutKernelIdeal.nD,
      r.2.mem ((c.tc : Thread Cert.SumOutKernelIdeal.nD Cert.SumOutKernelIdeal.τ).loc Cert.SumOutKernelIdeal.main_arg0) = m ((c.tc : Thread Cert.SumOutKernelIdeal.nD Cert.SumOutKernelIdeal.τ).loc Cert.SumOutKernelIdeal.main_arg0))
      ∧ r.2.sem = fun _ => 0)

def quiescent_SumOutReferenceIdeal [hSumOutReferenceIdeal : Cert.SumOutReferenceIdeal.Facts] : Prop :=
  ∀ (m : (ℓ : Loc Cert.SumOutReferenceIdeal.nD Cert.SumOutReferenceIdeal.τ Cert.SumOutReferenceIdeal.sig) → Buf (Elt Ideal) ℓ) (g : Dev Cert.SumOutReferenceIdeal.nD → PrngReg), Pre_SumOutReferenceIdeal m →
    θ_run (Cert.SumOutReferenceIdeal.defs (F := Ideal)) (onTc (τ := Cert.SumOutReferenceIdeal.τ) (Cert.SumOutReferenceIdeal.main (F := Ideal))) ⟨m, fun _ => 0, g⟩ (fun r => (∀ c : Dev Cert.SumOutReferenceIdeal.nD,
      r.2.mem ((c.tc : Thread Cert.SumOutReferenceIdeal.nD Cert.SumOutReferenceIdeal.τ).loc Cert.SumOutReferenceIdeal.main_arg0) = m ((c.tc : Thread Cert.SumOutReferenceIdeal.nD Cert.SumOutReferenceIdeal.τ).loc Cert.SumOutReferenceIdeal.main_arg0))
      ∧ r.2.sem = fun _ => 0)

def quiescent_SumSmallKernel [hSumSmallKernel : Cert.SumSmallKernel.Facts] : Prop :=
  ∀ (m : (ℓ : Loc Cert.SumSmallKernel.nD Cert.SumSmallKernel.τ Cert.SumSmallKernel.sig) → Buf (Elt Bits) ℓ) (g : Dev Cert.SumSmallKernel.nD → PrngReg), Pre_SumSmallKernel m →
    θ_run (Cert.SumSmallKernel.defs (F := Bits)) (onTc (τ := Cert.SumSmallKernel.τ) (Cert.SumSmallKernel.main (F := Bits))) ⟨m, fun _ => 0, g⟩ (fun r => (∀ c : Dev Cert.SumSmallKernel.nD,
      r.2.mem ((c.tc : Thread Cert.SumSmallKernel.nD Cert.SumSmallKernel.τ).loc Cert.SumSmallKernel.main_arg0) = m ((c.tc : Thread Cert.SumSmallKernel.nD Cert.SumSmallKernel.τ).loc Cert.SumSmallKernel.main_arg0))
      ∧ r.2.sem = fun _ => 0)

def quiescent_SumSmallKernelIdeal [hSumSmallKernelIdeal : Cert.SumSmallKernelIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg), Pre_SumSmallKernelIdeal m →
    θ_run (Cert.SumSmallKernelIdeal.defs (F := Ideal)) (onTc (τ := Cert.SumSmallKernelIdeal.τ) (Cert.SumSmallKernelIdeal.main (F := Ideal))) ⟨m, fun _ => 0, g⟩ (fun r => (∀ c : Dev Cert.SumSmallKernelIdeal.nD,
      r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_UqKernel [hUqKernel : Cert.UqKernel.Facts] : Prop :=
  ∀ (m : (ℓ : Loc Cert.UqKernel.nD Cert.UqKernel.τ Cert.UqKernel.sig) → Buf (Elt Bits) ℓ) (g : Dev Cert.UqKernel.nD → PrngReg), Pre_UqKernel m →
    θ_run (Cert.UqKernel.defs (F := Bits)) (onTc (τ := Cert.UqKernel.τ) (Cert.UqKernel.main (F := Bits))) ⟨m, fun _ => 0, g⟩ (fun r => (∀ c : Dev Cert.UqKernel.nD,
      r.2.mem ((c.tc : Thread Cert.UqKernel.nD Cert.UqKernel.τ).loc Cert.UqKernel.main_arg0) = m ((c.tc : Thread Cert.UqKernel.nD Cert.UqKernel.τ).loc Cert.UqKernel.main_arg0)
      ∧ r.2.mem ((c.tc : Thread Cert.UqKernel.nD Cert.UqKernel.τ).loc Cert.UqKernel.main_arg1) = m ((c.tc : Thread Cert.UqKernel.nD Cert.UqKernel.τ).loc Cert.UqKernel.main_arg1))
      ∧ r.2.sem = fun _ => 0)

def quiescent_UqKernelIdeal [hUqKernelIdeal : Cert.UqKernelIdeal.Facts] : Prop :=
  ∀ (m : (ℓ : Loc Cert.UqKernelIdeal.nD Cert.UqKernelIdeal.τ Cert.UqKernelIdeal.sig) → Buf (Elt Ideal) ℓ) (g : Dev Cert.UqKernelIdeal.nD → PrngReg), Pre_UqKernelIdeal m →
    θ_run (Cert.UqKernelIdeal.defs (F := Ideal)) (onTc (τ := Cert.UqKernelIdeal.τ) (Cert.UqKernelIdeal.main (F := Ideal))) ⟨m, fun _ => 0, g⟩ (fun r => (∀ c : Dev Cert.UqKernelIdeal.nD,
      r.2.mem ((c.tc : Thread Cert.UqKernelIdeal.nD Cert.UqKernelIdeal.τ).loc Cert.UqKernelIdeal.main_arg0) = m ((c.tc : Thread Cert.UqKernelIdeal.nD Cert.UqKernelIdeal.τ).loc Cert.UqKernelIdeal.main_arg0)
      ∧ r.2.mem ((c.tc : Thread Cert.UqKernelIdeal.nD Cert.UqKernelIdeal.τ).loc Cert.UqKernelIdeal.main_arg1) = m ((c.tc : Thread Cert.UqKernelIdeal.nD Cert.UqKernelIdeal.τ).loc Cert.UqKernelIdeal.main_arg1))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_UqDwKernel [hUqDwKernel : Cert.UqDwKernel.Facts] : Prop :=
  ∀ (m : (ℓ : Loc Cert.UqDwKernel.nD Cert.UqDwKernel.τ Cert.UqDwKernel.sig) → Buf (Elt Bits) ℓ) (g : Dev Cert.UqDwKernel.nD → PrngReg), Pre_UqDwKernel m →
    θ_run (Cert.UqDwKernel.defs (F := Bits)) (onTc (τ := Cert.UqDwKernel.τ) (Cert.UqDwKernel.main (F := Bits))) ⟨m, fun _ => 0, g⟩ (fun r => (∀ c : Dev Cert.UqDwKernel.nD,
      r.2.mem ((c.tc : Thread Cert.UqDwKernel.nD Cert.UqDwKernel.τ).loc Cert.UqDwKernel.main_arg0) = m ((c.tc : Thread Cert.UqDwKernel.nD Cert.UqDwKernel.τ).loc Cert.UqDwKernel.main_arg0)
      ∧ r.2.mem ((c.tc : Thread Cert.UqDwKernel.nD Cert.UqDwKernel.τ).loc Cert.UqDwKernel.main_arg1) = m ((c.tc : Thread Cert.UqDwKernel.nD Cert.UqDwKernel.τ).loc Cert.UqDwKernel.main_arg1))
      ∧ r.2.sem = fun _ => 0)

def quiescent_UqDwKernelIdeal [hUqDwKernelIdeal : Cert.UqDwKernelIdeal.Facts] : Prop :=
  ∀ (m : (ℓ : Loc Cert.UqDwKernelIdeal.nD Cert.UqDwKernelIdeal.τ Cert.UqDwKernelIdeal.sig) → Buf (Elt Ideal) ℓ) (g : Dev Cert.UqDwKernelIdeal.nD → PrngReg), Pre_UqDwKernelIdeal m →
    θ_run (Cert.UqDwKernelIdeal.defs (F := Ideal)) (onTc (τ := Cert.UqDwKernelIdeal.τ) (Cert.UqDwKernelIdeal.main (F := Ideal))) ⟨m, fun _ => 0, g⟩ (fun r => (∀ c : Dev Cert.UqDwKernelIdeal.nD,
      r.2.mem ((c.tc : Thread Cert.UqDwKernelIdeal.nD Cert.UqDwKernelIdeal.τ).loc Cert.UqDwKernelIdeal.main_arg0) = m ((c.tc : Thread Cert.UqDwKernelIdeal.nD Cert.UqDwKernelIdeal.τ).loc Cert.UqDwKernelIdeal.main_arg0)
      ∧ r.2.mem ((c.tc : Thread Cert.UqDwKernelIdeal.nD Cert.UqDwKernelIdeal.τ).loc Cert.UqDwKernelIdeal.main_arg1) = m ((c.tc : Thread Cert.UqDwKernelIdeal.nD Cert.UqDwKernelIdeal.τ).loc Cert.UqDwKernelIdeal.main_arg1))
      ∧ r.2.sem = fun _ => 0)

def quiescent_UqDwReferenceIdeal [hUqDwReferenceIdeal : Cert.UqDwReferenceIdeal.Facts] : Prop :=
  ∀ (m : (ℓ : Loc Cert.UqDwReferenceIdeal.nD Cert.UqDwReferenceIdeal.τ Cert.UqDwReferenceIdeal.sig) → Buf (Elt Ideal) ℓ) (g : Dev Cert.UqDwReferenceIdeal.nD → PrngReg), Pre_UqDwReferenceIdeal m →
    θ_run (Cert.UqDwReferenceIdeal.defs (F := Ideal)) (onTc (τ := Cert.UqDwReferenceIdeal.τ) (Cert.UqDwReferenceIdeal.main (F := Ideal))) ⟨m, fun _ => 0, g⟩ (fun r => (∀ c : Dev Cert.UqDwReferenceIdeal.nD,
      r.2.mem ((c.tc : Thread Cert.UqDwReferenceIdeal.nD Cert.UqDwReferenceIdeal.τ).loc Cert.UqDwReferenceIdeal.main_arg0) = m ((c.tc : Thread Cert.UqDwReferenceIdeal.nD Cert.UqDwReferenceIdeal.τ).loc Cert.UqDwReferenceIdeal.main_arg0)
      ∧ r.2.mem ((c.tc : Thread Cert.UqDwReferenceIdeal.nD Cert.UqDwReferenceIdeal.τ).loc Cert.UqDwReferenceIdeal.main_arg1) = m ((c.tc : Thread Cert.UqDwReferenceIdeal.nD Cert.UqDwReferenceIdeal.τ).loc Cert.UqDwReferenceIdeal.main_arg1))
      ∧ r.2.sem = fun _ => 0)

def quiescent_UqDxKernel [hUqDxKernel : Cert.UqDxKernel.Facts] : Prop :=
  ∀ (m : (ℓ : Loc Cert.UqDxKernel.nD Cert.UqDxKernel.τ Cert.UqDxKernel.sig) → Buf (Elt Bits) ℓ) (g : Dev Cert.UqDxKernel.nD → PrngReg), Pre_UqDxKernel m →
    θ_run (Cert.UqDxKernel.defs (F := Bits)) (onTc (τ := Cert.UqDxKernel.τ) (Cert.UqDxKernel.main (F := Bits))) ⟨m, fun _ => 0, g⟩ (fun r => (∀ c : Dev Cert.UqDxKernel.nD,
      r.2.mem ((c.tc : Thread Cert.UqDxKernel.nD Cert.UqDxKernel.τ).loc Cert.UqDxKernel.main_arg0) = m ((c.tc : Thread Cert.UqDxKernel.nD Cert.UqDxKernel.τ).loc Cert.UqDxKernel.main_arg0)
      ∧ r.2.mem ((c.tc : Thread Cert.UqDxKernel.nD Cert.UqDxKernel.τ).loc Cert.UqDxKernel.main_arg1) = m ((c.tc : Thread Cert.UqDxKernel.nD Cert.UqDxKernel.τ).loc Cert.UqDxKernel.main_arg1))
      ∧ r.2.sem = fun _ => 0)

def quiescent_UqDxKernelIdeal [hUqDxKernelIdeal : Cert.UqDxKernelIdeal.Facts] : Prop :=
  ∀ (m : (ℓ : Loc Cert.UqDxKernelIdeal.nD Cert.UqDxKernelIdeal.τ Cert.UqDxKernelIdeal.sig) → Buf (Elt Ideal) ℓ) (g : Dev Cert.UqDxKernelIdeal.nD → PrngReg), Pre_UqDxKernelIdeal m →
    θ_run (Cert.UqDxKernelIdeal.defs (F := Ideal)) (onTc (τ := Cert.UqDxKernelIdeal.τ) (Cert.UqDxKernelIdeal.main (F := Ideal))) ⟨m, fun _ => 0, g⟩ (fun r => (∀ c : Dev Cert.UqDxKernelIdeal.nD,
      r.2.mem ((c.tc : Thread Cert.UqDxKernelIdeal.nD Cert.UqDxKernelIdeal.τ).loc Cert.UqDxKernelIdeal.main_arg0) = m ((c.tc : Thread Cert.UqDxKernelIdeal.nD Cert.UqDxKernelIdeal.τ).loc Cert.UqDxKernelIdeal.main_arg0)
      ∧ r.2.mem ((c.tc : Thread Cert.UqDxKernelIdeal.nD Cert.UqDxKernelIdeal.τ).loc Cert.UqDxKernelIdeal.main_arg1) = m ((c.tc : Thread Cert.UqDxKernelIdeal.nD Cert.UqDxKernelIdeal.τ).loc Cert.UqDxKernelIdeal.main_arg1))
      ∧ r.2.sem = fun _ => 0)

def quiescent_UqDxReferenceIdeal [hUqDxReferenceIdeal : Cert.UqDxReferenceIdeal.Facts] : Prop :=
  ∀ (m : (ℓ : Loc Cert.UqDxReferenceIdeal.nD Cert.UqDxReferenceIdeal.τ Cert.UqDxReferenceIdeal.sig) → Buf (Elt Ideal) ℓ) (g : Dev Cert.UqDxReferenceIdeal.nD → PrngReg), Pre_UqDxReferenceIdeal m →
    θ_run (Cert.UqDxReferenceIdeal.defs (F := Ideal)) (onTc (τ := Cert.UqDxReferenceIdeal.τ) (Cert.UqDxReferenceIdeal.main (F := Ideal))) ⟨m, fun _ => 0, g⟩ (fun r => (∀ c : Dev Cert.UqDxReferenceIdeal.nD,
      r.2.mem ((c.tc : Thread Cert.UqDxReferenceIdeal.nD Cert.UqDxReferenceIdeal.τ).loc Cert.UqDxReferenceIdeal.main_arg0) = m ((c.tc : Thread Cert.UqDxReferenceIdeal.nD Cert.UqDxReferenceIdeal.τ).loc Cert.UqDxReferenceIdeal.main_arg0)
      ∧ r.2.mem ((c.tc : Thread Cert.UqDxReferenceIdeal.nD Cert.UqDxReferenceIdeal.τ).loc Cert.UqDxReferenceIdeal.main_arg1) = m ((c.tc : Thread Cert.UqDxReferenceIdeal.nD Cert.UqDxReferenceIdeal.τ).loc Cert.UqDxReferenceIdeal.main_arg1))
      ∧ r.2.sem = fun _ => 0)

def quiescent_UkvKernel [hUkvKernel : Cert.UkvKernel.Facts] : Prop :=
  ∀ (m : (ℓ : Loc Cert.UkvKernel.nD Cert.UkvKernel.τ Cert.UkvKernel.sig) → Buf (Elt Bits) ℓ) (g : Dev Cert.UkvKernel.nD → PrngReg), Pre_UkvKernel m →
    θ_run (Cert.UkvKernel.defs (F := Bits)) (onTc (τ := Cert.UkvKernel.τ) (Cert.UkvKernel.main (F := Bits))) ⟨m, fun _ => 0, g⟩ (fun r => (∀ c : Dev Cert.UkvKernel.nD,
      r.2.mem ((c.tc : Thread Cert.UkvKernel.nD Cert.UkvKernel.τ).loc Cert.UkvKernel.main_arg0) = m ((c.tc : Thread Cert.UkvKernel.nD Cert.UkvKernel.τ).loc Cert.UkvKernel.main_arg0)
      ∧ r.2.mem ((c.tc : Thread Cert.UkvKernel.nD Cert.UkvKernel.τ).loc Cert.UkvKernel.main_arg1) = m ((c.tc : Thread Cert.UkvKernel.nD Cert.UkvKernel.τ).loc Cert.UkvKernel.main_arg1))
      ∧ r.2.sem = fun _ => 0)

def quiescent_UkvKernelIdeal [hUkvKernelIdeal : Cert.UkvKernelIdeal.Facts] : Prop :=
  ∀ (m : (ℓ : Loc Cert.UkvKernelIdeal.nD Cert.UkvKernelIdeal.τ Cert.UkvKernelIdeal.sig) → Buf (Elt Ideal) ℓ) (g : Dev Cert.UkvKernelIdeal.nD → PrngReg), Pre_UkvKernelIdeal m →
    θ_run (Cert.UkvKernelIdeal.defs (F := Ideal)) (onTc (τ := Cert.UkvKernelIdeal.τ) (Cert.UkvKernelIdeal.main (F := Ideal))) ⟨m, fun _ => 0, g⟩ (fun r => (∀ c : Dev Cert.UkvKernelIdeal.nD,
      r.2.mem ((c.tc : Thread Cert.UkvKernelIdeal.nD Cert.UkvKernelIdeal.τ).loc Cert.UkvKernelIdeal.main_arg0) = m ((c.tc : Thread Cert.UkvKernelIdeal.nD Cert.UkvKernelIdeal.τ).loc Cert.UkvKernelIdeal.main_arg0)
      ∧ r.2.mem ((c.tc : Thread Cert.UkvKernelIdeal.nD Cert.UkvKernelIdeal.τ).loc Cert.UkvKernelIdeal.main_arg1) = m ((c.tc : Thread Cert.UkvKernelIdeal.nD Cert.UkvKernelIdeal.τ).loc Cert.UkvKernelIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_UkvDwKernel [hUkvDwKernel : Cert.UkvDwKernel.Facts] : Prop :=
  ∀ (m : (ℓ : Loc Cert.UkvDwKernel.nD Cert.UkvDwKernel.τ Cert.UkvDwKernel.sig) → Buf (Elt Bits) ℓ) (g : Dev Cert.UkvDwKernel.nD → PrngReg), Pre_UkvDwKernel m →
    θ_run (Cert.UkvDwKernel.defs (F := Bits)) (onTc (τ := Cert.UkvDwKernel.τ) (Cert.UkvDwKernel.main (F := Bits))) ⟨m, fun _ => 0, g⟩ (fun r => (∀ c : Dev Cert.UkvDwKernel.nD,
      r.2.mem ((c.tc : Thread Cert.UkvDwKernel.nD Cert.UkvDwKernel.τ).loc Cert.UkvDwKernel.main_arg0) = m ((c.tc : Thread Cert.UkvDwKernel.nD Cert.UkvDwKernel.τ).loc Cert.UkvDwKernel.main_arg0)
      ∧ r.2.mem ((c.tc : Thread Cert.UkvDwKernel.nD Cert.UkvDwKernel.τ).loc Cert.UkvDwKernel.main_arg1) = m ((c.tc : Thread Cert.UkvDwKernel.nD Cert.UkvDwKernel.τ).loc Cert.UkvDwKernel.main_arg1))
      ∧ r.2.sem = fun _ => 0)

def quiescent_UkvDwKernelIdeal [hUkvDwKernelIdeal : Cert.UkvDwKernelIdeal.Facts] : Prop :=
  ∀ (m : (ℓ : Loc Cert.UkvDwKernelIdeal.nD Cert.UkvDwKernelIdeal.τ Cert.UkvDwKernelIdeal.sig) → Buf (Elt Ideal) ℓ) (g : Dev Cert.UkvDwKernelIdeal.nD → PrngReg), Pre_UkvDwKernelIdeal m →
    θ_run (Cert.UkvDwKernelIdeal.defs (F := Ideal)) (onTc (τ := Cert.UkvDwKernelIdeal.τ) (Cert.UkvDwKernelIdeal.main (F := Ideal))) ⟨m, fun _ => 0, g⟩ (fun r => (∀ c : Dev Cert.UkvDwKernelIdeal.nD,
      r.2.mem ((c.tc : Thread Cert.UkvDwKernelIdeal.nD Cert.UkvDwKernelIdeal.τ).loc Cert.UkvDwKernelIdeal.main_arg0) = m ((c.tc : Thread Cert.UkvDwKernelIdeal.nD Cert.UkvDwKernelIdeal.τ).loc Cert.UkvDwKernelIdeal.main_arg0)
      ∧ r.2.mem ((c.tc : Thread Cert.UkvDwKernelIdeal.nD Cert.UkvDwKernelIdeal.τ).loc Cert.UkvDwKernelIdeal.main_arg1) = m ((c.tc : Thread Cert.UkvDwKernelIdeal.nD Cert.UkvDwKernelIdeal.τ).loc Cert.UkvDwKernelIdeal.main_arg1))
      ∧ r.2.sem = fun _ => 0)

def quiescent_UkvDwReferenceIdeal [hUkvDwReferenceIdeal : Cert.UkvDwReferenceIdeal.Facts] : Prop :=
  ∀ (m : (ℓ : Loc Cert.UkvDwReferenceIdeal.nD Cert.UkvDwReferenceIdeal.τ Cert.UkvDwReferenceIdeal.sig) → Buf (Elt Ideal) ℓ) (g : Dev Cert.UkvDwReferenceIdeal.nD → PrngReg), Pre_UkvDwReferenceIdeal m →
    θ_run (Cert.UkvDwReferenceIdeal.defs (F := Ideal)) (onTc (τ := Cert.UkvDwReferenceIdeal.τ) (Cert.UkvDwReferenceIdeal.main (F := Ideal))) ⟨m, fun _ => 0, g⟩ (fun r => (∀ c : Dev Cert.UkvDwReferenceIdeal.nD,
      r.2.mem ((c.tc : Thread Cert.UkvDwReferenceIdeal.nD Cert.UkvDwReferenceIdeal.τ).loc Cert.UkvDwReferenceIdeal.main_arg0) = m ((c.tc : Thread Cert.UkvDwReferenceIdeal.nD Cert.UkvDwReferenceIdeal.τ).loc Cert.UkvDwReferenceIdeal.main_arg0)
      ∧ r.2.mem ((c.tc : Thread Cert.UkvDwReferenceIdeal.nD Cert.UkvDwReferenceIdeal.τ).loc Cert.UkvDwReferenceIdeal.main_arg1) = m ((c.tc : Thread Cert.UkvDwReferenceIdeal.nD Cert.UkvDwReferenceIdeal.τ).loc Cert.UkvDwReferenceIdeal.main_arg1))
      ∧ r.2.sem = fun _ => 0)

def quiescent_UkvDxKernel [hUkvDxKernel : Cert.UkvDxKernel.Facts] : Prop :=
  ∀ (m : (ℓ : Loc Cert.UkvDxKernel.nD Cert.UkvDxKernel.τ Cert.UkvDxKernel.sig) → Buf (Elt Bits) ℓ) (g : Dev Cert.UkvDxKernel.nD → PrngReg), Pre_UkvDxKernel m →
    θ_run (Cert.UkvDxKernel.defs (F := Bits)) (onTc (τ := Cert.UkvDxKernel.τ) (Cert.UkvDxKernel.main (F := Bits))) ⟨m, fun _ => 0, g⟩ (fun r => (∀ c : Dev Cert.UkvDxKernel.nD,
      r.2.mem ((c.tc : Thread Cert.UkvDxKernel.nD Cert.UkvDxKernel.τ).loc Cert.UkvDxKernel.main_arg0) = m ((c.tc : Thread Cert.UkvDxKernel.nD Cert.UkvDxKernel.τ).loc Cert.UkvDxKernel.main_arg0)
      ∧ r.2.mem ((c.tc : Thread Cert.UkvDxKernel.nD Cert.UkvDxKernel.τ).loc Cert.UkvDxKernel.main_arg1) = m ((c.tc : Thread Cert.UkvDxKernel.nD Cert.UkvDxKernel.τ).loc Cert.UkvDxKernel.main_arg1))
      ∧ r.2.sem = fun _ => 0)

def quiescent_UkvDxKernelIdeal [hUkvDxKernelIdeal : Cert.UkvDxKernelIdeal.Facts] : Prop :=
  ∀ (m : (ℓ : Loc Cert.UkvDxKernelIdeal.nD Cert.UkvDxKernelIdeal.τ Cert.UkvDxKernelIdeal.sig) → Buf (Elt Ideal) ℓ) (g : Dev Cert.UkvDxKernelIdeal.nD → PrngReg), Pre_UkvDxKernelIdeal m →
    θ_run (Cert.UkvDxKernelIdeal.defs (F := Ideal)) (onTc (τ := Cert.UkvDxKernelIdeal.τ) (Cert.UkvDxKernelIdeal.main (F := Ideal))) ⟨m, fun _ => 0, g⟩ (fun r => (∀ c : Dev Cert.UkvDxKernelIdeal.nD,
      r.2.mem ((c.tc : Thread Cert.UkvDxKernelIdeal.nD Cert.UkvDxKernelIdeal.τ).loc Cert.UkvDxKernelIdeal.main_arg0) = m ((c.tc : Thread Cert.UkvDxKernelIdeal.nD Cert.UkvDxKernelIdeal.τ).loc Cert.UkvDxKernelIdeal.main_arg0)
      ∧ r.2.mem ((c.tc : Thread Cert.UkvDxKernelIdeal.nD Cert.UkvDxKernelIdeal.τ).loc Cert.UkvDxKernelIdeal.main_arg1) = m ((c.tc : Thread Cert.UkvDxKernelIdeal.nD Cert.UkvDxKernelIdeal.τ).loc Cert.UkvDxKernelIdeal.main_arg1))
      ∧ r.2.sem = fun _ => 0)

def quiescent_UkvDxReferenceIdeal [hUkvDxReferenceIdeal : Cert.UkvDxReferenceIdeal.Facts] : Prop :=
  ∀ (m : (ℓ : Loc Cert.UkvDxReferenceIdeal.nD Cert.UkvDxReferenceIdeal.τ Cert.UkvDxReferenceIdeal.sig) → Buf (Elt Ideal) ℓ) (g : Dev Cert.UkvDxReferenceIdeal.nD → PrngReg), Pre_UkvDxReferenceIdeal m →
    θ_run (Cert.UkvDxReferenceIdeal.defs (F := Ideal)) (onTc (τ := Cert.UkvDxReferenceIdeal.τ) (Cert.UkvDxReferenceIdeal.main (F := Ideal))) ⟨m, fun _ => 0, g⟩ (fun r => (∀ c : Dev Cert.UkvDxReferenceIdeal.nD,
      r.2.mem ((c.tc : Thread Cert.UkvDxReferenceIdeal.nD Cert.UkvDxReferenceIdeal.τ).loc Cert.UkvDxReferenceIdeal.main_arg0) = m ((c.tc : Thread Cert.UkvDxReferenceIdeal.nD Cert.UkvDxReferenceIdeal.τ).loc Cert.UkvDxReferenceIdeal.main_arg0)
      ∧ r.2.mem ((c.tc : Thread Cert.UkvDxReferenceIdeal.nD Cert.UkvDxReferenceIdeal.τ).loc Cert.UkvDxReferenceIdeal.main_arg1) = m ((c.tc : Thread Cert.UkvDxReferenceIdeal.nD Cert.UkvDxReferenceIdeal.τ).loc Cert.UkvDxReferenceIdeal.main_arg1))
      ∧ r.2.sem = fun _ => 0)

def quiescent_FfnLnKernel [hFfnLnKernel : Cert.FfnLnKernel.Facts] : Prop :=
  ∀ (m : (ℓ : Loc Cert.FfnLnKernel.nD Cert.FfnLnKernel.τ Cert.FfnLnKernel.sig) → Buf (Elt Bits) ℓ) (g : Dev Cert.FfnLnKernel.nD → PrngReg), Pre_FfnLnKernel m →
    θ_run (Cert.FfnLnKernel.defs (F := Bits)) (onTc (τ := Cert.FfnLnKernel.τ) (Cert.FfnLnKernel.main (F := Bits))) ⟨m, fun _ => 0, g⟩ (fun r => (∀ c : Dev Cert.FfnLnKernel.nD,
      r.2.mem ((c.tc : Thread Cert.FfnLnKernel.nD Cert.FfnLnKernel.τ).loc Cert.FfnLnKernel.main_arg0) = m ((c.tc : Thread Cert.FfnLnKernel.nD Cert.FfnLnKernel.τ).loc Cert.FfnLnKernel.main_arg0)
      ∧ r.2.mem ((c.tc : Thread Cert.FfnLnKernel.nD Cert.FfnLnKernel.τ).loc Cert.FfnLnKernel.main_arg1) = m ((c.tc : Thread Cert.FfnLnKernel.nD Cert.FfnLnKernel.τ).loc Cert.FfnLnKernel.main_arg1)
      ∧ r.2.mem ((c.tc : Thread Cert.FfnLnKernel.nD Cert.FfnLnKernel.τ).loc Cert.FfnLnKernel.main_arg2) = m ((c.tc : Thread Cert.FfnLnKernel.nD Cert.FfnLnKernel.τ).loc Cert.FfnLnKernel.main_arg2)
      ∧ r.2.mem ((c.tc : Thread Cert.FfnLnKernel.nD Cert.FfnLnKernel.τ).loc Cert.FfnLnKernel.main_arg3) = m ((c.tc : Thread Cert.FfnLnKernel.nD Cert.FfnLnKernel.τ).loc Cert.FfnLnKernel.main_arg3))
      ∧ r.2.sem = fun _ => 0)

def quiescent_FfnLnKernelIdeal [hFfnLnKernelIdeal : Cert.FfnLnKernelIdeal.Facts] : Prop :=
  ∀ (m : (ℓ : Loc Cert.FfnLnKernelIdeal.nD Cert.FfnLnKernelIdeal.τ Cert.FfnLnKernelIdeal.sig) → Buf (Elt Ideal) ℓ) (g : Dev Cert.FfnLnKernelIdeal.nD → PrngReg), Pre_FfnLnKernelIdeal m →
    θ_run (Cert.FfnLnKernelIdeal.defs (F := Ideal)) (onTc (τ := Cert.FfnLnKernelIdeal.τ) (Cert.FfnLnKernelIdeal.main (F := Ideal))) ⟨m, fun _ => 0, g⟩ (fun r => (∀ c : Dev Cert.FfnLnKernelIdeal.nD,
      r.2.mem ((c.tc : Thread Cert.FfnLnKernelIdeal.nD Cert.FfnLnKernelIdeal.τ).loc Cert.FfnLnKernelIdeal.main_arg0) = m ((c.tc : Thread Cert.FfnLnKernelIdeal.nD Cert.FfnLnKernelIdeal.τ).loc Cert.FfnLnKernelIdeal.main_arg0)
      ∧ r.2.mem ((c.tc : Thread Cert.FfnLnKernelIdeal.nD Cert.FfnLnKernelIdeal.τ).loc Cert.FfnLnKernelIdeal.main_arg1) = m ((c.tc : Thread Cert.FfnLnKernelIdeal.nD Cert.FfnLnKernelIdeal.τ).loc Cert.FfnLnKernelIdeal.main_arg1)
      ∧ r.2.mem ((c.tc : Thread Cert.FfnLnKernelIdeal.nD Cert.FfnLnKernelIdeal.τ).loc Cert.FfnLnKernelIdeal.main_arg2) = m ((c.tc : Thread Cert.FfnLnKernelIdeal.nD Cert.FfnLnKernelIdeal.τ).loc Cert.FfnLnKernelIdeal.main_arg2)
      ∧ r.2.mem ((c.tc : Thread Cert.FfnLnKernelIdeal.nD Cert.FfnLnKernelIdeal.τ).loc Cert.FfnLnKernelIdeal.main_arg3) = m ((c.tc : Thread Cert.FfnLnKernelIdeal.nD Cert.FfnLnKernelIdeal.τ).loc Cert.FfnLnKernelIdeal.main_arg3))
      ∧ r.2.sem = fun _ => 0)

def quiescent_FfnLnReferenceIdeal [hFfnLnReferenceIdeal : Cert.FfnLnReferenceIdeal.Facts] : Prop :=
  ∀ (m : (ℓ : Loc Cert.FfnLnReferenceIdeal.nD Cert.FfnLnReferenceIdeal.τ Cert.FfnLnReferenceIdeal.sig) → Buf (Elt Ideal) ℓ) (g : Dev Cert.FfnLnReferenceIdeal.nD → PrngReg), Pre_FfnLnReferenceIdeal m →
    θ_run (Cert.FfnLnReferenceIdeal.defs (F := Ideal)) (onTc (τ := Cert.FfnLnReferenceIdeal.τ) (Cert.FfnLnReferenceIdeal.main (F := Ideal))) ⟨m, fun _ => 0, g⟩ (fun r => (∀ c : Dev Cert.FfnLnReferenceIdeal.nD,
      r.2.mem ((c.tc : Thread Cert.FfnLnReferenceIdeal.nD Cert.FfnLnReferenceIdeal.τ).loc Cert.FfnLnReferenceIdeal.main_arg0) = m ((c.tc : Thread Cert.FfnLnReferenceIdeal.nD Cert.FfnLnReferenceIdeal.τ).loc Cert.FfnLnReferenceIdeal.main_arg0)
      ∧ r.2.mem ((c.tc : Thread Cert.FfnLnReferenceIdeal.nD Cert.FfnLnReferenceIdeal.τ).loc Cert.FfnLnReferenceIdeal.main_arg1) = m ((c.tc : Thread Cert.FfnLnReferenceIdeal.nD Cert.FfnLnReferenceIdeal.τ).loc Cert.FfnLnReferenceIdeal.main_arg1)
      ∧ r.2.mem ((c.tc : Thread Cert.FfnLnReferenceIdeal.nD Cert.FfnLnReferenceIdeal.τ).loc Cert.FfnLnReferenceIdeal.main_arg2) = m ((c.tc : Thread Cert.FfnLnReferenceIdeal.nD Cert.FfnLnReferenceIdeal.τ).loc Cert.FfnLnReferenceIdeal.main_arg2)
      ∧ r.2.mem ((c.tc : Thread Cert.FfnLnReferenceIdeal.nD Cert.FfnLnReferenceIdeal.τ).loc Cert.FfnLnReferenceIdeal.main_arg3) = m ((c.tc : Thread Cert.FfnLnReferenceIdeal.nD Cert.FfnLnReferenceIdeal.τ).loc Cert.FfnLnReferenceIdeal.main_arg3))
      ∧ r.2.sem = fun _ => 0)

def quiescent_MixLnKernel [hMixLnKernel : Cert.MixLnKernel.Facts] : Prop :=
  ∀ (m : (ℓ : Loc Cert.MixLnKernel.nD Cert.MixLnKernel.τ Cert.MixLnKernel.sig) → Buf (Elt Bits) ℓ) (g : Dev Cert.MixLnKernel.nD → PrngReg), Pre_MixLnKernel m →
    θ_run (Cert.MixLnKernel.defs (F := Bits)) (onTc (τ := Cert.MixLnKernel.τ) (Cert.MixLnKernel.main (F := Bits))) ⟨m, fun _ => 0, g⟩ (fun r => (∀ c : Dev Cert.MixLnKernel.nD,
      r.2.mem ((c.tc : Thread Cert.MixLnKernel.nD Cert.MixLnKernel.τ).loc Cert.MixLnKernel.main_arg0) = m ((c.tc : Thread Cert.MixLnKernel.nD Cert.MixLnKernel.τ).loc Cert.MixLnKernel.main_arg0)
      ∧ r.2.mem ((c.tc : Thread Cert.MixLnKernel.nD Cert.MixLnKernel.τ).loc Cert.MixLnKernel.main_arg1) = m ((c.tc : Thread Cert.MixLnKernel.nD Cert.MixLnKernel.τ).loc Cert.MixLnKernel.main_arg1)
      ∧ r.2.mem ((c.tc : Thread Cert.MixLnKernel.nD Cert.MixLnKernel.τ).loc Cert.MixLnKernel.main_arg2) = m ((c.tc : Thread Cert.MixLnKernel.nD Cert.MixLnKernel.τ).loc Cert.MixLnKernel.main_arg2)
      ∧ r.2.mem ((c.tc : Thread Cert.MixLnKernel.nD Cert.MixLnKernel.τ).loc Cert.MixLnKernel.main_arg3) = m ((c.tc : Thread Cert.MixLnKernel.nD Cert.MixLnKernel.τ).loc Cert.MixLnKernel.main_arg3))
      ∧ r.2.sem = fun _ => 0)

def quiescent_MixLnKernelIdeal [hMixLnKernelIdeal : Cert.MixLnKernelIdeal.Facts] : Prop :=
  ∀ (m : (ℓ : Loc Cert.MixLnKernelIdeal.nD Cert.MixLnKernelIdeal.τ Cert.MixLnKernelIdeal.sig) → Buf (Elt Ideal) ℓ) (g : Dev Cert.MixLnKernelIdeal.nD → PrngReg), Pre_MixLnKernelIdeal m →
    θ_run (Cert.MixLnKernelIdeal.defs (F := Ideal)) (onTc (τ := Cert.MixLnKernelIdeal.τ) (Cert.MixLnKernelIdeal.main (F := Ideal))) ⟨m, fun _ => 0, g⟩ (fun r => (∀ c : Dev Cert.MixLnKernelIdeal.nD,
      r.2.mem ((c.tc : Thread Cert.MixLnKernelIdeal.nD Cert.MixLnKernelIdeal.τ).loc Cert.MixLnKernelIdeal.main_arg0) = m ((c.tc : Thread Cert.MixLnKernelIdeal.nD Cert.MixLnKernelIdeal.τ).loc Cert.MixLnKernelIdeal.main_arg0)
      ∧ r.2.mem ((c.tc : Thread Cert.MixLnKernelIdeal.nD Cert.MixLnKernelIdeal.τ).loc Cert.MixLnKernelIdeal.main_arg1) = m ((c.tc : Thread Cert.MixLnKernelIdeal.nD Cert.MixLnKernelIdeal.τ).loc Cert.MixLnKernelIdeal.main_arg1)
      ∧ r.2.mem ((c.tc : Thread Cert.MixLnKernelIdeal.nD Cert.MixLnKernelIdeal.τ).loc Cert.MixLnKernelIdeal.main_arg2) = m ((c.tc : Thread Cert.MixLnKernelIdeal.nD Cert.MixLnKernelIdeal.τ).loc Cert.MixLnKernelIdeal.main_arg2)
      ∧ r.2.mem ((c.tc : Thread Cert.MixLnKernelIdeal.nD Cert.MixLnKernelIdeal.τ).loc Cert.MixLnKernelIdeal.main_arg3) = m ((c.tc : Thread Cert.MixLnKernelIdeal.nD Cert.MixLnKernelIdeal.τ).loc Cert.MixLnKernelIdeal.main_arg3))
      ∧ r.2.sem = fun _ => 0)

def quiescent_MixLnReferenceIdeal [hMixLnReferenceIdeal : Cert.MixLnReferenceIdeal.Facts] : Prop :=
  ∀ (m : (ℓ : Loc Cert.MixLnReferenceIdeal.nD Cert.MixLnReferenceIdeal.τ Cert.MixLnReferenceIdeal.sig) → Buf (Elt Ideal) ℓ) (g : Dev Cert.MixLnReferenceIdeal.nD → PrngReg), Pre_MixLnReferenceIdeal m →
    θ_run (Cert.MixLnReferenceIdeal.defs (F := Ideal)) (onTc (τ := Cert.MixLnReferenceIdeal.τ) (Cert.MixLnReferenceIdeal.main (F := Ideal))) ⟨m, fun _ => 0, g⟩ (fun r => (∀ c : Dev Cert.MixLnReferenceIdeal.nD,
      r.2.mem ((c.tc : Thread Cert.MixLnReferenceIdeal.nD Cert.MixLnReferenceIdeal.τ).loc Cert.MixLnReferenceIdeal.main_arg0) = m ((c.tc : Thread Cert.MixLnReferenceIdeal.nD Cert.MixLnReferenceIdeal.τ).loc Cert.MixLnReferenceIdeal.main_arg0)
      ∧ r.2.mem ((c.tc : Thread Cert.MixLnReferenceIdeal.nD Cert.MixLnReferenceIdeal.τ).loc Cert.MixLnReferenceIdeal.main_arg1) = m ((c.tc : Thread Cert.MixLnReferenceIdeal.nD Cert.MixLnReferenceIdeal.τ).loc Cert.MixLnReferenceIdeal.main_arg1)
      ∧ r.2.mem ((c.tc : Thread Cert.MixLnReferenceIdeal.nD Cert.MixLnReferenceIdeal.τ).loc Cert.MixLnReferenceIdeal.main_arg2) = m ((c.tc : Thread Cert.MixLnReferenceIdeal.nD Cert.MixLnReferenceIdeal.τ).loc Cert.MixLnReferenceIdeal.main_arg2)
      ∧ r.2.mem ((c.tc : Thread Cert.MixLnReferenceIdeal.nD Cert.MixLnReferenceIdeal.τ).loc Cert.MixLnReferenceIdeal.main_arg3) = m ((c.tc : Thread Cert.MixLnReferenceIdeal.nD Cert.MixLnReferenceIdeal.τ).loc Cert.MixLnReferenceIdeal.main_arg3))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def quiescent_PrepBwdKernel [hPrepBwdKernel : Cert.PrepBwdKernel.Facts] : Prop :=
  ∀ (m : (ℓ : Loc Cert.PrepBwdKernel.nD Cert.PrepBwdKernel.τ Cert.PrepBwdKernel.sig) → Buf (Elt Bits) ℓ) (g : Dev Cert.PrepBwdKernel.nD → PrngReg), Pre_PrepBwdKernel m →
    θ_run (Cert.PrepBwdKernel.defs (F := Bits)) (onTc (τ := Cert.PrepBwdKernel.τ) (Cert.PrepBwdKernel.main (F := Bits))) ⟨m, fun _ => 0, g⟩ (fun r => (∀ c : Dev Cert.PrepBwdKernel.nD,
      r.2.mem ((c.tc : Thread Cert.PrepBwdKernel.nD Cert.PrepBwdKernel.τ).loc Cert.PrepBwdKernel.main_arg0) = m ((c.tc : Thread Cert.PrepBwdKernel.nD Cert.PrepBwdKernel.τ).loc Cert.PrepBwdKernel.main_arg0)
      ∧ r.2.mem ((c.tc : Thread Cert.PrepBwdKernel.nD Cert.PrepBwdKernel.τ).loc Cert.PrepBwdKernel.main_arg1) = m ((c.tc : Thread Cert.PrepBwdKernel.nD Cert.PrepBwdKernel.τ).loc Cert.PrepBwdKernel.main_arg1)
      ∧ r.2.mem ((c.tc : Thread Cert.PrepBwdKernel.nD Cert.PrepBwdKernel.τ).loc Cert.PrepBwdKernel.main_arg2) = m ((c.tc : Thread Cert.PrepBwdKernel.nD Cert.PrepBwdKernel.τ).loc Cert.PrepBwdKernel.main_arg2)
      ∧ r.2.mem ((c.tc : Thread Cert.PrepBwdKernel.nD Cert.PrepBwdKernel.τ).loc Cert.PrepBwdKernel.main_arg3) = m ((c.tc : Thread Cert.PrepBwdKernel.nD Cert.PrepBwdKernel.τ).loc Cert.PrepBwdKernel.main_arg3)
      ∧ r.2.mem ((c.tc : Thread Cert.PrepBwdKernel.nD Cert.PrepBwdKernel.τ).loc Cert.PrepBwdKernel.main_arg4) = m ((c.tc : Thread Cert.PrepBwdKernel.nD Cert.PrepBwdKernel.τ).loc Cert.PrepBwdKernel.main_arg4))
      ∧ r.2.sem = fun _ => 0)

def quiescent_PrepBwdKernelIdeal [hPrepBwdKernelIdeal : Cert.PrepBwdKernelIdeal.Facts] : Prop :=
  ∀ (m : (ℓ : Loc Cert.PrepBwdKernelIdeal.nD Cert.PrepBwdKernelIdeal.τ Cert.PrepBwdKernelIdeal.sig) → Buf (Elt Ideal) ℓ) (g : Dev Cert.PrepBwdKernelIdeal.nD → PrngReg), Pre_PrepBwdKernelIdeal m →
    θ_run (Cert.PrepBwdKernelIdeal.defs (F := Ideal)) (onTc (τ := Cert.PrepBwdKernelIdeal.τ) (Cert.PrepBwdKernelIdeal.main (F := Ideal))) ⟨m, fun _ => 0, g⟩ (fun r => (∀ c : Dev Cert.PrepBwdKernelIdeal.nD,
      r.2.mem ((c.tc : Thread Cert.PrepBwdKernelIdeal.nD Cert.PrepBwdKernelIdeal.τ).loc Cert.PrepBwdKernelIdeal.main_arg0) = m ((c.tc : Thread Cert.PrepBwdKernelIdeal.nD Cert.PrepBwdKernelIdeal.τ).loc Cert.PrepBwdKernelIdeal.main_arg0)
      ∧ r.2.mem ((c.tc : Thread Cert.PrepBwdKernelIdeal.nD Cert.PrepBwdKernelIdeal.τ).loc Cert.PrepBwdKernelIdeal.main_arg1) = m ((c.tc : Thread Cert.PrepBwdKernelIdeal.nD Cert.PrepBwdKernelIdeal.τ).loc Cert.PrepBwdKernelIdeal.main_arg1)
      ∧ r.2.mem ((c.tc : Thread Cert.PrepBwdKernelIdeal.nD Cert.PrepBwdKernelIdeal.τ).loc Cert.PrepBwdKernelIdeal.main_arg2) = m ((c.tc : Thread Cert.PrepBwdKernelIdeal.nD Cert.PrepBwdKernelIdeal.τ).loc Cert.PrepBwdKernelIdeal.main_arg2)
      ∧ r.2.mem ((c.tc : Thread Cert.PrepBwdKernelIdeal.nD Cert.PrepBwdKernelIdeal.τ).loc Cert.PrepBwdKernelIdeal.main_arg3) = m ((c.tc : Thread Cert.PrepBwdKernelIdeal.nD Cert.PrepBwdKernelIdeal.τ).loc Cert.PrepBwdKernelIdeal.main_arg3)
      ∧ r.2.mem ((c.tc : Thread Cert.PrepBwdKernelIdeal.nD Cert.PrepBwdKernelIdeal.τ).loc Cert.PrepBwdKernelIdeal.main_arg4) = m ((c.tc : Thread Cert.PrepBwdKernelIdeal.nD Cert.PrepBwdKernelIdeal.τ).loc Cert.PrepBwdKernelIdeal.main_arg4))
      ∧ r.2.sem = fun _ => 0)

def quiescent_PrepBwdReferenceIdeal [hPrepBwdReferenceIdeal : Cert.PrepBwdReferenceIdeal.Facts] : Prop :=
  ∀ (m : (ℓ : Loc Cert.PrepBwdReferenceIdeal.nD Cert.PrepBwdReferenceIdeal.τ Cert.PrepBwdReferenceIdeal.sig) → Buf (Elt Ideal) ℓ) (g : Dev Cert.PrepBwdReferenceIdeal.nD → PrngReg), Pre_PrepBwdReferenceIdeal m →
    θ_run (Cert.PrepBwdReferenceIdeal.defs (F := Ideal)) (onTc (τ := Cert.PrepBwdReferenceIdeal.τ) (Cert.PrepBwdReferenceIdeal.main (F := Ideal))) ⟨m, fun _ => 0, g⟩ (fun r => (∀ c : Dev Cert.PrepBwdReferenceIdeal.nD,
      r.2.mem ((c.tc : Thread Cert.PrepBwdReferenceIdeal.nD Cert.PrepBwdReferenceIdeal.τ).loc Cert.PrepBwdReferenceIdeal.main_arg0) = m ((c.tc : Thread Cert.PrepBwdReferenceIdeal.nD Cert.PrepBwdReferenceIdeal.τ).loc Cert.PrepBwdReferenceIdeal.main_arg0)
      ∧ r.2.mem ((c.tc : Thread Cert.PrepBwdReferenceIdeal.nD Cert.PrepBwdReferenceIdeal.τ).loc Cert.PrepBwdReferenceIdeal.main_arg1) = m ((c.tc : Thread Cert.PrepBwdReferenceIdeal.nD Cert.PrepBwdReferenceIdeal.τ).loc Cert.PrepBwdReferenceIdeal.main_arg1)
      ∧ r.2.mem ((c.tc : Thread Cert.PrepBwdReferenceIdeal.nD Cert.PrepBwdReferenceIdeal.τ).loc Cert.PrepBwdReferenceIdeal.main_arg2) = m ((c.tc : Thread Cert.PrepBwdReferenceIdeal.nD Cert.PrepBwdReferenceIdeal.τ).loc Cert.PrepBwdReferenceIdeal.main_arg2)
      ∧ r.2.mem ((c.tc : Thread Cert.PrepBwdReferenceIdeal.nD Cert.PrepBwdReferenceIdeal.τ).loc Cert.PrepBwdReferenceIdeal.main_arg3) = m ((c.tc : Thread Cert.PrepBwdReferenceIdeal.nD Cert.PrepBwdReferenceIdeal.τ).loc Cert.PrepBwdReferenceIdeal.main_arg3)
      ∧ r.2.mem ((c.tc : Thread Cert.PrepBwdReferenceIdeal.nD Cert.PrepBwdReferenceIdeal.τ).loc Cert.PrepBwdReferenceIdeal.main_arg4) = m ((c.tc : Thread Cert.PrepBwdReferenceIdeal.nD Cert.PrepBwdReferenceIdeal.τ).loc Cert.PrepBwdReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v55)) (v3 : (c : Dev Cert.KernelIdeal.nD) → Buf (Elt Ideal) ((c.tc : Thread Cert.KernelIdeal.nD Cert.KernelIdeal.τ).loc Cert.KernelIdeal.main_v52)) (v4 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_v52) = v3 c
          ∧ r.2.mem ((c.tc : Thread Cert.KernelIdeal.nD Cert.KernelIdeal.τ).loc Cert.KernelIdeal.main_v50) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v13_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v13_1) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_ActKernel_ActKernelIdeal : Prop :=
  True

def algebraic_ActKernelIdeal_ActReferenceIdeal [hActKernelIdeal : Cert.ActKernelIdeal.Facts] [hActReferenceIdeal : Cert.ActReferenceIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v3_0)) (v1 : (c : Dev Cert.ActKernelIdeal.nD) → Buf (Elt Ideal) ((c.tc : Thread Cert.ActKernelIdeal.nD Cert.ActKernelIdeal.τ).loc Cert.ActKernelIdeal.main_v3_1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v3_0) = v0 c
          ∧ r.2.mem ((c.tc : Thread Cert.ActKernelIdeal.nD Cert.ActKernelIdeal.τ).loc Cert.ActKernelIdeal.main_v3_1) = v1 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v14) = v0 c
          ∧ r.2.mem ((c.tc : Thread Cert.ActReferenceIdeal.nD Cert.ActReferenceIdeal.τ).loc Cert.ActReferenceIdeal.main_v15) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v2) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)) →
    ∃ (v0 : (c : Dev Cert.DxKernelIdeal.nD) → Buf (Elt Ideal) ((c.tc : Thread Cert.DxKernelIdeal.nD Cert.DxKernelIdeal.τ).loc Cert.DxKernelIdeal.main_v8)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v8) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v11) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3))

def preserves_AttKernel_AttKernelIdeal : Prop :=
  IdealRules.named_const.Statement Cert.AttKernelIdeal.κ "mask" .f32 0xF149F2CA#32 ⊥

def algebraic_AttKernelIdeal_AttReferenceIdeal_pre_att_finite [hAttKernelIdeal : Cert.AttKernelIdeal.Facts] [hAttReferenceIdeal : Cert.AttReferenceIdeal.Facts] [hPre_att_finite : Cert.Pre_att_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_att_finite m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)
      ∧ m' ((c.tc : Thread Cert.AttReferenceIdeal.nD Cert.AttReferenceIdeal.τ).loc Cert.AttReferenceIdeal.main_arg2) = m ((c.tc : Thread Cert.AttKernelIdeal.nD Cert.AttKernelIdeal.τ).loc Cert.AttKernelIdeal.main_arg2)
      ∧ m' ((c.tc : Thread Cert.AttReferenceIdeal.nD Cert.AttReferenceIdeal.τ).loc Cert.AttReferenceIdeal.main_arg3) = m ((c.tc : Thread Cert.AttKernelIdeal.nD Cert.AttKernelIdeal.τ).loc Cert.AttKernelIdeal.main_arg3)
      ∧ m' ((c.tc : Thread Cert.AttReferenceIdeal.nD Cert.AttReferenceIdeal.τ).loc Cert.AttReferenceIdeal.main_arg4) = m ((c.tc : Thread Cert.AttKernelIdeal.nD Cert.AttKernelIdeal.τ).loc Cert.AttKernelIdeal.main_arg4)) →
    ∃ (v0 : (c : Dev Cert.AttKernelIdeal.nD) → Buf (Elt Ideal) ((c.tc : Thread Cert.AttKernelIdeal.nD Cert.AttKernelIdeal.τ).loc Cert.AttKernelIdeal.main_v12)) (v1 : (c : Dev Cert.AttKernelIdeal.nD) → Buf (Elt Ideal) ((c.tc : Thread Cert.AttKernelIdeal.nD Cert.AttKernelIdeal.τ).loc Cert.AttKernelIdeal.main_v11_1)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v12) = v0 c
          ∧ r.2.mem ((c.tc : Thread Cert.AttKernelIdeal.nD Cert.AttKernelIdeal.τ).loc Cert.AttKernelIdeal.main_v11_1) = v1 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
          ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2)
          ∧ r.2.mem ((c.tc : Thread Cert.AttKernelIdeal.nD Cert.AttKernelIdeal.τ).loc Cert.AttKernelIdeal.main_arg3) = m ((c.tc : Thread Cert.AttKernelIdeal.nD Cert.AttKernelIdeal.τ).loc Cert.AttKernelIdeal.main_arg3)
          ∧ r.2.mem ((c.tc : Thread Cert.AttKernelIdeal.nD Cert.AttKernelIdeal.τ).loc Cert.AttKernelIdeal.main_arg4) = m ((c.tc : Thread Cert.AttKernelIdeal.nD Cert.AttKernelIdeal.τ).loc Cert.AttKernelIdeal.main_arg4))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v51) = v0 c
          ∧ r.2.mem ((c.tc : Thread Cert.AttReferenceIdeal.nD Cert.AttReferenceIdeal.τ).loc Cert.AttReferenceIdeal.main_v52) = v1 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2)
          ∧ r.2.mem ((c.tc : Thread Cert.AttReferenceIdeal.nD Cert.AttReferenceIdeal.τ).loc Cert.AttReferenceIdeal.main_arg3) = m' ((c.tc : Thread Cert.AttReferenceIdeal.nD Cert.AttReferenceIdeal.τ).loc Cert.AttReferenceIdeal.main_arg3)
          ∧ r.2.mem ((c.tc : Thread Cert.AttReferenceIdeal.nD Cert.AttReferenceIdeal.τ).loc Cert.AttReferenceIdeal.main_arg4) = m' ((c.tc : Thread Cert.AttReferenceIdeal.nD Cert.AttReferenceIdeal.τ).loc Cert.AttReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v5_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v5_1) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v27) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_OutDwKernel_OutDwKernelIdeal : Prop :=
  True

def algebraic_OutDwKernelIdeal_OutDwReferenceIdeal [hOutDwKernelIdeal : Cert.OutDwKernelIdeal.Facts] [hOutDwReferenceIdeal : Cert.OutDwReferenceIdeal.Facts] : Prop :=
  ∀ (m : (ℓ : Loc Cert.OutDwKernelIdeal.nD Cert.OutDwKernelIdeal.τ Cert.OutDwKernelIdeal.sig) → Buf (Elt Ideal) ℓ) (g : Dev Cert.OutDwKernelIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwKernelIdeal m →
    (∀ c : Dev Cert.OutDwKernelIdeal.nD,
      m' ((c.tc : Thread Cert.OutDwReferenceIdeal.nD Cert.OutDwReferenceIdeal.τ).loc Cert.OutDwReferenceIdeal.main_arg0) = m ((c.tc : Thread Cert.OutDwKernelIdeal.nD Cert.OutDwKernelIdeal.τ).loc Cert.OutDwKernelIdeal.main_arg0)
      ∧ m' ((c.tc : Thread Cert.OutDwReferenceIdeal.nD Cert.OutDwReferenceIdeal.τ).loc Cert.OutDwReferenceIdeal.main_arg1) = m ((c.tc : Thread Cert.OutDwKernelIdeal.nD Cert.OutDwKernelIdeal.τ).loc Cert.OutDwKernelIdeal.main_arg1)) →
    ∃ (v0 : (c : Dev Cert.OutDwKernelIdeal.nD) → Buf (Elt Ideal) ((c.tc : Thread Cert.OutDwKernelIdeal.nD Cert.OutDwKernelIdeal.τ).loc Cert.OutDwKernelIdeal.main_v2)),
      θ_run (Cert.OutDwKernelIdeal.defs (F := Ideal)) (onTc (τ := Cert.OutDwKernelIdeal.τ) (Cert.OutDwKernelIdeal.main (F := Ideal))) ⟨m, fun _ => 0, g⟩ (fun r => ∀ c : Dev Cert.OutDwKernelIdeal.nD,
          r.2.mem ((c.tc : Thread Cert.OutDwKernelIdeal.nD Cert.OutDwKernelIdeal.τ).loc Cert.OutDwKernelIdeal.main_v2) = v0 c
          ∧ r.2.mem ((c.tc : Thread Cert.OutDwKernelIdeal.nD Cert.OutDwKernelIdeal.τ).loc Cert.OutDwKernelIdeal.main_arg0) = m ((c.tc : Thread Cert.OutDwKernelIdeal.nD Cert.OutDwKernelIdeal.τ).loc Cert.OutDwKernelIdeal.main_arg0)
          ∧ r.2.mem ((c.tc : Thread Cert.OutDwKernelIdeal.nD Cert.OutDwKernelIdeal.τ).loc Cert.OutDwKernelIdeal.main_arg1) = m ((c.tc : Thread Cert.OutDwKernelIdeal.nD Cert.OutDwKernelIdeal.τ).loc Cert.OutDwKernelIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v1) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_OutDxKernel_OutDxKernelIdeal : Prop :=
  True

def algebraic_OutDxKernelIdeal_OutDxReferenceIdeal [hOutDxKernelIdeal : Cert.OutDxKernelIdeal.Facts] [hOutDxReferenceIdeal : Cert.OutDxReferenceIdeal.Facts] : Prop :=
  ∀ (m : (ℓ : Loc Cert.OutDxKernelIdeal.nD Cert.OutDxKernelIdeal.τ Cert.OutDxKernelIdeal.sig) → Buf (Elt Ideal) ℓ) (g : Dev Cert.OutDxKernelIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxKernelIdeal m →
    (∀ c : Dev Cert.OutDxKernelIdeal.nD,
      m' ((c.tc : Thread Cert.OutDxReferenceIdeal.nD Cert.OutDxReferenceIdeal.τ).loc Cert.OutDxReferenceIdeal.main_arg0) = m ((c.tc : Thread Cert.OutDxKernelIdeal.nD Cert.OutDxKernelIdeal.τ).loc Cert.OutDxKernelIdeal.main_arg0)
      ∧ m' ((c.tc : Thread Cert.OutDxReferenceIdeal.nD Cert.OutDxReferenceIdeal.τ).loc Cert.OutDxReferenceIdeal.main_arg1) = m ((c.tc : Thread Cert.OutDxKernelIdeal.nD Cert.OutDxKernelIdeal.τ).loc Cert.OutDxKernelIdeal.main_arg1)) →
    ∃ (v0 : (c : Dev Cert.OutDxKernelIdeal.nD) → Buf (Elt Ideal) ((c.tc : Thread Cert.OutDxKernelIdeal.nD Cert.OutDxKernelIdeal.τ).loc Cert.OutDxKernelIdeal.main_v2)),
      θ_run (Cert.OutDxKernelIdeal.defs (F := Ideal)) (onTc (τ := Cert.OutDxKernelIdeal.τ) (Cert.OutDxKernelIdeal.main (F := Ideal))) ⟨m, fun _ => 0, g⟩ (fun r => ∀ c : Dev Cert.OutDxKernelIdeal.nD,
          r.2.mem ((c.tc : Thread Cert.OutDxKernelIdeal.nD Cert.OutDxKernelIdeal.τ).loc Cert.OutDxKernelIdeal.main_v2) = v0 c
          ∧ r.2.mem ((c.tc : Thread Cert.OutDxKernelIdeal.nD Cert.OutDxKernelIdeal.τ).loc Cert.OutDxKernelIdeal.main_arg0) = m ((c.tc : Thread Cert.OutDxKernelIdeal.nD Cert.OutDxKernelIdeal.τ).loc Cert.OutDxKernelIdeal.main_arg0)
          ∧ r.2.mem ((c.tc : Thread Cert.OutDxKernelIdeal.nD Cert.OutDxKernelIdeal.τ).loc Cert.OutDxKernelIdeal.main_arg1) = m ((c.tc : Thread Cert.OutDxKernelIdeal.nD Cert.OutDxKernelIdeal.τ).loc Cert.OutDxKernelIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v1) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v15)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v15) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDwKernel_InDwKernelIdeal : Prop :=
  True

def algebraic_InDwKernelIdeal_InDwReferenceIdeal [hInDwKernelIdeal : Cert.InDwKernelIdeal.Facts] [hInDwReferenceIdeal : Cert.InDwReferenceIdeal.Facts] : Prop :=
  ∀ (m : (ℓ : Loc Cert.InDwKernelIdeal.nD Cert.InDwKernelIdeal.τ Cert.InDwKernelIdeal.sig) → Buf (Elt Ideal) ℓ) (g : Dev Cert.InDwKernelIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwKernelIdeal m →
    (∀ c : Dev Cert.InDwKernelIdeal.nD,
      m' ((c.tc : Thread Cert.InDwReferenceIdeal.nD Cert.InDwReferenceIdeal.τ).loc Cert.InDwReferenceIdeal.main_arg0) = m ((c.tc : Thread Cert.InDwKernelIdeal.nD Cert.InDwKernelIdeal.τ).loc Cert.InDwKernelIdeal.main_arg0)
      ∧ m' ((c.tc : Thread Cert.InDwReferenceIdeal.nD Cert.InDwReferenceIdeal.τ).loc Cert.InDwReferenceIdeal.main_arg1) = m ((c.tc : Thread Cert.InDwKernelIdeal.nD Cert.InDwKernelIdeal.τ).loc Cert.InDwKernelIdeal.main_arg1)) →
    ∃ (v0 : (c : Dev Cert.InDwKernelIdeal.nD) → Buf (Elt Ideal) ((c.tc : Thread Cert.InDwKernelIdeal.nD Cert.InDwKernelIdeal.τ).loc Cert.InDwKernelIdeal.main_v15)),
      θ_run (Cert.InDwKernelIdeal.defs (F := Ideal)) (onTc (τ := Cert.InDwKernelIdeal.τ) (Cert.InDwKernelIdeal.main (F := Ideal))) ⟨m, fun _ => 0, g⟩ (fun r => ∀ c : Dev Cert.InDwKernelIdeal.nD,
          r.2.mem ((c.tc : Thread Cert.InDwKernelIdeal.nD Cert.InDwKernelIdeal.τ).loc Cert.InDwKernelIdeal.main_v15) = v0 c
          ∧ r.2.mem ((c.tc : Thread Cert.InDwKernelIdeal.nD Cert.InDwKernelIdeal.τ).loc Cert.InDwKernelIdeal.main_arg0) = m ((c.tc : Thread Cert.InDwKernelIdeal.nD Cert.InDwKernelIdeal.τ).loc Cert.InDwKernelIdeal.main_arg0)
          ∧ r.2.mem ((c.tc : Thread Cert.InDwKernelIdeal.nD Cert.InDwKernelIdeal.τ).loc Cert.InDwKernelIdeal.main_arg1) = m ((c.tc : Thread Cert.InDwKernelIdeal.nD Cert.InDwKernelIdeal.τ).loc Cert.InDwKernelIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v1) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDxKernel_InDxKernelIdeal : Prop :=
  True

def algebraic_InDxKernelIdeal_InDxReferenceIdeal [hInDxKernelIdeal : Cert.InDxKernelIdeal.Facts] [hInDxReferenceIdeal : Cert.InDxReferenceIdeal.Facts] : Prop :=
  ∀ (m : (ℓ : Loc Cert.InDxKernelIdeal.nD Cert.InDxKernelIdeal.τ Cert.InDxKernelIdeal.sig) → Buf (Elt Ideal) ℓ) (g : Dev Cert.InDxKernelIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxKernelIdeal m →
    (∀ c : Dev Cert.InDxKernelIdeal.nD,
      m' ((c.tc : Thread Cert.InDxReferenceIdeal.nD Cert.InDxReferenceIdeal.τ).loc Cert.InDxReferenceIdeal.main_arg0) = m ((c.tc : Thread Cert.InDxKernelIdeal.nD Cert.InDxKernelIdeal.τ).loc Cert.InDxKernelIdeal.main_arg0)
      ∧ m' ((c.tc : Thread Cert.InDxReferenceIdeal.nD Cert.InDxReferenceIdeal.τ).loc Cert.InDxReferenceIdeal.main_arg1) = m ((c.tc : Thread Cert.InDxKernelIdeal.nD Cert.InDxKernelIdeal.τ).loc Cert.InDxKernelIdeal.main_arg1)
      ∧ m' ((c.tc : Thread Cert.InDxReferenceIdeal.nD Cert.InDxReferenceIdeal.τ).loc Cert.InDxReferenceIdeal.main_arg2) = m ((c.tc : Thread Cert.InDxKernelIdeal.nD Cert.InDxKernelIdeal.τ).loc Cert.InDxKernelIdeal.main_arg2)) →
    ∃ (v0 : (c : Dev Cert.InDxKernelIdeal.nD) → Buf (Elt Ideal) ((c.tc : Thread Cert.InDxKernelIdeal.nD Cert.InDxKernelIdeal.τ).loc Cert.InDxKernelIdeal.main_v16)),
      θ_run (Cert.InDxKernelIdeal.defs (F := Ideal)) (onTc (τ := Cert.InDxKernelIdeal.τ) (Cert.InDxKernelIdeal.main (F := Ideal))) ⟨m, fun _ => 0, g⟩ (fun r => ∀ c : Dev Cert.InDxKernelIdeal.nD,
          r.2.mem ((c.tc : Thread Cert.InDxKernelIdeal.nD Cert.InDxKernelIdeal.τ).loc Cert.InDxKernelIdeal.main_v16) = v0 c
          ∧ r.2.mem ((c.tc : Thread Cert.InDxKernelIdeal.nD Cert.InDxKernelIdeal.τ).loc Cert.InDxKernelIdeal.main_arg0) = m ((c.tc : Thread Cert.InDxKernelIdeal.nD Cert.InDxKernelIdeal.τ).loc Cert.InDxKernelIdeal.main_arg0)
          ∧ r.2.mem ((c.tc : Thread Cert.InDxKernelIdeal.nD Cert.InDxKernelIdeal.τ).loc Cert.InDxKernelIdeal.main_arg1) = m ((c.tc : Thread Cert.InDxKernelIdeal.nD Cert.InDxKernelIdeal.τ).loc Cert.InDxKernelIdeal.main_arg1)
          ∧ r.2.mem ((c.tc : Thread Cert.InDxKernelIdeal.nD Cert.InDxKernelIdeal.τ).loc Cert.InDxKernelIdeal.main_arg2) = m ((c.tc : Thread Cert.InDxKernelIdeal.nD Cert.InDxKernelIdeal.τ).loc Cert.InDxKernelIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v4) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_AdamUpKernel_AdamUpKernelIdeal : Prop :=
  True

def algebraic_AdamUpKernelIdeal_AdamUpReferenceIdeal [hAdamUpKernelIdeal : Cert.AdamUpKernelIdeal.Facts] [hAdamUpReferenceIdeal : Cert.AdamUpReferenceIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpKernelIdeal m →
    (∀ c : Dev Cert.AdamUpKernelIdeal.nD,
      m' ((c.tc : Thread Cert.AdamUpReferenceIdeal.nD Cert.AdamUpReferenceIdeal.τ).loc Cert.AdamUpReferenceIdeal.main_arg0) = m ((c.tc : Thread Cert.AdamUpKernelIdeal.nD Cert.AdamUpKernelIdeal.τ).loc Cert.AdamUpKernelIdeal.main_arg0)
      ∧ m' ((c.tc : Thread Cert.AdamUpReferenceIdeal.nD Cert.AdamUpReferenceIdeal.τ).loc Cert.AdamUpReferenceIdeal.main_arg1) = m ((c.tc : Thread Cert.AdamUpKernelIdeal.nD Cert.AdamUpKernelIdeal.τ).loc Cert.AdamUpKernelIdeal.main_arg1)
      ∧ m' ((c.tc : Thread Cert.AdamUpReferenceIdeal.nD Cert.AdamUpReferenceIdeal.τ).loc Cert.AdamUpReferenceIdeal.main_arg2) = m ((c.tc : Thread Cert.AdamUpKernelIdeal.nD Cert.AdamUpKernelIdeal.τ).loc Cert.AdamUpKernelIdeal.main_arg2)
      ∧ m' ((c.tc : Thread Cert.AdamUpReferenceIdeal.nD Cert.AdamUpReferenceIdeal.τ).loc Cert.AdamUpReferenceIdeal.main_arg3) = m ((c.tc : Thread Cert.AdamUpKernelIdeal.nD Cert.AdamUpKernelIdeal.τ).loc Cert.AdamUpKernelIdeal.main_arg3)) →
    ∃ (v0 : (c : Dev Cert.AdamUpKernelIdeal.nD) → Buf (Elt Ideal) ((c.tc : Thread Cert.AdamUpKernelIdeal.nD Cert.AdamUpKernelIdeal.τ).loc Cert.AdamUpKernelIdeal.main_v5)) (v1 : (c : Dev Cert.AdamUpKernelIdeal.nD) → Buf (Elt Ideal) ((c.tc : Thread Cert.AdamUpKernelIdeal.nD Cert.AdamUpKernelIdeal.τ).loc Cert.AdamUpKernelIdeal.main_v6)) (v2 : (c : Dev Cert.AdamUpKernelIdeal.nD) → Buf (Elt Ideal) ((c.tc : Thread Cert.AdamUpKernelIdeal.nD Cert.AdamUpKernelIdeal.τ).loc Cert.AdamUpKernelIdeal.main_v7)),
      θ_run (Cert.AdamUpKernelIdeal.defs (F := Ideal)) (onTc (τ := Cert.AdamUpKernelIdeal.τ) (Cert.AdamUpKernelIdeal.main (F := Ideal))) ⟨m, fun _ => 0, g⟩ (fun r => ∀ c : Dev Cert.AdamUpKernelIdeal.nD,
          r.2.mem ((c.tc : Thread Cert.AdamUpKernelIdeal.nD Cert.AdamUpKernelIdeal.τ).loc Cert.AdamUpKernelIdeal.main_v5) = v0 c
          ∧ r.2.mem ((c.tc : Thread Cert.AdamUpKernelIdeal.nD Cert.AdamUpKernelIdeal.τ).loc Cert.AdamUpKernelIdeal.main_v6) = v1 c
          ∧ r.2.mem ((c.tc : Thread Cert.AdamUpKernelIdeal.nD Cert.AdamUpKernelIdeal.τ).loc Cert.AdamUpKernelIdeal.main_v7) = v2 c
          ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
          ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
          ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
          ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDownKernel_AdamDownKernelIdeal : Prop :=
  True

def algebraic_AdamDownKernelIdeal_AdamDownReferenceIdeal [hAdamDownKernelIdeal : Cert.AdamDownKernelIdeal.Facts] [hAdamDownReferenceIdeal : Cert.AdamDownReferenceIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)) →
    ∃ (v0 : (c : Dev Cert.AdamDownKernelIdeal.nD) → Buf (Elt Ideal) ((c.tc : Thread Cert.AdamDownKernelIdeal.nD Cert.AdamDownKernelIdeal.τ).loc Cert.AdamDownKernelIdeal.main_v5)) (v1 : (c : Dev Cert.AdamDownKernelIdeal.nD) → Buf (Elt Ideal) ((c.tc : Thread Cert.AdamDownKernelIdeal.nD Cert.AdamDownKernelIdeal.τ).loc Cert.AdamDownKernelIdeal.main_v6)) (v2 : (c : Dev Cert.AdamDownKernelIdeal.nD) → Buf (Elt Ideal) ((c.tc : Thread Cert.AdamDownKernelIdeal.nD Cert.AdamDownKernelIdeal.τ).loc Cert.AdamDownKernelIdeal.main_v7)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v5) = v0 c
          ∧ r.2.mem ((c.tc : Thread Cert.AdamDownKernelIdeal.nD Cert.AdamDownKernelIdeal.τ).loc Cert.AdamDownKernelIdeal.main_v6) = v1 c
          ∧ r.2.mem ((c.tc : Thread Cert.AdamDownKernelIdeal.nD Cert.AdamDownKernelIdeal.τ).loc Cert.AdamDownKernelIdeal.main_v7) = v2 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)) →
    ∃ (v0 : (c : Dev Cert.AdamInKernelIdeal.nD) → Buf (Elt Ideal) ((c.tc : Thread Cert.AdamInKernelIdeal.nD Cert.AdamInKernelIdeal.τ).loc Cert.AdamInKernelIdeal.main_v5)) (v1 : (c : Dev Cert.AdamInKernelIdeal.nD) → Buf (Elt Ideal) ((c.tc : Thread Cert.AdamInKernelIdeal.nD Cert.AdamInKernelIdeal.τ).loc Cert.AdamInKernelIdeal.main_v6)) (v2 : (c : Dev Cert.AdamInKernelIdeal.nD) → Buf (Elt Ideal) ((c.tc : Thread Cert.AdamInKernelIdeal.nD Cert.AdamInKernelIdeal.τ).loc Cert.AdamInKernelIdeal.main_v7)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v5) = v0 c
          ∧ r.2.mem ((c.tc : Thread Cert.AdamInKernelIdeal.nD Cert.AdamInKernelIdeal.τ).loc Cert.AdamInKernelIdeal.main_v6) = v1 c
          ∧ r.2.mem ((c.tc : Thread Cert.AdamInKernelIdeal.nD Cert.AdamInKernelIdeal.τ).loc Cert.AdamInKernelIdeal.main_v7) = v2 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamUqKernel_AdamUqKernelIdeal : Prop :=
  True

def algebraic_AdamUqKernelIdeal_AdamUqReferenceIdeal [hAdamUqKernelIdeal : Cert.AdamUqKernelIdeal.Facts] [hAdamUqReferenceIdeal : Cert.AdamUqReferenceIdeal.Facts] : Prop :=
  ∀ (m : (ℓ : Loc Cert.AdamUqKernelIdeal.nD Cert.AdamUqKernelIdeal.τ Cert.AdamUqKernelIdeal.sig) → Buf (Elt Ideal) ℓ) (g : Dev Cert.AdamUqKernelIdeal.nD → PrngReg)
    (m' : (ℓ : Loc Cert.AdamUqReferenceIdeal.nD Cert.AdamUqReferenceIdeal.τ Cert.AdamUqReferenceIdeal.sig) → Buf (Elt Ideal) ℓ) (g' : Dev Cert.AdamUqReferenceIdeal.nD → PrngReg), Pre_AdamUqKernelIdeal m →
    (∀ c : Dev Cert.AdamUqKernelIdeal.nD,
      m' ((c.tc : Thread Cert.AdamUqReferenceIdeal.nD Cert.AdamUqReferenceIdeal.τ).loc Cert.AdamUqReferenceIdeal.main_arg0) = m ((c.tc : Thread Cert.AdamUqKernelIdeal.nD Cert.AdamUqKernelIdeal.τ).loc Cert.AdamUqKernelIdeal.main_arg0)
      ∧ m' ((c.tc : Thread Cert.AdamUqReferenceIdeal.nD Cert.AdamUqReferenceIdeal.τ).loc Cert.AdamUqReferenceIdeal.main_arg1) = m ((c.tc : Thread Cert.AdamUqKernelIdeal.nD Cert.AdamUqKernelIdeal.τ).loc Cert.AdamUqKernelIdeal.main_arg1)
      ∧ m' ((c.tc : Thread Cert.AdamUqReferenceIdeal.nD Cert.AdamUqReferenceIdeal.τ).loc Cert.AdamUqReferenceIdeal.main_arg2) = m ((c.tc : Thread Cert.AdamUqKernelIdeal.nD Cert.AdamUqKernelIdeal.τ).loc Cert.AdamUqKernelIdeal.main_arg2)
      ∧ m' ((c.tc : Thread Cert.AdamUqReferenceIdeal.nD Cert.AdamUqReferenceIdeal.τ).loc Cert.AdamUqReferenceIdeal.main_arg3) = m ((c.tc : Thread Cert.AdamUqKernelIdeal.nD Cert.AdamUqKernelIdeal.τ).loc Cert.AdamUqKernelIdeal.main_arg3)) →
    ∃ (v0 : (c : Dev Cert.AdamUqKernelIdeal.nD) → Buf (Elt Ideal) ((c.tc : Thread Cert.AdamUqKernelIdeal.nD Cert.AdamUqKernelIdeal.τ).loc Cert.AdamUqKernelIdeal.main_v5)) (v1 : (c : Dev Cert.AdamUqKernelIdeal.nD) → Buf (Elt Ideal) ((c.tc : Thread Cert.AdamUqKernelIdeal.nD Cert.AdamUqKernelIdeal.τ).loc Cert.AdamUqKernelIdeal.main_v6)) (v2 : (c : Dev Cert.AdamUqKernelIdeal.nD) → Buf (Elt Ideal) ((c.tc : Thread Cert.AdamUqKernelIdeal.nD Cert.AdamUqKernelIdeal.τ).loc Cert.AdamUqKernelIdeal.main_v7)),
      θ_run (Cert.AdamUqKernelIdeal.defs (F := Ideal)) (onTc (τ := Cert.AdamUqKernelIdeal.τ) (Cert.AdamUqKernelIdeal.main (F := Ideal))) ⟨m, fun _ => 0, g⟩ (fun r => ∀ c : Dev Cert.AdamUqKernelIdeal.nD,
          r.2.mem ((c.tc : Thread Cert.AdamUqKernelIdeal.nD Cert.AdamUqKernelIdeal.τ).loc Cert.AdamUqKernelIdeal.main_v5) = v0 c
          ∧ r.2.mem ((c.tc : Thread Cert.AdamUqKernelIdeal.nD Cert.AdamUqKernelIdeal.τ).loc Cert.AdamUqKernelIdeal.main_v6) = v1 c
          ∧ r.2.mem ((c.tc : Thread Cert.AdamUqKernelIdeal.nD Cert.AdamUqKernelIdeal.τ).loc Cert.AdamUqKernelIdeal.main_v7) = v2 c
          ∧ r.2.mem ((c.tc : Thread Cert.AdamUqKernelIdeal.nD Cert.AdamUqKernelIdeal.τ).loc Cert.AdamUqKernelIdeal.main_arg0) = m ((c.tc : Thread Cert.AdamUqKernelIdeal.nD Cert.AdamUqKernelIdeal.τ).loc Cert.AdamUqKernelIdeal.main_arg0)
          ∧ r.2.mem ((c.tc : Thread Cert.AdamUqKernelIdeal.nD Cert.AdamUqKernelIdeal.τ).loc Cert.AdamUqKernelIdeal.main_arg1) = m ((c.tc : Thread Cert.AdamUqKernelIdeal.nD Cert.AdamUqKernelIdeal.τ).loc Cert.AdamUqKernelIdeal.main_arg1)
          ∧ r.2.mem ((c.tc : Thread Cert.AdamUqKernelIdeal.nD Cert.AdamUqKernelIdeal.τ).loc Cert.AdamUqKernelIdeal.main_arg2) = m ((c.tc : Thread Cert.AdamUqKernelIdeal.nD Cert.AdamUqKernelIdeal.τ).loc Cert.AdamUqKernelIdeal.main_arg2)
          ∧ r.2.mem ((c.tc : Thread Cert.AdamUqKernelIdeal.nD Cert.AdamUqKernelIdeal.τ).loc Cert.AdamUqKernelIdeal.main_arg3) = m ((c.tc : Thread Cert.AdamUqKernelIdeal.nD Cert.AdamUqKernelIdeal.τ).loc Cert.AdamUqKernelIdeal.main_arg3))
      ∧ θ_run (Cert.AdamUqReferenceIdeal.defs (F := Ideal)) (onTc (τ := Cert.AdamUqReferenceIdeal.τ) (Cert.AdamUqReferenceIdeal.main (F := Ideal))) ⟨m', fun _ => 0, g'⟩ (fun r => ∀ c : Dev Cert.AdamUqReferenceIdeal.nD,
          r.2.mem ((c.tc : Thread Cert.AdamUqReferenceIdeal.nD Cert.AdamUqReferenceIdeal.τ).loc Cert.AdamUqReferenceIdeal.main_v23) = v0 c
          ∧ r.2.mem ((c.tc : Thread Cert.AdamUqReferenceIdeal.nD Cert.AdamUqReferenceIdeal.τ).loc Cert.AdamUqReferenceIdeal.main_v4) = v1 c
          ∧ r.2.mem ((c.tc : Thread Cert.AdamUqReferenceIdeal.nD Cert.AdamUqReferenceIdeal.τ).loc Cert.AdamUqReferenceIdeal.main_v10) = v2 c
          ∧ r.2.mem ((c.tc : Thread Cert.AdamUqReferenceIdeal.nD Cert.AdamUqReferenceIdeal.τ).loc Cert.AdamUqReferenceIdeal.main_arg0) = m' ((c.tc : Thread Cert.AdamUqReferenceIdeal.nD Cert.AdamUqReferenceIdeal.τ).loc Cert.AdamUqReferenceIdeal.main_arg0)
          ∧ r.2.mem ((c.tc : Thread Cert.AdamUqReferenceIdeal.nD Cert.AdamUqReferenceIdeal.τ).loc Cert.AdamUqReferenceIdeal.main_arg1) = m' ((c.tc : Thread Cert.AdamUqReferenceIdeal.nD Cert.AdamUqReferenceIdeal.τ).loc Cert.AdamUqReferenceIdeal.main_arg1)
          ∧ r.2.mem ((c.tc : Thread Cert.AdamUqReferenceIdeal.nD Cert.AdamUqReferenceIdeal.τ).loc Cert.AdamUqReferenceIdeal.main_arg2) = m' ((c.tc : Thread Cert.AdamUqReferenceIdeal.nD Cert.AdamUqReferenceIdeal.τ).loc Cert.AdamUqReferenceIdeal.main_arg2)
          ∧ r.2.mem ((c.tc : Thread Cert.AdamUqReferenceIdeal.nD Cert.AdamUqReferenceIdeal.τ).loc Cert.AdamUqReferenceIdeal.main_arg3) = m' ((c.tc : Thread Cert.AdamUqReferenceIdeal.nD Cert.AdamUqReferenceIdeal.τ).loc Cert.AdamUqReferenceIdeal.main_arg3))

def preserves_AdamUkvKernel_AdamUkvKernelIdeal : Prop :=
  True

def algebraic_AdamUkvKernelIdeal_AdamUkvReferenceIdeal [hAdamUkvKernelIdeal : Cert.AdamUkvKernelIdeal.Facts] [hAdamUkvReferenceIdeal : Cert.AdamUkvReferenceIdeal.Facts] : Prop :=
  ∀ (m : (ℓ : Loc Cert.AdamUkvKernelIdeal.nD Cert.AdamUkvKernelIdeal.τ Cert.AdamUkvKernelIdeal.sig) → Buf (Elt Ideal) ℓ) (g : Dev Cert.AdamUkvKernelIdeal.nD → PrngReg)
    (m' : (ℓ : Loc Cert.AdamUkvReferenceIdeal.nD Cert.AdamUkvReferenceIdeal.τ Cert.AdamUkvReferenceIdeal.sig) → Buf (Elt Ideal) ℓ) (g' : Dev Cert.AdamUkvReferenceIdeal.nD → PrngReg), Pre_AdamUkvKernelIdeal m →
    (∀ c : Dev Cert.AdamUkvKernelIdeal.nD,
      m' ((c.tc : Thread Cert.AdamUkvReferenceIdeal.nD Cert.AdamUkvReferenceIdeal.τ).loc Cert.AdamUkvReferenceIdeal.main_arg0) = m ((c.tc : Thread Cert.AdamUkvKernelIdeal.nD Cert.AdamUkvKernelIdeal.τ).loc Cert.AdamUkvKernelIdeal.main_arg0)
      ∧ m' ((c.tc : Thread Cert.AdamUkvReferenceIdeal.nD Cert.AdamUkvReferenceIdeal.τ).loc Cert.AdamUkvReferenceIdeal.main_arg1) = m ((c.tc : Thread Cert.AdamUkvKernelIdeal.nD Cert.AdamUkvKernelIdeal.τ).loc Cert.AdamUkvKernelIdeal.main_arg1)
      ∧ m' ((c.tc : Thread Cert.AdamUkvReferenceIdeal.nD Cert.AdamUkvReferenceIdeal.τ).loc Cert.AdamUkvReferenceIdeal.main_arg2) = m ((c.tc : Thread Cert.AdamUkvKernelIdeal.nD Cert.AdamUkvKernelIdeal.τ).loc Cert.AdamUkvKernelIdeal.main_arg2)
      ∧ m' ((c.tc : Thread Cert.AdamUkvReferenceIdeal.nD Cert.AdamUkvReferenceIdeal.τ).loc Cert.AdamUkvReferenceIdeal.main_arg3) = m ((c.tc : Thread Cert.AdamUkvKernelIdeal.nD Cert.AdamUkvKernelIdeal.τ).loc Cert.AdamUkvKernelIdeal.main_arg3)) →
    ∃ (v0 : (c : Dev Cert.AdamUkvKernelIdeal.nD) → Buf (Elt Ideal) ((c.tc : Thread Cert.AdamUkvKernelIdeal.nD Cert.AdamUkvKernelIdeal.τ).loc Cert.AdamUkvKernelIdeal.main_v5)) (v1 : (c : Dev Cert.AdamUkvKernelIdeal.nD) → Buf (Elt Ideal) ((c.tc : Thread Cert.AdamUkvKernelIdeal.nD Cert.AdamUkvKernelIdeal.τ).loc Cert.AdamUkvKernelIdeal.main_v6)) (v2 : (c : Dev Cert.AdamUkvKernelIdeal.nD) → Buf (Elt Ideal) ((c.tc : Thread Cert.AdamUkvKernelIdeal.nD Cert.AdamUkvKernelIdeal.τ).loc Cert.AdamUkvKernelIdeal.main_v7)),
      θ_run (Cert.AdamUkvKernelIdeal.defs (F := Ideal)) (onTc (τ := Cert.AdamUkvKernelIdeal.τ) (Cert.AdamUkvKernelIdeal.main (F := Ideal))) ⟨m, fun _ => 0, g⟩ (fun r => ∀ c : Dev Cert.AdamUkvKernelIdeal.nD,
          r.2.mem ((c.tc : Thread Cert.AdamUkvKernelIdeal.nD Cert.AdamUkvKernelIdeal.τ).loc Cert.AdamUkvKernelIdeal.main_v5) = v0 c
          ∧ r.2.mem ((c.tc : Thread Cert.AdamUkvKernelIdeal.nD Cert.AdamUkvKernelIdeal.τ).loc Cert.AdamUkvKernelIdeal.main_v6) = v1 c
          ∧ r.2.mem ((c.tc : Thread Cert.AdamUkvKernelIdeal.nD Cert.AdamUkvKernelIdeal.τ).loc Cert.AdamUkvKernelIdeal.main_v7) = v2 c
          ∧ r.2.mem ((c.tc : Thread Cert.AdamUkvKernelIdeal.nD Cert.AdamUkvKernelIdeal.τ).loc Cert.AdamUkvKernelIdeal.main_arg0) = m ((c.tc : Thread Cert.AdamUkvKernelIdeal.nD Cert.AdamUkvKernelIdeal.τ).loc Cert.AdamUkvKernelIdeal.main_arg0)
          ∧ r.2.mem ((c.tc : Thread Cert.AdamUkvKernelIdeal.nD Cert.AdamUkvKernelIdeal.τ).loc Cert.AdamUkvKernelIdeal.main_arg1) = m ((c.tc : Thread Cert.AdamUkvKernelIdeal.nD Cert.AdamUkvKernelIdeal.τ).loc Cert.AdamUkvKernelIdeal.main_arg1)
          ∧ r.2.mem ((c.tc : Thread Cert.AdamUkvKernelIdeal.nD Cert.AdamUkvKernelIdeal.τ).loc Cert.AdamUkvKernelIdeal.main_arg2) = m ((c.tc : Thread Cert.AdamUkvKernelIdeal.nD Cert.AdamUkvKernelIdeal.τ).loc Cert.AdamUkvKernelIdeal.main_arg2)
          ∧ r.2.mem ((c.tc : Thread Cert.AdamUkvKernelIdeal.nD Cert.AdamUkvKernelIdeal.τ).loc Cert.AdamUkvKernelIdeal.main_arg3) = m ((c.tc : Thread Cert.AdamUkvKernelIdeal.nD Cert.AdamUkvKernelIdeal.τ).loc Cert.AdamUkvKernelIdeal.main_arg3))
      ∧ θ_run (Cert.AdamUkvReferenceIdeal.defs (F := Ideal)) (onTc (τ := Cert.AdamUkvReferenceIdeal.τ) (Cert.AdamUkvReferenceIdeal.main (F := Ideal))) ⟨m', fun _ => 0, g'⟩ (fun r => ∀ c : Dev Cert.AdamUkvReferenceIdeal.nD,
          r.2.mem ((c.tc : Thread Cert.AdamUkvReferenceIdeal.nD Cert.AdamUkvReferenceIdeal.τ).loc Cert.AdamUkvReferenceIdeal.main_v23) = v0 c
          ∧ r.2.mem ((c.tc : Thread Cert.AdamUkvReferenceIdeal.nD Cert.AdamUkvReferenceIdeal.τ).loc Cert.AdamUkvReferenceIdeal.main_v4) = v1 c
          ∧ r.2.mem ((c.tc : Thread Cert.AdamUkvReferenceIdeal.nD Cert.AdamUkvReferenceIdeal.τ).loc Cert.AdamUkvReferenceIdeal.main_v10) = v2 c
          ∧ r.2.mem ((c.tc : Thread Cert.AdamUkvReferenceIdeal.nD Cert.AdamUkvReferenceIdeal.τ).loc Cert.AdamUkvReferenceIdeal.main_arg0) = m' ((c.tc : Thread Cert.AdamUkvReferenceIdeal.nD Cert.AdamUkvReferenceIdeal.τ).loc Cert.AdamUkvReferenceIdeal.main_arg0)
          ∧ r.2.mem ((c.tc : Thread Cert.AdamUkvReferenceIdeal.nD Cert.AdamUkvReferenceIdeal.τ).loc Cert.AdamUkvReferenceIdeal.main_arg1) = m' ((c.tc : Thread Cert.AdamUkvReferenceIdeal.nD Cert.AdamUkvReferenceIdeal.τ).loc Cert.AdamUkvReferenceIdeal.main_arg1)
          ∧ r.2.mem ((c.tc : Thread Cert.AdamUkvReferenceIdeal.nD Cert.AdamUkvReferenceIdeal.τ).loc Cert.AdamUkvReferenceIdeal.main_arg2) = m' ((c.tc : Thread Cert.AdamUkvReferenceIdeal.nD Cert.AdamUkvReferenceIdeal.τ).loc Cert.AdamUkvReferenceIdeal.main_arg2)
          ∧ r.2.mem ((c.tc : Thread Cert.AdamUkvReferenceIdeal.nD Cert.AdamUkvReferenceIdeal.τ).loc Cert.AdamUkvReferenceIdeal.main_arg3) = m' ((c.tc : Thread Cert.AdamUkvReferenceIdeal.nD Cert.AdamUkvReferenceIdeal.τ).loc Cert.AdamUkvReferenceIdeal.main_arg3))

def preserves_AdamGluKernel_AdamGluKernelIdeal : Prop :=
  True

def algebraic_AdamGluKernelIdeal_AdamGluReferenceIdeal [hAdamGluKernelIdeal : Cert.AdamGluKernelIdeal.Facts] [hAdamGluReferenceIdeal : Cert.AdamGluReferenceIdeal.Facts] : Prop :=
  ∀ (m : (ℓ : Loc Cert.AdamGluKernelIdeal.nD Cert.AdamGluKernelIdeal.τ Cert.AdamGluKernelIdeal.sig) → Buf (Elt Ideal) ℓ) (g : Dev Cert.AdamGluKernelIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluKernelIdeal m →
    (∀ c : Dev Cert.AdamGluKernelIdeal.nD,
      m' ((c.tc : Thread Cert.AdamGluReferenceIdeal.nD Cert.AdamGluReferenceIdeal.τ).loc Cert.AdamGluReferenceIdeal.main_arg0) = m ((c.tc : Thread Cert.AdamGluKernelIdeal.nD Cert.AdamGluKernelIdeal.τ).loc Cert.AdamGluKernelIdeal.main_arg0)
      ∧ m' ((c.tc : Thread Cert.AdamGluReferenceIdeal.nD Cert.AdamGluReferenceIdeal.τ).loc Cert.AdamGluReferenceIdeal.main_arg1) = m ((c.tc : Thread Cert.AdamGluKernelIdeal.nD Cert.AdamGluKernelIdeal.τ).loc Cert.AdamGluKernelIdeal.main_arg1)
      ∧ m' ((c.tc : Thread Cert.AdamGluReferenceIdeal.nD Cert.AdamGluReferenceIdeal.τ).loc Cert.AdamGluReferenceIdeal.main_arg2) = m ((c.tc : Thread Cert.AdamGluKernelIdeal.nD Cert.AdamGluKernelIdeal.τ).loc Cert.AdamGluKernelIdeal.main_arg2)
      ∧ m' ((c.tc : Thread Cert.AdamGluReferenceIdeal.nD Cert.AdamGluReferenceIdeal.τ).loc Cert.AdamGluReferenceIdeal.main_arg3) = m ((c.tc : Thread Cert.AdamGluKernelIdeal.nD Cert.AdamGluKernelIdeal.τ).loc Cert.AdamGluKernelIdeal.main_arg3)) →
    ∃ (v0 : (c : Dev Cert.AdamGluKernelIdeal.nD) → Buf (Elt Ideal) ((c.tc : Thread Cert.AdamGluKernelIdeal.nD Cert.AdamGluKernelIdeal.τ).loc Cert.AdamGluKernelIdeal.main_v5)) (v1 : (c : Dev Cert.AdamGluKernelIdeal.nD) → Buf (Elt Ideal) ((c.tc : Thread Cert.AdamGluKernelIdeal.nD Cert.AdamGluKernelIdeal.τ).loc Cert.AdamGluKernelIdeal.main_v6)) (v2 : (c : Dev Cert.AdamGluKernelIdeal.nD) → Buf (Elt Ideal) ((c.tc : Thread Cert.AdamGluKernelIdeal.nD Cert.AdamGluKernelIdeal.τ).loc Cert.AdamGluKernelIdeal.main_v7)),
      θ_run (Cert.AdamGluKernelIdeal.defs (F := Ideal)) (onTc (τ := Cert.AdamGluKernelIdeal.τ) (Cert.AdamGluKernelIdeal.main (F := Ideal))) ⟨m, fun _ => 0, g⟩ (fun r => ∀ c : Dev Cert.AdamGluKernelIdeal.nD,
          r.2.mem ((c.tc : Thread Cert.AdamGluKernelIdeal.nD Cert.AdamGluKernelIdeal.τ).loc Cert.AdamGluKernelIdeal.main_v5) = v0 c
          ∧ r.2.mem ((c.tc : Thread Cert.AdamGluKernelIdeal.nD Cert.AdamGluKernelIdeal.τ).loc Cert.AdamGluKernelIdeal.main_v6) = v1 c
          ∧ r.2.mem ((c.tc : Thread Cert.AdamGluKernelIdeal.nD Cert.AdamGluKernelIdeal.τ).loc Cert.AdamGluKernelIdeal.main_v7) = v2 c
          ∧ r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
          ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
          ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
          ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v23) = v0 c
          ∧ r.2.mem ((c.tc : Thread Cert.AdamGluReferenceIdeal.nD Cert.AdamGluReferenceIdeal.τ).loc Cert.AdamGluReferenceIdeal.main_v4) = v1 c
          ∧ r.2.mem ((c.tc : Thread Cert.AdamGluReferenceIdeal.nD Cert.AdamGluReferenceIdeal.τ).loc Cert.AdamGluReferenceIdeal.main_v10) = v2 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)) →
    ∃ (v0 : (c : Dev Cert.AdamOutKernelIdeal.nD) → Buf (Elt Ideal) ((c.tc : Thread Cert.AdamOutKernelIdeal.nD Cert.AdamOutKernelIdeal.τ).loc Cert.AdamOutKernelIdeal.main_v5)) (v1 : (c : Dev Cert.AdamOutKernelIdeal.nD) → Buf (Elt Ideal) ((c.tc : Thread Cert.AdamOutKernelIdeal.nD Cert.AdamOutKernelIdeal.τ).loc Cert.AdamOutKernelIdeal.main_v6)) (v2 : (c : Dev Cert.AdamOutKernelIdeal.nD) → Buf (Elt Ideal) ((c.tc : Thread Cert.AdamOutKernelIdeal.nD Cert.AdamOutKernelIdeal.τ).loc Cert.AdamOutKernelIdeal.main_v7)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v5) = v0 c
          ∧ r.2.mem ((c.tc : Thread Cert.AdamOutKernelIdeal.nD Cert.AdamOutKernelIdeal.τ).loc Cert.AdamOutKernelIdeal.main_v6) = v1 c
          ∧ r.2.mem ((c.tc : Thread Cert.AdamOutKernelIdeal.nD Cert.AdamOutKernelIdeal.τ).loc Cert.AdamOutKernelIdeal.main_v7) = v2 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamSmallKernel_AdamSmallKernelIdeal : Prop :=
  True

def algebraic_AdamSmallKernelIdeal_AdamSmallReferenceIdeal [hAdamSmallKernelIdeal : Cert.AdamSmallKernelIdeal.Facts] [hAdamSmallReferenceIdeal : Cert.AdamSmallReferenceIdeal.Facts] : Prop :=
  ∀ (m : (ℓ : Loc Cert.AdamSmallKernelIdeal.nD Cert.AdamSmallKernelIdeal.τ Cert.AdamSmallKernelIdeal.sig) → Buf (Elt Ideal) ℓ) (g : Dev Cert.AdamSmallKernelIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallKernelIdeal m →
    (∀ c : Dev Cert.AdamSmallKernelIdeal.nD,
      m' ((c.tc : Thread Cert.AdamSmallReferenceIdeal.nD Cert.AdamSmallReferenceIdeal.τ).loc Cert.AdamSmallReferenceIdeal.main_arg0) = m ((c.tc : Thread Cert.AdamSmallKernelIdeal.nD Cert.AdamSmallKernelIdeal.τ).loc Cert.AdamSmallKernelIdeal.main_arg0)
      ∧ m' ((c.tc : Thread Cert.AdamSmallReferenceIdeal.nD Cert.AdamSmallReferenceIdeal.τ).loc Cert.AdamSmallReferenceIdeal.main_arg1) = m ((c.tc : Thread Cert.AdamSmallKernelIdeal.nD Cert.AdamSmallKernelIdeal.τ).loc Cert.AdamSmallKernelIdeal.main_arg1)
      ∧ m' ((c.tc : Thread Cert.AdamSmallReferenceIdeal.nD Cert.AdamSmallReferenceIdeal.τ).loc Cert.AdamSmallReferenceIdeal.main_arg2) = m ((c.tc : Thread Cert.AdamSmallKernelIdeal.nD Cert.AdamSmallKernelIdeal.τ).loc Cert.AdamSmallKernelIdeal.main_arg2)
      ∧ m' ((c.tc : Thread Cert.AdamSmallReferenceIdeal.nD Cert.AdamSmallReferenceIdeal.τ).loc Cert.AdamSmallReferenceIdeal.main_arg3) = m ((c.tc : Thread Cert.AdamSmallKernelIdeal.nD Cert.AdamSmallKernelIdeal.τ).loc Cert.AdamSmallKernelIdeal.main_arg3)) →
    ∃ (v0 : (c : Dev Cert.AdamSmallKernelIdeal.nD) → Buf (Elt Ideal) ((c.tc : Thread Cert.AdamSmallKernelIdeal.nD Cert.AdamSmallKernelIdeal.τ).loc Cert.AdamSmallKernelIdeal.main_v0_0)) (v1 : (c : Dev Cert.AdamSmallKernelIdeal.nD) → Buf (Elt Ideal) ((c.tc : Thread Cert.AdamSmallKernelIdeal.nD Cert.AdamSmallKernelIdeal.τ).loc Cert.AdamSmallKernelIdeal.main_v0_1)) (v2 : (c : Dev Cert.AdamSmallKernelIdeal.nD) → Buf (Elt Ideal) ((c.tc : Thread Cert.AdamSmallKernelIdeal.nD Cert.AdamSmallKernelIdeal.τ).loc Cert.AdamSmallKernelIdeal.main_v0_2)),
      θ_run (Cert.AdamSmallKernelIdeal.defs (F := Ideal)) (onTc (τ := Cert.AdamSmallKernelIdeal.τ) (Cert.AdamSmallKernelIdeal.main (F := Ideal))) ⟨m, fun _ => 0, g⟩ (fun r => ∀ c : Dev Cert.AdamSmallKernelIdeal.nD,
          r.2.mem ((c.tc : Thread Cert.AdamSmallKernelIdeal.nD Cert.AdamSmallKernelIdeal.τ).loc Cert.AdamSmallKernelIdeal.main_v0_0) = v0 c
          ∧ r.2.mem ((c.tc : Thread Cert.AdamSmallKernelIdeal.nD Cert.AdamSmallKernelIdeal.τ).loc Cert.AdamSmallKernelIdeal.main_v0_1) = v1 c
          ∧ r.2.mem ((c.tc : Thread Cert.AdamSmallKernelIdeal.nD Cert.AdamSmallKernelIdeal.τ).loc Cert.AdamSmallKernelIdeal.main_v0_2) = v2 c
          ∧ r.2.mem ((c.tc : Thread Cert.AdamSmallKernelIdeal.nD Cert.AdamSmallKernelIdeal.τ).loc Cert.AdamSmallKernelIdeal.main_arg0) = m ((c.tc : Thread Cert.AdamSmallKernelIdeal.nD Cert.AdamSmallKernelIdeal.τ).loc Cert.AdamSmallKernelIdeal.main_arg0)
          ∧ r.2.mem ((c.tc : Thread Cert.AdamSmallKernelIdeal.nD Cert.AdamSmallKernelIdeal.τ).loc Cert.AdamSmallKernelIdeal.main_arg1) = m ((c.tc : Thread Cert.AdamSmallKernelIdeal.nD Cert.AdamSmallKernelIdeal.τ).loc Cert.AdamSmallKernelIdeal.main_arg1)
          ∧ r.2.mem ((c.tc : Thread Cert.AdamSmallKernelIdeal.nD Cert.AdamSmallKernelIdeal.τ).loc Cert.AdamSmallKernelIdeal.main_arg2) = m ((c.tc : Thread Cert.AdamSmallKernelIdeal.nD Cert.AdamSmallKernelIdeal.τ).loc Cert.AdamSmallKernelIdeal.main_arg2)
          ∧ r.2.mem ((c.tc : Thread Cert.AdamSmallKernelIdeal.nD Cert.AdamSmallKernelIdeal.τ).loc Cert.AdamSmallKernelIdeal.main_arg3) = m ((c.tc : Thread Cert.AdamSmallKernelIdeal.nD Cert.AdamSmallKernelIdeal.τ).loc Cert.AdamSmallKernelIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_SumFfnKernel_SumFfnKernelIdeal : Prop :=
  True

def algebraic_SumFfnKernelIdeal_SumFfnReferenceIdeal [hSumFfnKernelIdeal : Cert.SumFfnKernelIdeal.Facts] [hSumFfnReferenceIdeal : Cert.SumFfnReferenceIdeal.Facts] : Prop :=
  ∀ (m : (ℓ : Loc Cert.SumFfnKernelIdeal.nD Cert.SumFfnKernelIdeal.τ Cert.SumFfnKernelIdeal.sig) → Buf (Elt Ideal) ℓ) (g : Dev Cert.SumFfnKernelIdeal.nD → PrngReg)
    (m' : (ℓ : Loc Cert.SumFfnReferenceIdeal.nD Cert.SumFfnReferenceIdeal.τ Cert.SumFfnReferenceIdeal.sig) → Buf (Elt Ideal) ℓ) (g' : Dev Cert.SumFfnReferenceIdeal.nD → PrngReg), Pre_SumFfnKernelIdeal m →
    (∀ c : Dev Cert.SumFfnKernelIdeal.nD,
      m' ((c.tc : Thread Cert.SumFfnReferenceIdeal.nD Cert.SumFfnReferenceIdeal.τ).loc Cert.SumFfnReferenceIdeal.main_arg0) = m ((c.tc : Thread Cert.SumFfnKernelIdeal.nD Cert.SumFfnKernelIdeal.τ).loc Cert.SumFfnKernelIdeal.main_arg0)) →
    ∃ (v0 : (c : Dev Cert.SumFfnKernelIdeal.nD) → Buf (Elt Ideal) ((c.tc : Thread Cert.SumFfnKernelIdeal.nD Cert.SumFfnKernelIdeal.τ).loc Cert.SumFfnKernelIdeal.main_v1)),
      θ_run (Cert.SumFfnKernelIdeal.defs (F := Ideal)) (onTc (τ := Cert.SumFfnKernelIdeal.τ) (Cert.SumFfnKernelIdeal.main (F := Ideal))) ⟨m, fun _ => 0, g⟩ (fun r => ∀ c : Dev Cert.SumFfnKernelIdeal.nD,
          r.2.mem ((c.tc : Thread Cert.SumFfnKernelIdeal.nD Cert.SumFfnKernelIdeal.τ).loc Cert.SumFfnKernelIdeal.main_v1) = v0 c
          ∧ r.2.mem ((c.tc : Thread Cert.SumFfnKernelIdeal.nD Cert.SumFfnKernelIdeal.τ).loc Cert.SumFfnKernelIdeal.main_arg0) = m ((c.tc : Thread Cert.SumFfnKernelIdeal.nD Cert.SumFfnKernelIdeal.τ).loc Cert.SumFfnKernelIdeal.main_arg0))
      ∧ θ_run (Cert.SumFfnReferenceIdeal.defs (F := Ideal)) (onTc (τ := Cert.SumFfnReferenceIdeal.τ) (Cert.SumFfnReferenceIdeal.main (F := Ideal))) ⟨m', fun _ => 0, g'⟩ (fun r => ∀ c : Dev Cert.SumFfnReferenceIdeal.nD,
          r.2.mem ((c.tc : Thread Cert.SumFfnReferenceIdeal.nD Cert.SumFfnReferenceIdeal.τ).loc Cert.SumFfnReferenceIdeal.main_v0) = v0 c
          ∧ r.2.mem ((c.tc : Thread Cert.SumFfnReferenceIdeal.nD Cert.SumFfnReferenceIdeal.τ).loc Cert.SumFfnReferenceIdeal.main_arg0) = m' ((c.tc : Thread Cert.SumFfnReferenceIdeal.nD Cert.SumFfnReferenceIdeal.τ).loc Cert.SumFfnReferenceIdeal.main_arg0))

def preserves_SumInKernel_SumInKernelIdeal : Prop :=
  True

def algebraic_SumInKernelIdeal_SumInReferenceIdeal [hSumInKernelIdeal : Cert.SumInKernelIdeal.Facts] [hSumInReferenceIdeal : Cert.SumInReferenceIdeal.Facts] : Prop :=
  ∀ (m : (ℓ : Loc Cert.SumInKernelIdeal.nD Cert.SumInKernelIdeal.τ Cert.SumInKernelIdeal.sig) → Buf (Elt Ideal) ℓ) (g : Dev Cert.SumInKernelIdeal.nD → PrngReg)
    (m' : (ℓ : Loc Cert.SumInReferenceIdeal.nD Cert.SumInReferenceIdeal.τ Cert.SumInReferenceIdeal.sig) → Buf (Elt Ideal) ℓ) (g' : Dev Cert.SumInReferenceIdeal.nD → PrngReg), Pre_SumInKernelIdeal m →
    (∀ c : Dev Cert.SumInKernelIdeal.nD,
      m' ((c.tc : Thread Cert.SumInReferenceIdeal.nD Cert.SumInReferenceIdeal.τ).loc Cert.SumInReferenceIdeal.main_arg0) = m ((c.tc : Thread Cert.SumInKernelIdeal.nD Cert.SumInKernelIdeal.τ).loc Cert.SumInKernelIdeal.main_arg0)) →
    ∃ (v0 : (c : Dev Cert.SumInKernelIdeal.nD) → Buf (Elt Ideal) ((c.tc : Thread Cert.SumInKernelIdeal.nD Cert.SumInKernelIdeal.τ).loc Cert.SumInKernelIdeal.main_v1)),
      θ_run (Cert.SumInKernelIdeal.defs (F := Ideal)) (onTc (τ := Cert.SumInKernelIdeal.τ) (Cert.SumInKernelIdeal.main (F := Ideal))) ⟨m, fun _ => 0, g⟩ (fun r => ∀ c : Dev Cert.SumInKernelIdeal.nD,
          r.2.mem ((c.tc : Thread Cert.SumInKernelIdeal.nD Cert.SumInKernelIdeal.τ).loc Cert.SumInKernelIdeal.main_v1) = v0 c
          ∧ r.2.mem ((c.tc : Thread Cert.SumInKernelIdeal.nD Cert.SumInKernelIdeal.τ).loc Cert.SumInKernelIdeal.main_arg0) = m ((c.tc : Thread Cert.SumInKernelIdeal.nD Cert.SumInKernelIdeal.τ).loc Cert.SumInKernelIdeal.main_arg0))
      ∧ θ_run (Cert.SumInReferenceIdeal.defs (F := Ideal)) (onTc (τ := Cert.SumInReferenceIdeal.τ) (Cert.SumInReferenceIdeal.main (F := Ideal))) ⟨m', fun _ => 0, g'⟩ (fun r => ∀ c : Dev Cert.SumInReferenceIdeal.nD,
          r.2.mem ((c.tc : Thread Cert.SumInReferenceIdeal.nD Cert.SumInReferenceIdeal.τ).loc Cert.SumInReferenceIdeal.main_v0) = v0 c
          ∧ r.2.mem ((c.tc : Thread Cert.SumInReferenceIdeal.nD Cert.SumInReferenceIdeal.τ).loc Cert.SumInReferenceIdeal.main_arg0) = m' ((c.tc : Thread Cert.SumInReferenceIdeal.nD Cert.SumInReferenceIdeal.τ).loc Cert.SumInReferenceIdeal.main_arg0))

def preserves_SumUqKernel_SumUqKernelIdeal : Prop :=
  True

def algebraic_SumUqKernelIdeal_SumUqReferenceIdeal [hSumUqKernelIdeal : Cert.SumUqKernelIdeal.Facts] [hSumUqReferenceIdeal : Cert.SumUqReferenceIdeal.Facts] : Prop :=
  ∀ (m : (ℓ : Loc Cert.SumUqKernelIdeal.nD Cert.SumUqKernelIdeal.τ Cert.SumUqKernelIdeal.sig) → Buf (Elt Ideal) ℓ) (g : Dev Cert.SumUqKernelIdeal.nD → PrngReg)
    (m' : (ℓ : Loc Cert.SumUqReferenceIdeal.nD Cert.SumUqReferenceIdeal.τ Cert.SumUqReferenceIdeal.sig) → Buf (Elt Ideal) ℓ) (g' : Dev Cert.SumUqReferenceIdeal.nD → PrngReg), Pre_SumUqKernelIdeal m →
    (∀ c : Dev Cert.SumUqKernelIdeal.nD,
      m' ((c.tc : Thread Cert.SumUqReferenceIdeal.nD Cert.SumUqReferenceIdeal.τ).loc Cert.SumUqReferenceIdeal.main_arg0) = m ((c.tc : Thread Cert.SumUqKernelIdeal.nD Cert.SumUqKernelIdeal.τ).loc Cert.SumUqKernelIdeal.main_arg0)) →
    ∃ (v0 : (c : Dev Cert.SumUqKernelIdeal.nD) → Buf (Elt Ideal) ((c.tc : Thread Cert.SumUqKernelIdeal.nD Cert.SumUqKernelIdeal.τ).loc Cert.SumUqKernelIdeal.main_v1)),
      θ_run (Cert.SumUqKernelIdeal.defs (F := Ideal)) (onTc (τ := Cert.SumUqKernelIdeal.τ) (Cert.SumUqKernelIdeal.main (F := Ideal))) ⟨m, fun _ => 0, g⟩ (fun r => ∀ c : Dev Cert.SumUqKernelIdeal.nD,
          r.2.mem ((c.tc : Thread Cert.SumUqKernelIdeal.nD Cert.SumUqKernelIdeal.τ).loc Cert.SumUqKernelIdeal.main_v1) = v0 c
          ∧ r.2.mem ((c.tc : Thread Cert.SumUqKernelIdeal.nD Cert.SumUqKernelIdeal.τ).loc Cert.SumUqKernelIdeal.main_arg0) = m ((c.tc : Thread Cert.SumUqKernelIdeal.nD Cert.SumUqKernelIdeal.τ).loc Cert.SumUqKernelIdeal.main_arg0))
      ∧ θ_run (Cert.SumUqReferenceIdeal.defs (F := Ideal)) (onTc (τ := Cert.SumUqReferenceIdeal.τ) (Cert.SumUqReferenceIdeal.main (F := Ideal))) ⟨m', fun _ => 0, g'⟩ (fun r => ∀ c : Dev Cert.SumUqReferenceIdeal.nD,
          r.2.mem ((c.tc : Thread Cert.SumUqReferenceIdeal.nD Cert.SumUqReferenceIdeal.τ).loc Cert.SumUqReferenceIdeal.main_v0) = v0 c
          ∧ r.2.mem ((c.tc : Thread Cert.SumUqReferenceIdeal.nD Cert.SumUqReferenceIdeal.τ).loc Cert.SumUqReferenceIdeal.main_arg0) = m' ((c.tc : Thread Cert.SumUqReferenceIdeal.nD Cert.SumUqReferenceIdeal.τ).loc Cert.SumUqReferenceIdeal.main_arg0))

def preserves_SumUkvKernel_SumUkvKernelIdeal : Prop :=
  True

def algebraic_SumUkvKernelIdeal_SumUkvReferenceIdeal [hSumUkvKernelIdeal : Cert.SumUkvKernelIdeal.Facts] [hSumUkvReferenceIdeal : Cert.SumUkvReferenceIdeal.Facts] : Prop :=
  ∀ (m : (ℓ : Loc Cert.SumUkvKernelIdeal.nD Cert.SumUkvKernelIdeal.τ Cert.SumUkvKernelIdeal.sig) → Buf (Elt Ideal) ℓ) (g : Dev Cert.SumUkvKernelIdeal.nD → PrngReg)
    (m' : (ℓ : Loc Cert.SumUkvReferenceIdeal.nD Cert.SumUkvReferenceIdeal.τ Cert.SumUkvReferenceIdeal.sig) → Buf (Elt Ideal) ℓ) (g' : Dev Cert.SumUkvReferenceIdeal.nD → PrngReg), Pre_SumUkvKernelIdeal m →
    (∀ c : Dev Cert.SumUkvKernelIdeal.nD,
      m' ((c.tc : Thread Cert.SumUkvReferenceIdeal.nD Cert.SumUkvReferenceIdeal.τ).loc Cert.SumUkvReferenceIdeal.main_arg0) = m ((c.tc : Thread Cert.SumUkvKernelIdeal.nD Cert.SumUkvKernelIdeal.τ).loc Cert.SumUkvKernelIdeal.main_arg0)) →
    ∃ (v0 : (c : Dev Cert.SumUkvKernelIdeal.nD) → Buf (Elt Ideal) ((c.tc : Thread Cert.SumUkvKernelIdeal.nD Cert.SumUkvKernelIdeal.τ).loc Cert.SumUkvKernelIdeal.main_v1)),
      θ_run (Cert.SumUkvKernelIdeal.defs (F := Ideal)) (onTc (τ := Cert.SumUkvKernelIdeal.τ) (Cert.SumUkvKernelIdeal.main (F := Ideal))) ⟨m, fun _ => 0, g⟩ (fun r => ∀ c : Dev Cert.SumUkvKernelIdeal.nD,
          r.2.mem ((c.tc : Thread Cert.SumUkvKernelIdeal.nD Cert.SumUkvKernelIdeal.τ).loc Cert.SumUkvKernelIdeal.main_v1) = v0 c
          ∧ r.2.mem ((c.tc : Thread Cert.SumUkvKernelIdeal.nD Cert.SumUkvKernelIdeal.τ).loc Cert.SumUkvKernelIdeal.main_arg0) = m ((c.tc : Thread Cert.SumUkvKernelIdeal.nD Cert.SumUkvKernelIdeal.τ).loc Cert.SumUkvKernelIdeal.main_arg0))
      ∧ θ_run (Cert.SumUkvReferenceIdeal.defs (F := Ideal)) (onTc (τ := Cert.SumUkvReferenceIdeal.τ) (Cert.SumUkvReferenceIdeal.main (F := Ideal))) ⟨m', fun _ => 0, g'⟩ (fun r => ∀ c : Dev Cert.SumUkvReferenceIdeal.nD,
          r.2.mem ((c.tc : Thread Cert.SumUkvReferenceIdeal.nD Cert.SumUkvReferenceIdeal.τ).loc Cert.SumUkvReferenceIdeal.main_v0) = v0 c
          ∧ r.2.mem ((c.tc : Thread Cert.SumUkvReferenceIdeal.nD Cert.SumUkvReferenceIdeal.τ).loc Cert.SumUkvReferenceIdeal.main_arg0) = m' ((c.tc : Thread Cert.SumUkvReferenceIdeal.nD Cert.SumUkvReferenceIdeal.τ).loc Cert.SumUkvReferenceIdeal.main_arg0))

def preserves_SumOutKernel_SumOutKernelIdeal : Prop :=
  True

def algebraic_SumOutKernelIdeal_SumOutReferenceIdeal [hSumOutKernelIdeal : Cert.SumOutKernelIdeal.Facts] [hSumOutReferenceIdeal : Cert.SumOutReferenceIdeal.Facts] : Prop :=
  ∀ (m : (ℓ : Loc Cert.SumOutKernelIdeal.nD Cert.SumOutKernelIdeal.τ Cert.SumOutKernelIdeal.sig) → Buf (Elt Ideal) ℓ) (g : Dev Cert.SumOutKernelIdeal.nD → PrngReg)
    (m' : (ℓ : Loc Cert.SumOutReferenceIdeal.nD Cert.SumOutReferenceIdeal.τ Cert.SumOutReferenceIdeal.sig) → Buf (Elt Ideal) ℓ) (g' : Dev Cert.SumOutReferenceIdeal.nD → PrngReg), Pre_SumOutKernelIdeal m →
    (∀ c : Dev Cert.SumOutKernelIdeal.nD,
      m' ((c.tc : Thread Cert.SumOutReferenceIdeal.nD Cert.SumOutReferenceIdeal.τ).loc Cert.SumOutReferenceIdeal.main_arg0) = m ((c.tc : Thread Cert.SumOutKernelIdeal.nD Cert.SumOutKernelIdeal.τ).loc Cert.SumOutKernelIdeal.main_arg0)) →
    ∃ (v0 : (c : Dev Cert.SumOutKernelIdeal.nD) → Buf (Elt Ideal) ((c.tc : Thread Cert.SumOutKernelIdeal.nD Cert.SumOutKernelIdeal.τ).loc Cert.SumOutKernelIdeal.main_v1)),
      θ_run (Cert.SumOutKernelIdeal.defs (F := Ideal)) (onTc (τ := Cert.SumOutKernelIdeal.τ) (Cert.SumOutKernelIdeal.main (F := Ideal))) ⟨m, fun _ => 0, g⟩ (fun r => ∀ c : Dev Cert.SumOutKernelIdeal.nD,
          r.2.mem ((c.tc : Thread Cert.SumOutKernelIdeal.nD Cert.SumOutKernelIdeal.τ).loc Cert.SumOutKernelIdeal.main_v1) = v0 c
          ∧ r.2.mem ((c.tc : Thread Cert.SumOutKernelIdeal.nD Cert.SumOutKernelIdeal.τ).loc Cert.SumOutKernelIdeal.main_arg0) = m ((c.tc : Thread Cert.SumOutKernelIdeal.nD Cert.SumOutKernelIdeal.τ).loc Cert.SumOutKernelIdeal.main_arg0))
      ∧ θ_run (Cert.SumOutReferenceIdeal.defs (F := Ideal)) (onTc (τ := Cert.SumOutReferenceIdeal.τ) (Cert.SumOutReferenceIdeal.main (F := Ideal))) ⟨m', fun _ => 0, g'⟩ (fun r => ∀ c : Dev Cert.SumOutReferenceIdeal.nD,
          r.2.mem ((c.tc : Thread Cert.SumOutReferenceIdeal.nD Cert.SumOutReferenceIdeal.τ).loc Cert.SumOutReferenceIdeal.main_v0) = v0 c
          ∧ r.2.mem ((c.tc : Thread Cert.SumOutReferenceIdeal.nD Cert.SumOutReferenceIdeal.τ).loc Cert.SumOutReferenceIdeal.main_arg0) = m' ((c.tc : Thread Cert.SumOutReferenceIdeal.nD Cert.SumOutReferenceIdeal.τ).loc Cert.SumOutReferenceIdeal.main_arg0))

def preserves_SumSmallKernel_SumSmallKernelIdeal : Prop :=
  True

def algebraic_SumSmallKernelIdeal_SumSmallReferenceIdeal [hSumSmallKernelIdeal : Cert.SumSmallKernelIdeal.Facts] [hSumSmallReferenceIdeal : Cert.SumSmallReferenceIdeal.Facts] : Prop :=
  ∀ (m : (ℓ : Loc Cert.SumSmallKernelIdeal.nD Cert.SumSmallKernelIdeal.τ Cert.SumSmallKernelIdeal.sig) → Buf (Elt Ideal) ℓ) (g : Dev Cert.SumSmallKernelIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallKernelIdeal m →
    (∀ c : Dev Cert.SumSmallKernelIdeal.nD,
      m' ((c.tc : Thread Cert.SumSmallReferenceIdeal.nD Cert.SumSmallReferenceIdeal.τ).loc Cert.SumSmallReferenceIdeal.main_arg0) = m ((c.tc : Thread Cert.SumSmallKernelIdeal.nD Cert.SumSmallKernelIdeal.τ).loc Cert.SumSmallKernelIdeal.main_arg0)) →
    ∃ (v0 : (c : Dev Cert.SumSmallKernelIdeal.nD) → Buf (Elt Ideal) ((c.tc : Thread Cert.SumSmallKernelIdeal.nD Cert.SumSmallKernelIdeal.τ).loc Cert.SumSmallKernelIdeal.main_v0)),
      θ_run (Cert.SumSmallKernelIdeal.defs (F := Ideal)) (onTc (τ := Cert.SumSmallKernelIdeal.τ) (Cert.SumSmallKernelIdeal.main (F := Ideal))) ⟨m, fun _ => 0, g⟩ (fun r => ∀ c : Dev Cert.SumSmallKernelIdeal.nD,
          r.2.mem ((c.tc : Thread Cert.SumSmallKernelIdeal.nD Cert.SumSmallKernelIdeal.τ).loc Cert.SumSmallKernelIdeal.main_v0) = v0 c
          ∧ r.2.mem ((c.tc : Thread Cert.SumSmallKernelIdeal.nD Cert.SumSmallKernelIdeal.τ).loc Cert.SumSmallKernelIdeal.main_arg0) = m ((c.tc : Thread Cert.SumSmallKernelIdeal.nD Cert.SumSmallKernelIdeal.τ).loc Cert.SumSmallKernelIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_UqKernel_UqKernelIdeal : Prop :=
  True

def algebraic_UqKernelIdeal_UqReferenceIdeal [hUqKernelIdeal : Cert.UqKernelIdeal.Facts] [hUqReferenceIdeal : Cert.UqReferenceIdeal.Facts] : Prop :=
  ∀ (m : (ℓ : Loc Cert.UqKernelIdeal.nD Cert.UqKernelIdeal.τ Cert.UqKernelIdeal.sig) → Buf (Elt Ideal) ℓ) (g : Dev Cert.UqKernelIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqKernelIdeal m →
    (∀ c : Dev Cert.UqKernelIdeal.nD,
      m' ((c.tc : Thread Cert.UqReferenceIdeal.nD Cert.UqReferenceIdeal.τ).loc Cert.UqReferenceIdeal.main_arg0) = m ((c.tc : Thread Cert.UqKernelIdeal.nD Cert.UqKernelIdeal.τ).loc Cert.UqKernelIdeal.main_arg0)
      ∧ m' ((c.tc : Thread Cert.UqReferenceIdeal.nD Cert.UqReferenceIdeal.τ).loc Cert.UqReferenceIdeal.main_arg1) = m ((c.tc : Thread Cert.UqKernelIdeal.nD Cert.UqKernelIdeal.τ).loc Cert.UqKernelIdeal.main_arg1)) →
    ∃ (v0 : (c : Dev Cert.UqKernelIdeal.nD) → Buf (Elt Ideal) ((c.tc : Thread Cert.UqKernelIdeal.nD Cert.UqKernelIdeal.τ).loc Cert.UqKernelIdeal.main_v18)),
      θ_run (Cert.UqKernelIdeal.defs (F := Ideal)) (onTc (τ := Cert.UqKernelIdeal.τ) (Cert.UqKernelIdeal.main (F := Ideal))) ⟨m, fun _ => 0, g⟩ (fun r => ∀ c : Dev Cert.UqKernelIdeal.nD,
          r.2.mem ((c.tc : Thread Cert.UqKernelIdeal.nD Cert.UqKernelIdeal.τ).loc Cert.UqKernelIdeal.main_v18) = v0 c
          ∧ r.2.mem ((c.tc : Thread Cert.UqKernelIdeal.nD Cert.UqKernelIdeal.τ).loc Cert.UqKernelIdeal.main_arg0) = m ((c.tc : Thread Cert.UqKernelIdeal.nD Cert.UqKernelIdeal.τ).loc Cert.UqKernelIdeal.main_arg0)
          ∧ r.2.mem ((c.tc : Thread Cert.UqKernelIdeal.nD Cert.UqKernelIdeal.τ).loc Cert.UqKernelIdeal.main_arg1) = m ((c.tc : Thread Cert.UqKernelIdeal.nD Cert.UqKernelIdeal.τ).loc Cert.UqKernelIdeal.main_arg1))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v0) = v0 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1))

def preserves_UqDwKernel_UqDwKernelIdeal : Prop :=
  True

def algebraic_UqDwKernelIdeal_UqDwReferenceIdeal [hUqDwKernelIdeal : Cert.UqDwKernelIdeal.Facts] [hUqDwReferenceIdeal : Cert.UqDwReferenceIdeal.Facts] : Prop :=
  ∀ (m : (ℓ : Loc Cert.UqDwKernelIdeal.nD Cert.UqDwKernelIdeal.τ Cert.UqDwKernelIdeal.sig) → Buf (Elt Ideal) ℓ) (g : Dev Cert.UqDwKernelIdeal.nD → PrngReg)
    (m' : (ℓ : Loc Cert.UqDwReferenceIdeal.nD Cert.UqDwReferenceIdeal.τ Cert.UqDwReferenceIdeal.sig) → Buf (Elt Ideal) ℓ) (g' : Dev Cert.UqDwReferenceIdeal.nD → PrngReg), Pre_UqDwKernelIdeal m →
    (∀ c : Dev Cert.UqDwKernelIdeal.nD,
      m' ((c.tc : Thread Cert.UqDwReferenceIdeal.nD Cert.UqDwReferenceIdeal.τ).loc Cert.UqDwReferenceIdeal.main_arg0) = m ((c.tc : Thread Cert.UqDwKernelIdeal.nD Cert.UqDwKernelIdeal.τ).loc Cert.UqDwKernelIdeal.main_arg0)
      ∧ m' ((c.tc : Thread Cert.UqDwReferenceIdeal.nD Cert.UqDwReferenceIdeal.τ).loc Cert.UqDwReferenceIdeal.main_arg1) = m ((c.tc : Thread Cert.UqDwKernelIdeal.nD Cert.UqDwKernelIdeal.τ).loc Cert.UqDwKernelIdeal.main_arg1)) →
    ∃ (v0 : (c : Dev Cert.UqDwKernelIdeal.nD) → Buf (Elt Ideal) ((c.tc : Thread Cert.UqDwKernelIdeal.nD Cert.UqDwKernelIdeal.τ).loc Cert.UqDwKernelIdeal.main_v18)),
      θ_run (Cert.UqDwKernelIdeal.defs (F := Ideal)) (onTc (τ := Cert.UqDwKernelIdeal.τ) (Cert.UqDwKernelIdeal.main (F := Ideal))) ⟨m, fun _ => 0, g⟩ (fun r => ∀ c : Dev Cert.UqDwKernelIdeal.nD,
          r.2.mem ((c.tc : Thread Cert.UqDwKernelIdeal.nD Cert.UqDwKernelIdeal.τ).loc Cert.UqDwKernelIdeal.main_v18) = v0 c
          ∧ r.2.mem ((c.tc : Thread Cert.UqDwKernelIdeal.nD Cert.UqDwKernelIdeal.τ).loc Cert.UqDwKernelIdeal.main_arg0) = m ((c.tc : Thread Cert.UqDwKernelIdeal.nD Cert.UqDwKernelIdeal.τ).loc Cert.UqDwKernelIdeal.main_arg0)
          ∧ r.2.mem ((c.tc : Thread Cert.UqDwKernelIdeal.nD Cert.UqDwKernelIdeal.τ).loc Cert.UqDwKernelIdeal.main_arg1) = m ((c.tc : Thread Cert.UqDwKernelIdeal.nD Cert.UqDwKernelIdeal.τ).loc Cert.UqDwKernelIdeal.main_arg1))
      ∧ θ_run (Cert.UqDwReferenceIdeal.defs (F := Ideal)) (onTc (τ := Cert.UqDwReferenceIdeal.τ) (Cert.UqDwReferenceIdeal.main (F := Ideal))) ⟨m', fun _ => 0, g'⟩ (fun r => ∀ c : Dev Cert.UqDwReferenceIdeal.nD,
          r.2.mem ((c.tc : Thread Cert.UqDwReferenceIdeal.nD Cert.UqDwReferenceIdeal.τ).loc Cert.UqDwReferenceIdeal.main_v1) = v0 c
          ∧ r.2.mem ((c.tc : Thread Cert.UqDwReferenceIdeal.nD Cert.UqDwReferenceIdeal.τ).loc Cert.UqDwReferenceIdeal.main_arg0) = m' ((c.tc : Thread Cert.UqDwReferenceIdeal.nD Cert.UqDwReferenceIdeal.τ).loc Cert.UqDwReferenceIdeal.main_arg0)
          ∧ r.2.mem ((c.tc : Thread Cert.UqDwReferenceIdeal.nD Cert.UqDwReferenceIdeal.τ).loc Cert.UqDwReferenceIdeal.main_arg1) = m' ((c.tc : Thread Cert.UqDwReferenceIdeal.nD Cert.UqDwReferenceIdeal.τ).loc Cert.UqDwReferenceIdeal.main_arg1))

def preserves_UqDxKernel_UqDxKernelIdeal : Prop :=
  True

def algebraic_UqDxKernelIdeal_UqDxReferenceIdeal [hUqDxKernelIdeal : Cert.UqDxKernelIdeal.Facts] [hUqDxReferenceIdeal : Cert.UqDxReferenceIdeal.Facts] : Prop :=
  ∀ (m : (ℓ : Loc Cert.UqDxKernelIdeal.nD Cert.UqDxKernelIdeal.τ Cert.UqDxKernelIdeal.sig) → Buf (Elt Ideal) ℓ) (g : Dev Cert.UqDxKernelIdeal.nD → PrngReg)
    (m' : (ℓ : Loc Cert.UqDxReferenceIdeal.nD Cert.UqDxReferenceIdeal.τ Cert.UqDxReferenceIdeal.sig) → Buf (Elt Ideal) ℓ) (g' : Dev Cert.UqDxReferenceIdeal.nD → PrngReg), Pre_UqDxKernelIdeal m →
    (∀ c : Dev Cert.UqDxKernelIdeal.nD,
      m' ((c.tc : Thread Cert.UqDxReferenceIdeal.nD Cert.UqDxReferenceIdeal.τ).loc Cert.UqDxReferenceIdeal.main_arg0) = m ((c.tc : Thread Cert.UqDxKernelIdeal.nD Cert.UqDxKernelIdeal.τ).loc Cert.UqDxKernelIdeal.main_arg0)
      ∧ m' ((c.tc : Thread Cert.UqDxReferenceIdeal.nD Cert.UqDxReferenceIdeal.τ).loc Cert.UqDxReferenceIdeal.main_arg1) = m ((c.tc : Thread Cert.UqDxKernelIdeal.nD Cert.UqDxKernelIdeal.τ).loc Cert.UqDxKernelIdeal.main_arg1)) →
    ∃ (v0 : (c : Dev Cert.UqDxKernelIdeal.nD) → Buf (Elt Ideal) ((c.tc : Thread Cert.UqDxKernelIdeal.nD Cert.UqDxKernelIdeal.τ).loc Cert.UqDxKernelIdeal.main_v18)),
      θ_run (Cert.UqDxKernelIdeal.defs (F := Ideal)) (onTc (τ := Cert.UqDxKernelIdeal.τ) (Cert.UqDxKernelIdeal.main (F := Ideal))) ⟨m, fun _ => 0, g⟩ (fun r => ∀ c : Dev Cert.UqDxKernelIdeal.nD,
          r.2.mem ((c.tc : Thread Cert.UqDxKernelIdeal.nD Cert.UqDxKernelIdeal.τ).loc Cert.UqDxKernelIdeal.main_v18) = v0 c
          ∧ r.2.mem ((c.tc : Thread Cert.UqDxKernelIdeal.nD Cert.UqDxKernelIdeal.τ).loc Cert.UqDxKernelIdeal.main_arg0) = m ((c.tc : Thread Cert.UqDxKernelIdeal.nD Cert.UqDxKernelIdeal.τ).loc Cert.UqDxKernelIdeal.main_arg0)
          ∧ r.2.mem ((c.tc : Thread Cert.UqDxKernelIdeal.nD Cert.UqDxKernelIdeal.τ).loc Cert.UqDxKernelIdeal.main_arg1) = m ((c.tc : Thread Cert.UqDxKernelIdeal.nD Cert.UqDxKernelIdeal.τ).loc Cert.UqDxKernelIdeal.main_arg1))
      ∧ θ_run (Cert.UqDxReferenceIdeal.defs (F := Ideal)) (onTc (τ := Cert.UqDxReferenceIdeal.τ) (Cert.UqDxReferenceIdeal.main (F := Ideal))) ⟨m', fun _ => 0, g'⟩ (fun r => ∀ c : Dev Cert.UqDxReferenceIdeal.nD,
          r.2.mem ((c.tc : Thread Cert.UqDxReferenceIdeal.nD Cert.UqDxReferenceIdeal.τ).loc Cert.UqDxReferenceIdeal.main_v1) = v0 c
          ∧ r.2.mem ((c.tc : Thread Cert.UqDxReferenceIdeal.nD Cert.UqDxReferenceIdeal.τ).loc Cert.UqDxReferenceIdeal.main_arg0) = m' ((c.tc : Thread Cert.UqDxReferenceIdeal.nD Cert.UqDxReferenceIdeal.τ).loc Cert.UqDxReferenceIdeal.main_arg0)
          ∧ r.2.mem ((c.tc : Thread Cert.UqDxReferenceIdeal.nD Cert.UqDxReferenceIdeal.τ).loc Cert.UqDxReferenceIdeal.main_arg1) = m' ((c.tc : Thread Cert.UqDxReferenceIdeal.nD Cert.UqDxReferenceIdeal.τ).loc Cert.UqDxReferenceIdeal.main_arg1))

def preserves_UkvKernel_UkvKernelIdeal : Prop :=
  True

def algebraic_UkvKernelIdeal_UkvReferenceIdeal [hUkvKernelIdeal : Cert.UkvKernelIdeal.Facts] [hUkvReferenceIdeal : Cert.UkvReferenceIdeal.Facts] : Prop :=
  ∀ (m : (ℓ : Loc Cert.UkvKernelIdeal.nD Cert.UkvKernelIdeal.τ Cert.UkvKernelIdeal.sig) → Buf (Elt Ideal) ℓ) (g : Dev Cert.UkvKernelIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvKernelIdeal m →
    (∀ c : Dev Cert.UkvKernelIdeal.nD,
      m' ((c.tc : Thread Cert.UkvReferenceIdeal.nD Cert.UkvReferenceIdeal.τ).loc Cert.UkvReferenceIdeal.main_arg0) = m ((c.tc : Thread Cert.UkvKernelIdeal.nD Cert.UkvKernelIdeal.τ).loc Cert.UkvKernelIdeal.main_arg0)
      ∧ m' ((c.tc : Thread Cert.UkvReferenceIdeal.nD Cert.UkvReferenceIdeal.τ).loc Cert.UkvReferenceIdeal.main_arg1) = m ((c.tc : Thread Cert.UkvKernelIdeal.nD Cert.UkvKernelIdeal.τ).loc Cert.UkvKernelIdeal.main_arg1)) →
    ∃ (v0 : (c : Dev Cert.UkvKernelIdeal.nD) → Buf (Elt Ideal) ((c.tc : Thread Cert.UkvKernelIdeal.nD Cert.UkvKernelIdeal.τ).loc Cert.UkvKernelIdeal.main_v14)),
      θ_run (Cert.UkvKernelIdeal.defs (F := Ideal)) (onTc (τ := Cert.UkvKernelIdeal.τ) (Cert.UkvKernelIdeal.main (F := Ideal))) ⟨m, fun _ => 0, g⟩ (fun r => ∀ c : Dev Cert.UkvKernelIdeal.nD,
          r.2.mem ((c.tc : Thread Cert.UkvKernelIdeal.nD Cert.UkvKernelIdeal.τ).loc Cert.UkvKernelIdeal.main_v14) = v0 c
          ∧ r.2.mem ((c.tc : Thread Cert.UkvKernelIdeal.nD Cert.UkvKernelIdeal.τ).loc Cert.UkvKernelIdeal.main_arg0) = m ((c.tc : Thread Cert.UkvKernelIdeal.nD Cert.UkvKernelIdeal.τ).loc Cert.UkvKernelIdeal.main_arg0)
          ∧ r.2.mem ((c.tc : Thread Cert.UkvKernelIdeal.nD Cert.UkvKernelIdeal.τ).loc Cert.UkvKernelIdeal.main_arg1) = m ((c.tc : Thread Cert.UkvKernelIdeal.nD Cert.UkvKernelIdeal.τ).loc Cert.UkvKernelIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v0) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_UkvDwKernel_UkvDwKernelIdeal : Prop :=
  True

def algebraic_UkvDwKernelIdeal_UkvDwReferenceIdeal [hUkvDwKernelIdeal : Cert.UkvDwKernelIdeal.Facts] [hUkvDwReferenceIdeal : Cert.UkvDwReferenceIdeal.Facts] : Prop :=
  ∀ (m : (ℓ : Loc Cert.UkvDwKernelIdeal.nD Cert.UkvDwKernelIdeal.τ Cert.UkvDwKernelIdeal.sig) → Buf (Elt Ideal) ℓ) (g : Dev Cert.UkvDwKernelIdeal.nD → PrngReg)
    (m' : (ℓ : Loc Cert.UkvDwReferenceIdeal.nD Cert.UkvDwReferenceIdeal.τ Cert.UkvDwReferenceIdeal.sig) → Buf (Elt Ideal) ℓ) (g' : Dev Cert.UkvDwReferenceIdeal.nD → PrngReg), Pre_UkvDwKernelIdeal m →
    (∀ c : Dev Cert.UkvDwKernelIdeal.nD,
      m' ((c.tc : Thread Cert.UkvDwReferenceIdeal.nD Cert.UkvDwReferenceIdeal.τ).loc Cert.UkvDwReferenceIdeal.main_arg0) = m ((c.tc : Thread Cert.UkvDwKernelIdeal.nD Cert.UkvDwKernelIdeal.τ).loc Cert.UkvDwKernelIdeal.main_arg0)
      ∧ m' ((c.tc : Thread Cert.UkvDwReferenceIdeal.nD Cert.UkvDwReferenceIdeal.τ).loc Cert.UkvDwReferenceIdeal.main_arg1) = m ((c.tc : Thread Cert.UkvDwKernelIdeal.nD Cert.UkvDwKernelIdeal.τ).loc Cert.UkvDwKernelIdeal.main_arg1)) →
    ∃ (v0 : (c : Dev Cert.UkvDwKernelIdeal.nD) → Buf (Elt Ideal) ((c.tc : Thread Cert.UkvDwKernelIdeal.nD Cert.UkvDwKernelIdeal.τ).loc Cert.UkvDwKernelIdeal.main_v14)),
      θ_run (Cert.UkvDwKernelIdeal.defs (F := Ideal)) (onTc (τ := Cert.UkvDwKernelIdeal.τ) (Cert.UkvDwKernelIdeal.main (F := Ideal))) ⟨m, fun _ => 0, g⟩ (fun r => ∀ c : Dev Cert.UkvDwKernelIdeal.nD,
          r.2.mem ((c.tc : Thread Cert.UkvDwKernelIdeal.nD Cert.UkvDwKernelIdeal.τ).loc Cert.UkvDwKernelIdeal.main_v14) = v0 c
          ∧ r.2.mem ((c.tc : Thread Cert.UkvDwKernelIdeal.nD Cert.UkvDwKernelIdeal.τ).loc Cert.UkvDwKernelIdeal.main_arg0) = m ((c.tc : Thread Cert.UkvDwKernelIdeal.nD Cert.UkvDwKernelIdeal.τ).loc Cert.UkvDwKernelIdeal.main_arg0)
          ∧ r.2.mem ((c.tc : Thread Cert.UkvDwKernelIdeal.nD Cert.UkvDwKernelIdeal.τ).loc Cert.UkvDwKernelIdeal.main_arg1) = m ((c.tc : Thread Cert.UkvDwKernelIdeal.nD Cert.UkvDwKernelIdeal.τ).loc Cert.UkvDwKernelIdeal.main_arg1))
      ∧ θ_run (Cert.UkvDwReferenceIdeal.defs (F := Ideal)) (onTc (τ := Cert.UkvDwReferenceIdeal.τ) (Cert.UkvDwReferenceIdeal.main (F := Ideal))) ⟨m', fun _ => 0, g'⟩ (fun r => ∀ c : Dev Cert.UkvDwReferenceIdeal.nD,
          r.2.mem ((c.tc : Thread Cert.UkvDwReferenceIdeal.nD Cert.UkvDwReferenceIdeal.τ).loc Cert.UkvDwReferenceIdeal.main_v1) = v0 c
          ∧ r.2.mem ((c.tc : Thread Cert.UkvDwReferenceIdeal.nD Cert.UkvDwReferenceIdeal.τ).loc Cert.UkvDwReferenceIdeal.main_arg0) = m' ((c.tc : Thread Cert.UkvDwReferenceIdeal.nD Cert.UkvDwReferenceIdeal.τ).loc Cert.UkvDwReferenceIdeal.main_arg0)
          ∧ r.2.mem ((c.tc : Thread Cert.UkvDwReferenceIdeal.nD Cert.UkvDwReferenceIdeal.τ).loc Cert.UkvDwReferenceIdeal.main_arg1) = m' ((c.tc : Thread Cert.UkvDwReferenceIdeal.nD Cert.UkvDwReferenceIdeal.τ).loc Cert.UkvDwReferenceIdeal.main_arg1))

def preserves_UkvDxKernel_UkvDxKernelIdeal : Prop :=
  True

def algebraic_UkvDxKernelIdeal_UkvDxReferenceIdeal [hUkvDxKernelIdeal : Cert.UkvDxKernelIdeal.Facts] [hUkvDxReferenceIdeal : Cert.UkvDxReferenceIdeal.Facts] : Prop :=
  ∀ (m : (ℓ : Loc Cert.UkvDxKernelIdeal.nD Cert.UkvDxKernelIdeal.τ Cert.UkvDxKernelIdeal.sig) → Buf (Elt Ideal) ℓ) (g : Dev Cert.UkvDxKernelIdeal.nD → PrngReg)
    (m' : (ℓ : Loc Cert.UkvDxReferenceIdeal.nD Cert.UkvDxReferenceIdeal.τ Cert.UkvDxReferenceIdeal.sig) → Buf (Elt Ideal) ℓ) (g' : Dev Cert.UkvDxReferenceIdeal.nD → PrngReg), Pre_UkvDxKernelIdeal m →
    (∀ c : Dev Cert.UkvDxKernelIdeal.nD,
      m' ((c.tc : Thread Cert.UkvDxReferenceIdeal.nD Cert.UkvDxReferenceIdeal.τ).loc Cert.UkvDxReferenceIdeal.main_arg0) = m ((c.tc : Thread Cert.UkvDxKernelIdeal.nD Cert.UkvDxKernelIdeal.τ).loc Cert.UkvDxKernelIdeal.main_arg0)
      ∧ m' ((c.tc : Thread Cert.UkvDxReferenceIdeal.nD Cert.UkvDxReferenceIdeal.τ).loc Cert.UkvDxReferenceIdeal.main_arg1) = m ((c.tc : Thread Cert.UkvDxKernelIdeal.nD Cert.UkvDxKernelIdeal.τ).loc Cert.UkvDxKernelIdeal.main_arg1)) →
    ∃ (v0 : (c : Dev Cert.UkvDxKernelIdeal.nD) → Buf (Elt Ideal) ((c.tc : Thread Cert.UkvDxKernelIdeal.nD Cert.UkvDxKernelIdeal.τ).loc Cert.UkvDxKernelIdeal.main_v14)),
      θ_run (Cert.UkvDxKernelIdeal.defs (F := Ideal)) (onTc (τ := Cert.UkvDxKernelIdeal.τ) (Cert.UkvDxKernelIdeal.main (F := Ideal))) ⟨m, fun _ => 0, g⟩ (fun r => ∀ c : Dev Cert.UkvDxKernelIdeal.nD,
          r.2.mem ((c.tc : Thread Cert.UkvDxKernelIdeal.nD Cert.UkvDxKernelIdeal.τ).loc Cert.UkvDxKernelIdeal.main_v14) = v0 c
          ∧ r.2.mem ((c.tc : Thread Cert.UkvDxKernelIdeal.nD Cert.UkvDxKernelIdeal.τ).loc Cert.UkvDxKernelIdeal.main_arg0) = m ((c.tc : Thread Cert.UkvDxKernelIdeal.nD Cert.UkvDxKernelIdeal.τ).loc Cert.UkvDxKernelIdeal.main_arg0)
          ∧ r.2.mem ((c.tc : Thread Cert.UkvDxKernelIdeal.nD Cert.UkvDxKernelIdeal.τ).loc Cert.UkvDxKernelIdeal.main_arg1) = m ((c.tc : Thread Cert.UkvDxKernelIdeal.nD Cert.UkvDxKernelIdeal.τ).loc Cert.UkvDxKernelIdeal.main_arg1))
      ∧ θ_run (Cert.UkvDxReferenceIdeal.defs (F := Ideal)) (onTc (τ := Cert.UkvDxReferenceIdeal.τ) (Cert.UkvDxReferenceIdeal.main (F := Ideal))) ⟨m', fun _ => 0, g'⟩ (fun r => ∀ c : Dev Cert.UkvDxReferenceIdeal.nD,
          r.2.mem ((c.tc : Thread Cert.UkvDxReferenceIdeal.nD Cert.UkvDxReferenceIdeal.τ).loc Cert.UkvDxReferenceIdeal.main_v1) = v0 c
          ∧ r.2.mem ((c.tc : Thread Cert.UkvDxReferenceIdeal.nD Cert.UkvDxReferenceIdeal.τ).loc Cert.UkvDxReferenceIdeal.main_arg0) = m' ((c.tc : Thread Cert.UkvDxReferenceIdeal.nD Cert.UkvDxReferenceIdeal.τ).loc Cert.UkvDxReferenceIdeal.main_arg0)
          ∧ r.2.mem ((c.tc : Thread Cert.UkvDxReferenceIdeal.nD Cert.UkvDxReferenceIdeal.τ).loc Cert.UkvDxReferenceIdeal.main_arg1) = m' ((c.tc : Thread Cert.UkvDxReferenceIdeal.nD Cert.UkvDxReferenceIdeal.τ).loc Cert.UkvDxReferenceIdeal.main_arg1))

def preserves_FfnLnKernel_FfnLnKernelIdeal : Prop :=
  True

def algebraic_FfnLnKernelIdeal_FfnLnReferenceIdeal [hFfnLnKernelIdeal : Cert.FfnLnKernelIdeal.Facts] [hFfnLnReferenceIdeal : Cert.FfnLnReferenceIdeal.Facts] : Prop :=
  ∀ (m : (ℓ : Loc Cert.FfnLnKernelIdeal.nD Cert.FfnLnKernelIdeal.τ Cert.FfnLnKernelIdeal.sig) → Buf (Elt Ideal) ℓ) (g : Dev Cert.FfnLnKernelIdeal.nD → PrngReg)
    (m' : (ℓ : Loc Cert.FfnLnReferenceIdeal.nD Cert.FfnLnReferenceIdeal.τ Cert.FfnLnReferenceIdeal.sig) → Buf (Elt Ideal) ℓ) (g' : Dev Cert.FfnLnReferenceIdeal.nD → PrngReg), Pre_FfnLnKernelIdeal m →
    (∀ c : Dev Cert.FfnLnKernelIdeal.nD,
      m' ((c.tc : Thread Cert.FfnLnReferenceIdeal.nD Cert.FfnLnReferenceIdeal.τ).loc Cert.FfnLnReferenceIdeal.main_arg0) = m ((c.tc : Thread Cert.FfnLnKernelIdeal.nD Cert.FfnLnKernelIdeal.τ).loc Cert.FfnLnKernelIdeal.main_arg0)
      ∧ m' ((c.tc : Thread Cert.FfnLnReferenceIdeal.nD Cert.FfnLnReferenceIdeal.τ).loc Cert.FfnLnReferenceIdeal.main_arg1) = m ((c.tc : Thread Cert.FfnLnKernelIdeal.nD Cert.FfnLnKernelIdeal.τ).loc Cert.FfnLnKernelIdeal.main_arg1)
      ∧ m' ((c.tc : Thread Cert.FfnLnReferenceIdeal.nD Cert.FfnLnReferenceIdeal.τ).loc Cert.FfnLnReferenceIdeal.main_arg2) = m ((c.tc : Thread Cert.FfnLnKernelIdeal.nD Cert.FfnLnKernelIdeal.τ).loc Cert.FfnLnKernelIdeal.main_arg2)
      ∧ m' ((c.tc : Thread Cert.FfnLnReferenceIdeal.nD Cert.FfnLnReferenceIdeal.τ).loc Cert.FfnLnReferenceIdeal.main_arg3) = m ((c.tc : Thread Cert.FfnLnKernelIdeal.nD Cert.FfnLnKernelIdeal.τ).loc Cert.FfnLnKernelIdeal.main_arg3)) →
    ∃ (v0 : (c : Dev Cert.FfnLnKernelIdeal.nD) → Buf (Elt Ideal) ((c.tc : Thread Cert.FfnLnKernelIdeal.nD Cert.FfnLnKernelIdeal.τ).loc Cert.FfnLnKernelIdeal.main_v2_0)) (v1 : (c : Dev Cert.FfnLnKernelIdeal.nD) → Buf (Elt Ideal) ((c.tc : Thread Cert.FfnLnKernelIdeal.nD Cert.FfnLnKernelIdeal.τ).loc Cert.FfnLnKernelIdeal.main_v2_1)) (v2 : (c : Dev Cert.FfnLnKernelIdeal.nD) → Buf (Elt Ideal) ((c.tc : Thread Cert.FfnLnKernelIdeal.nD Cert.FfnLnKernelIdeal.τ).loc Cert.FfnLnKernelIdeal.main_v3)) (v3 : (c : Dev Cert.FfnLnKernelIdeal.nD) → Buf (Elt Ideal) ((c.tc : Thread Cert.FfnLnKernelIdeal.nD Cert.FfnLnKernelIdeal.τ).loc Cert.FfnLnKernelIdeal.main_v4)),
      θ_run (Cert.FfnLnKernelIdeal.defs (F := Ideal)) (onTc (τ := Cert.FfnLnKernelIdeal.τ) (Cert.FfnLnKernelIdeal.main (F := Ideal))) ⟨m, fun _ => 0, g⟩ (fun r => ∀ c : Dev Cert.FfnLnKernelIdeal.nD,
          r.2.mem ((c.tc : Thread Cert.FfnLnKernelIdeal.nD Cert.FfnLnKernelIdeal.τ).loc Cert.FfnLnKernelIdeal.main_v2_0) = v0 c
          ∧ r.2.mem ((c.tc : Thread Cert.FfnLnKernelIdeal.nD Cert.FfnLnKernelIdeal.τ).loc Cert.FfnLnKernelIdeal.main_v2_1) = v1 c
          ∧ r.2.mem ((c.tc : Thread Cert.FfnLnKernelIdeal.nD Cert.FfnLnKernelIdeal.τ).loc Cert.FfnLnKernelIdeal.main_v3) = v2 c
          ∧ r.2.mem ((c.tc : Thread Cert.FfnLnKernelIdeal.nD Cert.FfnLnKernelIdeal.τ).loc Cert.FfnLnKernelIdeal.main_v4) = v3 c
          ∧ r.2.mem ((c.tc : Thread Cert.FfnLnKernelIdeal.nD Cert.FfnLnKernelIdeal.τ).loc Cert.FfnLnKernelIdeal.main_arg0) = m ((c.tc : Thread Cert.FfnLnKernelIdeal.nD Cert.FfnLnKernelIdeal.τ).loc Cert.FfnLnKernelIdeal.main_arg0)
          ∧ r.2.mem ((c.tc : Thread Cert.FfnLnKernelIdeal.nD Cert.FfnLnKernelIdeal.τ).loc Cert.FfnLnKernelIdeal.main_arg1) = m ((c.tc : Thread Cert.FfnLnKernelIdeal.nD Cert.FfnLnKernelIdeal.τ).loc Cert.FfnLnKernelIdeal.main_arg1)
          ∧ r.2.mem ((c.tc : Thread Cert.FfnLnKernelIdeal.nD Cert.FfnLnKernelIdeal.τ).loc Cert.FfnLnKernelIdeal.main_arg2) = m ((c.tc : Thread Cert.FfnLnKernelIdeal.nD Cert.FfnLnKernelIdeal.τ).loc Cert.FfnLnKernelIdeal.main_arg2)
          ∧ r.2.mem ((c.tc : Thread Cert.FfnLnKernelIdeal.nD Cert.FfnLnKernelIdeal.τ).loc Cert.FfnLnKernelIdeal.main_arg3) = m ((c.tc : Thread Cert.FfnLnKernelIdeal.nD Cert.FfnLnKernelIdeal.τ).loc Cert.FfnLnKernelIdeal.main_arg3))
      ∧ θ_run (Cert.FfnLnReferenceIdeal.defs (F := Ideal)) (onTc (τ := Cert.FfnLnReferenceIdeal.τ) (Cert.FfnLnReferenceIdeal.main (F := Ideal))) ⟨m', fun _ => 0, g'⟩ (fun r => ∀ c : Dev Cert.FfnLnReferenceIdeal.nD,
          r.2.mem ((c.tc : Thread Cert.FfnLnReferenceIdeal.nD Cert.FfnLnReferenceIdeal.τ).loc Cert.FfnLnReferenceIdeal.main_v62) = v0 c
          ∧ r.2.mem ((c.tc : Thread Cert.FfnLnReferenceIdeal.nD Cert.FfnLnReferenceIdeal.τ).loc Cert.FfnLnReferenceIdeal.main_v65) = v1 c
          ∧ r.2.mem ((c.tc : Thread Cert.FfnLnReferenceIdeal.nD Cert.FfnLnReferenceIdeal.τ).loc Cert.FfnLnReferenceIdeal.main_v38) = v2 c
          ∧ r.2.mem ((c.tc : Thread Cert.FfnLnReferenceIdeal.nD Cert.FfnLnReferenceIdeal.τ).loc Cert.FfnLnReferenceIdeal.main_v32) = v3 c
          ∧ r.2.mem ((c.tc : Thread Cert.FfnLnReferenceIdeal.nD Cert.FfnLnReferenceIdeal.τ).loc Cert.FfnLnReferenceIdeal.main_arg0) = m' ((c.tc : Thread Cert.FfnLnReferenceIdeal.nD Cert.FfnLnReferenceIdeal.τ).loc Cert.FfnLnReferenceIdeal.main_arg0)
          ∧ r.2.mem ((c.tc : Thread Cert.FfnLnReferenceIdeal.nD Cert.FfnLnReferenceIdeal.τ).loc Cert.FfnLnReferenceIdeal.main_arg1) = m' ((c.tc : Thread Cert.FfnLnReferenceIdeal.nD Cert.FfnLnReferenceIdeal.τ).loc Cert.FfnLnReferenceIdeal.main_arg1)
          ∧ r.2.mem ((c.tc : Thread Cert.FfnLnReferenceIdeal.nD Cert.FfnLnReferenceIdeal.τ).loc Cert.FfnLnReferenceIdeal.main_arg2) = m' ((c.tc : Thread Cert.FfnLnReferenceIdeal.nD Cert.FfnLnReferenceIdeal.τ).loc Cert.FfnLnReferenceIdeal.main_arg2)
          ∧ r.2.mem ((c.tc : Thread Cert.FfnLnReferenceIdeal.nD Cert.FfnLnReferenceIdeal.τ).loc Cert.FfnLnReferenceIdeal.main_arg3) = m' ((c.tc : Thread Cert.FfnLnReferenceIdeal.nD Cert.FfnLnReferenceIdeal.τ).loc Cert.FfnLnReferenceIdeal.main_arg3))

def preserves_MixLnKernel_MixLnKernelIdeal : Prop :=
  True

def algebraic_MixLnKernelIdeal_MixLnReferenceIdeal [hMixLnKernelIdeal : Cert.MixLnKernelIdeal.Facts] [hMixLnReferenceIdeal : Cert.MixLnReferenceIdeal.Facts] : Prop :=
  ∀ (m : (ℓ : Loc Cert.MixLnKernelIdeal.nD Cert.MixLnKernelIdeal.τ Cert.MixLnKernelIdeal.sig) → Buf (Elt Ideal) ℓ) (g : Dev Cert.MixLnKernelIdeal.nD → PrngReg)
    (m' : (ℓ : Loc Cert.MixLnReferenceIdeal.nD Cert.MixLnReferenceIdeal.τ Cert.MixLnReferenceIdeal.sig) → Buf (Elt Ideal) ℓ) (g' : Dev Cert.MixLnReferenceIdeal.nD → PrngReg), Pre_MixLnKernelIdeal m →
    (∀ c : Dev Cert.MixLnKernelIdeal.nD,
      m' ((c.tc : Thread Cert.MixLnReferenceIdeal.nD Cert.MixLnReferenceIdeal.τ).loc Cert.MixLnReferenceIdeal.main_arg0) = m ((c.tc : Thread Cert.MixLnKernelIdeal.nD Cert.MixLnKernelIdeal.τ).loc Cert.MixLnKernelIdeal.main_arg0)
      ∧ m' ((c.tc : Thread Cert.MixLnReferenceIdeal.nD Cert.MixLnReferenceIdeal.τ).loc Cert.MixLnReferenceIdeal.main_arg1) = m ((c.tc : Thread Cert.MixLnKernelIdeal.nD Cert.MixLnKernelIdeal.τ).loc Cert.MixLnKernelIdeal.main_arg1)
      ∧ m' ((c.tc : Thread Cert.MixLnReferenceIdeal.nD Cert.MixLnReferenceIdeal.τ).loc Cert.MixLnReferenceIdeal.main_arg2) = m ((c.tc : Thread Cert.MixLnKernelIdeal.nD Cert.MixLnKernelIdeal.τ).loc Cert.MixLnKernelIdeal.main_arg2)
      ∧ m' ((c.tc : Thread Cert.MixLnReferenceIdeal.nD Cert.MixLnReferenceIdeal.τ).loc Cert.MixLnReferenceIdeal.main_arg3) = m ((c.tc : Thread Cert.MixLnKernelIdeal.nD Cert.MixLnKernelIdeal.τ).loc Cert.MixLnKernelIdeal.main_arg3)) →
    ∃ (v0 : (c : Dev Cert.MixLnKernelIdeal.nD) → Buf (Elt Ideal) ((c.tc : Thread Cert.MixLnKernelIdeal.nD Cert.MixLnKernelIdeal.τ).loc Cert.MixLnKernelIdeal.main_v2_0)) (v1 : (c : Dev Cert.MixLnKernelIdeal.nD) → Buf (Elt Ideal) ((c.tc : Thread Cert.MixLnKernelIdeal.nD Cert.MixLnKernelIdeal.τ).loc Cert.MixLnKernelIdeal.main_v2_1)) (v2 : (c : Dev Cert.MixLnKernelIdeal.nD) → Buf (Elt Ideal) ((c.tc : Thread Cert.MixLnKernelIdeal.nD Cert.MixLnKernelIdeal.τ).loc Cert.MixLnKernelIdeal.main_v3)) (v3 : (c : Dev Cert.MixLnKernelIdeal.nD) → Buf (Elt Ideal) ((c.tc : Thread Cert.MixLnKernelIdeal.nD Cert.MixLnKernelIdeal.τ).loc Cert.MixLnKernelIdeal.main_v4)),
      θ_run (Cert.MixLnKernelIdeal.defs (F := Ideal)) (onTc (τ := Cert.MixLnKernelIdeal.τ) (Cert.MixLnKernelIdeal.main (F := Ideal))) ⟨m, fun _ => 0, g⟩ (fun r => ∀ c : Dev Cert.MixLnKernelIdeal.nD,
          r.2.mem ((c.tc : Thread Cert.MixLnKernelIdeal.nD Cert.MixLnKernelIdeal.τ).loc Cert.MixLnKernelIdeal.main_v2_0) = v0 c
          ∧ r.2.mem ((c.tc : Thread Cert.MixLnKernelIdeal.nD Cert.MixLnKernelIdeal.τ).loc Cert.MixLnKernelIdeal.main_v2_1) = v1 c
          ∧ r.2.mem ((c.tc : Thread Cert.MixLnKernelIdeal.nD Cert.MixLnKernelIdeal.τ).loc Cert.MixLnKernelIdeal.main_v3) = v2 c
          ∧ r.2.mem ((c.tc : Thread Cert.MixLnKernelIdeal.nD Cert.MixLnKernelIdeal.τ).loc Cert.MixLnKernelIdeal.main_v4) = v3 c
          ∧ r.2.mem ((c.tc : Thread Cert.MixLnKernelIdeal.nD Cert.MixLnKernelIdeal.τ).loc Cert.MixLnKernelIdeal.main_arg0) = m ((c.tc : Thread Cert.MixLnKernelIdeal.nD Cert.MixLnKernelIdeal.τ).loc Cert.MixLnKernelIdeal.main_arg0)
          ∧ r.2.mem ((c.tc : Thread Cert.MixLnKernelIdeal.nD Cert.MixLnKernelIdeal.τ).loc Cert.MixLnKernelIdeal.main_arg1) = m ((c.tc : Thread Cert.MixLnKernelIdeal.nD Cert.MixLnKernelIdeal.τ).loc Cert.MixLnKernelIdeal.main_arg1)
          ∧ r.2.mem ((c.tc : Thread Cert.MixLnKernelIdeal.nD Cert.MixLnKernelIdeal.τ).loc Cert.MixLnKernelIdeal.main_arg2) = m ((c.tc : Thread Cert.MixLnKernelIdeal.nD Cert.MixLnKernelIdeal.τ).loc Cert.MixLnKernelIdeal.main_arg2)
          ∧ r.2.mem ((c.tc : Thread Cert.MixLnKernelIdeal.nD Cert.MixLnKernelIdeal.τ).loc Cert.MixLnKernelIdeal.main_arg3) = m ((c.tc : Thread Cert.MixLnKernelIdeal.nD Cert.MixLnKernelIdeal.τ).loc Cert.MixLnKernelIdeal.main_arg3))
      ∧ θ_run (Cert.MixLnReferenceIdeal.defs (F := Ideal)) (onTc (τ := Cert.MixLnReferenceIdeal.τ) (Cert.MixLnReferenceIdeal.main (F := Ideal))) ⟨m', fun _ => 0, g'⟩ (fun r => ∀ c : Dev Cert.MixLnReferenceIdeal.nD,
          r.2.mem ((c.tc : Thread Cert.MixLnReferenceIdeal.nD Cert.MixLnReferenceIdeal.τ).loc Cert.MixLnReferenceIdeal.main_v62) = v0 c
          ∧ r.2.mem ((c.tc : Thread Cert.MixLnReferenceIdeal.nD Cert.MixLnReferenceIdeal.τ).loc Cert.MixLnReferenceIdeal.main_v63) = v1 c
          ∧ r.2.mem ((c.tc : Thread Cert.MixLnReferenceIdeal.nD Cert.MixLnReferenceIdeal.τ).loc Cert.MixLnReferenceIdeal.main_v38) = v2 c
          ∧ r.2.mem ((c.tc : Thread Cert.MixLnReferenceIdeal.nD Cert.MixLnReferenceIdeal.τ).loc Cert.MixLnReferenceIdeal.main_v32) = v3 c
          ∧ r.2.mem ((c.tc : Thread Cert.MixLnReferenceIdeal.nD Cert.MixLnReferenceIdeal.τ).loc Cert.MixLnReferenceIdeal.main_arg0) = m' ((c.tc : Thread Cert.MixLnReferenceIdeal.nD Cert.MixLnReferenceIdeal.τ).loc Cert.MixLnReferenceIdeal.main_arg0)
          ∧ r.2.mem ((c.tc : Thread Cert.MixLnReferenceIdeal.nD Cert.MixLnReferenceIdeal.τ).loc Cert.MixLnReferenceIdeal.main_arg1) = m' ((c.tc : Thread Cert.MixLnReferenceIdeal.nD Cert.MixLnReferenceIdeal.τ).loc Cert.MixLnReferenceIdeal.main_arg1)
          ∧ r.2.mem ((c.tc : Thread Cert.MixLnReferenceIdeal.nD Cert.MixLnReferenceIdeal.τ).loc Cert.MixLnReferenceIdeal.main_arg2) = m' ((c.tc : Thread Cert.MixLnReferenceIdeal.nD Cert.MixLnReferenceIdeal.τ).loc Cert.MixLnReferenceIdeal.main_arg2)
          ∧ r.2.mem ((c.tc : Thread Cert.MixLnReferenceIdeal.nD Cert.MixLnReferenceIdeal.τ).loc Cert.MixLnReferenceIdeal.main_arg3) = m' ((c.tc : Thread Cert.MixLnReferenceIdeal.nD Cert.MixLnReferenceIdeal.τ).loc Cert.MixLnReferenceIdeal.main_arg3))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)) →
    ∃ (v0 : (c : Dev Cert.PrepKernelIdeal.nD) → Buf (Elt Ideal) ((c.tc : Thread Cert.PrepKernelIdeal.nD Cert.PrepKernelIdeal.τ).loc Cert.PrepKernelIdeal.main_v9_0)) (v1 : (c : Dev Cert.PrepKernelIdeal.nD) → Buf (Elt Ideal) ((c.tc : Thread Cert.PrepKernelIdeal.nD Cert.PrepKernelIdeal.τ).loc Cert.PrepKernelIdeal.main_v9_1)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v9_0) = v0 c
          ∧ r.2.mem ((c.tc : Thread Cert.PrepKernelIdeal.nD Cert.PrepKernelIdeal.τ).loc Cert.PrepKernelIdeal.main_v9_1) = v1 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v14) = v0 c
          ∧ r.2.mem ((c.tc : Thread Cert.PrepReferenceIdeal.nD Cert.PrepReferenceIdeal.τ).loc Cert.PrepReferenceIdeal.main_v29) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def preserves_PrepBwdKernel_PrepBwdKernelIdeal : Prop :=
  True

def algebraic_PrepBwdKernelIdeal_PrepBwdReferenceIdeal [hPrepBwdKernelIdeal : Cert.PrepBwdKernelIdeal.Facts] [hPrepBwdReferenceIdeal : Cert.PrepBwdReferenceIdeal.Facts] : Prop :=
  ∀ (m : (ℓ : Loc Cert.PrepBwdKernelIdeal.nD Cert.PrepBwdKernelIdeal.τ Cert.PrepBwdKernelIdeal.sig) → Buf (Elt Ideal) ℓ) (g : Dev Cert.PrepBwdKernelIdeal.nD → PrngReg)
    (m' : (ℓ : Loc Cert.PrepBwdReferenceIdeal.nD Cert.PrepBwdReferenceIdeal.τ Cert.PrepBwdReferenceIdeal.sig) → Buf (Elt Ideal) ℓ) (g' : Dev Cert.PrepBwdReferenceIdeal.nD → PrngReg), Pre_PrepBwdKernelIdeal m →
    (∀ c : Dev Cert.PrepBwdKernelIdeal.nD,
      m' ((c.tc : Thread Cert.PrepBwdReferenceIdeal.nD Cert.PrepBwdReferenceIdeal.τ).loc Cert.PrepBwdReferenceIdeal.main_arg0) = m ((c.tc : Thread Cert.PrepBwdKernelIdeal.nD Cert.PrepBwdKernelIdeal.τ).loc Cert.PrepBwdKernelIdeal.main_arg0)
      ∧ m' ((c.tc : Thread Cert.PrepBwdReferenceIdeal.nD Cert.PrepBwdReferenceIdeal.τ).loc Cert.PrepBwdReferenceIdeal.main_arg1) = m ((c.tc : Thread Cert.PrepBwdKernelIdeal.nD Cert.PrepBwdKernelIdeal.τ).loc Cert.PrepBwdKernelIdeal.main_arg1)
      ∧ m' ((c.tc : Thread Cert.PrepBwdReferenceIdeal.nD Cert.PrepBwdReferenceIdeal.τ).loc Cert.PrepBwdReferenceIdeal.main_arg2) = m ((c.tc : Thread Cert.PrepBwdKernelIdeal.nD Cert.PrepBwdKernelIdeal.τ).loc Cert.PrepBwdKernelIdeal.main_arg2)
      ∧ m' ((c.tc : Thread Cert.PrepBwdReferenceIdeal.nD Cert.PrepBwdReferenceIdeal.τ).loc Cert.PrepBwdReferenceIdeal.main_arg3) = m ((c.tc : Thread Cert.PrepBwdKernelIdeal.nD Cert.PrepBwdKernelIdeal.τ).loc Cert.PrepBwdKernelIdeal.main_arg3)
      ∧ m' ((c.tc : Thread Cert.PrepBwdReferenceIdeal.nD Cert.PrepBwdReferenceIdeal.τ).loc Cert.PrepBwdReferenceIdeal.main_arg4) = m ((c.tc : Thread Cert.PrepBwdKernelIdeal.nD Cert.PrepBwdKernelIdeal.τ).loc Cert.PrepBwdKernelIdeal.main_arg4)) →
    ∃ (v0 : (c : Dev Cert.PrepBwdKernelIdeal.nD) → Buf (Elt Ideal) ((c.tc : Thread Cert.PrepBwdKernelIdeal.nD Cert.PrepBwdKernelIdeal.τ).loc Cert.PrepBwdKernelIdeal.main_v9_0)) (v1 : (c : Dev Cert.PrepBwdKernelIdeal.nD) → Buf (Elt Ideal) ((c.tc : Thread Cert.PrepBwdKernelIdeal.nD Cert.PrepBwdKernelIdeal.τ).loc Cert.PrepBwdKernelIdeal.main_v9_1)) (v2 : (c : Dev Cert.PrepBwdKernelIdeal.nD) → Buf (Elt Ideal) ((c.tc : Thread Cert.PrepBwdKernelIdeal.nD Cert.PrepBwdKernelIdeal.τ).loc Cert.PrepBwdKernelIdeal.main_v10)) (v3 : (c : Dev Cert.PrepBwdKernelIdeal.nD) → Buf (Elt Ideal) ((c.tc : Thread Cert.PrepBwdKernelIdeal.nD Cert.PrepBwdKernelIdeal.τ).loc Cert.PrepBwdKernelIdeal.main_v11)),
      θ_run (Cert.PrepBwdKernelIdeal.defs (F := Ideal)) (onTc (τ := Cert.PrepBwdKernelIdeal.τ) (Cert.PrepBwdKernelIdeal.main (F := Ideal))) ⟨m, fun _ => 0, g⟩ (fun r => ∀ c : Dev Cert.PrepBwdKernelIdeal.nD,
          r.2.mem ((c.tc : Thread Cert.PrepBwdKernelIdeal.nD Cert.PrepBwdKernelIdeal.τ).loc Cert.PrepBwdKernelIdeal.main_v9_0) = v0 c
          ∧ r.2.mem ((c.tc : Thread Cert.PrepBwdKernelIdeal.nD Cert.PrepBwdKernelIdeal.τ).loc Cert.PrepBwdKernelIdeal.main_v9_1) = v1 c
          ∧ r.2.mem ((c.tc : Thread Cert.PrepBwdKernelIdeal.nD Cert.PrepBwdKernelIdeal.τ).loc Cert.PrepBwdKernelIdeal.main_v10) = v2 c
          ∧ r.2.mem ((c.tc : Thread Cert.PrepBwdKernelIdeal.nD Cert.PrepBwdKernelIdeal.τ).loc Cert.PrepBwdKernelIdeal.main_v11) = v3 c
          ∧ r.2.mem ((c.tc : Thread Cert.PrepBwdKernelIdeal.nD Cert.PrepBwdKernelIdeal.τ).loc Cert.PrepBwdKernelIdeal.main_arg0) = m ((c.tc : Thread Cert.PrepBwdKernelIdeal.nD Cert.PrepBwdKernelIdeal.τ).loc Cert.PrepBwdKernelIdeal.main_arg0)
          ∧ r.2.mem ((c.tc : Thread Cert.PrepBwdKernelIdeal.nD Cert.PrepBwdKernelIdeal.τ).loc Cert.PrepBwdKernelIdeal.main_arg1) = m ((c.tc : Thread Cert.PrepBwdKernelIdeal.nD Cert.PrepBwdKernelIdeal.τ).loc Cert.PrepBwdKernelIdeal.main_arg1)
          ∧ r.2.mem ((c.tc : Thread Cert.PrepBwdKernelIdeal.nD Cert.PrepBwdKernelIdeal.τ).loc Cert.PrepBwdKernelIdeal.main_arg2) = m ((c.tc : Thread Cert.PrepBwdKernelIdeal.nD Cert.PrepBwdKernelIdeal.τ).loc Cert.PrepBwdKernelIdeal.main_arg2)
          ∧ r.2.mem ((c.tc : Thread Cert.PrepBwdKernelIdeal.nD Cert.PrepBwdKernelIdeal.τ).loc Cert.PrepBwdKernelIdeal.main_arg3) = m ((c.tc : Thread Cert.PrepBwdKernelIdeal.nD Cert.PrepBwdKernelIdeal.τ).loc Cert.PrepBwdKernelIdeal.main_arg3)
          ∧ r.2.mem ((c.tc : Thread Cert.PrepBwdKernelIdeal.nD Cert.PrepBwdKernelIdeal.τ).loc Cert.PrepBwdKernelIdeal.main_arg4) = m ((c.tc : Thread Cert.PrepBwdKernelIdeal.nD Cert.PrepBwdKernelIdeal.τ).loc Cert.PrepBwdKernelIdeal.main_arg4))
      ∧ θ_run (Cert.PrepBwdReferenceIdeal.defs (F := Ideal)) (onTc (τ := Cert.PrepBwdReferenceIdeal.τ) (Cert.PrepBwdReferenceIdeal.main (F := Ideal))) ⟨m', fun _ => 0, g'⟩ (fun r => ∀ c : Dev Cert.PrepBwdReferenceIdeal.nD,
          r.2.mem ((c.tc : Thread Cert.PrepBwdReferenceIdeal.nD Cert.PrepBwdReferenceIdeal.τ).loc Cert.PrepBwdReferenceIdeal.main_v36) = v0 c
          ∧ r.2.mem ((c.tc : Thread Cert.PrepBwdReferenceIdeal.nD Cert.PrepBwdReferenceIdeal.τ).loc Cert.PrepBwdReferenceIdeal.main_v73) = v1 c
          ∧ r.2.mem ((c.tc : Thread Cert.PrepBwdReferenceIdeal.nD Cert.PrepBwdReferenceIdeal.τ).loc Cert.PrepBwdReferenceIdeal.main_v24) = v2 c
          ∧ r.2.mem ((c.tc : Thread Cert.PrepBwdReferenceIdeal.nD Cert.PrepBwdReferenceIdeal.τ).loc Cert.PrepBwdReferenceIdeal.main_v61) = v3 c
          ∧ r.2.mem ((c.tc : Thread Cert.PrepBwdReferenceIdeal.nD Cert.PrepBwdReferenceIdeal.τ).loc Cert.PrepBwdReferenceIdeal.main_arg0) = m' ((c.tc : Thread Cert.PrepBwdReferenceIdeal.nD Cert.PrepBwdReferenceIdeal.τ).loc Cert.PrepBwdReferenceIdeal.main_arg0)
          ∧ r.2.mem ((c.tc : Thread Cert.PrepBwdReferenceIdeal.nD Cert.PrepBwdReferenceIdeal.τ).loc Cert.PrepBwdReferenceIdeal.main_arg1) = m' ((c.tc : Thread Cert.PrepBwdReferenceIdeal.nD Cert.PrepBwdReferenceIdeal.τ).loc Cert.PrepBwdReferenceIdeal.main_arg1)
          ∧ r.2.mem ((c.tc : Thread Cert.PrepBwdReferenceIdeal.nD Cert.PrepBwdReferenceIdeal.τ).loc Cert.PrepBwdReferenceIdeal.main_arg2) = m' ((c.tc : Thread Cert.PrepBwdReferenceIdeal.nD Cert.PrepBwdReferenceIdeal.τ).loc Cert.PrepBwdReferenceIdeal.main_arg2)
          ∧ r.2.mem ((c.tc : Thread Cert.PrepBwdReferenceIdeal.nD Cert.PrepBwdReferenceIdeal.τ).loc Cert.PrepBwdReferenceIdeal.main_arg3) = m' ((c.tc : Thread Cert.PrepBwdReferenceIdeal.nD Cert.PrepBwdReferenceIdeal.τ).loc Cert.PrepBwdReferenceIdeal.main_arg3)
          ∧ r.2.mem ((c.tc : Thread Cert.PrepBwdReferenceIdeal.nD Cert.PrepBwdReferenceIdeal.τ).loc Cert.PrepBwdReferenceIdeal.main_arg4) = m' ((c.tc : Thread Cert.PrepBwdReferenceIdeal.nD Cert.PrepBwdReferenceIdeal.τ).loc Cert.PrepBwdReferenceIdeal.main_arg4))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hActKernel : Cert.ActKernel.Facts) (hActKernelIdeal : Cert.ActKernelIdeal.Facts) (hActReferenceIdeal : Cert.ActReferenceIdeal.Facts) (hDownKernel : Cert.DownKernel.Facts) (hDownKernelIdeal : Cert.DownKernelIdeal.Facts) (hDownReferenceIdeal : Cert.DownReferenceIdeal.Facts) (hGateKernel : Cert.GateKernel.Facts) (hGateKernelIdeal : Cert.GateKernelIdeal.Facts) (hGateReferenceIdeal : Cert.GateReferenceIdeal.Facts) (hUpKernel : Cert.UpKernel.Facts) (hUpKernelIdeal : Cert.UpKernelIdeal.Facts) (hUpReferenceIdeal : Cert.UpReferenceIdeal.Facts) (hDxKernel : Cert.DxKernel.Facts) (hDxKernelIdeal : Cert.DxKernelIdeal.Facts) (hDxReferenceIdeal : Cert.DxReferenceIdeal.Facts) (hAttKernel : Cert.AttKernel.Facts) (hAttKernelIdeal : Cert.AttKernelIdeal.Facts) (hAttReferenceIdeal : Cert.AttReferenceIdeal.Facts) (hMixKernel : Cert.MixKernel.Facts) (hMixKernelIdeal : Cert.MixKernelIdeal.Facts) (hMixReferenceIdeal : Cert.MixReferenceIdeal.Facts) (hOutDwKernel : Cert.OutDwKernel.Facts) (hOutDwKernelIdeal : Cert.OutDwKernelIdeal.Facts) (hOutDwReferenceIdeal : Cert.OutDwReferenceIdeal.Facts) (hOutDxKernel : Cert.OutDxKernel.Facts) (hOutDxKernelIdeal : Cert.OutDxKernelIdeal.Facts) (hOutDxReferenceIdeal : Cert.OutDxReferenceIdeal.Facts) (hInKernel : Cert.InKernel.Facts) (hInKernelIdeal : Cert.InKernelIdeal.Facts) (hInReferenceIdeal : Cert.InReferenceIdeal.Facts) (hInDwKernel : Cert.InDwKernel.Facts) (hInDwKernelIdeal : Cert.InDwKernelIdeal.Facts) (hInDwReferenceIdeal : Cert.InDwReferenceIdeal.Facts) (hInDxKernel : Cert.InDxKernel.Facts) (hInDxKernelIdeal : Cert.InDxKernelIdeal.Facts) (hInDxReferenceIdeal : Cert.InDxReferenceIdeal.Facts) (hAdamUpKernel : Cert.AdamUpKernel.Facts) (hAdamUpKernelIdeal : Cert.AdamUpKernelIdeal.Facts) (hAdamUpReferenceIdeal : Cert.AdamUpReferenceIdeal.Facts) (hAdamDownKernel : Cert.AdamDownKernel.Facts) (hAdamDownKernelIdeal : Cert.AdamDownKernelIdeal.Facts) (hAdamDownReferenceIdeal : Cert.AdamDownReferenceIdeal.Facts) (hAdamInKernel : Cert.AdamInKernel.Facts) (hAdamInKernelIdeal : Cert.AdamInKernelIdeal.Facts) (hAdamInReferenceIdeal : Cert.AdamInReferenceIdeal.Facts) (hAdamUqKernel : Cert.AdamUqKernel.Facts) (hAdamUqKernelIdeal : Cert.AdamUqKernelIdeal.Facts) (hAdamUqReferenceIdeal : Cert.AdamUqReferenceIdeal.Facts) (hAdamUkvKernel : Cert.AdamUkvKernel.Facts) (hAdamUkvKernelIdeal : Cert.AdamUkvKernelIdeal.Facts) (hAdamUkvReferenceIdeal : Cert.AdamUkvReferenceIdeal.Facts) (hAdamGluKernel : Cert.AdamGluKernel.Facts) (hAdamGluKernelIdeal : Cert.AdamGluKernelIdeal.Facts) (hAdamGluReferenceIdeal : Cert.AdamGluReferenceIdeal.Facts) (hAdamOutKernel : Cert.AdamOutKernel.Facts) (hAdamOutKernelIdeal : Cert.AdamOutKernelIdeal.Facts) (hAdamOutReferenceIdeal : Cert.AdamOutReferenceIdeal.Facts) (hAdamSmallKernel : Cert.AdamSmallKernel.Facts) (hAdamSmallKernelIdeal : Cert.AdamSmallKernelIdeal.Facts) (hAdamSmallReferenceIdeal : Cert.AdamSmallReferenceIdeal.Facts) (hSumFfnKernel : Cert.SumFfnKernel.Facts) (hSumFfnKernelIdeal : Cert.SumFfnKernelIdeal.Facts) (hSumFfnReferenceIdeal : Cert.SumFfnReferenceIdeal.Facts) (hSumInKernel : Cert.SumInKernel.Facts) (hSumInKernelIdeal : Cert.SumInKernelIdeal.Facts) (hSumInReferenceIdeal : Cert.SumInReferenceIdeal.Facts) (hSumUqKernel : Cert.SumUqKernel.Facts) (hSumUqKernelIdeal : Cert.SumUqKernelIdeal.Facts) (hSumUqReferenceIdeal : Cert.SumUqReferenceIdeal.Facts) (hSumUkvKernel : Cert.SumUkvKernel.Facts) (hSumUkvKernelIdeal : Cert.SumUkvKernelIdeal.Facts) (hSumUkvReferenceIdeal : Cert.SumUkvReferenceIdeal.Facts) (hSumOutKernel : Cert.SumOutKernel.Facts) (hSumOutKernelIdeal : Cert.SumOutKernelIdeal.Facts) (hSumOutReferenceIdeal : Cert.SumOutReferenceIdeal.Facts) (hSumSmallKernel : Cert.SumSmallKernel.Facts) (hSumSmallKernelIdeal : Cert.SumSmallKernelIdeal.Facts) (hSumSmallReferenceIdeal : Cert.SumSmallReferenceIdeal.Facts) (hUqKernel : Cert.UqKernel.Facts) (hUqKernelIdeal : Cert.UqKernelIdeal.Facts) (hUqReferenceIdeal : Cert.UqReferenceIdeal.Facts) (hUqDwKernel : Cert.UqDwKernel.Facts) (hUqDwKernelIdeal : Cert.UqDwKernelIdeal.Facts) (hUqDwReferenceIdeal : Cert.UqDwReferenceIdeal.Facts) (hUqDxKernel : Cert.UqDxKernel.Facts) (hUqDxKernelIdeal : Cert.UqDxKernelIdeal.Facts) (hUqDxReferenceIdeal : Cert.UqDxReferenceIdeal.Facts) (hUkvKernel : Cert.UkvKernel.Facts) (hUkvKernelIdeal : Cert.UkvKernelIdeal.Facts) (hUkvReferenceIdeal : Cert.UkvReferenceIdeal.Facts) (hUkvDwKernel : Cert.UkvDwKernel.Facts) (hUkvDwKernelIdeal : Cert.UkvDwKernelIdeal.Facts) (hUkvDwReferenceIdeal : Cert.UkvDwReferenceIdeal.Facts) (hUkvDxKernel : Cert.UkvDxKernel.Facts) (hUkvDxKernelIdeal : Cert.UkvDxKernelIdeal.Facts) (hUkvDxReferenceIdeal : Cert.UkvDxReferenceIdeal.Facts) (hFfnLnKernel : Cert.FfnLnKernel.Facts) (hFfnLnKernelIdeal : Cert.FfnLnKernelIdeal.Facts) (hFfnLnReferenceIdeal : Cert.FfnLnReferenceIdeal.Facts) (hMixLnKernel : Cert.MixLnKernel.Facts) (hMixLnKernelIdeal : Cert.MixLnKernelIdeal.Facts) (hMixLnReferenceIdeal : Cert.MixLnReferenceIdeal.Facts) (hPrepKernel : Cert.PrepKernel.Facts) (hPrepKernelIdeal : Cert.PrepKernelIdeal.Facts) (hPrepReferenceIdeal : Cert.PrepReferenceIdeal.Facts) (hPrepBwdKernel : Cert.PrepBwdKernel.Facts) (hPrepBwdKernelIdeal : Cert.PrepBwdKernelIdeal.Facts) (hPrepBwdReferenceIdeal : Cert.PrepBwdReferenceIdeal.Facts) (hPre_finite : Cert.Pre_finite.Facts) (hPre_att_finite : Cert.Pre_att_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ActKernel (hActKernel := hActKernel)
    ∧ quiescent_ActKernelIdeal (hActKernelIdeal := hActKernelIdeal)
    ∧ quiescent_ActReferenceIdeal (hActReferenceIdeal := hActReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_AttKernel (hAttKernel := hAttKernel)
    ∧ quiescent_AttKernelIdeal (hAttKernelIdeal := hAttKernelIdeal)
    ∧ quiescent_AttKernelIdeal_pre_att_finite (hAttKernelIdeal := hAttKernelIdeal) (hPre_att_finite := hPre_att_finite)
    ∧ quiescent_AttReferenceIdeal (hAttReferenceIdeal := hAttReferenceIdeal)
    ∧ quiescent_AttReferenceIdeal_pre_att_finite (hAttReferenceIdeal := hAttReferenceIdeal) (hPre_att_finite := hPre_att_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_OutDwKernel (hOutDwKernel := hOutDwKernel)
    ∧ quiescent_OutDwKernelIdeal (hOutDwKernelIdeal := hOutDwKernelIdeal)
    ∧ quiescent_OutDwReferenceIdeal (hOutDwReferenceIdeal := hOutDwReferenceIdeal)
    ∧ quiescent_OutDxKernel (hOutDxKernel := hOutDxKernel)
    ∧ quiescent_OutDxKernelIdeal (hOutDxKernelIdeal := hOutDxKernelIdeal)
    ∧ quiescent_OutDxReferenceIdeal (hOutDxReferenceIdeal := hOutDxReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_InDwKernel (hInDwKernel := hInDwKernel)
    ∧ quiescent_InDwKernelIdeal (hInDwKernelIdeal := hInDwKernelIdeal)
    ∧ quiescent_InDwReferenceIdeal (hInDwReferenceIdeal := hInDwReferenceIdeal)
    ∧ quiescent_InDxKernel (hInDxKernel := hInDxKernel)
    ∧ quiescent_InDxKernelIdeal (hInDxKernelIdeal := hInDxKernelIdeal)
    ∧ quiescent_InDxReferenceIdeal (hInDxReferenceIdeal := hInDxReferenceIdeal)
    ∧ quiescent_AdamUpKernel (hAdamUpKernel := hAdamUpKernel)
    ∧ quiescent_AdamUpKernelIdeal (hAdamUpKernelIdeal := hAdamUpKernelIdeal)
    ∧ quiescent_AdamUpReferenceIdeal (hAdamUpReferenceIdeal := hAdamUpReferenceIdeal)
    ∧ quiescent_AdamDownKernel (hAdamDownKernel := hAdamDownKernel)
    ∧ quiescent_AdamDownKernelIdeal (hAdamDownKernelIdeal := hAdamDownKernelIdeal)
    ∧ quiescent_AdamDownReferenceIdeal (hAdamDownReferenceIdeal := hAdamDownReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamUqKernel (hAdamUqKernel := hAdamUqKernel)
    ∧ quiescent_AdamUqKernelIdeal (hAdamUqKernelIdeal := hAdamUqKernelIdeal)
    ∧ quiescent_AdamUqReferenceIdeal (hAdamUqReferenceIdeal := hAdamUqReferenceIdeal)
    ∧ quiescent_AdamUkvKernel (hAdamUkvKernel := hAdamUkvKernel)
    ∧ quiescent_AdamUkvKernelIdeal (hAdamUkvKernelIdeal := hAdamUkvKernelIdeal)
    ∧ quiescent_AdamUkvReferenceIdeal (hAdamUkvReferenceIdeal := hAdamUkvReferenceIdeal)
    ∧ quiescent_AdamGluKernel (hAdamGluKernel := hAdamGluKernel)
    ∧ quiescent_AdamGluKernelIdeal (hAdamGluKernelIdeal := hAdamGluKernelIdeal)
    ∧ quiescent_AdamGluReferenceIdeal (hAdamGluReferenceIdeal := hAdamGluReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamSmallKernel (hAdamSmallKernel := hAdamSmallKernel)
    ∧ quiescent_AdamSmallKernelIdeal (hAdamSmallKernelIdeal := hAdamSmallKernelIdeal)
    ∧ quiescent_AdamSmallReferenceIdeal (hAdamSmallReferenceIdeal := hAdamSmallReferenceIdeal)
    ∧ quiescent_SumFfnKernel (hSumFfnKernel := hSumFfnKernel)
    ∧ quiescent_SumFfnKernelIdeal (hSumFfnKernelIdeal := hSumFfnKernelIdeal)
    ∧ quiescent_SumFfnReferenceIdeal (hSumFfnReferenceIdeal := hSumFfnReferenceIdeal)
    ∧ quiescent_SumInKernel (hSumInKernel := hSumInKernel)
    ∧ quiescent_SumInKernelIdeal (hSumInKernelIdeal := hSumInKernelIdeal)
    ∧ quiescent_SumInReferenceIdeal (hSumInReferenceIdeal := hSumInReferenceIdeal)
    ∧ quiescent_SumUqKernel (hSumUqKernel := hSumUqKernel)
    ∧ quiescent_SumUqKernelIdeal (hSumUqKernelIdeal := hSumUqKernelIdeal)
    ∧ quiescent_SumUqReferenceIdeal (hSumUqReferenceIdeal := hSumUqReferenceIdeal)
    ∧ quiescent_SumUkvKernel (hSumUkvKernel := hSumUkvKernel)
    ∧ quiescent_SumUkvKernelIdeal (hSumUkvKernelIdeal := hSumUkvKernelIdeal)
    ∧ quiescent_SumUkvReferenceIdeal (hSumUkvReferenceIdeal := hSumUkvReferenceIdeal)
    ∧ quiescent_SumOutKernel (hSumOutKernel := hSumOutKernel)
    ∧ quiescent_SumOutKernelIdeal (hSumOutKernelIdeal := hSumOutKernelIdeal)
    ∧ quiescent_SumOutReferenceIdeal (hSumOutReferenceIdeal := hSumOutReferenceIdeal)
    ∧ quiescent_SumSmallKernel (hSumSmallKernel := hSumSmallKernel)
    ∧ quiescent_SumSmallKernelIdeal (hSumSmallKernelIdeal := hSumSmallKernelIdeal)
    ∧ quiescent_SumSmallReferenceIdeal (hSumSmallReferenceIdeal := hSumSmallReferenceIdeal)
    ∧ quiescent_UqKernel (hUqKernel := hUqKernel)
    ∧ quiescent_UqKernelIdeal (hUqKernelIdeal := hUqKernelIdeal)
    ∧ quiescent_UqReferenceIdeal (hUqReferenceIdeal := hUqReferenceIdeal)
    ∧ quiescent_UqDwKernel (hUqDwKernel := hUqDwKernel)
    ∧ quiescent_UqDwKernelIdeal (hUqDwKernelIdeal := hUqDwKernelIdeal)
    ∧ quiescent_UqDwReferenceIdeal (hUqDwReferenceIdeal := hUqDwReferenceIdeal)
    ∧ quiescent_UqDxKernel (hUqDxKernel := hUqDxKernel)
    ∧ quiescent_UqDxKernelIdeal (hUqDxKernelIdeal := hUqDxKernelIdeal)
    ∧ quiescent_UqDxReferenceIdeal (hUqDxReferenceIdeal := hUqDxReferenceIdeal)
    ∧ quiescent_UkvKernel (hUkvKernel := hUkvKernel)
    ∧ quiescent_UkvKernelIdeal (hUkvKernelIdeal := hUkvKernelIdeal)
    ∧ quiescent_UkvReferenceIdeal (hUkvReferenceIdeal := hUkvReferenceIdeal)
    ∧ quiescent_UkvDwKernel (hUkvDwKernel := hUkvDwKernel)
    ∧ quiescent_UkvDwKernelIdeal (hUkvDwKernelIdeal := hUkvDwKernelIdeal)
    ∧ quiescent_UkvDwReferenceIdeal (hUkvDwReferenceIdeal := hUkvDwReferenceIdeal)
    ∧ quiescent_UkvDxKernel (hUkvDxKernel := hUkvDxKernel)
    ∧ quiescent_UkvDxKernelIdeal (hUkvDxKernelIdeal := hUkvDxKernelIdeal)
    ∧ quiescent_UkvDxReferenceIdeal (hUkvDxReferenceIdeal := hUkvDxReferenceIdeal)
    ∧ quiescent_FfnLnKernel (hFfnLnKernel := hFfnLnKernel)
    ∧ quiescent_FfnLnKernelIdeal (hFfnLnKernelIdeal := hFfnLnKernelIdeal)
    ∧ quiescent_FfnLnReferenceIdeal (hFfnLnReferenceIdeal := hFfnLnReferenceIdeal)
    ∧ quiescent_MixLnKernel (hMixLnKernel := hMixLnKernel)
    ∧ quiescent_MixLnKernelIdeal (hMixLnKernelIdeal := hMixLnKernelIdeal)
    ∧ quiescent_MixLnReferenceIdeal (hMixLnReferenceIdeal := hMixLnReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_PrepBwdKernel (hPrepBwdKernel := hPrepBwdKernel)
    ∧ quiescent_PrepBwdKernelIdeal (hPrepBwdKernelIdeal := hPrepBwdKernelIdeal)
    ∧ quiescent_PrepBwdReferenceIdeal (hPrepBwdReferenceIdeal := hPrepBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal (hFfnKernelIdeal := hFfnKernelIdeal) (hFfnReferenceIdeal := hFfnReferenceIdeal)
    ∧ preserves_ActKernel_ActKernelIdeal
    ∧ algebraic_ActKernelIdeal_ActReferenceIdeal (hActKernelIdeal := hActKernelIdeal) (hActReferenceIdeal := hActReferenceIdeal)
    ∧ preserves_DownKernel_DownKernelIdeal
    ∧ algebraic_DownKernelIdeal_DownReferenceIdeal (hDownKernelIdeal := hDownKernelIdeal) (hDownReferenceIdeal := hDownReferenceIdeal)
    ∧ preserves_GateKernel_GateKernelIdeal
    ∧ algebraic_GateKernelIdeal_GateReferenceIdeal (hGateKernelIdeal := hGateKernelIdeal) (hGateReferenceIdeal := hGateReferenceIdeal)
    ∧ preserves_UpKernel_UpKernelIdeal
    ∧ algebraic_UpKernelIdeal_UpReferenceIdeal (hUpKernelIdeal := hUpKernelIdeal) (hUpReferenceIdeal := hUpReferenceIdeal)
    ∧ preserves_DxKernel_DxKernelIdeal
    ∧ algebraic_DxKernelIdeal_DxReferenceIdeal (hDxKernelIdeal := hDxKernelIdeal) (hDxReferenceIdeal := hDxReferenceIdeal)
    ∧ preserves_AttKernel_AttKernelIdeal
    ∧ algebraic_AttKernelIdeal_AttReferenceIdeal_pre_att_finite (hAttKernelIdeal := hAttKernelIdeal) (hAttReferenceIdeal := hAttReferenceIdeal) (hPre_att_finite := hPre_att_finite)
    ∧ preserves_MixKernel_MixKernelIdeal
    ∧ algebraic_MixKernelIdeal_MixReferenceIdeal (hMixKernelIdeal := hMixKernelIdeal) (hMixReferenceIdeal := hMixReferenceIdeal)
    ∧ preserves_OutDwKernel_OutDwKernelIdeal
    ∧ algebraic_OutDwKernelIdeal_OutDwReferenceIdeal (hOutDwKernelIdeal := hOutDwKernelIdeal) (hOutDwReferenceIdeal := hOutDwReferenceIdeal)
    ∧ preserves_OutDxKernel_OutDxKernelIdeal
    ∧ algebraic_OutDxKernelIdeal_OutDxReferenceIdeal (hOutDxKernelIdeal := hOutDxKernelIdeal) (hOutDxReferenceIdeal := hOutDxReferenceIdeal)
    ∧ preserves_InKernel_InKernelIdeal
    ∧ algebraic_InKernelIdeal_InReferenceIdeal (hInKernelIdeal := hInKernelIdeal) (hInReferenceIdeal := hInReferenceIdeal)
    ∧ preserves_InDwKernel_InDwKernelIdeal
    ∧ algebraic_InDwKernelIdeal_InDwReferenceIdeal (hInDwKernelIdeal := hInDwKernelIdeal) (hInDwReferenceIdeal := hInDwReferenceIdeal)
    ∧ preserves_InDxKernel_InDxKernelIdeal
    ∧ algebraic_InDxKernelIdeal_InDxReferenceIdeal (hInDxKernelIdeal := hInDxKernelIdeal) (hInDxReferenceIdeal := hInDxReferenceIdeal)
    ∧ preserves_AdamUpKernel_AdamUpKernelIdeal
    ∧ algebraic_AdamUpKernelIdeal_AdamUpReferenceIdeal (hAdamUpKernelIdeal := hAdamUpKernelIdeal) (hAdamUpReferenceIdeal := hAdamUpReferenceIdeal)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamUqKernel_AdamUqKernelIdeal
    ∧ algebraic_AdamUqKernelIdeal_AdamUqReferenceIdeal (hAdamUqKernelIdeal := hAdamUqKernelIdeal) (hAdamUqReferenceIdeal := hAdamUqReferenceIdeal)
    ∧ preserves_AdamUkvKernel_AdamUkvKernelIdeal
    ∧ algebraic_AdamUkvKernelIdeal_AdamUkvReferenceIdeal (hAdamUkvKernelIdeal := hAdamUkvKernelIdeal) (hAdamUkvReferenceIdeal := hAdamUkvReferenceIdeal)
    ∧ preserves_AdamGluKernel_AdamGluKernelIdeal
    ∧ algebraic_AdamGluKernelIdeal_AdamGluReferenceIdeal (hAdamGluKernelIdeal := hAdamGluKernelIdeal) (hAdamGluReferenceIdeal := hAdamGluReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamSmallKernel_AdamSmallKernelIdeal
    ∧ algebraic_AdamSmallKernelIdeal_AdamSmallReferenceIdeal (hAdamSmallKernelIdeal := hAdamSmallKernelIdeal) (hAdamSmallReferenceIdeal := hAdamSmallReferenceIdeal)
    ∧ preserves_SumFfnKernel_SumFfnKernelIdeal
    ∧ algebraic_SumFfnKernelIdeal_SumFfnReferenceIdeal (hSumFfnKernelIdeal := hSumFfnKernelIdeal) (hSumFfnReferenceIdeal := hSumFfnReferenceIdeal)
    ∧ preserves_SumInKernel_SumInKernelIdeal
    ∧ algebraic_SumInKernelIdeal_SumInReferenceIdeal (hSumInKernelIdeal := hSumInKernelIdeal) (hSumInReferenceIdeal := hSumInReferenceIdeal)
    ∧ preserves_SumUqKernel_SumUqKernelIdeal
    ∧ algebraic_SumUqKernelIdeal_SumUqReferenceIdeal (hSumUqKernelIdeal := hSumUqKernelIdeal) (hSumUqReferenceIdeal := hSumUqReferenceIdeal)
    ∧ preserves_SumUkvKernel_SumUkvKernelIdeal
    ∧ algebraic_SumUkvKernelIdeal_SumUkvReferenceIdeal (hSumUkvKernelIdeal := hSumUkvKernelIdeal) (hSumUkvReferenceIdeal := hSumUkvReferenceIdeal)
    ∧ preserves_SumOutKernel_SumOutKernelIdeal
    ∧ algebraic_SumOutKernelIdeal_SumOutReferenceIdeal (hSumOutKernelIdeal := hSumOutKernelIdeal) (hSumOutReferenceIdeal := hSumOutReferenceIdeal)
    ∧ preserves_SumSmallKernel_SumSmallKernelIdeal
    ∧ algebraic_SumSmallKernelIdeal_SumSmallReferenceIdeal (hSumSmallKernelIdeal := hSumSmallKernelIdeal) (hSumSmallReferenceIdeal := hSumSmallReferenceIdeal)
    ∧ preserves_UqKernel_UqKernelIdeal
    ∧ algebraic_UqKernelIdeal_UqReferenceIdeal (hUqKernelIdeal := hUqKernelIdeal) (hUqReferenceIdeal := hUqReferenceIdeal)
    ∧ preserves_UqDwKernel_UqDwKernelIdeal
    ∧ algebraic_UqDwKernelIdeal_UqDwReferenceIdeal (hUqDwKernelIdeal := hUqDwKernelIdeal) (hUqDwReferenceIdeal := hUqDwReferenceIdeal)
    ∧ preserves_UqDxKernel_UqDxKernelIdeal
    ∧ algebraic_UqDxKernelIdeal_UqDxReferenceIdeal (hUqDxKernelIdeal := hUqDxKernelIdeal) (hUqDxReferenceIdeal := hUqDxReferenceIdeal)
    ∧ preserves_UkvKernel_UkvKernelIdeal
    ∧ algebraic_UkvKernelIdeal_UkvReferenceIdeal (hUkvKernelIdeal := hUkvKernelIdeal) (hUkvReferenceIdeal := hUkvReferenceIdeal)
    ∧ preserves_UkvDwKernel_UkvDwKernelIdeal
    ∧ algebraic_UkvDwKernelIdeal_UkvDwReferenceIdeal (hUkvDwKernelIdeal := hUkvDwKernelIdeal) (hUkvDwReferenceIdeal := hUkvDwReferenceIdeal)
    ∧ preserves_UkvDxKernel_UkvDxKernelIdeal
    ∧ algebraic_UkvDxKernelIdeal_UkvDxReferenceIdeal (hUkvDxKernelIdeal := hUkvDxKernelIdeal) (hUkvDxReferenceIdeal := hUkvDxReferenceIdeal)
    ∧ preserves_FfnLnKernel_FfnLnKernelIdeal
    ∧ algebraic_FfnLnKernelIdeal_FfnLnReferenceIdeal (hFfnLnKernelIdeal := hFfnLnKernelIdeal) (hFfnLnReferenceIdeal := hFfnLnReferenceIdeal)
    ∧ preserves_MixLnKernel_MixLnKernelIdeal
    ∧ algebraic_MixLnKernelIdeal_MixLnReferenceIdeal (hMixLnKernelIdeal := hMixLnKernelIdeal) (hMixLnReferenceIdeal := hMixLnReferenceIdeal)
    ∧ preserves_PrepKernel_PrepKernelIdeal
    ∧ algebraic_PrepKernelIdeal_PrepReferenceIdeal (hPrepKernelIdeal := hPrepKernelIdeal) (hPrepReferenceIdeal := hPrepReferenceIdeal)
    ∧ preserves_PrepBwdKernel_PrepBwdKernelIdeal
    ∧ algebraic_PrepBwdKernelIdeal_PrepBwdReferenceIdeal (hPrepBwdKernelIdeal := hPrepBwdKernelIdeal) (hPrepBwdReferenceIdeal := hPrepBwdReferenceIdeal)
-- ==== Pre_att_finite.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  bcast_S_S8192x8x32 : S_.BroadcastsInDim S8192x8x32 (![] : Fin 0 → Fin S8192x8x32.rank)
  bcast_S_S8192x32 : S_.BroadcastsInDim S8192x32 (![] : Fin 0 → Fin S8192x32.rank)

variable [Facts]

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) : IVec S8192x8x64 1 × IVec S8192x8x32 1 × IVec S8192x8x64 1 × IVec S8192x32 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x32 .f32 := Host.absf main_arg1
  let main_cst_0 : FVec F S_ .f32 := constant S_ .f32 0x7F800000#32
  let main_v4 : FVec F S8192x8x32 .f32 := broadcastInDim S8192x8x32 ![] bcast_S_S8192x8x32 main_cst_0
  let main_v5 : IVec S8192x8x32 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x32 .f32 := Host.absf main_arg3
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  (main_v2, main_v5, main_v8, main_v11, main_v14)
-- ==== Pre_finite.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩

class Facts : Prop where
  bcast_S_S8192x8x64 : S_.BroadcastsInDim S8192x8x64 (![] : Fin 0 → Fin S8192x8x64.rank)
  bcast_S_S8192x8x32 : S_.BroadcastsInDim S8192x8x32 (![] : Fin 0 → Fin S8192x8x32.rank)
  bcast_S_S8192x32 : S_.BroadcastsInDim S8192x32 (![] : Fin 0 → Fin S8192x32.rank)

variable [Facts]

def fn {F : FTy → Type} [FloatOps F] (main_arg0 : FVec F S8192x8x64 .f32) (main_arg1 : FVec F S8192x8x32 .f32) (main_arg2 : FVec F S8192x8x64 .f32) (main_arg3 : FVec F S8192x32 .f32) (main_arg4 : FVec F S8192x8x64 .f32) (main_arg5 : FVec F S8192x8x64 .f32) : IVec S8192x8x64 1 × IVec S8192x8x32 1 × IVec S8192x8x64 1 × IVec S8192x32 1 × IVec S8192x8x64 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x32 .f32 := Host.absf main_arg1
  let main_cst_0 : FVec F S_ .f32 := constant S_ .f32 0x7F800000#32
  let main_v4 : FVec F S8192x8x32 .f32 := broadcastInDim S8192x8x32 ![] bcast_S_S8192x8x32 main_cst_0
  let main_v5 : IVec S8192x8x32 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x32 .f32 := Host.absf main_arg3
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  let main_v15 : FVec F S8192x8x64 .f32 := Host.absf main_arg5
  let main_cst_4 : FVec F S_ .f32 := constant S_ .f32 0x7F800000#32
  let main_v16 : FVec F S8192x8x64 .f32 := broadcastInDim S8192x8x64 ![] bcast_S_S8192x8x64 main_cst_4
  let main_v17 : IVec S8192x8x64 1 := cmpf .olt main_v15 main_v16
  (main_v2, main_v5, main_v8, main_v11, main_v14, main_v17)
-- ==== Kernel.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩
abbrev S8192x8x128 : Shape := ⟨3, ![8192, 8, 128]⟩
abbrev S8192x1x32 : Shape := ⟨3, ![8192, 1, 32]⟩
abbrev S8x8192x128 : Shape := ⟨3, ![8, 8192, 128]⟩
abbrev S8x8192x64 : Shape := ⟨3, ![8, 8192, 64]⟩
abbrev S8x8192x8192 : Shape := ⟨3, ![8, 8192, 8192]⟩
abbrev S8192x8192x8 : Shape := ⟨3, ![8192, 8192, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩
abbrev S8192x8 : Shape := ⟨2, ![8192, 8]⟩
abbrev S8x128x8192 : Shape := ⟨3, ![8, 128, 8192]⟩
abbrev S1x512x128 : Shape := ⟨3, ![1, 512, 128]⟩
abbrev S1x512x64 : Shape := ⟨3, ![1, 512, 64]⟩
abbrev S1x1x512 : Shape := ⟨3, ![1, 1, 512]⟩
abbrev S1x8192x128 : Shape := ⟨3, ![1, 8192, 128]⟩
abbrev S1x128x8192 : Shape := ⟨3, ![1, 128, 8192]⟩
abbrev S1x8192x64 : Shape := ⟨3, ![1, 8192, 64]⟩
abbrev S1x128x512 : Shape := ⟨3, ![1, 128, 512]⟩
abbrev S128x512 : Shape := ⟨2, ![128, 512]⟩
abbrev S512x128 : Shape := ⟨2, ![512, 128]⟩
abbrev S512x64 : Shape := ⟨2, ![512, 64]⟩
abbrev S1x512 : Shape := ⟨2, ![1, 512]⟩
abbrev S1x256x128 : Shape := ⟨3, ![1, 256, 128]⟩
abbrev S256x128 : Shape := ⟨2, ![256, 128]⟩
abbrev S256x512 : Shape := ⟨2, ![256, 512]⟩
abbrev S1x256x64 : Shape := ⟨3, ![1, 256, 64]⟩
abbrev S256x64 : Shape := ⟨2, ![256, 64]⟩
abbrev S1x128x256 : Shape := ⟨3, ![1, 128, 256]⟩
abbrev S128x256 : Shape := ⟨2, ![128, 256]⟩

abbrev nBuf : Space → Nat
  | .hbm => 74
  | .vmem => 21
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x64, .f32⟩
  | .hbm, ⟨6, _⟩ => ⟨S_, .f32⟩
  | .hbm, ⟨7, _⟩ => ⟨S8192x8x32, .f32⟩
  | .hbm, ⟨8, _⟩ => ⟨S8192x8x128, .f32⟩
  | .hbm, ⟨9, _⟩ => ⟨S8192x1x32, .f32⟩
  | .hbm, ⟨10, _⟩ => ⟨S8192x8x32, .f32⟩
  | .hbm, ⟨11, _⟩ => ⟨S8192x8x128, .f32⟩
  | .hbm, ⟨12, _⟩ => ⟨S8x8192x128, .f32⟩
  | .hbm, ⟨13, _⟩ => ⟨S8x8192x128, .bf16⟩
  | .hbm, ⟨14, _⟩ => ⟨S8x8192x128, .f32⟩
  | .hbm, ⟨15, _⟩ => ⟨S8x8192x128, .bf16⟩
  | .hbm, ⟨16, _⟩ => ⟨S8192x8x64, .bf16⟩
  | .hbm, ⟨17, _⟩ => ⟨S8x8192x64, .bf16⟩
  | .hbm, ⟨18, _⟩ => ⟨S8x8192x64, .f32⟩
  | .hbm, ⟨19, _⟩ => ⟨S8x8192x8192, .f32⟩
  | .hbm, ⟨20, _⟩ => ⟨S8192x8192x8, .f32⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S8192, .i32⟩
  | .hbm, ⟨27, _⟩ => ⟨S1x8192, .i32⟩
  | .hbm, ⟨28, _⟩ => ⟨S8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S1x8192x8192, .i1⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x64x8192, .f32⟩
  | .hbm, ⟨51, _⟩ => ⟨S8192x8x64, .f32⟩
  | .hbm, ⟨52, _⟩ => ⟨S8x8192x1, .f32⟩
  | .hbm, ⟨53, _⟩ => ⟨S8x8192x1, .f32⟩
  | .hbm, ⟨54, _⟩ => ⟨S8x1x8192, .f32⟩
  | .hbm, ⟨55, _⟩ => ⟨S8192x8x64, .f32⟩
  | .hbm, ⟨56, _⟩ => ⟨S_, .f32⟩
  | .hbm, ⟨57, _⟩ => ⟨S8192x8, .f32⟩
  | .hbm, ⟨58, _⟩ => ⟨S8x8192, .f32⟩
  | .hbm, ⟨59, _⟩ => ⟨S8x1x8192, .f32⟩
  | .hbm, ⟨60, _⟩ => ⟨S8x128x8192, .bf16⟩
  | .hbm, ⟨61, _⟩ => ⟨S8x8192x64, .bf16⟩
  | .hbm, ⟨62, _⟩ => ⟨S8x128x8192, .f32⟩
  | .hbm, ⟨63, _⟩ => ⟨S8x8192x128, .f32⟩
  | .hbm, ⟨64, _⟩ => ⟨S8x8192x64, .f32⟩
  | .hbm, ⟨65, _⟩ => ⟨S8192x8x128, .f32⟩
  | .hbm, ⟨66, _⟩ => ⟨S8192x8x128, .f32⟩
  | .hbm, ⟨67, _⟩ => ⟨S8192x8x64, .f32⟩
  | .hbm, ⟨68, _⟩ => ⟨S8192x8x32, .f32⟩
  | .hbm, ⟨69, _⟩ => ⟨S_, .f32⟩
  | .hbm, ⟨70, _⟩ => ⟨S8192x32, .f32⟩
  | .hbm, ⟨71, _⟩ => ⟨S8192x8x64, .f32⟩
  | .hbm, ⟨72, _⟩ => ⟨S8192x8x32, .f32⟩
  | .hbm, ⟨73, _⟩ => ⟨S8192x8x64, .f32⟩
  | .local _ .vmem, ⟨0, _⟩ => ⟨S1x512x128, .bf16⟩
  | .local _ .vmem, ⟨1, _⟩ => ⟨S1x512x128, .bf16⟩
  | .local _ .vmem, ⟨2, _⟩ => ⟨S1x512x64, .bf16⟩
  | .local _ .vmem, ⟨3, _⟩ => ⟨S1x512x64, .bf16⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x8192x128, .bf16⟩
  | .local _ .vmem, ⟨9, _⟩ => ⟨S1x8192x128, .bf16⟩
  | .local _ .vmem, ⟨10, _⟩ => ⟨S1x128x8192, .bf16⟩
  | .local _ .vmem, ⟨11, _⟩ => ⟨S1x128x8192, .bf16⟩
  | .local _ .vmem, ⟨12, _⟩ => ⟨S1x8192x64, .bf16⟩
  | .local _ .vmem, ⟨13, _⟩ => ⟨S1x8192x64, .bf16⟩
  | .local _ .vmem, ⟨14, _⟩ => ⟨S1x128x512, .f32⟩
  | .local _ .vmem, ⟨15, _⟩ => ⟨S1x128x512, .f32⟩
  | .local _ .vmem, ⟨16, _⟩ => ⟨S1x8192x128, .f32⟩
  | .local _ .vmem, ⟨17, _⟩ => ⟨S1x8192x128, .f32⟩
  | .local _ .vmem, ⟨18, _⟩ => ⟨S1x8192x64, .f32⟩
  | .local _ .vmem, ⟨19, _⟩ => ⟨S1x8192x64, .f32⟩
  | .local _ .vmem, ⟨20, _⟩ => ⟨S128x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let c1_i32_16 : BitVec 32 := 1#32
  ⟨c0_i32_15, v19, c1_i32_16⟩
def k0_mult1 (i : grid0.Coords) (k0_t1 : Fin (k0_t1_loop i).trips) : BitVec 32 :=
  let c0_i32_15 : BitVec 32 := 0#32
  let c1_i32_16 : BitVec 32 := 1#32
  let arg13 : BitVec 32 := Scf.iv c0_i32_15 c1_i32_16 k0_t1
  let c512_i32_79 : BitVec 32 := 512#32
  let v138 : BitVec 32 := Scalar.muli arg13 c512_i32_79
  let c0_i32_80 : BitVec 32 := 0#32
  let v139 : BitVec 32 := Scalar.addi v138 c0_i32_80
  v139
def k0_off1 (i : grid0.Coords) (k0_t1 : Fin (k0_t1_loop i).trips) (c0_i32_80 : BitVec 32) : Fin 3 → Nat :=
  let c0_81 : Index := 0#32
  let c0_i32_15 : BitVec 32 := 0#32
  let c1_i32_16 : BitVec 32 := 1#32
  let arg13 : BitVec 32 := Scf.iv c0_i32_15 c1_i32_16 k0_t1
  let c512_i32_79 : BitVec 32 := 512#32
  let v138 : BitVec 32 := Scalar.muli arg13 c512_i32_79
  let v139 : BitVec 32 := Scalar.addi v138 c0_i32_80
  let v140 : BitVec 32 := v139
  let v141 : Index := Scalar.indexCast v140
  let c0_82 : Index := 0#32
  ![0, v141.toNat, 0]
def k0_off2 (i : grid0.Coords) (k0_t1 : Fin (k0_t1_loop i).trips) (c0_i32_80 : BitVec 32) : Fin 3 → Nat :=
  let c0_85 : Index := 0#32
  let c0_i32_15 : BitVec 32 := 0#32
  let c1_i32_16 : BitVec 32 := 1#32
  let arg13 : BitVec 32 := Scf.iv c0_i32_15 c1_i32_16 k0_t1
  let c512_i32_79 : BitVec 32 := 512#32
  let v138 : BitVec 32 := Scalar.muli arg13 c512_i32_79
  let v139 : BitVec 32 := Scalar.addi v138 c0_i32_80
  let v140 : BitVec 32 := v139
  let v150 : Index := Scalar.indexCast v140
  let c0_86 : Index := 0#32
  ![0, v150.toNat, 0]
def k0_off3 (i : grid0.Coords) (k0_t1 : Fin (k0_t1_loop i).trips) (c0_i32_80 : BitVec 32) : Fin 3 → Nat :=
  let c0_101 : Index := 0#32
  let c0_102 : Index := 0#32
  let c0_i32_15 : BitVec 32 := 0#32
  let c1_i32_16 : BitVec 32 := 1#32
  let arg13 : BitVec 32 := Scf.iv c0_i32_15 c1_i32_16 k0_t1
  let c512_i32_79 : BitVec 32 := 512#32
  let v138 : BitVec 32 := Scalar.muli arg13 c512_i32_79
  let v139 : BitVec 32 := Scalar.addi v138 c0_i32_80
  let v140 : BitVec 32 := v139
  let v180 : Index := Scalar.indexCast v140
  ![0, 0, v180.toNat]
def k0_mult2 (i : grid0.Coords) (k0_t1 : Fin (k0_t1_loop i).trips) : BitVec 32 :=
  let c0_i32_15 : BitVec 32 := 0#32
  let c1_i32_16 : BitVec 32 := 1#32
  let arg13 : BitVec 32 := Scf.iv c0_i32_15 c1_i32_16 k0_t1
  let c512_i32_106 : BitVec 32 := 512#32
  let v188 : BitVec 32 := Scalar.muli arg13 c512_i32_106
  let c256_i32_107 : BitVec 32 := 256#32
  let v189 : BitVec 32 := Scalar.addi v188 c256_i32_107
  v189
@[reducible] def k0_t2_loop (i : grid0.Coords) : Scf.Loop 32 :=
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let v16 : BitVec 32 := Scalar.addi c0_i32_15 v15
  let c1_i32_17 : BitVec 32 := 1#32
  ⟨v19, v16, c1_i32_17⟩
def k0_mult3 (i : grid0.Coords) (k0_t2 : Fin (k0_t2_loop i).trips) : BitVec 32 :=
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let c1_i32_17 : BitVec 32 := 1#32
  let arg13 : BitVec 32 := Scf.iv v19 c1_i32_17 k0_t2
  let c512_i32_79 : BitVec 32 := 512#32
  let v138 : BitVec 32 := Scalar.muli arg13 c512_i32_79
  let c0_i32_80 : BitVec 32 := 0#32
  let v139 : BitVec 32 := Scalar.addi v138 c0_i32_80
  v139
def k0_off4 (i : grid0.Coords) (k0_t2 : Fin (k0_t2_loop i).trips) (c0_i32_80 : BitVec 32) : Fin 3 → Nat :=
  let c0_81 : Index := 0#32
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let c1_i32_17 : BitVec 32 := 1#32
  let arg13 : BitVec 32 := Scf.iv v19 c1_i32_17 k0_t2
  let c512_i32_79 : BitVec 32 := 512#32
  let v138 : BitVec 32 := Scalar.muli arg13 c512_i32_79
  let v139 : BitVec 32 := Scalar.addi v138 c0_i32_80
  let v140 : BitVec 32 := v139
  let v141 : Index := Scalar.indexCast v140
  let c0_82 : Index := 0#32
  ![0, v141.toNat, 0]
def k0_off5 (i : grid0.Coords) (k0_t2 : Fin (k0_t2_loop i).trips) (c0_i32_80 : BitVec 32) : Fin 3 → Nat :=
  let c0_85 : Index := 0#32
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let c1_i32_17 : BitVec 32 := 1#32
  let arg13 : BitVec 32 := Scf.iv v19 c1_i32_17 k0_t2
  let c512_i32_79 : BitVec 32 := 512#32
  let v138 : BitVec 32 := Scalar.muli arg13 c512_i32_79
  let v139 : BitVec 32 := Scalar.addi v138 c0_i32_80
  let v140 : BitVec 32 := v139
  let v150 : Index := Scalar.indexCast v140
  let c0_86 : Index := 0#32
  ![0, v150.toNat, 0]
def k0_off6 (i : grid0.Coords) (k0_t2 : Fin (k0_t2_loop i).trips) (c0_i32_80 : BitVec 32) : Fin 3 → Nat :=
  let c0_101 : Index := 0#32
  let c0_102 : Index := 0#32
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let c1_i32_17 : BitVec 32 := 1#32
  let arg13 : BitVec 32 := Scf.iv v19 c1_i32_17 k0_t2
  let c512_i32_79 : BitVec 32 := 512#32
  let v138 : BitVec 32 := Scalar.muli arg13 c512_i32_79
  let v139 : BitVec 32 := Scalar.addi v138 c0_i32_80
  let v140 : BitVec 32 := v139
  let v180 : Index := Scalar.indexCast v140
  ![0, 0, v180.toNat]
def k0_mult4 (i : grid0.Coords) (k0_t2 : Fin (k0_t2_loop i).trips) : BitVec 32 :=
  let c0_i32_15 : BitVec 32 := 0#32
  let arg1 : BitVec 32 := BitVec.ofNat 32 (i 1).val
  let v15 : BitVec 32 := Scalar.subi arg1 c0_i32_15
  let c1_i32 : BitVec 32 := 1#32
  let v17 : BitVec 32 := Scalar.divsi v15 c1_i32
  let v18 : BitVec 32 := Scalar.muli v17 c1_i32
  let v19 : BitVec 32 := Scalar.addi c0_i32_15 v18
  let c1_i32_17 : BitVec 32 := 1#32
  let arg13 : BitVec 32 := Scf.iv v19 c1_i32_17 k0_t2
  let c512_i32_106 : BitVec 32 := 512#32
  let v188 : BitVec 32 := Scalar.muli arg13 c512_i32_106
  let c256_i32_107 : BitVec 32 := 256#32
  let v189 : BitVec 32 := Scalar.addi v188 c256_i32_107
  v189
def k0_mult5 (i : grid0.Coords) : BitVec 32 :=
  let arg1 : BitVec 32 := BitVec.ofNat 32 (i 1).val
  let c512_i32 : BitVec 32 := 512#32
  let v20 : BitVec 32 := Scalar.muli arg1 c512_i32
  let c0_i32_18 : BitVec 32 := 0#32
  let v21 : BitVec 32 := Scalar.addi v20 c0_i32_18
  v21
def k0_off7 (i : grid0.Coords) (c0_i32_18 : BitVec 32) : Fin 3 → Nat :=
  let c0_19 : Index := 0#32
  let arg1 : BitVec 32 := BitVec.ofNat 32 (i 1).val
  let c512_i32 : BitVec 32 := 512#32
  let v20 : BitVec 32 := Scalar.muli arg1 c512_i32
  let v21 : BitVec 32 := Scalar.addi v20 c0_i32_18
  let v22 : BitVec 32 := v21
  let v23 : Index := Scalar.indexCast v22
  let c0_20 : Index := 0#32
  ![0, v23.toNat, 0]
def k0_off8 (i : grid0.Coords) (c0_i32_18 : BitVec 32) : Fin 3 → Nat :=
  let c0_25 : Index := 0#32
  let arg1 : BitVec 32 := BitVec.ofNat 32 (i 1).val
  let c512_i32 : BitVec 32 := 512#32
  let v20 : BitVec 32 := Scalar.muli arg1 c512_i32
  let v21 : BitVec 32 := Scalar.addi v20 c0_i32_18
  let v22 : BitVec 32 := v21
  let v39 : Index := Scalar.indexCast v22
  let c0_26 : Index := 0#32
  ![0, v39.toNat, 0]
def k0_off9 (i : grid0.Coords) (c0_i32_18 : BitVec 32) : Fin 3 → Nat :=
  let c0_41 : Index := 0#32
  let c0_42 : Index := 0#32
  let arg1 : BitVec 32 := BitVec.ofNat 32 (i 1).val
  let c512_i32 : BitVec 32 := 512#32
  let v20 : BitVec 32 := Scalar.muli arg1 c512_i32
  let v21 : BitVec 32 := Scalar.addi v20 c0_i32_18
  let v22 : BitVec 32 := v21
  let v69 : Index := Scalar.indexCast v22
  ![0, 0, v69.toNat]
def k0_mult6 (i : grid0.Coords) : BitVec 32 :=
  let arg1 : BitVec 32 := BitVec.ofNat 32 (i 1).val
  let c512_i32_46 : BitVec 32 := 512#32
  let v77 : BitVec 32 := Scalar.muli arg1 c512_i32_46
  let c256_i32 : BitVec 32 := 256#32
  let v78 : BitVec 32 := Scalar.addi v77 c256_i32
  v78
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x64 : Shape := ⟨3, ![8, 8192, 64]⟩

abbrev nBuf : Space → Nat
  | .hbm => 99
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S8192x8192x8, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x64x8192, .f32⟩
  | .hbm, ⟨67, _⟩ => ⟨S8192x8x64, .f32⟩
  | .hbm, ⟨68, _⟩ => ⟨S8x64x8192, .f32⟩
  | .hbm, ⟨69, _⟩ => ⟨S8x8192x8192, .f32⟩
  | .hbm, ⟨70, _⟩ => ⟨S8x64x8192, .f32⟩
  | .hbm, ⟨71, _⟩ => ⟨S8192x8x64, .f32⟩
  | .hbm, ⟨72, _⟩ => ⟨S8x8192x8192, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x1, .f32⟩
  | .hbm, ⟨78, _⟩ => ⟨S8x8192x1, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192x8192, .f32⟩
  | .hbm, ⟨91, _⟩ => ⟨S8x8192x8192, .f32⟩
  | .hbm, ⟨92, _⟩ => ⟨S8192x8192x8, .f32⟩
  | .hbm, ⟨93, _⟩ => ⟨S8192x8x32, .f32⟩
  | .hbm, ⟨94, _⟩ => ⟨S8192x32, .f32⟩
  | .hbm, ⟨95, _⟩ => ⟨S8x8192x64, .f32⟩
  | .hbm, ⟨96, _⟩ => ⟨S8192x8x64, .f32⟩
  | .hbm, ⟨97, _⟩ => ⟨S8x8192x64, .f32⟩
  | .hbm, ⟨98, _⟩ => ⟨S8192x8x64, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== FfnKernel.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1x2816x1024 : Shape := ⟨3, ![1, 2816, 1024]⟩
abbrev S2x2816x1024 : Shape := ⟨3, ![2, 2816, 1024]⟩
abbrev S1x1024 : Shape := ⟨2, ![1, 1024]⟩
abbrev S2x8192x2816 : Shape := ⟨3, ![2, 8192, 2816]⟩
abbrev S8192x2816 : Shape := ⟨2, ![8192, 2816]⟩
abbrev S1024x1024 : Shape := ⟨2, ![1024, 1024]⟩
abbrev S1x256x1024 : Shape := ⟨3, ![1, 256, 1024]⟩
abbrev S2x1024x256 : Shape := ⟨3, ![2, 1024, 256]⟩
abbrev S1024x256 : Shape := ⟨2, ![1024, 256]⟩
abbrev S256x1024 : Shape := ⟨2, ![256, 1024]⟩
abbrev S1x1024x256 : Shape := ⟨3, ![1, 1024, 256]⟩
abbrev S2816x512 : Shape := ⟨2, ![2816, 512]⟩
abbrev S1024x512 : Shape := ⟨2, ![1024, 512]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S2816x1024, .bf16⟩
  | .hbm, ⟨8, _⟩ => ⟨S1024x2816, .bf16⟩
  | .hbm, ⟨9, _⟩ => ⟨S2816x1024, .bf16⟩
  | .hbm, ⟨10, _⟩ => ⟨S1x2816x1024, .bf16⟩
  | .hbm, ⟨11, _⟩ => ⟨S1x2816x1024, .bf16⟩
  | .hbm, ⟨12, _⟩ => ⟨S2x2816x1024, .bf16⟩
  | .hbm, ⟨13, _⟩ => ⟨S2816x1024, .bf16⟩
  | .hbm, ⟨14, _⟩ => ⟨S8192x1024, .bf16⟩
  | .hbm, ⟨15, _⟩ => ⟨S1x1024, .f32⟩
  | .hbm, ⟨16, _⟩ => ⟨S1x1024, .f32⟩
  | .hbm, ⟨17, _⟩ => ⟨S2x8192x2816, .bf16⟩
  | .hbm, ⟨18, _⟩ => ⟨S8192x2816, .bf16⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S2x1024x256, .bf16⟩
  | .local _ .vmem, ⟨7, _⟩ => ⟨S2x1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x2816, .bf16⟩
  | .local _ .vmem, ⟨11, _⟩ => ⟨S1024x2816, .bf16⟩
  | .local _ .vmem, ⟨12, _⟩ => ⟨S2816x512, .bf16⟩
  | .local _ .vmem, ⟨13, _⟩ => ⟨S2816x512, .bf16⟩
  | .local _ .vmem, ⟨14, _⟩ => ⟨S1024x512, .f32⟩
  | .local _ .vmem, ⟨15, _⟩ => ⟨S1024x512, .f32⟩
  | .local _ .vmem, ⟨16, _⟩ => ⟨S8x128, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2816x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== FfnReferenceIdeal.lean ====
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== ActKernel.lean ====
abbrev S2x8192x2816 : Shape := ⟨3, ![2, 8192, 2816]⟩
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S256x1024 : Shape := ⟨2, ![256, 1024]⟩
abbrev S2x1024x256 : Shape := ⟨3, ![2, 1024, 256]⟩
abbrev S1024x256 : Shape := ⟨2, ![1024, 256]⟩
abbrev S1x1024x256 : Shape := ⟨3, ![1, 1024, 256]⟩

abbrev nBuf : Space → Nat
  | .hbm => 8
  | .vmem => 10
  | .smem => 0
  | _ => 0

abbrev bufTy : (tb : Table) → Fin (tcTables nBuf tb) → BufTy
  | .hbm, ⟨0, _⟩ => ⟨S2x8192x2816, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S2x8192x2816, .bf16⟩
  | .hbm, ⟨6, _⟩ => ⟨S2x8192x2816, .bf16⟩
  | .hbm, ⟨7, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S2x1024x256, .bf16⟩
  | .local _ .vmem, ⟨5, _⟩ => ⟨S2x1024x256, .bf16⟩
  | .local _ .vmem, ⟨6, _⟩ => ⟨S2x1024x256, .bf16⟩
  | .local _ .vmem, ⟨7, _⟩ => ⟨S2x1024x256, .bf16⟩
  | .local _ .vmem, ⟨8, _⟩ => ⟨S1024x256, .bf16⟩
  | .local _ .vmem, ⟨9, _⟩ => ⟨S1024x256, .bf16⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActReferenceIdeal.lean ====
abbrev S2x8192x2816 : Shape := ⟨3, ![2, 8192, 2816]⟩
abbrev S2816x1024 : Shape := ⟨2, ![2816, 1024]⟩
abbrev S8192x1024 : Shape := ⟨2, ![8192, 1024]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S2816x1024, .f32⟩
  | .hbm, ⟨2, _⟩ => ⟨S8192x1024, .f32⟩
  | .hbm, ⟨3, _⟩ => ⟨S1x8192x2816, .f32⟩
  | .hbm, ⟨4, _⟩ => ⟨S8192x2816, .f32⟩
  | .hbm, ⟨5, _⟩ => ⟨S1x8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | .hbm, ⟨33, _⟩ => ⟨S8192x2816, .bf16⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== DownKernel.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateKernel.lean ====
abbrev S2x8192x2816 : Shape := ⟨3, ![2, 8192, 2816]⟩
abbrev S8192x1024 : Shape := ⟨2, ![8192, 1024]⟩
abbrev S2816x1024 : Shape := ⟨2, ![2816, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x2816, .f32⟩
  | .hbm, ⟨1, _⟩ => ⟨S8192x1024, .f32⟩
  | .hbm, ⟨2, _⟩ => ⟨S2x8192x2816, .bf16⟩
  | .hbm, ⟨3, _⟩ => ⟨S8192x1024, .bf16⟩
  | .hbm, ⟨4, _⟩ => ⟨S2816x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S2x8192x2816 : Shape := ⟨3, ![2, 8192, 2816]⟩
abbrev S8192x1024 : Shape := ⟨2, ![8192, 1024]⟩
abbrev S1x8192x2816 : Shape := ⟨3, ![1, 8192, 2816]⟩
abbrev S8192x2816 : Shape := ⟨2, ![8192, 2816]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S8192x1024, .f32⟩
  | .hbm, ⟨2, _⟩ => ⟨S1x8192x2816, .f32⟩
  | .hbm, ⟨3, _⟩ => ⟨S8192x2816, .f32⟩
  | .hbm, ⟨4, _⟩ => ⟨S2816x8192, .f32⟩
  | .hbm, ⟨5, _⟩ => ⟨S2816x1024, .f32⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpKernel.lean ====
abbrev S2x8192x2816 : Shape := ⟨3, ![2, 8192, 2816]⟩
abbrev S8192x1024 : Shape := ⟨2, ![8192, 1024]⟩
abbrev S2816x1024 : Shape := ⟨2, ![2816, 1024]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x2816, .f32⟩
  | .hbm, ⟨1, _⟩ => ⟨S8192x1024, .f32⟩
  | .hbm, ⟨2, _⟩ => ⟨S2x8192x2816, .bf16⟩
  | .hbm, ⟨3, _⟩ => ⟨S8192x1024, .bf16⟩
  | .hbm, ⟨4, _⟩ => ⟨S2816x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2x8192x2816 : Shape := ⟨3, ![2, 8192, 2816]⟩
abbrev S8192x1024 : Shape := ⟨2, ![8192, 1024]⟩
abbrev S1x8192x2816 : Shape := ⟨3, ![1, 8192, 2816]⟩
abbrev S8192x2816 : Shape := ⟨2, ![8192, 2816]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S8192x1024, .f32⟩
  | .hbm, ⟨2, _⟩ => ⟨S1x8192x2816, .f32⟩
  | .hbm, ⟨3, _⟩ => ⟨S8192x2816, .f32⟩
  | .hbm, ⟨4, _⟩ => ⟨S2816x8192, .f32⟩
  | .hbm, ⟨5, _⟩ => ⟨S2816x1024, .f32⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxKernel.lean ====
abbrev S2x8192x2816 : Shape := ⟨3, ![2, 8192, 2816]⟩
abbrev S1024x2816 : Shape := ⟨2, ![1024, 2816]⟩
abbrev S8192x1024 : Shape := ⟨2, ![8192, 1024]⟩
abbrev S2816x1024 : Shape := ⟨2, ![2816, 1024]⟩
abbrev S1x2816x1024 : Shape := ⟨3, ![1, 2816, 1024]⟩
abbrev S2x2816x1024 : Shape := ⟨3, ![2, 2816, 1024]⟩
abbrev S1x1024x2816 : Shape := ⟨3, ![1, 1024, 2816]⟩
abbrev S1x2816x512 : Shape := ⟨3, ![1, 2816, 512]⟩
abbrev S1024x512 : Shape := ⟨2, ![1024, 512]⟩
abbrev S2816x512 : Shape := ⟨2, ![2816, 512]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x2816, .f32⟩
  | .hbm, ⟨1, _⟩ => ⟨S1024x2816, .f32⟩
  | .hbm, ⟨2, _⟩ => ⟨S1024x2816, .f32⟩
  | .hbm, ⟨3, _⟩ => ⟨S8192x1024, .f32⟩
  | .hbm, ⟨4, _⟩ => ⟨S1024x2816, .bf16⟩
  | .hbm, ⟨5, _⟩ => ⟨S2816x1024, .bf16⟩
  | .hbm, ⟨6, _⟩ => ⟨S1024x2816, .bf16⟩
  | .hbm, ⟨7, _⟩ => ⟨S2816x1024, .bf16⟩
  | .hbm, ⟨8, _⟩ => ⟨S1x2816x1024, .bf16⟩
  | .hbm, ⟨9, _⟩ => ⟨S1x2816x1024, .bf16⟩
  | .hbm, ⟨10, _⟩ => ⟨S2x2816x1024, .bf16⟩
  | .hbm, ⟨11, _⟩ => ⟨S2x8192x2816, .bf16⟩
  | .hbm, ⟨12, _⟩ => ⟨S8192x1024, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x2816x512, .bf16⟩
  | .local _ .vmem, ⟨3, _⟩ => ⟨S1x2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxReferenceIdeal.lean ====
abbrev S2x8192x2816 : Shape := ⟨3, ![2, 8192, 2816]⟩
abbrev S1024x2816 : Shape := ⟨2, ![1024, 2816]⟩
abbrev S8192x1024 : Shape := ⟨2, ![8192, 1024]⟩
abbrev S_ : Shape := ⟨0, ![]⟩
abbrev S1x8192x2816 : Shape := ⟨3, ![1, 8192, 2816]⟩
abbrev S8192x2816 : Shape := ⟨2, ![8192, 2816]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2816, .f32⟩
  | .hbm, ⟨1, _⟩ => ⟨S1024x2816, .f32⟩
  | .hbm, ⟨2, _⟩ => ⟨S1024x2816, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S1x8192x2816, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S1x8192x2816, .f32⟩
  | .hbm, ⟨13, _⟩ => ⟨S8192x2816, .f32⟩
  | .hbm, ⟨14, _⟩ => ⟨S2816x1024, .f32⟩
  | .hbm, ⟨15, _⟩ => ⟨S8192x1024, .f32⟩
  | .hbm, ⟨16, _⟩ => ⟨S8192x1024, .f32⟩
  | _, _ => ⟨S2x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== AttKernel.lean ====
abbrev S8192x8x64 : Shape := ⟨3, ![8192, 8, 64]⟩
abbrev S8192x8x32 : Shape := ⟨3, ![8192, 8, 32]⟩
abbrev S8192x32 : Shape := ⟨2, ![8192, 32]⟩
abbrev S_ : Shape := ⟨0, ![]⟩
abbrev S8192x8x128 : Shape := ⟨3, ![8192, 8, 128]⟩
abbrev S8192x1x32 : Shape := ⟨3, ![8192, 1, 32]⟩
abbrev S8x8192x128 : Shape := ⟨3, ![8, 8192, 128]⟩
abbrev S8x64x8192 : Shape := ⟨3, ![8, 64, 8192]⟩
abbrev S8x1x8192 : Shape := ⟨3, ![8, 1, 8192]⟩
abbrev S4x512x128 : Shape := ⟨3, ![4, 512, 128]⟩
abbrev S4x8192x128 : Shape := ⟨3, ![4, 8192, 128]⟩
abbrev S4x64x8192 : Shape := ⟨3, ![4, 64, 8192]⟩
abbrev S4x64x512 : Shape := ⟨3, ![4, 64, 512]⟩
abbrev S4x1x512 : Shape := ⟨3, ![4, 1, 512]⟩
abbrev S1x512x128 : Shape := ⟨3, ![1, 512, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩

abbrev nBuf : Space → Nat
  | .hbm => 20
  | .vmem => 13
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S_, .f32⟩
  | .hbm, ⟨6, _⟩ => ⟨S8192x8x32, .f32⟩
  | .hbm, ⟨7, _⟩ => ⟨S8192x8x128, .f32⟩
  | .hbm, ⟨8, _⟩ => ⟨S8192x1x32, .f32⟩
  | .hbm, ⟨9, _⟩ => ⟨S8192x8x32, .f32⟩
  | .hbm, ⟨10, _⟩ => ⟨S8192x8x128, .f32⟩
  | .hbm, ⟨11, _⟩ => ⟨S8x8192x128, .f32⟩
  | .hbm, ⟨12, _⟩ => ⟨S8x8192x128, .bf16⟩
  | .hbm, ⟨13, _⟩ => ⟨S8x8192x128, .f32⟩
  | .hbm, ⟨14, _⟩ => ⟨S8x8192x128, .bf16⟩
  | .hbm, ⟨15, _⟩ => ⟨S8192x8x64, .bf16⟩
  | .hbm, ⟨16, _⟩ => ⟨S8x64x8192, .bf16⟩
  | .hbm, ⟨17, _⟩ => ⟨S8x64x8192, .f32⟩
  | .hbm, ⟨18, _⟩ => ⟨S8x1x8192, .f32⟩
  | .hbm, ⟨19, _⟩ => ⟨S8192x8x64, .f32⟩
  | .local _ .vmem, ⟨0, _⟩ => ⟨S4x512x128, .bf16⟩
  | .local _ .vmem, ⟨1, _⟩ => ⟨S4x512x128, .bf16⟩
  | .local _ .vmem, ⟨2, _⟩ => ⟨S4x8192x128, .bf16⟩
  | .local _ .vmem, ⟨3, _⟩ => ⟨S4x8192x128, .bf16⟩
  | .local _ .vmem, ⟨4, _⟩ => ⟨S4x64x8192, .bf16⟩
  | .local _ .vmem, ⟨5, _⟩ => ⟨S4x64x8192, .bf16⟩
  | .local _ .vmem, ⟨6, _⟩ => ⟨S4x64x512, .f32⟩
  | .local _ .vmem, ⟨7, _⟩ => ⟨S4x64x512, .f32⟩
  | .local _ .vmem, ⟨8, _⟩ => ⟨S4x1x512, .f32⟩
  | .local _ .vmem, ⟨9, _⟩ => ⟨S4x1x512, .f32⟩
  | .local _ .vmem, ⟨10, _⟩ => ⟨S4x1x512, .f32⟩
  | .local _ .vmem, ⟨11, _⟩ => ⟨S4x1x512, .f32⟩
  | .local _ .vmem, ⟨12, _⟩ => ⟨S4x64x512, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  v221
def k0_off1 (i : grid0.Coords) (k0_t1 : Fin (k0_t1_loop i).trips) : Fin 3 → Nat :=
  let c0_153 : Index := 0#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v223 : Index := Scalar.indexCast v222
  let c0_154 : Index := 0#32
  ![0, v223.toNat, 0]
def k0_off2 (i : grid0.Coords) (k0_t1 : Fin (k0_t1_loop i).trips) : Fin 3 → Nat :=
  let c0_174 : Index := 0#32
  let c0_175 : Index := 0#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v254 : Index := Scalar.indexCast v222
  ![0, 0, v254.toNat]
def k0_off3 (i : grid0.Coords) (k0_t1 : Fin (k0_t1_loop i).trips) : Fin 3 → Nat :=
  let c1_183 : Index := 1#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v266 : Index := Scalar.indexCast v222
  let c0_184 : Index := 0#32
  ![1, v266.toNat, 0]
def k0_off4 (i : grid0.Coords) (k0_t1 : Fin (k0_t1_loop i).trips) : Fin 3 → Nat :=
  let c1_204 : Index := 1#32
  let c0_205 : Index := 0#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v297 : Index := Scalar.indexCast v222
  ![1, 0, v297.toNat]
def k0_off5 (i : grid0.Coords) (k0_t1 : Fin (k0_t1_loop i).trips) : Fin 3 → Nat :=
  let c2_213 : Index := 2#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v309 : Index := Scalar.indexCast v222
  let c0_214 : Index := 0#32
  ![2, v309.toNat, 0]
def k0_off6 (i : grid0.Coords) (k0_t1 : Fin (k0_t1_loop i).trips) : Fin 3 → Nat :=
  let c2_234 : Index := 2#32
  let c0_235 : Index := 0#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v340 : Index := Scalar.indexCast v222
  ![2, 0, v340.toNat]
def k0_off7 (i : grid0.Coords) (k0_t1 : Fin (k0_t1_loop i).trips) : Fin 3 → Nat :=
  let c3_243 : Index := 3#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v352 : Index := Scalar.indexCast v222
  let c0_244 : Index := 0#32
  ![3, v352.toNat, 0]
def k0_off8 (i : grid0.Coords) (k0_t1 : Fin (k0_t1_loop i).trips) : Fin 3 → Nat :=
  let c3_264 : Index := 3#32
  let c0_265 : Index := 0#32
  let c0_i32_10 : BitVec 32 := 0#32
  let c1_i32_11 : BitVec 32 := 1#32
  let arg10 : BitVec 32 := Scf.iv c0_i32_10 c1_i32_11 k0_t1
  let c512_i32_152 : BitVec 32 := 512#32
  let v221 : BitVec 32 := Scalar.muli arg10 c512_i32_152
  let v222 : BitVec 32 := v221
  let v383 : Index := Scalar.indexCast v222
  ![3, 0, v383.toNat]
@[reducible] def k0_t2_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  v221
def k0_off9 (i : grid0.Coords) (k0_t2 : Fin (k0_t2_loop i).trips) : Fin 3 → Nat :=
  let c0_153 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v223 : Index := Scalar.indexCast v222
  let c0_154 : Index := 0#32
  ![0, v223.toNat, 0]
def k0_off10 (i : grid0.Coords) (k0_t2 : Fin (k0_t2_loop i).trips) : Fin 3 → Nat :=
  let c0_174 : Index := 0#32
  let c0_175 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v254 : Index := Scalar.indexCast v222
  ![0, 0, v254.toNat]
def k0_off11 (i : grid0.Coords) (k0_t2 : Fin (k0_t2_loop i).trips) : Fin 3 → Nat :=
  let c1_183 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v266 : Index := Scalar.indexCast v222
  let c0_184 : Index := 0#32
  ![1, v266.toNat, 0]
def k0_off12 (i : grid0.Coords) (k0_t2 : Fin (k0_t2_loop i).trips) : Fin 3 → Nat :=
  let c1_204 : Index := 1#32
  let c0_205 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v297 : Index := Scalar.indexCast v222
  ![1, 0, v297.toNat]
def k0_off13 (i : grid0.Coords) (k0_t2 : Fin (k0_t2_loop i).trips) : Fin 3 → Nat :=
  let c2_213 : Index := 2#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v309 : Index := Scalar.indexCast v222
  let c0_214 : Index := 0#32
  ![2, v309.toNat, 0]
def k0_off14 (i : grid0.Coords) (k0_t2 : Fin (k0_t2_loop i).trips) : Fin 3 → Nat :=
  let c2_234 : Index := 2#32
  let c0_235 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v340 : Index := Scalar.indexCast v222
  ![2, 0, v340.toNat]
def k0_off15 (i : grid0.Coords) (k0_t2 : Fin (k0_t2_loop i).trips) : Fin 3 → Nat :=
  let c3_243 : Index := 3#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v352 : Index := Scalar.indexCast v222
  let c0_244 : Index := 0#32
  ![3, v352.toNat, 0]
def k0_off16 (i : grid0.Coords) (k0_t2 : Fin (k0_t2_loop i).trips) : Fin 3 → Nat :=
  let c3_264 : Index := 3#32
  let c0_265 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_152 : BitVec 32 := 512#32
  let v221 : BitVec 32 := Scalar.muli arg10 c512_i32_152
  let v222 : BitVec 32 := v221
  let v383 : Index := Scalar.indexCast v222
  ![3, 0, v383.toNat]
def k0_mult3 (i : grid0.Coords) : BitVec 32 :=
  let arg1 : BitVec 32 := BitVec.ofNat 32 (i 1).val
  let c512_i32 : BitVec 32 := 512#32
  let v17 : BitVec 32 := Scalar.muli arg1 c512_i32
  v17
def k0_off17 (i : grid0.Coords) : Fin 3 → Nat :=
  let c0_13 : Index := 0#32
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  let c0_14 : Index := 0#32
  ![0, v19.toNat, 0]
def k0_off18 (i : grid0.Coords) : Fin 3 → Nat :=
  let c0_35 : Index := 0#32
  let c0_36 : Index := 0#32
  let arg1 : BitVec 32 := BitVec.ofNat 32 (i 1).val
  let c512_i32 : BitVec 32 := 512#32
  let v17 : BitVec 32 := Scalar.muli arg1 c512_i32
  let v18 : BitVec 32 := v17
  let v55 : Index := Scalar.indexCast v18
  ![0, 0, v55.toNat]
def k0_off19 (i : grid0.Coords) : Fin 3 → Nat :=
  let c1 : Index := 1#32
  let arg1 : BitVec 32 := BitVec.ofNat 32 (i 1).val
  let c512_i32 : BitVec 32 := 512#32
  let v17 : BitVec 32 := Scalar.muli arg1 c512_i32
  let v18 : BitVec 32 := v17
  let v67 : Index := Scalar.indexCast v18
  let c0_44 : Index := 0#32
  ![1, v67.toNat, 0]
def k0_off20 (i : grid0.Coords) : Fin 3 → Nat :=
  let c1_65 : Index := 1#32
  let c0_66 : Index := 0#32
  let arg1 : BitVec 32 := BitVec.ofNat 32 (i 1).val
  let c512_i32 : BitVec 32 := 512#32
  let v17 : BitVec 32 := Scalar.muli arg1 c512_i32
  let v18 : BitVec 32 := v17
  let v103 : Index := Scalar.indexCast v18
  ![1, 0, v103.toNat]
def k0_off21 (i : grid0.Coords) : Fin 3 → Nat :=
  let c2 : Index := 2#32
  let arg1 : BitVec 32 := BitVec.ofNat 32 (i 1).val
  let c512_i32 : BitVec 32 := 512#32
  let v17 : BitVec 32 := Scalar.muli arg1 c512_i32
  let v18 : BitVec 32 := v17
  let v115 : Index := Scalar.indexCast v18
  let c0_74 : Index := 0#32
  ![2, v115.toNat, 0]
def k0_off22 (i : grid0.Coords) : Fin 3 → Nat :=
  let c2_95 : Index := 2#32
  let c0_96 : Index := 0#32
  let arg1 : BitVec 32 := BitVec.ofNat 32 (i 1).val
  let c512_i32 : BitVec 32 := 512#32
  let v17 : BitVec 32 := Scalar.muli arg1 c512_i32
  let v18 : BitVec 32 := v17
  let v151 : Index := Scalar.indexCast v18
  ![2, 0, v151.toNat]
def k0_off23 (i : grid0.Coords) : Fin 3 → Nat :=
  let c3 : Index := 3#32
  let arg1 : BitVec 32 := BitVec.ofNat 32 (i 1).val
  let c512_i32 : BitVec 32 := 512#32
  let v17 : BitVec 32 := Scalar.muli arg1 c512_i32
  let v18 : BitVec 32 := v17
  let v163 : Index := Scalar.indexCast v18
  let c0_104 : Index := 0#32
  ![3, v163.toNat, 0]
def k0_off24 (i : grid0.Coords) : Fin 3 → Nat :=
  let c3_125 : Index := 3#32
  let c0_126 : Index := 0#32
  let arg1 : BitVec 32 := BitVec.ofNat 32 (i 1).val
  let c512_i32 : BitVec 32 := 512#32
  let v17 : BitVec 32 := Scalar.muli arg1 c512_i32
  let v18 : BitVec 32 := v17
  let v199 : Index := Scalar.indexCast v18
  ![3, 0, v199.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttKernelIdeal.lean ====
variable {F : FTy → Type} [FloatOps F] [Named F]
def κ : String → Option EReal := fun
  | "mask" => some ⊥
  | _ => none
-- ==== AttReferenceIdeal.lean ====
abbrev S8192x8x64 : Shape := ⟨3, ![8192, 8, 64]⟩
abbrev S8192x8x32 : Shape := ⟨3, ![8192, 8, 32]⟩
abbrev S8192x32 : Shape := ⟨2, ![8192, 32]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x1x8192 : Shape := ⟨3, ![8, 1, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x32, .f32⟩
  | .hbm, ⟨2, _⟩ => ⟨S8192x8x64, .f32⟩
  | .hbm, ⟨3, _⟩ => ⟨S8192x32, .f32⟩
  | .hbm, ⟨4, _⟩ => ⟨S8192x8x64, .f32⟩
  | .hbm, ⟨5, _⟩ => ⟨S8x8192x8192, .f32⟩
  | .hbm, ⟨6, _⟩ => ⟨S8192x8192x8, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x1, .f32⟩
  | .hbm, ⟨35, _⟩ => ⟨S8x8192x1, .f32⟩
  | .hbm, ⟨36, _⟩ => ⟨S8x8192x8192, .f32⟩
  | .hbm, ⟨37, _⟩ => ⟨S8192x8192x8, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8192, .i32⟩
  | .hbm, ⟨44, _⟩ => ⟨S1x8192, .i32⟩
  | .hbm, ⟨45, _⟩ => ⟨S8192, .i32⟩
  | .hbm, ⟨46, _⟩ => ⟨S8192x1, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S1x8192x8192, .i1⟩
  | .hbm, ⟨51, _⟩ => ⟨S_, .f32⟩
  | .hbm, ⟨52, _⟩ => ⟨S_, .f32⟩
  | .hbm, ⟨53, _⟩ => ⟨S8x8192x8192, .i1⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S_, .f32⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S8x64x8192, .f32⟩
  | .hbm, ⟨71, _⟩ => ⟨S8192x8x64, .f32⟩
  | .hbm, ⟨72, _⟩ => ⟨S8x1x8192, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== MixKernel.lean ====
abbrev S8192x1024 : Shape := ⟨2, ![8192, 1024]⟩
abbrev S1024x1024 : Shape := ⟨2, ![1024, 1024]⟩
abbrev S1024 : Shape := ⟨1, ![1024]⟩
abbrev S1024x512 : Shape := ⟨2, ![1024, 512]⟩
abbrev S8x128 : Shape := ⟨2, ![8, 128]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== MixReferenceIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== OutDwKernel.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDxKernel.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InKernel.lean ====
abbrev S8192x1024 : Shape := ⟨2, ![8192, 1024]⟩
abbrev S1024x1184 : Shape := ⟨2, ![1024, 1184]⟩
abbrev S_ : Shape := ⟨0, ![]⟩
abbrev S1024x112 : Shape := ⟨2, ![1024, 112]⟩
abbrev S1024x768 : Shape := ⟨2, ![1024, 768]⟩
abbrev S1024x256 : Shape := ⟨2, ![1024, 256]⟩
abbrev S1024x128 : Shape := ⟨2, ![1024, 128]⟩
abbrev S1024x16 : Shape := ⟨2, ![1024, 16]⟩
abbrev S1024x1408 : Shape := ⟨2, ![1024, 1408]⟩
abbrev S8192x1408 : Shape := ⟨2, ![8192, 1408]⟩
abbrev S1024x1024 : Shape := ⟨2, ![1024, 1024]⟩
abbrev S8x128 : Shape := ⟨2, ![8, 128]⟩
abbrev S8192x768 : Shape := ⟨2, ![8192, 768]⟩
abbrev S8192x128 : Shape := ⟨2, ![8192, 128]⟩
abbrev S8192x16 : Shape := ⟨2, ![8192, 16]⟩
abbrev S8192x256 : Shape := ⟨2, ![8192, 256]⟩
abbrev S8192x1184 : Shape := ⟨2, ![8192, 1184]⟩

abbrev nBuf : Space → Nat
  | .hbm => 19
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1184, .f32⟩
  | .hbm, ⟨2, _⟩ => ⟨S8192x1024, .bf16⟩
  | .hbm, ⟨3, _⟩ => ⟨S1024x1184, .bf16⟩
  | .hbm, ⟨4, _⟩ => ⟨S_, .bf16⟩
  | .hbm, ⟨5, _⟩ => ⟨S1024x112, .bf16⟩
  | .hbm, ⟨6, _⟩ => ⟨S1024x768, .bf16⟩
  | .hbm, ⟨7, _⟩ => ⟨S1024x256, .bf16⟩
  | .hbm, ⟨8, _⟩ => ⟨S1024x128, .bf16⟩
  | .hbm, ⟨9, _⟩ => ⟨S1024x16, .bf16⟩
  | .hbm, ⟨10, _⟩ => ⟨S1024x16, .bf16⟩
  | .hbm, ⟨11, _⟩ => ⟨S1024x1408, .bf16⟩
  | .hbm, ⟨12, _⟩ => ⟨S8192x1408, .f32⟩
  | .hbm, ⟨13, _⟩ => ⟨S8192x768, .f32⟩
  | .hbm, ⟨14, _⟩ => ⟨S8192x128, .f32⟩
  | .hbm, ⟨15, _⟩ => ⟨S8192x16, .f32⟩
  | .hbm, ⟨16, _⟩ => ⟨S8192x16, .f32⟩
  | .hbm, ⟨17, _⟩ => ⟨S8192x256, .f32⟩
  | .hbm, ⟨18, _⟩ => ⟨S8192x1184, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .f32⟩
  | .local _ .vmem, ⟨4, _⟩ => ⟨S1024x1408, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x1024 : Shape := ⟨2, ![8192, 1024]⟩
abbrev S1024x1184 : Shape := ⟨2, ![1024, 1184]⟩
abbrev S8192x1184 : Shape := ⟨2, ![8192, 1184]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1184, .f32⟩
  | .hbm, ⟨2, _⟩ => ⟨S8192x1184, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDwKernel.lean ====
abbrev S8192x1024 : Shape := ⟨2, ![8192, 1024]⟩
abbrev S8192x1184 : Shape := ⟨2, ![8192, 1184]⟩
abbrev S_ : Shape := ⟨0, ![]⟩
abbrev S8192x112 : Shape := ⟨2, ![8192, 112]⟩
abbrev S8192x768 : Shape := ⟨2, ![8192, 768]⟩
abbrev S8192x256 : Shape := ⟨2, ![8192, 256]⟩
abbrev S8192x128 : Shape := ⟨2, ![8192, 128]⟩
abbrev S8192x16 : Shape := ⟨2, ![8192, 16]⟩
abbrev S8192x1408 : Shape := ⟨2, ![8192, 1408]⟩
abbrev S1024x1408 : Shape := ⟨2, ![1024, 1408]⟩
abbrev S1024x1024 : Shape := ⟨2, ![1024, 1024]⟩
abbrev S1024x768 : Shape := ⟨2, ![1024, 768]⟩
abbrev S1024x128 : Shape := ⟨2, ![1024, 128]⟩
abbrev S1024x16 : Shape := ⟨2, ![1024, 16]⟩
abbrev S1024x256 : Shape := ⟨2, ![1024, 256]⟩
abbrev S1024x1184 : Shape := ⟨2, ![1024, 1184]⟩

abbrev nBuf : Space → Nat
  | .hbm => 19
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1184, .f32⟩
  | .hbm, ⟨2, _⟩ => ⟨S8192x1024, .bf16⟩
  | .hbm, ⟨3, _⟩ => ⟨S8192x1184, .bf16⟩
  | .hbm, ⟨4, _⟩ => ⟨S_, .bf16⟩
  | .hbm, ⟨5, _⟩ => ⟨S8192x112, .bf16⟩
  | .hbm, ⟨6, _⟩ => ⟨S8192x768, .bf16⟩
  | .hbm, ⟨7, _⟩ => ⟨S8192x256, .bf16⟩
  | .hbm, ⟨8, _⟩ => ⟨S8192x128, .bf16⟩
  | .hbm, ⟨9, _⟩ => ⟨S8192x16, .bf16⟩
  | .hbm, ⟨10, _⟩ => ⟨S8192x16, .bf16⟩
  | .hbm, ⟨11, _⟩ => ⟨S8192x1408, .bf16⟩
  | .hbm, ⟨12, _⟩ => ⟨S1024x1408, .f32⟩
  | .hbm, ⟨13, _⟩ => ⟨S1024x768, .f32⟩
  | .hbm, ⟨14, _⟩ => ⟨S1024x128, .f32⟩
  | .hbm, ⟨15, _⟩ => ⟨S1024x16, .f32⟩
  | .hbm, ⟨16, _⟩ => ⟨S1024x16, .f32⟩
  | .hbm, ⟨17, _⟩ => ⟨S1024x256, .f32⟩
  | .hbm, ⟨18, _⟩ => ⟨S1024x1184, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwReferenceIdeal.lean ====
abbrev S8192x1024 : Shape := ⟨2, ![8192, 1024]⟩
abbrev S8192x1184 : Shape := ⟨2, ![8192, 1184]⟩
abbrev S1024x8192 : Shape := ⟨2, ![1024, 8192]⟩
abbrev S1024x1184 : Shape := ⟨2, ![1024, 1184]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1184, .f32⟩
  | .hbm, ⟨2, _⟩ => ⟨S1024x8192, .f32⟩
  | .hbm, ⟨3, _⟩ => ⟨S1024x1184, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDxKernel.lean ====
abbrev S8192x1184 : Shape := ⟨2, ![8192, 1184]⟩
abbrev S1024x1184 : Shape := ⟨2, ![1024, 1184]⟩
abbrev S8192x1024 : Shape := ⟨2, ![8192, 1024]⟩
abbrev S_ : Shape := ⟨0, ![]⟩
abbrev S8192x112 : Shape := ⟨2, ![8192, 112]⟩
abbrev S8192x768 : Shape := ⟨2, ![8192, 768]⟩
abbrev S8192x256 : Shape := ⟨2, ![8192, 256]⟩
abbrev S8192x128 : Shape := ⟨2, ![8192, 128]⟩
abbrev S8192x16 : Shape := ⟨2, ![8192, 16]⟩
abbrev S8192x1408 : Shape := ⟨2, ![8192, 1408]⟩
abbrev S1024x112 : Shape := ⟨2, ![1024, 112]⟩
abbrev S1024x768 : Shape := ⟨2, ![1024, 768]⟩
abbrev S1024x256 : Shape := ⟨2, ![1024, 256]⟩
abbrev S1024x128 : Shape := ⟨2, ![1024, 128]⟩
abbrev S1024x16 : Shape := ⟨2, ![1024, 16]⟩
abbrev S1024x1408 : Shape := ⟨2, ![1024, 1408]⟩
abbrev S512x1408 : Shape := ⟨2, ![512, 1408]⟩
abbrev S1024x512 : Shape := ⟨2, ![1024, 512]⟩
abbrev S8x128 : Shape := ⟨2, ![8, 128]⟩

abbrev nBuf : Space → Nat
  | .hbm => 22
  | .vmem => 9
  | .smem => 0
  | _ => 0

abbrev bufTy : (tb : Table) → Fin (tcTables nBuf tb) → BufTy
  | .hbm, ⟨0, _⟩ => ⟨S8192x1184, .f32⟩
  | .hbm, ⟨1, _⟩ => ⟨S1024x1184, .f32⟩
  | .hbm, ⟨2, _⟩ => ⟨S8192x1024, .f32⟩
  | .hbm, ⟨3, _⟩ => ⟨S8192x1184, .bf16⟩
  | .hbm, ⟨4, _⟩ => ⟨S_, .bf16⟩
  | .hbm, ⟨5, _⟩ => ⟨S8192x112, .bf16⟩
  | .hbm, ⟨6, _⟩ => ⟨S8192x768, .bf16⟩
  | .hbm, ⟨7, _⟩ => ⟨S8192x256, .bf16⟩
  | .hbm, ⟨8, _⟩ => ⟨S8192x128, .bf16⟩
  | .hbm, ⟨9, _⟩ => ⟨S8192x16, .bf16⟩
  | .hbm, ⟨10, _⟩ => ⟨S8192x16, .bf16⟩
  | .hbm, ⟨11, _⟩ => ⟨S8192x1408, .bf16⟩
  | .hbm, ⟨12, _⟩ => ⟨S1024x1184, .bf16⟩
  | .hbm, ⟨13, _⟩ => ⟨S_, .bf16⟩
  | .hbm, ⟨14, _⟩ => ⟨S1024x112, .bf16⟩
  | .hbm, ⟨15, _⟩ => ⟨S1024x768, .bf16⟩
  | .hbm, ⟨16, _⟩ => ⟨S1024x256, .bf16⟩
  | .hbm, ⟨17, _⟩ => ⟨S1024x128, .bf16⟩
  | .hbm, ⟨18, _⟩ => ⟨S1024x16, .bf16⟩
  | .hbm, ⟨19, _⟩ => ⟨S1024x16, .bf16⟩
  | .hbm, ⟨20, _⟩ => ⟨S1024x1408, .bf16⟩
  | .hbm, ⟨21, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S8192x1184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxReferenceIdeal.lean ====
abbrev S8192x1184 : Shape := ⟨2, ![8192, 1184]⟩
abbrev S1024x1184 : Shape := ⟨2, ![1024, 1184]⟩
abbrev S8192x1024 : Shape := ⟨2, ![8192, 1024]⟩
abbrev S_ : Shape := ⟨0, ![]⟩
abbrev S1184x1024 : Shape := ⟨2, ![1184, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1184, .f32⟩
  | .hbm, ⟨1, _⟩ => ⟨S1024x1184, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S1184x1024, .f32⟩
  | .hbm, ⟨7, _⟩ => ⟨S8192x1024, .f32⟩
  | .hbm, ⟨8, _⟩ => ⟨S8192x1024, .f32⟩
  | _, _ => ⟨S8192x1184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AdamUpKernel.lean ====
abbrev S4x1024x352 : Shape := ⟨3, ![4, 1024, 352]⟩
abbrev S4096x352 : Shape := ⟨2, ![4096, 352]⟩
abbrev S256x352 : Shape := ⟨2, ![256, 352]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S4x1024x352, .f32⟩
  | .hbm, ⟨12, _⟩ => ⟨S4x1024x352, .f32⟩
  | .hbm, ⟨13, _⟩ => ⟨S4x1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpKernelIdeal.lean ====
abbrev S4x1024x352 : Shape := ⟨3, ![4, 1024, 352]⟩
abbrev S4096x352 : Shape := ⟨2, ![4096, 352]⟩
abbrev S256x352 : Shape := ⟨2, ![256, 352]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S4x1024x352, .f32⟩
  | .hbm, ⟨12, _⟩ => ⟨S4x1024x352, .f32⟩
  | .hbm, ⟨13, _⟩ => ⟨S4x1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S4x1024x352 : Shape := ⟨3, ![4, 1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDownKernel.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownKernelIdeal.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInKernel.lean ====
abbrev S4x1024x148 : Shape := ⟨3, ![4, 1024, 148]⟩
abbrev S4096x148 : Shape := ⟨2, ![4096, 148]⟩
abbrev S256x148 : Shape := ⟨2, ![256, 148]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x148, .f32⟩
  | .hbm, ⟨1, _⟩ => ⟨S4x1024x148, .f32⟩
  | .hbm, ⟨2, _⟩ => ⟨S4x1024x148, .f32⟩
  | .hbm, ⟨3, _⟩ => ⟨S4x1024x148, .f32⟩
  | .hbm, ⟨4, _⟩ => ⟨S4096x148, .f32⟩
  | .hbm, ⟨5, _⟩ => ⟨S4096x148, .f32⟩
  | .hbm, ⟨6, _⟩ => ⟨S4096x148, .f32⟩
  | .hbm, ⟨7, _⟩ => ⟨S4096x148, .f32⟩
  | .hbm, ⟨8, _⟩ => ⟨S4096x148, .f32⟩
  | .hbm, ⟨9, _⟩ => ⟨S4096x148, .f32⟩
  | .hbm, ⟨10, _⟩ => ⟨S4096x148, .f32⟩
  | .hbm, ⟨11, _⟩ => ⟨S4x1024x148, .f32⟩
  | .hbm, ⟨12, _⟩ => ⟨S4x1024x148, .f32⟩
  | .hbm, ⟨13, _⟩ => ⟨S4x1024x148, .f32⟩
  | .local _ .vmem, ⟨0, _⟩ => ⟨S256x148, .f32⟩
  | .local _ .vmem, ⟨1, _⟩ => ⟨S256x148, .f32⟩
  | .local _ .vmem, ⟨2, _⟩ => ⟨S256x148, .f32⟩
  | .local _ .vmem, ⟨3, _⟩ => ⟨S256x148, .f32⟩
  | .local _ .vmem, ⟨4, _⟩ => ⟨S256x148, .f32⟩
  | .local _ .vmem, ⟨5, _⟩ => ⟨S256x148, .f32⟩
  | .local _ .vmem, ⟨6, _⟩ => ⟨S256x148, .f32⟩
  | .local _ .vmem, ⟨7, _⟩ => ⟨S256x148, .f32⟩
  | .local _ .vmem, ⟨8, _⟩ => ⟨S256x148, .f32⟩
  | .local _ .vmem, ⟨9, _⟩ => ⟨S256x148, .f32⟩
  | .local _ .vmem, ⟨10, _⟩ => ⟨S256x148, .f32⟩
  | .local _ .vmem, ⟨11, _⟩ => ⟨S256x148, .f32⟩
  | .local _ .vmem, ⟨12, _⟩ => ⟨S256x148, .f32⟩
  | .local _ .vmem, ⟨13, _⟩ => ⟨S256x148, .f32⟩
  | _, _ => ⟨S4x1024x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x148 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x148 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x148 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x148 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x148 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x148 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x148 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInKernelIdeal.lean ====
abbrev S4x1024x148 : Shape := ⟨3, ![4, 1024, 148]⟩
abbrev S4096x148 : Shape := ⟨2, ![4096, 148]⟩
abbrev S256x148 : Shape := ⟨2, ![256, 148]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x148, .f32⟩
  | .hbm, ⟨1, _⟩ => ⟨S4x1024x148, .f32⟩
  | .hbm, ⟨2, _⟩ => ⟨S4x1024x148, .f32⟩
  | .hbm, ⟨3, _⟩ => ⟨S4x1024x148, .f32⟩
  | .hbm, ⟨4, _⟩ => ⟨S4096x148, .f32⟩
  | .hbm, ⟨5, _⟩ => ⟨S4096x148, .f32⟩
  | .hbm, ⟨6, _⟩ => ⟨S4096x148, .f32⟩
  | .hbm, ⟨7, _⟩ => ⟨S4096x148, .f32⟩
  | .hbm, ⟨8, _⟩ => ⟨S4096x148, .f32⟩
  | .hbm, ⟨9, _⟩ => ⟨S4096x148, .f32⟩
  | .hbm, ⟨10, _⟩ => ⟨S4096x148, .f32⟩
  | .hbm, ⟨11, _⟩ => ⟨S4x1024x148, .f32⟩
  | .hbm, ⟨12, _⟩ => ⟨S4x1024x148, .f32⟩
  | .hbm, ⟨13, _⟩ => ⟨S4x1024x148, .f32⟩
  | .local _ .vmem, ⟨0, _⟩ => ⟨S256x148, .f32⟩
  | .local _ .vmem, ⟨1, _⟩ => ⟨S256x148, .f32⟩
  | .local _ .vmem, ⟨2, _⟩ => ⟨S256x148, .f32⟩
  | .local _ .vmem, ⟨3, _⟩ => ⟨S256x148, .f32⟩
  | .local _ .vmem, ⟨4, _⟩ => ⟨S256x148, .f32⟩
  | .local _ .vmem, ⟨5, _⟩ => ⟨S256x148, .f32⟩
  | .local _ .vmem, ⟨6, _⟩ => ⟨S256x148, .f32⟩
  | .local _ .vmem, ⟨7, _⟩ => ⟨S256x148, .f32⟩
  | .local _ .vmem, ⟨8, _⟩ => ⟨S256x148, .f32⟩
  | .local _ .vmem, ⟨9, _⟩ => ⟨S256x148, .f32⟩
  | .local _ .vmem, ⟨10, _⟩ => ⟨S256x148, .f32⟩
  | .local _ .vmem, ⟨11, _⟩ => ⟨S256x148, .f32⟩
  | .local _ .vmem, ⟨12, _⟩ => ⟨S256x148, .f32⟩
  | .local _ .vmem, ⟨13, _⟩ => ⟨S256x148, .f32⟩
  | _, _ => ⟨S4x1024x148, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x148 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x148 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x148 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x148 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x148 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x148 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x148 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S4x1024x148 : Shape := ⟨3, ![4, 1024, 148]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x148, .f32⟩
  | .hbm, ⟨1, _⟩ => ⟨S4x1024x148, .f32⟩
  | .hbm, ⟨2, _⟩ => ⟨S4x1024x148, .f32⟩
  | .hbm, ⟨3, _⟩ => ⟨S4x1024x148, .f32⟩
  | .hbm, ⟨4, _⟩ => ⟨S_, .f32⟩
  | .hbm, ⟨5, _⟩ => ⟨S4x1024x148, .f32⟩
  | .hbm, ⟨6, _⟩ => ⟨S4x1024x148, .f32⟩
  | .hbm, ⟨7, _⟩ => ⟨S_, .f32⟩
  | .hbm, ⟨8, _⟩ => ⟨S4x1024x148, .f32⟩
  | .hbm, ⟨9, _⟩ => ⟨S4x1024x148, .f32⟩
  | .hbm, ⟨10, _⟩ => ⟨S4x1024x148, .f32⟩
  | .hbm, ⟨11, _⟩ => ⟨S_, .f32⟩
  | .hbm, ⟨12, _⟩ => ⟨S4x1024x148, .f32⟩
  | .hbm, ⟨13, _⟩ => ⟨S4x1024x148, .f32⟩
  | .hbm, ⟨14, _⟩ => ⟨S4x1024x148, .f32⟩
  | .hbm, ⟨15, _⟩ => ⟨S_, .f32⟩
  | .hbm, ⟨16, _⟩ => ⟨S4x1024x148, .f32⟩
  | .hbm, ⟨17, _⟩ => ⟨S4x1024x148, .f32⟩
  | .hbm, ⟨18, _⟩ => ⟨S4x1024x148, .f32⟩
  | .hbm, ⟨19, _⟩ => ⟨S_, .f32⟩
  | .hbm, ⟨20, _⟩ => ⟨S4x1024x148, .f32⟩
  | .hbm, ⟨21, _⟩ => ⟨S4x1024x148, .f32⟩
  | .hbm, ⟨22, _⟩ => ⟨S_, .f32⟩
  | .hbm, ⟨23, _⟩ => ⟨S4x1024x148, .f32⟩
  | .hbm, ⟨24, _⟩ => ⟨S4x1024x148, .f32⟩
  | .hbm, ⟨25, _⟩ => ⟨S4x1024x148, .f32⟩
  | .hbm, ⟨26, _⟩ => ⟨S_, .f32⟩
  | .hbm, ⟨27, _⟩ => ⟨S4x1024x148, .f32⟩
  | .hbm, ⟨28, _⟩ => ⟨S4x1024x148, .f32⟩
  | .hbm, ⟨29, _⟩ => ⟨S4x1024x148, .f32⟩
  | .hbm, ⟨30, _⟩ => ⟨S_, .f32⟩
  | .hbm, ⟨31, _⟩ => ⟨S4x1024x148, .f32⟩
  | .hbm, ⟨32, _⟩ => ⟨S4x1024x148, .f32⟩
  | .hbm, ⟨33, _⟩ => ⟨S4x1024x148, .f32⟩
  | .hbm, ⟨34, _⟩ => ⟨S_, .f32⟩
  | .hbm, ⟨35, _⟩ => ⟨S4x1024x148, .f32⟩
  | .hbm, ⟨36, _⟩ => ⟨S4x1024x148, .f32⟩
  | _, _ => ⟨S4x1024x148, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUqKernel.lean ====
abbrev S4x256x96 : Shape := ⟨3, ![4, 256, 96]⟩
abbrev S1024x96 : Shape := ⟨2, ![1024, 96]⟩
abbrev S256x96 : Shape := ⟨2, ![256, 96]⟩

abbrev nBuf : Space → Nat
  | .hbm => 14
  | .vmem => 14
  | .smem => 0
  | _ => 0

abbrev bufTy : (tb : Table) → Fin (tcTables nBuf tb) → BufTy
  | .hbm, ⟨0, _⟩ => ⟨S4x256x96, .f32⟩
  | .hbm, ⟨1, _⟩ => ⟨S4x256x96, .f32⟩
  | .hbm, ⟨2, _⟩ => ⟨S4x256x96, .f32⟩
  | .hbm, ⟨3, _⟩ => ⟨S4x256x96, .f32⟩
  | .hbm, ⟨4, _⟩ => ⟨S1024x96, .f32⟩
  | .hbm, ⟨5, _⟩ => ⟨S1024x96, .f32⟩
  | .hbm, ⟨6, _⟩ => ⟨S1024x96, .f32⟩
  | .hbm, ⟨7, _⟩ => ⟨S1024x96, .f32⟩
  | .hbm, ⟨8, _⟩ => ⟨S1024x96, .f32⟩
  | .hbm, ⟨9, _⟩ => ⟨S1024x96, .f32⟩
  | .hbm, ⟨10, _⟩ => ⟨S1024x96, .f32⟩
  | .hbm, ⟨11, _⟩ => ⟨S4x256x96, .f32⟩
  | .hbm, ⟨12, _⟩ => ⟨S4x256x96, .f32⟩
  | .hbm, ⟨13, _⟩ => ⟨S4x256x96, .f32⟩
  | .local _ .vmem, ⟨0, _⟩ => ⟨S256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S256x96, .f32⟩
  | .local _ .vmem, ⟨10, _⟩ => ⟨S256x96, .f32⟩
  | .local _ .vmem, ⟨11, _⟩ => ⟨S256x96, .f32⟩
  | .local _ .vmem, ⟨12, _⟩ => ⟨S256x96, .f32⟩
  | .local _ .vmem, ⟨13, _⟩ => ⟨S256x96, .f32⟩
  | _, _ => ⟨S4x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqKernelIdeal.lean ====
abbrev S4x256x96 : Shape := ⟨3, ![4, 256, 96]⟩
abbrev S1024x96 : Shape := ⟨2, ![1024, 96]⟩
abbrev S256x96 : Shape := ⟨2, ![256, 96]⟩

abbrev nBuf : Space → Nat
  | .hbm => 14
  | .vmem => 14
  | .smem => 0
  | _ => 0

abbrev bufTy : (tb : Table) → Fin (tcTables nBuf tb) → BufTy
  | .hbm, ⟨0, _⟩ => ⟨S4x256x96, .f32⟩
  | .hbm, ⟨1, _⟩ => ⟨S4x256x96, .f32⟩
  | .hbm, ⟨2, _⟩ => ⟨S4x256x96, .f32⟩
  | .hbm, ⟨3, _⟩ => ⟨S4x256x96, .f32⟩
  | .hbm, ⟨4, _⟩ => ⟨S1024x96, .f32⟩
  | .hbm, ⟨5, _⟩ => ⟨S1024x96, .f32⟩
  | .hbm, ⟨6, _⟩ => ⟨S1024x96, .f32⟩
  | .hbm, ⟨7, _⟩ => ⟨S1024x96, .f32⟩
  | .hbm, ⟨8, _⟩ => ⟨S1024x96, .f32⟩
  | .hbm, ⟨9, _⟩ => ⟨S1024x96, .f32⟩
  | .hbm, ⟨10, _⟩ => ⟨S1024x96, .f32⟩
  | .hbm, ⟨11, _⟩ => ⟨S4x256x96, .f32⟩
  | .hbm, ⟨12, _⟩ => ⟨S4x256x96, .f32⟩
  | .hbm, ⟨13, _⟩ => ⟨S4x256x96, .f32⟩
  | .local _ .vmem, ⟨0, _⟩ => ⟨S256x96, .f32⟩
  | .local _ .vmem, ⟨1, _⟩ => ⟨S256x96, .f32⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S256x96, .f32⟩
  | .local _ .vmem, ⟨10, _⟩ => ⟨S256x96, .f32⟩
  | .local _ .vmem, ⟨11, _⟩ => ⟨S256x96, .f32⟩
  | .local _ .vmem, ⟨12, _⟩ => ⟨S256x96, .f32⟩
  | .local _ .vmem, ⟨13, _⟩ => ⟨S256x96, .f32⟩
  | _, _ => ⟨S4x256x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqReferenceIdeal.lean ====
abbrev S4x256x96 : Shape := ⟨3, ![4, 256, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x96, .f32⟩
  | .hbm, ⟨1, _⟩ => ⟨S4x256x96, .f32⟩
  | .hbm, ⟨2, _⟩ => ⟨S4x256x96, .f32⟩
  | .hbm, ⟨3, _⟩ => ⟨S4x256x96, .f32⟩
  | .hbm, ⟨4, _⟩ => ⟨S_, .f32⟩
  | .hbm, ⟨5, _⟩ => ⟨S4x256x96, .f32⟩
  | .hbm, ⟨6, _⟩ => ⟨S4x256x96, .f32⟩
  | .hbm, ⟨7, _⟩ => ⟨S_, .f32⟩
  | .hbm, ⟨8, _⟩ => ⟨S4x256x96, .f32⟩
  | .hbm, ⟨9, _⟩ => ⟨S4x256x96, .f32⟩
  | .hbm, ⟨10, _⟩ => ⟨S4x256x96, .f32⟩
  | .hbm, ⟨11, _⟩ => ⟨S_, .f32⟩
  | .hbm, ⟨12, _⟩ => ⟨S4x256x96, .f32⟩
  | .hbm, ⟨13, _⟩ => ⟨S4x256x96, .f32⟩
  | .hbm, ⟨14, _⟩ => ⟨S4x256x96, .f32⟩
  | .hbm, ⟨15, _⟩ => ⟨S_, .f32⟩
  | .hbm, ⟨16, _⟩ => ⟨S4x256x96, .f32⟩
  | .hbm, ⟨17, _⟩ => ⟨S4x256x96, .f32⟩
  | .hbm, ⟨18, _⟩ => ⟨S4x256x96, .f32⟩
  | .hbm, ⟨19, _⟩ => ⟨S_, .f32⟩
  | .hbm, ⟨20, _⟩ => ⟨S4x256x96, .f32⟩
  | .hbm, ⟨21, _⟩ => ⟨S4x256x96, .f32⟩
  | .hbm, ⟨22, _⟩ => ⟨S_, .f32⟩
  | .hbm, ⟨23, _⟩ => ⟨S4x256x96, .f32⟩
  | .hbm, ⟨24, _⟩ => ⟨S4x256x96, .f32⟩
  | .hbm, ⟨25, _⟩ => ⟨S4x256x96, .f32⟩
  | .hbm, ⟨26, _⟩ => ⟨S_, .f32⟩
  | .hbm, ⟨27, _⟩ => ⟨S4x256x96, .f32⟩
  | .hbm, ⟨28, _⟩ => ⟨S4x256x96, .f32⟩
  | .hbm, ⟨29, _⟩ => ⟨S4x256x96, .f32⟩
  | .hbm, ⟨30, _⟩ => ⟨S_, .f32⟩
  | .hbm, ⟨31, _⟩ => ⟨S4x256x96, .f32⟩
  | .hbm, ⟨32, _⟩ => ⟨S4x256x96, .f32⟩
  | .hbm, ⟨33, _⟩ => ⟨S4x256x96, .f32⟩
  | .hbm, ⟨34, _⟩ => ⟨S_, .f32⟩
  | .hbm, ⟨35, _⟩ => ⟨S4x256x96, .f32⟩
  | .hbm, ⟨36, _⟩ => ⟨S4x256x96, .f32⟩
  | _, _ => ⟨S4x256x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUkvKernel.lean ====
abbrev S4x128x128 : Shape := ⟨3, ![4, 128, 128]⟩
abbrev S512x128 : Shape := ⟨2, ![512, 128]⟩
abbrev S256x128 : Shape := ⟨2, ![256, 128]⟩

abbrev nBuf : Space → Nat
  | .hbm => 14
  | .vmem => 14
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S4x128x128, .f32⟩
  | .hbm, ⟨12, _⟩ => ⟨S4x128x128, .f32⟩
  | .hbm, ⟨13, _⟩ => ⟨S4x128x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvKernelIdeal.lean ====
abbrev S4x128x128 : Shape := ⟨3, ![4, 128, 128]⟩
abbrev S512x128 : Shape := ⟨2, ![512, 128]⟩
abbrev S256x128 : Shape := ⟨2, ![256, 128]⟩

abbrev nBuf : Space → Nat
  | .hbm => 14
  | .vmem => 14
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S4x128x128, .f32⟩
  | .hbm, ⟨12, _⟩ => ⟨S4x128x128, .f32⟩
  | .hbm, ⟨13, _⟩ => ⟨S4x128x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvReferenceIdeal.lean ====
abbrev S4x128x128 : Shape := ⟨3, ![4, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x128, .f32⟩
  | .hbm, ⟨1, _⟩ => ⟨S4x128x128, .f32⟩
  | .hbm, ⟨2, _⟩ => ⟨S4x128x128, .f32⟩
  | .hbm, ⟨3, _⟩ => ⟨S4x128x128, .f32⟩
  | .hbm, ⟨4, _⟩ => ⟨S_, .f32⟩
  | .hbm, ⟨5, _⟩ => ⟨S4x128x128, .f32⟩
  | .hbm, ⟨6, _⟩ => ⟨S4x128x128, .f32⟩
  | .hbm, ⟨7, _⟩ => ⟨S_, .f32⟩
  | .hbm, ⟨8, _⟩ => ⟨S4x128x128, .f32⟩
  | .hbm, ⟨9, _⟩ => ⟨S4x128x128, .f32⟩
  | .hbm, ⟨10, _⟩ => ⟨S4x128x128, .f32⟩
  | .hbm, ⟨11, _⟩ => ⟨S_, .f32⟩
  | .hbm, ⟨12, _⟩ => ⟨S4x128x128, .f32⟩
  | .hbm, ⟨13, _⟩ => ⟨S4x128x128, .f32⟩
  | .hbm, ⟨14, _⟩ => ⟨S4x128x128, .f32⟩
  | .hbm, ⟨15, _⟩ => ⟨S_, .f32⟩
  | .hbm, ⟨16, _⟩ => ⟨S4x128x128, .f32⟩
  | .hbm, ⟨17, _⟩ => ⟨S4x128x128, .f32⟩
  | .hbm, ⟨18, _⟩ => ⟨S4x128x128, .f32⟩
  | .hbm, ⟨19, _⟩ => ⟨S_, .f32⟩
  | .hbm, ⟨20, _⟩ => ⟨S4x128x128, .f32⟩
  | .hbm, ⟨21, _⟩ => ⟨S4x128x128, .f32⟩
  | .hbm, ⟨22, _⟩ => ⟨S_, .f32⟩
  | .hbm, ⟨23, _⟩ => ⟨S4x128x128, .f32⟩
  | .hbm, ⟨24, _⟩ => ⟨S4x128x128, .f32⟩
  | .hbm, ⟨25, _⟩ => ⟨S4x128x128, .f32⟩
  | .hbm, ⟨26, _⟩ => ⟨S_, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S4x128x128, .f32⟩
  | .hbm, ⟨36, _⟩ => ⟨S4x128x128, .f32⟩
  | _, _ => ⟨S4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGluKernel.lean ====
abbrev S4x32x256 : Shape := ⟨3, ![4, 32, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S4x32x256, .f32⟩
  | .hbm, ⟨12, _⟩ => ⟨S4x32x256, .f32⟩
  | .hbm, ⟨13, _⟩ => ⟨S4x32x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluKernelIdeal.lean ====
abbrev S4x32x256 : Shape := ⟨3, ![4, 32, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S4x32x256, .f32⟩
  | .hbm, ⟨12, _⟩ => ⟨S4x32x256, .f32⟩
  | .hbm, ⟨13, _⟩ => ⟨S4x32x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGluReferenceIdeal.lean ====
abbrev S4x32x256 : Shape := ⟨3, ![4, 32, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S_, .f32⟩
  | .hbm, ⟨5, _⟩ => ⟨S4x32x256, .f32⟩
  | .hbm, ⟨6, _⟩ => ⟨S4x32x256, .f32⟩
  | .hbm, ⟨7, _⟩ => ⟨S_, .f32⟩
  | .hbm, ⟨8, _⟩ => ⟨S4x32x256, .f32⟩
  | .hbm, ⟨9, _⟩ => ⟨S4x32x256, .f32⟩
  | .hbm, ⟨10, _⟩ => ⟨S4x32x256, .f32⟩
  | .hbm, ⟨11, _⟩ => ⟨S_, .f32⟩
  | .hbm, ⟨12, _⟩ => ⟨S4x32x256, .f32⟩
  | .hbm, ⟨13, _⟩ => ⟨S4x32x256, .f32⟩
  | .hbm, ⟨14, _⟩ => ⟨S4x32x256, .f32⟩
  | .hbm, ⟨15, _⟩ => ⟨S_, .f32⟩
  | .hbm, ⟨16, _⟩ => ⟨S4x32x256, .f32⟩
  | .hbm, ⟨17, _⟩ => ⟨S4x32x256, .f32⟩
  | .hbm, ⟨18, _⟩ => ⟨S4x32x256, .f32⟩
  | .hbm, ⟨19, _⟩ => ⟨S_, .f32⟩
  | .hbm, ⟨20, _⟩ => ⟨S4x32x256, .f32⟩
  | .hbm, ⟨21, _⟩ => ⟨S4x32x256, .f32⟩
  | .hbm, ⟨22, _⟩ => ⟨S_, .f32⟩
  | .hbm, ⟨23, _⟩ => ⟨S4x32x256, .f32⟩
  | .hbm, ⟨24, _⟩ => ⟨S4x32x256, .f32⟩
  | .hbm, ⟨25, _⟩ => ⟨S4x32x256, .f32⟩
  | .hbm, ⟨26, _⟩ => ⟨S_, .f32⟩
  | .hbm, ⟨27, _⟩ => ⟨S4x32x256, .f32⟩
  | .hbm, ⟨28, _⟩ => ⟨S4x32x256, .f32⟩
  | .hbm, ⟨29, _⟩ => ⟨S4x32x256, .f32⟩
  | .hbm, ⟨30, _⟩ => ⟨S_, .f32⟩
  | .hbm, ⟨31, _⟩ => ⟨S4x32x256, .f32⟩
  | .hbm, ⟨32, _⟩ => ⟨S4x32x256, .f32⟩
  | .hbm, ⟨33, _⟩ => ⟨S4x32x256, .f32⟩
  | .hbm, ⟨34, _⟩ => ⟨S_, .f32⟩
  | .hbm, ⟨35, _⟩ => ⟨S4x32x256, .f32⟩
  | .hbm, ⟨36, _⟩ => ⟨S4x32x256, .f32⟩
  | _, _ => ⟨S4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutKernel.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S4x128x1024 : Shape := ⟨3, ![4, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmallKernel.lean ====
abbrev S536x1024 : Shape := ⟨2, ![536, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S536x1024, .f32⟩
  | .hbm, ⟨1, _⟩ => ⟨S536x1024, .f32⟩
  | .hbm, ⟨2, _⟩ => ⟨S536x1024, .f32⟩
  | .hbm, ⟨3, _⟩ => ⟨S536x1024, .f32⟩
  | .hbm, ⟨4, _⟩ => ⟨S536x1024, .f32⟩
  | .hbm, ⟨5, _⟩ => ⟨S536x1024, .f32⟩
  | .hbm, ⟨6, _⟩ => ⟨S536x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![67], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S536x1024 : Shape := ⟨2, ![536, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S536x1024, .f32⟩
  | .hbm, ⟨1, _⟩ => ⟨S536x1024, .f32⟩
  | .hbm, ⟨2, _⟩ => ⟨S536x1024, .f32⟩
  | .hbm, ⟨3, _⟩ => ⟨S536x1024, .f32⟩
  | .hbm, ⟨4, _⟩ => ⟨S_, .f32⟩
  | .hbm, ⟨5, _⟩ => ⟨S536x1024, .f32⟩
  | .hbm, ⟨6, _⟩ => ⟨S536x1024, .f32⟩
  | .hbm, ⟨7, _⟩ => ⟨S_, .f32⟩
  | .hbm, ⟨8, _⟩ => ⟨S536x1024, .f32⟩
  | .hbm, ⟨9, _⟩ => ⟨S536x1024, .f32⟩
  | .hbm, ⟨10, _⟩ => ⟨S536x1024, .f32⟩
  | .hbm, ⟨11, _⟩ => ⟨S_, .f32⟩
  | .hbm, ⟨12, _⟩ => ⟨S536x1024, .f32⟩
  | .hbm, ⟨13, _⟩ => ⟨S536x1024, .f32⟩
  | .hbm, ⟨14, _⟩ => ⟨S536x1024, .f32⟩
  | .hbm, ⟨15, _⟩ => ⟨S_, .f32⟩
  | .hbm, ⟨16, _⟩ => ⟨S536x1024, .f32⟩
  | .hbm, ⟨17, _⟩ => ⟨S536x1024, .f32⟩
  | .hbm, ⟨18, _⟩ => ⟨S536x1024, .f32⟩
  | .hbm, ⟨19, _⟩ => ⟨S_, .f32⟩
  | .hbm, ⟨20, _⟩ => ⟨S536x1024, .f32⟩
  | .hbm, ⟨21, _⟩ => ⟨S536x1024, .f32⟩
  | .hbm, ⟨22, _⟩ => ⟨S_, .f32⟩
  | .hbm, ⟨23, _⟩ => ⟨S536x1024, .f32⟩
  | .hbm, ⟨24, _⟩ => ⟨S536x1024, .f32⟩
  | .hbm, ⟨25, _⟩ => ⟨S536x1024, .f32⟩
  | .hbm, ⟨26, _⟩ => ⟨S_, .f32⟩
  | .hbm, ⟨27, _⟩ => ⟨S536x1024, .f32⟩
  | .hbm, ⟨28, _⟩ => ⟨S536x1024, .f32⟩
  | .hbm, ⟨29, _⟩ => ⟨S536x1024, .f32⟩
  | .hbm, ⟨30, _⟩ => ⟨S_, .f32⟩
  | .hbm, ⟨31, _⟩ => ⟨S536x1024, .f32⟩
  | .hbm, ⟨32, _⟩ => ⟨S536x1024, .f32⟩
  | .hbm, ⟨33, _⟩ => ⟨S536x1024, .f32⟩
  | .hbm, ⟨34, _⟩ => ⟨S_, .f32⟩
  | .hbm, ⟨35, _⟩ => ⟨S536x1024, .f32⟩
  | .hbm, ⟨36, _⟩ => ⟨S536x1024, .f32⟩
  | _, _ => ⟨S536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumFfnKernel.lean ====
abbrev S8x352x1024 : Shape := ⟨3, ![8, 352, 1024]⟩
abbrev S352x1024 : Shape := ⟨2, ![352, 1024]⟩
abbrev S1x32x1024 : Shape := ⟨3, ![1, 32, 1024]⟩
abbrev S32x1024 : Shape := ⟨2, ![32, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .bf16⟩
  | .hbm, ⟨2, _⟩ => ⟨S352x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x32x1024, .bf16⟩
  | .local _ .vmem, ⟨9, _⟩ => ⟨S1x32x1024, .bf16⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S32x1024, .f32⟩
  | .local _ .vmem, ⟨17, _⟩ => ⟨S32x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumFfnKernelIdeal.lean ====
abbrev S8x352x1024 : Shape := ⟨3, ![8, 352, 1024]⟩
abbrev S352x1024 : Shape := ⟨2, ![352, 1024]⟩
abbrev S1x32x1024 : Shape := ⟨3, ![1, 32, 1024]⟩
abbrev S32x1024 : Shape := ⟨2, ![32, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .bf16⟩
  | .hbm, ⟨2, _⟩ => ⟨S352x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x32x1024, .bf16⟩
  | .local _ .vmem, ⟨9, _⟩ => ⟨S1x32x1024, .bf16⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S32x1024, .f32⟩
  | .local _ .vmem, ⟨17, _⟩ => ⟨S32x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumFfnReferenceIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S_, .f32⟩
  | .hbm, ⟨2, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumInKernel.lean ====
abbrev S8x160x1024 : Shape := ⟨3, ![8, 160, 1024]⟩
abbrev S160x1024 : Shape := ⟨2, ![160, 1024]⟩
abbrev S1x32x1024 : Shape := ⟨3, ![1, 32, 1024]⟩
abbrev S32x1024 : Shape := ⟨2, ![32, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8x160x1024, .f32⟩
  | .hbm, ⟨1, _⟩ => ⟨S8x160x1024, .bf16⟩
  | .hbm, ⟨2, _⟩ => ⟨S160x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x32x1024, .bf16⟩
  | .local _ .vmem, ⟨9, _⟩ => ⟨S1x32x1024, .bf16⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S32x1024, .f32⟩
  | .local _ .vmem, ⟨17, _⟩ => ⟨S32x1024, .f32⟩
  | _, _ => ⟨S8x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumInKernelIdeal.lean ====
abbrev S8x160x1024 : Shape := ⟨3, ![8, 160, 1024]⟩
abbrev S160x1024 : Shape := ⟨2, ![160, 1024]⟩
abbrev S1x32x1024 : Shape := ⟨3, ![1, 32, 1024]⟩
abbrev S32x1024 : Shape := ⟨2, ![32, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8x160x1024, .f32⟩
  | .hbm, ⟨1, _⟩ => ⟨S8x160x1024, .bf16⟩
  | .hbm, ⟨2, _⟩ => ⟨S160x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x32x1024, .bf16⟩
  | .local _ .vmem, ⟨9, _⟩ => ⟨S1x32x1024, .bf16⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S32x1024, .f32⟩
  | .local _ .vmem, ⟨17, _⟩ => ⟨S32x1024, .f32⟩
  | _, _ => ⟨S8x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumInReferenceIdeal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S_, .f32⟩
  | .hbm, ⟨2, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumUqKernel.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .bf16⟩
  | .hbm, ⟨2, _⟩ => ⟨S32x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumUqKernelIdeal.lean ====
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8x32x1024, .f32⟩
  | .hbm, ⟨1, _⟩ => ⟨S8x32x1024, .bf16⟩
  | .hbm, ⟨2, _⟩ => ⟨S32x1024, .f32⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumUqReferenceIdeal.lean ====
abbrev S8x32x1024 : Shape := ⟨3, ![8, 32, 1024]⟩
abbrev S_ : Shape := ⟨0, ![]⟩
abbrev S32x1024 : Shape := ⟨2, ![32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S_, .f32⟩
  | .hbm, ⟨2, _⟩ => ⟨S32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumUkvKernel.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .bf16⟩
  | .hbm, ⟨2, _⟩ => ⟨S16x1024, .f32⟩
  | .local _ .vmem, ⟨0, _⟩ => ⟨S1x16x1024, .bf16⟩
  | .local _ .vmem, ⟨1, _⟩ => ⟨S1x16x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumUkvKernelIdeal.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8x16x1024, .f32⟩
  | .hbm, ⟨1, _⟩ => ⟨S8x16x1024, .bf16⟩
  | .hbm, ⟨2, _⟩ => ⟨S16x1024, .f32⟩
  | .local _ .vmem, ⟨0, _⟩ => ⟨S1x16x1024, .bf16⟩
  | .local _ .vmem, ⟨1, _⟩ => ⟨S1x16x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumUkvReferenceIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumOutKernel.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .bf16⟩
  | .hbm, ⟨2, _⟩ => ⟨S128x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SumOutReferenceIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S_, .f32⟩
  | .hbm, ⟨2, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmallKernel.lean ====
abbrev S8x560x1024 : Shape := ⟨3, ![8, 560, 1024]⟩
abbrev S560x1024 : Shape := ⟨2, ![560, 1024]⟩
abbrev S1x16x1024 : Shape := ⟨3, ![1, 16, 1024]⟩
abbrev S16x1024 : Shape := ⟨2, ![16, 1024]⟩

abbrev nBuf : Space → Nat
  | .hbm => 2
  | .vmem => 18
  | .smem => 0
  | _ => 0

abbrev bufTy : (tb : Table) → Fin (tcTables nBuf tb) → BufTy
  | .hbm, ⟨0, _⟩ => ⟨S8x560x1024, .f32⟩
  | .hbm, ⟨1, _⟩ => ⟨S560x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x16x1024, .f32⟩
  | .local _ .vmem, ⟨11, _⟩ => ⟨S1x16x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x16x1024, .f32⟩
  | .local _ .vmem, ⟨15, _⟩ => ⟨S1x16x1024, .f32⟩
  | .local _ .vmem, ⟨16, _⟩ => ⟨S16x1024, .f32⟩
  | .local _ .vmem, ⟨17, _⟩ => ⟨S16x1024, .f32⟩
  | _, _ => ⟨S8x560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![35], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SumSmallReferenceIdeal.lean ====
abbrev S8x560x1024 : Shape := ⟨3, ![8, 560, 1024]⟩
abbrev S_ : Shape := ⟨0, ![]⟩
abbrev S560x1024 : Shape := ⟨2, ![560, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x560x1024, .f32⟩
  | .hbm, ⟨1, _⟩ => ⟨S_, .f32⟩
  | .hbm, ⟨2, _⟩ => ⟨S560x1024, .f32⟩
  | _, _ => ⟨S8x560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UqKernel.lean ====
abbrev S8192x256 : Shape := ⟨2, ![8192, 256]⟩
abbrev S256x768 : Shape := ⟨2, ![256, 768]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x128 : Shape := ⟨2, ![256, 128]⟩
abbrev S8192x768 : Shape := ⟨2, ![8192, 768]⟩
abbrev S1024x256 : Shape := ⟨2, ![1024, 256]⟩
abbrev S256x384 : Shape := ⟨2, ![256, 384]⟩
abbrev S1024x384 : Shape := ⟨2, ![1024, 384]⟩
abbrev S8x128 : Shape := ⟨2, ![8, 128]⟩
abbrev S8192x512 : Shape := ⟨2, ![8192, 512]⟩
abbrev S8192x8x64 : Shape := ⟨3, ![8192, 8, 64]⟩
abbrev S8192x128 : Shape := ⟨2, ![8192, 128]⟩
abbrev S8192x8x16 : Shape := ⟨3, ![8192, 8, 16]⟩
abbrev S8192x8x96 : Shape := ⟨3, ![8192, 8, 96]⟩

abbrev nBuf : Space → Nat
  | .hbm => 21
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x768, .f32⟩
  | .hbm, ⟨2, _⟩ => ⟨S8192x256, .bf16⟩
  | .hbm, ⟨3, _⟩ => ⟨S256x768, .bf16⟩
  | .hbm, ⟨4, _⟩ => ⟨S256x8x96, .bf16⟩
  | .hbm, ⟨5, _⟩ => ⟨S256x8x64, .bf16⟩
  | .hbm, ⟨6, _⟩ => ⟨S256x512, .bf16⟩
  | .hbm, ⟨7, _⟩ => ⟨S256x8x16, .bf16⟩
  | .hbm, ⟨8, _⟩ => ⟨S256x128, .bf16⟩
  | .hbm, ⟨9, _⟩ => ⟨S256x8x16, .bf16⟩
  | .hbm, ⟨10, _⟩ => ⟨S256x128, .bf16⟩
  | .hbm, ⟨11, _⟩ => ⟨S256x768, .bf16⟩
  | .hbm, ⟨12, _⟩ => ⟨S8192x768, .f32⟩
  | .hbm, ⟨13, _⟩ => ⟨S8192x512, .f32⟩
  | .hbm, ⟨14, _⟩ => ⟨S8192x8x64, .f32⟩
  | .hbm, ⟨15, _⟩ => ⟨S8192x128, .f32⟩
  | .hbm, ⟨16, _⟩ => ⟨S8192x8x16, .f32⟩
  | .hbm, ⟨17, _⟩ => ⟨S8192x128, .f32⟩
  | .hbm, ⟨18, _⟩ => ⟨S8192x8x16, .f32⟩
  | .hbm, ⟨19, _⟩ => ⟨S8192x8x96, .f32⟩
  | .hbm, ⟨20, _⟩ => ⟨S8192x768, .f32⟩
  | .local _ .vmem, ⟨0, _⟩ => ⟨S1024x256, .bf16⟩
  | .local _ .vmem, ⟨1, _⟩ => ⟨S1024x256, .bf16⟩
  | .local _ .vmem, ⟨2, _⟩ => ⟨S256x384, .bf16⟩
  | .local _ .vmem, ⟨3, _⟩ => ⟨S256x384, .bf16⟩
  | .local _ .vmem, ⟨4, _⟩ => ⟨S1024x384, .f32⟩
  | .local _ .vmem, ⟨5, _⟩ => ⟨S1024x384, .f32⟩
  | .local _ .vmem, ⟨6, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqReferenceIdeal.lean ====
abbrev S8192x256 : Shape := ⟨2, ![8192, 256]⟩
abbrev S256x768 : Shape := ⟨2, ![256, 768]⟩
abbrev S8192x768 : Shape := ⟨2, ![8192, 768]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x768, .f32⟩
  | .hbm, ⟨2, _⟩ => ⟨S8192x768, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UqDwKernel.lean ====
abbrev S8192x256 : Shape := ⟨2, ![8192, 256]⟩
abbrev S8192x768 : Shape := ⟨2, ![8192, 768]⟩
abbrev S8192x8x96 : Shape := ⟨3, ![8192, 8, 96]⟩
abbrev S8192x8x64 : Shape := ⟨3, ![8192, 8, 64]⟩
abbrev S8192x512 : Shape := ⟨2, ![8192, 512]⟩
abbrev S8192x8x16 : Shape := ⟨3, ![8192, 8, 16]⟩
abbrev S8192x128 : Shape := ⟨2, ![8192, 128]⟩
abbrev S256x768 : Shape := ⟨2, ![256, 768]⟩
abbrev S2048x256 : Shape := ⟨2, ![2048, 256]⟩
abbrev S2048x768 : Shape := ⟨2, ![2048, 768]⟩
abbrev S256x512 : Shape := ⟨2, ![256, 512]⟩
abbrev S256x8x64 : Shape := ⟨3, ![256, 8, 64]⟩
abbrev S256x128 : Shape := ⟨2, ![256, 128]⟩
abbrev S256x8x16 : Shape := ⟨3, ![256, 8, 16]⟩
abbrev S256x8x96 : Shape := ⟨3, ![256, 8, 96]⟩

abbrev nBuf : Space → Nat
  | .hbm => 21
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x768, .f32⟩
  | .hbm, ⟨2, _⟩ => ⟨S8192x256, .bf16⟩
  | .hbm, ⟨3, _⟩ => ⟨S8192x768, .bf16⟩
  | .hbm, ⟨4, _⟩ => ⟨S8192x8x96, .bf16⟩
  | .hbm, ⟨5, _⟩ => ⟨S8192x8x64, .bf16⟩
  | .hbm, ⟨6, _⟩ => ⟨S8192x512, .bf16⟩
  | .hbm, ⟨7, _⟩ => ⟨S8192x8x16, .bf16⟩
  | .hbm, ⟨8, _⟩ => ⟨S8192x128, .bf16⟩
  | .hbm, ⟨9, _⟩ => ⟨S8192x8x16, .bf16⟩
  | .hbm, ⟨10, _⟩ => ⟨S8192x128, .bf16⟩
  | .hbm, ⟨11, _⟩ => ⟨S8192x768, .bf16⟩
  | .hbm, ⟨12, _⟩ => ⟨S256x768, .f32⟩
  | .hbm, ⟨13, _⟩ => ⟨S256x512, .f32⟩
  | .hbm, ⟨14, _⟩ => ⟨S256x8x64, .f32⟩
  | .hbm, ⟨15, _⟩ => ⟨S256x128, .f32⟩
  | .hbm, ⟨16, _⟩ => ⟨S256x8x16, .f32⟩
  | .hbm, ⟨17, _⟩ => ⟨S256x128, .f32⟩
  | .hbm, ⟨18, _⟩ => ⟨S256x8x16, .f32⟩
  | .hbm, ⟨19, _⟩ => ⟨S256x8x96, .f32⟩
  | .hbm, ⟨20, _⟩ => ⟨S256x768, .f32⟩
  | .local _ .vmem, ⟨0, _⟩ => ⟨S2048x256, .bf16⟩
  | .local _ .vmem, ⟨1, _⟩ => ⟨S2048x256, .bf16⟩
  | .local _ .vmem, ⟨2, _⟩ => ⟨S2048x768, .bf16⟩
  | .local _ .vmem, ⟨3, _⟩ => ⟨S2048x768, .bf16⟩
  | .local _ .vmem, ⟨4, _⟩ => ⟨S256x768, .f32⟩
  | .local _ .vmem, ⟨5, _⟩ => ⟨S256x768, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UqDwReferenceIdeal.lean ====
abbrev S8192x256 : Shape := ⟨2, ![8192, 256]⟩
abbrev S8192x768 : Shape := ⟨2, ![8192, 768]⟩
abbrev S256x8192 : Shape := ⟨2, ![256, 8192]⟩
abbrev S256x768 : Shape := ⟨2, ![256, 768]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x768, .f32⟩
  | .hbm, ⟨2, _⟩ => ⟨S256x8192, .f32⟩
  | .hbm, ⟨3, _⟩ => ⟨S256x768, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UqDxKernel.lean ====
abbrev S8192x768 : Shape := ⟨2, ![8192, 768]⟩
abbrev S256x768 : Shape := ⟨2, ![256, 768]⟩
abbrev S8192x8x96 : Shape := ⟨3, ![8192, 8, 96]⟩
abbrev S8192x8x64 : Shape := ⟨3, ![8192, 8, 64]⟩
abbrev S8192x512 : Shape := ⟨2, ![8192, 512]⟩
abbrev S8192x8x16 : Shape := ⟨3, ![8192, 8, 16]⟩
abbrev S8192x128 : Shape := ⟨2, ![8192, 128]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x128 : Shape := ⟨2, ![256, 128]⟩
abbrev S8192x256 : Shape := ⟨2, ![8192, 256]⟩
abbrev S1024x768 : Shape := ⟨2, ![1024, 768]⟩
abbrev S1024x256 : Shape := ⟨2, ![1024, 256]⟩
abbrev S8x128 : Shape := ⟨2, ![8, 128]⟩

abbrev nBuf : Space → Nat
  | .hbm => 21
  | .vmem => 6
  | .smem => 0
  | _ => 0

abbrev bufTy : (tb : Table) → Fin (tcTables nBuf tb) → BufTy
  | .hbm, ⟨0, _⟩ => ⟨S8192x768, .f32⟩
  | .hbm, ⟨1, _⟩ => ⟨S256x768, .f32⟩
  | .hbm, ⟨2, _⟩ => ⟨S8192x768, .bf16⟩
  | .hbm, ⟨3, _⟩ => ⟨S8192x8x96, .bf16⟩
  | .hbm, ⟨4, _⟩ => ⟨S8192x8x64, .bf16⟩
  | .hbm, ⟨5, _⟩ => ⟨S8192x512, .bf16⟩
  | .hbm, ⟨6, _⟩ => ⟨S8192x8x16, .bf16⟩
  | .hbm, ⟨7, _⟩ => ⟨S8192x128, .bf16⟩
  | .hbm, ⟨8, _⟩ => ⟨S8192x8x16, .bf16⟩
  | .hbm, ⟨9, _⟩ => ⟨S8192x128, .bf16⟩
  | .hbm, ⟨10, _⟩ => ⟨S8192x768, .bf16⟩
  | .hbm, ⟨11, _⟩ => ⟨S256x768, .bf16⟩
  | .hbm, ⟨12, _⟩ => ⟨S256x8x96, .bf16⟩
  | .hbm, ⟨13, _⟩ => ⟨S256x8x64, .bf16⟩
  | .hbm, ⟨14, _⟩ => ⟨S256x512, .bf16⟩
  | .hbm, ⟨15, _⟩ => ⟨S256x8x16, .bf16⟩
  | .hbm, ⟨16, _⟩ => ⟨S256x128, .bf16⟩
  | .hbm, ⟨17, _⟩ => ⟨S256x8x16, .bf16⟩
  | .hbm, ⟨18, _⟩ => ⟨S256x128, .bf16⟩
  | .hbm, ⟨19, _⟩ => ⟨S256x768, .bf16⟩
  | .hbm, ⟨20, _⟩ => ⟨S8192x256, .f32⟩
  | .local _ .vmem, ⟨0, _⟩ => ⟨S1024x768, .bf16⟩
  | .local _ .vmem, ⟨1, _⟩ => ⟨S1024x768, .bf16⟩
  | .local _ .vmem, ⟨2, _⟩ => ⟨S256x768, .bf16⟩
  | .local _ .vmem, ⟨3, _⟩ => ⟨S1024x256, .f32⟩
  | .local _ .vmem, ⟨4, _⟩ => ⟨S1024x256, .f32⟩
  | .local _ .vmem, ⟨5, _⟩ => ⟨S8x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxReferenceIdeal.lean ====
abbrev S8192x768 : Shape := ⟨2, ![8192, 768]⟩
abbrev S256x768 : Shape := ⟨2, ![256, 768]⟩
abbrev S768x256 : Shape := ⟨2, ![768, 256]⟩
abbrev S8192x256 : Shape := ⟨2, ![8192, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S256x768, .f32⟩
  | .hbm, ⟨2, _⟩ => ⟨S768x256, .f32⟩
  | .hbm, ⟨3, _⟩ => ⟨S8192x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UkvKernel.lean ====
abbrev S8192x128 : Shape := ⟨2, ![8192, 128]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S8192x1024 : Shape := ⟨2, ![8192, 1024]⟩
abbrev S1024x128 : Shape := ⟨2, ![1024, 128]⟩
abbrev S1024x512 : Shape := ⟨2, ![1024, 512]⟩
abbrev S8x128 : Shape := ⟨2, ![8, 128]⟩
abbrev S8192x512 : Shape := ⟨2, ![8192, 512]⟩
abbrev S8192x8x64 : Shape := ⟨3, ![8192, 8, 64]⟩
abbrev S8192x8x128 : Shape := ⟨3, ![8192, 8, 128]⟩

abbrev nBuf : Space → Nat
  | .hbm => 17
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x1024, .f32⟩
  | .hbm, ⟨2, _⟩ => ⟨S8192x128, .bf16⟩
  | .hbm, ⟨3, _⟩ => ⟨S128x1024, .bf16⟩
  | .hbm, ⟨4, _⟩ => ⟨S128x8x128, .bf16⟩
  | .hbm, ⟨5, _⟩ => ⟨S128x8x64, .bf16⟩
  | .hbm, ⟨6, _⟩ => ⟨S128x512, .bf16⟩
  | .hbm, ⟨7, _⟩ => ⟨S128x8x64, .bf16⟩
  | .hbm, ⟨8, _⟩ => ⟨S128x512, .bf16⟩
  | .hbm, ⟨9, _⟩ => ⟨S128x1024, .bf16⟩
  | .hbm, ⟨10, _⟩ => ⟨S8192x1024, .f32⟩
  | .hbm, ⟨11, _⟩ => ⟨S8192x512, .f32⟩
  | .hbm, ⟨12, _⟩ => ⟨S8192x8x64, .f32⟩
  | .hbm, ⟨13, _⟩ => ⟨S8192x512, .f32⟩
  | .hbm, ⟨14, _⟩ => ⟨S8192x8x64, .f32⟩
  | .hbm, ⟨15, _⟩ => ⟨S8192x8x128, .f32⟩
  | .hbm, ⟨16, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S128x512, .bf16⟩
  | .local _ .vmem, ⟨3, _⟩ => ⟨S128x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S8192x128 : Shape := ⟨2, ![8192, 128]⟩
abbrev S128x1024 : Shape := ⟨2, ![128, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x1024, .f32⟩
  | .hbm, ⟨2, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UkvDwKernel.lean ====
abbrev S8192x128 : Shape := ⟨2, ![8192, 128]⟩
abbrev S8192x1024 : Shape := ⟨2, ![8192, 1024]⟩
abbrev S8192x8x128 : Shape := ⟨3, ![8192, 8, 128]⟩
abbrev S8192x8x64 : Shape := ⟨3, ![8192, 8, 64]⟩
abbrev S8192x512 : Shape := ⟨2, ![8192, 512]⟩
abbrev S128x1024 : Shape := ⟨2, ![128, 1024]⟩
abbrev S2048x128 : Shape := ⟨2, ![2048, 128]⟩
abbrev S2048x1024 : Shape := ⟨2, ![2048, 1024]⟩
abbrev S128x512 : Shape := ⟨2, ![128, 512]⟩
abbrev S128x8x64 : Shape := ⟨3, ![128, 8, 64]⟩
abbrev S128x8x128 : Shape := ⟨3, ![128, 8, 128]⟩

abbrev nBuf : Space → Nat
  | .hbm => 17
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x128, .bf16⟩
  | .hbm, ⟨3, _⟩ => ⟨S8192x1024, .bf16⟩
  | .hbm, ⟨4, _⟩ => ⟨S8192x8x128, .bf16⟩
  | .hbm, ⟨5, _⟩ => ⟨S8192x8x64, .bf16⟩
  | .hbm, ⟨6, _⟩ => ⟨S8192x512, .bf16⟩
  | .hbm, ⟨7, _⟩ => ⟨S8192x8x64, .bf16⟩
  | .hbm, ⟨8, _⟩ => ⟨S8192x512, .bf16⟩
  | .hbm, ⟨9, _⟩ => ⟨S8192x1024, .bf16⟩
  | .hbm, ⟨10, _⟩ => ⟨S128x1024, .f32⟩
  | .hbm, ⟨11, _⟩ => ⟨S128x512, .f32⟩
  | .hbm, ⟨12, _⟩ => ⟨S128x8x64, .f32⟩
  | .hbm, ⟨13, _⟩ => ⟨S128x512, .f32⟩
  | .hbm, ⟨14, _⟩ => ⟨S128x8x64, .f32⟩
  | .hbm, ⟨15, _⟩ => ⟨S128x8x128, .f32⟩
  | .hbm, ⟨16, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwReferenceIdeal.lean ====
abbrev S8192x128 : Shape := ⟨2, ![8192, 128]⟩
abbrev S8192x1024 : Shape := ⟨2, ![8192, 1024]⟩
abbrev S128x8192 : Shape := ⟨2, ![128, 8192]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S128x8192, .f32⟩
  | .hbm, ⟨3, _⟩ => ⟨S128x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UkvDxKernel.lean ====
abbrev S8192x1024 : Shape := ⟨2, ![8192, 1024]⟩
abbrev S128x1024 : Shape := ⟨2, ![128, 1024]⟩
abbrev S8192x8x128 : Shape := ⟨3, ![8192, 8, 128]⟩
abbrev S8192x8x64 : Shape := ⟨3, ![8192, 8, 64]⟩
abbrev S8192x512 : Shape := ⟨2, ![8192, 512]⟩
abbrev S128x8x128 : Shape := ⟨3, ![128, 8, 128]⟩
abbrev S128x8x64 : Shape := ⟨3, ![128, 8, 64]⟩
abbrev S128x512 : Shape := ⟨2, ![128, 512]⟩
abbrev S8192x128 : Shape := ⟨2, ![8192, 128]⟩
abbrev S1024x1024 : Shape := ⟨2, ![1024, 1024]⟩
abbrev S1024x128 : Shape := ⟨2, ![1024, 128]⟩
abbrev S8x128 : Shape := ⟨2, ![8, 128]⟩

abbrev nBuf : Space → Nat
  | .hbm => 17
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S128x1024, .f32⟩
  | .hbm, ⟨2, _⟩ => ⟨S8192x1024, .bf16⟩
  | .hbm, ⟨3, _⟩ => ⟨S8192x8x128, .bf16⟩
  | .hbm, ⟨4, _⟩ => ⟨S8192x8x64, .bf16⟩
  | .hbm, ⟨5, _⟩ => ⟨S8192x512, .bf16⟩
  | .hbm, ⟨6, _⟩ => ⟨S8192x8x64, .bf16⟩
  | .hbm, ⟨7, _⟩ => ⟨S8192x512, .bf16⟩
  | .hbm, ⟨8, _⟩ => ⟨S8192x1024, .bf16⟩
  | .hbm, ⟨9, _⟩ => ⟨S128x1024, .bf16⟩
  | .hbm, ⟨10, _⟩ => ⟨S128x8x128, .bf16⟩
  | .hbm, ⟨11, _⟩ => ⟨S128x8x64, .bf16⟩
  | .hbm, ⟨12, _⟩ => ⟨S128x512, .bf16⟩
  | .hbm, ⟨13, _⟩ => ⟨S128x8x64, .bf16⟩
  | .hbm, ⟨14, _⟩ => ⟨S128x512, .bf16⟩
  | .hbm, ⟨15, _⟩ => ⟨S128x1024, .bf16⟩
  | .hbm, ⟨16, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxReferenceIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S128x1024, .f32⟩
  | .hbm, ⟨2, _⟩ => ⟨S1024x128, .f32⟩
  | .hbm, ⟨3, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnLnKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_27 : BitVec 32 := 0#32
  let v70 : BitVec 1 := Scalar.cmpi .ne v69 c0_i32_27
  v70

def k0_cond2 (i : grid0.Coords) : BitVec 1 :=
  let arg0 : BitVec 32 := BitVec.ofNat 32 (i 0).val
  let c0_i32_28 : BitVec 32 := 0#32
  let v71 : BitVec 1 := Scalar.cmpi .sgt arg0 c0_i32_28
  let v72 : BitVec 32 := Scalar.extui v71
  let c0_i32_29 : BitVec 32 := 0#32
  let v73 : BitVec 1 := Scalar.cmpi .ne v72 c0_i32_29
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnLnReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== MixLnKernel.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_27 : BitVec 32 := 0#32
  let v70 : BitVec 1 := Scalar.cmpi .ne v69 c0_i32_27
  v70

def k0_cond2 (i : grid0.Coords) : BitVec 1 :=
  let arg0 : BitVec 32 := BitVec.ofNat 32 (i 0).val
  let c0_i32_28 : BitVec 32 := 0#32
  let v71 : BitVec 1 := Scalar.cmpi .sgt arg0 c0_i32_28
  let v72 : BitVec 32 := Scalar.extui v71
  let c0_i32_29 : BitVec 32 := 0#32
  let v73 : BitVec 1 := Scalar.cmpi .ne v72 c0_i32_29
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixLnReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== PrepKernel.lean ====
abbrev S8192x1184 : Shape := ⟨2, ![8192, 1184]⟩
abbrev S256 : Shape := ⟨1, ![256]⟩
abbrev S128 : Shape := ⟨1, ![128]⟩
abbrev S_ : Shape := ⟨0, ![]⟩
abbrev S8192x112 : Shape := ⟨2, ![8192, 112]⟩
abbrev S8192x768 : Shape := ⟨2, ![8192, 768]⟩
abbrev S8192x256 : Shape := ⟨2, ![8192, 256]⟩
abbrev S8192x128 : Shape := ⟨2, ![8192, 128]⟩
abbrev S8192x16 : Shape := ⟨2, ![8192, 16]⟩
abbrev S8192x1408 : Shape := ⟨2, ![8192, 1408]⟩
abbrev S1x256 : Shape := ⟨2, ![1, 256]⟩
abbrev S1x128 : Shape := ⟨2, ![1, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S8192x1184, .f32⟩
  | .hbm, ⟨1, _⟩ => ⟨S256, .f32⟩
  | .hbm, ⟨2, _⟩ => ⟨S128, .f32⟩
  | .hbm, ⟨3, _⟩ => ⟨S_, .f32⟩
  | .hbm, ⟨4, _⟩ => ⟨S8192x112, .f32⟩
  | .hbm, ⟨5, _⟩ => ⟨S8192x768, .f32⟩
  | .hbm, ⟨6, _⟩ => ⟨S8192x256, .f32⟩
  | .hbm, ⟨7, _⟩ => ⟨S8192x128, .f32⟩
  | .hbm, ⟨8, _⟩ => ⟨S8192x16, .f32⟩
  | .hbm, ⟨9, _⟩ => ⟨S8192x16, .f32⟩
  | .hbm, ⟨10, _⟩ => ⟨S8192x1408, .f32⟩
  | .hbm, ⟨11, _⟩ => ⟨S1x256, .f32⟩
  | .hbm, ⟨12, _⟩ => ⟨S1x128, .f32⟩
  | .hbm, ⟨13, _⟩ => ⟨S8192x256, .bf16⟩
  | .hbm, ⟨14, _⟩ => ⟨S8192x128, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S1x256, .f32⟩
  | .local _ .vmem, ⟨5, _⟩ => ⟨S1x128, .f32⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | _, _ => ⟨S8192x1184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepReferenceIdeal.lean ====
abbrev S8192x1184 : Shape := ⟨2, ![8192, 1184]⟩
abbrev S256 : Shape := ⟨1, ![256]⟩
abbrev S128 : Shape := ⟨1, ![128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x128 : Shape := ⟨2, ![8192, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x1184, .f32⟩
  | .hbm, ⟨1, _⟩ => ⟨S256, .f32⟩
  | .hbm, ⟨2, _⟩ => ⟨S128, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S8192x256, .bf16⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S8192x128, .bf16⟩
  | _, _ => ⟨S8192x1184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== PrepBwdKernel.lean ====
abbrev S8192x1184 : Shape := ⟨2, ![8192, 1184]⟩
abbrev S8192x256 : Shape := ⟨2, ![8192, 256]⟩
abbrev S8192x128 : Shape := ⟨2, ![8192, 128]⟩
abbrev S256 : Shape := ⟨1, ![256]⟩
abbrev S128 : Shape := ⟨1, ![128]⟩
abbrev S_ : Shape := ⟨0, ![]⟩
abbrev S8192x112 : Shape := ⟨2, ![8192, 112]⟩
abbrev S8192x768 : Shape := ⟨2, ![8192, 768]⟩
abbrev S8192x16 : Shape := ⟨2, ![8192, 16]⟩
abbrev S8192x1408 : Shape := ⟨2, ![8192, 1408]⟩
abbrev S1x256 : Shape := ⟨2, ![1, 256]⟩
abbrev S1x128 : Shape := ⟨2, ![1, 128]⟩
abbrev S256x256 : Shape := ⟨2, ![256, 256]⟩
abbrev S256x128 : Shape := ⟨2, ![256, 128]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S8192x1184, .f32⟩
  | .hbm, ⟨1, _⟩ => ⟨S8192x256, .f32⟩
  | .hbm, ⟨2, _⟩ => ⟨S8192x128, .f32⟩
  | .hbm, ⟨3, _⟩ => ⟨S256, .f32⟩
  | .hbm, ⟨4, _⟩ => ⟨S128, .f32⟩
  | .hbm, ⟨5, _⟩ => ⟨S_, .f32⟩
  | .hbm, ⟨6, _⟩ => ⟨S8192x112, .f32⟩
  | .hbm, ⟨7, _⟩ => ⟨S8192x768, .f32⟩
  | .hbm, ⟨8, _⟩ => ⟨S8192x256, .f32⟩
  | .hbm, ⟨9, _⟩ => ⟨S8192x128, .f32⟩
  | .hbm, ⟨10, _⟩ => ⟨S8192x16, .f32⟩
  | .hbm, ⟨11, _⟩ => ⟨S8192x16, .f32⟩
  | .hbm, ⟨12, _⟩ => ⟨S8192x1408, .f32⟩
  | .hbm, ⟨13, _⟩ => ⟨S1x256, .f32⟩
  | .hbm, ⟨14, _⟩ => ⟨S1x128, .f32⟩
  | .hbm, ⟨15, _⟩ => ⟨S8192x256, .f32⟩
  | .hbm, ⟨16, _⟩ => ⟨S8192x128, .f32⟩
  | .hbm, ⟨17, _⟩ => ⟨S1x256, .f32⟩
  | .hbm, ⟨18, _⟩ => ⟨S1x128, .f32⟩
  | .hbm, ⟨19, _⟩ => ⟨S256, .f32⟩
  | .hbm, ⟨20, _⟩ => ⟨S128, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S1x256, .f32⟩
  | .local _ .vmem, ⟨9, _⟩ => ⟨S1x128, .f32⟩
  | .local _ .vmem, ⟨10, _⟩ => ⟨S256x256, .f32⟩
  | .local _ .vmem, ⟨11, _⟩ => ⟨S256x256, .f32⟩
  | .local _ .vmem, ⟨12, _⟩ => ⟨S256x128, .f32⟩
  | .local _ .vmem, ⟨13, _⟩ => ⟨S256x128, .f32⟩
  | .local _ .vmem, ⟨14, _⟩ => ⟨S1x256, .f32⟩
  | .local _ .vmem, ⟨15, _⟩ => ⟨S1x128, .f32⟩
  | _, _ => ⟨S8192x1184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v78 : BitVec 1 := Scalar.cmpi .eq arg0 c0_i32
  let v79 : BitVec 32 := Scalar.extui v78
  let c0_i32_32 : BitVec 32 := 0#32
  let v80 : BitVec 1 := Scalar.cmpi .ne v79 c0_i32_32
  v80

def k0_cond2 (i : grid0.Coords) : BitVec 1 :=
  let arg0 : BitVec 32 := BitVec.ofNat 32 (i 0).val
  let c0_i32_33 : BitVec 32 := 0#32
  let v81 : BitVec 1 := Scalar.cmpi .sgt arg0 c0_i32_33
  let v82 : BitVec 32 := Scalar.extui v81
  let c0_i32_34 : BitVec 32 := 0#32
  let v83 : BitVec 1 := Scalar.cmpi .ne v82 c0_i32_34
  v83

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PrepBwdReferenceIdeal.lean ====
abbrev S8192x1184 : Shape := ⟨2, ![8192, 1184]⟩
abbrev S8192x256 : Shape := ⟨2, ![8192, 256]⟩
abbrev S8192x128 : Shape := ⟨2, ![8192, 128]⟩
abbrev S256 : Shape := ⟨1, ![256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x1184, .f32⟩
  | .hbm, ⟨1, _⟩ => ⟨S8192x256, .f32⟩
  | .hbm, ⟨2, _⟩ => ⟨S8192x128, .f32⟩
  | .hbm, ⟨3, _⟩ => ⟨S256, .f32⟩
  | .hbm, ⟨4, _⟩ => ⟨S128, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S256, .f32⟩
  | .hbm, ⟨37, _⟩ => ⟨S8192x256, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x128, .f32⟩
  | .hbm, ⟨72, _⟩ => ⟨S8192x128, .f32⟩
  | .hbm, ⟨73, _⟩ => ⟨S1x128, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S8192x128, .f32⟩
  | .hbm, ⟨81, _⟩ => ⟨S8192x128, .f32⟩
  | .hbm, ⟨82, _⟩ => ⟨S_, .f32⟩
  | .hbm, ⟨83, _⟩ => ⟨S128, .f32⟩
  | .hbm, ⟨84, _⟩ => ⟨S8192x128, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x128, .f32⟩
  | .hbm, ⟨89, _⟩ => ⟨S8192x128, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x128, .f32⟩
  | .hbm, ⟨97, _⟩ => ⟨S8192x128, .f32⟩
  | .hbm, ⟨98, _⟩ => ⟨S8192x128, .f32⟩
  | _, _ => ⟨S8192x1184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_15 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Proof.Pay.lean ====
/-
  What one block of the kernel computes, read at an index: the stored payloads of `flash_bwd`'s skeleton as sums over
  the entries of the loaded blocks. `pr` is the probability of key row `y` for query `b` of a block, `ds` the gradient of
  its score; the diagonal block's masked forms are `prm n` and `dsm n`, in which query `b` stands at position `n + b`.
-/
module

public import proofs.«01_k».proof.Proof.Gen.KernelIdeal.Skeleton
public import Idealize.ShloMosaic.Lib.Pointwise
public import Idealize.ShloMosaic.Lib.WordCmp

@[expose] public section

noncomputable section

namespace Cert.FlashBwd

open Idealize.ShloMosaic Cert.KernelIdeal Cert.KernelIdeal.Gen
open Idealize.ShloMosaic.Pointwise

/-- The factor on the scores: the number its float word stands for. -/
def SC : EReal := Ideal.ofBits FTy.f32 1037108716#32

/-- The probability of key row `y` for query `b`: the exponential of their scaled product less the row's log-sum. -/
def pr (q : Vec Ideal S1x512x128 .bf16) (l : Vec Ideal S1x1x512 .f32) (K : Vec Ideal S1x8192x128 .bf16)
    (y : Fin 8192) (b : Fin 512) : EReal :=
  Ideal.exp ((∑ x : Fin 128, (K (ix3 0 y x) : EReal) * (q (ix3 0 b x) : EReal)) * SC - (l (ix3 0 0 b) : EReal))

/-- The gradient of a probability less the row's `delta`. -/
def gd (o : Vec Ideal S1x512x64 .bf16) (de : Vec Ideal S1x1x512 .f32) (V : Vec Ideal S1x8192x64 .bf16)
    (y : Fin 8192) (b : Fin 512) : EReal :=
  (∑ x : Fin 64, (V (ix3 0 y x) : EReal) * (o (ix3 0 b x) : EReal)) - (de (ix3 0 0 b) : EReal)

/-- The probability under the causal mask, the queries standing at `n + b`. -/
def prm (n : ℕ) (q : Vec Ideal S1x512x128 .bf16) (l : Vec Ideal S1x1x512 .f32) (K : Vec Ideal S1x8192x128 .bf16)
    (y : Fin 8192) (b : Fin 512) : EReal := if y.val ≤ n + b.val then pr q l K y b else 0

/-- The gradient of a score from a probability `p`. -/
def ds (p g : EReal) : EReal := p * g * SC

/-- Row `a` of the half block that begins at row `r0`. -/
def row (r0 : ℕ) (hr : r0 + 256 ≤ 8192) (a : Fin 256) : Fin 8192 := ⟨r0 + a.val, by omega⟩

section

variable (q : Vec Ideal S1x512x128 .bf16) (o : Vec Ideal S1x512x64 .bf16) (l de : Vec Ideal S1x1x512 .f32)
  (K : Vec Ideal S1x8192x128 .bf16) (V : Vec Ideal S1x8192x64 .bf16)
  (kb : Vec Ideal S1x256x128 .bf16) (vb : Vec Ideal S1x256x64 .bf16)
  (r0 : ℕ) (hr : r0 + 256 ≤ 8192)

theorem pay5_at (hk : ∀ a x, (kb (ix3 0 a x) : EReal) = K (ix3 0 (row r0 hr a) x)) (a : Fin 256) (b : Fin 512) :
    (k0_pay5 (k0_pay27 q) (k0_pay29 l) kb (ix2 a b) : EReal) = pr q l K (row r0 hr a) b := by
  pointwise [k0_pay5, k0_pay27, k0_pay29]
  simp only [hk]
  rfl

theorem pay6_at (hk : ∀ a x, (kb (ix3 0 a x) : EReal) = K (ix3 0 (row r0 hr a) x))
    (hv : ∀ a x, (vb (ix3 0 a x) : EReal) = V (ix3 0 (row r0 hr a) x)) (a : Fin 256) (b : Fin 512) :
    (k0_pay6 (k0_pay27 q) (k0_pay28 o) (k0_pay29 l) (k0_pay30 de) kb vb (ix2 a b) : EReal)
      = ds (pr q l K (row r0 hr a) b) (gd o de V (row r0 hr a) b) := by
  pointwise [k0_pay6, k0_pay5, k0_pay27, k0_pay28, k0_pay29, k0_pay30]
  simp only [hk, hv]
  rfl

theorem pay7_at (hk : ∀ a x, (kb (ix3 0 a x) : EReal) = K (ix3 0 (row r0 hr a) x)) (old : Vec Ideal S1x256x64 .f32)
    (a : Fin 256) (d : Fin 64) :
    (k0_pay7 (k0_pay27 q) (k0_pay28 o) (k0_pay29 l) kb old (ix3 0 a d) : EReal)
      = old (ix3 0 a d) + ∑ b : Fin 512, pr q l K (row r0 hr a) b * (o (ix3 0 b d) : EReal) := by
  pointwise [k0_pay7, k0_pay5, k0_pay27, k0_pay28, k0_pay29]
  simp only [hk]
  rfl

theorem pay9_at (hk : ∀ a x, (kb (ix3 0 a x) : EReal) = K (ix3 0 (row r0 hr a) x))
    (hv : ∀ a x, (vb (ix3 0 a x) : EReal) = V (ix3 0 (row r0 hr a) x)) (old : Vec Ideal S1x256x128 .f32)
    (a : Fin 256) (d : Fin 128) :
    (k0_pay9 (k0_pay8 (k0_pay27 q) (k0_pay28 o) (k0_pay29 l) (k0_pay30 de) kb vb old) (ix3 0 a d) : EReal)
      = old (ix3 0 a d) + ∑ b : Fin 512, ds (pr q l K (row r0 hr a) b) (gd o de V (row r0 hr a) b) * (q (ix3 0 b d) : EReal) := by
  pointwise [k0_pay9, k0_pay8, k0_pay6, k0_pay5, k0_pay27, k0_pay28, k0_pay29, k0_pay30]
  simp only [hk, hv]
  rfl

theorem pay10_at (w : FVec Ideal S256x512 .bf16) (s : Fin 256 → Fin 512 → EReal) (hw : ∀ a b, (w (ix2 a b) : EReal) = s a b)
    (old : Vec Ideal S128x512 .f32) (kt : Vec Ideal S1x128x256 .bf16) (d : Fin 128) (b : Fin 512) :
    (k0_pay10 w old kt (ix2 d b) : EReal) = old (ix2 d b) + ∑ a : Fin 256, (kt (ix3 0 d a) : EReal) * s a b := by
  pointwise [k0_pay10]
  simp only [hw]

theorem pay12_at (hk : ∀ a x, (kb (ix3 0 a x) : EReal) = K (ix3 0 (row r0 hr a) x))
    (hv : ∀ a x, (vb (ix3 0 a x) : EReal) = V (ix3 0 (row r0 hr a) x)) (a : Fin 256) (b : Fin 512) :
    (k0_pay12 (k0_pay27 q) (k0_pay28 o) (k0_pay29 l) (k0_pay30 de) kb vb (ix2 a b) : EReal)
      = ds (pr q l K (row r0 hr a) b) (gd o de V (row r0 hr a) b) := by
  pointwise [k0_pay12, k0_pay11, k0_pay27, k0_pay28, k0_pay29, k0_pay30]
  simp only [hk, hv]
  rfl

theorem pay32_at (hk : ∀ a x, (kb (ix3 0 a x) : EReal) = K (ix3 0 (row r0 hr a) x)) (old : Vec Ideal S1x256x64 .f32)
    (a : Fin 256) (d : Fin 64) :
    (k0_pay32 o (k0_pay13 old) (k0_pay14 (k0_pay27 q) (k0_pay29 l) kb) (constant S256x64 FTy.f32 0#32) (ix3 0 a d) : EReal)
      = old (ix3 0 a d) + ∑ b : Fin 512, pr q l K (row r0 hr a) b * (o (ix3 0 b d) : EReal) := by
  pointwise [k0_pay32, k0_pay13, k0_pay14, k0_pay11, k0_pay27, k0_pay28, k0_pay29]
  simp only [hk]
  rfl

theorem pay33_at (w : FVec Ideal S256x512 .bf16) (s : Fin 256 → Fin 512 → EReal) (hw : ∀ a b, (w (ix2 a b) : EReal) = s a b)
    (old : Vec Ideal S1x256x128 .f32) (a : Fin 256) (d : Fin 128) :
    (k0_pay33 q w old (ix3 0 a d) : EReal) = old (ix3 0 a d) + ∑ b : Fin 512, s a b * (q (ix3 0 b d) : EReal) := by
  pointwise [k0_pay33, k0_pay27]
  simp only [hw]

theorem pay34_at (w : FVec Ideal S256x512 .bf16) (s : Fin 256 → Fin 512 → EReal) (hw : ∀ a b, (w (ix2 a b) : EReal) = s a b)
    (old : Vec Ideal S128x512 .f32) (kt : Vec Ideal S1x128x256 .bf16) (d : Fin 128) (b : Fin 512) :
    (k0_pay34 w old kt (ix2 d b) : EReal) = old (ix2 d b) + ∑ a : Fin 256, (kt (ix3 0 d a) : EReal) * s a b := by
  pointwise [k0_pay34]
  simp only [hw]

/-! ### The diagonal block -/

/-- The kernel's mask of a half block whose first key row stands `c` rows into the block: query `b` against key row `a`. -/
theorem mask_at (c : ℕ) (hc : c ≤ 256) (a : Fin 256) (b : Fin 512) (x : EReal) :
    (Scalar.select (IntOp.cmpi CmpIPredicate.sge (BitVec.ofNat 32 b.val) (IntOp.addi (BitVec.ofNat 32 c) (BitVec.ofNat 32 a.val))) x 0 : EReal)
      = if c + a.val ≤ b.val then x else 0 := by
  have h : IntOp.addi (BitVec.ofNat 32 c) (BitVec.ofNat 32 a.val) = BitVec.ofNat 32 (c + a.val) := by
    simp [IntOp.addi, BitVec.ofNat_add]
  rw [h, WordCmp.cmpi_sge_ofNat (by have := b.isLt; omega) (by have := a.isLt; omega)]
  by_cases hh : c + a.val ≤ b.val <;> simp [hh, Scalar.select]

theorem pay39_at (hk : ∀ a x, (kb (ix3 0 a x) : EReal) = K (ix3 0 (row r0 hr a) x)) (a : Fin 256) (b : Fin 512) :
    (k0_pay39 (k0_pay29 l) (k0_pay38 q kb) (ix2 a b) : EReal) = prm r0 q l K (row r0 hr a) b := by
  pointwise [k0_pay39, k0_pay38, k0_pay27, k0_pay29]
  simp only [hk]
  refine (mask_at 0 (by omega) a b _).trans ?_
  simp only [prm, row, pr, SC, Nat.zero_add, Nat.add_le_add_iff_left]

theorem pay40_at (hk : ∀ a x, (kb (ix3 0 a x) : EReal) = K (ix3 0 (row r0 hr a) x))
    (hv : ∀ a x, (vb (ix3 0 a x) : EReal) = V (ix3 0 (row r0 hr a) x)) (a : Fin 256) (b : Fin 512) :
    (k0_pay40 (k0_pay28 o) (k0_pay29 l) (k0_pay30 de) (k0_pay38 q kb) vb (ix2 a b) : EReal)
      = ds (prm r0 q l K (row r0 hr a) b) (gd o de V (row r0 hr a) b) := by
  have h := pay39_at q l K kb r0 hr hk a b
  pointwise [k0_pay40, k0_pay28, k0_pay30]
  simp only [h, hv]
  rfl

theorem pay41_at (hk : ∀ a x, (kb (ix3 0 a x) : EReal) = K (ix3 0 (row r0 hr a) x)) (old : Vec Ideal S1x256x64 .f32)
    (a : Fin 256) (d : Fin 64) :
    (k0_pay41 (k0_pay28 o) (k0_pay29 l) (k0_pay38 q kb) old (ix3 0 a d) : EReal)
      = old (ix3 0 a d) + ∑ b : Fin 512, prm r0 q l K (row r0 hr a) b * (o (ix3 0 b d) : EReal) := by
  have h := fun b => pay39_at q l K kb r0 hr hk a b
  pointwise [k0_pay41, k0_pay28]
  simp only [h]

theorem pay42_at (hk : ∀ a x, (kb (ix3 0 a x) : EReal) = K (ix3 0 (row r0 hr a) x))
    (hv : ∀ a x, (vb (ix3 0 a x) : EReal) = V (ix3 0 (row r0 hr a) x)) (old : Vec Ideal S1x256x128 .f32)
    (a : Fin 256) (d : Fin 128) :
    (k0_pay42 (k0_pay27 q) (k0_pay28 o) (k0_pay29 l) (k0_pay30 de) (k0_pay38 q kb) vb old (ix3 0 a d) : EReal)
      = old (ix3 0 a d) + ∑ b : Fin 512, ds (prm r0 q l K (row r0 hr a) b) (gd o de V (row r0 hr a) b) * (q (ix3 0 b d) : EReal) := by
  have h := fun b => pay40_at q o l de K V kb vb r0 hr hk hv a b
  pointwise [k0_pay42, k0_pay27]
  simp only [h]

theorem pay43_at (w : FVec Ideal S256x512 .bf16) (s : Fin 256 → Fin 512 → EReal) (hw : ∀ a b, (w (ix2 a b) : EReal) = s a b)
    (old : Vec Ideal S128x512 .f32) (kt : Vec Ideal S1x128x256 .bf16) (d : Fin 128) (b : Fin 512) :
    (k0_pay43 w old kt (ix2 d b) : EReal) = old (ix2 d b) + ∑ a : Fin 256, (kt (ix3 0 d a) : EReal) * s a b := by
  pointwise [k0_pay43]
  simp only [hw]

section

variable (n : ℕ) (hn : r0 = n + 256)

include hn

theorem pay44_at (hk : ∀ a x, (kb (ix3 0 a x) : EReal) = K (ix3 0 (row r0 hr a) x)) (a : Fin 256) (b : Fin 512) :
    (k0_pay44 (k0_pay27 q) (k0_pay29 l) kb (ix2 a b) : EReal) = prm n q l K (row r0 hr a) b := by
  pointwise [k0_pay44, k0_pay27, k0_pay29]
  simp only [hk]
  refine (mask_at 256 (by omega) a b _).trans ?_
  subst hn
  simp only [prm, row, pr, SC, Nat.add_assoc, Nat.add_le_add_iff_left]

theorem pay45_at (hk : ∀ a x, (kb (ix3 0 a x) : EReal) = K (ix3 0 (row r0 hr a) x))
    (hv : ∀ a x, (vb (ix3 0 a x) : EReal) = V (ix3 0 (row r0 hr a) x)) (a : Fin 256) (b : Fin 512) :
    (k0_pay45 (k0_pay27 q) (k0_pay28 o) (k0_pay29 l) (k0_pay30 de) kb vb (ix2 a b) : EReal)
      = ds (prm n q l K (row r0 hr a) b) (gd o de V (row r0 hr a) b) := by
  have h := pay44_at q l K kb r0 hr n hn hk a b
  pointwise [k0_pay45, k0_pay28, k0_pay30]
  simp only [h, hv]
  rfl

end

theorem pay1_at (w : FVec Ideal S256x512 .f32) (s : Fin 256 → Fin 512 → EReal) (hw : ∀ a b, (w (ix2 a b) : EReal) = s a b)
    (old : Vec Ideal S1x256x64 .f32) (a : Fin 256) (d : Fin 64) :
    (k0_pay1 (k0_pay28 o) w old (ix3 0 a d) : EReal) = old (ix3 0 a d) + ∑ b : Fin 512, s a b * (o (ix3 0 b d) : EReal) := by
  pointwise [k0_pay1, k0_pay28]
  simp only [hw]

theorem pay2_at (w : FVec Ideal S256x512 .bf16) (s : Fin 256 → Fin 512 → EReal) (hw : ∀ a b, (w (ix2 a b) : EReal) = s a b)
    (old : Vec Ideal S1x256x128 .f32) (a : Fin 256) (d : Fin 128) :
    (k0_pay2 (k0_pay27 q) w old (ix3 0 a d) : EReal) = old (ix3 0 a d) + ∑ b : Fin 512, s a b * (q (ix3 0 b d) : EReal) := by
  pointwise [k0_pay2, k0_pay27]
  simp only [hw]

theorem pay3_at (w : FVec Ideal S256x512 .bf16) (s : Fin 256 → Fin 512 → EReal) (hw : ∀ a b, (w (ix2 a b) : EReal) = s a b)
    (old : Vec Ideal S128x512 .f32) (kt : Vec Ideal S1x128x256 .bf16) (d : Fin 128) (b : Fin 512) :
    (k0_pay3 w old kt (ix2 d b) : EReal) = old (ix2 d b) + ∑ a : Fin 256, (kt (ix3 0 d a) : EReal) * s a b := by
  pointwise [k0_pay3]
  simp only [hw]

theorem pay4_at (w : Vec Ideal S128x512 .f32) (d : Fin 128) (b : Fin 512) :
    (k0_pay4 w (ix3 0 d b) : EReal) = w (ix2 d b) := by
  pointwise [k0_pay4]

theorem pay25_at (y : S1x8192x128.Idx) : (k0_pay25 (F := Ideal) y : EReal) = 0 := by
  pointwise [k0_pay25]

theorem pay26_at (y : S1x8192x64.Idx) : (k0_pay26 (F := Ideal) y : EReal) = 0 := by
  pointwise [k0_pay26]

theorem pay31_at (y : S128x512.Idx) : (k0_pay31 (F := Ideal) y : EReal) = 0 := by
  pointwise [k0_pay31]

end

end Cert.FlashBwd
end
-- ==== Proof.Windows.lean ====
/-
  The kernel's loops and windows in closed form: the two loops' trip counts, the offsets of the half blocks, and what a
  load or a store of 256 rows of an accumulator reads at an index.
-/
module

public import proofs.«01_k».proof.Proof.Pay
public import proofs.«01_k».proof.Proof.Gen.KernelIdeal.Loops
public import Idealize.ShloMosaic.Lib.VecWindow

@[expose] public section

noncomputable section

namespace Cert.FlashBwd

open Idealize.ShloMosaic Cert.KernelIdeal Cert.KernelIdeal.Gen
open Idealize.ShloMosaic.Pointwise

/-! ### The loops -/

/-- The loop over the earlier blocks runs once for each block before the point's own. -/
theorem trips1 (i : grid0.Coords) : (k0_t1_loop i).trips = (i 1).val := by
  have h : (i 1).val < 16 := (i 1).isLt
  unfold k0_t1_loop
  generalize (i 1).val = n at h
  interval_cases n <;> decide

/-- The loop over the remainder runs never. -/
theorem trips2 (i : grid0.Coords) : (k0_t2_loop i).trips = 0 := by
  have h : (i 1).val < 16 := (i 1).isLt
  unfold k0_t2_loop
  generalize (i 1).val = n at h
  interval_cases n <;> decide

theorem word_off (n : ℕ) (hn : n < 16) (c : BitVec 32) (hc : c.toNat ≤ 256) :
    (BitVec.ofNat 32 n * 512#32 + c).toNat = 512 * n + c.toNat := by
  simp only [BitVec.toNat_add, BitVec.toNat_mul, BitVec.toNat_ofNat]
  omega

theorem off1_eq (i : grid0.Coords) (k : Fin (k0_t1_loop i).trips) (c : BitVec 32) (hc : c.toNat ≤ 256) :
    k0_off1 i k c = ![0, 512 * k.val + c.toNat, 0] := by
  have h : (i 1).val < 16 := (i 1).isLt
  have hk : k.val < 16 := by
    have h1 := k.isLt
    have h2 := trips1 i
    omega
  rw [← word_off k.val hk c hc]
  simp [k0_off1, Scf.iv, Scalar.muli, Scalar.addi, Scalar.indexCast, IntOp.muli, IntOp.addi]

theorem off2_eq (i : grid0.Coords) (k : Fin (k0_t1_loop i).trips) (c : BitVec 32) (hc : c.toNat ≤ 256) :
    k0_off2 i k c = ![0, 512 * k.val + c.toNat, 0] := off1_eq i k c hc

theorem off3_eq (i : grid0.Coords) (k : Fin (k0_t1_loop i).trips) (c : BitVec 32) (hc : c.toNat ≤ 256) :
    k0_off3 i k c = ![0, 0, 512 * k.val + c.toNat] := by
  have h := congrFun (off1_eq i k c hc) 1
  funext a
  match a with
  | 0 => rfl
  | 1 => rfl
  | 2 => exact h

theorem off7_eq (i : grid0.Coords) (c : BitVec 32) (hc : c.toNat ≤ 256) :
    k0_off7 i c = ![0, 512 * (i 1).val + c.toNat, 0] := by
  have h : (i 1).val < 16 := (i 1).isLt
  rw [← word_off (i 1).val h c hc]
  simp [k0_off7, Scf.iv, Scalar.muli, Scalar.addi, Scalar.indexCast, IntOp.muli, IntOp.addi]

theorem off8_eq (i : grid0.Coords) (c : BitVec 32) (hc : c.toNat ≤ 256) :
    k0_off8 i c = ![0, 512 * (i 1).val + c.toNat, 0] := off7_eq i c hc

theorem off9_eq (i : grid0.Coords) (c : BitVec 32) (hc : c.toNat ≤ 256) :
    k0_off9 i c = ![0, 0, 512 * (i 1).val + c.toNat] := by
  have h := congrFun (off7_eq i c hc) 1
  funext a
  match a with
  | 0 => rfl
  | 1 => rfl
  | 2 => exact h

/-! ### Loads and stores of 256 rows -/

section

variable {sig : RefSig} {κ : Kind} {sp : Space} {e : EltTy} {Val : EltTy → Type} {D : ℕ}

/-- A load of 256 rows from row `r0`, at an index. -/
theorem ld_rows (v : View sig κ sp (⟨3, ![1, 8192, D]⟩ : Shape) e) (f : v.ty.Contents Val) {off : Fin 3 → ℕ} (r0 : ℕ)
    (hr : r0 + 256 ≤ 8192) (h : off = ![0, r0, 0])
    (inb : ∀ a, off a + (![1, 256, D] : Fin 3 → ℕ) a ≤ (⟨3, ![1, 8192, D]⟩ : Shape).size a) (a : Fin 256) (x : Fin D) :
    v.readAt Val (Rect.unit (s := ⟨3, ![1, 8192, D]⟩) off ![1, 256, D] inb).toLoadRect f (ix3 (0 : Fin 1) a x)
      = v.read Val f (ix3 (0 : Fin 1) (row r0 hr a) x) := by
  subst h
  refine congrArg (v.read Val f) (funext fun j => Fin.ext ?_)
  match j with
  | 0 => rfl
  | 1 => show r0 + 1 * a.val = r0 + a.val; omega
  | 2 => show 0 + 1 * x.val = x.val; omega

/-- A load of 256 columns from column `r0`, at an index. -/
theorem ld_cols (v : View sig κ sp (⟨3, ![1, D, 8192]⟩ : Shape) e) (f : v.ty.Contents Val) {off : Fin 3 → ℕ} (r0 : ℕ)
    (hr : r0 + 256 ≤ 8192) (h : off = ![0, 0, r0])
    (inb : ∀ a, off a + (![1, D, 256] : Fin 3 → ℕ) a ≤ (⟨3, ![1, D, 8192]⟩ : Shape).size a) (a : Fin 256) (x : Fin D) :
    v.readAt Val (Rect.unit (s := ⟨3, ![1, D, 8192]⟩) off ![1, D, 256] inb).toLoadRect f (ix3 (0 : Fin 1) x a)
      = v.read Val f (ix3 (0 : Fin 1) x (row r0 hr a)) := by
  subst h
  refine congrArg (v.read Val f) (funext fun j => Fin.ext ?_)
  match j with
  | 0 => rfl
  | 1 => show 0 + 1 * x.val = x.val; omega
  | 2 => show r0 + 1 * a.val = r0 + a.val; omega

/-- After a store of 256 rows from row `r0`: those rows are the payload's. -/
theorem st_rows_mem (v : View sig κ sp (⟨3, ![1, 8192, D]⟩ : Shape) e) (f : v.ty.Contents Val) {off : Fin 3 → ℕ} (r0 : ℕ)
    (hr : r0 + 256 ≤ 8192) (h : off = ![0, r0, 0])
    (inb : ∀ a, off a + (![1, 256, D] : Fin 3 → ℕ) a ≤ (⟨3, ![1, 8192, D]⟩ : Shape).size a)
    (w : (Rect.unit (s := ⟨3, ![1, 8192, D]⟩) off ![1, 256, D] inb).shape.Idx → Val e)
    (L : List (View.Piece Val (⟨3, ![1, 8192, D]⟩ : Shape) e)) (a : Fin 256) (x : Fin D) :
    v.read Val (v.writes Val f (⟨Rect.unit (s := ⟨3, ![1, 8192, D]⟩) off ![1, 256, D] inb, w⟩ :: L)) (ix3 (0 : Fin 1) (row r0 hr a) x)
      = w (ix3 (0 : Fin 1) a x) := by
  refine View.read_writes_cons_unit_of_mem v f inb w L _ (ix3 (0 : Fin 1) a x) h fun j => ?_
  match j with
  | 0 => rfl
  | 1 => rfl
  | 2 => show x.val = 0 + x.val; omega

/-- After a store of 256 rows from row `r0`: the other rows are what they were. -/
theorem st_rows_not_mem (v : View sig κ sp (⟨3, ![1, 8192, D]⟩ : Shape) e) (f : v.ty.Contents Val) {off : Fin 3 → ℕ} (r0 : ℕ)
    (h : off = ![0, r0, 0])
    (inb : ∀ a, off a + (![1, 256, D] : Fin 3 → ℕ) a ≤ (⟨3, ![1, 8192, D]⟩ : Shape).size a)
    (w : (Rect.unit (s := ⟨3, ![1, 8192, D]⟩) off ![1, 256, D] inb).shape.Idx → Val e)
    (L : List (View.Piece Val (⟨3, ![1, 8192, D]⟩ : Shape) e)) (y : Fin 8192) (x : Fin D)
    (hy : y.val < r0 ∨ r0 + 256 ≤ y.val) :
    v.read Val (v.writes Val f (⟨Rect.unit (s := ⟨3, ![1, 8192, D]⟩) off ![1, 256, D] inb, w⟩ :: L)) (ix3 (0 : Fin 1) y x)
      = v.read Val (v.writes Val f L) (ix3 (0 : Fin 1) y x) :=
  View.read_writes_cons_unit_of_not_mem v f inb w L _ h (1 : Fin 3) hy

end

/-- Two stores of 256 rows each, one after the other and both adding `s` to what the rows held: the 512 rows gain `s`, the
    others are what they were. The second store's payload may be stated at the contents before the first. -/
theorem two_halves {sig : RefSig} {κ : Kind} {sp : Space} {D : ℕ} (v : View sig κ sp (⟨3, ![1, 8192, D]⟩ : Shape) .f32)
    (f : v.ty.Contents (Elt Ideal)) {off0 off1 : Fin 3 → ℕ} (r0 : ℕ)
    (hr : r0 + 512 ≤ 8192) (h0 : off0 = ![0, r0, 0]) (h1 : off1 = ![0, r0 + 256, 0])
    (inb0 : ∀ a, off0 a + (![1, 256, D] : Fin 3 → ℕ) a ≤ (⟨3, ![1, 8192, D]⟩ : Shape).size a)
    (inb1 : ∀ a, off1 a + (![1, 256, D] : Fin 3 → ℕ) a ≤ (⟨3, ![1, 8192, D]⟩ : Shape).size a)
    (w0 : (Rect.unit (s := ⟨3, ![1, 8192, D]⟩) off0 ![1, 256, D] inb0).shape.Idx → Elt Ideal .f32)
    (w1 : (Rect.unit (s := ⟨3, ![1, 8192, D]⟩) off1 ![1, 256, D] inb1).shape.Idx → Elt Ideal .f32)
    (L : List (View.Piece (Elt Ideal) (⟨3, ![1, 8192, D]⟩ : Shape) .f32)) (s : Fin 8192 → Fin D → EReal)
    (hw0 : ∀ a x, (w0 (ix3 (0 : Fin 1) a x) : EReal)
      = v.read (Elt Ideal) (v.writes (Elt Ideal) f L) (ix3 (0 : Fin 1) (row r0 (by omega) a) x) + s (row r0 (by omega) a) x)
    (hw1 : ∀ a x, (w1 (ix3 (0 : Fin 1) a x) : EReal)
      = v.read (Elt Ideal) (v.writes (Elt Ideal) f L) (ix3 (0 : Fin 1) (row (r0 + 256) (by omega) a) x)
        + s (row (r0 + 256) (by omega) a) x) (y : Fin 8192) (x : Fin D) :
    (v.read (Elt Ideal) (v.writes (Elt Ideal) f (⟨Rect.unit (s := ⟨3, ![1, 8192, D]⟩) off1 ![1, 256, D] inb1, w1⟩
        :: ⟨Rect.unit (s := ⟨3, ![1, 8192, D]⟩) off0 ![1, 256, D] inb0, w0⟩ :: L)) (ix3 (0 : Fin 1) y x) : EReal)
      = v.read (Elt Ideal) (v.writes (Elt Ideal) f L) (ix3 (0 : Fin 1) y x)
        + if r0 ≤ y.val ∧ y.val < r0 + 512 then s y x else 0 := by
  have hr0 : r0 + 256 ≤ 8192 := by omega
  by_cases hA : r0 + 256 ≤ y.val ∧ y.val < r0 + 512
  · obtain ⟨a, rfl⟩ : ∃ a : Fin 256, y = row (r0 + 256) hr a :=
      ⟨⟨y.val - (r0 + 256), by omega⟩, Fin.ext (by show y.val = r0 + 256 + (y.val - (r0 + 256)); omega)⟩
    rw [st_rows_mem v f (r0 + 256) hr h1 inb1 w1 _ a x, hw1, if_pos ⟨by omega, hA.2⟩]
  · rw [st_rows_not_mem v f (r0 + 256) h1 inb1 w1 _ y x (by omega)]
    by_cases hB : r0 ≤ y.val ∧ y.val < r0 + 256
    · obtain ⟨a, rfl⟩ : ∃ a : Fin 256, y = row r0 hr0 a :=
        ⟨⟨y.val - r0, by omega⟩, Fin.ext (by show y.val = r0 + (y.val - r0); omega)⟩
      rw [st_rows_mem v f r0 hr0 h0 inb0 w0 _ a x, hw0, if_pos ⟨hB.1, by omega⟩]
    · rw [st_rows_not_mem v f r0 h0 inb0 w0 _ y x (by omega), if_neg (by omega), add_zero]

/-- A sum over 512 rows from row `r0` of a summand that is nought outside them, as two sums over 256 rows. -/
theorem sum_halves (s : Fin 8192 → EReal) (r0 : ℕ) (hr : r0 + 512 ≤ 8192) :
    ∑ y : Fin 8192, (if r0 ≤ y.val ∧ y.val < r0 + 512 then s y else 0)
      = (∑ a : Fin 256, s (row r0 (by omega) a)) + ∑ a : Fin 256, s (row (r0 + 256) (by omega) a) := by
  have half : ∀ (c : ℕ) (hc : c + 256 ≤ 8192),
      ∑ y : Fin 8192, (if c ≤ y.val ∧ y.val < c + 256 then s y else 0) = ∑ a : Fin 256, s (row c hc a) := by
    intro c hc
    rw [← Finset.sum_filter]
    symm
    refine Finset.sum_bij (fun a _ => row c hc a) ?_ ?_ ?_ ?_
    · intro a _
      have := a.isLt
      simp only [Finset.mem_filter, Finset.mem_univ, true_and, row]
      omega
    · intro a _ b _ h
      have := congrArg Fin.val h
      simp only [row] at this
      exact Fin.ext (by omega)
    · intro y hy
      simp only [Finset.mem_filter, Finset.mem_univ, true_and] at hy
      exact ⟨⟨y.val - c, by omega⟩, Finset.mem_univ _, Fin.ext (by show c + (y.val - c) = y.val; omega)⟩
    · intro a _
      rfl
  rw [← half r0 (by omega), ← half (r0 + 256) (by omega), ← Finset.sum_add_distrib]
  refine Finset.sum_congr rfl fun y _ => ?_
  by_cases h1 : r0 ≤ y.val ∧ y.val < r0 + 256
  · rw [if_pos h1, if_pos ⟨h1.1, by omega⟩, if_neg (by omega), add_zero]
  · by_cases h2 : r0 + 256 ≤ y.val ∧ y.val < r0 + 256 + 256
    · rw [if_neg h1, if_pos h2, if_pos ⟨by omega, by omega⟩, zero_add]
    · rw [if_neg h1, if_neg h2, if_neg (by omega), add_zero]

end Cert.FlashBwd
end
-- ==== Proof.Trip.lean ====
/-
  One trip of the kernel's loop over the earlier blocks, and the loop as a whole: what the three accumulators hold after
  `n` trips. Trip `k` takes key rows `512 k … 512 k + 511`, in two halves; to each of these rows of the accumulators of `dv`
  and `dk` it adds the row's sum over the point's queries, to the accumulator of `dq` the rows' terms.
-/
module

public import proofs.«01_k».proof.Proof.Windows

@[expose] public section

noncomputable section

namespace Cert.FlashBwd

open Idealize.ShloMosaic Idealize.ShloMosaic.TcCoe Cert.KernelIdeal Cert.KernelIdeal.Gen
open Idealize.ShloMosaic.Pointwise
open Idealize.ShloMosaic.Tactic
open Idealize.SL Idealize.SL.RA Idealize.SL.BI

/-- What query `b` of the block gives to `dv`'s row `y`, summed over the block. -/
def cv (p : Fin 8192 → Fin 512 → EReal) (o : Vec Ideal S1x512x64 .bf16) (y : Fin 8192) (d : Fin 64) : EReal :=
  ∑ b : Fin 512, p y b * (o (ix3 0 b d) : EReal)

/-- What the block gives to `dk`'s row `y`. -/
def ck (p g : Fin 8192 → Fin 512 → EReal) (q : Vec Ideal S1x512x128 .bf16) (y : Fin 8192) (d : Fin 128) : EReal :=
  ∑ b : Fin 512, ds (p y b) (g y b) * (q (ix3 0 b d) : EReal)

/-- What key row `y` gives to `dq`. -/
def cq (p g : Fin 8192 → Fin 512 → EReal) (kT : Vec Ideal S1x128x8192 .bf16) (d : Fin 128) (b : Fin 512) (y : Fin 8192) : EReal :=
  (kT (ix3 0 d y) : EReal) * ds (p y b) (g y b)

section

variable (𝒱 : Variants) (c : Dev nD) (bd : Option 𝒱.V) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole)
variable (v3 : Vec Ideal S1x512x128 .bf16) (v5 : Vec Ideal S1x512x64 .bf16) (v7 : Vec Ideal S1x1x512 .f32) (v9 : Vec Ideal S1x1x512 .f32) (X_arg6 : BufTy.Contents (Elt Ideal) arg6.view.ty) (X_arg7 : BufTy.Contents (Elt Ideal) arg7.view.ty) (X_arg8 : BufTy.Contents (Elt Ideal) arg8.view.ty) (k : Fin (k0_t1_loop i).trips) (f_arg10 : BufTy.Contents (Elt Ideal) arg10.view.ty) (f_arg11 : BufTy.Contents (Elt Ideal) arg11.view.ty) (f_arg12 : BufTy.Contents (Elt Ideal) arg12.view.ty)

theorem trip_dv (y : Fin 8192) (d : Fin 64) :
    (arg11.view.read (Elt Ideal) (arg11.view.writes (Elt Ideal) f_arg11
        (tripL_k0_t1 (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 k f_arg10 f_arg11 f_arg12).2.1) (ix3 0 y d) : EReal)
      = arg11.view.read (Elt Ideal) f_arg11 (ix3 0 y d)
        + if 512 * k.val ≤ y.val ∧ y.val < 512 * k.val + 512
          then cv (pr v3 v7 (arg6.view.read (Elt Ideal) X_arg6)) v5 y d else 0 := by
  have hk : k.val < 16 := by
    have h1 := k.isLt
    have h2 := trips1 i
    have h3 : (i 1).val < 16 := (i 1).isLt
    omega
  have o0 := off2_eq i k 0#32 (by decide)
  have o1 := off2_eq i k 256#32 (by decide)
  have p0 := off1_eq i k 0#32 (by decide)
  have p1 := off1_eq i k 256#32 (by decide)
  unfold tripL_k0_t1
  unfold trip_k0_t1
  dsimp only
  sl_unfold_run_names
  refine two_halves arg11.view f_arg11 (512 * k.val) (by omega) o0 o1 _ _ _ _ [] _ (fun a x => ?_) (fun a x => ?_) y d
  · refine (pay7_at v3 v5 v7 (arg6.view.read (Elt Ideal) X_arg6) _ (512 * k.val) (by omega) (fun a x => ?_) _ a x).trans ?_
    · exact ld_rows arg6.view X_arg6 _ _ p0 _ a x
    · rw [ld_rows arg11.view f_arg11 (512 * k.val) (by omega) o0 _ a x]
      rfl
  · refine (pay32_at v3 v5 v7 (arg6.view.read (Elt Ideal) X_arg6) _ (512 * k.val + 256) (by omega) (fun a x => ?_) _ a x).trans ?_
    · exact ld_rows arg6.view X_arg6 _ _ p1 _ a x
    · rw [ld_rows arg11.view f_arg11 (512 * k.val + 256) (by omega) o1 _ a x]
      rfl

theorem trip_dk (y : Fin 8192) (d : Fin 128) :
    (arg10.view.read (Elt Ideal) (arg10.view.writes (Elt Ideal) f_arg10
        (tripL_k0_t1 (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 k f_arg10 f_arg11 f_arg12).1) (ix3 0 y d) : EReal)
      = arg10.view.read (Elt Ideal) f_arg10 (ix3 0 y d)
        + if 512 * k.val ≤ y.val ∧ y.val < 512 * k.val + 512
          then ck (pr v3 v7 (arg6.view.read (Elt Ideal) X_arg6)) (gd v5 v9 (arg8.view.read (Elt Ideal) X_arg8)) v3 y d else 0 := by
  have hk : k.val < 16 := by
    have h1 := k.isLt
    have h2 := trips1 i
    have h3 : (i 1).val < 16 := (i 1).isLt
    omega
  have o0 := off2_eq i k 0#32 (by decide)
  have o1 := off2_eq i k 256#32 (by decide)
  have p0 := off1_eq i k 0#32 (by decide)
  have p1 := off1_eq i k 256#32 (by decide)
  unfold tripL_k0_t1
  unfold trip_k0_t1
  dsimp only
  sl_unfold_run_names
  refine two_halves arg10.view f_arg10 (512 * k.val) (by omega) p0 p1 _ _ _ _ [] _ (fun a x => ?_) (fun a x => ?_) y d
  · refine (pay9_at v3 v5 v7 v9 (arg6.view.read (Elt Ideal) X_arg6) (arg8.view.read (Elt Ideal) X_arg8) _ _ (512 * k.val) (by omega)
      (fun a x => ?_) (fun a x => ?_) _ a x).trans ?_
    · exact ld_rows arg6.view X_arg6 _ _ p0 _ a x
    · exact ld_rows arg8.view X_arg8 _ _ o0 _ a x
    · rw [ld_rows arg10.view f_arg10 (512 * k.val) (by omega) p0 _ a x]
      rfl
  · refine (pay33_at v3 _ _ (fun a b => pay12_at v3 v5 v7 v9 (arg6.view.read (Elt Ideal) X_arg6) (arg8.view.read (Elt Ideal) X_arg8) _ _
      (512 * k.val + 256) (by omega) (fun a x => ?_) (fun a x => ?_) a b) _ a x).trans ?_
    · exact ld_rows arg6.view X_arg6 _ _ p1 _ a x
    · exact ld_rows arg8.view X_arg8 _ _ o1 _ a x
    · rw [ld_rows arg10.view f_arg10 (512 * k.val + 256) (by omega) p1 _ a x]
      rfl

theorem trip_dq (d : Fin 128) (b : Fin 512) :
    (arg12.view.read (Elt Ideal) (arg12.view.writes (Elt Ideal) f_arg12
        (tripL_k0_t1 (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 k f_arg10 f_arg11 f_arg12).2.2) (ix2 d b) : EReal)
      = arg12.view.read (Elt Ideal) f_arg12 (ix2 d b)
        + ∑ y : Fin 8192, if 512 * k.val ≤ y.val ∧ y.val < 512 * k.val + 512
          then cq (pr v3 v7 (arg6.view.read (Elt Ideal) X_arg6)) (gd v5 v9 (arg8.view.read (Elt Ideal) X_arg8)) (arg7.view.read (Elt Ideal) X_arg7) d b y else 0 := by
  have hk : k.val < 16 := by
    have h1 := k.isLt
    have h2 := trips1 i
    have h3 : (i 1).val < 16 := (i 1).isLt
    omega
  have o0 := off2_eq i k 0#32 (by decide)
  have o1 := off2_eq i k 256#32 (by decide)
  have p0 := off1_eq i k 0#32 (by decide)
  have p1 := off1_eq i k 256#32 (by decide)
  have r0 := off3_eq i k 0#32 (by decide)
  have r1 := off3_eq i k 256#32 (by decide)
  unfold tripL_k0_t1
  unfold trip_k0_t1
  dsimp only
  sl_unfold_run_names
  rw [View.read_writes_full (s := S128x512), sum_halves _ (512 * k.val) (by omega), ← add_assoc]
  refine (pay34_at _ _ (fun a b => pay12_at v3 v5 v7 v9 (arg6.view.read (Elt Ideal) X_arg6) (arg8.view.read (Elt Ideal) X_arg8) _ _
      (512 * k.val + 256) (by omega) (fun a x => ?_) (fun a x => ?_) a b) _ _ d b).trans ?_
  · exact ld_rows arg6.view X_arg6 _ _ p1 _ a x
  · exact ld_rows arg8.view X_arg8 _ _ o1 _ a x
  refine congrArg₂ (· + ·) ?_ (Finset.sum_congr rfl fun a _ => ?_)
  · rw [View.readCov_full (s := S128x512)]
    refine (pay10_at _ _ (fun a b => pay6_at v3 v5 v7 v9 (arg6.view.read (Elt Ideal) X_arg6) (arg8.view.read (Elt Ideal) X_arg8) _ _
      (512 * k.val) (by omega) (fun a x => ?_) (fun a x => ?_) a b) _ _ d b).trans ?_
    · exact ld_rows arg6.view X_arg6 _ _ p0 _ a x
    · exact ld_rows arg8.view X_arg8 _ _ o0 _ a x
    refine congrArg₂ (· + ·) ?_ (Finset.sum_congr rfl fun a _ => ?_)
    · rw [View.readAt_full (s := S128x512)]
    · rw [ld_cols arg7.view X_arg7 (512 * k.val) (by omega) r0 _ a d]
      rfl
  · rw [ld_cols arg7.view X_arg7 (512 * k.val + 256) (by omega) r1 _ a d]
    rfl

end

end Cert.FlashBwd
end
-- ==== Proof.Loop.lean ====
/-
  The kernel's loop over the earlier blocks as a whole: what the three accumulators hold after `n` trips over what they held
  at its entry.
-/
module

public import proofs.«01_k».proof.Proof.Trip

@[expose] public section

noncomputable section

namespace Cert.FlashBwd

open Idealize.ShloMosaic Idealize.ShloMosaic.TcCoe Cert.KernelIdeal Cert.KernelIdeal.Gen
open Idealize.ShloMosaic.Pointwise
open Idealize.ShloMosaic.Tactic
open Idealize.SL Idealize.SL.RA Idealize.SL.BI

/-- Rows below `512 (n + 1)`: those below `512 n`, and the next 512. -/
theorem below_succ (n : ℕ) (y : ℕ) (s : EReal) :
    ((if y < 512 * n then s else 0) + if 512 * n ≤ y ∧ y < 512 * n + 512 then s else 0)
      = if y < 512 * (n + 1) then s else 0 := by
  by_cases h : y < 512 * n
  · rw [if_pos h, if_neg (by omega), if_pos (by omega), add_zero]
  · by_cases h' : y < 512 * n + 512
    · rw [if_neg h, if_pos ⟨by omega, h'⟩, if_pos (by omega), zero_add]
    · rw [if_neg h, if_neg (by omega), if_neg (by omega), add_zero]

section

variable (𝒱 : Variants) (c : Dev nD) (bd : Option 𝒱.V) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole)

variable (v3 : Vec Ideal S1x512x128 .bf16) (v5 : Vec Ideal S1x512x64 .bf16) (v7 : Vec Ideal S1x1x512 .f32) (v9 : Vec Ideal S1x1x512 .f32) (X_arg6 : BufTy.Contents (Elt Ideal) arg6.view.ty) (X_arg7 : BufTy.Contents (Elt Ideal) arg7.view.ty) (X_arg8 : BufTy.Contents (Elt Ideal) arg8.view.ty) (G_arg10 : BufTy.Contents (Elt Ideal) arg10.view.ty) (G_arg11 : BufTy.Contents (Elt Ideal) arg11.view.ty) (G_arg12 : BufTy.Contents (Elt Ideal) arg12.view.ty)

theorem loop_dv (n : ℕ) (hn : n ≤ (k0_t1_loop i).trips) (y : Fin 8192) (d : Fin 64) :
    (arg11.view.read (Elt Ideal) (arg11.view.writes (Elt Ideal) G_arg11 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 G_arg10 G_arg11 G_arg12 n).2.1) (ix3 0 y d) : EReal)
      = arg11.view.read (Elt Ideal) G_arg11 (ix3 0 y d)
        + if y.val < 512 * n then cv (pr v3 v7 (arg6.view.read (Elt Ideal) X_arg6)) v5 y d else 0 := by
  induction n with
  | zero => rw [if_neg (by omega), add_zero]; rfl
  | succ n ih =>
    have h := pb_k0_t1_succ (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 G_arg10 G_arg11 G_arg12 ⟨n, hn⟩
    dsimp only at h
    rw [h]
    dsimp only
    rw [View.writes_append, trip_dv, ih (by omega), ← below_succ, add_assoc]

theorem loop_dk (n : ℕ) (hn : n ≤ (k0_t1_loop i).trips) (y : Fin 8192) (d : Fin 128) :
    (arg10.view.read (Elt Ideal) (arg10.view.writes (Elt Ideal) G_arg10 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 G_arg10 G_arg11 G_arg12 n).1) (ix3 0 y d) : EReal)
      = arg10.view.read (Elt Ideal) G_arg10 (ix3 0 y d)
        + if y.val < 512 * n then ck (pr v3 v7 (arg6.view.read (Elt Ideal) X_arg6)) (gd v5 v9 (arg8.view.read (Elt Ideal) X_arg8)) v3 y d else 0 := by
  induction n with
  | zero => rw [if_neg (by omega), add_zero]; rfl
  | succ n ih =>
    have h := pb_k0_t1_succ (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 G_arg10 G_arg11 G_arg12 ⟨n, hn⟩
    dsimp only at h
    rw [h]
    dsimp only
    rw [View.writes_append, trip_dk, ih (by omega), ← below_succ, add_assoc]

theorem loop_dq (n : ℕ) (hn : n ≤ (k0_t1_loop i).trips) (d : Fin 128) (b : Fin 512) :
    (arg12.view.read (Elt Ideal) (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 G_arg10 G_arg11 G_arg12 n).2.2) (ix2 d b) : EReal)
      = arg12.view.read (Elt Ideal) G_arg12 (ix2 d b)
        + ∑ y : Fin 8192, if y.val < 512 * n then cq (pr v3 v7 (arg6.view.read (Elt Ideal) X_arg6)) (gd v5 v9 (arg8.view.read (Elt Ideal) X_arg8)) (arg7.view.read (Elt Ideal) X_arg7) d b y else 0 := by
  induction n with
  | zero => rw [Finset.sum_eq_zero fun y _ => if_neg (by omega), add_zero]; rfl
  | succ n ih =>
    have h := pb_k0_t1_succ (F := Ideal) 𝒱 c bd i arg2 harg2 arg3 harg3 arg4 harg4 arg5 harg5 arg6 harg6 arg7 harg7 arg8 harg8 arg9 harg9 arg10 harg10 arg11 harg11 arg12 harg12 v3 v5 v7 v9 X_arg6 X_arg7 X_arg8 G_arg10 G_arg11 G_arg12 ⟨n, hn⟩
    dsimp only at h
    rw [h]
    dsimp only
    rw [View.writes_append, trip_dq, ih (by omega), add_assoc, ← Finset.sum_add_distrib]
    simp only [below_succ]

end

end Cert.FlashBwd
end
-- ==== Proof.Point.lean ====
/-
  One point of the kernel's grid: what the body leaves in its three outputs. The half blocks of the diagonal follow the loop
  over the earlier blocks; together they take every key row at or before a query, so over all rows the sums are those of
  the masked probabilities.
-/
module

public import proofs.«01_k».proof.Proof.Loop
public import proofs.«01_k».proof.Proof.Gen.KernelIdeal.Frame

@[expose] public section

noncomputable section

namespace Cert.FlashBwd

open Idealize.ShloMosaic Idealize.ShloMosaic.TcCoe Cert.KernelIdeal Cert.KernelIdeal.Gen
open Idealize.ShloMosaic.Pointwise
open Idealize.ShloMosaic.Tactic
open Idealize.SL Idealize.SL.RA Idealize.SL.BI

/-! ### The sums over the earlier rows and over the diagonal, together -/

section

variable (n : ℕ) (q : Vec Ideal S1x512x128 .bf16) (o : Vec Ideal S1x512x64 .bf16) (l : Vec Ideal S1x1x512 .f32)
  (K : Vec Ideal S1x8192x128 .bf16) (g : Fin 8192 → Fin 512 → EReal) (kT : Vec Ideal S1x128x8192 .bf16)

theorem prm_of_lt (y : Fin 8192) (b : Fin 512) (h : y.val < n) : prm n q l K y b = pr q l K y b :=
  if_pos (by omega)

theorem prm_of_ge (y : Fin 8192) (b : Fin 512) (h : n + 512 ≤ y.val) : prm n q l K y b = 0 :=
  if_neg (by have := b.isLt; omega)

theorem ds_zero (x : EReal) : ds 0 x = 0 := by rw [ds, zero_mul, zero_mul]

theorem cv_merge (y : Fin 8192) (d : Fin 64) :
    ((if y.val < n then cv (pr q l K) o y d else 0) + if n ≤ y.val ∧ y.val < n + 512 then cv (prm n q l K) o y d else 0)
      = cv (prm n q l K) o y d := by
  by_cases h : y.val < n
  · rw [if_pos h, if_neg (by omega), add_zero]
    exact Finset.sum_congr rfl fun b _ => by rw [prm_of_lt n q l K y b h]
  · rw [if_neg h, zero_add]
    by_cases h' : y.val < n + 512
    · rw [if_pos ⟨by omega, h'⟩]
    · rw [if_neg (by omega)]
      exact (Finset.sum_eq_zero fun b _ => by rw [prm_of_ge n q l K y b (by omega), zero_mul]).symm

theorem ck_merge (y : Fin 8192) (d : Fin 128) :
    ((if y.val < n then ck (pr q l K) g q y d else 0) + if n ≤ y.val ∧ y.val < n + 512 then ck (prm n q l K) g q y d else 0)
      = ck (prm n q l K) g q y d := by
  by_cases h : y.val < n
  · rw [if_pos h, if_neg (by omega), add_zero]
    exact Finset.sum_congr rfl fun b _ => by rw [prm_of_lt n q l K y b h]
  · rw [if_neg h, zero_add]
    by_cases h' : y.val < n + 512
    · rw [if_pos ⟨by omega, h'⟩]
    · rw [if_neg (by omega)]
      exact (Finset.sum_eq_zero fun b _ => by rw [prm_of_ge n q l K y b (by omega), ds_zero, zero_mul]).symm

theorem cq_merge (d : Fin 128) (b : Fin 512) :
    ((∑ y : Fin 8192, if y.val < n then cq (pr q l K) g kT d b y else 0)
        + ∑ y : Fin 8192, if n ≤ y.val ∧ y.val < n + 512 then cq (prm n q l K) g kT d b y else 0)
      = ∑ y : Fin 8192, cq (prm n q l K) g kT d b y := by
  rw [← Finset.sum_add_distrib]
  refine Finset.sum_congr rfl fun y _ => ?_
  by_cases h : y.val < n
  · rw [if_pos h, if_neg (by omega), add_zero, cq, cq, prm_of_lt n q l K y b h]
  · rw [if_neg h, zero_add]
    by_cases h' : y.val < n + 512
    · rw [if_pos ⟨by omega, h'⟩]
    · rw [if_neg (by omega), cq, prm_of_ge n q l K y b (by omega), ds_zero, mul_zero]

end

/-! ### The run's list of stores -/

theorem trips1_eq (i : grid0.Coords) : Scf.trips (k0_t1_loop i).lb (k0_t1_loop i).ub (k0_t1_loop i).st = (i 1).val := trips1 i

section

variable (𝒱 : Variants) (c : Dev nD) (bd : Option 𝒱.V) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole)

variable (v3 : Vec Ideal S1x512x128 .bf16) (v5 : Vec Ideal S1x512x64 .bf16) (v7 : Vec Ideal S1x1x512 .f32) (v9 : Vec Ideal S1x1x512 .f32) (X_arg6 : BufTy.Contents (Elt Ideal) arg6.view.ty) (X_arg7 : BufTy.Contents (Elt Ideal) arg7.view.ty) (X_arg8 : BufTy.Contents (Elt Ideal) arg8.view.ty) (G_arg10 : BufTy.Contents (Elt Ideal) arg10.view.ty) (G_arg11 : BufTy.Contents (Elt Ideal) arg11.view.ty) (G_arg12 : BufTy.Contents (Elt Ideal) arg12.view.ty)

theorem rest_nil (w) : pb_k0_t2 (F := Ideal) 𝒱 c bd i arg2 harg2 arg3 harg3 arg4 harg4 arg5 harg5 arg6 harg6 arg7 harg7 arg8 harg8 arg9 harg9 arg10 harg10 arg11 harg11 arg12 harg12 v3 v5 v7 v9 w X_arg6 X_arg7 X_arg8 G_arg10 G_arg11 G_arg12
    (Scf.trips (k0_t2_loop i).lb (k0_t2_loop i).ub (k0_t2_loop i).st) = ([], [], []) := by
  have h : Scf.trips (k0_t2_loop i).lb (k0_t2_loop i).ub (k0_t2_loop i).st = 0 := trips2 i
  rw [h]
  exact pb_k0_t2.eq_1 ..

end

theorem whole_q (g : Memref sig .tc .vmem S1x512x128 .bf16) (hg : g.IsWhole) (x : Vec Ideal S1x512x128 .bf16) :
    View.readAt (Elt Ideal) g.view (Rect.unit (s := S1x512x128) ![0, 0, 0] S1x512x128.size inb_S1x512x128_S1x512x128_0_0_0).toLoadRect (hg.unread x) = x := by
  rw [View.readAt_full (s := S1x512x128), Memref.IsWhole.read_unread]

theorem whole_o (g : Memref sig .tc .vmem S1x512x64 .bf16) (hg : g.IsWhole) (x : Vec Ideal S1x512x64 .bf16) :
    View.readAt (Elt Ideal) g.view (Rect.unit (s := S1x512x64) ![0, 0, 0] S1x512x64.size inb_S1x512x64_S1x512x64_0_0_0).toLoadRect (hg.unread x) = x := by
  rw [View.readAt_full (s := S1x512x64), Memref.IsWhole.read_unread]

theorem whole_l (g : Memref sig .tc .vmem S1x1x512 .f32) (hg : g.IsWhole) (x : Vec Ideal S1x1x512 .f32) :
    View.readAt (Elt Ideal) g.view (Rect.unit (s := S1x1x512) ![0, 0, 0] S1x1x512.size inb_S1x1x512_S1x1x512_0_0_0).toLoadRect (hg.unread x) = x := by
  rw [View.readAt_full (s := S1x1x512), Memref.IsWhole.read_unread]

/-! ### The diagonal block -/

section

/-- The first key row of the diagonal block. -/
def at0 (i : grid0.Coords) : ℕ := 512 * (i 1).val

theorem at0_le (i : grid0.Coords) : at0 i + 512 ≤ 8192 := by
  have h : (i 1).val < 16 := (i 1).isLt
  unfold at0
  omega

variable (i : grid0.Coords) (x0 : Vec Ideal S1x512x128 .bf16) (x1 : Vec Ideal S1x512x64 .bf16) (x2 x3 : Vec Ideal S1x1x512 .f32)
  (x4 : Vec Ideal S1x8192x128 .bf16) (x5 : Vec Ideal S1x128x8192 .bf16) (x6 : Vec Ideal S1x8192x64 .bf16)
  (kb0 kb1 : Vec Ideal S1x256x128 .bf16) (vb0 vb1 : Vec Ideal S1x256x64 .bf16) (kt0 kt1 : Vec Ideal S1x128x256 .bf16)
  (h0 : at0 i + 256 ≤ 8192) (h1 : at0 i + 256 + 256 ≤ 8192)
  (hk0 : ∀ a x, (kb0 (ix3 0 a x) : EReal) = x4 (ix3 0 (row (at0 i) h0 a) x))
  (hk1 : ∀ a x, (kb1 (ix3 0 a x) : EReal) = x4 (ix3 0 (row (at0 i + 256) h1 a) x))
  (hv0 : ∀ a x, (vb0 (ix3 0 a x) : EReal) = x6 (ix3 0 (row (at0 i) h0 a) x))
  (hv1 : ∀ a x, (vb1 (ix3 0 a x) : EReal) = x6 (ix3 0 (row (at0 i + 256) h1 a) x))
  (ht0 : ∀ d a, (kt0 (ix3 0 d a) : EReal) = x5 (ix3 0 d (row (at0 i) h0 a)))
  (ht1 : ∀ d a, (kt1 (ix3 0 d a) : EReal) = x5 (ix3 0 d (row (at0 i + 256) h1 a)))

include hk0 hk1 in
/-- The accumulator of `dv` after the diagonal block's two stores. -/
theorem diag_dv (v : View sig .tc .vmem S1x8192x64 .f32) (f : v.ty.Contents (Elt Ideal)) (L : List (View.Piece (Elt Ideal) S1x8192x64 .f32))
    (inb0 : ∀ a, k0_off8 i 0#32 a + S1x256x64.size a ≤ S1x8192x64.size a)
    (inb1 : ∀ a, k0_off8 i 256#32 a + S1x256x64.size a ≤ S1x8192x64.size a) (W0 : Vec Ideal S1x256x64 .f32)
    (hW0 : W0 = k0_pay41 (k0_pay28 x1) (k0_pay29 x2) (k0_pay38 x0 kb0)
      (v.readAt (Elt Ideal) (Rect.unit (s := S1x8192x64) (k0_off8 i 0#32) S1x256x64.size inb0).toLoadRect (v.writes (Elt Ideal) f L)))
    (y : Fin 8192) (d : Fin 64) :
    (v.read (Elt Ideal) (v.writes (Elt Ideal) f
        (⟨Rect.unit (s := S1x8192x64) (k0_off8 i 256#32) S1x256x64.size inb1,
            k0_pay1 (k0_pay28 x1) (k0_pay44 (k0_pay27 x0) (k0_pay29 x2) kb1)
              (v.readAt (Elt Ideal) (Rect.unit (s := S1x8192x64) (k0_off8 i 256#32) S1x256x64.size inb1).toLoadRect
                (v.writes (Elt Ideal) f (⟨Rect.unit (s := S1x8192x64) (k0_off8 i 0#32) S1x256x64.size inb0, W0⟩ :: L)))⟩
          :: ⟨Rect.unit (s := S1x8192x64) (k0_off8 i 0#32) S1x256x64.size inb0, W0⟩ :: L)) (ix3 0 y d) : EReal)
      = v.read (Elt Ideal) (v.writes (Elt Ideal) f L) (ix3 0 y d)
        + if at0 i ≤ y.val ∧ y.val < at0 i + 512 then cv (prm (at0 i) x0 x2 x4) x1 y d else 0 := by
  have o0 := off8_eq i 0#32 (by decide)
  have o1 := off8_eq i 256#32 (by decide)
  refine two_halves v f (at0 i) (at0_le i) o0 o1 _ _ _ _ L _ (fun a x => ?_) (fun a x => ?_) y d
  · rw [hW0]
    refine (pay41_at x0 x1 x2 x4 kb0 (at0 i) h0 hk0 _ a x).trans ?_
    rw [ld_rows v _ (at0 i) h0 o0 _ a x]
    rfl
  · refine (pay1_at x1 _ _ (fun a b => pay44_at x0 x2 x4 kb1 (at0 i + 256) h1 (at0 i) rfl hk1 a b) _ a x).trans ?_
    rw [ld_rows v _ (at0 i + 256) h1 o1 _ a x]
    refine congrArg (· + _) (st_rows_not_mem v f (at0 i) o0 _ _ L _ x ?_)
    exact Or.inr (Nat.le_add_right _ _)

include hk0 hk1 hv0 hv1 in
/-- The accumulator of `dk` after the diagonal block's two stores. -/
theorem diag_dk (v : View sig .tc .vmem S1x8192x128 .f32) (f : v.ty.Contents (Elt Ideal)) (L : List (View.Piece (Elt Ideal) S1x8192x128 .f32))
    (inb0 : ∀ a, k0_off7 i 0#32 a + S1x256x128.size a ≤ S1x8192x128.size a)
    (inb1 : ∀ a, k0_off7 i 256#32 a + S1x256x128.size a ≤ S1x8192x128.size a) (W0 : Vec Ideal S1x256x128 .f32)
    (hW0 : W0 = k0_pay42 (k0_pay27 x0) (k0_pay28 x1) (k0_pay29 x2) (k0_pay30 x3) (k0_pay38 x0 kb0) vb0
      (v.readAt (Elt Ideal) (Rect.unit (s := S1x8192x128) (k0_off7 i 0#32) S1x256x128.size inb0).toLoadRect (v.writes (Elt Ideal) f L)))
    (y : Fin 8192) (d : Fin 128) :
    (v.read (Elt Ideal) (v.writes (Elt Ideal) f
        (⟨Rect.unit (s := S1x8192x128) (k0_off7 i 256#32) S1x256x128.size inb1,
            k0_pay2 (k0_pay27 x0) (k0_pay45 (k0_pay27 x0) (k0_pay28 x1) (k0_pay29 x2) (k0_pay30 x3) kb1 vb1)
              (v.readAt (Elt Ideal) (Rect.unit (s := S1x8192x128) (k0_off7 i 256#32) S1x256x128.size inb1).toLoadRect
                (v.writes (Elt Ideal) f (⟨Rect.unit (s := S1x8192x128) (k0_off7 i 0#32) S1x256x128.size inb0, W0⟩ :: L)))⟩
          :: ⟨Rect.unit (s := S1x8192x128) (k0_off7 i 0#32) S1x256x128.size inb0, W0⟩ :: L)) (ix3 0 y d) : EReal)
      = v.read (Elt Ideal) (v.writes (Elt Ideal) f L) (ix3 0 y d)
        + if at0 i ≤ y.val ∧ y.val < at0 i + 512 then ck (prm (at0 i) x0 x2 x4) (gd x1 x3 x6) x0 y d else 0 := by
  have o0 := off7_eq i 0#32 (by decide)
  have o1 := off7_eq i 256#32 (by decide)
  refine two_halves v f (at0 i) (at0_le i) o0 o1 _ _ _ _ L _ (fun a x => ?_) (fun a x => ?_) y d
  · rw [hW0]
    refine (pay42_at x0 x1 x2 x3 x4 x6 kb0 vb0 (at0 i) h0 hk0 hv0 _ a x).trans ?_
    rw [ld_rows v _ (at0 i) h0 o0 _ a x]
    rfl
  · refine (pay2_at x0 _ _ (fun a b => pay45_at x0 x1 x2 x3 x4 x6 kb1 vb1 (at0 i + 256) h1 (at0 i) rfl hk1 hv1 a b) _ a x).trans ?_
    rw [ld_rows v _ (at0 i + 256) h1 o1 _ a x]
    refine congrArg (· + _) (st_rows_not_mem v f (at0 i) o0 _ _ L _ x ?_)
    exact Or.inr (Nat.le_add_right _ _)

include hk0 hk1 hv0 hv1 ht0 ht1 in
/-- The accumulator of `dq` after the diagonal block, as the two payloads. -/
theorem diag_dq (z : Vec Ideal S128x512 .f32) (d : Fin 128) (b : Fin 512) :
    (k0_pay3 (k0_pay45 (k0_pay27 x0) (k0_pay28 x1) (k0_pay29 x2) (k0_pay30 x3) kb1 vb1)
        (k0_pay43 (k0_pay40 (k0_pay28 x1) (k0_pay29 x2) (k0_pay30 x3) (k0_pay38 x0 kb0) vb0) z kt0) kt1 (ix2 d b) : EReal)
      = z (ix2 d b) + ∑ y : Fin 8192, if at0 i ≤ y.val ∧ y.val < at0 i + 512
          then cq (prm (at0 i) x0 x2 x4) (gd x1 x3 x6) x5 d b y else 0 := by
  rw [sum_halves _ (at0 i) (at0_le i), ← add_assoc]
  refine (pay3_at _ _ (fun a b => pay45_at x0 x1 x2 x3 x4 x6 kb1 vb1 (at0 i + 256) h1 (at0 i) rfl hk1 hv1 a b) _ _ d b).trans ?_
  refine congrArg₂ (· + ·) ?_ (Finset.sum_congr rfl fun a _ => ?_)
  · refine (pay43_at _ _ (fun a b => pay40_at x0 x1 x2 x3 x4 x6 kb0 vb0 (at0 i) h0 hk0 hv0 a b) _ _ d b).trans ?_
    refine congrArg₂ (· + ·) rfl (Finset.sum_congr rfl fun a _ => ?_)
    rw [ht0]
    rfl
  · rw [ht1]
    rfl

end

/-! ### What a point leaves -/

theorem out_B_9 (c : Dev nD) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole) (hc0 : ¬cond0_0 i)
    (x0 : Vec Ideal S1x512x128 .bf16) (x1 : Vec Ideal S1x512x64 .bf16) (x2 : Vec Ideal S1x1x512 .f32) (x3 : Vec Ideal S1x1x512 .f32) (x4 : Vec Ideal S1x8192x128 .bf16) (x5 : Vec Ideal S1x128x8192 .bf16) (x6 : Vec Ideal S1x8192x64 .bf16) (xo8 : Vec Ideal S1x8192x128 .f32) (xo9 : Vec Ideal S1x8192x64 .f32) (y : Fin 8192) (d : Fin 64) :
    (out0_B_9 c i arg2 harg2 arg3 harg3 arg4 harg4 arg5 harg5 arg6 harg6 arg7 harg7 arg8 harg8 arg9 harg9 arg10 harg10 arg11 harg11 arg12 harg12 hc0 x0 x1 x2 x3 x4 x5 x6 xo8 xo9 (ix3 0 y d) : EReal)
      = (xo9 (ix3 0 y d) : EReal) + cv (prm (at0 i) x0 x2 x4) x1 y d := by
  unfold out0_B_9
  unfold kernelRun0_B
  dsimp only
  sl_unfold_run_names
  simp (config := { dsimp := false, proj := false }) only [rest_nil, trips1_eq, whole_q, whole_o, whole_l]
  have h0 : at0 i + 256 ≤ 8192 := Nat.le_trans (by omega) (at0_le i)
  have h1 : at0 i + 256 + 256 ≤ 8192 := at0_le i
  have p0 := off7_eq i 0#32 (by decide)
  have p1 := off7_eq i 256#32 (by decide)
  have o0 := off8_eq i 0#32 (by decide)
  have o1 := off8_eq i 256#32 (by decide)
  have r0 := off9_eq i 0#32 (by decide)
  have r1 := off9_eq i 256#32 (by decide)
  refine (diag_dv i x0 x1 x2 x4 _ _ h0 h1
    (fun a x => (ld_rows arg6.view (harg6.unread x4) (at0 i) h0 p0 _ a x).trans (congrFun (harg6.read_unread x4) _))
    (fun a x => (ld_rows arg6.view (harg6.unread x4) (at0 i + 256) h1 p1 _ a x).trans (congrFun (harg6.read_unread x4) _))
    arg11.view _ _ _ _ _ rfl y d).trans ?_
  refine (congrArg (· + _) (loop_dv Variants.none c none i arg2 harg2 arg3 harg3 arg4 harg4 arg5 harg5 arg6 harg6 arg7 harg7 arg8 harg8 arg9 harg9 arg10 harg10 arg11 harg11 arg12 harg12 x0 x1 x2 x3 (harg6.unread x4) (harg7.unread x5) (harg8.unread x6) _ _ _ (i 1).val (le_of_eq (trips1 i).symm) y d)).trans ?_
  rw [Memref.IsWhole.read_unread, Memref.IsWhole.read_unread, add_assoc]
  exact congrArg (_ + ·) (cv_merge (at0 i) x0 x1 x2 x4 y d)

theorem out_B_8 (c : Dev nD) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole) (hc0 : ¬cond0_0 i)
    (x0 : Vec Ideal S1x512x128 .bf16) (x1 : Vec Ideal S1x512x64 .bf16) (x2 : Vec Ideal S1x1x512 .f32) (x3 : Vec Ideal S1x1x512 .f32) (x4 : Vec Ideal S1x8192x128 .bf16) (x5 : Vec Ideal S1x128x8192 .bf16) (x6 : Vec Ideal S1x8192x64 .bf16) (xo8 : Vec Ideal S1x8192x128 .f32) (xo9 : Vec Ideal S1x8192x64 .f32) (y : Fin 8192) (d : Fin 128) :
    (out0_B_8 c i arg2 harg2 arg3 harg3 arg4 harg4 arg5 harg5 arg6 harg6 arg7 harg7 arg8 harg8 arg9 harg9 arg10 harg10 arg11 harg11 arg12 harg12 hc0 x0 x1 x2 x3 x4 x5 x6 xo8 xo9 (ix3 0 y d) : EReal)
      = (xo8 (ix3 0 y d) : EReal) + ck (prm (at0 i) x0 x2 x4) (gd x1 x3 x6) x0 y d := by
  unfold out0_B_8
  unfold kernelRun0_B
  dsimp only
  sl_unfold_run_names
  simp (config := { dsimp := false, proj := false }) only [rest_nil, trips1_eq, whole_q, whole_o, whole_l]
  have h0 : at0 i + 256 ≤ 8192 := Nat.le_trans (by omega) (at0_le i)
  have h1 : at0 i + 256 + 256 ≤ 8192 := at0_le i
  have p0 := off7_eq i 0#32 (by decide)
  have p1 := off7_eq i 256#32 (by decide)
  have o0 := off8_eq i 0#32 (by decide)
  have o1 := off8_eq i 256#32 (by decide)
  have r0 := off9_eq i 0#32 (by decide)
  have r1 := off9_eq i 256#32 (by decide)
  refine (diag_dk i x0 x1 x2 x3 x4 x6 _ _ _ _ h0 h1
    (fun a x => (ld_rows arg6.view (harg6.unread x4) (at0 i) h0 p0 _ a x).trans (congrFun (harg6.read_unread x4) _))
    (fun a x => (ld_rows arg6.view (harg6.unread x4) (at0 i + 256) h1 p1 _ a x).trans (congrFun (harg6.read_unread x4) _))
    (fun a x => (ld_rows arg8.view (harg8.unread x6) (at0 i) h0 o0 _ a x).trans (congrFun (harg8.read_unread x6) _))
    (fun a x => (ld_rows arg8.view (harg8.unread x6) (at0 i + 256) h1 o1 _ a x).trans (congrFun (harg8.read_unread x6) _))
    arg10.view _ _ _ _ _ rfl y d).trans ?_
  refine (congrArg (· + _) (loop_dk Variants.none c none i arg2 harg2 arg3 harg3 arg4 harg4 arg5 harg5 arg6 harg6 arg7 harg7 arg8 harg8 arg9 harg9 arg10 harg10 arg11 harg11 arg12 harg12 x0 x1 x2 x3 (harg6.unread x4) (harg7.unread x5) (harg8.unread x6) _ _ _ (i 1).val (le_of_eq (trips1 i).symm) y d)).trans ?_
  rw [Memref.IsWhole.read_unread, Memref.IsWhole.read_unread, Memref.IsWhole.read_unread, add_assoc]
  exact congrArg (_ + ·) (ck_merge (at0 i) x0 x2 x4 (gd x1 x3 x6) y d)

theorem out_B_7 (c : Dev nD) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole) (hc0 : ¬cond0_0 i)
    (x0 : Vec Ideal S1x512x128 .bf16) (x1 : Vec Ideal S1x512x64 .bf16) (x2 : Vec Ideal S1x1x512 .f32) (x3 : Vec Ideal S1x1x512 .f32) (x4 : Vec Ideal S1x8192x128 .bf16) (x5 : Vec Ideal S1x128x8192 .bf16) (x6 : Vec Ideal S1x8192x64 .bf16) (xo8 : Vec Ideal S1x8192x128 .f32) (xo9 : Vec Ideal S1x8192x64 .f32) (d : Fin 128) (b : Fin 512) :
    (out0_B_7 c i arg2 harg2 arg3 harg3 arg4 harg4 arg5 harg5 arg6 harg6 arg7 harg7 arg8 harg8 arg9 harg9 arg10 harg10 arg11 harg11 arg12 harg12 hc0 x0 x1 x2 x3 x4 x5 x6 xo8 xo9 (ix3 0 d b) : EReal)
      = ∑ y : Fin 8192, cq (prm (at0 i) x0 x2 x4) (gd x1 x3 x6) x5 d b y := by
  unfold out0_B_7
  unfold kernelRun0_B
  dsimp only
  sl_unfold_run_names
  simp (config := { dsimp := false, proj := false }) only [rest_nil, trips1_eq, whole_q, whole_o, whole_l]
  have h0 : at0 i + 256 ≤ 8192 := Nat.le_trans (by omega) (at0_le i)
  have h1 : at0 i + 256 + 256 ≤ 8192 := at0_le i
  have p0 := off7_eq i 0#32 (by decide)
  have p1 := off7_eq i 256#32 (by decide)
  have o0 := off8_eq i 0#32 (by decide)
  have o1 := off8_eq i 256#32 (by decide)
  have r0 := off9_eq i 0#32 (by decide)
  have r1 := off9_eq i 256#32 (by decide)
  rw [View.read_writes_full (s := S1x128x512)]
  refine (pay4_at _ d b).trans ?_
  rw [View.readCov_full (s := S128x512)]
  refine (congrArg (k0_pay3 _ · _ (ix2 d b)) (View.readCov_full (s := S128x512) _ _ _ _ _)).trans ?_
  refine (diag_dq i x0 x1 x2 x3 x4 x5 x6 _ _ _ _ _ _ h0 h1
    (fun a x => (ld_rows arg6.view (harg6.unread x4) (at0 i) h0 p0 _ a x).trans (congrFun (harg6.read_unread x4) _))
    (fun a x => (ld_rows arg6.view (harg6.unread x4) (at0 i + 256) h1 p1 _ a x).trans (congrFun (harg6.read_unread x4) _))
    (fun a x => (ld_rows arg8.view (harg8.unread x6) (at0 i) h0 o0 _ a x).trans (congrFun (harg8.read_unread x6) _))
    (fun a x => (ld_rows arg8.view (harg8.unread x6) (at0 i + 256) h1 o1 _ a x).trans (congrFun (harg8.read_unread x6) _))
    (fun d a => (ld_cols arg7.view (harg7.unread x5) (at0 i) h0 r0 _ a d).trans (congrFun (harg7.read_unread x5) _))
    (fun d a => (ld_cols arg7.view (harg7.unread x5) (at0 i + 256) h1 r1 _ a d).trans (congrFun (harg7.read_unread x5) _))
    _ d b).trans ?_
  refine (congrArg (· + _) ((congrFun (View.readAt_full (s := S128x512) ..) _).trans
    ((congrFun (congrArg (arg12.view.read (Elt Ideal)) (View.writes_append ..)) _).trans
    (loop_dq Variants.none c none i arg2 harg2 arg3 harg3 arg4 harg4 arg5 harg5 arg6 harg6 arg7 harg7 arg8 harg8 arg9 harg9 arg10 harg10 arg11 harg11 arg12 harg12 x0 x1 x2 x3 (harg6.unread x4) (harg7.unread x5) (harg8.unread x6) _ _ _ (i 1).val (le_of_eq (trips1 i).symm) d b)))).trans ?_
  rw [View.read_writes_full (s := S128x512), pay31_at, Memref.IsWhole.read_unread, Memref.IsWhole.read_unread, Memref.IsWhole.read_unread, zero_add]
  exact cq_merge (at0 i) x0 x2 x4 (gd x1 x3 x6) x5 d b

theorem out_A_9 (c : Dev nD) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole) (hc0 : cond0_0 i)
    (x0 : Vec Ideal S1x512x128 .bf16) (x1 : Vec Ideal S1x512x64 .bf16) (x2 : Vec Ideal S1x1x512 .f32) (x3 : Vec Ideal S1x1x512 .f32) (x4 : Vec Ideal S1x8192x128 .bf16) (x5 : Vec Ideal S1x128x8192 .bf16) (x6 : Vec Ideal S1x8192x64 .bf16) (y : Fin 8192) (d : Fin 64) :
    (out0_A_9 c i arg2 harg2 arg3 harg3 arg4 harg4 arg5 harg5 arg6 harg6 arg7 harg7 arg8 harg8 arg9 harg9 arg10 harg10 arg11 harg11 arg12 harg12 hc0 x0 x1 x2 x3 x4 x5 x6 (ix3 0 y d) : EReal)
      = cv (prm (at0 i) x0 x2 x4) x1 y d := by
  unfold out0_A_9
  rw [View.read_writes_apply_eq VO0_9 VO0_9.junk arg11.view arg11.view.junk _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 _)]
  unfold kernelRun0_A
  dsimp only
  sl_unfold_run_names
  simp (config := { dsimp := false, proj := false }) only [rest_nil, trips1_eq, whole_q, whole_o, whole_l]
  have h0 : at0 i + 256 ≤ 8192 := Nat.le_trans (by omega) (at0_le i)
  have h1 : at0 i + 256 + 256 ≤ 8192 := at0_le i
  have p0 := off7_eq i 0#32 (by decide)
  have p1 := off7_eq i 256#32 (by decide)
  have o0 := off8_eq i 0#32 (by decide)
  have o1 := off8_eq i 256#32 (by decide)
  have r0 := off9_eq i 0#32 (by decide)
  have r1 := off9_eq i 256#32 (by decide)
  refine (diag_dv i x0 x1 x2 x4 _ _ h0 h1
    (fun a x => (ld_rows arg6.view (harg6.unread x4) (at0 i) h0 p0 _ a x).trans (congrFun (harg6.read_unread x4) _))
    (fun a x => (ld_rows arg6.view (harg6.unread x4) (at0 i + 256) h1 p1 _ a x).trans (congrFun (harg6.read_unread x4) _))
    arg11.view _ _ _ _ _ rfl y d).trans ?_
  refine (congrArg (· + _) ((congrFun (congrArg (arg11.view.read (Elt Ideal)) (View.writes_append ..)) _).trans
    (loop_dv Variants.none c none i arg2 harg2 arg3 harg3 arg4 harg4 arg5 harg5 arg6 harg6 arg7 harg7 arg8 harg8 arg9 harg9 arg10 harg10 arg11 harg11 arg12 harg12 x0 x1 x2 x3 (harg6.unread x4) (harg7.unread x5) (harg8.unread x6) _ _ _ (i 1).val (le_of_eq (trips1 i).symm) y d))).trans ?_
  rw [View.read_writes_full (s := S1x8192x64), pay26_at, Memref.IsWhole.read_unread, zero_add]
  exact cv_merge (at0 i) x0 x1 x2 x4 y d

theorem out_A_8 (c : Dev nD) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole) (hc0 : cond0_0 i)
    (x0 : Vec Ideal S1x512x128 .bf16) (x1 : Vec Ideal S1x512x64 .bf16) (x2 : Vec Ideal S1x1x512 .f32) (x3 : Vec Ideal S1x1x512 .f32) (x4 : Vec Ideal S1x8192x128 .bf16) (x5 : Vec Ideal S1x128x8192 .bf16) (x6 : Vec Ideal S1x8192x64 .bf16) (y : Fin 8192) (d : Fin 128) :
    (out0_A_8 c i arg2 harg2 arg3 harg3 arg4 harg4 arg5 harg5 arg6 harg6 arg7 harg7 arg8 harg8 arg9 harg9 arg10 harg10 arg11 harg11 arg12 harg12 hc0 x0 x1 x2 x3 x4 x5 x6 (ix3 0 y d) : EReal)
      = ck (prm (at0 i) x0 x2 x4) (gd x1 x3 x6) x0 y d := by
  unfold out0_A_8
  rw [View.read_writes_apply_eq VO0_8 VO0_8.junk arg10.view arg10.view.junk _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 _)]
  unfold kernelRun0_A
  dsimp only
  sl_unfold_run_names
  simp (config := { dsimp := false, proj := false }) only [rest_nil, trips1_eq, whole_q, whole_o, whole_l]
  have h0 : at0 i + 256 ≤ 8192 := Nat.le_trans (by omega) (at0_le i)
  have h1 : at0 i + 256 + 256 ≤ 8192 := at0_le i
  have p0 := off7_eq i 0#32 (by decide)
  have p1 := off7_eq i 256#32 (by decide)
  have o0 := off8_eq i 0#32 (by decide)
  have o1 := off8_eq i 256#32 (by decide)
  have r0 := off9_eq i 0#32 (by decide)
  have r1 := off9_eq i 256#32 (by decide)
  refine (diag_dk i x0 x1 x2 x3 x4 x6 _ _ _ _ h0 h1
    (fun a x => (ld_rows arg6.view (harg6.unread x4) (at0 i) h0 p0 _ a x).trans (congrFun (harg6.read_unread x4) _))
    (fun a x => (ld_rows arg6.view (harg6.unread x4) (at0 i + 256) h1 p1 _ a x).trans (congrFun (harg6.read_unread x4) _))
    (fun a x => (ld_rows arg8.view (harg8.unread x6) (at0 i) h0 o0 _ a x).trans (congrFun (harg8.read_unread x6) _))
    (fun a x => (ld_rows arg8.view (harg8.unread x6) (at0 i + 256) h1 o1 _ a x).trans (congrFun (harg8.read_unread x6) _))
    arg10.view _ _ _ _ _ rfl y d).trans ?_
  refine (congrArg (· + _) ((congrFun (congrArg (arg10.view.read (Elt Ideal)) (View.writes_append ..)) _).trans
    (loop_dk Variants.none c none i arg2 harg2 arg3 harg3 arg4 harg4 arg5 harg5 arg6 harg6 arg7 harg7 arg8 harg8 arg9 harg9 arg10 harg10 arg11 harg11 arg12 harg12 x0 x1 x2 x3 (harg6.unread x4) (harg7.unread x5) (harg8.unread x6) _ _ _ (i 1).val (le_of_eq (trips1 i).symm) y d))).trans ?_
  rw [View.read_writes_full (s := S1x8192x128), pay25_at, Memref.IsWhole.read_unread, Memref.IsWhole.read_unread, zero_add]
  exact ck_merge (at0 i) x0 x2 x4 (gd x1 x3 x6) y d

theorem out_A_7 (c : Dev nD) (i : grid0.Coords) (arg2 : Memref sig .tc .vmem S1x512x128 .bf16) (harg2 : arg2.IsWhole) (arg3 : Memref sig .tc .vmem S1x512x64 .bf16) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x8192x128 .bf16) (harg6 : arg6.IsWhole) (arg7 : Memref sig .tc .vmem S1x128x8192 .bf16) (harg7 : arg7.IsWhole) (arg8 : Memref sig .tc .vmem S1x8192x64 .bf16) (harg8 : arg8.IsWhole) (arg9 : Memref sig .tc .vmem S1x128x512 .f32) (harg9 : arg9.IsWhole) (arg10 : Memref sig .tc .vmem S1x8192x128 .f32) (harg10 : arg10.IsWhole) (arg11 : Memref sig .tc .vmem S1x8192x64 .f32) (harg11 : arg11.IsWhole) (arg12 : Memref sig .tc .vmem S128x512 .f32) (harg12 : arg12.IsWhole) (hc0 : cond0_0 i)
    (x0 : Vec Ideal S1x512x128 .bf16) (x1 : Vec Ideal S1x512x64 .bf16) (x2 : Vec Ideal S1x1x512 .f32) (x3 : Vec Ideal S1x1x512 .f32) (x4 : Vec Ideal S1x8192x128 .bf16) (x5 : Vec Ideal S1x128x8192 .bf16) (x6 : Vec Ideal S1x8192x64 .bf16) (d : Fin 128) (b : Fin 512) :
    (out0_A_7 c i arg2 harg2 arg3 harg3 arg4 harg4 arg5 harg5 arg6 harg6 arg7 harg7 arg8 harg8 arg9 harg9 arg10 harg10 arg11 harg11 arg12 harg12 hc0 x0 x1 x2 x3 x4 x5 x6 (ix3 0 d b) : EReal)
      = ∑ y : Fin 8192, cq (prm (at0 i) x0 x2 x4) (gd x1 x3 x6) x5 d b y := by
  unfold out0_A_7
  unfold kernelRun0_A
  dsimp only
  sl_unfold_run_names
  simp (config := { dsimp := false, proj := false }) only [rest_nil, trips1_eq, whole_q, whole_o, whole_l]
  have h0 : at0 i + 256 ≤ 8192 := Nat.le_trans (by omega) (at0_le i)
  have h1 : at0 i + 256 + 256 ≤ 8192 := at0_le i
  have p0 := off7_eq i 0#32 (by decide)
  have p1 := off7_eq i 256#32 (by decide)
  have o0 := off8_eq i 0#32 (by decide)
  have o1 := off8_eq i 256#32 (by decide)
  have r0 := off9_eq i 0#32 (by decide)
  have r1 := off9_eq i 256#32 (by decide)
  rw [View.read_writes_full (s := S1x128x512)]
  refine (pay4_at _ d b).trans ?_
  rw [View.readCov_full (s := S128x512)]
  refine (congrArg (k0_pay3 _ · _ (ix2 d b)) (View.readCov_full (s := S128x512) _ _ _ _ _)).trans ?_
  refine (diag_dq i x0 x1 x2 x3 x4 x5 x6 _ _ _ _ _ _ h0 h1
    (fun a x => (ld_rows arg6.view (harg6.unread x4) (at0 i) h0 p0 _ a x).trans (congrFun (harg6.read_unread x4) _))
    (fun a x => (ld_rows arg6.view (harg6.unread x4) (at0 i + 256) h1 p1 _ a x).trans (congrFun (harg6.read_unread x4) _))
    (fun a x => (ld_rows arg8.view (harg8.unread x6) (at0 i) h0 o0 _ a x).trans (congrFun (harg8.read_unread x6) _))
    (fun a x => (ld_rows arg8.view (harg8.unread x6) (at0 i + 256) h1 o1 _ a x).trans (congrFun (harg8.read_unread x6) _))
    (fun d a => (ld_cols arg7.view (harg7.unread x5) (at0 i) h0 r0 _ a d).trans (congrFun (harg7.read_unread x5) _))
    (fun d a => (ld_cols arg7.view (harg7.unread x5) (at0 i + 256) h1 r1 _ a d).trans (congrFun (harg7.read_unread x5) _))
    _ d b).trans ?_
  refine (congrArg (· + _) ((congrFun (View.readAt_full (s := S128x512) ..) _).trans
    ((congrFun (congrArg (arg12.view.read (Elt Ideal)) (View.writes_append ..)) _).trans
    (loop_dq Variants.none c none i arg2 harg2 arg3 harg3 arg4 harg4 arg5 harg5 arg6 harg6 arg7 harg7 arg8 harg8 arg9 harg9 arg10 harg10 arg11 harg11 arg12 harg12 x0 x1 x2 x3 (harg6.unread x4) (harg7.unread x5) (harg8.unread x6) _ _ _ (i 1).val (le_of_eq (trips1 i).symm) d b)))).trans ?_
  rw [View.read_writes_full (s := S128x512), pay31_at, Memref.IsWhole.read_unread, Memref.IsWhole.read_unread, Memref.IsWhole.read_unread, zero_add]
  exact cq_merge (at0 i) x0 x2 x4 (gd x1 x3 x6) x5 d b

end Cert.FlashBwd
end
-- ==== Proof.Blocks.lean ====
/-
  The kernel's blocks as parts of its arrays: what each window reads at a grid point, and where a point's blocks lie.
  Point `t` is head `t / 16`, block `t % 16` of 512 queries.
-/
module

public import proofs.«01_k».proof.Proof.Point
public import Idealize.ShloMosaic.Lib.Pipeline.ValueKit

@[expose] public section

noncomputable section

namespace Cert.FlashBwd

open Idealize.ShloMosaic Idealize.ShloMosaic.TcCoe Cert.KernelIdeal Cert.KernelIdeal.Gen
open Idealize.ShloMosaic.Pointwise

/-- The head of a point. -/
def hd (t : Fin cfg0.N) : Fin 8 := ⟨t.val / 16, by have h : t.val < 128 := lt_of_lt_of_eq t.isLt N_0; omega⟩

/-- The position of query `b` of a point's block. -/
def pos (t : Fin cfg0.N) (b : Fin 512) : Fin 8192 := ⟨512 * (t.val % 16) + b.val, by omega⟩

theorem coord1 : ∀ t : Fin cfg0.N, ((grid0.coords t) 1).val = t.val % 16 := by decide +kernel

theorem index_in : ∀ t : Fin cfg0.N,
    win0_0.index t = ![t.val / 16, t.val % 16, 0] ∧ win0_1.index t = ![t.val / 16, t.val % 16, 0]
    ∧ win0_2.index t = ![t.val / 16, 0, t.val % 16] ∧ win0_3.index t = ![t.val / 16, 0, t.val % 16]
    ∧ win0_4.index t = ![t.val / 16, 0, 0] ∧ win0_5.index t = ![t.val / 16, 0, 0] ∧ win0_6.index t = ![t.val / 16, 0, 0] := by
  decide +kernel

theorem index_out : ∀ t : Fin cfg0.N,
    win0_7.index t = ![t.val / 16, 0, t.val % 16] ∧ win0_8.index t = ![t.val / 16, 0, 0] ∧ win0_9.index t = ![t.val / 16, 0, 0] := by
  decide +kernel

variable (m : (ℓ : Loc nD τ sig) → Buf (Elt Ideal) ℓ)

/-- The arrays the region finds: queries, output gradients, log-sums, `delta`, keys, transposed keys, values. -/
def Aq (c : Dev nD) : Vec Ideal S8x8192x128 .bf16 := V m c main_v6
def Ao (c : Dev nD) : Vec Ideal S8x8192x64 .bf16 := V m c main_v46
def Al (c : Dev nD) : Vec Ideal S8x1x8192 .f32 := V m c main_v40
def Ad (c : Dev nD) : Vec Ideal S8x1x8192 .f32 := V m c main_v44
def Ak (c : Dev nD) : Vec Ideal S8x8192x128 .bf16 := V m c main_v8
def At (c : Dev nD) : Vec Ideal S8x128x8192 .bf16 := V m c main_v45
def Av (c : Dev nD) : Vec Ideal S8x8192x64 .bf16 := V m c main_v10

theorem blk_q (c : Dev nD) (t : Fin cfg0.N) (a : Fin 512) (x : Fin 128) :
    (iblk m c 0 t : Vec Ideal S1x512x128 .bf16) (ix3 0 a x) = Aq m c (ix3 (hd t) (pos t a) x) := by
  have e := (index_in t).1
  unfold Aq
  blk_ext [iblk, e, hd, pos]

theorem blk_o (c : Dev nD) (t : Fin cfg0.N) (a : Fin 512) (x : Fin 64) :
    (iblk m c 1 t : Vec Ideal S1x512x64 .bf16) (ix3 0 a x) = Ao m c (ix3 (hd t) (pos t a) x) := by
  have e := (index_in t).2.1
  unfold Ao
  blk_ext [iblk, e, hd, pos]

theorem read_l (X : Vec Ideal S8x1x8192 .f32) (t : Fin cfg0.N) (a : Fin 512) :
    (((cfg0.win 2).blk t).view.read (Elt Ideal) X : Vec Ideal S1x1x512 .f32) (ix3 0 0 a) = X (ix3 (hd t) 0 (pos t a)) := by
  have e := (index_in t).2.2.1
  rw [View.read_apply]
  refine congrArg X (funext fun j => Fin.ext ?_)
  have e0 := congrFun e 0
  have e1 := congrFun e 1
  have e2 := congrFun e 2
  match j with
  | 0 => show win0_2.index t 0 * 1 + 1 * 0 = t.val / 16; rw [e0]; show t.val / 16 * 1 + 1 * 0 = t.val / 16; omega
  | 1 => show win0_2.index t 1 * 1 + 1 * 0 = 0; rw [e1]; rfl
  | 2 => show win0_2.index t 2 * 512 + 1 * a.val = 512 * (t.val % 16) + a.val; rw [e2]; show t.val % 16 * 512 + 1 * a.val = _; omega

theorem blk_l (c : Dev nD) (t : Fin cfg0.N) (a : Fin 512) :
    (iblk m c 2 t : Vec Ideal S1x1x512 .f32) (ix3 0 0 a) = Al m c (ix3 (hd t) 0 (pos t a)) :=
  read_l (Al m c) t a

theorem read_d (X : Vec Ideal S8x1x8192 .f32) (t : Fin cfg0.N) (a : Fin 512) :
    (((cfg0.win 3).blk t).view.read (Elt Ideal) X : Vec Ideal S1x1x512 .f32) (ix3 0 0 a) = X (ix3 (hd t) 0 (pos t a)) := by
  have e := (index_in t).2.2.2.1
  rw [View.read_apply]
  refine congrArg X (funext fun j => Fin.ext ?_)
  have e0 := congrFun e 0
  have e1 := congrFun e 1
  have e2 := congrFun e 2
  match j with
  | 0 => show win0_3.index t 0 * 1 + 1 * 0 = t.val / 16; rw [e0]; show t.val / 16 * 1 + 1 * 0 = t.val / 16; omega
  | 1 => show win0_3.index t 1 * 1 + 1 * 0 = 0; rw [e1]; rfl
  | 2 => show win0_3.index t 2 * 512 + 1 * a.val = 512 * (t.val % 16) + a.val; rw [e2]; show t.val % 16 * 512 + 1 * a.val = _; omega

theorem blk_d (c : Dev nD) (t : Fin cfg0.N) (a : Fin 512) :
    (iblk m c 3 t : Vec Ideal S1x1x512 .f32) (ix3 0 0 a) = Ad m c (ix3 (hd t) 0 (pos t a)) :=
  read_d (Ad m c) t a

theorem blk_k (c : Dev nD) (t : Fin cfg0.N) (y : Fin 8192) (x : Fin 128) :
    (iblk m c 4 t : Vec Ideal S1x8192x128 .bf16) (ix3 0 y x) = Ak m c (ix3 (hd t) y x) := by
  have e := (index_in t).2.2.2.2.1
  unfold Ak
  blk_ext [iblk, e, hd, pos]

theorem blk_t (c : Dev nD) (t : Fin cfg0.N) (x : Fin 128) (y : Fin 8192) :
    (iblk m c 5 t : Vec Ideal S1x128x8192 .bf16) (ix3 0 x y) = At m c (ix3 (hd t) x y) := by
  have e := (index_in t).2.2.2.2.2.1
  unfold At
  blk_ext [iblk, e, hd, pos]

theorem blk_v (c : Dev nD) (t : Fin cfg0.N) (y : Fin 8192) (x : Fin 64) :
    (iblk m c 6 t : Vec Ideal S1x8192x64 .bf16) (ix3 0 y x) = Av m c (ix3 (hd t) y x) := by
  have e := (index_in t).2.2.2.2.2.2
  unfold Av
  blk_ext [iblk, e, hd, pos]

end Cert.FlashBwd
end
-- ==== Proof.Acc.lean ====
/-
  What the kernel's three result arrays hold after the run, as sums over all the positions: the accumulators of `dv` and
  `dk` gain a block of queries at each point of a head and are written back at its last point; `dq` is written back at every
  point.
-/
module

public import proofs.«01_k».proof.Proof.Blocks

@[expose] public section

noncomputable section

namespace Cert.FlashBwd

open Idealize.ShloMosaic Idealize.ShloMosaic.TcCoe Cert.KernelIdeal Cert.KernelIdeal.Gen
open Idealize.ShloMosaic.Pointwise

variable (m : (ℓ : Loc nD τ sig) → Buf (Elt Ideal) ℓ)

/-- The probability of key `y` for query `s` of head `h`, before the mask. -/
def P (c : Dev nD) (h : Fin 8) (y s : Fin 8192) : EReal :=
  Ideal.exp ((∑ x : Fin 128, (Ak m c (ix3 h y x) : EReal) * (Aq m c (ix3 h s x) : EReal)) * SC - (Al m c (ix3 h 0 s) : EReal))

/-- Its gradient less `delta`. -/
def Gd (c : Dev nD) (h : Fin 8) (y s : Fin 8192) : EReal :=
  (∑ x : Fin 64, (Av m c (ix3 h y x) : EReal) * (Ao m c (ix3 h s x) : EReal)) - (Ad m c (ix3 h 0 s) : EReal)

/-- The probability under the causal mask. -/
def Pm (c : Dev nD) (h : Fin 8) (y s : Fin 8192) : EReal := if y.val ≤ s.val then P m c h y s else 0

theorem prm_blk (c : Dev nD) (t : Fin cfg0.N) (y : Fin 8192) (b : Fin 512) :
    prm (at0 (grid0.coords t)) (iblk m c 0 t) (iblk m c 2 t) (iblk m c 4 t) y b = Pm m c (hd t) y (pos t b) := by
  unfold prm pr Pm P at0 pos
  rw [coord1, blk_l]
  refine if_congr Iff.rfl ?_ rfl
  simp only [blk_k, blk_q]
  rfl

theorem gd_blk (c : Dev nD) (t : Fin cfg0.N) (y : Fin 8192) (b : Fin 512) :
    gd (iblk m c 1 t) (iblk m c 3 t) (iblk m c 6 t) y b = Gd m c (hd t) y (pos t b) := by
  unfold gd Gd
  rw [blk_d]
  simp only [blk_v, blk_o]

/-- A sum over a point's queries, as one over the positions of its block. -/
theorem sum_blk (t : Fin cfg0.N) (f : Fin 8192 → EReal) :
    ∑ b : Fin 512, f (pos t b)
      = ∑ s : Fin 8192, if 512 * (t.val % 16) ≤ s.val ∧ s.val < 512 * (t.val % 16) + 512 then f s else 0 := by
  rw [← Finset.sum_filter]
  refine Finset.sum_bij (fun b _ => pos t b) ?_ ?_ ?_ ?_
  · intro b _
    have := b.isLt
    simp only [Finset.mem_filter, Finset.mem_univ, true_and, pos]
    omega
  · intro a _ b _ h
    have := congrArg Fin.val h
    simp only [pos] at this
    exact Fin.ext (by omega)
  · intro s hs
    simp only [Finset.mem_filter, Finset.mem_univ, true_and] at hs
    exact ⟨⟨s.val - 512 * (t.val % 16), by omega⟩, Finset.mem_univ _,
      Fin.ext (by show 512 * (t.val % 16) + (s.val - 512 * (t.val % 16)) = s.val; omega)⟩
  · intro b _
    rfl

/-- The term of query `s` in `dv`'s row `y`. -/
def tv (c : Dev nD) (h : Fin 8) (y : Fin 8192) (d : Fin 64) (s : Fin 8192) : EReal :=
  Pm m c h y s * (Ao m c (ix3 h s d) : EReal)

/-- The term of query `s` in `dk`'s row `y`. -/
def tk (c : Dev nD) (h : Fin 8) (y : Fin 8192) (d : Fin 128) (s : Fin 8192) : EReal :=
  ds (Pm m c h y s) (Gd m c h y s) * (Aq m c (ix3 h s d) : EReal)

/-- The term of key `y` in `dq`'s row `s`. -/
def tq (c : Dev nD) (h : Fin 8) (s : Fin 8192) (d : Fin 128) (y : Fin 8192) : EReal :=
  (At m c (ix3 h d y) : EReal) * ds (Pm m c h y s) (Gd m c h y s)

theorem cv_blk (c : Dev nD) (t : Fin cfg0.N) (y : Fin 8192) (d : Fin 64) :
    cv (prm (at0 (grid0.coords t)) (iblk m c 0 t) (iblk m c 2 t) (iblk m c 4 t)) (iblk m c 1 t) y d
      = ∑ s : Fin 8192, if 512 * (t.val % 16) ≤ s.val ∧ s.val < 512 * (t.val % 16) + 512 then tv m c (hd t) y d s else 0 := by
  rw [← sum_blk]
  refine Finset.sum_congr rfl fun b _ => ?_
  rw [prm_blk, blk_o]
  rfl

theorem ck_blk (c : Dev nD) (t : Fin cfg0.N) (y : Fin 8192) (d : Fin 128) :
    ck (prm (at0 (grid0.coords t)) (iblk m c 0 t) (iblk m c 2 t) (iblk m c 4 t))
        (gd (iblk m c 1 t) (iblk m c 3 t) (iblk m c 6 t)) (iblk m c 0 t) y d
      = ∑ s : Fin 8192, if 512 * (t.val % 16) ≤ s.val ∧ s.val < 512 * (t.val % 16) + 512 then tk m c (hd t) y d s else 0 := by
  rw [← sum_blk]
  refine Finset.sum_congr rfl fun b _ => ?_
  rw [prm_blk, gd_blk, blk_q]
  rfl

theorem cq_blk (c : Dev nD) (t : Fin cfg0.N) (d : Fin 128) (b : Fin 512) :
    ∑ y : Fin 8192, cq (prm (at0 (grid0.coords t)) (iblk m c 0 t) (iblk m c 2 t) (iblk m c 4 t))
        (gd (iblk m c 1 t) (iblk m c 3 t) (iblk m c 6 t)) (iblk m c 5 t) d b y
      = ∑ y : Fin 8192, tq m c (hd t) (pos t b) d y := by
  refine Finset.sum_congr rfl fun y _ => ?_
  unfold cq tq
  rw [prm_blk, gd_blk, blk_t]

/-- What a point leaves of `dq`. -/
theorem outs_q (c : Dev nD) (t : Fin cfg0.N) (d : Fin 128) (b : Fin 512) :
    ((outsAt0 m c t.val t.isLt).1 (ix3 0 d b) : EReal) = ∑ y : Fin 8192, tq m c (hd t) (pos t b) d y := by
  by_cases h0 : t.val % 16 = 0
  · rw [outsAt0_A m c t h0]
    dsimp only
    rw [out_A_7]
    exact cq_blk m c t d b
  · rw [outsAt0_B m c t h0]
    dsimp only
    rw [out_B_7]
    exact cq_blk m c t d b

/-- What the points of a head up to and with `t` leave of `dv`. -/
theorem outs_v (c : Dev nD) (n : ℕ) : ∀ t : Fin cfg0.N, t.val % 16 = n → ∀ (y : Fin 8192) (d : Fin 64),
    ((outsAt0 m c t.val t.isLt).2.2 (ix3 0 y d) : EReal)
      = ∑ s : Fin 8192, if s.val < 512 * (n + 1) then tv m c (hd t) y d s else 0 := by
  induction n with
  | zero =>
    intro t ht y d
    rw [outsAt0_A m c t ht]
    dsimp only
    rw [out_A_9]
    refine (cv_blk m c t y d).trans (Finset.sum_congr rfl fun s _ => ?_)
    exact if_congr (by rw [ht]; omega) rfl rfl
  | succ n ih =>
    intro t ht y d
    have h0 : ¬ t.val % 16 = 0 := by omega
    rw [outsAt0_B m c t h0]
    have hl : t.val - 1 < cfg0.N := Nat.lt_of_le_of_lt (Nat.sub_le _ _) t.isLt
    have hp := ih ⟨t.val - 1, hl⟩ (by show (t.val - 1) % 16 = n; omega) y d
    have hh : hd ⟨t.val - 1, hl⟩ = hd t := Fin.ext (by show (t.val - 1) / 16 = t.val / 16; omega)
    rw [hh] at hp
    dsimp only
    rw [out_B_9]
    refine (congrArg₂ (· + ·) hp (cv_blk m c t y d)).trans ?_
    rw [← Finset.sum_add_distrib, ht]
    exact Finset.sum_congr rfl fun s _ => below_succ (n + 1) s.val _

/-- What the points of a head up to and with `t` leave of `dk`. -/
theorem outs_k (c : Dev nD) (n : ℕ) : ∀ t : Fin cfg0.N, t.val % 16 = n → ∀ (y : Fin 8192) (d : Fin 128),
    ((outsAt0 m c t.val t.isLt).2.1 (ix3 0 y d) : EReal)
      = ∑ s : Fin 8192, if s.val < 512 * (n + 1) then tk m c (hd t) y d s else 0 := by
  induction n with
  | zero =>
    intro t ht y d
    rw [outsAt0_A m c t ht]
    dsimp only
    rw [out_A_8]
    refine (ck_blk m c t y d).trans (Finset.sum_congr rfl fun s _ => ?_)
    exact if_congr (by rw [ht]; omega) rfl rfl
  | succ n ih =>
    intro t ht y d
    have h0 : ¬ t.val % 16 = 0 := by omega
    rw [outsAt0_B m c t h0]
    have hl : t.val - 1 < cfg0.N := Nat.lt_of_le_of_lt (Nat.sub_le _ _) t.isLt
    have hp := ih ⟨t.val - 1, hl⟩ (by show (t.val - 1) % 16 = n; omega) y d
    have hh : hd ⟨t.val - 1, hl⟩ = hd t := Fin.ext (by show (t.val - 1) / 16 = t.val / 16; omega)
    rw [hh] at hp
    dsimp only
    rw [out_B_8]
    refine (congrArg₂ (· + ·) hp (ck_blk m c t y d)).trans ?_
    rw [← Finset.sum_add_distrib, ht]
    exact Finset.sum_congr rfl fun s _ => below_succ (n + 1) s.val _

/-! ### The arrays -/

def resQ (c : Dev nD) : Vec Ideal S8x128x8192 .f32 := fun j => ∑ y : Fin 8192, tq m c (j 0) (j 2) (j 1) y
def resK (c : Dev nD) : Vec Ideal S8x8192x128 .f32 := fun j => ∑ s : Fin 8192, tk m c (j 0) (j 1) (j 2) s
def resV (c : Dev nD) : Vec Ideal S8x8192x64 .f32 := fun j => ∑ s : Fin 8192, tv m c (j 0) (j 1) (j 2) s

/-- The write-backs of `dq` cover its array. -/
theorem final_q (c : Dev nD) : (dats m 0 c).arrAt 7 cfg0.N = resQ m c := by
  refine (dats m 0 c).arrAt_eq_of_covers 7 _ (by decide +kernel) fun t hf y => ?_
  have e := (index_out t).1
  blk_simp [after0_7]
  obtain ⟨z, d, b, rfl⟩ : ∃ (z : Fin 1) (d : Fin 128) (b : Fin 512), y = ix3 z d b := ⟨y 0, y 1, y 2, eq_ix3 y⟩
  obtain rfl : z = 0 := Subsingleton.elim _ _
  have he : (win0_7.blk t).view.emb (ix3 (0 : Fin 1) d b) = (ix3 (hd t) d (pos t b) : S8x128x8192.Idx) := by
    blk_ext [e, hd, pos]
  rw [he]
  exact outs_q m c t d b

/-- The write-backs of `dk` cover its array. -/
theorem final_k (c : Dev nD) : (dats m 0 c).arrAt 8 cfg0.N = resK m c := by
  refine (dats m 0 c).arrAt_eq_of_covers 8 _ (by decide +kernel) fun t hf y => ?_
  have e := (index_out t).2.1
  blk_simp [after0_8]
  obtain ⟨z, d, b, rfl⟩ : ∃ (z : Fin 1) (d : Fin 8192) (b : Fin 128), y = ix3 z d b := ⟨y 0, y 1, y 2, eq_ix3 y⟩
  obtain rfl : z = 0 := Subsingleton.elim _ _
  have he : (win0_8.blk t).view.emb (ix3 (0 : Fin 1) d b) = (ix3 (hd t) d b : S8x8192x128.Idx) := by
    blk_ext [e, hd, pos]
  rw [he]
  refine (outs_k m c 15 t ((flush0_8 t).mp hf) d b).trans (Finset.sum_congr rfl fun s _ => if_pos ?_)
  have := s.isLt
  omega

/-- The write-backs of `dv` cover its array. -/
theorem final_v (c : Dev nD) : (dats m 0 c).arrAt 9 cfg0.N = resV m c := by
  refine (dats m 0 c).arrAt_eq_of_covers 9 _ (by decide +kernel) fun t hf y => ?_
  have e := (index_out t).2.2
  blk_simp [after0_9]
  obtain ⟨z, d, b, rfl⟩ : ∃ (z : Fin 1) (d : Fin 8192) (b : Fin 64), y = ix3 z d b := ⟨y 0, y 1, y 2, eq_ix3 y⟩
  obtain rfl : z = 0 := Subsingleton.elim _ _
  have he : (win0_9.blk t).view.emb (ix3 (0 : Fin 1) d b) = (ix3 (hd t) d b : S8x8192x64.Idx) := by
    blk_ext [e, hd, pos]
  rw [he]
  refine (outs_v m c 15 t ((flush0_9 t).mp hf) d b).trans (Finset.sum_congr rfl fun s _ => if_pos ?_)
  have := s.isLt
  omega

end Cert.FlashBwd
end
-- ==== Proof.Soft.lean ====
/-
  The host operations of the two programs as functions of arrays, and each function's value at an index: the masked scores,
  their row maxima, exponentials, row sums and softmax, the attention's output, what the kernel is handed of them, and the
  softmax's gradient as the reference spells it.
-/
module

public import proofs.«01_k».proof.Proof.Acc
public import proofs.«01_k».proof.Proof.Gen.ReferenceIdeal.Run
public import Idealize.ShloMosaic.Lib.Claim
public import Idealize.ShloMosaic.Lib.WordCmp

@[expose] public section

noncomputable section

namespace Cert.FlashBwd

open Idealize.ShloMosaic Idealize.ShloMosaic.TcCoe Cert.KernelIdeal Cert.KernelIdeal.Gen
open Idealize.ShloMosaic.Pointwise

/-! ## The functions -/

/-- The causal mask, `[1, queries, keys]`. -/
def mask : IVec S1x8192x8192 1 :=
  broadcastInDim S1x8192x8192 ![1, 2] bcast_S8192x8192_S1x8192x8192_1_2
    (cmpi .sle
      (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scaled scores, `[heads, queries, keys]`. -/
def raw (a0 : FVec Ideal S8192x8x64 .f32) (a1 : FVec Ideal S8192x8x32 .f32) (a2 : FVec Ideal S8192x8x64 .f32)
    (a3 : FVec Ideal S8192x32 .f32) : FVec Ideal S8x8192x8192 .f32 :=
  mulf (addf (Host.dotGeneral dot_S8192x8x64_S8192x8x64_S8x8192x8192_2_2_0_0_1_1 none a0 a2)
      (transpose S8x8192x8192 [2, 1, 0] (Host.dotGeneral dot_S8192x32_S8192x8x32_S8192x8192x8_1_2_0_01_n_n none a3 a1) transposes_S8192x8192x8_S8x8192x8192_2_1_0))
    (broadcastInDim S8x8192x8192 ![] bcast_S_S8x8192x8192 (constant S_ .f32 0x3DD105EC#32))

/-- The masked scores. -/
def scores (a0 : FVec Ideal S8192x8x64 .f32) (a1 : FVec Ideal S8192x8x32 .f32) (a2 : FVec Ideal S8192x8x64 .f32)
    (a3 : FVec Ideal S8192x32 .f32) : FVec Ideal S8x8192x8192 .f32 :=
  select (broadcastInDim S8x8192x8192 ![0, 1, 2] bcast_S1x8192x8192_S8x8192x8192_0_1_2 mask) (raw a0 a1 a2 a3)
    (broadcastInDim S8x8192x8192 ![] bcast_S_S8x8192x8192 (id (constant S_ .f32 0xFF800000#32)))

/-- The row maxima of the scores. -/
def mx (sc : FVec Ideal S8x8192x8192 .f32) : FVec Ideal S8x8192 .f32 :=
  Host.reduce FloatOps.maximumf sc (constant S_ .f32 0xFF800000#32) reducesTo_S8x8192x8192_S8x8192_d2 h_S_

/-- The exponentials of the scores less a row value. -/
def ex (sc : FVec Ideal S8x8192x8192 .f32) (M : FVec Ideal S8x8192 .f32) : FVec Ideal S8x8192x8192 .f32 :=
  Host.exp (subf sc (broadcastInDim S8x8192x8192 ![0, 1, 2] bcast_S8x8192x1_S8x8192x8192_0_1_2 (broadcastInDim S8x8192x1 ![0, 1] bcast_S8x8192_S8x8192x1_0_1 M)))

/-- The row sums. -/
def sm (e : FVec Ideal S8x8192x8192 .f32) : FVec Ideal S8x8192 .f32 :=
  Host.reduceAdd e (constant S_ .f32 0x00000000#32) reducesTo_S8x8192x8192_S8x8192_d2 h_S_

/-- A row value as a column. -/
def colm (L : FVec Ideal S8x8192 .f32) : FVec Ideal S8x8192x1 .f32 :=
  broadcastInDim S8x8192x1 ![0, 1] bcast_S8x8192_S8x8192x1_0_1 L

/-- The softmax. -/
def prob (e : FVec Ideal S8x8192x8192 .f32) (L : FVec Ideal S8x8192 .f32) : FVec Ideal S8x8192x8192 .f32 :=
  Host.divf e (broadcastInDim S8x8192x8192 ![0, 1, 2] bcast_S8x8192x1_S8x8192x8192_0_1_2 (colm L))

/-- The attention's output, `[positions, heads, width]`. -/
def outp (v : FVec Ideal S8192x8x64 .f32) (p : FVec Ideal S8x8192x8192 .f32) : FVec Ideal S8192x8x64 .f32 :=
  transpose S8192x8x64 [2, 0, 1] (Host.dotGeneral dot_S8192x8x64_S8x8192x8192_S8x64x8192_0_2_2_1_1_0 none v p) transposes_S8x64x8192_S8192x8x64_2_0_1

/-- The log-sums as the kernel takes them. -/
def lseT (M L : FVec Ideal S8x8192 .f32) : FVec Ideal S8x1x8192 .f32 :=
  transpose S8x1x8192 [0, 2, 1] (addf (broadcastInDim S8x8192x1 ![0, 1] bcast_S8x8192_S8x8192x1_0_1 M) (Host.log (colm L))) transposes_S8x8192x1_S8x1x8192_0_2_1

/-- The row sums of the output against its cotangent, as the kernel takes them. -/
def delT (d o : FVec Ideal S8192x8x64 .f32) : FVec Ideal S8x1x8192 .f32 :=
  shapeCast S8x1x8192 (transpose S8x8192 [1, 0]
    (Host.reduceAdd (mulf d o) (constant S_ .f32 0x00000000#32) reducesTo_S8192x8x64_S8192x8_d2 h_S_) transposes_S8192x8_S8x8192_1_0) shapeCasts_S8x8192_S8x1x8192

/-- 96 columns padded to 128, heads first. -/
def pad (a : FVec Ideal S8192x8x64 .f32) (b : FVec Ideal S8192x8x32 .f32) : FVec Ideal S8x8192x128 .bf16 :=
  truncf .bf16 (transpose S8x8192x128 [1, 0, 2]
    (concatenate S8192x8x128 2 [⟨S8192x8x64, a⟩, ⟨S8192x8x32, b⟩, ⟨S8192x8x32, broadcastInDim S8192x8x32 ![] bcast_S_S8192x8x32 (constant S_ .f32 0x00000000#32)⟩]
      concatenates_S8192x8x64_S8192x8x32_S8192x8x32_S8192x8x128_d2) transposes_S8192x8x128_S8x8192x128_1_0_2) bitsLt_bf16_f32

/-- The rotated key, which all heads share, once for each head. -/
def share (a3 : FVec Ideal S8192x32 .f32) : FVec Ideal S8192x8x32 .f32 :=
  broadcastInDim S8192x8x32 ![0, 1, 2] bcast_S8192x1x32_S8192x8x32_0_1_2 (broadcastInDim S8192x1x32 ![0, 2] bcast_S8192x32_S8192x1x32_0_2 a3)

/-- The gradient of the softmax, `[heads, queries, keys]`. -/
def dpr (d v : FVec Ideal S8192x8x64 .f32) : FVec Ideal S8x8192x8192 .f32 :=
  Host.dotGeneral Cert.ReferenceIdeal.dot_S8x64x8192_S8192x8x64_S8x8192x8192_1_2_2_0_0_1 none
    (transpose Cert.ReferenceIdeal.S8x64x8192 [1, 2, 0] d Cert.ReferenceIdeal.Gen.transposes_S8192x8x64_S8x64x8192_1_2_0) v

/-- The gradient of the values. -/
def dval (d : FVec Ideal S8192x8x64 .f32) (p : FVec Ideal S8x8192x8192 .f32) : FVec Ideal S8192x8x64 .f32 :=
  transpose S8192x8x64 [2, 0, 1] (Host.dotGeneral Cert.ReferenceIdeal.dot_S8x64x8192_S8x8192x8192_S8x64x8192_2_1_1_2_0_0 none
    (transpose Cert.ReferenceIdeal.S8x64x8192 [1, 2, 0] d Cert.ReferenceIdeal.Gen.transposes_S8192x8x64_S8x64x8192_1_2_0) p)
    transposes_S8x64x8192_S8192x8x64_2_0_1

/-- The reciprocals of the squared row sums. -/
def rcp (L : FVec Ideal S8x8192 .f32) : FVec Ideal S8x8192x1 .f32 :=
  Host.divf (broadcastInDim S8x8192x1 ![] Cert.ReferenceIdeal.Gen.bcast_S_S8x8192x1 (constant S_ .f32 0x3F800000#32)) (mulf (colm L) (colm L))

/-- The row sums which the softmax's gradient loses. -/
def loss (g e : FVec Ideal S8x8192x8192 .f32) (L : FVec Ideal S8x8192 .f32) : FVec Ideal S8x8192 .f32 :=
  Host.reduceAdd (Host.negf (shapeCast S8x8192x1
      (sm (mulf (mulf g (broadcastInDim S8x8192x8192 ![0, 1, 2] bcast_S8x8192x1_S8x8192x8192_0_1_2 (rcp L))) e)) Cert.ReferenceIdeal.Gen.shapeCasts_S8x8192_S8x8192x1))
    (constant S_ .f32 0x00000000#32) Cert.ReferenceIdeal.Gen.reducesTo_S8x8192x1_S8x8192_d2 h_S_

/-- The gradient of the scaled scores under the mask, times the scale. -/
def dsc (g e : FVec Ideal S8x8192x8192 .f32) (L : FVec Ideal S8x8192 .f32) : FVec Ideal S8x8192x8192 .f32 :=
  mulf (select (broadcastInDim S8x8192x8192 ![0, 1, 2] bcast_S1x8192x8192_S8x8192x8192_0_1_2 mask)
      (mulf (addf (Host.divf g (broadcastInDim S8x8192x8192 ![0, 1, 2] bcast_S8x8192x1_S8x8192x8192_0_1_2 (colm L)))
        (broadcastInDim S8x8192x8192 ![0, 1] Cert.ReferenceIdeal.Gen.bcast_S8x8192_S8x8192x8192_0_1 (loss g e L))) e)
      (broadcastInDim S8x8192x8192 ![] bcast_S_S8x8192x8192 (constant S_ .f32 0x00000000#32)))
    (broadcastInDim S8x8192x8192 ![] bcast_S_S8x8192x8192 (constant S_ .f32 0x3DD105EC#32))

/-! ## Their values -/

theorem minusInf : Ideal.ofBits FTy.f32 0xFF800000#32 = ⊥ := by simp [Ideal.ofBits, Ideal.ieee]

theorem causal_at (s y : Fin 8192) : mask (ix3 0 s y) = if y.val ≤ s.val then 1#1 else 0#1 := by
  unfold mask
  pointwise
  have hs := s.isLt
  have hy := y.isLt
  rw [WordCmp.cmpi_sle_ofNat (by omega) (by omega)]
  by_cases h : y.val ≤ s.val <;> simp [h]

theorem raw_at (a0 : FVec Ideal S8192x8x64 .f32) (a1 : FVec Ideal S8192x8x32 .f32) (a2 : FVec Ideal S8192x8x64 .f32)
    (a3 : FVec Ideal S8192x32 .f32) (h : Fin 8) (s y : Fin 8192) :
    (raw a0 a1 a2 a3 (ix3 h s y) : EReal)
      = ((∑ x : Fin 64, (a0 (ix3 s h x) : EReal) * (a2 (ix3 y h x) : EReal)) + ∑ x : Fin 32, (a1 (ix3 s h x) : EReal) * (a3 (ix2 y x) : EReal)) * SC := by
  unfold raw
  pointwise
  simp only [mul_comm, SC]

theorem mx_at (sc : FVec Ideal S8x8192x8192 .f32) (h : Fin 8) (s : Fin 8192) :
    (mx sc (ix2 h s) : EReal) = Finset.univ.sup fun y : Fin 8192 => (sc (ix3 h s y) : EReal) := by
  unfold mx
  pointwise
  rw [minusInf]
  rfl

theorem ex_at (sc : FVec Ideal S8x8192x8192 .f32) (M : FVec Ideal S8x8192 .f32) (h : Fin 8) (s y : Fin 8192) :
    (ex sc M (ix3 h s y) : EReal) = Ideal.exp ((sc (ix3 h s y) : EReal) - (M (ix2 h s) : EReal)) := by
  unfold ex
  pointwise

theorem sm_at (e : FVec Ideal S8x8192x8192 .f32) (h : Fin 8) (s : Fin 8192) :
    (sm e (ix2 h s) : EReal) = ∑ y : Fin 8192, (e (ix3 h s y) : EReal) := by
  unfold sm
  pointwise

theorem colm_at (L : FVec Ideal S8x8192 .f32) (h : Fin 8) (s : Fin 8192) : colm L (ix3 h s 0) = L (ix2 h s) := by
  unfold colm
  pointwise

theorem prob_at (e : FVec Ideal S8x8192x8192 .f32) (L : FVec Ideal S8x8192 .f32) (h : Fin 8) (s y : Fin 8192) :
    (prob e L (ix3 h s y) : EReal) = Ideal.div (e (ix3 h s y) : EReal) (L (ix2 h s) : EReal) := by
  unfold prob colm
  pointwise

theorem outp_at (v : FVec Ideal S8192x8x64 .f32) (p : FVec Ideal S8x8192x8192 .f32) (h : Fin 8) (s : Fin 8192) (d : Fin 64) :
    (outp v p (ix3 s h d) : EReal) = ∑ y : Fin 8192, (v (ix3 y h d) : EReal) * (p (ix3 h s y) : EReal) := by
  unfold outp
  pointwise

theorem lseT_at (M L : FVec Ideal S8x8192 .f32) (h : Fin 8) (s : Fin 8192) :
    (lseT M L (ix3 h 0 s) : EReal) = (M (ix2 h s) : EReal) + Ideal.log (L (ix2 h s) : EReal) := by
  unfold lseT colm
  pointwise

theorem delT_at (d o : FVec Ideal S8192x8x64 .f32) (h : Fin 8) (s : Fin 8192) :
    (delT d o (ix3 h 0 s) : EReal) = ∑ x : Fin 64, (d (ix3 s h x) : EReal) * (o (ix3 s h x) : EReal) := by
  unfold delT
  pointwise

theorem pad_at (a : FVec Ideal S8192x8x64 .f32) (b : FVec Ideal S8192x8x32 .f32) (h : Fin 8) (s : Fin 8192) (x : Fin 128) :
    (pad a b (ix3 h s x) : EReal)
      = if h1 : x.val < 64 then (a (ix3 s h ⟨x.val, h1⟩) : EReal)
        else if h2 : x.val - 64 < 32 then (b (ix3 s h ⟨x.val - 64, h2⟩) : EReal) else 0 := by
  unfold pad
  pointwise

theorem share_at (a3 : FVec Ideal S8192x32 .f32) (s : Fin 8192) (h : Fin 8) (x : Fin 32) : share a3 (ix3 s h x) = a3 (ix2 s x) := by
  unfold share
  pointwise

theorem scores_at (a0 : FVec Ideal S8192x8x64 .f32) (a1 : FVec Ideal S8192x8x32 .f32) (a2 : FVec Ideal S8192x8x64 .f32)
    (a3 : FVec Ideal S8192x32 .f32) (h : Fin 8) (s y : Fin 8192) :
    (scores a0 a1 a2 a3 (ix3 h s y) : EReal) = if y.val ≤ s.val then (raw a0 a1 a2 a3 (ix3 h s y) : EReal) else ⊥ := by
  unfold scores
  pointwise
  rw [causal_at]
  by_cases hy : y.val ≤ s.val
  · rw [if_pos hy, if_pos hy]
    rfl
  · rw [if_neg hy, if_neg hy]
    exact minusInf

theorem dpr_at (d v : FVec Ideal S8192x8x64 .f32) (h : Fin 8) (s y : Fin 8192) :
    (dpr d v (ix3 h s y) : EReal) = ∑ x : Fin 64, (d (ix3 s h x) : EReal) * (v (ix3 y h x) : EReal) := by
  unfold dpr
  pointwise

theorem dval_at (d : FVec Ideal S8192x8x64 .f32) (p : FVec Ideal S8x8192x8192 .f32) (h : Fin 8) (y : Fin 8192) (x : Fin 64) :
    (dval d p (ix3 y h x) : EReal) = ∑ s : Fin 8192, (d (ix3 s h x) : EReal) * (p (ix3 h s y) : EReal) := by
  unfold dval
  pointwise

theorem rcp_at (L : FVec Ideal S8x8192 .f32) (h : Fin 8) (s : Fin 8192) :
    (rcp L (ix3 h s 0) : EReal) = Ideal.div 1 ((L (ix2 h s) : EReal) * (L (ix2 h s) : EReal)) := by
  unfold rcp colm
  pointwise

theorem loss_at (g e : FVec Ideal S8x8192x8192 .f32) (L : FVec Ideal S8x8192 .f32) (h : Fin 8) (s : Fin 8192) :
    (loss g e L (ix2 h s) : EReal)
      = -∑ y : Fin 8192, (g (ix3 h s y) : EReal) * (rcp L (ix3 h s 0) : EReal) * (e (ix3 h s y) : EReal) := by
  unfold loss sm
  pointwise
  exact Fin.sum_univ_one _

theorem dsc_at (g e : FVec Ideal S8x8192x8192 .f32) (L : FVec Ideal S8x8192 .f32) (h : Fin 8) (s y : Fin 8192) :
    (dsc g e L (ix3 h s y) : EReal)
      = (if y.val ≤ s.val then (Ideal.div (g (ix3 h s y) : EReal) (L (ix2 h s) : EReal) + (loss g e L (ix2 h s) : EReal)) * (e (ix3 h s y) : EReal) else 0) * SC := by
  unfold dsc colm
  pointwise
  rw [causal_at]
  by_cases hy : y.val ≤ s.val
  · rw [if_pos hy, if_pos hy]
    rfl
  · rw [if_neg hy, if_neg hy, zero_mul]
    rfl

end Cert.FlashBwd
end
-- ==== Proof.Host.lean ====
/-
  What the host operations before the region leave in the kernel's operands.
-/
module

public import proofs.«01_k».proof.Proof.Soft

@[expose] public section

noncomputable section

namespace Cert.FlashBwd

open Idealize.ShloMosaic Idealize.ShloMosaic.TcCoe Cert.KernelIdeal Cert.KernelIdeal.Gen
open Idealize.ShloMosaic.Pointwise

variable (m : (ℓ : Loc nD τ sig) → Buf (Elt Ideal) ℓ) (c : Dev nD)

/-- The six arguments. -/
abbrev a0 : FVec Ideal S8192x8x64 .f32 := m ((c : Thread nD τ).loc main_arg0)
abbrev a1 : FVec Ideal S8192x8x32 .f32 := m ((c : Thread nD τ).loc main_arg1)
abbrev a2 : FVec Ideal S8192x8x64 .f32 := m ((c : Thread nD τ).loc main_arg2)
abbrev a3 : FVec Ideal S8192x32 .f32 := m ((c : Thread nD τ).loc main_arg3)
abbrev a4 : FVec Ideal S8192x8x64 .f32 := m ((c : Thread nD τ).loc main_arg4)
abbrev a5 : FVec Ideal S8192x8x64 .f32 := m ((c : Thread nD τ).loc main_arg5)

/-- The masked scores, their maxima, exponentials and sums. -/
def Sc : FVec Ideal S8x8192x8192 .f32 := scores (a0 m c) (a1 m c) (a2 m c) (a3 m c)
def Mx : FVec Ideal S8x8192 .f32 := mx (Sc m c)
def Ex : FVec Ideal S8x8192x8192 .f32 := ex (Sc m c) (Mx m c)
def Sm : FVec Ideal S8x8192 .f32 := sm (Ex m c)

set_option maxRecDepth 8192 in
theorem Aq_eq : Aq m c = pad (a0 m c) (a1 m c) := by
  unfold Aq V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem Ak_eq : Ak m c = pad (a2 m c) (share (a3 m c)) := by
  unfold Ak V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem At_eq : At m c = transpose S8x128x8192 [0, 2, 1] (pad (a2 m c) (share (a3 m c))) transposes_S8x8192x128_S8x128x8192_0_2_1 := by
  unfold At V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem Av_eq : Av m c = truncf .bf16 (transpose S8x8192x64 [1, 0, 2] (a4 m c) transposes_S8192x8x64_S8x8192x64_1_0_2) bitsLt_bf16_f32 := by
  unfold Av V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem Ao_eq : Ao m c = truncf .bf16 (transpose S8x8192x64 [1, 0, 2] (a5 m c) transposes_S8192x8x64_S8x8192x64_1_0_2) bitsLt_bf16_f32 := by
  unfold Ao V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

set_option maxRecDepth 8192 in
theorem Al_eq : Al m c = lseT (Mx m c) (Sm m c) := by
  unfold Al V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem Ad_eq : Ad m c = delT (a5 m c) (outp (a4 m c) (prob (Ex m c) (Sm m c))) := by
  unfold Ad V V0
  simp only [hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

/-! Their values. -/

theorem Aq_at (h : Fin 8) (s : Fin 8192) (x : Fin 128) :
    (Aq m c (ix3 h s x) : EReal)
      = if h1 : x.val < 64 then (a0 m c (ix3 s h ⟨x.val, h1⟩) : EReal)
        else if h2 : x.val - 64 < 32 then (a1 m c (ix3 s h ⟨x.val - 64, h2⟩) : EReal) else 0 := by
  rw [Aq_eq]
  exact pad_at _ _ h s x

theorem Ak_at (h : Fin 8) (y : Fin 8192) (x : Fin 128) :
    (Ak m c (ix3 h y x) : EReal)
      = if h1 : x.val < 64 then (a2 m c (ix3 y h ⟨x.val, h1⟩) : EReal)
        else if h2 : x.val - 64 < 32 then (a3 m c (ix2 y ⟨x.val - 64, h2⟩) : EReal) else 0 := by
  rw [Ak_eq]
  refine (pad_at _ _ h y x).trans ?_
  simp only [share_at]

theorem At_at (h : Fin 8) (x : Fin 128) (y : Fin 8192) : (At m c (ix3 h x y) : EReal) = (Ak m c (ix3 h y x) : EReal) := by
  rw [At_eq, Ak_eq]
  generalize pad (a2 m c) (share (a3 m c)) = z
  pointwise

theorem Av_at (h : Fin 8) (y : Fin 8192) (x : Fin 64) : (Av m c (ix3 h y x) : EReal) = (a4 m c (ix3 y h x) : EReal) := by
  rw [Av_eq]
  pointwise

theorem Ao_at (h : Fin 8) (s : Fin 8192) (x : Fin 64) : (Ao m c (ix3 h s x) : EReal) = (a5 m c (ix3 s h x) : EReal) := by
  rw [Ao_eq]
  pointwise

theorem Al_at (h : Fin 8) (s : Fin 8192) :
    (Al m c (ix3 h 0 s) : EReal) = (Mx m c (ix2 h s) : EReal) + Ideal.log (Sm m c (ix2 h s) : EReal) := by
  rw [Al_eq]
  exact lseT_at _ _ h s

theorem Ad_at (h : Fin 8) (s : Fin 8192) :
    (Ad m c (ix3 h 0 s) : EReal)
      = ∑ x : Fin 64, (a5 m c (ix3 s h x) : EReal) * ∑ y : Fin 8192, (a4 m c (ix3 y h x) : EReal) * Ideal.div (Ex m c (ix3 h s y) : EReal) (Sm m c (ix2 h s) : EReal) := by
  rw [Ad_eq]
  refine (delT_at _ _ h s).trans (Finset.sum_congr rfl fun x _ => ?_)
  rw [outp_at]
  simp only [prob_at]

end Cert.FlashBwd
end
-- ==== Proof.Row.lean ====
/-
  One row of the attention in real numbers: a query's scores `R`, the values' inner products `g` with the cotangent, the
  softmax under the causal mask and its gradient. What the two programs write of it with extended reals is these reals.
-/
module

public import Idealize.ShloMosaic.PureOps.Ideal

@[expose] public section

noncomputable section

namespace Cert.FlashBwd.Row

open Idealize.ShloMosaic

/-- A sum of reals, among the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

variable {n : ℕ} (s : Fin n) (R g : Fin n → ℝ)

/-- The largest unmasked score is a real. -/
theorem sup_real : ∃ μ : ℝ, (Finset.univ.sup fun y : Fin n => if y.val ≤ s.val then (R y : EReal) else ⊥) = (μ : EReal) := by
  obtain ⟨y, -, hy⟩ := Finset.exists_mem_eq_sup Finset.univ ⟨s, Finset.mem_univ s⟩
    (fun y : Fin n => if y.val ≤ s.val then (R y : EReal) else ⊥)
  rw [hy]
  by_cases h : y.val ≤ s.val
  · exact ⟨R y, if_pos h⟩
  · exfalso
    have := Finset.le_sup (f := fun y : Fin n => if y.val ≤ s.val then (R y : EReal) else ⊥) (Finset.mem_univ s)
    rw [hy] at this
    simp only [h, if_false, le_refl, if_true, le_bot_iff] at this
    exact EReal.coe_ne_bot _ this

/-- The exponential of a score less `μ`, zero under the mask. -/
def E (μ : ℝ) (y : Fin n) : ℝ := if y.val ≤ s.val then Real.exp (R y - μ) else 0

theorem exp_score (μ : ℝ) (y : Fin n) :
    Ideal.exp ((if y.val ≤ s.val then (R y : EReal) else ⊥) - (μ : EReal)) = (E s R μ y : EReal) := by
  unfold E
  by_cases h : y.val ≤ s.val
  · rw [if_pos h, if_pos h, ← EReal.coe_sub, Ideal.exp_coe]
  · rw [if_neg h, if_neg h, EReal.bot_sub, Ideal.exp_bot, EReal.coe_zero]

theorem E_nonneg (μ : ℝ) (y : Fin n) : 0 ≤ E s R μ y := by
  unfold E
  split
  · exact (Real.exp_pos _).le
  · exact le_rfl

/-- The row sum is positive: the query's own key is not masked. -/
theorem sum_pos (μ : ℝ) : 0 < ∑ y, E s R μ y := by
  refine Finset.sum_pos' (fun y _ => E_nonneg s R μ y) ⟨s, Finset.mem_univ s, ?_⟩
  unfold E
  rw [if_pos le_rfl]
  exact Real.exp_pos _

/-- The exponential of a score less the log-sum is the softmax. -/
theorem exp_lse (μ Λ : ℝ) (hΛ : 0 < Λ) (y : Fin n) (h : y.val ≤ s.val) :
    Ideal.exp ((R y : EReal) - ((μ : EReal) + Ideal.log (Λ : EReal))) = ((E s R μ y / Λ : ℝ) : EReal) := by
  unfold E
  rw [if_pos h, Ideal.log_coe, if_neg (not_le.mpr hΛ), ← EReal.coe_add, ← EReal.coe_sub, Ideal.exp_coe,
    show R y - (μ + Real.log Λ) = (R y - μ) - Real.log Λ by ring, Real.exp_sub (R y - μ), Real.exp_log hΛ]

theorem div_real (a : ℝ) {b : ℝ} (hb : b ≠ 0) : Ideal.div (a : EReal) (b : EReal) = ((a / b : ℝ) : EReal) := by
  rw [Ideal.div_coe hb, ← EReal.coe_mul, mul_one_div]

/-- The gradient of a score, with the row's loss summed against the cotangent after the softmax or before it. -/
theorem grad (E : Fin n → ℝ) (Λ : ℝ) (hΛ : Λ ≠ 0) (y : Fin n) :
    (g y / Λ + -∑ k, g k * (1 / (Λ * Λ)) * E k) * E y = E y / Λ * (g y - ∑ k, g k * (E k / Λ)) := by
  have : ∑ k, g k * (1 / (Λ * Λ)) * E k = (∑ k, g k * (E k / Λ)) / Λ := by
    rw [Finset.sum_div]
    refine Finset.sum_congr rfl fun k _ => ?_
    field_simp
  rw [this]
  field_simp
  ring

/-- The loss of a row by the cotangent's inner product with the output. -/
theorem delta {p : ℕ} (w : Fin p → ℝ) (v : Fin n → Fin p → ℝ) (q : Fin n → ℝ) :
    ∑ x, w x * ∑ k, v k x * q k = ∑ k, (∑ x, w x * v k x) * q k := by
  simp only [Finset.mul_sum, Finset.sum_mul]
  rw [Finset.sum_comm]
  refine Finset.sum_congr rfl fun k _ => Finset.sum_congr rfl fun x _ => ?_
  ring

end Cert.FlashBwd.Row
end
-- ==== Proof.Equal.lean ====
/-
  The equation: for finite arguments the kernel's probability from the log-sum is the softmax, and its gradient of a score
  the reference's.
-/
module

public import proofs.«01_k».proof.Proof.Host
public import proofs.«01_k».proof.Proof.Row

@[expose] public section

noncomputable section

namespace Cert.FlashBwd

open Idealize.ShloMosaic Idealize.ShloMosaic.TcCoe Cert.KernelIdeal Cert.KernelIdeal.Gen
open Idealize.ShloMosaic.Pointwise

/-- The scale is a real. -/
theorem SC_real : ∃ r : ℝ, SC = (r : EReal) := by
  unfold SC
  simp only [Ideal.ofBits, Ideal.ieee]
  norm_num
  exact ⟨_, rfl⟩

/-- 128 columns are 64, 32 and 32. -/
theorem split128 (f : Fin 128 → EReal) :
    ∑ x, f x = (∑ x : Fin 64, f ⟨x.val, by omega⟩) + ((∑ x : Fin 32, f ⟨64 + x.val, by omega⟩) + ∑ x : Fin 32, f ⟨96 + x.val, by omega⟩) := by
  have e := Fin.sum_univ_add (M := EReal) (a := 64) (b := 64) f
  have e' := Fin.sum_univ_add (M := EReal) (a := 32) (b := 32) fun i : Fin 64 => f (Fin.natAdd 64 i)
  refine e.trans (congrArg₂ (· + ·) rfl (e'.trans (congrArg₂ (· + ·) rfl ?_)))
  refine Finset.sum_congr rfl fun x _ => congrArg f (Fin.ext ?_)
  show 64 + (32 + x.val) = 96 + x.val
  omega

variable (m : (ℓ : Loc nD τ sig) → Buf (Elt Ideal) ℓ) (c : Dev nD)

/-- The arguments in real numbers. -/
structure Reals where
  r0 : Fin 8192 → Fin 8 → Fin 64 → ℝ
  r1 : Fin 8192 → Fin 8 → Fin 32 → ℝ
  r2 : Fin 8192 → Fin 8 → Fin 64 → ℝ
  r3 : Fin 8192 → Fin 32 → ℝ
  r4 : Fin 8192 → Fin 8 → Fin 64 → ℝ
  r5 : Fin 8192 → Fin 8 → Fin 64 → ℝ
  sc : ℝ
  e0 : ∀ s h x, (a0 m c (ix3 s h x) : EReal) = (r0 s h x : EReal)
  e1 : ∀ s h x, (a1 m c (ix3 s h x) : EReal) = (r1 s h x : EReal)
  e2 : ∀ s h x, (a2 m c (ix3 s h x) : EReal) = (r2 s h x : EReal)
  e3 : ∀ s x, (a3 m c (ix2 s x) : EReal) = (r3 s x : EReal)
  e4 : ∀ s h x, (a4 m c (ix3 s h x) : EReal) = (r4 s h x : EReal)
  e5 : ∀ s h x, (a5 m c (ix3 s h x) : EReal) = (r5 s h x : EReal)
  es : SC = (sc : EReal)

variable {m c} (Z : Reals m c)

/-- The scaled score. -/
def Reals.R (h : Fin 8) (s y : Fin 8192) : ℝ := ((∑ x, Z.r0 s h x * Z.r2 y h x) + ∑ x, Z.r1 s h x * Z.r3 y x) * Z.sc

/-- The values against the cotangent. -/
def Reals.g (h : Fin 8) (s y : Fin 8192) : ℝ := ∑ x, Z.r5 s h x * Z.r4 y h x

include Z

theorem raw_real (h : Fin 8) (s y : Fin 8192) :
    (raw (a0 m c) (a1 m c) (a2 m c) (a3 m c) (ix3 h s y) : EReal) = (Z.R h s y : EReal) := by
  rw [raw_at]
  simp only [Z.e0, Z.e1, Z.e2, Z.e3, Z.es, ← EReal.coe_mul, ← Row.coe_sum, ← EReal.coe_add]
  rfl

theorem Sc_real (h : Fin 8) (s y : Fin 8192) :
    (Sc m c (ix3 h s y) : EReal) = if y.val ≤ s.val then (Z.R h s y : EReal) else ⊥ := by
  unfold Sc
  rw [scores_at, raw_real Z]

theorem Mx_real (h : Fin 8) (s : Fin 8192) : ∃ μ : ℝ, (Mx m c (ix2 h s) : EReal) = (μ : EReal) := by
  unfold Mx
  rw [mx_at]
  simp only [Sc_real Z]
  exact Row.sup_real s (Z.R h s)

/-- The row maximum. -/
def Reals.μ (h : Fin 8) (s : Fin 8192) : ℝ := (Mx_real Z h s).choose

theorem Mx_eq (h : Fin 8) (s : Fin 8192) : (Mx m c (ix2 h s) : EReal) = (Z.μ h s : EReal) := (Mx_real Z h s).choose_spec

/-- The exponentials of a row. -/
def Reals.E (h : Fin 8) (s y : Fin 8192) : ℝ := Row.E s (Z.R h s) (Z.μ h s) y

/-- Their sum. -/
def Reals.L (h : Fin 8) (s : Fin 8192) : ℝ := ∑ y, Z.E h s y

theorem L_pos (h : Fin 8) (s : Fin 8192) : 0 < Z.L h s := Row.sum_pos s (Z.R h s) (Z.μ h s)

theorem Ex_eq (h : Fin 8) (s y : Fin 8192) : (Ex m c (ix3 h s y) : EReal) = (Z.E h s y : EReal) := by
  unfold Ex
  rw [ex_at, Sc_real Z, Mx_eq Z]
  exact Row.exp_score s (Z.R h s) (Z.μ h s) y

theorem Sm_eq (h : Fin 8) (s : Fin 8192) : (Sm m c (ix2 h s) : EReal) = (Z.L h s : EReal) := by
  unfold Sm
  rw [sm_at]
  simp only [Ex_eq Z]
  exact (Row.coe_sum _).symm

theorem prob_eq (h : Fin 8) (s y : Fin 8192) :
    (prob (Ex m c) (Sm m c) (ix3 h s y) : EReal) = ((Z.E h s y / Z.L h s : ℝ) : EReal) := by
  rw [prob_at, Ex_eq Z, Sm_eq Z]
  exact Row.div_real _ (L_pos Z h s).ne'

/-- The kernel's product of a query and a key over the 128 columns. -/
theorem qk_real (h : Fin 8) (s y : Fin 8192) :
    (∑ x : Fin 128, (Ak m c (ix3 h y x) : EReal) * (Aq m c (ix3 h s x) : EReal)) * SC = (Z.R h s y : EReal) := by
  rw [split128]
  have h1 : ∀ x : Fin 64, (Ak m c (ix3 h y ⟨x.val, by omega⟩) : EReal) * (Aq m c (ix3 h s ⟨x.val, by omega⟩) : EReal)
      = ((Z.r0 s h x * Z.r2 y h x : ℝ) : EReal) := by
    intro x
    rw [Ak_at, Aq_at, dif_pos x.isLt, dif_pos x.isLt, Z.e0, Z.e2, ← EReal.coe_mul, mul_comm]
  have h2 : ∀ x : Fin 32, (Ak m c (ix3 h y ⟨64 + x.val, by omega⟩) : EReal) * (Aq m c (ix3 h s ⟨64 + x.val, by omega⟩) : EReal)
      = ((Z.r1 s h x * Z.r3 y x : ℝ) : EReal) := by
    intro x
    have n1 : ¬ 64 + x.val < 64 := by omega
    have n2 : 64 + x.val - 64 < 32 := by omega
    have n3 : (⟨64 + x.val - 64, n2⟩ : Fin 32) = x := Fin.ext (by show 64 + x.val - 64 = x.val; omega)
    rw [Ak_at, Aq_at, dif_neg n1, dif_neg n1, dif_pos n2, dif_pos n2, n3, Z.e1, Z.e3, ← EReal.coe_mul, mul_comm]
  have h3 : ∀ x : Fin 32, (Ak m c (ix3 h y ⟨96 + x.val, by omega⟩) : EReal) * (Aq m c (ix3 h s ⟨96 + x.val, by omega⟩) : EReal) = 0 := by
    intro x
    have n1 : ¬ 96 + x.val < 64 := by omega
    have n2 : ¬ 96 + x.val - 64 < 32 := by omega
    rw [Ak_at, dif_neg n1, dif_neg n2, zero_mul]
  simp only [h1, h2, h3, Finset.sum_const_zero, add_zero, ← Row.coe_sum, ← EReal.coe_add, Z.es, ← EReal.coe_mul]
  rfl

/-- The kernel's probability under the mask is the softmax. -/
theorem Pm_eq (h : Fin 8) (s y : Fin 8192) : Pm m c h y s = ((Z.E h s y / Z.L h s : ℝ) : EReal) := by
  unfold Pm
  by_cases hy : y.val ≤ s.val
  · rw [if_pos hy]
    unfold P
    rw [qk_real Z, Al_at, Mx_eq Z, Sm_eq Z]
    exact Row.exp_lse s (Z.R h s) (Z.μ h s) (Z.L h s) (L_pos Z h s) y hy
  · rw [if_neg hy]
    have : Z.E h s y = 0 := if_neg hy
    rw [this, zero_div, EReal.coe_zero]

/-- The kernel's gradient of the softmax less the row's loss. -/
theorem Gd_eq (h : Fin 8) (s y : Fin 8192) :
    Gd m c h y s = ((Z.g h s y - ∑ k, Z.g h s k * (Z.E h s k / Z.L h s) : ℝ) : EReal) := by
  have hd : (Ad m c (ix3 h 0 s) : EReal) = ((∑ k, Z.g h s k * (Z.E h s k / Z.L h s) : ℝ) : EReal) := by
    rw [Ad_at]
    simp only [Ex_eq Z, Sm_eq Z, Row.div_real _ (L_pos Z h s).ne', Z.e4, Z.e5, ← EReal.coe_mul, ← Row.coe_sum]
    exact congrArg _ (Row.delta (Z.r5 s h) (fun k x => Z.r4 k h x) fun k => Z.E h s k / Z.L h s)
  unfold Gd
  rw [hd, EReal.coe_sub]
  refine congrArg₂ (· - ·) ?_ rfl
  unfold Reals.g
  rw [Row.coe_sum]
  refine Finset.sum_congr rfl fun x _ => ?_
  rw [Av_at, Ao_at, Z.e4, Z.e5, ← EReal.coe_mul, mul_comm]

theorem dpr_eq (h : Fin 8) (s y : Fin 8192) : (dpr (a5 m c) (a4 m c) (ix3 h s y) : EReal) = (Z.g h s y : EReal) := by
  rw [dpr_at]
  simp only [Z.e4, Z.e5, ← EReal.coe_mul, ← Row.coe_sum]
  rfl

theorem loss_eq (h : Fin 8) (s : Fin 8192) :
    (loss (dpr (a5 m c) (a4 m c)) (Ex m c) (Sm m c) (ix2 h s) : EReal)
      = ((-∑ k, Z.g h s k * (1 / (Z.L h s * Z.L h s)) * Z.E h s k : ℝ) : EReal) := by
  have hL := (L_pos Z h s).ne'
  rw [loss_at]
  have hr : (rcp (Sm m c) (ix3 h s 0) : EReal) = ((1 / (Z.L h s * Z.L h s) : ℝ) : EReal) := by
    rw [rcp_at, Sm_eq Z, ← EReal.coe_mul, ← EReal.coe_one]
    exact Row.div_real 1 (mul_ne_zero hL hL)
  simp only [hr, dpr_eq Z, Ex_eq Z, ← EReal.coe_mul, ← Row.coe_sum, ← EReal.coe_neg]

/-- The kernel's gradient of a score is the reference's. -/
theorem ds_eq (h : Fin 8) (s y : Fin 8192) :
    ds (Pm m c h y s) (Gd m c h y s) = (dsc (dpr (a5 m c) (a4 m c)) (Ex m c) (Sm m c) (ix3 h s y) : EReal) := by
  have hL := (L_pos Z h s).ne'
  rw [dsc_at, loss_eq Z, dpr_eq Z, Ex_eq Z, Sm_eq Z]
  unfold ds
  rw [Pm_eq Z, Gd_eq Z]
  refine congrArg (· * SC) ?_
  by_cases hy : y.val ≤ s.val
  · rw [if_pos hy, Row.div_real _ hL, ← EReal.coe_add, ← EReal.coe_mul, ← EReal.coe_mul]
    exact congrArg _ (Row.grad (Z.g h s) (Z.E h s) (Z.L h s) hL y).symm
  · rw [if_neg hy]
    have : Z.E h s y = 0 := if_neg hy
    rw [this, zero_div, EReal.coe_zero, zero_mul]

end Cert.FlashBwd
end
-- ==== Proof.Refr.lean ====
/-
  What the reference's five results are of its arguments, through the functions of `Soft`.
-/
module

public import proofs.«01_k».proof.Proof.Soft
public import proofs.«01_k».proof.Proof.Gen.ReferenceIdeal.Run

@[expose] public section

noncomputable section

namespace Cert.FlashBwd

open Idealize.ShloMosaic Idealize.ShloMosaic.TcCoe
open Idealize.ShloMosaic.Pointwise

/-- A row value, or -inf where that is more. -/
def rmx (M : FVec Ideal KernelIdeal.S8x8192 .f32) : FVec Ideal KernelIdeal.S8x8192 .f32 :=
  maximumf (broadcastInDim KernelIdeal.S8x8192 ![] ReferenceIdeal.Gen.bcast_S_S8x8192 (constant KernelIdeal.S_ .f32 0xFF800000#32)) M

theorem rmx_at (M : FVec Ideal KernelIdeal.S8x8192 .f32) (h : Fin 8) (s : Fin 8192) :
    (rmx M (ix2 h s) : EReal) = (M (ix2 h s) : EReal) := by
  unfold rmx
  pointwise
  rw [minusInf]
  generalize M (ix2 h s) = z
  exact max_eq_right (bot_le (a := (z : EReal)))

theorem rmx_eq (M : FVec Ideal KernelIdeal.S8x8192 .f32) : rmx M = M := by
  funext i
  rw [eq_ix2 i]
  exact rmx_at M _ _

section
variable (m : (ℓ : Loc ReferenceIdeal.nD ReferenceIdeal.τ ReferenceIdeal.sig) → Buf (Elt Ideal) ℓ) (c : Dev ReferenceIdeal.nD)

/-- The six arguments. -/
abbrev b0 : FVec Ideal KernelIdeal.S8192x8x64 .f32 := m ((c.tc : Thread ReferenceIdeal.nD ReferenceIdeal.τ).loc ReferenceIdeal.main_arg0)
abbrev b1 : FVec Ideal KernelIdeal.S8192x8x32 .f32 := m ((c.tc : Thread ReferenceIdeal.nD ReferenceIdeal.τ).loc ReferenceIdeal.main_arg1)
abbrev b2 : FVec Ideal KernelIdeal.S8192x8x64 .f32 := m ((c.tc : Thread ReferenceIdeal.nD ReferenceIdeal.τ).loc ReferenceIdeal.main_arg2)
abbrev b3 : FVec Ideal KernelIdeal.S8192x32 .f32 := m ((c.tc : Thread ReferenceIdeal.nD ReferenceIdeal.τ).loc ReferenceIdeal.main_arg3)
abbrev b4 : FVec Ideal KernelIdeal.S8192x8x64 .f32 := m ((c.tc : Thread ReferenceIdeal.nD ReferenceIdeal.τ).loc ReferenceIdeal.main_arg4)
abbrev b5 : FVec Ideal KernelIdeal.S8192x8x64 .f32 := m ((c.tc : Thread ReferenceIdeal.nD ReferenceIdeal.τ).loc ReferenceIdeal.main_arg5)

/-- The reference's scores, exponentials and row sums, and its gradient of the scores. -/
def Rsc : FVec Ideal KernelIdeal.S8x8192x8192 .f32 := scores (b0 m c) (b1 m c) (b2 m c) (b3 m c)
def Rex : FVec Ideal KernelIdeal.S8x8192x8192 .f32 := ex (Rsc m c) (rmx (mx (Rsc m c)))
def Rsm : FVec Ideal KernelIdeal.S8x8192 .f32 := sm (Rex m c)
def Rds : FVec Ideal KernelIdeal.S8x8192x8192 .f32 := dsc (dpr (b5 m c) (b4 m c)) (Rex m c) (Rsm m c)

open ReferenceIdeal ReferenceIdeal.Gen in
set_option maxRecDepth 8192 in
theorem ref4 : ReferenceIdeal.Value.res_out4 m c = dval (b5 m c) (prob (Rex m c) (Rsm m c)) := by
  unfold ReferenceIdeal.Value.res_out4 ReferenceIdeal.Value.res_main_v48
  rfl

open ReferenceIdeal ReferenceIdeal.Gen in
set_option maxRecDepth 8192 in
theorem ref3 : ReferenceIdeal.Value.res_out3 m c
    = Host.dotGeneral dot_S8192x8192x8_S8192x8x32_S8192x32_12_01_0_2_n_n none
        (transpose S8192x8192x8 [2, 1, 0] (Rds m c) transposes_S8x8192x8192_S8192x8192x8_2_1_0) (b1 m c) := by
  unfold ReferenceIdeal.Value.res_out3 ReferenceIdeal.Value.res_main_v66
  rfl

open ReferenceIdeal ReferenceIdeal.Gen in
set_option maxRecDepth 8192 in
theorem ref2 : ReferenceIdeal.Value.res_out2 m c
    = transpose S8192x8x64 [1, 0, 2] (Host.dotGeneral dot_S8x8192x8192_S8192x8x64_S8x8192x64_1_0_2_2_0_1 none (Rds m c) (b0 m c)) transposes_S8x8192x64_S8192x8x64_1_0_2 := by
  unfold ReferenceIdeal.Value.res_out2 ReferenceIdeal.Value.res_main_v68
  rfl

open ReferenceIdeal ReferenceIdeal.Gen in
set_option maxRecDepth 8192 in
theorem ref1 : ReferenceIdeal.Value.res_out1 m c
    = Host.dotGeneral dot_S8192x8192x8_S8192x32_S8192x8x32_0_0_12_1_n_n none
        (transpose S8192x8192x8 [2, 1, 0] (Rds m c) transposes_S8x8192x8192_S8192x8192x8_2_1_0) (b3 m c) := by
  unfold ReferenceIdeal.Value.res_out1 ReferenceIdeal.Value.res_main_v65
  rfl

open ReferenceIdeal ReferenceIdeal.Gen in
set_option maxRecDepth 8192 in
theorem ref0 : ReferenceIdeal.Value.res_out0 m c
    = transpose S8192x8x64 [1, 0, 2] (Host.dotGeneral dot_S8x8192x8192_S8192x8x64_S8x8192x64_2_0_1_2_0_1 none (Rds m c) (b2 m c)) transposes_S8x8192x64_S8192x8x64_1_0_2 := by
  unfold ReferenceIdeal.Value.res_out0 ReferenceIdeal.Value.res_main_v70
  rfl

/-- The gradient of the values, at an index. -/
theorem ref4_at (y : Fin 8192) (h : Fin 8) (d : Fin 64) :
    (ReferenceIdeal.Value.res_out4 m c (ix3 y h d) : EReal)
      = ∑ s : Fin 8192, (b5 m c (ix3 s h d) : EReal) * (prob (Rex m c) (Rsm m c) (ix3 h s y) : EReal) := by
  rw [ref4]
  exact dval_at _ _ h y d

/-- The gradient of the rotated key: summed over the heads as well. -/
theorem ref3_at (y : Fin 8192) (x : Fin 32) :
    (ReferenceIdeal.Value.res_out3 m c (ix2 y x) : EReal)
      = ∑ h : Fin 8, ∑ s : Fin 8192, (Rds m c (ix3 h s y) : EReal) * (b1 m c (ix3 s h x) : EReal) := by
  rw [ref3]
  pointwise
  exact Finset.sum_comm (f := fun (s : Fin 8192) (h : Fin 8) => (Rds m c (ix3 h s y) : EReal) * (b1 m c (ix3 s h x) : EReal))

/-- The gradient of the unrotated keys. -/
theorem ref2_at (y : Fin 8192) (h : Fin 8) (x : Fin 64) :
    (ReferenceIdeal.Value.res_out2 m c (ix3 y h x) : EReal)
      = ∑ s : Fin 8192, (Rds m c (ix3 h s y) : EReal) * (b0 m c (ix3 s h x) : EReal) := by
  rw [ref2]
  pointwise

/-- The gradient of the rotated queries. -/
theorem ref1_at (s : Fin 8192) (h : Fin 8) (x : Fin 32) :
    (ReferenceIdeal.Value.res_out1 m c (ix3 s h x) : EReal)
      = ∑ y : Fin 8192, (Rds m c (ix3 h s y) : EReal) * (b3 m c (ix2 y x) : EReal) := by
  rw [ref1]
  pointwise

/-- The gradient of the unrotated queries. -/
theorem ref0_at (s : Fin 8192) (h : Fin 8) (x : Fin 64) :
    (ReferenceIdeal.Value.res_out0 m c (ix3 s h x) : EReal)
      = ∑ y : Fin 8192, (Rds m c (ix3 h s y) : EReal) * (b2 m c (ix3 y h x) : EReal) := by
  rw [ref0]
  pointwise

end

end Cert.FlashBwd
end
-- ==== Proof.Result.lean ====
/-
  The five results: what the host operations after the region make of the kernel's three arrays is what the reference
  returns.
-/
module

public import proofs.«01_k».proof.Proof.Equal
public import proofs.«01_k».proof.Proof.Refr
public import proofs.«01_k».proof.Defs

@[expose] public section

noncomputable section

namespace Cert.FlashBwd

open Idealize.ShloMosaic Idealize.ShloMosaic.TcCoe Cert.KernelIdeal Cert.KernelIdeal.Gen
open Idealize.ShloMosaic.Pointwise

variable {m : (ℓ : Loc nD τ sig) → Buf (Elt Ideal) ℓ} {c : Dev nD}
variable {m' : (ℓ : Loc ReferenceIdeal.nD ReferenceIdeal.τ ReferenceIdeal.sig) → Buf (Elt Ideal) ℓ}

/-- The two memories hold the same arguments. -/
structure Agree (m : (ℓ : Loc nD τ sig) → Buf (Elt Ideal) ℓ)
    (m' : (ℓ : Loc ReferenceIdeal.nD ReferenceIdeal.τ ReferenceIdeal.sig) → Buf (Elt Ideal) ℓ) (c : Dev nD) : Prop where
  g0 : b0 m' c = a0 m c
  g1 : b1 m' c = a1 m c
  g2 : b2 m' c = a2 m c
  g3 : b3 m' c = a3 m c
  g4 : b4 m' c = a4 m c
  g5 : b5 m' c = a5 m c

theorem Agree.ex (G : Agree m m' c) : Rex m' c = Ex m c := by
  unfold Rex Rsc Ex Mx Sc
  rw [rmx_eq, G.g0, G.g1, G.g2, G.g3]

theorem Agree.sm (G : Agree m m' c) : Rsm m' c = Sm m c := by
  unfold Rsm Sm
  rw [G.ex]

theorem Agree.ds (G : Agree m m' c) : Rds m' c = dsc (dpr (a5 m c) (a4 m c)) (Ex m c) (Sm m c) := by
  unfold Rds
  rw [G.ex, G.sm, G.g4, G.g5]

/-- The unrotated queries' gradient, read off the kernel's first array. -/
def outQn (m : (ℓ : Loc nD τ sig) → Buf (Elt Ideal) ℓ) (c : Dev nD) : FVec Ideal S8192x8x64 .f32 :=
  extractStridedSlice S8192x8x64 ![0, 0, 0] (transpose S8192x8x128 [2, 0, 1] (resQ m c) transposes_S8x128x8192_S8192x8x128_2_0_1) slices_S8192x8x128_S8192x8x64_0_0_0

/-- The rotated queries' gradient, read off the kernel's first array. -/
def outQr (m : (ℓ : Loc nD τ sig) → Buf (Elt Ideal) ℓ) (c : Dev nD) : FVec Ideal S8192x8x32 .f32 :=
  extractStridedSlice S8192x8x32 ![0, 0, 64] (transpose S8192x8x128 [2, 0, 1] (resQ m c) transposes_S8x128x8192_S8192x8x128_2_0_1) slices_S8192x8x128_S8192x8x32_0_0_64

/-- The unrotated keys' gradient, read off the kernel's second array. -/
def outKn (m : (ℓ : Loc nD τ sig) → Buf (Elt Ideal) ℓ) (c : Dev nD) : FVec Ideal S8192x8x64 .f32 :=
  extractStridedSlice S8192x8x64 ![0, 0, 0] (transpose S8192x8x128 [1, 0, 2] (resK m c) transposes_S8x8192x128_S8192x8x128_1_0_2) slices_S8192x8x128_S8192x8x64_0_0_0

/-- The rotated key's gradient, the sum over the heads of the kernel's second array. -/
def outKr (m : (ℓ : Loc nD τ sig) → Buf (Elt Ideal) ℓ) (c : Dev nD) : FVec Ideal S8192x32 .f32 :=
  Host.reduceAdd (extractStridedSlice S8192x8x32 ![0, 0, 64] (transpose S8192x8x128 [1, 0, 2] (resK m c) transposes_S8x8192x128_S8192x8x128_1_0_2) slices_S8192x8x128_S8192x8x32_0_0_64)
    (constant S_ .f32 0x00000000#32) reducesTo_S8192x8x32_S8192x32_d1 h_S_

/-- The values' gradient, read off the kernel's third array. -/
def outV (m : (ℓ : Loc nD τ sig) → Buf (Elt Ideal) ℓ) (c : Dev nD) : FVec Ideal S8192x8x64 .f32 :=
  transpose S8192x8x64 [1, 0, 2] (resV m c) transposes_S8x8192x64_S8192x8x64_1_0_2

variable (Z : Reals m c) (G : Agree m m' c)
include Z G

/-- The unrotated queries' gradient. -/
theorem result0 : outQn m c = ReferenceIdeal.Value.res_out0 m' c := by
  funext i
  obtain ⟨s, h, x, rfl⟩ : ∃ (s : Fin 8192) (h : Fin 8) (x : Fin 64), i = ix3 s h x := ⟨i 0, i 1, i 2, eq_ix3 i⟩
  refine Eq.trans ?_ (ref0_at m' c s h x).symm
  unfold outQn resQ
  pointwise
  refine Finset.sum_congr rfl fun y _ => ?_
  unfold tq
  rw [At_at, Ak_at, dif_pos x.isLt, ds_eq Z, G.ds, G.g2, mul_comm]

/-- The rotated queries' gradient. -/
theorem result1 : outQr m c = ReferenceIdeal.Value.res_out1 m' c := by
  funext i
  obtain ⟨s, h, x, rfl⟩ : ∃ (s : Fin 8192) (h : Fin 8) (x : Fin 32), i = ix3 s h x := ⟨i 0, i 1, i 2, eq_ix3 i⟩
  refine Eq.trans ?_ (ref1_at m' c s h x).symm
  unfold outQr resQ
  pointwise
  refine Finset.sum_congr rfl fun y _ => ?_
  unfold tq
  rw [At_at, Ak_at, dif_neg (by simp), dif_pos (by simp), ds_eq Z, G.ds, G.g3, mul_comm]
  simp only [Nat.add_sub_cancel_left, Fin.eta]

/-- The unrotated keys' gradient. -/
theorem result2 : outKn m c = ReferenceIdeal.Value.res_out2 m' c := by
  funext i
  obtain ⟨y, h, x, rfl⟩ : ∃ (s : Fin 8192) (h : Fin 8) (x : Fin 64), i = ix3 s h x := ⟨i 0, i 1, i 2, eq_ix3 i⟩
  refine Eq.trans ?_ (ref2_at m' c y h x).symm
  unfold outKn resK
  pointwise
  refine Finset.sum_congr rfl fun s _ => ?_
  unfold tk
  rw [Aq_at, dif_pos x.isLt, ds_eq Z, G.ds, G.g0]

/-- The rotated key's gradient, summed over the heads. -/
theorem result3 : outKr m c = ReferenceIdeal.Value.res_out3 m' c := by
  funext i
  obtain ⟨y, x, rfl⟩ : ∃ (s : Fin 8192) (x : Fin 32), i = ix2 s x := ⟨i 0, i 1, eq_ix2 i⟩
  refine Eq.trans ?_ (ref3_at m' c y x).symm
  unfold outKr resK
  pointwise
  refine Finset.sum_congr rfl fun h _ => Finset.sum_congr rfl fun s _ => ?_
  unfold tk
  rw [Aq_at, dif_neg (by simp), dif_pos (by simp), ds_eq Z, G.ds, G.g1]
  simp only [Nat.add_sub_cancel_left, Fin.eta]

/-- The values' gradient. -/
theorem result4 : outV m c = ReferenceIdeal.Value.res_out4 m' c := by
  funext i
  obtain ⟨y, h, x, rfl⟩ : ∃ (s : Fin 8192) (h : Fin 8) (x : Fin 64), i = ix3 s h x := ⟨i 0, i 1, i 2, eq_ix3 i⟩
  refine Eq.trans ?_ (ref4_at m' c y h x).symm
  unfold outV resV
  pointwise
  refine Finset.sum_congr rfl fun s _ => ?_
  unfold tv
  rw [Pm_eq Z, ← prob_eq Z, Ao_at, G.ex, G.sm, G.g5, mul_comm]

omit Z G

/-- A finite array holds real numbers: its absolute values lie below infinity. -/
theorem real_of {s : Shape} (x : FVec Ideal s .f32) (b : S_.BroadcastsInDim s (![] : Fin 0 → Fin s.rank))
    (e : cmpf .olt (Host.absf x) (broadcastInDim s ![] b (constant S_ .f32 0x7F800000#32)) = fun _ => (1#1 : BitVec 1)) (i : s.Idx) :
    ∃ r : ℝ, (x i : EReal) = (r : EReal) := by
  have htop : Ideal.ofBits .f32 0x7F800000#32 = ⊤ := by simp [Ideal.ofBits, Ideal.ieee]
  have e1 : BitVec.ofBool (decide (max (x i : EReal) (-(x i : EReal)) < Ideal.ofBits .f32 0x7F800000#32)) = (1#1 : BitVec 1) := by
    refine Eq.trans ?_ (congrFun e i)
    pointwise
    rfl
  rw [htop] at e1
  have e2 : max (x i : EReal) (-(x i : EReal)) < ⊤ := by
    by_contra h
    rw [decide_eq_false h] at e1
    exact absurd e1 (by decide)
  obtain ⟨h1, h2⟩ := max_lt_iff.1 e2
  refine ⟨(x i : EReal).toReal, (EReal.coe_toReal h1.ne ?_).symm⟩
  intro h
  rw [h] at h2
  simp at h2

/-- Finite arguments are arrays of real numbers. -/
theorem reals_of [Cert.Pre_finite.Facts] (h : Pre_KernelIdeal_finite m) (c : Dev nD) : Nonempty (Reals m c) := by
  obtain ⟨h0, h1, h2, h3, h4, h5⟩ := h c
  have r0 := real_of (a0 m c) _ h0
  have r1 := real_of (a1 m c) _ h1
  have r2 := real_of (a2 m c) _ h2
  have r3 := real_of (a3 m c) _ h3
  have r4 := real_of (a4 m c) _ h4
  have r5 := real_of (a5 m c) _ h5
  obtain ⟨sc, es⟩ := SC_real
  exact ⟨{
    r0 := fun s h x => (r0 (ix3 s h x)).choose
    r1 := fun s h x => (r1 (ix3 s h x)).choose
    r2 := fun s h x => (r2 (ix3 s h x)).choose
    r3 := fun s x => (r3 (ix2 s x)).choose
    r4 := fun s h x => (r4 (ix3 s h x)).choose
    r5 := fun s h x => (r5 (ix3 s h x)).choose
    sc := sc
    e0 := fun s h x => (r0 (ix3 s h x)).choose_spec
    e1 := fun s h x => (r1 (ix3 s h x)).choose_spec
    e2 := fun s h x => (r2 (ix3 s h x)).choose_spec
    e3 := fun s x => (r3 (ix2 s x)).choose_spec
    e4 := fun s h x => (r4 (ix3 s h x)).choose_spec
    e5 := fun s h x => (r5 (ix3 s h x)).choose_spec
    es := es }⟩

end Cert.FlashBwd
end
-- ==== Proof.Tail.lean ====
/-
  What the host operations after the region leave in the five results, given the kernel's three arrays.
-/
module

public import proofs.«01_k».proof.Proof.Result
public import proofs.«01_k».proof.Proof.Acc
public import proofs.«01_k».proof.Proof.Gen.KernelIdeal.Frame

@[expose] public section

noncomputable section

namespace Cert.FlashBwd

open Idealize.ShloMosaic Idealize.ShloMosaic.TcCoe Cert.KernelIdeal Cert.KernelIdeal.Gen

variable (m : (ℓ : Loc nD τ sig) → Buf (Elt Ideal) ℓ) (c : Dev nD)

/-- The buffers as the region leaves them. -/
def W : Valuation τ sig (Elt Ideal) :=
  Pipeline.withArrays (cfgs 0).spec c (V0 m c) fun w => (dats m 0 c).arrAt w (cfgs 0).N

theorem arr_inj : Function.Injective (Pipeline.arrRef spec0) := by decide

theorem W_q : W m c (Proc.devRef .tc main_v47_0) = resQ m c :=
  (Pipeline.withArrays_arr spec0 arr_inj c (V0 m c) (fun w => (dats m 0 c).arrAt w (cfgs 0).N) 7).trans (final_q m c)

theorem W_k : W m c (Proc.devRef .tc main_v47_1) = resK m c :=
  (Pipeline.withArrays_arr spec0 arr_inj c (V0 m c) (fun w => (dats m 0 c).arrAt w (cfgs 0).N) 8).trans (final_k m c)

theorem W_v : W m c (Proc.devRef .tc main_v47_2) = resV m c :=
  (Pipeline.withArrays_arr spec0 arr_inj c (V0 m c) (fun w => (dats m 0 c).arrAt w (cfgs 0).N) 9).trans (final_v m c)

theorem tail_outQn : Pipeline.afterTail₀ cfgs (dats m) 0 (V0 m) [hostOps1] c main_v53 = outQn m c := by
  unfold outQn
  rw [← W_q]
  show StableHlo.after [hostOps1].flatten (W m c) _ = _
  generalize W m c = w
  simp only [hostOps1, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

theorem tail_outQr : Pipeline.afterTail₀ cfgs (dats m) 0 (V0 m) [hostOps1] c main_v54 = outQr m c := by
  unfold outQr
  rw [← W_q]
  show StableHlo.after [hostOps1].flatten (W m c) _ = _
  generalize W m c = w
  simp only [hostOps1, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

theorem tail_outKn : Pipeline.afterTail₀ cfgs (dats m) 0 (V0 m) [hostOps1] c main_v55 = outKn m c := by
  unfold outKn
  rw [← W_k]
  show StableHlo.after [hostOps1].flatten (W m c) _ = _
  generalize W m c = w
  simp only [hostOps1, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

theorem tail_outKr : Pipeline.afterTail₀ cfgs (dats m) 0 (V0 m) [hostOps1] c main_v52 = outKr m c := by
  unfold outKr
  rw [← W_k]
  show StableHlo.after [hostOps1].flatten (W m c) _ = _
  generalize W m c = w
  simp only [hostOps1, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

theorem tail_outV : Pipeline.afterTail₀ cfgs (dats m) 0 (V0 m) [hostOps1] c main_v50 = outV m c := by
  unfold outV
  rw [← W_v]
  show StableHlo.after [hostOps1].flatten (W m c) _ = _
  generalize W m c = w
  simp only [hostOps1, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

end Cert.FlashBwd
end
-- ==== Proof.FfnRun.lean ====
/-
  The run of the feed-forward layer's three calls, one after the other: what the last one leaves in the result, read off
  the chain of buffer contents between the calls.
-/
module

public import proofs.«01_k».proof.Proof.Gen.FfnKernelIdeal.Frame

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnKernelIdeal Cert.FfnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A run of the three calls leaves in the result what the third call's write-backs fold to, and the arguments unchanged. -/
theorem run : θ_run defs (onTc (τ := τ) (main (F := F))) ⟨m, fun _ => 0, ρ⟩ (fun r => ∀ c : Dev nD,
      r.2.mem ((c.tc : Thread nD τ).loc main_v13_1) = (dat2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v13_1 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Ffn
end
-- ==== Proof.FfnPass.lean ====
/-
  The feed-forward layer's three calls, each against the reference's lines: the gated products, the product with the
  down projection, the scaled residual sum under the norm.
-/
module

public import proofs.«01_k».proof.Proof.FfnRun
public import proofs.«01_k».proof.Proof.Gen.FfnReferenceIdeal
public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe Idealize.SL.Sem
open Idealize.ShloMosaic.Pointwise
open Cert.FfnKernelIdeal Cert.FfnKernelIdeal.Gen

/-- A first product of the layer: the inputs times a projection. -/
abbrev up (X : FVec Ideal S8192x1024 .f32) (W : FVec Ideal S1024x2816 .f32) : FVec Ideal S8192x2816 .f32 :=
  Host.dotGeneral FfnReferenceIdeal.dot_S8192x1024_S1024x2816_S8192x2816_1_0_0_1_n_n none X W

/-- The number one, everywhere. -/
abbrev ones : FVec Ideal S8192x2816 .f32 :=
  broadcastInDim FfnReferenceIdeal.S8192x2816 ![] FfnReferenceIdeal.Gen.bcast_S_S8192x2816 (constant FfnReferenceIdeal.S_ .f32 0x3F800000#32)

/-- The gated activation: one product times its logistic, times the other product. -/
abbrev gated (X : FVec Ideal S8192x1024 .f32) (Wg Wu : FVec Ideal S1024x2816 .f32) : FVec Ideal S8192x2816 .f32 :=
  mulf (mulf (up X Wg) (Host.divf ones (addf ones (Host.exp (Host.negf (up X Wg)))))) (up X Wu)

/-- The product with the down projection. -/
abbrev down (H : FVec Ideal S8192x2816 .f32) (W : FVec Ideal S2816x1024 .f32) : FVec Ideal S8192x1024 .f32 :=
  Host.dotGeneral FfnReferenceIdeal.dot_S8192x2816_S2816x1024_S8192x1024_1_0_0_1_n_n none H W

/-- A number of the float word `w`, everywhere. -/
abbrev lit (w : BitVec 32) : FVec Ideal S8192x1024 .f32 :=
  broadcastInDim FfnReferenceIdeal.S8192x1024 ![] FfnReferenceIdeal.Gen.bcast_S_S8192x1024 (constant FfnReferenceIdeal.S_ .f32 w)

abbrev litc (w : BitVec 32) : FVec Ideal FfnReferenceIdeal.S8192x1 .f32 :=
  broadcastInDim FfnReferenceIdeal.S8192x1 ![] FfnReferenceIdeal.Gen.bcast_S_S8192x1 (constant FfnReferenceIdeal.S_ .f32 w)

/-- The scaled residual sum. -/
abbrev resid (X Y : FVec Ideal S8192x1024 .f32) : FVec Ideal S8192x1024 .f32 :=
  addf (mulf (lit 0x3FD744FD#32) X) (mulf (lit 0x3F000000#32) Y)

/-- The mean of every row. -/
abbrev mean (Z : FVec Ideal S8192x1024 .f32) : FVec Ideal FfnReferenceIdeal.S8192x1 .f32 :=
  Host.divf (broadcastInDim FfnReferenceIdeal.S8192x1 ![0] FfnReferenceIdeal.Gen.bcast_S8192_S8192x1_0
    (Host.reduceAdd Z (constant FfnReferenceIdeal.S_ .f32 0x00000000#32) FfnReferenceIdeal.Gen.reducesTo_S8192x1024_S8192_d1 FfnReferenceIdeal.Gen.h_S_)) (litc 0x44800000#32)

/-- A number per row, along the row. -/
abbrev along (Z : FVec Ideal FfnReferenceIdeal.S8192x1 .f32) : FVec Ideal S8192x1024 .f32 :=
  broadcastInDim FfnReferenceIdeal.S8192x1024 ![0, 1] FfnReferenceIdeal.Gen.bcast_S8192x1_S8192x1024_0_1 Z

/-- A vector, down the columns. -/
abbrev cols (G : FVec Ideal S1024 .f32) : FVec Ideal S8192x1024 .f32 :=
  broadcastInDim FfnReferenceIdeal.S8192x1024 ![0, 1] FfnReferenceIdeal.Gen.bcast_S1x1024_S8192x1024_0_1
    (broadcastInDim FfnReferenceIdeal.S1x1024 ![1] FfnReferenceIdeal.Gen.bcast_S1024_S1x1024_1 G)

/-- The norm of the rows. -/
abbrev norm (Z : FVec Ideal S8192x1024 .f32) (G B : FVec Ideal S1024 .f32) : FVec Ideal S8192x1024 .f32 :=
  addf (mulf (mulf (subf Z (along (mean Z)))
    (along (Host.rsqrt (addf (mean (mulf (subf Z (along (mean Z))) (subf Z (along (mean Z))))) (litc 0x3727C5AC#32))))) (cols G)) (cols B)

variable (m : (ℓ : Loc nD τ sig) → Buf (Elt Ideal) ℓ) (ρ : Dev nD → PrngReg)

/-- Where the first call's blocks lie. -/
theorem idx0 : ∀ t : Fin cfg0.N, win0_0.index t = ![t.val / 11, 0] ∧ win0_1.index t = ![0, t.val % 11, 0]
    ∧ win0_2.index t = ![1, t.val % 11, 0] ∧ win0_4.index t = ![t.val / 11, t.val % 11] :=
  (by decide +kernel : ∀ t : Fin grid0.N, _)

/-- Where the second call's blocks lie. -/
theorem idx1 : ∀ t : Fin cfg1.N, win1_0.index t = ![t.val / 2, 0] ∧ win1_1.index t = ![0, t.val % 2]
    ∧ win1_2.index t = ![t.val / 2, t.val % 2] :=
  (by decide +kernel : ∀ t : Fin grid1.N, _)

/-- Where the third call's blocks lie. -/
theorem idx2 : ∀ t : Fin cfg2.N, win2_0.index t = ![t.val, 0] ∧ win2_1.index t = ![t.val, 0]
    ∧ win2_2.index t = ![0, 0] ∧ win2_3.index t = ![0, 0] ∧ win2_5.index t = ![t.val, 0] :=
  (by decide +kernel : ∀ t : Fin grid2.N, _)

/-- The rounded inputs that the host code prepares. -/
theorem host_x (c : Dev nD) (i : S8192x1024.Idx) :
    ((V1 m ρ c main_v8 : Vec Ideal S8192x1024 .bf16) i : EReal) = m ((c.tc : Thread nD τ).loc main_arg0) i := by
  unfold V1 W1
  simp only [hostOps0]
  after_results_simp
  pointwise

/-- The first of the stacked transposed projections. -/
theorem host_g (c : Dev nD) (j : Fin 2816) (k : Fin 1024) :
    ((V1 m ρ c main_v6 : Vec Ideal S2x2816x1024 .bf16) (ix3 0 j k) : EReal) = m ((c.tc : Thread nD τ).loc main_arg1) (ix2 k j) := by
  unfold V1 W1
  simp only [hostOps0]
  after_results_simp
  pointwise

/-- The second of the stacked transposed projections. -/
theorem host_u (c : Dev nD) (j : Fin 2816) (k : Fin 1024) :
    ((V1 m ρ c main_v6 : Vec Ideal S2x2816x1024 .bf16) (ix3 1 j k) : EReal) = m ((c.tc : Thread nD τ).loc main_arg2) (ix2 k j) := by
  unfold V1 W1
  simp only [hostOps0]
  after_results_simp
  pointwise

/-- The rounded down projection. -/
theorem host_d (c : Dev nD) (i : S2816x1024.Idx) :
    ((V1 m ρ c main_v7 : Vec Ideal S2816x1024 .bf16) i : EReal) = m ((c.tc : Thread nD τ).loc main_arg3) i := by
  unfold V1 W1
  simp only [hostOps0]
  after_results_simp
  pointwise

/-- The norm's gain, as one row. -/
theorem host_gain (c : Dev nD) (j : Fin 1024) :
    ((V1 m ρ c main_v9 : Vec Ideal S1x1024 .f32) (ix2 0 j) : EReal) = m ((c.tc : Thread nD τ).loc main_arg4) (ix1 j) := by
  unfold V1 W1
  simp only [hostOps0]
  after_results_simp
  pointwise

/-- The norm's offset, as one row. -/
theorem host_off (c : Dev nD) (j : Fin 1024) :
    ((V1 m ρ c main_v10 : Vec Ideal S1x1024 .f32) (ix2 0 j) : EReal) = m ((c.tc : Thread nD τ).loc main_arg5) (ix1 j) := by
  unfold V1 W1
  simp only [hostOps0]
  after_results_simp
  pointwise

/-- The gated activation on a block of the first call, at an entry. -/
theorem gated_at (c : Dev nD) (t : Fin cfg0.N) (y : S1024x256.Idx) :
    (k0_pay6 (F := Ideal) (iblk0 (V1 m ρ) c 0 t) (iblk0 (V1 m ρ) c 1 t) (iblk0 (V1 m ρ) c 2 t) y : EReal)
      = gated (m ((c.tc : Thread nD τ).loc main_arg0)) (m ((c.tc : Thread nD τ).loc main_arg1)) (m ((c.tc : Thread nD τ).loc main_arg2))
          (((cfg0.win 4).blk t).view.emb y) := by
  have hN : t.val < 88 := lt_of_lt_of_eq t.isLt N_0
  have hx : ∀ (p : Fin 1024) (k : Fin 1024) (i : Fin 8192), (i : ℕ) = t.val / 11 * 1024 + p →
      ((iblk0 (V1 m ρ) c 0 t : Vec Ideal S1024x1024 .bf16) (ix2 p k) : EReal) = m ((c.tc : Thread nD τ).loc main_arg0) (ix2 i k) := by
    intro p k i hi
    exact Eq.trans (by blk_ext [iblk0, idx0 t]) (host_x m ρ c (ix2 i k))
  have hg : ∀ (q : Fin 256) (k : Fin 1024) (j : Fin 2816), (j : ℕ) = t.val % 11 * 256 + q →
      ((iblk0 (V1 m ρ) c 1 t : Vec Ideal S1x256x1024 .bf16) (ix3 0 q k) : EReal) = m ((c.tc : Thread nD τ).loc main_arg1) (ix2 k j) := by
    intro q k j hj
    exact Eq.trans (by blk_ext [iblk0, idx0 t]) (host_g m ρ c j k)
  have hu : ∀ (q : Fin 256) (k : Fin 1024) (j : Fin 2816), (j : ℕ) = t.val % 11 * 256 + q →
      ((iblk0 (V1 m ρ) c 2 t : Vec Ideal S1x256x1024 .bf16) (ix3 0 q k) : EReal) = m ((c.tc : Thread nD τ).loc main_arg2) (ix2 k j) := by
    intro q k j hj
    exact Eq.trans (by blk_ext [iblk0, idx0 t]) (host_u m ρ c j k)
  obtain_idx i : S8192x2816 := [t.val / 11 * 1024 + (y 0 : ℕ), t.val % 11 * 256 + (y 1 : ℕ)] with hi
  have he : ((cfg0.win 4).blk t).view.emb y = i := by
    blk_ext [idx0 t]
  rw [he]
  pointwise [k0_pay6, k0_pay3, k0_pay2, k0_pay1, gated, up, ones]
  simp only [Ideal.logistic]
  simp only [hx _ _ (i 0) hi0, hg _ _ (i 1) hi1, hu _ _ (i 1) hi1]

/-- What the first call leaves in its second result. -/
theorem pass0 (c : Dev nD) (i : S8192x2816.Idx) :
    ((V2 m ρ c main_v11_1 : Vec Ideal S8192x2816 .bf16) i : EReal)
      = gated (m ((c.tc : Thread nD τ).loc main_arg0)) (m ((c.tc : Thread nD τ).loc main_arg1)) (m ((c.tc : Thread nD τ).loc main_arg2)) i := by
  have h : (dat0 (V1 m ρ) c).arrAt 4 cfg0.N
      = truncf .bf16 (gated (m ((c.tc : Thread nD τ).loc main_arg0)) (m ((c.tc : Thread nD τ).loc main_arg1)) (m ((c.tc : Thread nD τ).loc main_arg2)))
          FfnKernelIdeal.Gen.bitsLt_bf16_f32 := by
    refine (dat0 (V1 m ρ) c).arrAt_eq_of_covers 4 _ (by decide +kernel) fun t hf y => ?_
    blk_simp
    rw [after0_4]
    frame_out
    exact gated_at m ρ c t y
  exact congrFun ((W2_arr m ρ c 4).trans h) i

/-- The down projection stands as the host code left it. -/
theorem keep_d (c : Dev nD) (i : S2816x1024.Idx) :
    ((V2 m ρ c main_v7 : Vec Ideal S2816x1024 .bf16) i : EReal) = m ((c.tc : Thread nD τ).loc main_arg3) i :=
  Eq.trans (congrFun (W2_of_ne m ρ c main_v7 (by decide)) i) (host_d m ρ c i)

/-- What the second call leaves in its result. -/
theorem pass1 (c : Dev nD) :
    (V3 m ρ c main_v12 : Vec Ideal S8192x1024 .f32)
      = down (gated (m ((c.tc : Thread nD τ).loc main_arg0)) (m ((c.tc : Thread nD τ).loc main_arg1)) (m ((c.tc : Thread nD τ).loc main_arg2)))
          (m ((c.tc : Thread nD τ).loc main_arg3)) := by
  refine (W3_arr m ρ c 2).trans ?_
  refine (dat1 (V2 m ρ) c).arrAt_eq_of_covers 2 _ (by decide +kernel) fun t hf y => ?_
  have hN : t.val < 16 := lt_of_lt_of_eq t.isLt N_1
  blk_simp
  rw [after1_2]
  unfold outsAt1
  frame_out
  generalize hH : gated (m ((c.tc : Thread nD τ).loc main_arg0)) (m ((c.tc : Thread nD τ).loc main_arg1)) (m ((c.tc : Thread nD τ).loc main_arg2)) = H
  have hh : ∀ i : S8192x2816.Idx, ((V2 m ρ c main_v11_1 : Vec Ideal S8192x2816 .bf16) i : EReal) = H i := by
    intro i
    rw [← hH]
    exact pass0 m ρ c i
  pointwise [k1_pay1, down]
  refine Fin.sum_fin_congr fun k => congrArg₂ (· * ·) ?_ ?_
  · exact Eq.trans (by blk_ext [iblk1, idx1 t]) (hh _)
  · exact Eq.trans (by blk_ext [iblk1, idx1 t]) (keep_d m ρ c _)

/-- The norm of the scaled residual sum on a block of the third call, at an entry. -/
theorem norm_at (c : Dev nD) (t : Fin cfg2.N) (y : S512x1024.Idx) (X Y : FVec Ideal S8192x1024 .f32) (G B : FVec Ideal S1024 .f32)
    (x0 x1 : Vec Ideal S512x1024 .f32) (x2 x3 : Vec Ideal S1x1024 .f32) (i : S8192x1024.Idx)
    (h0 : ∀ k : Fin 1024, (x0 (ix2 (y 0) k) : EReal) = X (ix2 (i 0) k)) (h1 : ∀ k : Fin 1024, (x1 (ix2 (y 0) k) : EReal) = Y (ix2 (i 0) k))
    (h2 : ∀ k : Fin 1024, (x2 (ix2 0 k) : EReal) = G (ix1 k)) (h3 : ∀ k : Fin 1024, (x3 (ix2 0 k) : EReal) = B (ix1 k))
    (e0 : (x0 y : EReal) = X i) (e1 : (x1 y : EReal) = Y i) (hi : y 1 = i 1) :
    (k2_pay2 (F := Ideal) x0 x1 x2 x3 y : EReal) = norm (resid X Y) G B i := by
  pointwise [k2_pay2, k2_pay1, norm, resid, mean, along, cols, lit, litc]
  simp only [h0, h1, e0, e1, hi]
  exact congrArg₂ (α := EReal) (β := EReal) (· + ·) (congrArg (α := EReal) (_ * ·) (h2 (i 1))) (h3 (i 1))

/-- What the layer computes, by the reference's lines. -/
def out (c : Dev nD) : FVec Ideal S8192x1024 .f32 :=
  norm (resid (m ((c.tc : Thread nD τ).loc main_arg0))
      (down (gated (m ((c.tc : Thread nD τ).loc main_arg0)) (m ((c.tc : Thread nD τ).loc main_arg1)) (m ((c.tc : Thread nD τ).loc main_arg2)))
        (m ((c.tc : Thread nD τ).loc main_arg3))))
    (m ((c.tc : Thread nD τ).loc main_arg4)) (m ((c.tc : Thread nD τ).loc main_arg5))

/-- The inputs stand at the third call as at the launch. -/
theorem keep_x (c : Dev nD) : (V3 m ρ c main_arg0 : Vec Ideal S8192x1024 .f32) = m ((c.tc : Thread nD τ).loc main_arg0) :=
  W3_args m ρ c main_arg0 (by decide)

/-- The gain stands at the third call as the host code left it. -/
theorem keep_gain (c : Dev nD) (j : Fin 1024) :
    ((V3 m ρ c main_v9 : Vec Ideal S1x1024 .f32) (ix2 0 j) : EReal) = m ((c.tc : Thread nD τ).loc main_arg4) (ix1 j) :=
  Eq.trans (congrFun ((W3_of_ne m ρ c main_v9 (by decide)).trans (W2_of_ne m ρ c main_v9 (by decide))) (ix2 0 j)) (host_gain m ρ c j)

/-- The offset stands at the third call as the host code left it. -/
theorem keep_off (c : Dev nD) (j : Fin 1024) :
    ((V3 m ρ c main_v10 : Vec Ideal S1x1024 .f32) (ix2 0 j) : EReal) = m ((c.tc : Thread nD τ).loc main_arg5) (ix1 j) :=
  Eq.trans (congrFun ((W3_of_ne m ρ c main_v10 (by decide)).trans (W2_of_ne m ρ c main_v10 (by decide))) (ix2 0 j)) (host_off m ρ c j)

/-- What the third call leaves in its result. -/
theorem pass2 (c : Dev nD) : (dat2 (V3 m ρ) c).arrAt 5 cfg2.N = out m c := by
  refine (dat2 (V3 m ρ) c).arrAt_eq_of_covers 5 _ (by decide +kernel) fun t hf y => ?_
  have hN : t.val < 16 := lt_of_lt_of_eq t.isLt N_2
  blk_simp
  rw [after2_5]
  frame_out
  unfold out
  have hY := pass1 m ρ c
  generalize down (gated (m ((c.tc : Thread nD τ).loc main_arg0)) (m ((c.tc : Thread nD τ).loc main_arg1)) (m ((c.tc : Thread nD τ).loc main_arg2)))
    (m ((c.tc : Thread nD τ).loc main_arg3)) = Y at hY ⊢
  have hX := keep_x m ρ c
  refine norm_at c t y _ _ _ _ _ _ _ _ _ ?_ ?_ ?_ ?_ ?_ ?_ ?_
  · intro k
    exact Eq.trans (by blk_ext [iblk2, idx2 t]) (congrFun hX _)
  · intro k
    exact Eq.trans (by blk_ext [iblk2, idx2 t]) (congrFun hY _)
  · intro k
    exact Eq.trans (by blk_ext [iblk2, idx2 t]) (keep_gain m ρ c k)
  · intro k
    exact Eq.trans (by blk_ext [iblk2, idx2 t]) (keep_off m ρ c k)
  · exact Eq.trans (by blk_ext [iblk2, idx2 t]) (congrFun hX _)
  · exact Eq.trans (by blk_ext [iblk2, idx2 t]) (congrFun hY _)
  · exact Fin.ext (by blk_simp [idx2 t] <;> try omega)

end Cert.Ffn
end
-- ==== Proof.FfnEnd.lean ====
/-
  The forward pass of a feed-forward layer: the value of the three calls against the reference's line.
-/
module

public import proofs.«01_k».proof.Defs
public import proofs.«01_k».proof.Proof.FfnPass
public import proofs.«01_k».proof.Proof.Gen.FfnReferenceIdeal.Run
public import Idealize.ShloMosaic.Lib.Claim
public import Idealize.ShloMosaic.Adequacy

@[expose] public section

set_option maxRecDepth 16384

noncomputable section

namespace Cert.Ffn

open Idealize.ShloMosaic Idealize.ShloMosaic.TcCoe Idealize.SL.Sem

section
open Cert.FfnKernelIdeal Cert.FfnKernelIdeal.Gen

/-- A run of the three calls leaves the layer's output in its result and its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v13_1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (pass2 m g c), (h c).2⟩) (run m g)

/-- The value claim. -/
theorem algebraic : Cert.algebraic_FfnKernelIdeal_FfnReferenceIdeal := by
  intro m g m' g' hpre hagree
  refine ⟨out m, kernel_run m g, ?_⟩
  refine (θ_run Cert.FfnReferenceIdeal.defs _ _).mono (fun r h c => ?_) (Cert.FfnReferenceIdeal.Value.run m' g')
  obtain ⟨g0, g1, g2, g3, g4, g5⟩ := hagree c
  refine ⟨(h c).1.trans ?_, (h c).2⟩
  unfold Cert.FfnReferenceIdeal.Value.res_main_v33
  rw [g0, g1, g2, g3, g4, g5]
  rfl

end

section
open Cert.FfnReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h c).2, sem_eq_zero_of_no_sems rfl _⟩) (Cert.FfnReferenceIdeal.Value.run m g)

end

end Cert.Ffn
end
-- ==== Proof.Act.lean ====
/-
  The gradient of the gated activation of a feed-forward layer, and the activation computed anew: on every block the kernel
  takes one product with the transposed projection and applies the activation's derivative entry by entry, as the
  reference does on the whole arrays.
-/
module

public import proofs.«01_k».proof.Defs
public import proofs.«01_k».proof.Proof.Gen.ActKernelIdeal.Frame
public import proofs.«01_k».proof.Proof.Gen.ActReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.FfnAct

open Idealize.ShloMosaic Idealize.ShloMosaic.TcCoe Idealize.SL.Sem
open Idealize.ShloMosaic.Pointwise

section
open Cert.ActKernelIdeal Cert.ActKernelIdeal.Gen

variable (m : (ℓ : Loc nD τ sig) → Buf (Elt Ideal) ℓ)

/-- The two pre-activations, entry by entry. -/
abbrev preA (X : FVec Ideal S2x8192x2816 .f32) : FVec Ideal S8192x2816 .f32 :=
  shapeCast _ (extractStridedSlice ActReferenceIdeal.S1x8192x2816 ![0, 0, 0] X ActReferenceIdeal.Gen.slices_S2x8192x2816_S1x8192x2816_0_0_0)
    ActReferenceIdeal.Gen.shapeCasts_S1x8192x2816_S8192x2816

abbrev preB (X : FVec Ideal S2x8192x2816 .f32) : FVec Ideal S8192x2816 .f32 :=
  shapeCast _ (extractStridedSlice ActReferenceIdeal.S1x8192x2816 ![1, 0, 0] X ActReferenceIdeal.Gen.slices_S2x8192x2816_S1x8192x2816_1_0_0)
    ActReferenceIdeal.Gen.shapeCasts_S1x8192x2816_S8192x2816

/-- The number one, everywhere. -/
abbrev ones : FVec Ideal S8192x2816 .f32 :=
  broadcastInDim ActReferenceIdeal.S8192x2816 ![] ActReferenceIdeal.Gen.bcast_S_S8192x2816 (constant ActReferenceIdeal.S_ .f32 0x3F800000#32)

/-- The logistic function of the first pre-activation. -/
abbrev sig1 (X : FVec Ideal S2x8192x2816 .f32) : FVec Ideal S8192x2816 .f32 :=
  Host.divf ones (addf ones (Host.exp (Host.negf (preA X))))

/-- The cotangent of the activation: the product with the transposed projection. -/
abbrev cot (W : FVec Ideal S2816x1024 .f32) (Z : FVec Ideal S8192x1024 .f32) : FVec Ideal S8192x2816 .f32 :=
  Host.dotGeneral ActReferenceIdeal.dot_S8192x1024_S2816x1024_S8192x2816_1_1_0_0_n_n none Z W

/-- The gradient of the first pre-activation. -/
abbrev gradA (X : FVec Ideal S2x8192x2816 .f32) (W : FVec Ideal S2816x1024 .f32) (Z : FVec Ideal S8192x1024 .f32) : FVec Ideal S8192x2816 .f32 :=
  addf (mulf (mulf (cot W Z) (preB X)) (sig1 X))
    (mulf (mulf (preA X) (mulf (cot W Z) (preB X))) (mulf (sig1 X) (subf ones (sig1 X))))

/-- The gradient of the second pre-activation. -/
abbrev gradB (X : FVec Ideal S2x8192x2816 .f32) (W : FVec Ideal S2816x1024 .f32) (Z : FVec Ideal S8192x1024 .f32) : FVec Ideal S8192x2816 .f32 :=
  mulf (mulf (preA X) (sig1 X)) (cot W Z)

/-- The two gradients, stacked. -/
abbrev dab (X : FVec Ideal S2x8192x2816 .f32) (W : FVec Ideal S2816x1024 .f32) (Z : FVec Ideal S8192x1024 .f32) : FVec Ideal S2x8192x2816 .bf16 :=
  truncf .bf16 (concatenate ActReferenceIdeal.S2x8192x2816 0
    [⟨ActReferenceIdeal.S1x8192x2816, broadcastInDim ActReferenceIdeal.S1x8192x2816 ![1, 2] ActReferenceIdeal.Gen.bcast_S8192x2816_S1x8192x2816_1_2 (gradA X W Z)⟩,
      ⟨ActReferenceIdeal.S1x8192x2816, broadcastInDim ActReferenceIdeal.S1x8192x2816 ![1, 2] ActReferenceIdeal.Gen.bcast_S8192x2816_S1x8192x2816_1_2 (gradB X W Z)⟩]
    ActReferenceIdeal.Gen.concatenates_S1x8192x2816_S1x8192x2816_S2x8192x2816_d0) ActReferenceIdeal.Gen.bitsLt_bf16_f32

/-- The activation. -/
abbrev act (X : FVec Ideal S2x8192x2816 .f32) : FVec Ideal S8192x2816 .bf16 :=
  truncf .bf16 (mulf (mulf (preA X) (sig1 X)) (preB X)) ActReferenceIdeal.Gen.bitsLt_bf16_f32

/-- The kernel's first result, a function of its arguments. -/
def outD (c : Dev nD) : FVec Ideal S2x8192x2816 .bf16 :=
  dab (m ((c.tc : Thread nD τ).loc main_arg0)) (m ((c.tc : Thread nD τ).loc main_arg1)) (m ((c.tc : Thread nD τ).loc main_arg2))

/-- The kernel's second result. -/
def outH (c : Dev nD) : FVec Ideal S8192x2816 .bf16 :=
  act (m ((c.tc : Thread nD τ).loc main_arg0))

/-- Where the windows' blocks lie. -/
theorem idx : ∀ t : Fin cfg0.N, win0_0.index t = ![t.val / 11, 0] ∧ win0_1.index t = ![t.val % 11, 0]
    ∧ win0_2.index t = ![0, t.val / 11, t.val % 11] ∧ win0_3.index t = ![0, t.val / 11, t.val % 11]
    ∧ win0_4.index t = ![t.val / 11, t.val % 11] :=
  (by decide +kernel : ∀ t : Fin grid0.N, _)

/-- The cotangent of the activation on a block, at an entry. -/
theorem cot_at (c : Dev nD) (t : Fin cfg0.N) (p : Fin 1024) (q : Fin 256) (i : S8192x2816.Idx)
    (hi0 : (i 0 : ℕ) = t.val / 11 * 1024 + p) (hi1 : (i 1 : ℕ) = t.val % 11 * 256 + q) :
    (k0_pay1 (F := Ideal) (iblk m c 0 t) (iblk m c 1 t) (ix2 p q) : EReal)
      = cot (m ((c.tc : Thread nD τ).loc main_arg1)) (m ((c.tc : Thread nD τ).loc main_arg2)) i := by
  pointwise [k0_pay1, cot]
  blk_point [iblk, V, idx t]

/-- The first gradient on a block, at an entry. -/
theorem gradA_at (c : Dev nD) (t : Fin cfg0.N) (y : S1x1024x256.Idx) (i : S8192x2816.Idx)
    (hi0 : (i 0 : ℕ) = t.val / 11 * 1024 + y 1) (hi1 : (i 1 : ℕ) = t.val % 11 * 256 + y 2) :
    (k0_pay6 (F := Ideal) (View.ld (iblk m c 0 t) r0_0) (View.ld (iblk m c 1 t) r0_1) (View.ld (iblk m c 2 t) r0_2) (View.ld (iblk m c 2 t) r0_3) y : EReal)
      = gradA (m ((c.tc : Thread nD τ).loc main_arg0)) (m ((c.tc : Thread nD τ).loc main_arg1)) (m ((c.tc : Thread nD τ).loc main_arg2)) i := by
  pointwise [k0_pay6, k0_pay4, k0_pay3, k0_pay2, k0_pay1, gradA, cot, sig1, ones, preA, preB]
  simp only [Ideal.logistic]
  blk_point [iblk, V, idx t]

/-- The second gradient on a block, at an entry. -/
theorem gradB_at (c : Dev nD) (t : Fin cfg0.N) (y : S1x1024x256.Idx) (i : S8192x2816.Idx)
    (hi0 : (i 0 : ℕ) = t.val / 11 * 1024 + y 1) (hi1 : (i 1 : ℕ) = t.val % 11 * 256 + y 2) :
    (k0_pay7 (F := Ideal) (View.ld (iblk m c 0 t) r0_0) (View.ld (iblk m c 1 t) r0_1) (View.ld (iblk m c 2 t) r0_2) y : EReal)
      = gradB (m ((c.tc : Thread nD τ).loc main_arg0)) (m ((c.tc : Thread nD τ).loc main_arg1)) (m ((c.tc : Thread nD τ).loc main_arg2)) i := by
  pointwise [k0_pay7, k0_pay5, k0_pay4, k0_pay2, k0_pay1, gradB, cot, sig1, ones, preA]
  simp only [Ideal.logistic]
  blk_point [iblk, V, idx t]

/-- The activation on a block, at an entry. -/
theorem act_at (c : Dev nD) (t : Fin cfg0.N) (y : S1024x256.Idx) :
    (k0_pay8 (F := Ideal) (View.ld (iblk m c 2 t) r0_2) (View.ld (iblk m c 2 t) r0_3) y : EReal)
      = outH m c (((cfg0.win 4).blk t).view.emb y) := by
  unfold outH
  pointwise [k0_pay8, k0_pay5, k0_pay4, k0_pay3, k0_pay2, act, sig1, ones, preA, preB]
  simp only [Ideal.logistic]
  blk_point [iblk, V, idx t]

/-- The second result's array after the run. -/
theorem finalH (c : Dev nD) : (dats m 0 c).arrAt 4 cfg0.N = outH m c := by
  refine (dats m 0 c).arrAt_eq_of_covers 4 _ (by decide +kernel) fun t hf y => ?_
  blk_simp
  rw [after0_4]
  frame_out
  exact act_at m c t y

/-- The stacked gradients at an entry: the first of the two. -/
theorem dab0 (X : FVec Ideal S2x8192x2816 .f32) (W : FVec Ideal S2816x1024 .f32) (Z : FVec Ideal S8192x1024 .f32)
    (j : S2x8192x2816.Idx) (i : S8192x2816.Idx) (h0 : (j 0 : ℕ) = 0) (h1 : (j 1 : ℕ) = i 0) (h2 : (j 2 : ℕ) = i 1) :
    (dab X W Z j : EReal) = gradA X W Z i := by
  have e1 : (j 1 : Fin 8192) = i 0 := Fin.ext h1
  have e2 : (j 2 : Fin 2816) = i 1 := Fin.ext h2
  pointwise [dab]
  rw [dif_pos (by omega), e1, e2]

/-- The second of the two. -/
theorem dab1 (X : FVec Ideal S2x8192x2816 .f32) (W : FVec Ideal S2816x1024 .f32) (Z : FVec Ideal S8192x1024 .f32)
    (j : S2x8192x2816.Idx) (i : S8192x2816.Idx) (h0 : (j 0 : ℕ) = 1) (h1 : (j 1 : ℕ) = i 0) (h2 : (j 2 : ℕ) = i 1) :
    (dab X W Z j : EReal) = gradB X W Z i := by
  have e1 : (j 1 : Fin 8192) = i 0 := Fin.ext h1
  have e2 : (j 2 : Fin 2816) = i 1 := Fin.ext h2
  pointwise [dab]
  rw [dif_neg (by omega), e1, e2]

/-- The first result's block at a point. -/
theorem point (c : Dev nD) (t : Fin cfg0.N) (y : S2x1024x256.Idx) :
    (out0_3 (F := Ideal) (iblk m c 0 t) (iblk m c 1 t) (iblk m c 2 t) y : EReal) = outD m c (((cfg0.win 3).blk t).view.emb y) := by
  have ht : t.val < 88 := lt_of_lt_of_eq t.isLt N_0
  have hy0 : (y 0 : ℕ) < 2 := (y 0).isLt
  have hy1 : (y 1 : ℕ) < 1024 := (y 1).isLt
  have hy2 : (y 2 : ℕ) < 256 := (y 2).isLt
  unfold outD
  obtain_idx i : S8192x2816 := [t.val / 11 * 1024 + (y 1 : ℕ), t.val % 11 * 256 + (y 2 : ℕ)] with hi
  unfold out0_3
  canon_tiles y h
  · refine (gradB_at m c t y i (by omega) (by omega)).trans (dab1 _ _ _ _ i ?_ ?_ ?_).symm
    all_goals (blk_simp [idx t] <;> try omega)
  · refine (gradA_at m c t y i (by omega) (by omega)).trans (dab0 _ _ _ _ i ?_ ?_ ?_).symm
    all_goals (blk_simp [idx t] <;> try omega)

/-- The first result's array after the run. -/
theorem finalD (c : Dev nD) : (dats m 0 c).arrAt 3 cfg0.N = outD m c := by
  refine (dats m 0 c).arrAt_eq_of_covers 3 _ (by decide +kernel) fun t hf y => ?_
  blk_simp
  rw [after0_3]
  exact point m c t y

/-- A run of the kernel leaves the gradients and the activation in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v3_0) = outD m c
      ∧ r.2.mem ((c.tc : Thread nD τ).loc main_v3_1) = outH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 3).trans (finalD m c), ((h.2 c).1 4).trans (finalH m c), h.1 c⟩)
    (θ_run_and (unchanged m g) (run_main m g))

/-- The value claim. -/
theorem algebraic : Cert.algebraic_ActKernelIdeal_ActReferenceIdeal := by
  intro m g m' g' hpre hagree
  refine ⟨outD m, outH m, kernel_run m g, ?_⟩
  refine (θ_run Cert.ActReferenceIdeal.defs _ _).mono (fun r h c => ?_) (Cert.ActReferenceIdeal.Value.run m' g')
  obtain ⟨g0, g1, g2⟩ := hagree c
  refine ⟨(h c).1.trans ?_, (h c).2.1.trans ?_, (h c).2.2⟩
  · rw [g0, g1, g2]
    rfl
  · rw [g0]
    rfl

end

section
open Cert.ActReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2.2, sem_eq_zero_of_no_sems rfl _⟩) (Cert.ActReferenceIdeal.Value.run m g)

end

end Cert.FfnAct
end
-- ==== Proof.Down.lean ====
/-
  The weight gradient of the feed-forward block's down projection: the kernel walks the 8192 tokens in eight steps and
  adds each step's product into an accumulator; the reference takes the product of the transposed activations with the
  output gradient at once.
-/
module

public import proofs.«01_k».proof.Defs
public import proofs.«01_k».proof.Proof.Gen.DownKernelIdeal.Frame
public import proofs.«01_k».proof.Proof.Gen.DownReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.FfnDown

open Idealize.ShloMosaic Idealize.ShloMosaic.TcCoe Idealize.SL.Sem
open Idealize.ShloMosaic.Pointwise

section
open Cert.DownKernelIdeal Cert.DownKernelIdeal.Gen

variable (m : (ℓ : Loc nD τ sig) → Buf (Elt Ideal) ℓ)

/-- The reference's product over the two arguments. -/
abbrev prod (X : FVec Ideal S8192x2816 .f32) (Z : FVec Ideal S8192x1024 .f32) : FVec Ideal S2816x1024 .f32 :=
  Host.dotGeneral DownReferenceIdeal.dot_S2816x8192_S8192x1024_S2816x1024_1_0_0_1_n_n none
    (transpose DownReferenceIdeal.S2816x8192 [1, 0] X DownReferenceIdeal.Gen.transposes_S8192x2816_S2816x8192_1_0) Z

/-- The kernel's result, a function of its arguments. -/
def out (c : Dev nD) : FVec Ideal S2816x1024 .f32 :=
  prod (m ((c.tc : Thread nD τ).loc main_arg0)) (m ((c.tc : Thread nD τ).loc main_arg1))

/-- Where the windows' blocks lie. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- One step's product, at an index. -/
theorem part_at (x : Vec Ideal S1024x1408 .bf16) (z : Vec Ideal S1024x1024 .bf16) (j : S1408x1024.Idx) :
    (k0_pay2 x z j : EReal) = 0 + ∑ k : Fin 1024, (x (ix2 k (j 0)) : EReal) * (z (ix2 k (j 1)) : EReal) := by
  pointwise [k0_pay2, k0_pay1]

/-- A later step adds its product. -/
theorem step_at (x : Vec Ideal S1024x1408 .bf16) (z : Vec Ideal S1024x1024 .bf16) (a : Vec Ideal S1408x1024 .f32) (j : S1408x1024.Idx) :
    (k0_pay3 x z a j : EReal) = (a j : EReal) + ∑ k : Fin 1024, (x (ix2 k (j 0)) : EReal) * (z (ix2 k (j 1)) : EReal) := by
  pointwise [k0_pay3, k0_pay1]

/-- What the accumulator holds after the last step of a run. -/
theorem acc_at (c : Dev nD) (t : Fin cfg0.N) (ht : t.val % 8 = 7) (j : S1408x1024.Idx) :
    ((outsAt0 m c t.val t.isLt).2 j : EReal) = out m c (((cfg0.win 2).blk t).view.emb j) := by
  rw [Pipeline.eq_sum_fin_of_reset_step_apply_of_flush (fun n h => (outsAt0 m c n h).2) 8 (fun _ => 0) _
    (fun t h j => by rw [outsAt0_A m c t h (by omega) (by omega)]; frame_out; exact part_at _ _ j)
    (fun t h j => by
      by_cases h7 : t.val % 8 = 7
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold out
  pointwise [prod]
  refine Fin.sum_mul_add_congr fun s k hl => ?_
  blk_point [iblk, V, idx ⟨_, Pipeline.run_point_lt_of_flush t ht s⟩, idx t]

/-- The result array after the run. -/
theorem final (c : Dev nD) : (dats m 0 c).arrAt 2 cfg0.N = out m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_DownKernelIdeal_DownReferenceIdeal := by
  intro m g m' g' hpre hagree
  refine ⟨out m, kernel_run m g, ?_⟩
  refine (θ_run Cert.DownReferenceIdeal.defs _ _).mono (fun r h c => ?_) (Cert.DownReferenceIdeal.Value.run m' g')
  obtain ⟨g0, g1⟩ := hagree c
  refine ⟨(h c).1.trans ?_, (h c).2⟩
  rw [g0, g1]
  rfl

end

section
open Cert.DownReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.DownReferenceIdeal.Value.run m g)

end

end Cert.FfnDown
end
-- ==== Proof.Gate.lean ====
/-
  The weight gradient of the feed-forward block's gate projection: the kernel walks the 8192 tokens in eight steps and
  adds each step's product into an accumulator; the reference takes the product of the transposed gradient of the gate
  with the block's input at once.
-/
module

public import proofs.«01_k».proof.Defs
public import proofs.«01_k».proof.Proof.Gen.GateKernelIdeal.Frame
public import proofs.«01_k».proof.Proof.Gen.GateReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.FfnGate

open Idealize.ShloMosaic Idealize.ShloMosaic.TcCoe Idealize.SL.Sem
open Idealize.ShloMosaic.Pointwise

section
open Cert.GateKernelIdeal Cert.GateKernelIdeal.Gen

variable (m : (ℓ : Loc nD τ sig) → Buf (Elt Ideal) ℓ)

/-- The reference's product over the two arguments. -/
abbrev prod (X : FVec Ideal S2x8192x2816 .f32) (Z : FVec Ideal S8192x1024 .f32) : FVec Ideal S2816x1024 .f32 :=
  Host.dotGeneral GateReferenceIdeal.dot_S2816x8192_S8192x1024_S2816x1024_1_0_0_1_n_n none
    (transpose GateReferenceIdeal.S2816x8192 [1, 0] (shapeCast _ (extractStridedSlice GateReferenceIdeal.S1x8192x2816 ![0, 0, 0] X
      GateReferenceIdeal.Gen.slices_S2x8192x2816_S1x8192x2816_0_0_0) GateReferenceIdeal.Gen.shapeCasts_S1x8192x2816_S8192x2816)
      GateReferenceIdeal.Gen.transposes_S8192x2816_S2816x8192_1_0) Z

/-- The kernel's result, a function of its arguments. -/
def out (c : Dev nD) : FVec Ideal S2816x1024 .f32 :=
  prod (m ((c.tc : Thread nD τ).loc main_arg0)) (m ((c.tc : Thread nD τ).loc main_arg1))

/-- Where the windows' blocks lie. -/
theorem idx : ∀ t : Fin cfg0.N, win0_0.index t = ![0, t.val % 8, t.val / 8] ∧ win0_1.index t = ![t.val % 8, 0]
    ∧ win0_2.index t = ![t.val / 8, 0] :=
  (by decide +kernel : ∀ t : Fin grid0.N, _)

/-- One step's product, at an index. -/
theorem part_at (x : Vec Ideal S1x1024x1408 .bf16) (z : Vec Ideal S1024x1024 .bf16) (j : S1408x1024.Idx) :
    (k0_pay2 x z j : EReal) = 0 + ∑ k : Fin 1024, (x (ix3 0 k (j 0)) : EReal) * (z (ix2 k (j 1)) : EReal) := by
  pointwise [k0_pay2, k0_pay1]

/-- A later step adds its product. -/
theorem step_at (x : Vec Ideal S1x1024x1408 .bf16) (z : Vec Ideal S1024x1024 .bf16) (a : Vec Ideal S1408x1024 .f32) (j : S1408x1024.Idx) :
    (k0_pay3 x z a j : EReal) = (a j : EReal) + ∑ k : Fin 1024, (x (ix3 0 k (j 0)) : EReal) * (z (ix2 k (j 1)) : EReal) := by
  pointwise [k0_pay3, k0_pay1]

/-- What the accumulator holds after the last step of a run. -/
theorem acc_at (c : Dev nD) (t : Fin cfg0.N) (ht : t.val % 8 = 7) (j : S1408x1024.Idx) :
    ((outsAt0 m c t.val t.isLt).2 j : EReal) = out m c (((cfg0.win 2).blk t).view.emb j) := by
  rw [Pipeline.eq_sum_fin_of_reset_step_apply_of_flush (fun n h => (outsAt0 m c n h).2) 8 (fun _ => 0) _
    (fun t h j => by rw [outsAt0_A m c t h (by omega) (by omega)]; frame_out; exact part_at _ _ j)
    (fun t h j => by
      by_cases h7 : t.val % 8 = 7
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold out
  pointwise [prod]
  refine Fin.sum_mul_add_congr fun s k hl => ?_
  blk_point [iblk, V, idx ⟨_, Pipeline.run_point_lt_of_flush t ht s⟩, idx t]

/-- The result array after the run. -/
theorem final (c : Dev nD) : (dats m 0 c).arrAt 2 cfg0.N = out m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_GateKernelIdeal_GateReferenceIdeal := by
  intro m g m' g' hpre hagree
  refine ⟨out m, kernel_run m g, ?_⟩
  refine (θ_run Cert.GateReferenceIdeal.defs _ _).mono (fun r h c => ?_) (Cert.GateReferenceIdeal.Value.run m' g')
  obtain ⟨g0, g1⟩ := hagree c
  refine ⟨(h c).1.trans ?_, (h c).2⟩
  rw [g0, g1]
  rfl

end

section
open Cert.GateReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.GateReferenceIdeal.Value.run m g)

end

end Cert.FfnGate
end
-- ==== Proof.Up.lean ====
/-
  The weight gradient of the feed-forward block's up projection: the kernel walks the 8192 tokens in eight steps and
  adds each step's product into an accumulator; the reference takes the product of the transposed gradient of the up
  with the block's input at once.
-/
module

public import proofs.«01_k».proof.Defs
public import proofs.«01_k».proof.Proof.Gen.UpKernelIdeal.Frame
public import proofs.«01_k».proof.Proof.Gen.UpReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.FfnUp

open Idealize.ShloMosaic Idealize.ShloMosaic.TcCoe Idealize.SL.Sem
open Idealize.ShloMosaic.Pointwise

section
open Cert.UpKernelIdeal Cert.UpKernelIdeal.Gen

variable (m : (ℓ : Loc nD τ sig) → Buf (Elt Ideal) ℓ)

/-- The reference's product over the two arguments. -/
abbrev prod (X : FVec Ideal S2x8192x2816 .f32) (Z : FVec Ideal S8192x1024 .f32) : FVec Ideal S2816x1024 .f32 :=
  Host.dotGeneral UpReferenceIdeal.dot_S2816x8192_S8192x1024_S2816x1024_1_0_0_1_n_n none
    (transpose UpReferenceIdeal.S2816x8192 [1, 0] (shapeCast _ (extractStridedSlice UpReferenceIdeal.S1x8192x2816 ![1, 0, 0] X
      UpReferenceIdeal.Gen.slices_S2x8192x2816_S1x8192x2816_1_0_0) UpReferenceIdeal.Gen.shapeCasts_S1x8192x2816_S8192x2816)
      UpReferenceIdeal.Gen.transposes_S8192x2816_S2816x8192_1_0) Z

/-- The kernel's result, a function of its arguments. -/
def out (c : Dev nD) : FVec Ideal S2816x1024 .f32 :=
  prod (m ((c.tc : Thread nD τ).loc main_arg0)) (m ((c.tc : Thread nD τ).loc main_arg1))

/-- Where the windows' blocks lie. -/
theorem idx : ∀ t : Fin cfg0.N, win0_0.index t = ![1, t.val % 8, t.val / 8] ∧ win0_1.index t = ![t.val % 8, 0]
    ∧ win0_2.index t = ![t.val / 8, 0] :=
  (by decide +kernel : ∀ t : Fin grid0.N, _)

/-- One step's product, at an index. -/
theorem part_at (x : Vec Ideal S1x1024x1408 .bf16) (z : Vec Ideal S1024x1024 .bf16) (j : S1408x1024.Idx) :
    (k0_pay2 x z j : EReal) = 0 + ∑ k : Fin 1024, (x (ix3 0 k (j 0)) : EReal) * (z (ix2 k (j 1)) : EReal) := by
  pointwise [k0_pay2, k0_pay1]

/-- A later step adds its product. -/
theorem step_at (x : Vec Ideal S1x1024x1408 .bf16) (z : Vec Ideal S1024x1024 .bf16) (a : Vec Ideal S1408x1024 .f32) (j : S1408x1024.Idx) :
    (k0_pay3 x z a j : EReal) = (a j : EReal) + ∑ k : Fin 1024, (x (ix3 0 k (j 0)) : EReal) * (z (ix2 k (j 1)) : EReal) := by
  pointwise [k0_pay3, k0_pay1]

/-- What the accumulator holds after the last step of a run. -/
theorem acc_at (c : Dev nD) (t : Fin cfg0.N) (ht : t.val % 8 = 7) (j : S1408x1024.Idx) :
    ((outsAt0 m c t.val t.isLt).2 j : EReal) = out m c (((cfg0.win 2).blk t).view.emb j) := by
  rw [Pipeline.eq_sum_fin_of_reset_step_apply_of_flush (fun n h => (outsAt0 m c n h).2) 8 (fun _ => 0) _
    (fun t h j => by rw [outsAt0_A m c t h (by omega) (by omega)]; frame_out; exact part_at _ _ j)
    (fun t h j => by
      by_cases h7 : t.val % 8 = 7
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold out
  pointwise [prod]
  refine Fin.sum_mul_add_congr fun s k hl => ?_
  blk_point [iblk, V, idx ⟨_, Pipeline.run_point_lt_of_flush t ht s⟩, idx t]

/-- The result array after the run. -/
theorem final (c : Dev nD) : (dats m 0 c).arrAt 2 cfg0.N = out m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_UpKernelIdeal_UpReferenceIdeal := by
  intro m g m' g' hpre hagree
  refine ⟨out m, kernel_run m g, ?_⟩
  refine (θ_run Cert.UpReferenceIdeal.defs _ _).mono (fun r h c => ?_) (Cert.UpReferenceIdeal.Value.run m' g')
  obtain ⟨g0, g1⟩ := hagree c
  refine ⟨(h c).1.trans ?_, (h c).2⟩
  rw [g0, g1]
  rfl

end

section
open Cert.UpReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UpReferenceIdeal.Value.run m g)

end

end Cert.FfnUp
end
-- ==== Proof.Dx.lean ====
/-
  The input gradient of the feed-forward block: the kernel adds the products of the two branches' gradients with the
  transposed projections and the scaled gradient of the residual; the reference writes the three terms as one sum.
-/
module

public import proofs.«01_k».proof.Defs
public import proofs.«01_k».proof.Proof.Gen.DxKernelIdeal.Frame
public import proofs.«01_k».proof.Proof.Gen.DxReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.FfnDx

open Idealize.ShloMosaic Idealize.ShloMosaic.TcCoe Idealize.SL.Sem
open Idealize.ShloMosaic.Pointwise

section
open Cert.DxKernelIdeal Cert.DxKernelIdeal.Gen

variable (m : (ℓ : Loc nD τ sig) → Buf (Elt Ideal) ℓ)

/-- One branch's term of the reference: its gradient times its transposed projection. -/
abbrev branch0 (D : FVec Ideal DxKernelIdeal.S2x8192x2816 .f32) (W : FVec Ideal DxKernelIdeal.S1024x2816 .f32) :
    FVec Ideal DxKernelIdeal.S8192x1024 .f32 :=
  Host.dotGeneral DxReferenceIdeal.dot_S8192x2816_S2816x1024_S8192x1024_1_0_0_1_n_n none
    (shapeCast _ (extractStridedSlice DxReferenceIdeal.S1x8192x2816 ![0, 0, 0] D DxReferenceIdeal.Gen.slices_S2x8192x2816_S1x8192x2816_0_0_0)
      DxReferenceIdeal.Gen.shapeCasts_S1x8192x2816_S8192x2816)
    (transpose DxReferenceIdeal.S2816x1024 [1, 0] W DxReferenceIdeal.Gen.transposes_S1024x2816_S2816x1024_1_0)

/-- The other branch's term. -/
abbrev branch1 (D : FVec Ideal DxKernelIdeal.S2x8192x2816 .f32) (W : FVec Ideal DxKernelIdeal.S1024x2816 .f32) :
    FVec Ideal DxKernelIdeal.S8192x1024 .f32 :=
  Host.dotGeneral DxReferenceIdeal.dot_S8192x2816_S2816x1024_S8192x1024_1_0_0_1_n_n none
    (shapeCast _ (extractStridedSlice DxReferenceIdeal.S1x8192x2816 ![1, 0, 0] D DxReferenceIdeal.Gen.slices_S2x8192x2816_S1x8192x2816_1_0_0)
      DxReferenceIdeal.Gen.shapeCasts_S1x8192x2816_S8192x2816)
    (transpose DxReferenceIdeal.S2816x1024 [1, 0] W DxReferenceIdeal.Gen.transposes_S1024x2816_S2816x1024_1_0)

/-- The reference's sum over the four arguments. -/
abbrev total (D : FVec Ideal S2x8192x2816 .f32) (Wg Wu : FVec Ideal S1024x2816 .f32) (Z : FVec Ideal S8192x1024 .f32) :
    FVec Ideal S8192x1024 .f32 :=
  addf (addf (mulf (broadcastInDim DxReferenceIdeal.S8192x1024 ![] DxReferenceIdeal.Gen.bcast_S_S8192x1024 (constant DxReferenceIdeal.S_ .f32 0x3FD744FD#32)) Z)
    (branch0 D Wg)) (branch1 D Wu)

/-- The kernel's result, a function of its arguments. -/
def out (c : Dev nD) : FVec Ideal S8192x1024 .f32 :=
  total (m ((c.tc : Thread nD τ).loc main_arg0)) (m ((c.tc : Thread nD τ).loc main_arg1))
    (m ((c.tc : Thread nD τ).loc main_arg2)) (m ((c.tc : Thread nD τ).loc main_arg3))

/-- Where the windows' blocks lie. -/
theorem idx : ∀ t : Fin cfg0.N, win0_0.index t = ![t.val % 2, t.val / 4, 0] ∧ win0_1.index t = ![t.val % 2, 0, t.val / 2 % 2]
    ∧ win0_2.index t = ![t.val / 4, t.val / 2 % 2] ∧ win0_3.index t = ![t.val / 4, t.val / 2 % 2] :=
  (by decide +kernel : ∀ t : Fin grid0.N, _)

/-- One branch's product on a block, at an index. -/
theorem part_at (x : Vec Ideal S1x1024x2816 .bf16) (z : Vec Ideal S1x2816x512 .bf16) (j : S1024x512.Idx) :
    (k0_pay2 x z j : EReal) = 0 + ∑ k : Fin 2816, (x (ix3 0 (j 0) k) : EReal) * (z (ix3 0 k (j 1)) : EReal) := by
  pointwise [k0_pay2, k0_pay1]

/-- The second branch is added. -/
theorem step_at (x : Vec Ideal S1x1024x2816 .bf16) (z : Vec Ideal S1x2816x512 .bf16) (a : Vec Ideal S1024x512 .f32) (j : S1024x512.Idx) :
    (k0_pay3 x z a j : EReal) = (a j : EReal) + ∑ k : Fin 2816, (x (ix3 0 (j 0) k) : EReal) * (z (ix3 0 k (j 1)) : EReal) := by
  pointwise [k0_pay3, k0_pay1]

/-- The scale of the residual's gradient: the number its float word stands for. -/
def AL : EReal := Ideal.ofBits FTy.f32 0x3FD744FD#32

theorem fin_at (a : Vec Ideal S1024x512 .f32) (z : Vec Ideal S1024x512 .f32) (j : S1024x512.Idx) :
    (k0_pay4 a z j : EReal) = (a j : EReal) + AL * (z j : EReal) := by
  pointwise [k0_pay4]
  rfl

/-- The stacked transposed projections that the host code prepares: the first of the two. -/
theorem host0 (c : Dev nD) (k : Fin 2816) (n : Fin 1024) :
    ((V m c main_v6 : Vec Ideal S2x2816x1024 .bf16) (ix3 0 k n) : EReal) = m ((c.tc : Thread nD τ).loc main_arg1) (ix2 n k) := by
  unfold V
  simp only [hostOps0]
  after_results_simp
  pointwise

/-- The second of the two. -/
theorem host1 (c : Dev nD) (k : Fin 2816) (n : Fin 1024) :
    ((V m c main_v6 : Vec Ideal S2x2816x1024 .bf16) (ix3 1 k n) : EReal) = m ((c.tc : Thread nD τ).loc main_arg2) (ix2 n k) := by
  unfold V
  simp only [hostOps0]
  after_results_simp
  pointwise

/-- What the accumulator holds after the second branch. -/
theorem acc_at (c : Dev nD) (t : Fin cfg0.N) (ht : t.val % 2 = 1) (j : S1024x512.Idx) :
    ((outsAt0 m c t.val t.isLt).2 j : EReal)
      = (branch0 (m ((c.tc : Thread nD τ).loc main_arg0)) (m ((c.tc : Thread nD τ).loc main_arg1)) (((cfg0.win 3).blk t).view.emb j) : EReal)
        + (branch1 (m ((c.tc : Thread nD τ).loc main_arg0)) (m ((c.tc : Thread nD τ).loc main_arg2)) (((cfg0.win 3).blk t).view.emb j) : EReal) := by
  rw [Pipeline.eq_sum_fin_of_reset_step_apply_of_flush (fun n h => (outsAt0 m c n h).2) 2 (fun _ => 0) _
    (fun t h j => by rw [outsAt0_A m c t h (by omega) (by omega)]; frame_out; exact part_at _ _ j)
    (fun t h j => by rw [outsAt0_B m c t h (by omega) (by omega)]; frame_out; rw [read_unread_whole]; exact step_at _ _ _ j)
    t ht j, zero_add, Fin.sum_univ_two]
  have hN : t.val < 32 := lt_of_lt_of_eq t.isLt N_0
  have e0 := idx ⟨2 * (t.val / 2), lt_of_lt_of_eq (by omega) N_0.symm⟩
  have e1 := idx ⟨2 * (t.val / 2) + 1, lt_of_lt_of_eq (by omega) N_0.symm⟩
  pointwise [branch0, branch1]
  blk_point [iblk, V_main_arg0, idx t, e0, e1]
  · exact Eq.trans (by blk_ext [e0, idx t]) (host0 m c x _)
  · exact Eq.trans (by blk_ext [e1, idx t]) (host1 m c x _)

/-- The block of the residual's gradient at a point, against its array. -/
theorem blk_z (c : Dev nD) (t : Fin cfg0.N) (y : S1024x512.Idx) :
    ((iblk m c 2 t : Vec Ideal S1024x512 .f32) y : EReal) = m ((c.tc : Thread nD τ).loc main_arg3) (((cfg0.win 3).blk t).view.emb y) := by
  blk_ext [iblk, V_main_arg3, idx t]

/-- The reference's sum at an index. -/
theorem total_at (D : FVec Ideal S2x8192x2816 .f32) (Wg Wu : FVec Ideal S1024x2816 .f32) (Z : FVec Ideal S8192x1024 .f32) (i : S8192x1024.Idx) :
    (total D Wg Wu Z i : EReal) = (AL * (Z i : EReal) + (branch0 D Wg i : EReal)) + (branch1 D Wu i : EReal) := rfl

/-- The result array after the run. -/
theorem final (c : Dev nD) : (dats m 0 c).arrAt 3 cfg0.N = out m c := by
  refine (dats m 0 c).arrAt_eq_of_covers 3 _ (by decide +kernel) fun t hf y => ?_
  have h1 := (flush0_3 t).mp hf
  have ha := acc_at m c t h1 y
  blk_simp
  rw [after0_3]
  unfold out
  refine Eq.trans ?_ (total_at _ _ _ _ _).symm
  rw [← blk_z m c t y, add_assoc, ← ha, outsAt0_B m c t (by omega) h1 h1]
  frame_out
  refine (fin_at _ _ y).trans ?_
  exact add_comm (G := EReal) _ _

/-- A run of the kernel leaves the sum in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 3).trans (final m c), h.1 c⟩) (θ_run_and (unchanged m g) (run_main m g))

/-- The value claim. -/
theorem algebraic : Cert.algebraic_DxKernelIdeal_DxReferenceIdeal := by
  intro m g m' g' hpre hagree
  refine ⟨out m, kernel_run m g, ?_⟩
  refine (θ_run Cert.DxReferenceIdeal.defs _ _).mono (fun r h c => ?_) (Cert.DxReferenceIdeal.Value.run m' g')
  obtain ⟨g0, g1, g2, g3⟩ := hagree c
  refine ⟨(h c).1.trans ?_, (h c).2⟩
  rw [g0, g1, g2, g3]
  rfl

end

section
open Cert.DxReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2, sem_eq_zero_of_no_sems rfl _⟩) (Cert.DxReferenceIdeal.Value.run m g)

end

end Cert.FfnDx
end
-- ==== Proof.AttRow.lean ====
/-
  The softmax taken block by block, for one query: after the keys of a set `p` the largest score `M p` met so far, and the
  sum `W p` of weights times exponentials less that largest score. A further block changes both by the rule the kernel
  follows. Scores and weights are real numbers, a key not met counts with the score minus infinity.
-/
module

public import proofs.«01_k».proof.Proof.Row

@[expose] public section

noncomputable section

namespace Cert.Att

open Idealize.ShloMosaic

variable {n : ℕ} (R w : Fin n → ℝ)

/-- The score of key `y`, minus infinity outside `p`. -/
def sc (p : Fin n → Prop) [DecidablePred p] (y : Fin n) : EReal := if p y then (R y : EReal) else ⊥

/-- The largest score in `p`. -/
def M (p : Fin n → Prop) [DecidablePred p] : EReal := Finset.univ.sup (sc R p)

/-- The sum of the weights times the exponentials over `p`. -/
def W (p : Fin n → Prop) [DecidablePred p] : EReal := ∑ y, (w y : EReal) * Ideal.exp (sc R p y - M R p)

/-- A nonempty set's largest score is a real. -/
theorem M_real (p : Fin n → Prop) [DecidablePred p] {y0 : Fin n} (h0 : p y0) : ∃ μ : ℝ, M R p = (μ : EReal) := by
  obtain ⟨y, -, hy⟩ := Finset.exists_mem_eq_sup Finset.univ ⟨y0, Finset.mem_univ y0⟩ (sc R p)
  unfold M
  rw [hy]
  by_cases h : p y
  · exact ⟨R y, if_pos h⟩
  · exfalso
    have := Finset.le_sup (f := sc R p) (Finset.mem_univ y0)
    rw [hy, sc, sc, if_neg h, if_pos h0, le_bot_iff] at this
    exact EReal.coe_ne_bot _ this

/-- An exponential less a real, as a real. -/
theorem exp_sc (p : Fin n → Prop) [DecidablePred p] (μ : ℝ) (y : Fin n) :
    Ideal.exp (sc R p y - (μ : EReal)) = ((if p y then Real.exp (R y - μ) else 0 : ℝ) : EReal) := by
  unfold sc
  by_cases h : p y
  · rw [if_pos h, if_pos h, ← EReal.coe_sub, Ideal.exp_coe]
  · rw [if_neg h, if_neg h, EReal.bot_sub, Ideal.exp_bot, EReal.coe_zero]

theorem sum_real (p : Fin n → Prop) [DecidablePred p] (μ : ℝ) :
    ∑ y, (w y : EReal) * Ideal.exp (sc R p y - (μ : EReal)) = ((∑ y, w y * (if p y then Real.exp (R y - μ) else 0) : ℝ) : EReal) := by
  rw [FlashBwd.Row.coe_sum]
  refine Finset.sum_congr rfl fun y _ => ?_
  rw [exp_sc, EReal.coe_mul]

theorem W_real (p : Fin n → Prop) [DecidablePred p] (μ : ℝ) (h : M R p = (μ : EReal)) :
    W R w p = ((∑ y, w y * (if p y then Real.exp (R y - μ) else 0) : ℝ) : EReal) := by
  unfold W
  rw [h, sum_real]

/-- The largest score of two sets together. -/
theorem M_step (p b q : Fin n → Prop) [DecidablePred p] [DecidablePred b] [DecidablePred q] (hq : ∀ y, q y ↔ p y ∨ b y) :
    M R q = max (M R p) (M R b) := by
  unfold M
  rw [← Finset.sup_sup]
  refine Finset.sup_congr rfl fun y _ => ?_
  show sc R q y = sc R p y ⊔ sc R b y
  unfold sc
  have := hq y
  by_cases hp : p y <;> by_cases hb : b y <;> simp [hp, hb, this]

/-- The sum of two sets together, the first one's taken over to the new largest score. -/
theorem W_step (p b q : Fin n → Prop) [DecidablePred p] [DecidablePred b] [DecidablePred q] (hq : ∀ y, q y ↔ p y ∨ b y)
    (hd : ∀ y, p y → ¬b y) {y0 : Fin n} (h0 : b y0) :
    W R w q = Ideal.exp (M R p - M R q) * W R w p + ∑ y, (w y : EReal) * Ideal.exp (sc R b y - M R q) := by
  obtain ⟨μ, hμ⟩ := M_real R q ((hq y0).mpr (Or.inr h0))
  rw [W_real R w q μ hμ, hμ, sum_real]
  by_cases hp : ∃ y, p y
  · obtain ⟨y1, h1⟩ := hp
    obtain ⟨ν, hν⟩ := M_real R p h1
    rw [W_real R w p ν hν, hν, ← EReal.coe_sub, Ideal.exp_coe, ← EReal.coe_mul, ← EReal.coe_add, Finset.mul_sum,
      ← Finset.sum_add_distrib]
    refine congrArg _ (Finset.sum_congr rfl fun y _ => ?_)
    have e : Real.exp (ν - μ) * Real.exp (R y - ν) = Real.exp (R y - μ) := by
      rw [← Real.exp_add]
      congr 1
      ring
    have hy := hq y
    have dy := hd y
    by_cases hp : p y
    · have hb : ¬b y := dy hp
      simp only [hp, hb, hy, or_false, if_true, if_false, mul_zero, add_zero]
      rw [← e]
      ring
    · by_cases hb : b y <;> simp [hp, hb, hy]
  · have hM : M R p = ⊥ := by
      unfold M
      refine (Finset.sup_congr rfl fun y _ => ?_).trans (Finset.sup_bot _)
      exact if_neg fun h => hp ⟨y, h⟩
    rw [hM, EReal.bot_sub, Ideal.exp_bot, zero_mul, zero_add]
    refine congrArg _ (Finset.sum_congr rfl fun y _ => ?_)
    have hy := hq y
    have : ¬p y := fun h => hp ⟨y, h⟩
    by_cases hb : b y <;> simp [this, hb, hy]

/-- Before any key the largest score is minus infinity, -/
theorem M_none (p : Fin n → Prop) [DecidablePred p] (h : ∀ y, ¬p y) : M R p = ⊥ := by
  unfold M
  exact (Finset.sup_congr rfl fun y _ => if_neg (h y)).trans (Finset.sup_bot _)

/-- and the sum is nought. -/
theorem W_none (p : Fin n → Prop) [DecidablePred p] (h : ∀ y, ¬p y) : W R w p = 0 := by
  unfold W
  rw [M_none R p h]
  refine Finset.sum_eq_zero fun y _ => ?_
  rw [sc, if_neg (h y), EReal.bot_sub, Ideal.exp_bot, mul_zero]

theorem M_congr (p q : Fin n → Prop) [DecidablePred p] [DecidablePred q] (h : ∀ y, p y ↔ q y) : M R p = M R q := by
  unfold M sc
  simp only [h]

theorem W_congr (p q : Fin n → Prop) [DecidablePred p] [DecidablePred q] (h : ∀ y, p y ↔ q y) : W R w p = W R w q := by
  unfold W
  rw [M_congr R p q h]
  unfold sc
  simp only [h]

/-! ### A block of 512 keys -/

/-- Row `r0 + a`. -/
def row (r0 : ℕ) (hr : r0 + 512 ≤ 8192) (a : Fin 512) : Fin 8192 := ⟨r0 + a.val, by omega⟩

/-- The keys of the block from row `r0`. -/
def inBlk (r0 : ℕ) (y : Fin 8192) : Prop := r0 ≤ y.val ∧ y.val < r0 + 512

instance (r0 : ℕ) : DecidablePred (inBlk r0) := fun _ => inferInstanceAs (Decidable (_ ∧ _))

theorem exists_row {r0 : ℕ} (hr : r0 + 512 ≤ 8192) {y : Fin 8192} (h : inBlk r0 y) : ∃ a : Fin 512, row r0 hr a = y :=
  ⟨⟨y.val - r0, by have := h.1; have := h.2; omega⟩, Fin.ext (by show r0 + (y.val - r0) = y.val; have := h.1; omega)⟩

theorem inBlk_row (r0 : ℕ) (hr : r0 + 512 ≤ 8192) (a : Fin 512) : inBlk r0 (row r0 hr a) :=
  ⟨Nat.le_add_right _ _, Nat.add_lt_add_left a.isLt _⟩

/-- The largest value of a block as the largest over all rows. -/
theorem blk_sup (r0 : ℕ) (hr : r0 + 512 ≤ 8192) (f : Fin 8192 → EReal) :
    (Finset.univ.sup fun a : Fin 512 => f (row r0 hr a)) = Finset.univ.sup fun y => if inBlk r0 y then f y else ⊥ := by
  refine le_antisymm (Finset.sup_le fun a _ => ?_) (Finset.sup_le fun y _ => ?_)
  · refine le_trans (le_of_eq ?_) (Finset.le_sup (f := fun y => if inBlk r0 y then f y else ⊥) (Finset.mem_univ (row r0 hr a)))
    exact (if_pos (inBlk_row r0 hr a)).symm
  · by_cases h : inBlk r0 y
    · rw [if_pos h]
      obtain ⟨a, rfl⟩ := exists_row hr h
      exact Finset.le_sup (f := fun a : Fin 512 => f (row r0 hr a)) (Finset.mem_univ a)
    · rw [if_neg h]
      exact bot_le

/-- The sum over a block as the sum over all rows. -/
theorem blk_sum (r0 : ℕ) (hr : r0 + 512 ≤ 8192) (f : Fin 8192 → EReal) (hf : ∀ y, ¬inBlk r0 y → f y = 0) :
    ∑ a : Fin 512, f (row r0 hr a) = ∑ y, f y := by
  rw [← Finset.sum_filter_add_sum_filter_not Finset.univ (inBlk r0), Finset.sum_eq_zero (s := Finset.filter (fun y => ¬inBlk r0 y) _)
    (fun y hy => hf y (Finset.mem_filter.mp hy).2), add_zero]
  refine Finset.sum_bij (fun a _ => row r0 hr a) ?_ ?_ ?_ ?_
  · intro a _
    exact Finset.mem_filter.mpr ⟨Finset.mem_univ _, inBlk_row r0 hr a⟩
  · intro a _ b _ h
    have := congrArg Fin.val h
    simp only [row] at this
    exact Fin.ext (by omega)
  · intro y hy
    obtain ⟨a, ha⟩ := exists_row hr (Finset.mem_filter.mp hy).2
    exact ⟨a, Finset.mem_univ _, ha⟩
  · intro a _
    rfl

variable (R w : Fin 8192 → ℝ)

/-- One block of the kernel: from the state at the keys `p` to the state at the keys `q`, which are those of `p` and the
    block's keys `b`. The block's scores are `S`. -/
theorem M_block (r0 : ℕ) (hr : r0 + 512 ≤ 8192) (p b q : Fin 8192 → Prop) [DecidablePred p] [DecidablePred b] [DecidablePred q]
    (hq : ∀ y, q y ↔ p y ∨ b y) (hb : ∀ y, b y → inBlk r0 y) (S : Fin 512 → EReal)
    (hS : ∀ a, S a = sc R b (row r0 hr a)) : max (M R p) (Finset.univ.sup S) = M R q := by
  rw [M_step R p b q hq, show S = fun a => sc R b (row r0 hr a) from funext hS, blk_sup r0 hr (sc R b)]
  refine congrArg (max _) (Finset.sup_congr rfl fun y _ => ?_)
  by_cases h : inBlk r0 y
  · exact if_pos h
  · rw [if_neg h, sc, if_neg fun h' => h (hb y h')]

/-- The sum, after a block. -/
theorem W_block (r0 : ℕ) (hr : r0 + 512 ≤ 8192) (p b q : Fin 8192 → Prop) [DecidablePred p] [DecidablePred b] [DecidablePred q]
    (hq : ∀ y, q y ↔ p y ∨ b y) (hd : ∀ y, p y → ¬b y) (hb : ∀ y, b y → inBlk r0 y) {y0 : Fin 8192} (h0 : b y0)
    (S V : Fin 512 → EReal) (hS : ∀ a, S a = sc R b (row r0 hr a)) (hV : ∀ a, V a = (w (row r0 hr a) : EReal)) :
    Ideal.exp (M R p - M R q) * W R w p + ∑ a, V a * Ideal.exp (S a - M R q) = W R w q := by
  rw [W_step R w p b q hq hd h0]
  have e := blk_sum r0 hr (fun y => (w y : EReal) * Ideal.exp (sc R b y - M R q)) fun y hy => by
    obtain ⟨μ, hμ⟩ := M_real R q ((hq y0).mpr (Or.inr h0))
    show (w y : EReal) * Ideal.exp (sc R b y - M R q) = 0
    rw [sc, if_neg fun h' => hy (hb y h'), hμ, EReal.bot_sub, Ideal.exp_bot, mul_zero]
  rw [← e]
  exact congrArg₂ _ rfl (Finset.sum_congr rfl fun a _ => by rw [hS, hV])

end Cert.Att
end
-- ==== Proof.AttPay.lean ====
/-
  What one block of the attention kernel computes for one head, read at an index: the running largest score, the running sum
  of the exponentials and the running weighted sum, after a block of 512 keys, from the blocks loaded.
-/
module

public import proofs.«01_k».proof.Proof.Gen.AttKernelIdeal.Skeleton
public import proofs.«01_k».proof.Proof.AttRow
public import Idealize.ShloMosaic.Lib.Pointwise
public import Idealize.ShloMosaic.Lib.WordCmp

@[expose] public section

noncomputable section

namespace Cert.Att

open Idealize.ShloMosaic Cert.AttKernelIdeal Cert.AttKernelIdeal.Gen
open Idealize.ShloMosaic.Pointwise

/-- The factor on the scores: the number its float word stands for. -/
def SC : EReal := Ideal.ofBits FTy.f32 0x3DD105EC#32

variable (K q : Vec Ideal S1x512x128 .bf16) (m l : Vec Ideal S1x1x512 .f32) (A : Vec Ideal S1x64x512 .f32)
  (V : Vec Ideal S1x64x512 .bf16)

/-- The score of the block's key `a` for query `b`. -/
def bs (a b : Fin 512) : EReal := (∑ x : Fin 128, (K (ix3 0 a x) : EReal) * (q (ix3 0 b x) : EReal)) * SC

/-- The same under the causal mask inside a block. -/
def bm (a b : Fin 512) : EReal := if a.val ≤ b.val then bs K q a b else ⊥

/-- The largest score of query `b` after a block of the scores `s`. -/
def nm (s : Fin 512 → Fin 512 → EReal) (b : Fin 512) : EReal :=
  max (m (ix3 0 0 b) : EReal) (Finset.univ.sup fun a => s a b)

/-- The sum of the exponentials after the block. -/
def nl (s : Fin 512 → Fin 512 → EReal) (b : Fin 512) : EReal :=
  Ideal.exp ((m (ix3 0 0 b) : EReal) - nm m s b) * (l (ix3 0 0 b) : EReal) + ∑ a : Fin 512, Ideal.exp (s a b - nm m s b)

/-- The weighted sum after the block. -/
def na (s : Fin 512 → Fin 512 → EReal) (d : Fin 64) (b : Fin 512) : EReal :=
  Ideal.exp ((m (ix3 0 0 b) : EReal) - nm m s b) * (A (ix3 0 d b) : EReal)
    + ∑ a : Fin 512, (V (ix3 0 d a) : EReal) * Ideal.exp (s a b - nm m s b)

theorem minusInf : Ideal.ofBits FTy.f32 0xFF800000#32 = ⊥ := by simp [Ideal.ofBits, Ideal.ieee]

/-! ### A block before the diagonal -/

/-- The largest score as the kernel stores it, -/
def sM : FVec Ideal S1x1x512 .f32 := k0_pay13 (k0_pay7 K q m)

/-- the sum of the exponentials, -/
def sL : FVec Ideal S1x1x512 .f32 := k0_pay10 K q m l

/-- and the weighted sum. -/
def sA : FVec Ideal S1x64x512 .f32 := k0_pay12 (k0_pay9 K q m) (k0_pay11 K q m A) V

theorem pay5_at (a b : Fin 512) : (k0_pay5 (F := Ideal) K q (ix2 a b) : EReal) = bs K q a b := by
  pointwise [k0_pay5]
  rfl

theorem pay7_at (b : Fin 512) : (k0_pay7 (F := Ideal) K q m (ix2 0 b) : EReal) = nm m (bs K q) b := by
  pointwise [k0_pay7, k0_pay6, k0_pay5]
  rw [minusInf]
  rfl

theorem sM_at (b : Fin 512) : (sM K q m (ix3 0 0 b) : EReal) = nm m (bs K q) b := by
  unfold sM
  pointwise [k0_pay13]
  exact pay7_at K q m b

theorem sL_at (b : Fin 512) : (sL K q m l (ix3 0 0 b) : EReal) = nl m l (bs K q) b := by
  unfold sL nl
  simp only [← pay7_at, ← pay5_at]
  pointwise [k0_pay10, k0_pay8, k0_pay9, k0_pay6]

theorem sA_at (d : Fin 64) (b : Fin 512) : (sA K q m A V (ix3 0 d b) : EReal) = na m A V (bs K q) d b := by
  unfold sA na
  simp only [← pay7_at, ← pay5_at]
  pointwise [k0_pay12, k0_pay11, k0_pay8, k0_pay9, k0_pay6]

/-! ### The block on the diagonal -/

/-- The largest score as the kernel stores it, -/
def dM : FVec Ideal S1x1x512 .f32 := k0_pay94 (k0_pay89 K q m)

/-- the sum of the exponentials, -/
def dL : FVec Ideal S1x1x512 .f32 := k0_pay92 K q m l

/-- and the weighted sum. -/
def dA : FVec Ideal S1x64x512 .f32 := k0_pay93 (k0_pay90 K q m) (k0_pay91 K q m) A V

theorem pay87_at (a b : Fin 512) : (k0_pay87 (F := Ideal) K q (ix2 a b) : EReal) = bm K q a b := by
  pointwise [k0_pay87]
  have ha := a.isLt
  have hb := b.isLt
  rw [WordCmp.cmpi_sge_ofNat (by omega) (by omega)]
  unfold bm
  by_cases h : a.val ≤ b.val
  · rw [if_pos h]
    simp [h]
    rfl
  · rw [if_neg h]
    simp [h]
    rfl

theorem pay89_at (b : Fin 512) : (k0_pay89 (F := Ideal) K q m (ix2 0 b) : EReal) = nm m (bm K q) b := by
  unfold nm
  simp only [← pay87_at]
  pointwise [k0_pay89, k0_pay88]
  rw [minusInf]
  rfl

theorem dM_at (b : Fin 512) : (dM K q m (ix3 0 0 b) : EReal) = nm m (bm K q) b := by
  unfold dM
  pointwise [k0_pay94]
  exact pay89_at K q m b

theorem dL_at (b : Fin 512) : (dL K q m l (ix3 0 0 b) : EReal) = nl m l (bm K q) b := by
  unfold dL nl
  simp only [← pay89_at, ← pay87_at]
  pointwise [k0_pay92, k0_pay90, k0_pay91, k0_pay88]

theorem dA_at (d : Fin 64) (b : Fin 512) : (dA K q m A V (ix3 0 d b) : EReal) = na m A V (bm K q) d b := by
  unfold dA na
  simp only [← pay89_at, ← pay87_at]
  pointwise [k0_pay93, k0_pay90, k0_pay91, k0_pay88]

/-! ### The four heads' steps are the same -/

theorem m0 : k0_pay13 (k0_pay7 K q m) = sM K q m := rfl
theorem l0 : k0_pay10 K q m l = sL K q m l := rfl
theorem a0 : k0_pay12 (k0_pay9 K q m) (k0_pay11 K q m A) V = sA K q m A V := rfl
theorem m1 : k0_pay22 (k0_pay16 K q m) = sM K q m := rfl
theorem l1 : k0_pay20 (k0_pay19 K q m l) = sL K q m l := rfl
theorem a1 : k0_pay21 (k0_pay17 K q m) (k0_pay18 K q m) A V = sA K q m A V := rfl
theorem m2 : k0_pay30 (k0_pay25 K q m) = sM K q m := rfl
theorem l2 : k0_pay28 (k0_pay23 K q) (k0_pay24 m) (k0_pay25 K q m) l = sL K q m l := rfl
theorem a2 : k0_pay29 (k0_pay23 K q) (k0_pay24 m) (k0_pay25 K q m) A V = sA K q m A V := rfl
theorem m3 : k0_pay76 (k0_pay34 (k0_pay31 K) q m) = sM K q m := rfl
theorem m3' : k0_pay77 (k0_pay34 (k0_pay31 K) q m) = sM K q m := rfl
theorem l3 : k0_pay37 (k0_pay31 K) q m l = sL K q m l := rfl
theorem a3 : k0_pay38 (k0_pay31 K) q m A V = sA K q m A V := rfl

/-- The first head's rows of the diagonal block's mask. -/
def rows0 : IVec S512x512 32 := iota .tc S512x512 32 [0] iota_S512x512_d0_w32

theorem e0 : k0_pay86 (k0_pay81 (k0_pay78 K q) rows0 m) = dM K q m := rfl
theorem f0 : k0_pay84 (k0_pay78 K q) rows0 m l = dL K q m l := rfl
theorem g0 : k0_pay85 (k0_pay78 K q) rows0 m A V = dA K q m A V := rfl
theorem e1 : k0_pay94 (k0_pay89 K q m) = dM K q m := rfl
theorem f1 : k0_pay92 K q m l = dL K q m l := rfl
theorem g1 : k0_pay93 (k0_pay90 K q m) (k0_pay91 K q m) A V = dA K q m A V := rfl
theorem e2 : k0_pay102 (k0_pay97 K q m) = dM K q m := rfl
theorem f2 : k0_pay100 (k0_pay95 K q) (k0_pay97 K q m) (k0_pay98 K q m) l = dL K q m l := rfl
theorem g2 : k0_pay101 (k0_pay95 K q) (k0_pay97 K q m) (k0_pay98 K q m) A V = dA K q m A V := rfl
theorem e3 : k0_pay2 (k0_pay107 (k0_pay103 K) (k0_pay104 q) m) = dM K q m := rfl
theorem f3 : k0_pay110 (k0_pay103 K) (k0_pay104 q) m l = dL K q m l := rfl
theorem g3 : k0_pay1 (k0_pay111 (k0_pay103 K) (k0_pay104 q) m A V) = dA K q m A V := rfl

end Cert.Att
end
-- ==== Proof.AttWin.lean ====
/-
  The attention kernel's loops and windows in closed form: the loops' trip counts, the offsets of the blocks, what a load of
  one head's block reads, and what the four heads' stores leave.
-/
module

public import proofs.«01_k».proof.Proof.AttPay
public import proofs.«01_k».proof.Proof.Gen.AttKernelIdeal.Loops
public import Idealize.ShloMosaic.Lib.VecWindow

@[expose] public section

noncomputable section

namespace Cert.Att

open Idealize.ShloMosaic Cert.AttKernelIdeal Cert.AttKernelIdeal.Gen
open Idealize.ShloMosaic.Pointwise

/-! ### The loops -/

/-- The loop over the earlier blocks runs once for each block before the point's own. -/
theorem trips1 (i : grid0.Coords) : (k0_t1_loop i).trips = (i 1).val := by
  have h : (i 1).val < 16 := (i 1).isLt
  unfold k0_t1_loop
  generalize (i 1).val = n at h
  interval_cases n <;> decide

/-- The loop over the remainder runs never. -/
theorem trips2 (i : grid0.Coords) : (k0_t2_loop i).trips = 0 := by
  have h : (i 1).val < 16 := (i 1).isLt
  unfold k0_t2_loop
  generalize (i 1).val = n at h
  interval_cases n <;> decide

theorem trip_lt (i : grid0.Coords) (k : Fin (k0_t1_loop i).trips) : k.val < 16 := by
  have h1 := k.isLt
  have h2 := trips1 i
  have h3 : (i 1).val < 16 := (i 1).isLt
  omega

theorem word_off (n : ℕ) (hn : n < 16) : (BitVec.ofNat 32 n * 512#32).toNat = 512 * n := by
  simp only [BitVec.toNat_mul, BitVec.toNat_ofNat]
  omega

theorem off1_eq (i : grid0.Coords) (k : Fin (k0_t1_loop i).trips) : k0_off1 i k = ![0, 512 * k.val, 0] := by
  rw [← word_off k.val (trip_lt i k)]
  simp [k0_off1, Scf.iv, Scalar.muli, Scalar.addi, Scalar.indexCast, IntOp.muli, IntOp.addi]

theorem off2_eq (i : grid0.Coords) (k : Fin (k0_t1_loop i).trips) : k0_off2 i k = ![0, 0, 512 * k.val] := by
  rw [← word_off k.val (trip_lt i k)]
  simp [k0_off2, Scf.iv, Scalar.muli, Scalar.addi, Scalar.indexCast, IntOp.muli, IntOp.addi]

theorem off3_eq (i : grid0.Coords) (k : Fin (k0_t1_loop i).trips) : k0_off3 i k = ![1, 512 * k.val, 0] := by
  rw [← word_off k.val (trip_lt i k)]
  simp [k0_off3, Scf.iv, Scalar.muli, Scalar.addi, Scalar.indexCast, IntOp.muli, IntOp.addi]

theorem off4_eq (i : grid0.Coords) (k : Fin (k0_t1_loop i).trips) : k0_off4 i k = ![1, 0, 512 * k.val] := by
  rw [← word_off k.val (trip_lt i k)]
  simp [k0_off4, Scf.iv, Scalar.muli, Scalar.addi, Scalar.indexCast, IntOp.muli, IntOp.addi]

theorem off5_eq (i : grid0.Coords) (k : Fin (k0_t1_loop i).trips) : k0_off5 i k = ![2, 512 * k.val, 0] := by
  rw [← word_off k.val (trip_lt i k)]
  simp [k0_off5, Scf.iv, Scalar.muli, Scalar.addi, Scalar.indexCast, IntOp.muli, IntOp.addi]

theorem off6_eq (i : grid0.Coords) (k : Fin (k0_t1_loop i).trips) : k0_off6 i k = ![2, 0, 512 * k.val] := by
  rw [← word_off k.val (trip_lt i k)]
  simp [k0_off6, Scf.iv, Scalar.muli, Scalar.addi, Scalar.indexCast, IntOp.muli, IntOp.addi]

theorem off7_eq (i : grid0.Coords) (k : Fin (k0_t1_loop i).trips) : k0_off7 i k = ![3, 512 * k.val, 0] := by
  rw [← word_off k.val (trip_lt i k)]
  simp [k0_off7, Scf.iv, Scalar.muli, Scalar.addi, Scalar.indexCast, IntOp.muli, IntOp.addi]

theorem off8_eq (i : grid0.Coords) (k : Fin (k0_t1_loop i).trips) : k0_off8 i k = ![3, 0, 512 * k.val] := by
  rw [← word_off k.val (trip_lt i k)]
  simp [k0_off8, Scf.iv, Scalar.muli, Scalar.addi, Scalar.indexCast, IntOp.muli, IntOp.addi]

theorem off17_eq (i : grid0.Coords) : k0_off17 i = ![0, 512 * (i 1).val, 0] := by
  rw [← word_off (i 1).val (i 1).isLt]
  simp [k0_off17, Scf.iv, Scalar.muli, Scalar.addi, Scalar.indexCast, IntOp.muli, IntOp.addi]

theorem off18_eq (i : grid0.Coords) : k0_off18 i = ![0, 0, 512 * (i 1).val] := by
  rw [← word_off (i 1).val (i 1).isLt]
  simp [k0_off18, Scf.iv, Scalar.muli, Scalar.addi, Scalar.indexCast, IntOp.muli, IntOp.addi]

theorem off19_eq (i : grid0.Coords) : k0_off19 i = ![1, 512 * (i 1).val, 0] := by
  rw [← word_off (i 1).val (i 1).isLt]
  simp [k0_off19, Scf.iv, Scalar.muli, Scalar.addi, Scalar.indexCast, IntOp.muli, IntOp.addi]

theorem off20_eq (i : grid0.Coords) : k0_off20 i = ![1, 0, 512 * (i 1).val] := by
  rw [← word_off (i 1).val (i 1).isLt]
  simp [k0_off20, Scf.iv, Scalar.muli, Scalar.addi, Scalar.indexCast, IntOp.muli, IntOp.addi]

theorem off21_eq (i : grid0.Coords) : k0_off21 i = ![2, 512 * (i 1).val, 0] := by
  rw [← word_off (i 1).val (i 1).isLt]
  simp [k0_off21, Scf.iv, Scalar.muli, Scalar.addi, Scalar.indexCast, IntOp.muli, IntOp.addi]

theorem off22_eq (i : grid0.Coords) : k0_off22 i = ![2, 0, 512 * (i 1).val] := by
  rw [← word_off (i 1).val (i 1).isLt]
  simp [k0_off22, Scf.iv, Scalar.muli, Scalar.addi, Scalar.indexCast, IntOp.muli, IntOp.addi]

theorem off23_eq (i : grid0.Coords) : k0_off23 i = ![3, 512 * (i 1).val, 0] := by
  rw [← word_off (i 1).val (i 1).isLt]
  simp [k0_off23, Scf.iv, Scalar.muli, Scalar.addi, Scalar.indexCast, IntOp.muli, IntOp.addi]

theorem off24_eq (i : grid0.Coords) : k0_off24 i = ![3, 0, 512 * (i 1).val] := by
  rw [← word_off (i 1).val (i 1).isLt]
  simp [k0_off24, Scf.iv, Scalar.muli, Scalar.addi, Scalar.indexCast, IntOp.muli, IntOp.addi]

/-! ### One head's part of a block -/

section

variable {Val : EltTy → Type} {e : EltTy} {A B : ℕ}

/-- Head `h` of an array of four heads. -/
def hd (f : (⟨3, ![4, A, B]⟩ : Shape).Idx → Val e) (h : Fin 4) : (⟨3, ![1, A, B]⟩ : Shape).Idx → Val e :=
  fun j => f (ix3 h (j 1) (j 2))

/-- Rows `r0 … r0 + 511` of head `h`. -/
def hdK (f : (⟨3, ![4, 8192, B]⟩ : Shape).Idx → Val e) (h : Fin 4) (r0 : ℕ) (hr : r0 + 512 ≤ 8192) :
    (⟨3, ![1, 512, B]⟩ : Shape).Idx → Val e :=
  fun j => f (ix3 h (row r0 hr (j 1)) (j 2))

/-- Columns `r0 … r0 + 511` of head `h`. -/
def hdV (f : (⟨3, ![4, A, 8192]⟩ : Shape).Idx → Val e) (h : Fin 4) (r0 : ℕ) (hr : r0 + 512 ≤ 8192) :
    (⟨3, ![1, A, 512]⟩ : Shape).Idx → Val e :=
  fun j => f (ix3 h (j 1) (row r0 hr (j 2)))

theorem inbH (h : Fin 4) (a : Fin 3) :
    (![h.val, 0, 0] : Fin 3 → ℕ) a + (![1, A, B] : Fin 3 → ℕ) a ≤ (⟨3, ![4, A, B]⟩ : Shape).size a := by
  match a with
  | 0 => show h.val + 1 ≤ 4; have := h.isLt; omega
  | 1 => show 0 + A ≤ A; omega
  | 2 => show 0 + B ≤ B; omega

theorem inbK {off : Fin 3 → ℕ} (h : Fin 4) (r0 : ℕ) (hr : r0 + 512 ≤ 8192) (ho : off = ![h.val, r0, 0]) (a : Fin 3) :
    off a + (![1, 512, B] : Fin 3 → ℕ) a ≤ (⟨3, ![4, 8192, B]⟩ : Shape).size a := by
  subst ho
  match a with
  | 0 => show h.val + 1 ≤ 4; have := h.isLt; omega
  | 1 => show r0 + 512 ≤ 8192; omega
  | 2 => show 0 + B ≤ B; omega

theorem inbV {off : Fin 3 → ℕ} (h : Fin 4) (r0 : ℕ) (hr : r0 + 512 ≤ 8192) (ho : off = ![h.val, 0, r0]) (a : Fin 3) :
    off a + (![1, A, 512] : Fin 3 → ℕ) a ≤ (⟨3, ![4, A, 8192]⟩ : Shape).size a := by
  subst ho
  match a with
  | 0 => show h.val + 1 ≤ 4; have := h.isLt; omega
  | 1 => show 0 + A ≤ A; omega
  | 2 => show r0 + 512 ≤ 8192; omega

variable {sig : RefSig} {κ : Kind} {sp : Space}

/-- A load of one head. -/
theorem ld_hd (v : View sig κ sp (⟨3, ![4, A, B]⟩ : Shape) e) (f : v.ty.Contents Val) {off : Fin 3 → ℕ} (h : Fin 4)
    (ho : off = ![h.val, 0, 0]) (inb : ∀ a, off a + (![1, A, B] : Fin 3 → ℕ) a ≤ (⟨3, ![4, A, B]⟩ : Shape).size a) :
    v.readAt Val (Rect.unit (s := ⟨3, ![4, A, B]⟩) off ![1, A, B] inb).toLoadRect f = hd (v.read Val f) h := by
  subst ho
  funext j
  refine congrArg (v.read Val f) (funext fun x => Fin.ext ?_)
  match x with
  | 0 => show h.val + 1 * (j 0).val = h.val; have : (j 0).val < 1 := (j 0).isLt; omega
  | 1 => show 0 + 1 * (j 1).val = (j 1).val; omega
  | 2 => show 0 + 1 * (j 2).val = (j 2).val; omega

/-- A load of 512 rows of one head. -/
theorem ld_hdK (v : View sig κ sp (⟨3, ![4, 8192, B]⟩ : Shape) e) (f : v.ty.Contents Val) {off : Fin 3 → ℕ} (h : Fin 4)
    (r0 : ℕ) (hr : r0 + 512 ≤ 8192) (ho : off = ![h.val, r0, 0])
    (inb : ∀ a, off a + (![1, 512, B] : Fin 3 → ℕ) a ≤ (⟨3, ![4, 8192, B]⟩ : Shape).size a) :
    v.readAt Val (Rect.unit (s := ⟨3, ![4, 8192, B]⟩) off ![1, 512, B] inb).toLoadRect f = hdK (v.read Val f) h r0 hr := by
  subst ho
  funext j
  refine congrArg (v.read Val f) (funext fun x => Fin.ext ?_)
  match x with
  | 0 => show h.val + 1 * (j 0).val = h.val; have : (j 0).val < 1 := (j 0).isLt; omega
  | 1 => show r0 + 1 * (j 1).val = r0 + (j 1).val; omega
  | 2 => show 0 + 1 * (j 2).val = (j 2).val; omega

/-- A load of 512 columns of one head. -/
theorem ld_hdV (v : View sig κ sp (⟨3, ![4, A, 8192]⟩ : Shape) e) (f : v.ty.Contents Val) {off : Fin 3 → ℕ} (h : Fin 4)
    (r0 : ℕ) (hr : r0 + 512 ≤ 8192) (ho : off = ![h.val, 0, r0])
    (inb : ∀ a, off a + (![1, A, 512] : Fin 3 → ℕ) a ≤ (⟨3, ![4, A, 8192]⟩ : Shape).size a) :
    v.readAt Val (Rect.unit (s := ⟨3, ![4, A, 8192]⟩) off ![1, A, 512] inb).toLoadRect f = hdV (v.read Val f) h r0 hr := by
  subst ho
  funext j
  refine congrArg (v.read Val f) (funext fun x => Fin.ext ?_)
  match x with
  | 0 => show h.val + 1 * (j 0).val = h.val; have : (j 0).val < 1 := (j 0).isLt; omega
  | 1 => show 0 + 1 * (j 1).val = (j 1).val; omega
  | 2 => show r0 + 1 * (j 2).val = r0 + (j 2).val; omega

/-- After a store of head `h`, that head is what was stored. -/
theorem st_hd (v : View sig κ sp (⟨3, ![4, A, B]⟩ : Shape) e) (f : v.ty.Contents Val) {off : Fin 3 → ℕ} (h : Fin 4)
    (ho : off = ![h.val, 0, 0]) (inb : ∀ a, off a + (![1, A, B] : Fin 3 → ℕ) a ≤ (⟨3, ![4, A, B]⟩ : Shape).size a)
    (w : (Rect.unit (s := ⟨3, ![4, A, B]⟩) off ![1, A, B] inb).shape.Idx → Val e)
    (L : List (View.Piece Val (⟨3, ![4, A, B]⟩ : Shape) e)) :
    hd (v.read Val (v.writes Val f (⟨Rect.unit (s := ⟨3, ![4, A, B]⟩) off ![1, A, B] inb, w⟩ :: L))) h = w := by
  funext j
  refine View.read_writes_cons_unit_of_mem v f inb w L _ j ho fun x => ?_
  match x with
  | 0 => show h.val = h.val + (j 0).val; have : (j 0).val < 1 := (j 0).isLt; omega
  | 1 => show (j 1).val = 0 + (j 1).val; omega
  | 2 => show (j 2).val = 0 + (j 2).val; omega

/-- After a store of head `h`, another head is what it was. -/
theorem st_hd_ne (v : View sig κ sp (⟨3, ![4, A, B]⟩ : Shape) e) (f : v.ty.Contents Val) {off : Fin 3 → ℕ} (h g : Fin 4)
    (hg : g.val < h.val ∨ h.val + 1 ≤ g.val)
    (ho : off = ![h.val, 0, 0]) (inb : ∀ a, off a + (![1, A, B] : Fin 3 → ℕ) a ≤ (⟨3, ![4, A, B]⟩ : Shape).size a)
    (w : (Rect.unit (s := ⟨3, ![4, A, B]⟩) off ![1, A, B] inb).shape.Idx → Val e)
    (L : List (View.Piece Val (⟨3, ![4, A, B]⟩ : Shape) e)) :
    hd (v.read Val (v.writes Val f (⟨Rect.unit (s := ⟨3, ![4, A, B]⟩) off ![1, A, B] inb, w⟩ :: L))) g
      = hd (v.read Val (v.writes Val f L)) g := by
  funext j
  exact View.read_writes_cons_unit_of_not_mem v f inb w L _ ho (0 : Fin 3) hg

end

end Cert.Att
end
-- ==== Proof.AttTrip.lean ====
/-
  One trip of the attention kernel's loop over the earlier blocks: what it leaves in the three accumulators, head by head.
-/
module

public import proofs.«01_k».proof.Proof.AttWin

@[expose] public section

noncomputable section

namespace Cert.Att

open Idealize.ShloMosaic Idealize.ShloMosaic.TcCoe Cert.AttKernelIdeal Cert.AttKernelIdeal.Gen
open Idealize.ShloMosaic.Pointwise
open Idealize.ShloMosaic.Tactic
open Idealize.SL Idealize.SL.RA Idealize.SL.BI

/-- Equal arguments give equal values. -/
theorem cong3 {α β γ δ : Type} (f : α → β → γ → δ) {a a' : α} {b b' : β} {c c' : γ} (ha : a = a') (hb : b = b') (hc : c = c') :
    f a b c = f a' b' c' := by subst ha hb hc; rfl

theorem cong4 {α β γ δ ε : Type} (f : α → β → γ → δ → ε) {a a' : α} {b b' : β} {c c' : γ} {d d' : δ} (ha : a = a') (hb : b = b')
    (hc : c = c') (hd : d = d') : f a b c d = f a' b' c' d' := by subst ha hb hc hd; rfl

theorem cong5 {α β γ δ ε ζ : Type} (f : α → β → γ → δ → ε → ζ) {a a' : α} {b b' : β} {c c' : γ} {d d' : δ} {e e' : ε} (ha : a = a')
    (hb : b = b') (hc : c = c') (hd : d = d') (he : e = e') : f a b c d e = f a' b' c' d' e' := by subst ha hb hc hd he; rfl

section

variable (𝒱 : Variants) (c : Dev nD) (bd : Option 𝒱.V) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x64x512 .f32) (harg9 : arg9.IsWhole)
variable (X_arg2 : BufTy.Contents (Elt Ideal) arg2.view.ty) (X_arg3 : BufTy.Contents (Elt Ideal) arg3.view.ty) (X_arg4 : BufTy.Contents (Elt Ideal) arg4.view.ty) (k : Fin (k0_t1_loop i).trips) (f_arg7 : BufTy.Contents (Elt Ideal) arg7.view.ty) (f_arg8 : BufTy.Contents (Elt Ideal) arg8.view.ty) (f_arg9 : BufTy.Contents (Elt Ideal) arg9.view.ty)

theorem trip_m (h : Fin 4) :
    hd (arg7.view.read (Elt Ideal) (arg7.view.writes (Elt Ideal) f_arg7 (tripL_k0_t1 (F := Ideal) 𝒱 c bd i arg2 harg2 arg3 harg3 arg4 harg4 arg5 harg5 arg6 harg6 arg7 harg7 arg8 harg8 arg9 harg9 X_arg2 X_arg3 X_arg4 k f_arg7 f_arg8 f_arg9).1)) h
      = sM (hdK (arg3.view.read (Elt Ideal) X_arg3) h (512 * k.val) (by have := trip_lt i k; omega)) (hd (arg2.view.read (Elt Ideal) X_arg2) h) (hd (arg7.view.read (Elt Ideal) f_arg7) h) := by
  have hk := trip_lt i k
  have o1 := off1_eq i k
  have o2 := off2_eq i k
  have o3 := off3_eq i k
  have o4 := off4_eq i k
  have o5 := off5_eq i k
  have o6 := off6_eq i k
  have o7 := off7_eq i k
  have o8 := off8_eq i k
  unfold tripL_k0_t1
  unfold trip_k0_t1
  dsimp only
  sl_unfold_run_names
  match h with
  | 0 =>
    refine (st_hd_ne arg7.view f_arg7 3 0 (by decide) rfl _ _ _).trans ?_
    refine (st_hd_ne arg7.view f_arg7 2 0 (by decide) rfl _ _ _).trans ?_
    refine (st_hd_ne arg7.view f_arg7 1 0 (by decide) rfl _ _ _).trans ?_
    refine (st_hd arg7.view f_arg7 0 rfl _ _ _).trans ?_
    refine Eq.trans ?_ (cong3 sM (ld_hdK arg3.view X_arg3 0 (512 * k.val) (by omega) o1 (inbK 0 (512 * k.val) (by omega) o1)) (ld_hd arg2.view X_arg2 0 rfl (inbH 0)) (ld_hd arg7.view f_arg7 0 rfl (inbH 0)))
    rfl
  | 1 =>
    refine (st_hd_ne arg7.view f_arg7 3 1 (by decide) rfl _ _ _).trans ?_
    refine (st_hd_ne arg7.view f_arg7 2 1 (by decide) rfl _ _ _).trans ?_
    refine (st_hd arg7.view f_arg7 1 rfl _ _ _).trans ?_
    refine Eq.trans ?_ (cong3 sM (ld_hdK arg3.view X_arg3 1 (512 * k.val) (by omega) o3 (inbK 1 (512 * k.val) (by omega) o3)) (ld_hd arg2.view X_arg2 1 rfl (inbH 1)) (ld_hd arg7.view f_arg7 1 rfl (inbH 1)))
    rfl
  | 2 =>
    refine (st_hd_ne arg7.view f_arg7 3 2 (by decide) rfl _ _ _).trans ?_
    refine (st_hd arg7.view f_arg7 2 rfl _ _ _).trans ?_
    refine Eq.trans ?_ (cong3 sM (ld_hdK arg3.view X_arg3 2 (512 * k.val) (by omega) o5 (inbK 2 (512 * k.val) (by omega) o5)) (ld_hd arg2.view X_arg2 2 rfl (inbH 2)) (ld_hd arg7.view f_arg7 2 rfl (inbH 2)))
    rfl
  | 3 =>
    refine (st_hd arg7.view f_arg7 3 rfl _ _ _).trans ?_
    refine Eq.trans ?_ (cong3 sM (ld_hdK arg3.view X_arg3 3 (512 * k.val) (by omega) o7 (inbK 3 (512 * k.val) (by omega) o7)) (ld_hd arg2.view X_arg2 3 rfl (inbH 3)) (ld_hd arg7.view f_arg7 3 rfl (inbH 3)))
    rfl

theorem trip_l (h : Fin 4) :
    hd (arg8.view.read (Elt Ideal) (arg8.view.writes (Elt Ideal) f_arg8 (tripL_k0_t1 (F := Ideal) 𝒱 c bd i arg2 harg2 arg3 harg3 arg4 harg4 arg5 harg5 arg6 harg6 arg7 harg7 arg8 harg8 arg9 harg9 X_arg2 X_arg3 X_arg4 k f_arg7 f_arg8 f_arg9).2.1)) h
      = sL (hdK (arg3.view.read (Elt Ideal) X_arg3) h (512 * k.val) (by have := trip_lt i k; omega)) (hd (arg2.view.read (Elt Ideal) X_arg2) h) (hd (arg7.view.read (Elt Ideal) f_arg7) h) (hd (arg8.view.read (Elt Ideal) f_arg8) h) := by
  have hk := trip_lt i k
  have o1 := off1_eq i k
  have o2 := off2_eq i k
  have o3 := off3_eq i k
  have o4 := off4_eq i k
  have o5 := off5_eq i k
  have o6 := off6_eq i k
  have o7 := off7_eq i k
  have o8 := off8_eq i k
  unfold tripL_k0_t1
  unfold trip_k0_t1
  dsimp only
  sl_unfold_run_names
  match h with
  | 0 =>
    refine (st_hd_ne arg8.view f_arg8 3 0 (by decide) rfl _ _ _).trans ?_
    refine (st_hd_ne arg8.view f_arg8 2 0 (by decide) rfl _ _ _).trans ?_
    refine (st_hd_ne arg8.view f_arg8 1 0 (by decide) rfl _ _ _).trans ?_
    refine (st_hd arg8.view f_arg8 0 rfl _ _ _).trans ?_
    refine Eq.trans ?_ (cong4 sL (ld_hdK arg3.view X_arg3 0 (512 * k.val) (by omega) o1 (inbK 0 (512 * k.val) (by omega) o1)) (ld_hd arg2.view X_arg2 0 rfl (inbH 0)) (ld_hd arg7.view f_arg7 0 rfl (inbH 0)) (ld_hd arg8.view f_arg8 0 rfl (inbH 0)))
    rfl
  | 1 =>
    refine (st_hd_ne arg8.view f_arg8 3 1 (by decide) rfl _ _ _).trans ?_
    refine (st_hd_ne arg8.view f_arg8 2 1 (by decide) rfl _ _ _).trans ?_
    refine (st_hd arg8.view f_arg8 1 rfl _ _ _).trans ?_
    refine Eq.trans ?_ (cong4 sL (ld_hdK arg3.view X_arg3 1 (512 * k.val) (by omega) o3 (inbK 1 (512 * k.val) (by omega) o3)) (ld_hd arg2.view X_arg2 1 rfl (inbH 1)) (ld_hd arg7.view f_arg7 1 rfl (inbH 1)) (ld_hd arg8.view f_arg8 1 rfl (inbH 1)))
    rfl
  | 2 =>
    refine (st_hd_ne arg8.view f_arg8 3 2 (by decide) rfl _ _ _).trans ?_
    refine (st_hd arg8.view f_arg8 2 rfl _ _ _).trans ?_
    refine Eq.trans ?_ (cong4 sL (ld_hdK arg3.view X_arg3 2 (512 * k.val) (by omega) o5 (inbK 2 (512 * k.val) (by omega) o5)) (ld_hd arg2.view X_arg2 2 rfl (inbH 2)) (ld_hd arg7.view f_arg7 2 rfl (inbH 2)) (ld_hd arg8.view f_arg8 2 rfl (inbH 2)))
    rfl
  | 3 =>
    refine (st_hd arg8.view f_arg8 3 rfl _ _ _).trans ?_
    refine Eq.trans ?_ (cong4 sL (ld_hdK arg3.view X_arg3 3 (512 * k.val) (by omega) o7 (inbK 3 (512 * k.val) (by omega) o7)) (ld_hd arg2.view X_arg2 3 rfl (inbH 3)) (ld_hd arg7.view f_arg7 3 rfl (inbH 3)) (ld_hd arg8.view f_arg8 3 rfl (inbH 3)))
    rfl

theorem trip_a (h : Fin 4) :
    hd (arg9.view.read (Elt Ideal) (arg9.view.writes (Elt Ideal) f_arg9 (tripL_k0_t1 (F := Ideal) 𝒱 c bd i arg2 harg2 arg3 harg3 arg4 harg4 arg5 harg5 arg6 harg6 arg7 harg7 arg8 harg8 arg9 harg9 X_arg2 X_arg3 X_arg4 k f_arg7 f_arg8 f_arg9).2.2)) h
      = sA (hdK (arg3.view.read (Elt Ideal) X_arg3) h (512 * k.val) (by have := trip_lt i k; omega)) (hd (arg2.view.read (Elt Ideal) X_arg2) h) (hd (arg7.view.read (Elt Ideal) f_arg7) h) (hd (arg9.view.read (Elt Ideal) f_arg9) h) (hdV (arg4.view.read (Elt Ideal) X_arg4) h (512 * k.val) (by have := trip_lt i k; omega)) := by
  have hk := trip_lt i k
  have o1 := off1_eq i k
  have o2 := off2_eq i k
  have o3 := off3_eq i k
  have o4 := off4_eq i k
  have o5 := off5_eq i k
  have o6 := off6_eq i k
  have o7 := off7_eq i k
  have o8 := off8_eq i k
  unfold tripL_k0_t1
  unfold trip_k0_t1
  dsimp only
  sl_unfold_run_names
  match h with
  | 0 =>
    refine (st_hd_ne arg9.view f_arg9 3 0 (by decide) rfl _ _ _).trans ?_
    refine (st_hd_ne arg9.view f_arg9 2 0 (by decide) rfl _ _ _).trans ?_
    refine (st_hd_ne arg9.view f_arg9 1 0 (by decide) rfl _ _ _).trans ?_
    refine (st_hd arg9.view f_arg9 0 rfl _ _ _).trans ?_
    refine Eq.trans ?_ (cong5 sA (ld_hdK arg3.view X_arg3 0 (512 * k.val) (by omega) o1 (inbK 0 (512 * k.val) (by omega) o1)) (ld_hd arg2.view X_arg2 0 rfl (inbH 0)) (ld_hd arg7.view f_arg7 0 rfl (inbH 0)) (ld_hd arg9.view f_arg9 0 rfl (inbH 0)) (ld_hdV arg4.view X_arg4 0 (512 * k.val) (by omega) o2 (inbV 0 (512 * k.val) (by omega) o2)))
    rfl
  | 1 =>
    refine (st_hd_ne arg9.view f_arg9 3 1 (by decide) rfl _ _ _).trans ?_
    refine (st_hd_ne arg9.view f_arg9 2 1 (by decide) rfl _ _ _).trans ?_
    refine (st_hd arg9.view f_arg9 1 rfl _ _ _).trans ?_
    refine Eq.trans ?_ (cong5 sA (ld_hdK arg3.view X_arg3 1 (512 * k.val) (by omega) o3 (inbK 1 (512 * k.val) (by omega) o3)) (ld_hd arg2.view X_arg2 1 rfl (inbH 1)) (ld_hd arg7.view f_arg7 1 rfl (inbH 1)) (ld_hd arg9.view f_arg9 1 rfl (inbH 1)) (ld_hdV arg4.view X_arg4 1 (512 * k.val) (by omega) o4 (inbV 1 (512 * k.val) (by omega) o4)))
    rfl
  | 2 =>
    refine (st_hd_ne arg9.view f_arg9 3 2 (by decide) rfl _ _ _).trans ?_
    refine (st_hd arg9.view f_arg9 2 rfl _ _ _).trans ?_
    refine Eq.trans ?_ (cong5 sA (ld_hdK arg3.view X_arg3 2 (512 * k.val) (by omega) o5 (inbK 2 (512 * k.val) (by omega) o5)) (ld_hd arg2.view X_arg2 2 rfl (inbH 2)) (ld_hd arg7.view f_arg7 2 rfl (inbH 2)) (ld_hd arg9.view f_arg9 2 rfl (inbH 2)) (ld_hdV arg4.view X_arg4 2 (512 * k.val) (by omega) o6 (inbV 2 (512 * k.val) (by omega) o6)))
    rfl
  | 3 =>
    refine (st_hd arg9.view f_arg9 3 rfl _ _ _).trans ?_
    refine Eq.trans ?_ (cong5 sA (ld_hdK arg3.view X_arg3 3 (512 * k.val) (by omega) o7 (inbK 3 (512 * k.val) (by omega) o7)) (ld_hd arg2.view X_arg2 3 rfl (inbH 3)) (ld_hd arg7.view f_arg7 3 rfl (inbH 3)) (ld_hd arg9.view f_arg9 3 rfl (inbH 3)) (ld_hdV arg4.view X_arg4 3 (512 * k.val) (by omega) o8 (inbV 3 (512 * k.val) (by omega) o8)))
    rfl

end

end Cert.Att
end
-- ==== Proof.AttLoop.lean ====
/-
  The attention kernel's loop over the earlier blocks as a whole: after `n` trips its accumulators hold, for every query, the
  largest score, the sum and the weighted sums over the first `512 n` keys. The scores and values are real numbers.
-/
module

public import proofs.«01_k».proof.Proof.AttTrip

@[expose] public section

noncomputable section

namespace Cert.Att

open Idealize.ShloMosaic Idealize.ShloMosaic.TcCoe Cert.AttKernelIdeal Cert.AttKernelIdeal.Gen
open Idealize.ShloMosaic.Pointwise
open Idealize.ShloMosaic.Tactic
open Idealize.SL Idealize.SL.RA Idealize.SL.BI

/-- The weights of the plain sum. -/
def one : Fin 8192 → ℝ := fun _ => 1

section

variable (R w : Fin 8192 → ℝ) (r0 : ℕ) (hr : r0 + 512 ≤ 8192) (p b q : Fin 8192 → Prop) [DecidablePred p] [DecidablePred b]
  [DecidablePred q] (hq : ∀ y, q y ↔ p y ∨ b y) (hd : ∀ y, p y → ¬b y) (hb : ∀ y, b y → inBlk r0 y) {y0 : Fin 8192} (h0 : b y0)
  (m l : Vec Ideal S1x1x512 .f32) (A : Vec Ideal S1x64x512 .f32) (V : Vec Ideal S1x64x512 .bf16)
  (s : Fin 512 → Fin 512 → EReal) (t : Fin 512) (hs : ∀ a, s a t = sc R b (row r0 hr a))
  (hm : (m (ix3 0 0 t) : EReal) = M R p)

include hq hb hs hm

/-- A block takes the largest score over `p` to that over `q`, -/
theorem nm_step : nm m s t = M R q := by
  unfold nm
  rw [hm]
  exact M_block R r0 hr p b q hq hb (fun a => s a t) hs

include hd h0

/-- the sum to the sum over `q`, -/
theorem nl_step (hl : (l (ix3 0 0 t) : EReal) = W R one p) : nl m l s t = W R one q := by
  unfold nl
  rw [nm_step R r0 hr p b q hq hb m s t hs hm, hm, hl]
  refine Eq.trans ?_ (W_block R one r0 hr p b q hq hd hb h0 (fun a => s a t) (fun _ => 1) hs (fun a => rfl))
  simp only [one_mul]

/-- and the weighted sum likewise. -/
theorem na_step (d : Fin 64) (hV : ∀ a, (V (ix3 0 d a) : EReal) = (w (row r0 hr a) : EReal)) (ha : (A (ix3 0 d t) : EReal) = W R w p) :
    na m A V s d t = W R w q := by
  unfold na
  rw [nm_step R r0 hr p b q hq hb m s t hs hm, hm, ha]
  exact W_block R w r0 hr p b q hq hd hb h0 (fun a => s a t) (fun a => (V (ix3 0 d a) : EReal)) hs hV

end

/-- The keys before the block `n`. -/
def before (n : ℕ) (y : Fin 8192) : Prop := y.val < 512 * n

instance (n : ℕ) : DecidablePred (before n) := fun _ => inferInstanceAs (Decidable (_ < _))

/-- The score of key `y` of head `h` for query `t`, from the blocks held. -/
def scoreOf (Q : Vec Ideal S4x512x128 .bf16) (K : Vec Ideal S4x8192x128 .bf16) (h : Fin 4) (t : Fin 512) (y : Fin 8192) : EReal :=
  (∑ x : Fin 128, (K (ix3 h y x) : EReal) * (Q (ix3 h t x) : EReal)) * SC

section

variable (𝒱 : Variants) (c : Dev nD) (bd : Option 𝒱.V) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x64x512 .f32) (harg9 : arg9.IsWhole)
variable (X_arg2 : BufTy.Contents (Elt Ideal) arg2.view.ty) (X_arg3 : BufTy.Contents (Elt Ideal) arg3.view.ty) (X_arg4 : BufTy.Contents (Elt Ideal) arg4.view.ty) (G_arg7 : BufTy.Contents (Elt Ideal) arg7.view.ty) (G_arg8 : BufTy.Contents (Elt Ideal) arg8.view.ty) (G_arg9 : BufTy.Contents (Elt Ideal) arg9.view.ty)
variable (R : Fin 4 → Fin 512 → Fin 8192 → ℝ) (w : Fin 4 → Fin 64 → Fin 8192 → ℝ)
  (hR : ∀ h t y, scoreOf (arg2.view.read (Elt Ideal) X_arg2) (arg3.view.read (Elt Ideal) X_arg3) h t y = (R h t y : EReal))
  (hw : ∀ h d y, (arg4.view.read (Elt Ideal) X_arg4 (ix3 h d y) : EReal) = (w h d y : EReal))
  (h7 : ∀ h t, (hd (arg7.view.read (Elt Ideal) G_arg7) h (ix3 0 0 t) : EReal) = ⊥)
  (h8 : ∀ h t, (hd (arg8.view.read (Elt Ideal) G_arg8) h (ix3 0 0 t) : EReal) = 0)
  (h9 : ∀ h d t, (hd (arg9.view.read (Elt Ideal) G_arg9) h (ix3 0 d t) : EReal) = 0)

include hR hw h7 h8 h9

/-- What the accumulators hold after `n` trips. -/
theorem loop_inv (n : ℕ) (hn : n ≤ (k0_t1_loop i).trips) (h : Fin 4) (t : Fin 512) :
    (hd (arg7.view.read (Elt Ideal) (arg7.view.writes (Elt Ideal) G_arg7 (pb_k0_t1 (F := Ideal) 𝒱 c bd i arg2 harg2 arg3 harg3 arg4 harg4 arg5 harg5 arg6 harg6 arg7 harg7 arg8 harg8 arg9 harg9 X_arg2 X_arg3 X_arg4 G_arg7 G_arg8 G_arg9 n).1)) h (ix3 0 0 t) : EReal) = M (R h t) (before n)
    ∧ (hd (arg8.view.read (Elt Ideal) (arg8.view.writes (Elt Ideal) G_arg8 (pb_k0_t1 (F := Ideal) 𝒱 c bd i arg2 harg2 arg3 harg3 arg4 harg4 arg5 harg5 arg6 harg6 arg7 harg7 arg8 harg8 arg9 harg9 X_arg2 X_arg3 X_arg4 G_arg7 G_arg8 G_arg9 n).2.1)) h (ix3 0 0 t) : EReal) = W (R h t) one (before n)
    ∧ ∀ d, (hd (arg9.view.read (Elt Ideal) (arg9.view.writes (Elt Ideal) G_arg9 (pb_k0_t1 (F := Ideal) 𝒱 c bd i arg2 harg2 arg3 harg3 arg4 harg4 arg5 harg5 arg6 harg6 arg7 harg7 arg8 harg8 arg9 harg9 X_arg2 X_arg3 X_arg4 G_arg7 G_arg8 G_arg9 n).2.2)) h (ix3 0 d t) : EReal) = W (R h t) (w h d) (before n) := by
  induction n with
  | zero =>
    have e : ∀ y, ¬before 0 y := fun y hy => by unfold before at hy; omega
    refine ⟨(h7 h t).trans (M_none _ _ e).symm, (h8 h t).trans (W_none _ _ _ e).symm, fun d => (h9 h d t).trans (W_none _ _ _ e).symm⟩
  | succ n ih =>
    obtain ⟨im, il, ia⟩ := ih (by omega)
    have hk := trip_lt i ⟨n, hn⟩
    dsimp only at hk
    have hr : 512 * n + 512 ≤ 8192 := by omega
    have hq : ∀ y, before (n + 1) y ↔ before n y ∨ inBlk (512 * n) y := fun y => by unfold before inBlk; omega
    have hdj : ∀ y, before n y → ¬inBlk (512 * n) y := fun y => by unfold before inBlk; omega
    have h0 : inBlk (512 * n) (row (512 * n) hr 0) := inBlk_row _ hr 0
    have hs : ∀ a, bs (hdK (arg3.view.read (Elt Ideal) X_arg3) h (512 * n) hr) (hd (arg2.view.read (Elt Ideal) X_arg2) h) a t
        = sc (R h t) (inBlk (512 * n)) (row (512 * n) hr a) := fun a => by
      rw [sc, if_pos (inBlk_row _ hr a), ← hR]
      rfl
    have e := pb_k0_t1_succ (F := Ideal) 𝒱 c bd i arg2 harg2 arg3 harg3 arg4 harg4 arg5 harg5 arg6 harg6 arg7 harg7 arg8 harg8 arg9 harg9 X_arg2 X_arg3 X_arg4 G_arg7 G_arg8 G_arg9 ⟨n, hn⟩
    dsimp only at e
    rw [e]
    dsimp only
    refine ⟨?_, ?_, fun d => ?_⟩
    · rw [View.writes_append, trip_m, sM_at]
      exact nm_step (R h t) (512 * n) hr _ _ _ hq (fun _ h => h) _ _ t hs im
    · rw [View.writes_append, trip_l, sL_at]
      exact nl_step (R h t) (512 * n) hr _ _ _ hq hdj (fun _ h => h) h0 _ _ _ t hs im il
    · rw [View.writes_append, trip_a, sA_at]
      exact na_step (R h t) (w h d) (512 * n) hr _ _ _ hq hdj (fun _ h => h) h0 _ _ _ _ t hs im d (fun a => hw h d _) (ia d)

end

end Cert.Att
end
-- ==== Proof.AttPoint.lean ====
/-
  One point of the attention kernel's grid: what the body leaves in its two outputs.
-/
module

public import proofs.«01_k».proof.Proof.AttLoop
public import proofs.«01_k».proof.Proof.Gen.AttKernelIdeal.Frame

@[expose] public section

noncomputable section

namespace Cert.Att

open Idealize.ShloMosaic Idealize.ShloMosaic.TcCoe Cert.AttKernelIdeal Cert.AttKernelIdeal.Gen
open Idealize.ShloMosaic.Pointwise
open Idealize.ShloMosaic.Tactic
open Idealize.SL Idealize.SL.RA Idealize.SL.BI

/-! ### The diagonal block's stores -/

section

variable (Kb qb : Fin 4 → Vec Ideal S1x512x128 .bf16) (Vb : Fin 4 → Vec Ideal S1x64x512 .bf16)
  (v7 v8 : View sig .tc .vmem S4x1x512 .f32) (v9 : View sig .tc .vmem S4x64x512 .f32)

/-- A load of one head of the accumulator of the largest scores or of the sums. -/
def ld1 (v : View sig .tc .vmem S4x1x512 .f32) (L : List (View.Piece (Elt Ideal) S4x1x512 .f32)) (h : Fin 4) : Vec Ideal S1x1x512 .f32 :=
  v.readCov L (Rect.unit (s := S4x1x512) ![h.val, 0, 0] S1x1x512.size (inbH h)).toLoadRect

/-- A load of one head of the accumulator of the weighted sums. -/
def ld64 (L : List (View.Piece (Elt Ideal) S4x64x512 .f32)) (h : Fin 4) : Vec Ideal S1x64x512 .f32 :=
  v9.readCov L (Rect.unit (s := S4x64x512) ![h.val, 0, 0] S1x64x512.size (inbH h)).toLoadRect

/-- A store of one head of an accumulator of one number a query, -/
def put1 (h : Fin 4) (w : Vec Ideal S1x1x512 .f32) (L : List (View.Piece (Elt Ideal) S4x1x512 .f32)) : List (View.Piece (Elt Ideal) S4x1x512 .f32) :=
  ⟨Rect.unit (s := S4x1x512) ![h.val, 0, 0] S1x1x512.size (inbH h), w⟩ :: L

/-- and of one head of the accumulator of the weighted sums. -/
def put64 (h : Fin 4) (w : Vec Ideal S1x64x512 .f32) (L : List (View.Piece (Elt Ideal) S4x64x512 .f32)) : List (View.Piece (Elt Ideal) S4x64x512 .f32) :=
  ⟨Rect.unit (s := S4x64x512) ![h.val, 0, 0] S1x64x512.size (inbH h), w⟩ :: L

/-- The stores up to head `h`'s largest score, -/
def st7 (h : Fin 4) (L : List (View.Piece (Elt Ideal) S4x1x512 .f32)) : List (View.Piece (Elt Ideal) S4x1x512 .f32) :=
  put1 h (dM (Kb h) (qb h) (ld1 v7 L h)) L

/-- up to its sum, -/
def st8 (h : Fin 4) (L7 L : List (View.Piece (Elt Ideal) S4x1x512 .f32)) : List (View.Piece (Elt Ideal) S4x1x512 .f32) :=
  put1 h (dL (Kb h) (qb h) (ld1 v7 L7 h) (ld1 v8 L h)) L

/-- and up to its weighted sum. -/
def st9 (h : Fin 4) (L7 : List (View.Piece (Elt Ideal) S4x1x512 .f32)) (L : List (View.Piece (Elt Ideal) S4x64x512 .f32)) :
    List (View.Piece (Elt Ideal) S4x64x512 .f32) :=
  put64 h (dA (Kb h) (qb h) (ld1 v7 L7 h) (ld64 v9 L h) (Vb h)) L

variable (L7 L8 : List (View.Piece (Elt Ideal) S4x1x512 .f32)) (L9 : List (View.Piece (Elt Ideal) S4x64x512 .f32))

/-- The four heads' stores of the largest scores, -/
def all7 : List (View.Piece (Elt Ideal) S4x1x512 .f32) := st7 Kb qb v7 3 (st7 Kb qb v7 2 (st7 Kb qb v7 1 (st7 Kb qb v7 0 L7)))

/-- of the sums, -/
def all8 : List (View.Piece (Elt Ideal) S4x1x512 .f32) :=
  st8 Kb qb v7 v8 3 (st7 Kb qb v7 2 (st7 Kb qb v7 1 (st7 Kb qb v7 0 L7)))
    (st8 Kb qb v7 v8 2 (st7 Kb qb v7 1 (st7 Kb qb v7 0 L7)) (st8 Kb qb v7 v8 1 (st7 Kb qb v7 0 L7) (st8 Kb qb v7 v8 0 L7 L8)))

/-- and of the weighted sums. -/
def all9 : List (View.Piece (Elt Ideal) S4x64x512 .f32) :=
  st9 Kb qb Vb v7 v9 3 (st7 Kb qb v7 2 (st7 Kb qb v7 1 (st7 Kb qb v7 0 L7)))
    (st9 Kb qb Vb v7 v9 2 (st7 Kb qb v7 1 (st7 Kb qb v7 0 L7)) (st9 Kb qb Vb v7 v9 1 (st7 Kb qb v7 0 L7) (st9 Kb qb Vb v7 v9 0 L7 L9)))

/-- What an accumulator of one number a query holds after the stores `L`. -/
def now1 (v : View sig .tc .vmem S4x1x512 .f32) (L : List (View.Piece (Elt Ideal) S4x1x512 .f32)) : Vec Ideal S4x1x512 .f32 :=
  v.read (Elt Ideal) (v.writes (Elt Ideal) v.junk L)

/-- What the accumulator of the weighted sums holds after the stores `L`. -/
def now64 (L : List (View.Piece (Elt Ideal) S4x64x512 .f32)) : Vec Ideal S4x64x512 .f32 :=
  v9.read (Elt Ideal) (v9.writes (Elt Ideal) v9.junk L)

theorem ld1_eq (v : View sig .tc .vmem S4x1x512 .f32) (L : List (View.Piece (Elt Ideal) S4x1x512 .f32)) (h : Fin 4) :
    ld1 v L h = hd (now1 v L) h := ld_hd v _ h rfl (inbH h)

theorem ld64_eq (L : List (View.Piece (Elt Ideal) S4x64x512 .f32)) (h : Fin 4) : ld64 v9 L h = hd (now64 v9 L) h :=
  ld_hd v9 _ h rfl (inbH h)

theorem put1_ne (v : View sig .tc .vmem S4x1x512 .f32) (h g : Fin 4) (hg : g.val < h.val ∨ h.val + 1 ≤ g.val) (w : Vec Ideal S1x1x512 .f32)
    (L : List (View.Piece (Elt Ideal) S4x1x512 .f32)) : hd (now1 v (put1 h w L)) g = hd (now1 v L) g :=
  st_hd_ne v v.junk h g hg rfl (inbH h) w L

theorem put1_same (v : View sig .tc .vmem S4x1x512 .f32) (h : Fin 4) (w : Vec Ideal S1x1x512 .f32)
    (L : List (View.Piece (Elt Ideal) S4x1x512 .f32)) : hd (now1 v (put1 h w L)) h = w :=
  st_hd v v.junk h rfl (inbH h) w L

theorem put64_ne (h g : Fin 4) (hg : g.val < h.val ∨ h.val + 1 ≤ g.val) (w : Vec Ideal S1x64x512 .f32)
    (L : List (View.Piece (Elt Ideal) S4x64x512 .f32)) : hd (now64 v9 (put64 h w L)) g = hd (now64 v9 L) g :=
  st_hd_ne v9 v9.junk h g hg rfl (inbH h) w L

theorem put64_same (h : Fin 4) (w : Vec Ideal S1x64x512 .f32)
    (L : List (View.Piece (Elt Ideal) S4x64x512 .f32)) : hd (now64 v9 (put64 h w L)) h = w :=
  st_hd v9 v9.junk h rfl (inbH h) w L

theorem st7_ne (h g : Fin 4) (hg : g.val < h.val ∨ h.val + 1 ≤ g.val) (L : List (View.Piece (Elt Ideal) S4x1x512 .f32)) :
    hd (now1 v7 (st7 Kb qb v7 h L)) g = hd (now1 v7 L) g := put1_ne v7 h g hg _ L

theorem st8_ne (h g : Fin 4) (hg : g.val < h.val ∨ h.val + 1 ≤ g.val) (L' L : List (View.Piece (Elt Ideal) S4x1x512 .f32)) :
    hd (now1 v8 (st8 Kb qb v7 v8 h L' L)) g = hd (now1 v8 L) g := put1_ne v8 h g hg _ L

theorem st9_ne (h g : Fin 4) (hg : g.val < h.val ∨ h.val + 1 ≤ g.val) (L' : List (View.Piece (Elt Ideal) S4x1x512 .f32))
    (L : List (View.Piece (Elt Ideal) S4x64x512 .f32)) :
    hd (now64 v9 (st9 Kb qb Vb v7 v9 h L' L)) g = hd (now64 v9 L) g := put64_ne v9 h g hg _ L

theorem st7_same (h : Fin 4) (L : List (View.Piece (Elt Ideal) S4x1x512 .f32)) :
    hd (now1 v7 (st7 Kb qb v7 h L)) h = dM (Kb h) (qb h) (hd (now1 v7 L) h) := by
  refine Eq.trans ?_ (congrArg (dM (Kb h) (qb h)) (ld1_eq v7 L h))
  exact put1_same v7 h _ L

theorem st8_same (h : Fin 4) (L' L : List (View.Piece (Elt Ideal) S4x1x512 .f32)) :
    hd (now1 v8 (st8 Kb qb v7 v8 h L' L)) h = dL (Kb h) (qb h) (hd (now1 v7 L') h) (hd (now1 v8 L) h) := by
  refine Eq.trans ?_ (congrArg₂ (dL (Kb h) (qb h)) (ld1_eq v7 L' h) (ld1_eq v8 L h))
  exact put1_same v8 h _ L

theorem st9_same (h : Fin 4) (L' : List (View.Piece (Elt Ideal) S4x1x512 .f32)) (L : List (View.Piece (Elt Ideal) S4x64x512 .f32)) :
    hd (now64 v9 (st9 Kb qb Vb v7 v9 h L' L)) h
      = dA (Kb h) (qb h) (hd (now1 v7 L') h) (hd (now64 v9 L) h) (Vb h) := by
  refine Eq.trans ?_ (congrArg₂ (fun a b => dA (Kb h) (qb h) a b (Vb h)) (ld1_eq v7 L' h) (ld64_eq v9 L h))
  exact put64_same v9 h _ L

/-- After the four heads' stores each head has made its own step. -/
theorem all7_at (h : Fin 4) : hd (now1 v7 (all7 Kb qb v7 L7)) h = dM (Kb h) (qb h) (hd (now1 v7 L7) h) := by
  unfold all7
  match h with
  | 0 => rw [st7_ne _ _ _ 3 0 (by decide), st7_ne _ _ _ 2 0 (by decide), st7_ne _ _ _ 1 0 (by decide), st7_same]
  | 1 => rw [st7_ne _ _ _ 3 1 (by decide), st7_ne _ _ _ 2 1 (by decide), st7_same, st7_ne _ _ _ 0 1 (by decide)]
  | 2 => rw [st7_ne _ _ _ 3 2 (by decide), st7_same, st7_ne _ _ _ 1 2 (by decide), st7_ne _ _ _ 0 2 (by decide)]
  | 3 => rw [st7_same, st7_ne _ _ _ 2 3 (by decide), st7_ne _ _ _ 1 3 (by decide), st7_ne _ _ _ 0 3 (by decide)]

theorem all8_at (h : Fin 4) :
    hd (now1 v8 (all8 Kb qb v7 v8 L7 L8)) h = dL (Kb h) (qb h) (hd (now1 v7 L7) h) (hd (now1 v8 L8) h) := by
  unfold all8
  match h with
  | 0 => rw [st8_ne _ _ _ _ 3 0 (by decide), st8_ne _ _ _ _ 2 0 (by decide), st8_ne _ _ _ _ 1 0 (by decide), st8_same]
  | 1 => rw [st8_ne _ _ _ _ 3 1 (by decide), st8_ne _ _ _ _ 2 1 (by decide), st8_same, st8_ne _ _ _ _ 0 1 (by decide), st7_ne _ _ _ 0 1 (by decide)]
  | 2 => rw [st8_ne _ _ _ _ 3 2 (by decide), st8_same, st8_ne _ _ _ _ 1 2 (by decide), st8_ne _ _ _ _ 0 2 (by decide), st7_ne _ _ _ 1 2 (by decide), st7_ne _ _ _ 0 2 (by decide)]
  | 3 => rw [st8_same, st8_ne _ _ _ _ 2 3 (by decide), st8_ne _ _ _ _ 1 3 (by decide), st8_ne _ _ _ _ 0 3 (by decide), st7_ne _ _ _ 2 3 (by decide), st7_ne _ _ _ 1 3 (by decide), st7_ne _ _ _ 0 3 (by decide)]

theorem all9_at (h : Fin 4) :
    hd (now64 v9 (all9 Kb qb Vb v7 v9 L7 L9)) h
      = dA (Kb h) (qb h) (hd (now1 v7 L7) h) (hd (now64 v9 L9) h) (Vb h) := by
  unfold all9
  match h with
  | 0 => rw [st9_ne _ _ _ _ _ 3 0 (by decide), st9_ne _ _ _ _ _ 2 0 (by decide), st9_ne _ _ _ _ _ 1 0 (by decide), st9_same]
  | 1 => rw [st9_ne _ _ _ _ _ 3 1 (by decide), st9_ne _ _ _ _ _ 2 1 (by decide), st9_same, st9_ne _ _ _ _ _ 0 1 (by decide), st7_ne _ _ _ 0 1 (by decide)]
  | 2 => rw [st9_ne _ _ _ _ _ 3 2 (by decide), st9_same, st9_ne _ _ _ _ _ 1 2 (by decide), st9_ne _ _ _ _ _ 0 2 (by decide), st7_ne _ _ _ 1 2 (by decide), st7_ne _ _ _ 0 2 (by decide)]
  | 3 => rw [st9_same, st9_ne _ _ _ _ _ 2 3 (by decide), st9_ne _ _ _ _ _ 1 3 (by decide), st9_ne _ _ _ _ _ 0 3 (by decide), st7_ne _ _ _ 2 3 (by decide), st7_ne _ _ _ 1 3 (by decide), st7_ne _ _ _ 0 3 (by decide)]

end

/-! ### The loops of a point -/

theorem trips1_eq (i : grid0.Coords) : Scf.trips (k0_t1_loop i).lb (k0_t1_loop i).ub (k0_t1_loop i).st = (i 1).val := trips1 i

section

variable (𝒱 : Variants) (c : Dev nD) (bd : Option 𝒱.V) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x64x512 .f32) (harg9 : arg9.IsWhole)
variable (X_arg2 : BufTy.Contents (Elt Ideal) arg2.view.ty) (X_arg3 : BufTy.Contents (Elt Ideal) arg3.view.ty) (X_arg4 : BufTy.Contents (Elt Ideal) arg4.view.ty) (G_arg7 : BufTy.Contents (Elt Ideal) arg7.view.ty) (G_arg8 : BufTy.Contents (Elt Ideal) arg8.view.ty) (G_arg9 : BufTy.Contents (Elt Ideal) arg9.view.ty)

/-- The loop over the remainder leaves nothing. -/
theorem rest_nil (w) : pb_k0_t2 (F := Ideal) 𝒱 c bd i arg2 harg2 arg3 harg3 arg4 harg4 arg5 harg5 arg6 harg6 arg7 harg7 arg8 harg8 arg9 harg9 w X_arg2 X_arg3 X_arg4 G_arg7 G_arg8 G_arg9
    (Scf.trips (k0_t2_loop i).lb (k0_t2_loop i).ub (k0_t2_loop i).st) = ([], [], []) := by
  have h : Scf.trips (k0_t2_loop i).lb (k0_t2_loop i).ub (k0_t2_loop i).st = 0 := trips2 i
  rw [h]
  exact pb_k0_t2.eq_1 ..

end

section

variable (c : Dev nD) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x64x512 .f32) (harg9 : arg9.IsWhole)
variable (x0 : Vec Ideal S4x512x128 .bf16) (x1 : Vec Ideal S4x8192x128 .bf16) (x2 : Vec Ideal S4x64x8192 .bf16)

theorem at0_le : 512 * (i 1).val + 512 ≤ 8192 := by
  have h : (i 1).val < 16 := (i 1).isLt
  omega

/-- The stores of the loop over the earlier blocks, -/
def pb : List (View.Piece (Elt Ideal) S4x1x512 .f32) × List (View.Piece (Elt Ideal) S4x1x512 .f32) × List (View.Piece (Elt Ideal) S4x64x512 .f32) :=
  pb_k0_t1 (F := Ideal) Variants.none c none i arg2 harg2 arg3 harg3 arg4 harg4 arg5 harg5 arg6 harg6 arg7 harg7 arg8 harg8 arg9 harg9 (harg2.unread x0) (harg3.unread x1) (harg4.unread x2) (arg7.view.writes (Elt Ideal) arg7.view.junk [⟨Rect.unit (s := S4x1x512) ![0, 0, 0] S4x1x512.size inb_S4x1x512_S4x1x512_0_0_0, k0_pay73 (F := Ideal)⟩]) (arg8.view.writes (Elt Ideal) arg8.view.junk [⟨Rect.unit (s := S4x1x512) ![0, 0, 0] S4x1x512.size inb_S4x1x512_S4x1x512_0_0_0, k0_pay74 (F := Ideal)⟩]) (arg9.view.writes (Elt Ideal) arg9.view.junk [⟨Rect.unit (s := S4x64x512) ![0, 0, 0] S4x64x512.size inb_S4x64x512_S4x64x512_0_0_0, k0_pay75 (F := Ideal)⟩]) (i 1).val

/-- with the first stores before them, into the accumulator of the largest scores, -/
def pre7 : List (View.Piece (Elt Ideal) S4x1x512 .f32) := (pb c i arg2 harg2 arg3 harg3 arg4 harg4 arg5 harg5 arg6 harg6 arg7 harg7 arg8 harg8 arg9 harg9 x0 x1 x2).1 ++ [⟨Rect.unit (s := S4x1x512) ![0, 0, 0] S4x1x512.size inb_S4x1x512_S4x1x512_0_0_0, k0_pay73 (F := Ideal)⟩]

/-- of the sums, -/
def pre8 : List (View.Piece (Elt Ideal) S4x1x512 .f32) := (pb c i arg2 harg2 arg3 harg3 arg4 harg4 arg5 harg5 arg6 harg6 arg7 harg7 arg8 harg8 arg9 harg9 x0 x1 x2).2.1 ++ [⟨Rect.unit (s := S4x1x512) ![0, 0, 0] S4x1x512.size inb_S4x1x512_S4x1x512_0_0_0, k0_pay74 (F := Ideal)⟩]

/-- and of the weighted sums. -/
def pre9 : List (View.Piece (Elt Ideal) S4x64x512 .f32) := (pb c i arg2 harg2 arg3 harg3 arg4 harg4 arg5 harg5 arg6 harg6 arg7 harg7 arg8 harg8 arg9 harg9 x0 x1 x2).2.2 ++ [⟨Rect.unit (s := S4x64x512) ![0, 0, 0] S4x64x512.size inb_S4x64x512_S4x64x512_0_0_0, k0_pay75 (F := Ideal)⟩]

/-- Head `h`'s keys of the diagonal block, as loaded, -/
def dK : Fin 4 → Vec Ideal S1x512x128 .bf16
  | 0 => arg3.view.readAt (Elt Ideal) (Rect.unit (s := S4x8192x128) (k0_off17 i) S1x512x128.size (inbK 0 _ (at0_le i) (off17_eq i))).toLoadRect (harg3.unread x1)
  | 1 => arg3.view.readAt (Elt Ideal) (Rect.unit (s := S4x8192x128) (k0_off19 i) S1x512x128.size (inbK 1 _ (at0_le i) (off19_eq i))).toLoadRect (harg3.unread x1)
  | 2 => arg3.view.readAt (Elt Ideal) (Rect.unit (s := S4x8192x128) (k0_off21 i) S1x512x128.size (inbK 2 _ (at0_le i) (off21_eq i))).toLoadRect (harg3.unread x1)
  | 3 => arg3.view.readAt (Elt Ideal) (Rect.unit (s := S4x8192x128) (k0_off23 i) S1x512x128.size (inbK 3 _ (at0_le i) (off23_eq i))).toLoadRect (harg3.unread x1)

/-- its values, -/
def dV : Fin 4 → Vec Ideal S1x64x512 .bf16
  | 0 => arg4.view.readAt (Elt Ideal) (Rect.unit (s := S4x64x8192) (k0_off18 i) S1x64x512.size (inbV 0 _ (at0_le i) (off18_eq i))).toLoadRect (harg4.unread x2)
  | 1 => arg4.view.readAt (Elt Ideal) (Rect.unit (s := S4x64x8192) (k0_off20 i) S1x64x512.size (inbV 1 _ (at0_le i) (off20_eq i))).toLoadRect (harg4.unread x2)
  | 2 => arg4.view.readAt (Elt Ideal) (Rect.unit (s := S4x64x8192) (k0_off22 i) S1x64x512.size (inbV 2 _ (at0_le i) (off22_eq i))).toLoadRect (harg4.unread x2)
  | 3 => arg4.view.readAt (Elt Ideal) (Rect.unit (s := S4x64x8192) (k0_off24 i) S1x64x512.size (inbV 3 _ (at0_le i) (off24_eq i))).toLoadRect (harg4.unread x2)

/-- and its queries. -/
def dQ (h : Fin 4) : Vec Ideal S1x512x128 .bf16 :=
  arg2.view.readAt (Elt Ideal) (Rect.unit (s := S4x512x128) ![h.val, 0, 0] S1x512x128.size (inbH h)).toLoadRect (harg2.unread x0)

theorem dK_eq (h : Fin 4) : dK i arg3 harg3 x1 h = hdK x1 h (512 * (i 1).val) (at0_le i) := by
  match h with
  | 0 => exact (ld_hdK arg3.view _ 0 _ (at0_le i) (off17_eq i) _).trans (by rw [Memref.IsWhole.read_unread])
  | 1 => exact (ld_hdK arg3.view _ 1 _ (at0_le i) (off19_eq i) _).trans (by rw [Memref.IsWhole.read_unread])
  | 2 => exact (ld_hdK arg3.view _ 2 _ (at0_le i) (off21_eq i) _).trans (by rw [Memref.IsWhole.read_unread])
  | 3 => exact (ld_hdK arg3.view _ 3 _ (at0_le i) (off23_eq i) _).trans (by rw [Memref.IsWhole.read_unread])

theorem dV_eq (h : Fin 4) : dV i arg4 harg4 x2 h = hdV x2 h (512 * (i 1).val) (at0_le i) := by
  match h with
  | 0 => exact (ld_hdV arg4.view _ 0 _ (at0_le i) (off18_eq i) _).trans (by rw [Memref.IsWhole.read_unread])
  | 1 => exact (ld_hdV arg4.view _ 1 _ (at0_le i) (off20_eq i) _).trans (by rw [Memref.IsWhole.read_unread])
  | 2 => exact (ld_hdV arg4.view _ 2 _ (at0_le i) (off22_eq i) _).trans (by rw [Memref.IsWhole.read_unread])
  | 3 => exact (ld_hdV arg4.view _ 3 _ (at0_le i) (off24_eq i) _).trans (by rw [Memref.IsWhole.read_unread])

theorem dQ_eq (h : Fin 4) : dQ arg2 harg2 x0 h = hd x0 h :=
  (ld_hd arg2.view _ h rfl (inbH h)).trans (by rw [Memref.IsWhole.read_unread])

/-- The sums at the point's end, -/
def fin8 : Vec Ideal S4x1x512 .f32 :=
  now1 arg8.view (all8 (dK i arg3 harg3 x1) (dQ arg2 harg2 x0) arg7.view arg8.view (pre7 c i arg2 harg2 arg3 harg3 arg4 harg4 arg5 harg5 arg6 harg6 arg7 harg7 arg8 harg8 arg9 harg9 x0 x1 x2) (pre8 c i arg2 harg2 arg3 harg3 arg4 harg4 arg5 harg5 arg6 harg6 arg7 harg7 arg8 harg8 arg9 harg9 x0 x1 x2))

/-- the largest scores, -/
def fin7 : Vec Ideal S4x1x512 .f32 :=
  now1 arg7.view (all7 (dK i arg3 harg3 x1) (dQ arg2 harg2 x0) arg7.view (pre7 c i arg2 harg2 arg3 harg3 arg4 harg4 arg5 harg5 arg6 harg6 arg7 harg7 arg8 harg8 arg9 harg9 x0 x1 x2))

/-- and the weighted sums. -/
def fin9 : Vec Ideal S4x64x512 .f32 :=
  now64 arg9.view (all9 (dK i arg3 harg3 x1) (dQ arg2 harg2 x0) (dV i arg4 harg4 x2) arg7.view arg9.view (pre7 c i arg2 harg2 arg3 harg3 arg4 harg4 arg5 harg5 arg6 harg6 arg7 harg7 arg8 harg8 arg9 harg9 x0 x1 x2) (pre9 c i arg2 harg2 arg3 harg3 arg4 harg4 arg5 harg5 arg6 harg6 arg7 harg7 arg8 harg8 arg9 harg9 x0 x1 x2))

/-- The body's outputs from the accumulators at its end. -/
theorem out_o : out0_A_3 (F := Ideal) c i arg2 harg2 arg3 harg3 arg4 harg4 arg5 harg5 arg6 harg6 arg7 harg7 arg8 harg8 arg9 harg9 x0 x1 x2
    = k0_pay3 (fin9 c i arg2 harg2 arg3 harg3 arg4 harg4 arg5 harg5 arg6 harg6 arg7 harg7 arg8 harg8 arg9 harg9 x0 x1 x2) (fin8 c i arg2 harg2 arg3 harg3 arg4 harg4 arg5 harg5 arg6 harg6 arg7 harg7 arg8 harg8 arg9 harg9 x0 x1 x2) := by
  unfold out0_A_3
  unfold kernelRun0_A
  dsimp only
  sl_unfold_run_names
  simp (config := { dsimp := false, proj := false }) only [rest_nil, trips1_eq]
  refine (View.read_writes_full (s := S4x64x512) _ _ _ _ _).trans ?_
  refine congrArg₂ k0_pay3 ?_ ?_
  · exact View.readAt_full (s := S4x64x512) arg9.view (arg9.view.writes (Elt Ideal) arg9.view.junk (all9 (dK i arg3 harg3 x1) (dQ arg2 harg2 x0) (dV i arg4 harg4 x2) arg7.view arg9.view (pre7 c i arg2 harg2 arg3 harg3 arg4 harg4 arg5 harg5 arg6 harg6 arg7 harg7 arg8 harg8 arg9 harg9 x0 x1 x2) (pre9 c i arg2 harg2 arg3 harg3 arg4 harg4 arg5 harg5 arg6 harg6 arg7 harg7 arg8 harg8 arg9 harg9 x0 x1 x2))) inb_S4x64x512_S4x64x512_0_0_0
  · exact View.readAt_full (s := S4x1x512) arg8.view (arg8.view.writes (Elt Ideal) arg8.view.junk (all8 (dK i arg3 harg3 x1) (dQ arg2 harg2 x0) arg7.view arg8.view (pre7 c i arg2 harg2 arg3 harg3 arg4 harg4 arg5 harg5 arg6 harg6 arg7 harg7 arg8 harg8 arg9 harg9 x0 x1 x2) (pre8 c i arg2 harg2 arg3 harg3 arg4 harg4 arg5 harg5 arg6 harg6 arg7 harg7 arg8 harg8 arg9 harg9 x0 x1 x2))) inb_S4x1x512_S4x1x512_0_0_0

theorem out_lse : out0_A_4 (F := Ideal) c i arg2 harg2 arg3 harg3 arg4 harg4 arg5 harg5 arg6 harg6 arg7 harg7 arg8 harg8 arg9 harg9 x0 x1 x2
    = k0_pay4 (fin7 c i arg2 harg2 arg3 harg3 arg4 harg4 arg5 harg5 arg6 harg6 arg7 harg7 arg8 harg8 arg9 harg9 x0 x1 x2) (fin8 c i arg2 harg2 arg3 harg3 arg4 harg4 arg5 harg5 arg6 harg6 arg7 harg7 arg8 harg8 arg9 harg9 x0 x1 x2) := by
  unfold out0_A_4
  unfold kernelRun0_A
  dsimp only
  sl_unfold_run_names
  simp (config := { dsimp := false, proj := false }) only [rest_nil, trips1_eq]
  refine (View.read_writes_full (s := S4x1x512) _ _ _ _ _).trans ?_
  refine congrArg₂ k0_pay4 ?_ ?_
  · exact View.readAt_full (s := S4x1x512) arg7.view (arg7.view.writes (Elt Ideal) arg7.view.junk (all7 (dK i arg3 harg3 x1) (dQ arg2 harg2 x0) arg7.view (pre7 c i arg2 harg2 arg3 harg3 arg4 harg4 arg5 harg5 arg6 harg6 arg7 harg7 arg8 harg8 arg9 harg9 x0 x1 x2))) inb_S4x1x512_S4x1x512_0_0_0
  · exact View.readAt_full (s := S4x1x512) arg8.view (arg8.view.writes (Elt Ideal) arg8.view.junk (all8 (dK i arg3 harg3 x1) (dQ arg2 harg2 x0) arg7.view arg8.view (pre7 c i arg2 harg2 arg3 harg3 arg4 harg4 arg5 harg5 arg6 harg6 arg7 harg7 arg8 harg8 arg9 harg9 x0 x1 x2) (pre8 c i arg2 harg2 arg3 harg3 arg4 harg4 arg5 harg5 arg6 harg6 arg7 harg7 arg8 harg8 arg9 harg9 x0 x1 x2))) inb_S4x1x512_S4x1x512_0_0_0

end

end Cert.Att
end
-- ==== Proof.AttEnd.lean ====
/-
  What one grid point of the attention kernel leaves: the softmax-weighted values of its queries over the keys not after them,
  and the logarithm of the sum of the exponentials.
-/
module

public import proofs.«01_k».proof.Proof.AttPoint

@[expose] public section

noncomputable section

namespace Cert.Att

open Idealize.ShloMosaic Idealize.ShloMosaic.TcCoe Cert.AttKernelIdeal Cert.AttKernelIdeal.Gen
open Idealize.ShloMosaic.Pointwise
open Idealize.ShloMosaic.Tactic
open Idealize.SL Idealize.SL.RA Idealize.SL.BI

theorem pay73_at (j : S4x1x512.Idx) : (k0_pay73 (F := Ideal) j : EReal) = ⊥ := rfl

theorem zero_word : Ideal.ofBits FTy.f32 0x00000000#32 = 0 := by simp [Ideal.ofBits, Ideal.ieee]

theorem pay74_at (j : S4x1x512.Idx) : (k0_pay74 (F := Ideal) j : EReal) = 0 := zero_word

theorem pay75_at (j : S4x64x512.Idx) : (k0_pay75 (F := Ideal) j : EReal) = 0 := zero_word

theorem pay3_at (A : Vec Ideal S4x64x512 .f32) (l : Vec Ideal S4x1x512 .f32) (h : Fin 4) (d : Fin 64) (t : Fin 512) :
    (k0_pay3 A l (ix3 h d t) : EReal) = Ideal.div (A (ix3 h d t) : EReal) (l (ix3 h 0 t) : EReal) := by
  pointwise [k0_pay3]

theorem pay4_at (m l : Vec Ideal S4x1x512 .f32) (h : Fin 4) (t : Fin 512) :
    (k0_pay4 m l (ix3 h 0 t) : EReal) = (m (ix3 h 0 t) : EReal) + Ideal.log (l (ix3 h 0 t) : EReal) := by
  pointwise [k0_pay4]

/-- The keys query `t` of the block `n` attends to, -/
def upTo (n : ℕ) (t : Fin 512) (y : Fin 8192) : Prop := y.val ≤ 512 * n + t.val

instance (n : ℕ) (t : Fin 512) : DecidablePred (upTo n t) := fun _ => inferInstanceAs (Decidable (_ ≤ _))

/-- and those of them in the diagonal block. -/
def diag (n : ℕ) (t : Fin 512) (y : Fin 8192) : Prop := 512 * n ≤ y.val ∧ y.val ≤ 512 * n + t.val

instance (n : ℕ) (t : Fin 512) : DecidablePred (diag n t) := fun _ => inferInstanceAs (Decidable (_ ∧ _))

section

variable (c : Dev nD) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x64x512 .f32) (harg9 : arg9.IsWhole)
variable (x0 : Vec Ideal S4x512x128 .bf16) (x1 : Vec Ideal S4x8192x128 .bf16) (x2 : Vec Ideal S4x64x8192 .bf16)
variable (R : Fin 4 → Fin 512 → Fin 8192 → ℝ) (w : Fin 4 → Fin 64 → Fin 8192 → ℝ)
  (hR : ∀ h t y, scoreOf x0 x1 h t y = (R h t y : EReal))
  (hw : ∀ h d y, (x2 (ix3 h d y) : EReal) = (w h d y : EReal))

include hR hw

/-- What the accumulators hold before the diagonal block. -/
theorem pre_at (h : Fin 4) (t : Fin 512) :
    (hd (now1 arg7.view (pre7 c i arg2 harg2 arg3 harg3 arg4 harg4 arg5 harg5 arg6 harg6 arg7 harg7 arg8 harg8 arg9 harg9 x0 x1 x2)) h (ix3 0 0 t) : EReal) = M (R h t) (before (i 1).val)
    ∧ (hd (now1 arg8.view (pre8 c i arg2 harg2 arg3 harg3 arg4 harg4 arg5 harg5 arg6 harg6 arg7 harg7 arg8 harg8 arg9 harg9 x0 x1 x2)) h (ix3 0 0 t) : EReal) = W (R h t) one (before (i 1).val)
    ∧ ∀ d, (hd (now64 arg9.view (pre9 c i arg2 harg2 arg3 harg3 arg4 harg4 arg5 harg5 arg6 harg6 arg7 harg7 arg8 harg8 arg9 harg9 x0 x1 x2)) h (ix3 0 d t) : EReal) = W (R h t) (w h d) (before (i 1).val) := by
  unfold now1 now64 pre7 pre8 pre9
  rw [View.writes_append, View.writes_append, View.writes_append]
  refine loop_inv Variants.none c none i arg2 harg2 arg3 harg3 arg4 harg4 arg5 harg5 arg6 harg6 arg7 harg7 arg8 harg8 arg9 harg9 _ _ _ _ _ _ R w ?_ ?_ ?_ ?_ ?_ (i 1).val (le_of_eq (trips1 i).symm) h t
  · rw [Memref.IsWhole.read_unread, Memref.IsWhole.read_unread]
    exact hR
  · rw [Memref.IsWhole.read_unread]
    exact hw
  · intro h t
    rw [View.read_writes_full (s := S4x1x512)]
    exact pay73_at _
  · intro h t
    rw [View.read_writes_full (s := S4x1x512)]
    exact pay74_at _
  · intro h d t
    rw [View.read_writes_full (s := S4x64x512)]
    exact pay75_at _

omit hw in
/-- The diagonal block's scores. -/
theorem diag_score (h : Fin 4) (t a : Fin 512) :
    bm (dK i arg3 harg3 x1 h) (dQ arg2 harg2 x0 h) a t
      = sc (R h t) (diag (i 1).val t) (row (512 * (i 1).val) (at0_le i) a) := by
  rw [dK_eq, dQ_eq]
  unfold bm sc
  by_cases hat : a.val ≤ t.val
  · rw [if_pos hat, if_pos (show diag _ t _ from ⟨Nat.le_add_right _ _, Nat.add_le_add_left hat _⟩), ← hR]
    rfl
  · rw [if_neg hat, if_neg (show ¬diag _ t _ from fun hh => hat (Nat.le_of_add_le_add_left hh.2))]

/-- The accumulators at the point's end. -/
theorem fin_at (h : Fin 4) (t : Fin 512) :
    (fin7 c i arg2 harg2 arg3 harg3 arg4 harg4 arg5 harg5 arg6 harg6 arg7 harg7 arg8 harg8 arg9 harg9 x0 x1 x2 (ix3 h 0 t) : EReal) = M (R h t) (upTo (i 1).val t)
    ∧ (fin8 c i arg2 harg2 arg3 harg3 arg4 harg4 arg5 harg5 arg6 harg6 arg7 harg7 arg8 harg8 arg9 harg9 x0 x1 x2 (ix3 h 0 t) : EReal) = W (R h t) one (upTo (i 1).val t)
    ∧ ∀ d, (fin9 c i arg2 harg2 arg3 harg3 arg4 harg4 arg5 harg5 arg6 harg6 arg7 harg7 arg8 harg8 arg9 harg9 x0 x1 x2 (ix3 h d t) : EReal) = W (R h t) (w h d) (upTo (i 1).val t) := by
  obtain ⟨im, il, ia⟩ := pre_at c i arg2 harg2 arg3 harg3 arg4 harg4 arg5 harg5 arg6 harg6 arg7 harg7 arg8 harg8 arg9 harg9 x0 x1 x2 R w hR hw h t
  have hq : ∀ y, upTo (i 1).val t y ↔ before (i 1).val y ∨ diag (i 1).val t y := fun y => by unfold upTo before diag; omega
  have hdj : ∀ y, before (i 1).val y → ¬diag (i 1).val t y := fun y => by unfold before diag; omega
  have hb : ∀ y, diag (i 1).val t y → inBlk (512 * (i 1).val) y := fun y => by
    unfold diag inBlk
    have := t.isLt
    omega
  have h0 : diag (i 1).val t (row (512 * (i 1).val) (at0_le i) 0) := ⟨Nat.le_refl _, Nat.le_add_right _ _⟩
  have hs := fun a => diag_score i arg2 harg2 arg3 harg3 x0 x1 R hR h t a
  refine ⟨?_, ?_, fun d => ?_⟩
  · refine (congrFun (all7_at (dK i arg3 harg3 x1) (dQ arg2 harg2 x0) arg7.view _ h) (ix3 0 0 t)).trans ?_
    rw [dM_at]
    exact nm_step (R h t) (512 * (i 1).val) (at0_le i) _ _ _ hq hb _ _ t hs im
  · refine (congrFun (all8_at (dK i arg3 harg3 x1) (dQ arg2 harg2 x0) arg7.view arg8.view _ _ h) (ix3 0 0 t)).trans ?_
    rw [dL_at]
    exact nl_step (R h t) (512 * (i 1).val) (at0_le i) _ _ _ hq hdj hb h0 _ _ _ t hs im il
  · refine (congrFun (all9_at (dK i arg3 harg3 x1) (dQ arg2 harg2 x0) (dV i arg4 harg4 x2) arg7.view arg9.view _ _ h) (ix3 0 d t)).trans ?_
    rw [dA_at]
    refine na_step (R h t) (w h d) (512 * (i 1).val) (at0_le i) _ _ _ hq hdj hb h0 _ _ _ _ t hs im d (fun a => ?_) (ia d)
    rw [dV_eq]
    exact hw h d _

/-- The weighted values the point leaves, -/
theorem o_at (h : Fin 4) (d : Fin 64) (t : Fin 512) :
    (out0_A_3 (F := Ideal) c i arg2 harg2 arg3 harg3 arg4 harg4 arg5 harg5 arg6 harg6 arg7 harg7 arg8 harg8 arg9 harg9 x0 x1 x2 (ix3 h d t) : EReal)
      = Ideal.div (W (R h t) (w h d) (upTo (i 1).val t)) (W (R h t) one (upTo (i 1).val t)) := by
  obtain ⟨-, el, ea⟩ := fin_at c i arg2 harg2 arg3 harg3 arg4 harg4 arg5 harg5 arg6 harg6 arg7 harg7 arg8 harg8 arg9 harg9 x0 x1 x2 R w hR hw h t
  rw [out_o, pay3_at, el, ea]

/-- and the logarithms. -/
theorem lse_at (h : Fin 4) (t : Fin 512) :
    (out0_A_4 (F := Ideal) c i arg2 harg2 arg3 harg3 arg4 harg4 arg5 harg5 arg6 harg6 arg7 harg7 arg8 harg8 arg9 harg9 x0 x1 x2 (ix3 h 0 t) : EReal)
      = M (R h t) (upTo (i 1).val t) + Ideal.log (W (R h t) one (upTo (i 1).val t)) := by
  obtain ⟨em, el, -⟩ := fin_at c i arg2 harg2 arg3 harg3 arg4 harg4 arg5 harg5 arg6 harg6 arg7 harg7 arg8 harg8 arg9 harg9 x0 x1 x2 R w hR hw h t
  rw [out_lse, pay4_at, em, el]

end

end Cert.Att
end
-- ==== Proof.AttBlocks.lean ====
/-
  The attention kernel's blocks as parts of its arrays, and what its two result arrays hold after the run. Point `t` is the
  group `t / 16` of four heads, block `t % 16` of 512 queries.
-/
module

public import proofs.«01_k».proof.Proof.AttEnd
public import Idealize.ShloMosaic.Lib.Pipeline.ValueKit

@[expose] public section

noncomputable section

namespace Cert.Att

open Idealize.ShloMosaic Idealize.ShloMosaic.TcCoe Cert.AttKernelIdeal Cert.AttKernelIdeal.Gen
open Idealize.ShloMosaic.Pointwise

/-- Head `h` of a point's group. -/
def head (t : Fin cfg0.N) (h : Fin 4) : Fin 8 := ⟨4 * (t.val / 16) + h.val, by have h : t.val < 32 := lt_of_lt_of_eq t.isLt N_0; omega⟩

/-- The position of query `b` of a point's block. -/
def pos (t : Fin cfg0.N) (b : Fin 512) : Fin 8192 := ⟨512 * (t.val % 16) + b.val, by omega⟩

theorem coord1 : ∀ t : Fin cfg0.N, ((grid0.coords t) 1).val = t.val % 16 := by decide +kernel

theorem index_in : ∀ t : Fin cfg0.N,
    win0_0.index t = ![t.val / 16, t.val % 16, 0] ∧ win0_1.index t = ![t.val / 16, 0, 0] ∧ win0_2.index t = ![t.val / 16, 0, 0] := by
  decide +kernel

theorem index_out : ∀ t : Fin cfg0.N,
    win0_3.index t = ![t.val / 16, 0, t.val % 16] ∧ win0_4.index t = ![t.val / 16, 0, t.val % 16] := by
  decide +kernel

variable (m : (ℓ : Loc nD τ sig) → Buf (Elt Ideal) ℓ)

/-- The arrays the region finds: queries, keys, transposed values. -/
def Aq (c : Dev nD) : Vec Ideal S8x8192x128 .bf16 := V m c main_v6
def Ak (c : Dev nD) : Vec Ideal S8x8192x128 .bf16 := V m c main_v8
def Av (c : Dev nD) : Vec Ideal S8x64x8192 .bf16 := V m c main_v10

theorem blk_q (c : Dev nD) (t : Fin cfg0.N) (h : Fin 4) (a : Fin 512) (x : Fin 128) :
    (iblk m c 0 t : Vec Ideal S4x512x128 .bf16) (ix3 h a x) = Aq m c (ix3 (head t h) (pos t a) x) := by
  have e := (index_in t).1
  unfold Aq
  blk_ext [iblk, e, head, pos]

theorem blk_k (c : Dev nD) (t : Fin cfg0.N) (h : Fin 4) (y : Fin 8192) (x : Fin 128) :
    (iblk m c 1 t : Vec Ideal S4x8192x128 .bf16) (ix3 h y x) = Ak m c (ix3 (head t h) y x) := by
  have e := (index_in t).2.1
  unfold Ak
  blk_ext [iblk, e, head, pos]

theorem blk_v (c : Dev nD) (t : Fin cfg0.N) (h : Fin 4) (d : Fin 64) (y : Fin 8192) :
    (iblk m c 2 t : Vec Ideal S4x64x8192 .bf16) (ix3 h d y) = Av m c (ix3 (head t h) d y) := by
  have e := (index_in t).2.2
  unfold Av
  blk_ext [iblk, e, head, pos]

/-- The keys query `s` attends to. -/
def notAfter (s y : Fin 8192) : Prop := y.val ≤ s.val

instance (s : Fin 8192) : DecidablePred (notAfter s) := fun _ => inferInstanceAs (Decidable (_ ≤ _))

section

variable (R : Fin 8 → Fin 8192 → Fin 8192 → ℝ) (w : Fin 8 → Fin 64 → Fin 8192 → ℝ)

/-- A query's weighted values and the logarithm of its row sum, of the scores `R` and the values `w`. -/
def valO (h : Fin 8) (d : Fin 64) (s : Fin 8192) : EReal := Ideal.div (W (R h s) (w h d) (notAfter s)) (W (R h s) one (notAfter s))
def valL (h : Fin 8) (s : Fin 8192) : EReal := M (R h s) (notAfter s) + Ideal.log (W (R h s) one (notAfter s))

/-- The two result arrays. -/
def resO : Vec Ideal S8x64x8192 .f32 := fun j => valO R w (j 0) (j 1) (j 2)
def resL : Vec Ideal S8x1x8192 .f32 := fun j => valL R (j 0) (j 2)

variable (c : Dev nD)
  (hR : ∀ h s y, (∑ x : Fin 128, (Ak m c (ix3 h y x) : EReal) * (Aq m c (ix3 h s x) : EReal)) * SC = (R h s y : EReal))
  (hw : ∀ h d y, (Av m c (ix3 h d y) : EReal) = (w h d y : EReal))

theorem upTo_iff (t : Fin cfg0.N) (a : Fin 512) (y : Fin 8192) : upTo ((grid0.coords t) 1).val a y ↔ notAfter (pos t a) y := by
  unfold upTo notAfter pos
  rw [coord1]

include hR

theorem score_blk (t : Fin cfg0.N) (h : Fin 4) (a : Fin 512) (y : Fin 8192) :
    scoreOf (iblk m c 0 t) (iblk m c 1 t) h a y = (R (head t h) (pos t a) y : EReal) := by
  rw [← hR]
  unfold scoreOf
  simp only [blk_k, blk_q]

include hw

/-- What a point leaves of the weighted values, -/
theorem outs_o (t : Fin cfg0.N) (h : Fin 4) (d : Fin 64) (a : Fin 512) :
    ((outsAt0 m c t).1 (ix3 h d a) : EReal) = valO R w (head t h) d (pos t a) := by
  have hv : ∀ (h : Fin 4) (d : Fin 64) (y : Fin 8192), ((iblk m c 2 t : Vec Ideal S4x64x8192 .bf16) (ix3 h d y) : EReal) = (w (head t h) d y : EReal) :=
    fun h d y => (blk_v m c t h d y).trans (hw _ _ _)
  unfold outsAt0 valO
  dsimp only
  rw [o_at c (grid0.coords t) _ _ _ _ _ _ _ _ _ _ _ _ _ _ _ _ (iblk m c 0 t) (iblk m c 1 t) (iblk m c 2 t) (fun h a => R (head t h) (pos t a)) (fun h => w (head t h))
    (score_blk m R c hR t) hv h d a, W_congr _ _ _ (notAfter (pos t a)) (upTo_iff t a), W_congr _ _ _ (notAfter (pos t a)) (upTo_iff t a)]

/-- and of the logarithms. -/
theorem outs_l (t : Fin cfg0.N) (h : Fin 4) (a : Fin 512) :
    ((outsAt0 m c t).2 (ix3 h 0 a) : EReal) = valL R (head t h) (pos t a) := by
  have hv : ∀ (h : Fin 4) (d : Fin 64) (y : Fin 8192), ((iblk m c 2 t : Vec Ideal S4x64x8192 .bf16) (ix3 h d y) : EReal) = (w (head t h) d y : EReal) :=
    fun h d y => (blk_v m c t h d y).trans (hw _ _ _)
  unfold outsAt0 valL
  dsimp only
  rw [lse_at c (grid0.coords t) _ _ _ _ _ _ _ _ _ _ _ _ _ _ _ _ (iblk m c 0 t) (iblk m c 1 t) (iblk m c 2 t) (fun h a => R (head t h) (pos t a)) (fun h => w (head t h))
    (score_blk m R c hR t) hv h a, M_congr _ _ (notAfter (pos t a)) (upTo_iff t a), W_congr _ _ _ (notAfter (pos t a)) (upTo_iff t a)]

/-- The write-backs of the weighted values cover their array. -/
theorem final_o : (dats m 0 c).arrAt 3 cfg0.N = resO R w := by
  refine (dats m 0 c).arrAt_eq_of_covers 3 _ (by decide +kernel) fun t hf y => ?_
  have e := (index_out t).1
  blk_simp [after0_3]
  obtain ⟨h, d, b, rfl⟩ : ∃ (h : Fin 4) (d : Fin 64) (b : Fin 512), y = ix3 h d b := ⟨y 0, y 1, y 2, eq_ix3 y⟩
  have he : (win0_3.blk t).view.emb (ix3 h d b) = (ix3 (head t h) d (pos t b) : S8x64x8192.Idx) := by
    blk_ext [e, head, pos]
  rw [he]
  exact outs_o m R w c hR hw t h d b

/-- The write-backs of the logarithms cover their array. -/
theorem final_l : (dats m 0 c).arrAt 4 cfg0.N = resL R := by
  refine (dats m 0 c).arrAt_eq_of_covers 4 _ (by decide +kernel) fun t hf y => ?_
  have e := (index_out t).2
  blk_simp [after0_4]
  obtain ⟨h, z, b, rfl⟩ : ∃ (h : Fin 4) (z : Fin 1) (b : Fin 512), y = ix3 h z b := ⟨y 0, y 1, y 2, eq_ix3 y⟩
  obtain rfl : z = 0 := Subsingleton.elim _ _
  have he : (win0_4.blk t).view.emb (ix3 h (0 : Fin 1) b) = (ix3 (head t h) 0 (pos t b) : S8x1x8192.Idx) := by
    blk_ext [e, head, pos]
  rw [he]
  exact outs_l m R w c hR hw t h b

end

end Cert.Att
end
-- ==== Proof.AttHost.lean ====
/-
  What the host operations before the attention kernel leave in its operands, and the two results as functions of the
  arguments.
-/
module

public import proofs.«01_k».proof.Proof.AttBlocks
public import proofs.«01_k».proof.Proof.Soft

@[expose] public section

noncomputable section

namespace Cert.Att

open Idealize.ShloMosaic Idealize.ShloMosaic.TcCoe Cert.AttKernelIdeal Cert.AttKernelIdeal.Gen
open Idealize.ShloMosaic.Pointwise

variable (m : (ℓ : Loc nD τ sig) → Buf (Elt Ideal) ℓ) (c : Dev nD)

/-- The five arguments. -/
abbrev in0 : FVec Ideal S8192x8x64 .f32 := m ((c : Thread nD τ).loc main_arg0)
abbrev in1 : FVec Ideal S8192x8x32 .f32 := m ((c : Thread nD τ).loc main_arg1)
abbrev in2 : FVec Ideal S8192x8x64 .f32 := m ((c : Thread nD τ).loc main_arg2)
abbrev in3 : FVec Ideal S8192x32 .f32 := m ((c : Thread nD τ).loc main_arg3)
abbrev in4 : FVec Ideal S8192x8x64 .f32 := m ((c : Thread nD τ).loc main_arg4)

set_option maxRecDepth 8192 in
theorem Aq_eq : Aq m c = FlashBwd.pad (in0 m c) (in1 m c) := by
  unfold Aq V V0
  simp only [hostOps0, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem Ak_eq : Ak m c = FlashBwd.pad (in2 m c) (FlashBwd.share (in3 m c)) := by
  unfold Ak V V0
  simp only [hostOps0, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp
  rfl

set_option maxRecDepth 8192 in
theorem Av_eq : Av m c = transpose S8x64x8192 [1, 2, 0] (truncf .bf16 (in4 m c) bitsLt_bf16_f32) transposes_S8192x8x64_S8x64x8192_1_2_0 := by
  unfold Av V V0
  simp only [hostOps0, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

theorem Aq_at (h : Fin 8) (s : Fin 8192) (x : Fin 128) :
    (Aq m c (ix3 h s x) : EReal)
      = if h1 : x.val < 64 then (in0 m c (ix3 s h ⟨x.val, h1⟩) : EReal)
        else if h2 : x.val - 64 < 32 then (in1 m c (ix3 s h ⟨x.val - 64, h2⟩) : EReal) else 0 := by
  rw [Aq_eq]
  exact FlashBwd.pad_at _ _ h s x

theorem Ak_at (h : Fin 8) (y : Fin 8192) (x : Fin 128) :
    (Ak m c (ix3 h y x) : EReal)
      = if h1 : x.val < 64 then (in2 m c (ix3 y h ⟨x.val, h1⟩) : EReal)
        else if h2 : x.val - 64 < 32 then (in3 m c (ix2 y ⟨x.val - 64, h2⟩) : EReal) else 0 := by
  rw [Ak_eq]
  refine (FlashBwd.pad_at _ _ h y x).trans ?_
  simp only [FlashBwd.share_at]

theorem Av_at (h : Fin 8) (d : Fin 64) (y : Fin 8192) : (Av m c (ix3 h d y) : EReal) = (in4 m c (ix3 y h d) : EReal) := by
  rw [Av_eq]
  pointwise

/-- The masked scores, their maxima, exponentials and sums. -/
def Sc : FVec Ideal KernelIdeal.S8x8192x8192 .f32 := FlashBwd.scores (in0 m c) (in1 m c) (in2 m c) (in3 m c)
def Mx : FVec Ideal KernelIdeal.S8x8192 .f32 := FlashBwd.mx (Sc m c)
def Ex : FVec Ideal KernelIdeal.S8x8192x8192 .f32 := FlashBwd.ex (Sc m c) (Mx m c)
def Sm : FVec Ideal KernelIdeal.S8x8192 .f32 := FlashBwd.sm (Ex m c)

/-- The attention's output and the logarithms of its row sums. -/
def outO : FVec Ideal S8192x8x64 .f32 := FlashBwd.outp (in4 m c) (FlashBwd.prob (Ex m c) (Sm m c))
def outL : FVec Ideal S8x1x8192 .f32 := FlashBwd.lseT (Mx m c) (Sm m c)

end Cert.Att
end
-- ==== Proof.AttReal.lean ====
/-
  The attention in real numbers: for real arguments the kernel's two arrays are the softmax's output and the logarithms of its
  row sums.
-/
module

public import proofs.«01_k».proof.Proof.AttHost
public import proofs.«01_k».proof.Proof.Result

@[expose] public section

noncomputable section

namespace Cert.Att

open Idealize.ShloMosaic Idealize.ShloMosaic.TcCoe Cert.AttKernelIdeal Cert.AttKernelIdeal.Gen
open Idealize.ShloMosaic.Pointwise
open Cert.FlashBwd (split128 SC_real real_of)

variable (m : (ℓ : Loc nD τ sig) → Buf (Elt Ideal) ℓ) (c : Dev nD)

/-- The arguments in real numbers. -/
structure Reals where
  r0 : Fin 8192 → Fin 8 → Fin 64 → ℝ
  r1 : Fin 8192 → Fin 8 → Fin 32 → ℝ
  r2 : Fin 8192 → Fin 8 → Fin 64 → ℝ
  r3 : Fin 8192 → Fin 32 → ℝ
  r4 : Fin 8192 → Fin 8 → Fin 64 → ℝ
  sc : ℝ
  e0 : ∀ s h x, (in0 m c (ix3 s h x) : EReal) = (r0 s h x : EReal)
  e1 : ∀ s h x, (in1 m c (ix3 s h x) : EReal) = (r1 s h x : EReal)
  e2 : ∀ s h x, (in2 m c (ix3 s h x) : EReal) = (r2 s h x : EReal)
  e3 : ∀ s x, (in3 m c (ix2 s x) : EReal) = (r3 s x : EReal)
  e4 : ∀ s h x, (in4 m c (ix3 s h x) : EReal) = (r4 s h x : EReal)
  es : SC = (sc : EReal)

variable {m c} (Z : Reals m c)

/-- The scaled score. -/
def Reals.R (h : Fin 8) (s y : Fin 8192) : ℝ := ((∑ x, Z.r0 s h x * Z.r2 y h x) + ∑ x, Z.r1 s h x * Z.r3 y x) * Z.sc

/-- The values. -/
def Reals.w (h : Fin 8) (d : Fin 64) (y : Fin 8192) : ℝ := Z.r4 y h d

include Z

theorem raw_real (h : Fin 8) (s y : Fin 8192) :
    (FlashBwd.raw (in0 m c) (in1 m c) (in2 m c) (in3 m c) (ix3 h s y) : EReal) = (Z.R h s y : EReal) := by
  have es : FlashBwd.SC = (Z.sc : EReal) := Z.es
  rw [FlashBwd.raw_at]
  simp only [Z.e0, Z.e1, Z.e2, Z.e3, es, ← EReal.coe_mul, ← FlashBwd.Row.coe_sum, ← EReal.coe_add]
  rfl

theorem Sc_real (h : Fin 8) (s y : Fin 8192) : (Sc m c (ix3 h s y) : EReal) = sc (Z.R h s) (notAfter s) y := by
  unfold Sc
  rw [FlashBwd.scores_at, raw_real Z]
  rfl

theorem Mx_eq (h : Fin 8) (s : Fin 8192) : (Mx m c (ix2 h s) : EReal) = M (Z.R h s) (notAfter s) := by
  unfold Mx
  rw [FlashBwd.mx_at]
  simp only [Sc_real Z]
  rfl

theorem Ex_eq (h : Fin 8) (s y : Fin 8192) :
    (Ex m c (ix3 h s y) : EReal) = Ideal.exp (sc (Z.R h s) (notAfter s) y - M (Z.R h s) (notAfter s)) := by
  unfold Ex
  rw [FlashBwd.ex_at, Sc_real Z, Mx_eq Z]

theorem Sm_eq (h : Fin 8) (s : Fin 8192) : (Sm m c (ix2 h s) : EReal) = W (Z.R h s) one (notAfter s) := by
  unfold Sm W one
  rw [FlashBwd.sm_at]
  simp only [Ex_eq Z, EReal.coe_one, one_mul]

/-- The kernel's product of a query and a key over the 128 columns. -/
theorem qk_real (h : Fin 8) (s y : Fin 8192) :
    (∑ x : Fin 128, (Ak m c (ix3 h y x) : EReal) * (Aq m c (ix3 h s x) : EReal)) * SC = (Z.R h s y : EReal) := by
  rw [split128]
  have h1 : ∀ x : Fin 64, (Ak m c (ix3 h y ⟨x.val, by omega⟩) : EReal) * (Aq m c (ix3 h s ⟨x.val, by omega⟩) : EReal)
      = ((Z.r0 s h x * Z.r2 y h x : ℝ) : EReal) := by
    intro x
    rw [Ak_at, Aq_at, dif_pos x.isLt, dif_pos x.isLt, Z.e0, Z.e2, ← EReal.coe_mul, mul_comm]
  have h2 : ∀ x : Fin 32, (Ak m c (ix3 h y ⟨64 + x.val, by omega⟩) : EReal) * (Aq m c (ix3 h s ⟨64 + x.val, by omega⟩) : EReal)
      = ((Z.r1 s h x * Z.r3 y x : ℝ) : EReal) := by
    intro x
    have n1 : ¬ 64 + x.val < 64 := by omega
    have n2 : 64 + x.val - 64 < 32 := by omega
    have n3 : (⟨64 + x.val - 64, n2⟩ : Fin 32) = x := Fin.ext (by show 64 + x.val - 64 = x.val; omega)
    rw [Ak_at, Aq_at, dif_neg n1, dif_neg n1, dif_pos n2, dif_pos n2, n3, Z.e1, Z.e3, ← EReal.coe_mul, mul_comm]
  have h3 : ∀ x : Fin 32, (Ak m c (ix3 h y ⟨96 + x.val, by omega⟩) : EReal) * (Aq m c (ix3 h s ⟨96 + x.val, by omega⟩) : EReal) = 0 := by
    intro x
    have n1 : ¬ 96 + x.val < 64 := by omega
    have n2 : ¬ 96 + x.val - 64 < 32 := by omega
    rw [Ak_at, dif_neg n1, dif_neg n2, zero_mul]
  simp only [h1, h2, h3, Finset.sum_const_zero, add_zero, ← FlashBwd.Row.coe_sum, ← EReal.coe_add, Z.es, ← EReal.coe_mul]
  rfl

theorem v_real (h : Fin 8) (d : Fin 64) (y : Fin 8192) : (Av m c (ix3 h d y) : EReal) = (Z.w h d y : EReal) := by
  rw [Av_at]
  exact Z.e4 y h d

omit Z in
/-- The weights divided by the sum before the product with the values or after it. -/
theorem div_sum (R w : Fin 8192 → ℝ) (s : Fin 8192) :
    Ideal.div (W R w (notAfter s)) (W R one (notAfter s))
      = ∑ y, (w y : EReal) * Ideal.div (Ideal.exp (sc R (notAfter s) y - M R (notAfter s))) (W R one (notAfter s)) := by
  obtain ⟨μ, hμ⟩ := M_real R (notAfter s) (y0 := s) (Nat.le_refl _)
  rw [W_real R w _ μ hμ, W_real R one _ μ hμ, hμ]
  have hpos : 0 < ∑ y, one y * (if notAfter s y then Real.exp (R y - μ) else 0) := by
    refine Finset.sum_pos' (fun y _ => ?_) ⟨s, Finset.mem_univ s, ?_⟩
    · unfold one
      rw [one_mul]
      split
      · exact (Real.exp_pos _).le
      · exact le_rfl
    · unfold one
      rw [one_mul, if_pos (show notAfter s s from Nat.le_refl _)]
      exact Real.exp_pos _
  rw [FlashBwd.Row.div_real _ hpos.ne', Finset.sum_div, FlashBwd.Row.coe_sum]
  refine Finset.sum_congr rfl fun y _ => ?_
  rw [exp_sc, FlashBwd.Row.div_real _ hpos.ne', ← EReal.coe_mul, mul_div_assoc]

/-- The output read off the kernel's first array. -/
theorem out_o_eq : transpose S8192x8x64 [2, 0, 1] (resO Z.R Z.w) transposes_S8x64x8192_S8192x8x64_2_0_1 = outO m c := by
  funext i
  obtain ⟨s, h, d, rfl⟩ : ∃ (s : Fin 8192) (h : Fin 8) (d : Fin 64), i = ix3 s h d := ⟨i 0, i 1, i 2, eq_ix3 i⟩
  have e1 : (transpose S8192x8x64 [2, 0, 1] (resO Z.R Z.w) transposes_S8x64x8192_S8192x8x64_2_0_1) (ix3 s h d) = resO Z.R Z.w (ix3 h d s) := by
    generalize resO Z.R Z.w = z
    pointwise
  have e2 : (outO m c (ix3 s h d) : EReal)
      = ∑ y : Fin 8192, (in4 m c (ix3 y h d) : EReal) * (FlashBwd.prob (Ex m c) (Sm m c) (ix3 h s y) : EReal) := FlashBwd.outp_at _ _ h s d
  refine e1.trans (Eq.trans ?_ e2.symm)
  refine (div_sum (Z.R h s) (Z.w h d) s).trans (Finset.sum_congr rfl fun y _ => ?_)
  rw [FlashBwd.prob_at, Ex_eq Z, Sm_eq Z]
  exact congrArg₂ (· * ·) (Z.e4 y h d).symm rfl

/-- The kernel's second array. -/
theorem out_l_eq : resL Z.R = outL m c := by
  funext i
  obtain ⟨h, z, s, rfl⟩ : ∃ (h : Fin 8) (z : Fin 1) (s : Fin 8192), i = ix3 h z s := ⟨i 0, i 1, i 2, eq_ix3 i⟩
  obtain rfl : z = 0 := Subsingleton.elim _ _
  have e2 : (outL m c (ix3 h 0 s) : EReal) = (Mx m c (ix2 h s) : EReal) + Ideal.log (Sm m c (ix2 h s) : EReal) := FlashBwd.lseT_at _ _ h s
  refine Eq.trans ?_ e2.symm
  rw [Mx_eq Z, Sm_eq Z]
  rfl

omit Z

/-- Finite arguments are arrays of real numbers. -/
theorem reals_of [Cert.Pre_att_finite.Facts] (h : Pre_AttKernelIdeal_att_finite m) (c : Dev nD) : Nonempty (Reals m c) := by
  obtain ⟨h0, h1, h2, h3, h4⟩ := h c
  have r0 := real_of (in0 m c) _ h0
  have r1 := real_of (in1 m c) _ h1
  have r2 := real_of (in2 m c) _ h2
  have r3 := real_of (in3 m c) _ h3
  have r4 := real_of (in4 m c) _ h4
  obtain ⟨sc, es⟩ := SC_real
  exact ⟨{
    r0 := fun s h x => (r0 (ix3 s h x)).choose
    r1 := fun s h x => (r1 (ix3 s h x)).choose
    r2 := fun s h x => (r2 (ix3 s h x)).choose
    r3 := fun s x => (r3 (ix2 s x)).choose
    r4 := fun s h x => (r4 (ix3 s h x)).choose
    sc := sc
    e0 := fun s h x => (r0 (ix3 s h x)).choose_spec
    e1 := fun s h x => (r1 (ix3 s h x)).choose_spec
    e2 := fun s h x => (r2 (ix3 s h x)).choose_spec
    e3 := fun s x => (r3 (ix2 s x)).choose_spec
    e4 := fun s h x => (r4 (ix3 s h x)).choose_spec
    es := es }⟩

end Cert.Att
end
-- ==== Proof.Att.lean ====
/-
  The attention's forward kernel against the softmax: what the kernel's program leaves in its two results, the equation with
  the reference, and the named constant.
-/
module

public import proofs.«01_k».proof.Proof.AttReal
public import proofs.«01_k».proof.Proof.Gen.AttReferenceIdeal.Run

@[expose] public section

noncomputable section

namespace Cert.Att

open Idealize.ShloMosaic Idealize.SL.Sem

/-- The side conditions of the precondition's operations. -/
theorem preFacts : Cert.Pre_att_finite.Facts where
  bcast_S_S8192x8x64 := by decide
  bcast_S_S8192x8x32 := by decide
  bcast_S_S8192x32 := by decide

/-- The mask's constant is named minus infinity. -/
theorem preserves : Cert.preserves_AttKernel_AttKernelIdeal :=
  IdealRules.named_const.statement Cert.AttKernelIdeal.κ "mask" .f32 0xF149F2CA#32 ⊥ rfl

section
open Idealize.ShloMosaic.TcCoe Cert.AttKernelIdeal Cert.AttKernelIdeal.Gen

variable (m : (ℓ : Loc nD τ sig) → Buf (Elt Ideal) ℓ) (c : Dev nD)

/-- The buffers as the region leaves them. -/
def left : Valuation τ sig (Elt Ideal) :=
  Pipeline.withArrays (cfgs 0).spec c (V0 m c) fun w => (dats m 0 c).arrAt w (cfgs 0).N

theorem arr_inj : Function.Injective (Pipeline.arrRef spec0) := by decide

theorem left_o (Z : Reals m c) : left m c (Proc.devRef .tc main_v11_0) = resO Z.R Z.w :=
  (Pipeline.withArrays_arr spec0 arr_inj c (V0 m c) (fun w => (dats m 0 c).arrAt w (cfgs 0).N) 3).trans
    (final_o m Z.R Z.w c (qk_real Z) (v_real Z))

theorem left_l (Z : Reals m c) : left m c (Proc.devRef .tc main_v11_1) = resL Z.R :=
  (Pipeline.withArrays_arr spec0 arr_inj c (V0 m c) (fun w => (dats m 0 c).arrAt w (cfgs 0).N) 4).trans
    (final_l m Z.R Z.w c (qk_real Z) (v_real Z))

/-- The output, transposed after the region. -/
theorem tail_o (Z : Reals m c) : Pipeline.afterTail₀ cfgs (dats m) 0 (V0 m) [hostOps1] c main_v12 = outO m c := by
  rw [← out_o_eq Z, ← left_o m c Z]
  show StableHlo.after [hostOps1].flatten (left m c) _ = _
  generalize left m c = w
  simp only [hostOps1, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp

/-- What a run of the kernel's program leaves in its two results, its arguments unchanged. -/
theorem kernel_run (g : Dev nD → PrngReg) (hZ : ∀ c : Dev nD, Nonempty (Reals m c)) :
    θ_run (defs (F := Ideal)) (onTc (τ := τ) (main (F := Ideal))) ⟨m, fun _ => 0, g⟩ (fun r => ∀ c : Dev nD,
      r.2.mem ((c.tc : Thread nD τ).loc main_v12) = outO m c
      ∧ r.2.mem ((c.tc : Thread nD τ).loc main_v11_1) = outL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (unchanged m g) (run_main m g))
  obtain ⟨Z⟩ := hZ c
  exact ⟨((h.2 c).2 main_v12 (by decide)).trans (tail_o m c Z),
    (((h.2 c).1 4).trans (final_l m Z.R Z.w c (qk_real Z) (v_real Z))).trans (out_l_eq Z), h.1 c⟩

end

section
variable (m : (ℓ : Loc AttReferenceIdeal.nD AttReferenceIdeal.τ AttReferenceIdeal.sig) → Buf (Elt Ideal) ℓ) (c : Dev AttReferenceIdeal.nD)

/-- The reference's five arguments. -/
abbrev b0 : FVec Ideal KernelIdeal.S8192x8x64 .f32 := m ((c.tc : Thread AttReferenceIdeal.nD AttReferenceIdeal.τ).loc AttReferenceIdeal.main_arg0)
abbrev b1 : FVec Ideal KernelIdeal.S8192x8x32 .f32 := m ((c.tc : Thread AttReferenceIdeal.nD AttReferenceIdeal.τ).loc AttReferenceIdeal.main_arg1)
abbrev b2 : FVec Ideal KernelIdeal.S8192x8x64 .f32 := m ((c.tc : Thread AttReferenceIdeal.nD AttReferenceIdeal.τ).loc AttReferenceIdeal.main_arg2)
abbrev b3 : FVec Ideal KernelIdeal.S8192x32 .f32 := m ((c.tc : Thread AttReferenceIdeal.nD AttReferenceIdeal.τ).loc AttReferenceIdeal.main_arg3)
abbrev b4 : FVec Ideal KernelIdeal.S8192x8x64 .f32 := m ((c.tc : Thread AttReferenceIdeal.nD AttReferenceIdeal.τ).loc AttReferenceIdeal.main_arg4)

/-- Its scores, exponentials and row sums. -/
def Rsc : FVec Ideal KernelIdeal.S8x8192x8192 .f32 := FlashBwd.scores (b0 m c) (b1 m c) (b2 m c) (b3 m c)
def Rex : FVec Ideal KernelIdeal.S8x8192x8192 .f32 := FlashBwd.ex (Rsc m c) (FlashBwd.rmx (FlashBwd.mx (Rsc m c)))
def Rsm : FVec Ideal KernelIdeal.S8x8192 .f32 := FlashBwd.sm (Rex m c)

set_option maxRecDepth 8192 in
theorem ref0 : AttReferenceIdeal.Value.res_out0 m c = FlashBwd.outp (b4 m c) (FlashBwd.prob (Rex m c) (Rsm m c)) := by
  unfold AttReferenceIdeal.Value.res_out0 AttReferenceIdeal.Value.res_main_v51
  rfl

end

section
open Cert.AttReferenceIdeal Cert.AttReferenceIdeal.Gen

/-- The reference ends with its arguments unchanged and every semaphore counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2, sem_eq_zero_of_no_sems rfl _⟩) (Cert.AttReferenceIdeal.Value.run m g)

set_option maxRecDepth 8192 in
/-- What a run of the reference leaves in its two results. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v51) = FlashBwd.outp (b4 m c) (FlashBwd.prob (Rex m c) (Rsm m c))
      ∧ r.2.mem ((c.tc : Thread nD τ).loc main_v52) = FlashBwd.lseT (FlashBwd.mx (Rsc m c)) (FlashBwd.sm (FlashBwd.ex (Rsc m c) (FlashBwd.mx (Rsc m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.AttReferenceIdeal.Value.run m g)
  refine ⟨(h c).1.trans (ref0 m c), (h c).2.1.trans ?_, (h c).2.2⟩
  rfl

end

/-- The value claim. -/
theorem algebraic [Cert.Pre_att_finite.Facts] : Cert.algebraic_AttKernelIdeal_AttReferenceIdeal_pre_att_finite := by
  intro m g m' g' hpre hagree
  refine ⟨outO m, outL m, kernel_run m g (reals_of hpre), ?_⟩
  refine (θ_run Cert.AttReferenceIdeal.defs _ _).mono (fun r h c => ?_) (reference_run m' g')
  obtain ⟨g0, g1, g2, g3, g4⟩ := hagree c
  have q0 : b0 m' c = in0 m c := g0
  have q1 : b1 m' c = in1 m c := g1
  have q2 : b2 m' c = in2 m c := g2
  have q3 : b3 m' c = in3 m c := g3
  have q4 : b4 m' c = in4 m c := g4
  have hs : Rsc m' c = Sc m c := by unfold Rsc Sc; rw [q0, q1, q2, q3]
  have he : Rex m' c = Ex m c := by unfold Rex Ex Mx; rw [FlashBwd.rmx_eq, hs]
  have hm : Rsm m' c = Sm m c := by unfold Rsm Sm; rw [he]
  obtain ⟨h0, h1, hrest⟩ := h c
  refine ⟨h0.trans ?_, h1.trans ?_, hrest⟩
  · rw [he, hm, q4]
    rfl
  · rw [hs]
    rfl

end Cert.Att
end
-- ==== Proof.MixRun.lean ====
/-
  The run of the mixer's output product and the norm after it: what the last one leaves in the result, read off
  the chain of buffer contents between the calls.
-/
module

public import proofs.«01_k».proof.Proof.Gen.MixKernelIdeal.Frame

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixKernelIdeal Cert.MixKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A run of the two calls leaves in the result what the second call's write-backs fold to, and the arguments unchanged. -/
theorem run : θ_run defs (onTc (τ := τ) (main (F := F))) ⟨m, fun _ => 0, ρ⟩ (fun r => ∀ c : Dev nD,
      r.2.mem ((c.tc : Thread nD τ).loc main_v5_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v5_1 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Mix
end
-- ==== Proof.MixPass.lean ====
/-
  The mixer's output product and the norm after it, each call against the reference's lines: the product, then the
  scaled residual sum under the norm.
-/
module

public import proofs.«01_k».proof.Proof.MixRun
public import proofs.«01_k».proof.Proof.Gen.MixReferenceIdeal
public import Idealize.ShloMosaic.Lib.Pipeline.ValueKit
public import Idealize.ShloMosaic.Lib.Pipeline.ReadBack

@[expose] public section

set_option maxRecDepth 16384

noncomputable section

namespace Cert.Mix

open Idealize.ShloMosaic Idealize.ShloMosaic.TcCoe Idealize.SL.Sem
open Idealize.ShloMosaic.Pointwise
open Cert.MixKernelIdeal Cert.MixKernelIdeal.Gen

/-- The product of the mixer's heads with the output projection. -/
abbrev prod (Y : FVec Ideal S8192x1024 .f32) (W : FVec Ideal S1024x1024 .f32) : FVec Ideal S8192x1024 .f32 :=
  Host.dotGeneral MixReferenceIdeal.dot_S8192x1024_S1024x1024_S8192x1024_1_0_0_1_n_n none Y W

/-- A number of the float word `w`, everywhere. -/
abbrev lit (w : BitVec 32) : FVec Ideal S8192x1024 .f32 :=
  broadcastInDim MixReferenceIdeal.S8192x1024 ![] MixReferenceIdeal.Gen.bcast_S_S8192x1024 (constant MixReferenceIdeal.S_ .f32 w)

abbrev litc (w : BitVec 32) : FVec Ideal MixReferenceIdeal.S8192x1 .f32 :=
  broadcastInDim MixReferenceIdeal.S8192x1 ![] MixReferenceIdeal.Gen.bcast_S_S8192x1 (constant MixReferenceIdeal.S_ .f32 w)

/-- The scaled residual sum. -/
abbrev resid (X Y : FVec Ideal S8192x1024 .f32) : FVec Ideal S8192x1024 .f32 :=
  addf (mulf (lit 0x3FD744FD#32) X) Y

/-- The mean of every row. -/
abbrev mean (Z : FVec Ideal S8192x1024 .f32) : FVec Ideal MixReferenceIdeal.S8192x1 .f32 :=
  Host.divf (broadcastInDim MixReferenceIdeal.S8192x1 ![0] MixReferenceIdeal.Gen.bcast_S8192_S8192x1_0
    (Host.reduceAdd Z (constant MixReferenceIdeal.S_ .f32 0x00000000#32) MixReferenceIdeal.Gen.reducesTo_S8192x1024_S8192_d1 MixReferenceIdeal.Gen.h_S_)) (litc 0x44800000#32)

/-- A number per row, along the row. -/
abbrev along (Z : FVec Ideal MixReferenceIdeal.S8192x1 .f32) : FVec Ideal S8192x1024 .f32 :=
  broadcastInDim MixReferenceIdeal.S8192x1024 ![0, 1] MixReferenceIdeal.Gen.bcast_S8192x1_S8192x1024_0_1 Z

/-- A vector, down the columns. -/
abbrev cols (G : FVec Ideal S1024 .f32) : FVec Ideal S8192x1024 .f32 :=
  broadcastInDim MixReferenceIdeal.S8192x1024 ![0, 1] MixReferenceIdeal.Gen.bcast_S1x1024_S8192x1024_0_1
    (broadcastInDim MixReferenceIdeal.S1x1024 ![1] MixReferenceIdeal.Gen.bcast_S1024_S1x1024_1 G)

/-- The norm of the rows. -/
abbrev norm (Z : FVec Ideal S8192x1024 .f32) (G B : FVec Ideal S1024 .f32) : FVec Ideal S8192x1024 .f32 :=
  addf (mulf (mulf (subf Z (along (mean Z)))
    (along (Host.rsqrt (addf (mean (mulf (subf Z (along (mean Z))) (subf Z (along (mean Z))))) (litc 0x3727C5AC#32))))) (cols G)) (cols B)

variable (m : (ℓ : Loc nD τ sig) → Buf (Elt Ideal) ℓ) (ρ : Dev nD → PrngReg)

/-- Where the first call's blocks lie. -/
theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, _)

/-- Where the second call's blocks lie. -/
theorem idx1 : ∀ t : Fin cfg1.N, win1_0.index t = ![t.val, 0] ∧ win1_1.index t = ![t.val, 0]
    ∧ win1_2.index t = ![0, 0] ∧ win1_3.index t = ![0, 0] ∧ win1_5.index t = ![t.val, 0] :=
  (by decide +kernel : ∀ t : Fin grid1.N, _)

/-- The rounded heads that the host code prepares. -/
theorem host_y (c : Dev nD) (i : S8192x1024.Idx) :
    ((V1 m ρ c main_v0 : Vec Ideal S8192x1024 .bf16) i : EReal) = m ((c.tc : Thread nD τ).loc main_arg1) i := by
  unfold V1 W1
  simp only [hostOps0]
  after_results_simp
  pointwise

/-- The rounded output projection. -/
theorem host_w (c : Dev nD) (i : S1024x1024.Idx) :
    ((V1 m ρ c main_v1 : Vec Ideal S1024x1024 .bf16) i : EReal) = m ((c.tc : Thread nD τ).loc main_arg2) i := by
  unfold V1 W1
  simp only [hostOps0]
  after_results_simp
  pointwise

/-- What the first call leaves in its result. -/
theorem pass0 (c : Dev nD) :
    (V2 m ρ c main_v2 : Vec Ideal S8192x1024 .f32)
      = prod (m ((c.tc : Thread nD τ).loc main_arg1)) (m ((c.tc : Thread nD τ).loc main_arg2)) := by
  refine (W2_arr m ρ c 2).trans ?_
  refine (dat0 (V1 m ρ) c).arrAt_eq_of_covers 2 _ (by decide +kernel) fun t hf y => ?_
  have hN : t.val < 16 := lt_of_lt_of_eq t.isLt N_0
  blk_simp
  rw [after0_2]
  unfold outsAt0
  frame_out
  pointwise [k0_pay1, prod]
  refine Fin.sum_fin_congr fun k => congrArg₂ (· * ·) ?_ ?_
  · exact Eq.trans (by blk_ext [iblk0, idx0 t]) (host_y m ρ c _)
  · exact Eq.trans (by blk_ext [iblk0, idx0 t]) (host_w m ρ c _)

/-- The product stands at the second call as the first call left it. -/
theorem keep_p (c : Dev nD) : (V3 m ρ c main_v2 : Vec Ideal S8192x1024 .f32)
      = prod (m ((c.tc : Thread nD τ).loc main_arg1)) (m ((c.tc : Thread nD τ).loc main_arg2)) :=
  (W3_of m ρ c main_v2 (by decide)).trans (pass0 m ρ c)

/-- The layer's input stands at the second call as at the launch. -/
theorem keep_x (c : Dev nD) : (V3 m ρ c main_arg0 : Vec Ideal S8192x1024 .f32) = m ((c.tc : Thread nD τ).loc main_arg0) :=
  W3_args m ρ c main_arg0 (by decide)

/-- The norm's gain, as one row. -/
theorem host_gain (c : Dev nD) (j : Fin 1024) :
    ((V3 m ρ c main_v3 : Vec Ideal S1x1024 .f32) (ix2 0 j) : EReal) = m ((c.tc : Thread nD τ).loc main_arg3) (ix1 j) := by
  have h := W2_args m ρ c main_arg3 (by decide)
  unfold V3 W3
  simp only [hostOps1]
  after_results_simp
  pointwise
  exact congrFun h (ix1 j)

/-- The norm's offset, as one row. -/
theorem host_off (c : Dev nD) (j : Fin 1024) :
    ((V3 m ρ c main_v4 : Vec Ideal S1x1024 .f32) (ix2 0 j) : EReal) = m ((c.tc : Thread nD τ).loc main_arg4) (ix1 j) := by
  have h := W2_args m ρ c main_arg4 (by decide)
  unfold V3 W3
  simp only [hostOps1]
  after_results_simp
  pointwise
  exact congrFun h (ix1 j)

/-- The norm of the scaled residual sum on a block of the second call, at an entry. -/
theorem norm_at (c : Dev nD) (t : Fin cfg1.N) (y : S512x1024.Idx) (X Y : FVec Ideal S8192x1024 .f32) (G B : FVec Ideal S1024 .f32)
    (x0 x1 : Vec Ideal S512x1024 .f32) (x2 x3 : Vec Ideal S1x1024 .f32) (i : S8192x1024.Idx)
    (h0 : ∀ k : Fin 1024, (x0 (ix2 (y 0) k) : EReal) = X (ix2 (i 0) k)) (h1 : ∀ k : Fin 1024, (x1 (ix2 (y 0) k) : EReal) = Y (ix2 (i 0) k))
    (h2 : ∀ k : Fin 1024, (x2 (ix2 0 k) : EReal) = G (ix1 k)) (h3 : ∀ k : Fin 1024, (x3 (ix2 0 k) : EReal) = B (ix1 k))
    (e0 : (x0 y : EReal) = X i) (e1 : (x1 y : EReal) = Y i) (hi : y 1 = i 1) :
    (k1_pay2 (F := Ideal) x0 x1 x2 x3 y : EReal) = norm (resid X Y) G B i := by
  pointwise [k1_pay2, k1_pay1, norm, resid, mean, along, cols, lit, litc]
  simp only [h0, h1, e0, e1, hi]
  exact congrArg₂ (α := EReal) (β := EReal) (· + ·) (congrArg (α := EReal) (_ * ·) (h2 (i 1))) (h3 (i 1))

/-- What the two calls compute, by the reference's lines. -/
def out (c : Dev nD) : FVec Ideal S8192x1024 .f32 :=
  norm (resid (m ((c.tc : Thread nD τ).loc main_arg0))
      (prod (m ((c.tc : Thread nD τ).loc main_arg1)) (m ((c.tc : Thread nD τ).loc main_arg2))))
    (m ((c.tc : Thread nD τ).loc main_arg3)) (m ((c.tc : Thread nD τ).loc main_arg4))

/-- What the second call leaves in its result. -/
theorem pass1 (c : Dev nD) : (dat1 (V3 m ρ) c).arrAt 5 cfg1.N = out m c := by
  refine (dat1 (V3 m ρ) c).arrAt_eq_of_covers 5 _ (by decide +kernel) fun t hf y => ?_
  have hN : t.val < 16 := lt_of_lt_of_eq t.isLt N_1
  blk_simp
  rw [after1_5]
  frame_out
  unfold out
  have hY := keep_p m ρ c
  generalize prod (m ((c.tc : Thread nD τ).loc main_arg1)) (m ((c.tc : Thread nD τ).loc main_arg2)) = Y at hY ⊢
  have hX := keep_x m ρ c
  refine norm_at c t y _ _ _ _ _ _ _ _ _ ?_ ?_ ?_ ?_ ?_ ?_ ?_
  · intro k
    exact Eq.trans (by blk_ext [iblk1, idx1 t]) (congrFun hX _)
  · intro k
    exact Eq.trans (by blk_ext [iblk1, idx1 t]) (congrFun hY _)
  · intro k
    exact Eq.trans (by blk_ext [iblk1, idx1 t]) (host_gain m ρ c k)
  · intro k
    exact Eq.trans (by blk_ext [iblk1, idx1 t]) (host_off m ρ c k)
  · exact Eq.trans (by blk_ext [iblk1, idx1 t]) (congrFun hX _)
  · exact Eq.trans (by blk_ext [iblk1, idx1 t]) (congrFun hY _)
  · exact Fin.ext (by blk_simp [idx1 t] <;> try omega)

end Cert.Mix
end
-- ==== Proof.Mix.lean ====
/-
  The mixer's output product and the norm after it: the value of the two calls against the reference's lines.
-/
module

public import proofs.«01_k».proof.Defs
public import proofs.«01_k».proof.Proof.MixPass
public import proofs.«01_k».proof.Proof.Gen.MixReferenceIdeal.Run
public import Idealize.ShloMosaic.Lib.Claim
public import Idealize.ShloMosaic.Adequacy

@[expose] public section

set_option maxRecDepth 16384

noncomputable section

namespace Cert.Mix

open Idealize.ShloMosaic Idealize.ShloMosaic.TcCoe Idealize.SL.Sem

section
open Cert.MixKernelIdeal Cert.MixKernelIdeal.Gen

/-- A run of the two calls leaves the layer's output in its result and its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5_1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (pass1 m g c), (h c).2⟩) (run m g)

/-- The value claim. -/
theorem algebraic : Cert.algebraic_MixKernelIdeal_MixReferenceIdeal := by
  intro m g m' g' hpre hagree
  refine ⟨out m, kernel_run m g, ?_⟩
  refine (θ_run Cert.MixReferenceIdeal.defs _ _).mono (fun r h c => ?_) (Cert.MixReferenceIdeal.Value.run m' g')
  obtain ⟨g0, g1, g2, g3, g4⟩ := hagree c
  refine ⟨(h c).1.trans ?_, (h c).2⟩
  rw [g0, g1, g2, g3, g4]
  rfl

end

section
open Cert.MixReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2, sem_eq_zero_of_no_sems rfl _⟩) (Cert.MixReferenceIdeal.Value.run m g)

end

end Cert.Mix
end
-- ==== Proof.OutDw.lean ====
/-
  The weight gradient of the mixer's output projection: the kernel walks the 8192 tokens in four steps and adds each
  step's product into an accumulator; the reference takes the product of the transposed activations with the output
  gradient at once.
-/
module

public import proofs.«01_k».proof.Defs
public import proofs.«01_k».proof.Proof.Gen.OutDwKernelIdeal.Frame
public import proofs.«01_k».proof.Proof.Gen.OutDwReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.OutDw

open Idealize.ShloMosaic Idealize.ShloMosaic.TcCoe Idealize.SL.Sem
open Idealize.ShloMosaic.Pointwise

section
open Cert.OutDwKernelIdeal Cert.OutDwKernelIdeal.Gen

variable (m : (ℓ : Loc nD τ sig) → Buf (Elt Ideal) ℓ)

/-- The reference's product over the two arguments. -/
abbrev prod (X : FVec Ideal S8192x1024 .f32) (Z : FVec Ideal S8192x1024 .f32) : FVec Ideal S1024x1024 .f32 :=
  Host.dotGeneral OutDwReferenceIdeal.dot_S1024x8192_S8192x1024_S1024x1024_1_0_0_1_n_n none
    (transpose OutDwReferenceIdeal.S1024x8192 [1, 0] X OutDwReferenceIdeal.Gen.transposes_S8192x1024_S1024x8192_1_0) Z

/-- The kernel's result, a function of its arguments. -/
def out (c : Dev nD) : FVec Ideal S1024x1024 .f32 :=
  prod (m ((c.tc : Thread nD τ).loc main_arg0)) (m ((c.tc : Thread nD τ).loc main_arg1))

/-- Where the windows' blocks lie. -/
theorem idx : ∀ t : Fin cfg0.N, win0_0.index t = ![t.val % 4, 0] ∧ win0_1.index t = ![t.val % 4, 0]
    ∧ win0_2.index t = ![0, 0] :=
  (by decide +kernel : ∀ t : Fin grid0.N, _)

/-- One step's product, at an index. -/
theorem part_at (x : Vec Ideal S2048x1024 .bf16) (z : Vec Ideal S2048x1024 .bf16) (j : S1024x1024.Idx) :
    (k0_pay2 x z j : EReal) = 0 + ∑ k : Fin 2048, (x (ix2 k (j 0)) : EReal) * (z (ix2 k (j 1)) : EReal) := by
  pointwise [k0_pay2, k0_pay1]

/-- A later step adds its product. -/
theorem step_at (x : Vec Ideal S2048x1024 .bf16) (z : Vec Ideal S2048x1024 .bf16) (a : Vec Ideal S1024x1024 .f32) (j : S1024x1024.Idx) :
    (k0_pay3 x z a j : EReal) = (a j : EReal) + ∑ k : Fin 2048, (x (ix2 k (j 0)) : EReal) * (z (ix2 k (j 1)) : EReal) := by
  pointwise [k0_pay3, k0_pay1]

/-- What the accumulator holds after the last step of a run. -/
theorem acc_at (c : Dev nD) (t : Fin cfg0.N) (ht : t.val % 4 = 3) (j : S1024x1024.Idx) :
    ((outsAt0 m c t.val t.isLt).2 j : EReal) = out m c (((cfg0.win 2).blk t).view.emb j) := by
  rw [Pipeline.eq_sum_fin_of_reset_step_apply_of_flush (fun n h => (outsAt0 m c n h).2) 4 (fun _ => 0) _
    (fun t h j => by
      have hN : t.val < 4 := lt_of_lt_of_eq t.isLt N_0
      rw [outsAt0_A m c t h (by omega) (by omega)]; frame_out; exact part_at _ _ j)
    (fun t h j => by
      by_cases h7 : t.val % 4 = 3
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold out
  pointwise [prod]
  refine Fin.sum_mul_add_congr fun s k hl => ?_
  blk_point [iblk, V, idx ⟨_, Pipeline.run_point_lt_of_flush t ht s⟩, idx t]

/-- The result array after the run. -/
theorem final (c : Dev nD) : (dats m 0 c).arrAt 2 cfg0.N = out m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_OutDwKernelIdeal_OutDwReferenceIdeal := by
  intro m g m' g' hpre hagree
  refine ⟨out m, kernel_run m g, ?_⟩
  refine (θ_run Cert.OutDwReferenceIdeal.defs _ _).mono (fun r h c => ?_) (Cert.OutDwReferenceIdeal.Value.run m' g')
  obtain ⟨g0, g1⟩ := hagree c
  refine ⟨(h c).1.trans ?_, (h c).2⟩
  rw [g0, g1]
  rfl

end

section
open Cert.OutDwReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.OutDwReferenceIdeal.Value.run m g)

end

end Cert.OutDw
end
-- ==== Proof.OutDx.lean ====
/-
  The gradient of the mixer's combined output before its projection: the kernel contracts the columns of the projection's
  block with those of the gradient's block; the reference multiplies by the transposed projection.
-/
module

public import proofs.«01_k».proof.Defs
public import proofs.«01_k».proof.Proof.Gen.OutDxKernelIdeal.Frame
public import proofs.«01_k».proof.Proof.Gen.OutDxReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.OutDx

open Idealize.ShloMosaic Idealize.ShloMosaic.TcCoe Idealize.SL.Sem
open Idealize.ShloMosaic.Pointwise

section
open Cert.OutDxKernelIdeal Cert.OutDxKernelIdeal.Gen

variable (m : (ℓ : Loc nD τ sig) → Buf (Elt Ideal) ℓ)

/-- The reference's product over the two arguments. -/
abbrev prod (Z : FVec Ideal S8192x1024 .f32) (W : FVec Ideal S1024x1024 .f32) : FVec Ideal S8192x1024 .f32 :=
  Host.dotGeneral OutDxReferenceIdeal.dot_S8192x1024_S1024x1024_S8192x1024_1_0_0_1_n_n none Z
    (transpose OutDxReferenceIdeal.S1024x1024 [1, 0] W OutDxReferenceIdeal.Gen.transposes_S1024x1024_S1024x1024_1_0)

/-- The kernel's result, a function of its arguments. -/
def out (c : Dev nD) : FVec Ideal S8192x1024 .f32 :=
  prod (m ((c.tc : Thread nD τ).loc main_arg0)) (m ((c.tc : Thread nD τ).loc main_arg1))

/-- Where the windows' blocks lie. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The result array after the run. -/
theorem final (c : Dev nD) : (dats m 0 c).arrAt 2 cfg0.N = out m c := by
  refine (dats m 0 c).arrAt_eq_of_covers 2 _ (by decide +kernel) fun t hf y => ?_
  have hN : t.val < 16 := lt_of_lt_of_eq t.isLt N_0
  blk_simp
  rw [after0_2]
  unfold outsAt0 out
  frame_out
  pointwise [k0_pay1, prod]
  refine Fin.sum_fin_congr fun k => congrArg₂ (· * ·) ?_ ?_
  · blk_ext [iblk, V, idx t]
  · blk_ext [iblk, V, idx t]

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_OutDxKernelIdeal_OutDxReferenceIdeal := by
  intro m g m' g' hpre hagree
  refine ⟨out m, kernel_run m g, ?_⟩
  refine (θ_run Cert.OutDxReferenceIdeal.defs _ _).mono (fun r h c => ?_) (Cert.OutDxReferenceIdeal.Value.run m' g')
  obtain ⟨g0, g1⟩ := hagree c
  refine ⟨(h c).1.trans ?_, (h c).2⟩
  rw [g0, g1]
  rfl

end

section
open Cert.OutDxReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.OutDxReferenceIdeal.Value.run m g)

end

end Cert.OutDx
end
-- ==== Proof.Cols.lean ====
/-
  The version's order of the mixer's combined columns: 1184 columns stand among 1408, the two halves of the rotated key
  each at the head of 128 lanes whose rest is zero.
-/
module

public import Idealize.ShloMosaic.Lib.Pipeline.ValueKit

@[expose] public section

noncomputable section

namespace Cert.Cols

/-- Where a column of the reference stands in the version's order. -/
def place (n : ℕ) : ℕ := if n < 768 then n else if n < 912 then n + 256 else if n < 928 then n + 368 else n - 160

/-- A column's place is one of the 1408. -/
theorem place_lt (n : ℕ) (h : n < 1184) : place n < 1408 := by
  unfold place
  split_ifs <;> omega

/-- The place as one of the 1408 columns. -/
def col (n : Fin 1184) : Fin 1408 := ⟨place n, place_lt n n.isLt⟩

/-- The place of a column, case by case. -/
theorem col_val (n : Fin 1184) : (col n : ℕ) = n ∧ (n : ℕ) < 768 ∨ (col n : ℕ) = n + 256 ∧ 768 ≤ (n : ℕ) ∧ (n : ℕ) < 912
    ∨ (col n : ℕ) = n + 368 ∧ 912 ≤ (n : ℕ) ∧ (n : ℕ) < 928 ∨ (col n : ℕ) + 160 = n ∧ 928 ≤ (n : ℕ) := by
  show place n = n ∧ _ ∨ place n = n + 256 ∧ _ ∨ place n = n + 368 ∧ _ ∨ place n + 160 = n ∧ _
  unfold place
  split_ifs <;> omega

/-- A sum over a range, split at a place. -/
theorem range_split {M : Type} [AddCommMonoid M] (f : ℕ → M) (a b : ℕ) :
    ∑ k ∈ Finset.range (a + b), f k = ∑ k ∈ Finset.range a, f k + ∑ k ∈ Finset.range b, f (a + k) :=
  Finset.sum_range_add f a b

/-- A sum of zeros is zero. -/
theorem range_zero {M : Type} [AddCommMonoid M] (f : ℕ → M) (a : ℕ) (h : ∀ k < a, f k = 0) : ∑ k ∈ Finset.range a, f k = 0 :=
  Finset.sum_eq_zero fun k hk => h k (Finset.mem_range.mp hk)

/-- Equal terms, equal sums. -/
theorem range_eq {M : Type} [AddCommMonoid M] (f g : ℕ → M) (a : ℕ) (h : ∀ k < a, f k = g k) :
    ∑ k ∈ Finset.range a, f k = ∑ k ∈ Finset.range a, g k :=
  Finset.sum_congr rfl fun k hk => h k (Finset.mem_range.mp hk)

/-- A sum over the 1408 columns, zero on the padding, is the sum over the 1184. -/
theorem sum_nat {M : Type} [AddCommMonoid M] (f g : ℕ → M) (h : ∀ n < 1184, f (place n) = g n)
    (z1 : ∀ k < 112, f (1168 + k) = 0) (z2 : ∀ k < 112, f (1296 + k) = 0) :
    ∑ k ∈ Finset.range 1408, f k = ∑ n ∈ Finset.range 1184, g n := by
  have e1 : ∑ k ∈ Finset.range 768, f k = ∑ k ∈ Finset.range 768, g k :=
    range_eq _ _ _ fun k hk => by rw [← h k (by omega), place, if_pos hk]
  have e2 : ∑ k ∈ Finset.range 144, f (1024 + k) = ∑ k ∈ Finset.range 144, g (768 + k) :=
    range_eq _ _ _ fun k hk => by
      rw [← h (768 + k) (by omega), place, if_neg (by omega), if_pos (by omega)]
      congr 1; omega
  have e3 : ∑ k ∈ Finset.range 16, f (1280 + k) = ∑ k ∈ Finset.range 16, g (912 + k) :=
    range_eq _ _ _ fun k hk => by
      rw [← h (912 + k) (by omega), place, if_neg (by omega), if_neg (by omega), if_pos (by omega)]
      congr 1; omega
  have e4 : ∑ k ∈ Finset.range 256, f (768 + k) = ∑ k ∈ Finset.range 256, g (928 + k) :=
    range_eq _ _ _ fun k hk => by
      rw [← h (928 + k) (by omega), place, if_neg (by omega), if_neg (by omega), if_neg (by omega)]
      congr 1; omega
  rw [show (1408 : ℕ) = 1296 + 112 from rfl, range_split, range_zero _ _ z2, show (1296 : ℕ) = 1280 + 16 from rfl, range_split,
    show (1280 : ℕ) = 1168 + 112 from rfl, range_split, range_zero _ _ z1, show (1168 : ℕ) = 1024 + 144 from rfl, range_split,
    show (1024 : ℕ) = 768 + 256 from rfl, range_split,
    show (1184 : ℕ) = 928 + 256 from rfl, range_split, show (928 : ℕ) = 912 + 16 from rfl, range_split,
    show (912 : ℕ) = 768 + 144 from rfl, range_split]
  simp only [Nat.reduceAdd] at e2 e3 e4 ⊢
  rw [e1, e2, e3, e4, add_zero, add_zero]
  abel

/-- The same over the columns themselves. -/
theorem sum_col {M : Type} [AddCommMonoid M] (f : Fin 1408 → M) (g : Fin 1184 → M) (h : ∀ n, f (col n) = g n)
    (z1 : ∀ k : Fin 112, f ⟨1168 + k, by omega⟩ = 0) (z2 : ∀ k : Fin 112, f ⟨1296 + k, by omega⟩ = 0) :
    ∑ k, f k = ∑ n, g n := by
  have hf : ∀ k (hk : k < 1408), (if hk : k < 1408 then f ⟨k, hk⟩ else 0) = f ⟨k, hk⟩ := fun k hk => dif_pos hk
  have hg : ∀ k (hk : k < 1184), (if hk : k < 1184 then g ⟨k, hk⟩ else 0) = g ⟨k, hk⟩ := fun k hk => dif_pos hk
  have key := sum_nat (fun k => if hk : k < 1408 then f ⟨k, hk⟩ else 0) (fun k => if hk : k < 1184 then g ⟨k, hk⟩ else 0)
    (fun n hn => by
      show (if hk : place n < 1408 then f ⟨place n, hk⟩ else 0) = (if hk : n < 1184 then g ⟨n, hk⟩ else 0)
      rw [hf _ (place_lt n hn), hg _ hn]
      exact h ⟨n, hn⟩)
    (fun k hk => (hf _ (by omega)).trans (z1 ⟨k, hk⟩)) (fun k hk => (hf _ (by omega)).trans (z2 ⟨k, hk⟩))
  rw [← Fin.sum_univ_eq_sum_range, ← Fin.sum_univ_eq_sum_range] at key
  calc ∑ k, f k = ∑ k : Fin 1408, (if hk : (k : ℕ) < 1408 then f ⟨k, hk⟩ else 0) :=
        Finset.sum_congr rfl fun k _ => (hf k k.isLt).symm
    _ = ∑ k : Fin 1184, (if hk : (k : ℕ) < 1184 then g ⟨k, hk⟩ else 0) := key
    _ = ∑ n, g n := Finset.sum_congr rfl fun k _ => hg k k.isLt

end Cert.Cols
end
-- ==== Proof.In.lean ====
/-
  The mixer's combined projection: the kernel multiplies by the projection with its columns placed apart; the columns of
  its result, in the reference's order again, are the reference's product.
-/
module

public import proofs.«01_k».proof.Defs
public import proofs.«01_k».proof.Proof.Gen.InKernelIdeal.Frame
public import proofs.«01_k».proof.Proof.Gen.InReferenceIdeal.Run
public import proofs.«01_k».proof.Proof.Cols
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.In

open Idealize.ShloMosaic Idealize.ShloMosaic.TcCoe Idealize.SL.Sem
open Idealize.ShloMosaic.Pointwise

section
open Cert.InKernelIdeal Cert.InKernelIdeal.Gen

open Cert.Cols

variable (m : (ℓ : Loc nD τ sig) → Buf (Elt Ideal) ℓ)

/-- The reference's product over the two arguments. -/
abbrev prod (X : FVec Ideal S8192x1024 .f32) (W : FVec Ideal S1024x1184 .f32) : FVec Ideal S8192x1184 .f32 :=
  Host.dotGeneral InReferenceIdeal.dot_S8192x1024_S1024x1184_S8192x1184_1_0_0_1_n_n none X W

/-- The kernel's result, a function of its arguments. -/
def out (c : Dev nD) : FVec Ideal S8192x1184 .f32 :=
  prod (m ((c.tc : Thread nD τ).loc main_arg0)) (m ((c.tc : Thread nD τ).loc main_arg1))

/-- The arguments and the prepared array, by their shapes. -/
abbrev a0 (c : Dev nD) : Vec Ideal S8192x1024 .f32 := m ((c.tc : Thread nD τ).loc main_arg0)
abbrev a1 (c : Dev nD) : Vec Ideal S1024x1184 .f32 := m ((c.tc : Thread nD τ).loc main_arg1)
abbrev w8 (c : Dev nD) : Vec Ideal S1024x1408 .bf16 := V m c main_v8

/-- Where the windows' blocks lie. -/
theorem idx : ∀ t : Fin cfg0.N, win0_0.index t = ![t.val, 0] ∧ win0_1.index t = ![0, 0] ∧ win0_2.index t = ![t.val, 0] :=
  (by decide +kernel : ∀ t : Fin grid0.N, _)

/-- A placed column of the array that the host code prepares. -/
theorem host_at (c : Dev nD) (k : Fin 1024) (n : Fin 1184) :
    ((V m c main_v8 : Vec Ideal S1024x1408 .bf16) (ix2 k (col n)) : EReal) = m ((c.tc : Thread nD τ).loc main_arg1) (ix2 k n) := by
  unfold V V0
  simp only [hostOps0, List.flatten_cons, List.flatten_nil, List.cons_append, List.nil_append, List.append_nil]
  after_results_simp
  have hv := col_val n
  pointwise
  split_ifs <;> try omega
  all_goals after_results_simp
  all_goals pointwise
  all_goals congr 3
  all_goals omega

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call its output's array holds what the write-backs fold to. -/
theorem left_arr (c : Dev nD) : left m c (Proc.devRef .tc main_v9) = (dats m 0 c).arrAt 2 cfg0.N :=
  Pipeline.withArrays_arr spec0 arr_inj c (V0 m c) (fun w => (dats m 0 c).arrAt w (cfgs 0).N) 2

/-- The columns in the reference's order, taken out of the region's result. -/
theorem tail_at (c : Dev nD) (X : Vec Ideal S8192x1408 .f32) (hX : left m c (Proc.devRef .tc main_v9) = X) (i : Fin 8192) (n : Fin 1184) :
    ((Pipeline.afterTail₀ cfgs (dats m) 0 (V0 m) [hostOps1] c main_v15 : Vec Ideal S8192x1184 .f32) (ix2 i n) : EReal) = X (ix2 i (col n)) := by
  subst hX
  show (StableHlo.after [hostOps1].flatten (left m c) (Proc.devRef .tc main_v15) : Vec Ideal S8192x1184 .f32) (ix2 i n) = _
  generalize left m c = w
  simp only [hostOps1, List.flatten_cons, List.flatten_nil, List.cons_append, List.nil_append, List.append_nil]
  after_results_simp
  have hv := col_val n
  pointwise
  split_ifs <;> try omega
  all_goals after_results_simp
  all_goals pointwise
  all_goals congr 2
  all_goals refine Fin.ext ?_
  all_goals dsimp only
  all_goals omega

/-- The product of the rounded inputs with the placed projection. -/
def full (c : Dev nD) : Vec Ideal S8192x1408 .f32 := fun i =>
  (∑ k : Fin 1024, (a0 m c (ix2 (i 0) k) : EReal) * (w8 m c (ix2 k (i 1)) : EReal) : EReal)

/-- The region's result array. -/
theorem final (c : Dev nD) : (dats m 0 c).arrAt 2 cfg0.N = full m c := by
  refine (dats m 0 c).arrAt_eq_of_covers 2 _ (by decide +kernel) fun t hf y => ?_
  have hN : t.val < 8 := lt_of_lt_of_eq t.isLt N_0
  blk_simp
  rw [after0_2]
  unfold outsAt0 full
  frame_out
  pointwise [k0_pay1]
  refine Fin.sum_fin_congr fun k => congrArg₂ (· * ·) ?_ ?_
  · blk_ext [iblk, V, idx t]
  · blk_ext [iblk, idx t]

/-- The result after the host's last lines. -/
theorem tail_eq (c : Dev nD) : Pipeline.afterTail₀ cfgs (dats m) 0 (V0 m) [hostOps1] c main_v15 = out m c := by
  funext j
  rw [eq_ix2 j]
  refine (tail_at m c (full m c) ((left_arr m c).trans (final m c)) (j 0) (j 1)).trans ?_
  unfold out
  unfold full
  pointwise [prod]
  refine Fin.sum_fin_congr fun k => congrArg (_ * ·) (host_at m c _ _)

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v15) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).2 main_v15 (by decide)).trans (tail_eq m c), h.1 c⟩) (θ_run_and (unchanged m g) (run_main m g))

/-- The value claim. -/
theorem algebraic : Cert.algebraic_InKernelIdeal_InReferenceIdeal := by
  intro m g m' g' hpre hagree
  refine ⟨out m, kernel_run m g, ?_⟩
  refine (θ_run Cert.InReferenceIdeal.defs _ _).mono (fun r h c => ?_) (Cert.InReferenceIdeal.Value.run m' g')
  obtain ⟨g0, g1⟩ := hagree c
  refine ⟨(h c).1.trans ?_, (h c).2⟩
  rw [g0, g1]
  rfl

end

section
open Cert.InReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.InReferenceIdeal.Value.run m g)

end

end Cert.In
end
-- ==== Proof.InDw.lean ====
/-
  The weight gradient of the mixer's combined projection: the kernel walks the 8192 tokens in eight steps, with the
  gradient's columns placed apart; the columns of its result, in the reference's order again, are the product of the
  transposed inputs with the gradient.
-/
module

public import proofs.«01_k».proof.Defs
public import proofs.«01_k».proof.Proof.Gen.InDwKernelIdeal.Frame
public import proofs.«01_k».proof.Proof.Gen.InDwReferenceIdeal.Run
public import proofs.«01_k».proof.Proof.Cols
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.InDw

open Idealize.ShloMosaic Idealize.ShloMosaic.TcCoe Idealize.SL.Sem
open Idealize.ShloMosaic.Pointwise

section
open Cert.InDwKernelIdeal Cert.InDwKernelIdeal.Gen

open Cert.Cols

variable (m : (ℓ : Loc nD τ sig) → Buf (Elt Ideal) ℓ)

/-- The reference's product over the two arguments. -/
abbrev prod (X : FVec Ideal S8192x1024 .f32) (D : FVec Ideal S8192x1184 .f32) : FVec Ideal S1024x1184 .f32 :=
  Host.dotGeneral InDwReferenceIdeal.dot_S1024x8192_S8192x1184_S1024x1184_1_0_0_1_n_n none
    (transpose InDwReferenceIdeal.S1024x8192 [1, 0] X InDwReferenceIdeal.Gen.transposes_S8192x1024_S1024x8192_1_0) D

/-- The kernel's result, a function of its arguments. -/
def out (c : Dev nD) : FVec Ideal S1024x1184 .f32 :=
  prod (m ((c.tc : Thread nD τ).loc main_arg0)) (m ((c.tc : Thread nD τ).loc main_arg1))

/-- The arguments and the prepared array, by their shapes. -/
abbrev a0 (c : Dev nD) : Vec Ideal S8192x1024 .f32 := m ((c.tc : Thread nD τ).loc main_arg0)
abbrev a1 (c : Dev nD) : Vec Ideal S8192x1184 .f32 := m ((c.tc : Thread nD τ).loc main_arg1)
abbrev w8 (c : Dev nD) : Vec Ideal S8192x1408 .bf16 := V m c main_v8

/-- Where the windows' blocks lie. -/
theorem idx : ∀ t : Fin cfg0.N, win0_0.index t = ![t.val % 8, 0] ∧ win0_1.index t = ![t.val % 8, 0] ∧ win0_2.index t = ![0, 0] :=
  (by decide +kernel : ∀ t : Fin grid0.N, _)

/-- One step's product, at an index. -/
theorem part_at (x : Vec Ideal S1024x1024 .bf16) (z : Vec Ideal S1024x1408 .bf16) (j : S1024x1408.Idx) :
    (k0_pay2 x z j : EReal) = 0 + ∑ k : Fin 1024, (x (ix2 k (j 0)) : EReal) * (z (ix2 k (j 1)) : EReal) := by
  pointwise [k0_pay2, k0_pay1]

/-- A later step adds its product. -/
theorem step_at (x : Vec Ideal S1024x1024 .bf16) (z : Vec Ideal S1024x1408 .bf16) (a : Vec Ideal S1024x1408 .f32) (j : S1024x1408.Idx) :
    (k0_pay3 x z a j : EReal) = (a j : EReal) + ∑ k : Fin 1024, (x (ix2 k (j 0)) : EReal) * (z (ix2 k (j 1)) : EReal) := by
  pointwise [k0_pay3, k0_pay1]

/-- A placed column of the array that the host code prepares. -/
theorem host_at (c : Dev nD) (k : Fin 8192) (n : Fin 1184) :
    ((V m c main_v8 : Vec Ideal S8192x1408 .bf16) (ix2 k (col n)) : EReal) = m ((c.tc : Thread nD τ).loc main_arg1) (ix2 k n) := by
  unfold V V0
  simp only [hostOps0, List.flatten_cons, List.flatten_nil, List.cons_append, List.nil_append, List.append_nil]
  after_results_simp
  have hv := col_val n
  pointwise
  split_ifs <;> try omega
  all_goals after_results_simp
  all_goals pointwise
  all_goals congr 3
  all_goals omega

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call its output's array holds what the write-backs fold to. -/
theorem left_arr (c : Dev nD) : left m c (Proc.devRef .tc main_v9) = (dats m 0 c).arrAt 2 cfg0.N :=
  Pipeline.withArrays_arr spec0 arr_inj c (V0 m c) (fun w => (dats m 0 c).arrAt w (cfgs 0).N) 2

/-- The columns in the reference's order, taken out of the region's result. -/
theorem tail_at (c : Dev nD) (X : Vec Ideal S1024x1408 .f32) (hX : left m c (Proc.devRef .tc main_v9) = X) (i : Fin 1024) (n : Fin 1184) :
    ((Pipeline.afterTail₀ cfgs (dats m) 0 (V0 m) [hostOps1] c main_v15 : Vec Ideal S1024x1184 .f32) (ix2 i n) : EReal) = X (ix2 i (col n)) := by
  subst hX
  show (StableHlo.after [hostOps1].flatten (left m c) (Proc.devRef .tc main_v15) : Vec Ideal S1024x1184 .f32) (ix2 i n) = _
  generalize left m c = w
  simp only [hostOps1, List.flatten_cons, List.flatten_nil, List.cons_append, List.nil_append, List.append_nil]
  after_results_simp
  have hv := col_val n
  pointwise
  split_ifs <;> try omega
  all_goals after_results_simp
  all_goals pointwise
  all_goals congr 2
  all_goals refine Fin.ext ?_
  all_goals dsimp only
  all_goals omega

/-- The product of the transposed inputs with the placed gradient. -/
def full (c : Dev nD) : Vec Ideal S1024x1408 .f32 := fun i =>
  (∑ k : Fin 8192, (a0 m c (ix2 k (i 0)) : EReal) * (w8 m c (ix2 k (i 1)) : EReal) : EReal)

/-- What the accumulator holds after the last step. -/
theorem acc_at (c : Dev nD) (t : Fin cfg0.N) (ht : t.val % 8 = 7) (j : S1024x1408.Idx) :
    ((outsAt0 m c t.val t.isLt).2 j : EReal) = full m c (((cfg0.win 2).blk t).view.emb j) := by
  rw [Pipeline.eq_sum_fin_of_reset_step_apply_of_flush (fun n h => (outsAt0 m c n h).2) 8 (fun _ => 0) _
    (fun t h j => by
      have hN : t.val < 8 := lt_of_lt_of_eq t.isLt N_0
      rw [outsAt0_A m c t h (by omega) (by omega)]; frame_out; exact part_at _ _ j)
    (fun t h j => by
      by_cases h7 : t.val % 8 = 7
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold full
  refine Fin.sum_mul_add_congr fun s k hl => ?_
  refine congrArg₂ (· * ·) ?_ ?_
  · blk_ext [iblk, V, idx ⟨_, Pipeline.run_point_lt_of_flush t ht s⟩, idx t]
  · blk_ext [iblk, idx ⟨_, Pipeline.run_point_lt_of_flush t ht s⟩, idx t]

/-- The region's result array. -/
theorem final (c : Dev nD) : (dats m 0 c).arrAt 2 cfg0.N = full m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- The result after the host's last lines. -/
theorem tail_eq (c : Dev nD) : Pipeline.afterTail₀ cfgs (dats m) 0 (V0 m) [hostOps1] c main_v15 = out m c := by
  funext j
  rw [eq_ix2 j]
  refine (tail_at m c (full m c) ((left_arr m c).trans (final m c)) (j 0) (j 1)).trans ?_
  unfold out
  unfold full
  pointwise [prod]
  refine Fin.sum_fin_congr fun k => congrArg (_ * ·) (host_at m c _ _)

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v15) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).2 main_v15 (by decide)).trans (tail_eq m c), h.1 c⟩) (θ_run_and (unchanged m g) (run_main m g))

/-- The value claim. -/
theorem algebraic : Cert.algebraic_InDwKernelIdeal_InDwReferenceIdeal := by
  intro m g m' g' hpre hagree
  refine ⟨out m, kernel_run m g, ?_⟩
  refine (θ_run Cert.InDwReferenceIdeal.defs _ _).mono (fun r h c => ?_) (Cert.InDwReferenceIdeal.Value.run m' g')
  obtain ⟨g0, g1⟩ := hagree c
  refine ⟨(h c).1.trans ?_, (h c).2⟩
  rw [g0, g1]
  rfl

end

section
open Cert.InDwReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.InDwReferenceIdeal.Value.run m g)

end

end Cert.InDw
end
-- ==== Proof.InDx.lean ====
/-
  The gradient of the mixer's input: the kernel contracts the placed columns of the gradient with those of the projection
  and adds the scaled gradient of the residual; the reference multiplies by the transposed projection.
-/
module

public import proofs.«01_k».proof.Defs
public import proofs.«01_k».proof.Proof.Gen.InDxKernelIdeal.Frame
public import proofs.«01_k».proof.Proof.Gen.InDxReferenceIdeal.Run
public import proofs.«01_k».proof.Proof.Cols
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.InDx

open Idealize.ShloMosaic Idealize.ShloMosaic.TcCoe Idealize.SL.Sem
open Idealize.ShloMosaic.Pointwise

section
open Cert.InDxKernelIdeal Cert.InDxKernelIdeal.Gen

open Cert.Cols

variable (m : (ℓ : Loc nD τ sig) → Buf (Elt Ideal) ℓ)

/-- The reference's product. -/
abbrev prod (D : FVec Ideal S8192x1184 .f32) (W : FVec Ideal S1024x1184 .f32) : FVec Ideal S8192x1024 .f32 :=
  Host.dotGeneral InDxReferenceIdeal.dot_S8192x1184_S1184x1024_S8192x1024_1_0_0_1_n_n none D
    (transpose InDxReferenceIdeal.S1184x1024 [1, 0] W InDxReferenceIdeal.Gen.transposes_S1024x1184_S1184x1024_1_0)

/-- The reference's sum over the three arguments. -/
abbrev total (D : FVec Ideal S8192x1184 .f32) (W : FVec Ideal S1024x1184 .f32) (Z : FVec Ideal S8192x1024 .f32) : FVec Ideal S8192x1024 .f32 :=
  addf (mulf (broadcastInDim InDxReferenceIdeal.S8192x1024 ![] InDxReferenceIdeal.Gen.bcast_S_S8192x1024 (constant InDxReferenceIdeal.S_ .f32 0x3FD744FD#32)) Z)
    (prod D W)

/-- The kernel's result, a function of its arguments. -/
def out (c : Dev nD) : FVec Ideal S8192x1024 .f32 :=
  total (m ((c.tc : Thread nD τ).loc main_arg0)) (m ((c.tc : Thread nD τ).loc main_arg1)) (m ((c.tc : Thread nD τ).loc main_arg2))

/-- The arguments and the prepared array, by their shapes. -/
abbrev a0 (c : Dev nD) : Vec Ideal S8192x1184 .f32 := m ((c.tc : Thread nD τ).loc main_arg0)
abbrev a1 (c : Dev nD) : Vec Ideal S1024x1184 .f32 := m ((c.tc : Thread nD τ).loc main_arg1)
abbrev a2 (c : Dev nD) : Vec Ideal S8192x1024 .f32 := m ((c.tc : Thread nD τ).loc main_arg2)
abbrev w7 (c : Dev nD) : Vec Ideal S8192x1408 .bf16 := V m c main_v7
abbrev w15 (c : Dev nD) : Vec Ideal S1024x1408 .bf16 := V m c main_v15

/-- Where the windows' blocks lie. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- A placed column of the gradient that the host code prepares, -/
theorem host0_at (c : Dev nD) (k : Fin 8192) (n : Fin 1184) :
    ((V m c main_v7 : Vec Ideal S8192x1408 .bf16) (ix2 k (col n)) : EReal) = m ((c.tc : Thread nD τ).loc main_arg0) (ix2 k n) := by
  unfold V
  simp only [hostOps0]
  after_results_simp
  have hv := col_val n
  pointwise
  split_ifs <;> try omega
  all_goals after_results_simp
  all_goals pointwise
  all_goals congr 3
  all_goals omega

/-- and its padding. -/
theorem pad0_at (c : Dev nD) (k : Fin 8192) (n : Fin 1408) (h : 1168 ≤ n.val ∧ n.val < 1280 ∨ 1296 ≤ n.val) :
    ((V m c main_v7 : Vec Ideal S8192x1408 .bf16) (ix2 k n) : EReal) = (0 : EReal) := by
  unfold V
  simp only [hostOps0]
  after_results_simp
  pointwise
  split_ifs <;> try omega
  all_goals after_results_simp
  all_goals pointwise

/-- A placed column of the projection that the host code prepares, -/
theorem host1_at (c : Dev nD) (k : Fin 1024) (n : Fin 1184) :
    ((V m c main_v15 : Vec Ideal S1024x1408 .bf16) (ix2 k (col n)) : EReal) = m ((c.tc : Thread nD τ).loc main_arg1) (ix2 k n) := by
  unfold V
  simp only [hostOps0]
  after_results_simp
  have hv := col_val n
  pointwise
  split_ifs <;> try omega
  all_goals after_results_simp
  all_goals pointwise
  all_goals congr 3
  all_goals omega

/-- and its padding. -/
theorem pad1_at (c : Dev nD) (k : Fin 1024) (n : Fin 1408) (h : 1168 ≤ n.val ∧ n.val < 1280 ∨ 1296 ≤ n.val) :
    ((V m c main_v15 : Vec Ideal S1024x1408 .bf16) (ix2 k n) : EReal) = (0 : EReal) := by
  unfold V
  simp only [hostOps0]
  after_results_simp
  pointwise
  split_ifs <;> try omega
  all_goals after_results_simp
  all_goals pointwise

/-- The scale of the residual's gradient: the number its float word stands for. -/
def AL : EReal := Ideal.ofBits FTy.f32 0x3FD744FD#32

/-- What the kernel computes on its blocks, at an index. -/
theorem pay_at (x : Vec Ideal S1024x1408 .bf16) (z : Vec Ideal S512x1408 .bf16) (a : Vec Ideal S1024x512 .f32) (j : S1024x512.Idx) :
    (k0_pay1 x z a j : EReal) = (0 + ∑ k : Fin 1408, (x (ix2 (j 0) k) : EReal) * (z (ix2 (j 1) k) : EReal)) + AL * (a j : EReal) := by
  pointwise [k0_pay1]
  rfl

/-- The reference's sum at an index. -/
theorem total_at (D : FVec Ideal S8192x1184 .f32) (W : FVec Ideal S1024x1184 .f32) (Z : FVec Ideal S8192x1024 .f32) (i : S8192x1024.Idx) :
    (total D W Z i : EReal) = AL * (Z i : EReal) + ∑ n : Fin 1184, (D (ix2 (i 0) n) : EReal) * (W (ix2 (i 1) n) : EReal) := by
  refine (show (total D W Z i : EReal) = AL * (Z i : EReal) + (prod D W i : EReal) from rfl).trans (congrArg (AL * (Z i : EReal) + ·) ?_)
  pointwise [prod]

/-- The contraction over the placed columns is the reference's. -/
theorem sum_at (c : Dev nD) (i : Fin 8192) (n : Fin 1024) :
    (∑ k : Fin 1408, (w7 m c (ix2 i k) : EReal) * (w15 m c (ix2 n k) : EReal) : EReal)
      = ∑ k : Fin 1184, (a0 m c (ix2 i k) : EReal) * (a1 m c (ix2 n k) : EReal) := by
  refine sum_col _ _ (fun k => ?_) (fun k => ?_) (fun k => ?_)
  · exact congrArg₂ (α := EReal) (β := EReal) (· * ·) (host0_at m c i k) (host1_at m c n k)
  · exact (congrArg (α := EReal) (· * _) (pad0_at m c i _ (.inl ⟨Nat.le_add_right _ _, by show 1168 + k.val < 1280; omega⟩))).trans (zero_mul (M₀ := EReal) _)
  · exact (congrArg (α := EReal) (· * _) (pad0_at m c i _ (.inr (Nat.le_add_right _ _)))).trans (zero_mul (M₀ := EReal) _)

/-- The result array after the run. -/
theorem final (c : Dev nD) : (dats m 0 c).arrAt 3 cfg0.N = out m c := by
  refine (dats m 0 c).arrAt_eq_of_covers 3 _ (by decide +kernel) fun t hf y => ?_
  have hN : t.val < 16 := lt_of_lt_of_eq t.isLt N_0
  blk_simp
  rw [after0_3]
  unfold outsAt0 out
  frame_out
  refine (pay_at _ _ _ y).trans (Eq.trans ?_ (total_at _ _ _ _).symm)
  rw [zero_add, add_comm (G := EReal)]
  refine congrArg₂ (α := EReal) (β := EReal) (· + ·) (congrArg (α := EReal) (AL * ·) ?_) (Eq.trans ?_ (sum_at m c _ _))
  · blk_ext [iblk, V_main_arg2, idx t]
  refine Fin.sum_fin_congr fun k => congrArg₂ (α := EReal) (β := EReal) (· * ·) ?_ ?_
  · blk_ext [iblk, idx t]
  · blk_ext [iblk, idx t]

/-- A run of the kernel leaves the sum in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v16) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 3).trans (final m c), h.1 c⟩) (θ_run_and (unchanged m g) (run_main m g))

/-- The value claim. -/
theorem algebraic : Cert.algebraic_InDxKernelIdeal_InDxReferenceIdeal := by
  intro m g m' g' hpre hagree
  refine ⟨out m, kernel_run m g, ?_⟩
  refine (θ_run Cert.InDxReferenceIdeal.defs _ _).mono (fun r h c => ?_) (Cert.InDxReferenceIdeal.Value.run m' g')
  obtain ⟨g0, g1, g2⟩ := hagree c
  refine ⟨(h c).1.trans ?_, (h c).2⟩
  rw [g0, g1, g2]
  rfl

end

section
open Cert.InDxReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2, sem_eq_zero_of_no_sems rfl _⟩) (Cert.InDxReferenceIdeal.Value.run m g)

end

end Cert.InDx
end
-- ==== Proof.AdamStep.lean ====
/-
  The optimiser's step as the reference writes it, for weights of any shape.
-/
module

public import Idealize.ShloMosaic.Lib.Pipeline.ValueKit

@[expose] public section

noncomputable section

namespace Cert.AdamStep

open Idealize.ShloMosaic

/-- The shape of one number. -/
abbrev S0 : Shape := ⟨0, ![]⟩

variable {s : Shape} (h : S0.BroadcastsInDim s (![] : Fin 0 → Fin s.rank))

/-- A number of the float word `w`, everywhere. -/
abbrev lit (w : BitVec 32) : FVec Ideal s .f32 := broadcastInDim s ![] h (constant S0 .f32 w)

/-- The first moment after the step. -/
abbrev first (G M : FVec Ideal s .f32) : FVec Ideal s .f32 := addf (mulf (lit h 0x3F666666#32) M) (mulf (lit h 0x3DCCCCCD#32) G)

/-- The second moment after the step. -/
abbrev second (G V : FVec Ideal s .f32) : FVec Ideal s .f32 :=
  addf (mulf (lit h 0x3F7FBE77#32) V) (mulf (lit h 0x3A83126F#32) (mulf G G))

/-- The step itself. -/
abbrev step (W G M V : FVec Ideal s .f32) : FVec Ideal s .f32 :=
  mulf (lit h 0xBA83126F#32) (addf (Host.divf (Host.divf (first h G M) (lit h 0x3F26BD02#32))
    (addf (Host.sqrt (Host.divf (second h G V) (lit h 0x3C231ACC#32))) (lit h 0x322BCC77#32))) (mulf (lit h 0x3C23D70A#32) W))

end Cert.AdamStep
end
-- ==== Proof.AdamUp.lean ====
/-
  The optimiser's step for a feed-forward layer's gate or up projection: the version's call works on the layers one under the other, element by
  element, and its three results are the reference's.
-/
module

public import proofs.«01_k».proof.Defs
public import proofs.«01_k».proof.Proof.Gen.AdamUpKernelIdeal.Frame
public import proofs.«01_k».proof.Proof.Gen.AdamUpReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamUp

open Idealize.ShloMosaic Idealize.ShloMosaic.TcCoe Idealize.SL.Sem
open Idealize.ShloMosaic.Pointwise Cert.AdamStep

section
open Cert.AdamUpKernelIdeal Cert.AdamUpKernelIdeal.Gen

variable (m : (ℓ : Loc nD τ sig) → Buf (Elt Ideal) ℓ)

/-- A number's place in the reference's array. -/
abbrev hb := AdamUpReferenceIdeal.Gen.bcast_S_S4x1024x352

/-- The weight, its gradient and its two moments, by their shape. -/
abbrev w (c : Dev nD) : FVec Ideal S4x1024x352 .f32 := m ((c.tc : Thread nD τ).loc main_arg0)
abbrev g (c : Dev nD) : FVec Ideal S4x1024x352 .f32 := m ((c.tc : Thread nD τ).loc main_arg1)
abbrev mo (c : Dev nD) : FVec Ideal S4x1024x352 .f32 := m ((c.tc : Thread nD τ).loc main_arg2)
abbrev vo (c : Dev nD) : FVec Ideal S4x1024x352 .f32 := m ((c.tc : Thread nD τ).loc main_arg3)

/-- The kernel's three results, functions of its arguments. -/
def out0 (c : Dev nD) : FVec Ideal S4x1024x352 .f32 := step hb (w m c) (g m c) (mo m c) (vo m c)
def out1 (c : Dev nD) : FVec Ideal S4x1024x352 .f32 := first hb (g m c) (mo m c)
def out2 (c : Dev nD) : FVec Ideal S4x1024x352 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S256x352 .f32) (G M : FVec Ideal S4x1024x352 .f32) (y : S256x352.Idx) (j : S4x1024x352.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S256x352 .f32) (G V : FVec Ideal S4x1024x352 .f32) (y : S256x352.Idx) (j : S4x1024x352.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S256x352 .f32) (W G M V : FVec Ideal S4x1024x352 .f32) (y : S256x352.Idx) (j : S4x1024x352.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x1024x352 .f32) : FVec Ideal S4096x352 .f32 := shapeCast S4096x352 X shapeCasts_S4x1024x352_S4096x352

/-- What the host code prepares of the arguments. -/
theorem host (c : Dev nD) : (V m c main_v0 : Vec Ideal S4096x352 .f32) = flat (w m c) ∧ (V m c main_v1 : Vec Ideal S4096x352 .f32) = flat (g m c)
    ∧ (V m c main_v2 : Vec Ideal S4096x352 .f32) = flat (mo m c) ∧ (V m c main_v3 : Vec Ideal S4096x352 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 16 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 16 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 16 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S4096x352 .f32) = flat (out0 m c) := (h 4).trans (final0 m c)
  have h1 : (left m c (Proc.devRef .tc main_v4_1) : Vec Ideal S4096x352 .f32) = flat (out1 m c) := (h 5).trans (final1 m c)
  have h2 : (left m c (Proc.devRef .tc main_v4_2) : Vec Ideal S4096x352 .f32) = flat (out2 m c) := (h 6).trans (final2 m c)
  have back (X : Vec Ideal S4096x352 .f32) (Y : Vec Ideal S4x1024x352 .f32) (h : X = flat Y) : shapeCast S4x1024x352 X shapeCasts_S4096x352_S4x1024x352 = Y :=
    (congrArg (fun X : Vec Ideal S4096x352 .f32 => shapeCast S4x1024x352 X shapeCasts_S4096x352_S4x1024x352) h).trans (shapeCast_shapeCast _ _ _)
  clear h
  show (StableHlo.after [hostOps1].flatten (left m c) (Proc.devRef .tc main_v5) : Vec Ideal S4x1024x352 .f32) = _
    ∧ (StableHlo.after [hostOps1].flatten (left m c) (Proc.devRef .tc main_v6) : Vec Ideal S4x1024x352 .f32) = _
    ∧ (StableHlo.after [hostOps1].flatten (left m c) (Proc.devRef .tc main_v7) : Vec Ideal S4x1024x352 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamUpKernelIdeal_AdamUpReferenceIdeal := by
  intro m ρ m' ρ' hpre hagree
  refine ⟨out0 m, out1 m, out2 m, kernel_run m ρ, ?_⟩
  refine (θ_run Cert.AdamUpReferenceIdeal.defs _ _).mono (fun r h c => ?_) (Cert.AdamUpReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamUpReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamUpReferenceIdeal.Value.run m g)

end

end Cert.AdamUp
end
-- ==== Proof.AdamDown.lean ====
/-
  The optimiser's step for a feed-forward layer's down projection: the version's call works on the layers one under the other, element by
  element, and its three results are the reference's.
-/
module

public import proofs.«01_k».proof.Defs
public import proofs.«01_k».proof.Proof.Gen.AdamDownKernelIdeal.Frame
public import proofs.«01_k».proof.Proof.Gen.AdamDownReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamDown

open Idealize.ShloMosaic Idealize.ShloMosaic.TcCoe Idealize.SL.Sem
open Idealize.ShloMosaic.Pointwise Cert.AdamStep

section
open Cert.AdamDownKernelIdeal Cert.AdamDownKernelIdeal.Gen

variable (m : (ℓ : Loc nD τ sig) → Buf (Elt Ideal) ℓ)

/-- A number's place in the reference's array. -/
abbrev hb := AdamDownReferenceIdeal.Gen.bcast_S_S4x352x1024

/-- The weight, its gradient and its two moments, by their shape. -/
abbrev w (c : Dev nD) : FVec Ideal S4x352x1024 .f32 := m ((c.tc : Thread nD τ).loc main_arg0)
abbrev g (c : Dev nD) : FVec Ideal S4x352x1024 .f32 := m ((c.tc : Thread nD τ).loc main_arg1)
abbrev mo (c : Dev nD) : FVec Ideal S4x352x1024 .f32 := m ((c.tc : Thread nD τ).loc main_arg2)
abbrev vo (c : Dev nD) : FVec Ideal S4x352x1024 .f32 := m ((c.tc : Thread nD τ).loc main_arg3)

/-- The kernel's three results, functions of its arguments. -/
def out0 (c : Dev nD) : FVec Ideal S4x352x1024 .f32 := step hb (w m c) (g m c) (mo m c) (vo m c)
def out1 (c : Dev nD) : FVec Ideal S4x352x1024 .f32 := first hb (g m c) (mo m c)
def out2 (c : Dev nD) : FVec Ideal S4x352x1024 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S128x1024 .f32) (G M : FVec Ideal S4x352x1024 .f32) (y : S128x1024.Idx) (j : S4x352x1024.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S128x1024 .f32) (G V : FVec Ideal S4x352x1024 .f32) (y : S128x1024.Idx) (j : S4x352x1024.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S128x1024 .f32) (W G M V : FVec Ideal S4x352x1024 .f32) (y : S128x1024.Idx) (j : S4x352x1024.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x352x1024 .f32) : FVec Ideal S1408x1024 .f32 := shapeCast S1408x1024 X shapeCasts_S4x352x1024_S1408x1024

/-- What the host code prepares of the arguments. -/
theorem host (c : Dev nD) : (V m c main_v0 : Vec Ideal S1408x1024 .f32) = flat (w m c) ∧ (V m c main_v1 : Vec Ideal S1408x1024 .f32) = flat (g m c)
    ∧ (V m c main_v2 : Vec Ideal S1408x1024 .f32) = flat (mo m c) ∧ (V m c main_v3 : Vec Ideal S1408x1024 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 11 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 11 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 11 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S1408x1024 .f32) = flat (out0 m c) := (h 4).trans (final0 m c)
  have h1 : (left m c (Proc.devRef .tc main_v4_1) : Vec Ideal S1408x1024 .f32) = flat (out1 m c) := (h 5).trans (final1 m c)
  have h2 : (left m c (Proc.devRef .tc main_v4_2) : Vec Ideal S1408x1024 .f32) = flat (out2 m c) := (h 6).trans (final2 m c)
  have back (X : Vec Ideal S1408x1024 .f32) (Y : Vec Ideal S4x352x1024 .f32) (h : X = flat Y) : shapeCast S4x352x1024 X shapeCasts_S1408x1024_S4x352x1024 = Y :=
    (congrArg (fun X : Vec Ideal S1408x1024 .f32 => shapeCast S4x352x1024 X shapeCasts_S1408x1024_S4x352x1024) h).trans (shapeCast_shapeCast _ _ _)
  clear h
  show (StableHlo.after [hostOps1].flatten (left m c) (Proc.devRef .tc main_v5) : Vec Ideal S4x352x1024 .f32) = _
    ∧ (StableHlo.after [hostOps1].flatten (left m c) (Proc.devRef .tc main_v6) : Vec Ideal S4x352x1024 .f32) = _
    ∧ (StableHlo.after [hostOps1].flatten (left m c) (Proc.devRef .tc main_v7) : Vec Ideal S4x352x1024 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamDownKernelIdeal_AdamDownReferenceIdeal := by
  intro m ρ m' ρ' hpre hagree
  refine ⟨out0 m, out1 m, out2 m, kernel_run m ρ, ?_⟩
  refine (θ_run Cert.AdamDownReferenceIdeal.defs _ _).mono (fun r h c => ?_) (Cert.AdamDownReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamDownReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamDownReferenceIdeal.Value.run m g)

end

end Cert.AdamDown
end
-- ==== Proof.AdamIn.lean ====
/-
  The optimiser's step for the mixer's combined projection: the version's call works on the layers one under the other, element by
  element, and its three results are the reference's.
-/
module

public import proofs.«01_k».proof.Defs
public import proofs.«01_k».proof.Proof.Gen.AdamInKernelIdeal.Frame
public import proofs.«01_k».proof.Proof.Gen.AdamInReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamIn

open Idealize.ShloMosaic Idealize.ShloMosaic.TcCoe Idealize.SL.Sem
open Idealize.ShloMosaic.Pointwise Cert.AdamStep

section
open Cert.AdamInKernelIdeal Cert.AdamInKernelIdeal.Gen

variable (m : (ℓ : Loc nD τ sig) → Buf (Elt Ideal) ℓ)

/-- A number's place in the reference's array. -/
abbrev hb := AdamInReferenceIdeal.Gen.bcast_S_S4x1024x148

/-- The weight, its gradient and its two moments, by their shape. -/
abbrev w (c : Dev nD) : FVec Ideal S4x1024x148 .f32 := m ((c.tc : Thread nD τ).loc main_arg0)
abbrev g (c : Dev nD) : FVec Ideal S4x1024x148 .f32 := m ((c.tc : Thread nD τ).loc main_arg1)
abbrev mo (c : Dev nD) : FVec Ideal S4x1024x148 .f32 := m ((c.tc : Thread nD τ).loc main_arg2)
abbrev vo (c : Dev nD) : FVec Ideal S4x1024x148 .f32 := m ((c.tc : Thread nD τ).loc main_arg3)

/-- The kernel's three results, functions of its arguments. -/
def out0 (c : Dev nD) : FVec Ideal S4x1024x148 .f32 := step hb (w m c) (g m c) (mo m c) (vo m c)
def out1 (c : Dev nD) : FVec Ideal S4x1024x148 .f32 := first hb (g m c) (mo m c)
def out2 (c : Dev nD) : FVec Ideal S4x1024x148 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S256x148 .f32) (G M : FVec Ideal S4x1024x148 .f32) (y : S256x148.Idx) (j : S4x1024x148.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S256x148 .f32) (G V : FVec Ideal S4x1024x148 .f32) (y : S256x148.Idx) (j : S4x1024x148.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S256x148 .f32) (W G M V : FVec Ideal S4x1024x148 .f32) (y : S256x148.Idx) (j : S4x1024x148.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x1024x148 .f32) : FVec Ideal S4096x148 .f32 := shapeCast S4096x148 X shapeCasts_S4x1024x148_S4096x148

/-- What the host code prepares of the arguments. -/
theorem host (c : Dev nD) : (V m c main_v0 : Vec Ideal S4096x148 .f32) = flat (w m c) ∧ (V m c main_v1 : Vec Ideal S4096x148 .f32) = flat (g m c)
    ∧ (V m c main_v2 : Vec Ideal S4096x148 .f32) = flat (mo m c) ∧ (V m c main_v3 : Vec Ideal S4096x148 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 16 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 16 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 16 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S4096x148 .f32) = flat (out0 m c) := (h 4).trans (final0 m c)
  have h1 : (left m c (Proc.devRef .tc main_v4_1) : Vec Ideal S4096x148 .f32) = flat (out1 m c) := (h 5).trans (final1 m c)
  have h2 : (left m c (Proc.devRef .tc main_v4_2) : Vec Ideal S4096x148 .f32) = flat (out2 m c) := (h 6).trans (final2 m c)
  have back (X : Vec Ideal S4096x148 .f32) (Y : Vec Ideal S4x1024x148 .f32) (h : X = flat Y) : shapeCast S4x1024x148 X shapeCasts_S4096x148_S4x1024x148 = Y :=
    (congrArg (fun X : Vec Ideal S4096x148 .f32 => shapeCast S4x1024x148 X shapeCasts_S4096x148_S4x1024x148) h).trans (shapeCast_shapeCast _ _ _)
  clear h
  show (StableHlo.after [hostOps1].flatten (left m c) (Proc.devRef .tc main_v5) : Vec Ideal S4x1024x148 .f32) = _
    ∧ (StableHlo.after [hostOps1].flatten (left m c) (Proc.devRef .tc main_v6) : Vec Ideal S4x1024x148 .f32) = _
    ∧ (StableHlo.after [hostOps1].flatten (left m c) (Proc.devRef .tc main_v7) : Vec Ideal S4x1024x148 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamInKernelIdeal_AdamInReferenceIdeal := by
  intro m ρ m' ρ' hpre hagree
  refine ⟨out0 m, out1 m, out2 m, kernel_run m ρ, ?_⟩
  refine (θ_run Cert.AdamInReferenceIdeal.defs _ _).mono (fun r h c => ?_) (Cert.AdamInReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamInReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamInReferenceIdeal.Value.run m g)

end

end Cert.AdamIn
end
-- ==== Proof.AdamUq.lean ====
/-
  The optimiser's step for the queries' projection: the version's call works on the layers one under the other, element by
  element, and its three results are the reference's.
-/
module

public import proofs.«01_k».proof.Defs
public import proofs.«01_k».proof.Proof.Gen.AdamUqKernelIdeal.Frame
public import proofs.«01_k».proof.Proof.Gen.AdamUqReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamUq

open Idealize.ShloMosaic Idealize.ShloMosaic.TcCoe Idealize.SL.Sem
open Idealize.ShloMosaic.Pointwise Cert.AdamStep

section
open Cert.AdamUqKernelIdeal Cert.AdamUqKernelIdeal.Gen

variable (m : (ℓ : Loc nD τ sig) → Buf (Elt Ideal) ℓ)

/-- A number's place in the reference's array. -/
abbrev hb := AdamUqReferenceIdeal.Gen.bcast_S_S4x256x96

/-- The weight, its gradient and its two moments, by their shape. -/
abbrev w (c : Dev nD) : FVec Ideal S4x256x96 .f32 := m ((c.tc : Thread nD τ).loc main_arg0)
abbrev g (c : Dev nD) : FVec Ideal S4x256x96 .f32 := m ((c.tc : Thread nD τ).loc main_arg1)
abbrev mo (c : Dev nD) : FVec Ideal S4x256x96 .f32 := m ((c.tc : Thread nD τ).loc main_arg2)
abbrev vo (c : Dev nD) : FVec Ideal S4x256x96 .f32 := m ((c.tc : Thread nD τ).loc main_arg3)

/-- The kernel's three results, functions of its arguments. -/
def out0 (c : Dev nD) : FVec Ideal S4x256x96 .f32 := step hb (w m c) (g m c) (mo m c) (vo m c)
def out1 (c : Dev nD) : FVec Ideal S4x256x96 .f32 := first hb (g m c) (mo m c)
def out2 (c : Dev nD) : FVec Ideal S4x256x96 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S256x96 .f32) (G M : FVec Ideal S4x256x96 .f32) (y : S256x96.Idx) (j : S4x256x96.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S256x96 .f32) (G V : FVec Ideal S4x256x96 .f32) (y : S256x96.Idx) (j : S4x256x96.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S256x96 .f32) (W G M V : FVec Ideal S4x256x96 .f32) (y : S256x96.Idx) (j : S4x256x96.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x256x96 .f32) : FVec Ideal S1024x96 .f32 := shapeCast S1024x96 X shapeCasts_S4x256x96_S1024x96

/-- What the host code prepares of the arguments. -/
theorem host (c : Dev nD) : (V m c main_v0 : Vec Ideal S1024x96 .f32) = flat (w m c) ∧ (V m c main_v1 : Vec Ideal S1024x96 .f32) = flat (g m c)
    ∧ (V m c main_v2 : Vec Ideal S1024x96 .f32) = flat (mo m c) ∧ (V m c main_v3 : Vec Ideal S1024x96 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 4 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 4 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 4 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S1024x96 .f32) = flat (out0 m c) := (h 4).trans (final0 m c)
  have h1 : (left m c (Proc.devRef .tc main_v4_1) : Vec Ideal S1024x96 .f32) = flat (out1 m c) := (h 5).trans (final1 m c)
  have h2 : (left m c (Proc.devRef .tc main_v4_2) : Vec Ideal S1024x96 .f32) = flat (out2 m c) := (h 6).trans (final2 m c)
  have back (X : Vec Ideal S1024x96 .f32) (Y : Vec Ideal S4x256x96 .f32) (h : X = flat Y) : shapeCast S4x256x96 X shapeCasts_S1024x96_S4x256x96 = Y :=
    (congrArg (fun X : Vec Ideal S1024x96 .f32 => shapeCast S4x256x96 X shapeCasts_S1024x96_S4x256x96) h).trans (shapeCast_shapeCast _ _ _)
  clear h
  show (StableHlo.after [hostOps1].flatten (left m c) (Proc.devRef .tc main_v5) : Vec Ideal S4x256x96 .f32) = _
    ∧ (StableHlo.after [hostOps1].flatten (left m c) (Proc.devRef .tc main_v6) : Vec Ideal S4x256x96 .f32) = _
    ∧ (StableHlo.after [hostOps1].flatten (left m c) (Proc.devRef .tc main_v7) : Vec Ideal S4x256x96 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamUqKernelIdeal_AdamUqReferenceIdeal := by
  intro m ρ m' ρ' hpre hagree
  refine ⟨out0 m, out1 m, out2 m, kernel_run m ρ, ?_⟩
  refine (θ_run Cert.AdamUqReferenceIdeal.defs _ _).mono (fun r h c => ?_) (Cert.AdamUqReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamUqReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamUqReferenceIdeal.Value.run m g)

end

end Cert.AdamUq
end
-- ==== Proof.AdamUkv.lean ====
/-
  The optimiser's step for the keys' and values' projection: the version's call works on the layers one under the other, element by
  element, and its three results are the reference's.
-/
module

public import proofs.«01_k».proof.Defs
public import proofs.«01_k».proof.Proof.Gen.AdamUkvKernelIdeal.Frame
public import proofs.«01_k».proof.Proof.Gen.AdamUkvReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamUkv

open Idealize.ShloMosaic Idealize.ShloMosaic.TcCoe Idealize.SL.Sem
open Idealize.ShloMosaic.Pointwise Cert.AdamStep

section
open Cert.AdamUkvKernelIdeal Cert.AdamUkvKernelIdeal.Gen

variable (m : (ℓ : Loc nD τ sig) → Buf (Elt Ideal) ℓ)

/-- A number's place in the reference's array. -/
abbrev hb := AdamUkvReferenceIdeal.Gen.bcast_S_S4x128x128

/-- The weight, its gradient and its two moments, by their shape. -/
abbrev w (c : Dev nD) : FVec Ideal S4x128x128 .f32 := m ((c.tc : Thread nD τ).loc main_arg0)
abbrev g (c : Dev nD) : FVec Ideal S4x128x128 .f32 := m ((c.tc : Thread nD τ).loc main_arg1)
abbrev mo (c : Dev nD) : FVec Ideal S4x128x128 .f32 := m ((c.tc : Thread nD τ).loc main_arg2)
abbrev vo (c : Dev nD) : FVec Ideal S4x128x128 .f32 := m ((c.tc : Thread nD τ).loc main_arg3)

/-- The kernel's three results, functions of its arguments. -/
def out0 (c : Dev nD) : FVec Ideal S4x128x128 .f32 := step hb (w m c) (g m c) (mo m c) (vo m c)
def out1 (c : Dev nD) : FVec Ideal S4x128x128 .f32 := first hb (g m c) (mo m c)
def out2 (c : Dev nD) : FVec Ideal S4x128x128 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S256x128 .f32) (G M : FVec Ideal S4x128x128 .f32) (y : S256x128.Idx) (j : S4x128x128.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S256x128 .f32) (G V : FVec Ideal S4x128x128 .f32) (y : S256x128.Idx) (j : S4x128x128.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S256x128 .f32) (W G M V : FVec Ideal S4x128x128 .f32) (y : S256x128.Idx) (j : S4x128x128.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x128x128 .f32) : FVec Ideal S512x128 .f32 := shapeCast S512x128 X shapeCasts_S4x128x128_S512x128

/-- What the host code prepares of the arguments. -/
theorem host (c : Dev nD) : (V m c main_v0 : Vec Ideal S512x128 .f32) = flat (w m c) ∧ (V m c main_v1 : Vec Ideal S512x128 .f32) = flat (g m c)
    ∧ (V m c main_v2 : Vec Ideal S512x128 .f32) = flat (mo m c) ∧ (V m c main_v3 : Vec Ideal S512x128 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 2 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 2 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 2 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S512x128 .f32) = flat (out0 m c) := (h 4).trans (final0 m c)
  have h1 : (left m c (Proc.devRef .tc main_v4_1) : Vec Ideal S512x128 .f32) = flat (out1 m c) := (h 5).trans (final1 m c)
  have h2 : (left m c (Proc.devRef .tc main_v4_2) : Vec Ideal S512x128 .f32) = flat (out2 m c) := (h 6).trans (final2 m c)
  have back (X : Vec Ideal S512x128 .f32) (Y : Vec Ideal S4x128x128 .f32) (h : X = flat Y) : shapeCast S4x128x128 X shapeCasts_S512x128_S4x128x128 = Y :=
    (congrArg (fun X : Vec Ideal S512x128 .f32 => shapeCast S4x128x128 X shapeCasts_S512x128_S4x128x128) h).trans (shapeCast_shapeCast _ _ _)
  clear h
  show (StableHlo.after [hostOps1].flatten (left m c) (Proc.devRef .tc main_v5) : Vec Ideal S4x128x128 .f32) = _
    ∧ (StableHlo.after [hostOps1].flatten (left m c) (Proc.devRef .tc main_v6) : Vec Ideal S4x128x128 .f32) = _
    ∧ (StableHlo.after [hostOps1].flatten (left m c) (Proc.devRef .tc main_v7) : Vec Ideal S4x128x128 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamUkvKernelIdeal_AdamUkvReferenceIdeal := by
  intro m ρ m' ρ' hpre hagree
  refine ⟨out0 m, out1 m, out2 m, kernel_run m ρ, ?_⟩
  refine (θ_run Cert.AdamUkvReferenceIdeal.defs _ _).mono (fun r h c => ?_) (Cert.AdamUkvReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamUkvReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamUkvReferenceIdeal.Value.run m g)

end

end Cert.AdamUkv
end
-- ==== Proof.AdamGlu.lean ====
/-
  The optimiser's step for the state-space branch's gate: the version's call works on the layers one under the other, element by
  element, and its three results are the reference's.
-/
module

public import proofs.«01_k».proof.Defs
public import proofs.«01_k».proof.Proof.Gen.AdamGluKernelIdeal.Frame
public import proofs.«01_k».proof.Proof.Gen.AdamGluReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamGlu

open Idealize.ShloMosaic Idealize.ShloMosaic.TcCoe Idealize.SL.Sem
open Idealize.ShloMosaic.Pointwise Cert.AdamStep

section
open Cert.AdamGluKernelIdeal Cert.AdamGluKernelIdeal.Gen

variable (m : (ℓ : Loc nD τ sig) → Buf (Elt Ideal) ℓ)

/-- A number's place in the reference's array. -/
abbrev hb := AdamGluReferenceIdeal.Gen.bcast_S_S4x32x256

/-- The weight, its gradient and its two moments, by their shape. -/
abbrev w (c : Dev nD) : FVec Ideal S4x32x256 .f32 := m ((c.tc : Thread nD τ).loc main_arg0)
abbrev g (c : Dev nD) : FVec Ideal S4x32x256 .f32 := m ((c.tc : Thread nD τ).loc main_arg1)
abbrev mo (c : Dev nD) : FVec Ideal S4x32x256 .f32 := m ((c.tc : Thread nD τ).loc main_arg2)
abbrev vo (c : Dev nD) : FVec Ideal S4x32x256 .f32 := m ((c.tc : Thread nD τ).loc main_arg3)

/-- The kernel's three results, functions of its arguments. -/
def out0 (c : Dev nD) : FVec Ideal S4x32x256 .f32 := step hb (w m c) (g m c) (mo m c) (vo m c)
def out1 (c : Dev nD) : FVec Ideal S4x32x256 .f32 := first hb (g m c) (mo m c)
def out2 (c : Dev nD) : FVec Ideal S4x32x256 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S128x256 .f32) (G M : FVec Ideal S4x32x256 .f32) (y : S128x256.Idx) (j : S4x32x256.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S128x256 .f32) (G V : FVec Ideal S4x32x256 .f32) (y : S128x256.Idx) (j : S4x32x256.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S128x256 .f32) (W G M V : FVec Ideal S4x32x256 .f32) (y : S128x256.Idx) (j : S4x32x256.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x32x256 .f32) : FVec Ideal S128x256 .f32 := shapeCast S128x256 X shapeCasts_S4x32x256_S128x256

/-- What the host code prepares of the arguments. -/
theorem host (c : Dev nD) : (V m c main_v0 : Vec Ideal S128x256 .f32) = flat (w m c) ∧ (V m c main_v1 : Vec Ideal S128x256 .f32) = flat (g m c)
    ∧ (V m c main_v2 : Vec Ideal S128x256 .f32) = flat (mo m c) ∧ (V m c main_v3 : Vec Ideal S128x256 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 1 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 1 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 1 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S128x256 .f32) = flat (out0 m c) := (h 4).trans (final0 m c)
  have h1 : (left m c (Proc.devRef .tc main_v4_1) : Vec Ideal S128x256 .f32) = flat (out1 m c) := (h 5).trans (final1 m c)
  have h2 : (left m c (Proc.devRef .tc main_v4_2) : Vec Ideal S128x256 .f32) = flat (out2 m c) := (h 6).trans (final2 m c)
  have back (X : Vec Ideal S128x256 .f32) (Y : Vec Ideal S4x32x256 .f32) (h : X = flat Y) : shapeCast S4x32x256 X shapeCasts_S128x256_S4x32x256 = Y :=
    (congrArg (fun X : Vec Ideal S128x256 .f32 => shapeCast S4x32x256 X shapeCasts_S128x256_S4x32x256) h).trans (shapeCast_shapeCast _ _ _)
  clear h
  show (StableHlo.after [hostOps1].flatten (left m c) (Proc.devRef .tc main_v5) : Vec Ideal S4x32x256 .f32) = _
    ∧ (StableHlo.after [hostOps1].flatten (left m c) (Proc.devRef .tc main_v6) : Vec Ideal S4x32x256 .f32) = _
    ∧ (StableHlo.after [hostOps1].flatten (left m c) (Proc.devRef .tc main_v7) : Vec Ideal S4x32x256 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamGluKernelIdeal_AdamGluReferenceIdeal := by
  intro m ρ m' ρ' hpre hagree
  refine ⟨out0 m, out1 m, out2 m, kernel_run m ρ, ?_⟩
  refine (θ_run Cert.AdamGluReferenceIdeal.defs _ _).mono (fun r h c => ?_) (Cert.AdamGluReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamGluReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamGluReferenceIdeal.Value.run m g)

end

end Cert.AdamGlu
end
-- ==== Proof.AdamOut.lean ====
/-
  The optimiser's step for the mixer's output projection: the version's call works on the layers one under the other, element by
  element, and its three results are the reference's.
-/
module

public import proofs.«01_k».proof.Defs
public import proofs.«01_k».proof.Proof.Gen.AdamOutKernelIdeal.Frame
public import proofs.«01_k».proof.Proof.Gen.AdamOutReferenceIdeal.Run
public import proofs.«01_k».proof.Proof.AdamStep
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamOut

open Idealize.ShloMosaic Idealize.ShloMosaic.TcCoe Idealize.SL.Sem
open Idealize.ShloMosaic.Pointwise Cert.AdamStep

section
open Cert.AdamOutKernelIdeal Cert.AdamOutKernelIdeal.Gen

variable (m : (ℓ : Loc nD τ sig) → Buf (Elt Ideal) ℓ)

/-- A number's place in the reference's array. -/
abbrev hb := AdamOutReferenceIdeal.Gen.bcast_S_S4x128x1024

/-- The weight, its gradient and its two moments, by their shape. -/
abbrev w (c : Dev nD) : FVec Ideal S4x128x1024 .f32 := m ((c.tc : Thread nD τ).loc main_arg0)
abbrev g (c : Dev nD) : FVec Ideal S4x128x1024 .f32 := m ((c.tc : Thread nD τ).loc main_arg1)
abbrev mo (c : Dev nD) : FVec Ideal S4x128x1024 .f32 := m ((c.tc : Thread nD τ).loc main_arg2)
abbrev vo (c : Dev nD) : FVec Ideal S4x128x1024 .f32 := m ((c.tc : Thread nD τ).loc main_arg3)

/-- The kernel's three results, functions of its arguments. -/
def out0 (c : Dev nD) : FVec Ideal S4x128x1024 .f32 := step hb (w m c) (g m c) (mo m c) (vo m c)
def out1 (c : Dev nD) : FVec Ideal S4x128x1024 .f32 := first hb (g m c) (mo m c)
def out2 (c : Dev nD) : FVec Ideal S4x128x1024 .f32 := second hb (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S256x1024 .f32) (G M : FVec Ideal S4x128x1024 .f32) (y : S256x1024.Idx) (j : S4x128x1024.Idx)
    (h1 : (x1 y : EReal) = G j) (h2 : (x2 y : EReal) = M j) : (k0_pay2 (F := Ideal) x1 x2 y : EReal) = first hb G M j := by
  pointwise [k0_pay2, k0_pay1, first, lit]
  simp only [h1, h2]

/-- The new second moment at an entry. -/
theorem second_at (x1 x3 : Vec Ideal S256x1024 .f32) (G V : FVec Ideal S4x128x1024 .f32) (y : S256x1024.Idx) (j : S4x128x1024.Idx)
    (h1 : (x1 y : EReal) = G j) (h3 : (x3 y : EReal) = V j) : (k0_pay3 (F := Ideal) x1 x3 y : EReal) = second hb G V j := by
  pointwise [k0_pay3, k0_pay1, second, lit]
  simp only [h1, h3]

/-- The step at an entry. -/
theorem step_at (x0 x1 x2 x3 : Vec Ideal S256x1024 .f32) (W G M V : FVec Ideal S4x128x1024 .f32) (y : S256x1024.Idx) (j : S4x128x1024.Idx)
    (h0 : (x0 y : EReal) = W j) (h1 : (x1 y : EReal) = G j) (h2 : (x2 y : EReal) = M j) (h3 : (x3 y : EReal) = V j) :
    (k0_pay4 (F := Ideal) x0 x1 x2 x3 y : EReal) = step hb W G M V j := by
  pointwise [k0_pay4, k0_pay3, k0_pay2, k0_pay1, step, first, second, lit]
  simp only [h0, h1, h2, h3]

/-- An array of all layers, the layers one under the other. -/
abbrev flat (X : FVec Ideal S4x128x1024 .f32) : FVec Ideal S512x1024 .f32 := shapeCast S512x1024 X shapeCasts_S4x128x1024_S512x1024

/-- What the host code prepares of the arguments. -/
theorem host (c : Dev nD) : (V m c main_v0 : Vec Ideal S512x1024 .f32) = flat (w m c) ∧ (V m c main_v1 : Vec Ideal S512x1024 .f32) = flat (g m c)
    ∧ (V m c main_v2 : Vec Ideal S512x1024 .f32) = flat (mo m c) ∧ (V m c main_v3 : Vec Ideal S512x1024 .f32) = flat (vo m c) := by
  refine ⟨?_, ?_, ?_, ?_⟩ <;> unfold V V0 <;>
    simp only [hostOps0, List.flatten_cons, List.flatten_nil, List.cons_append, List.nil_append, List.append_nil] <;>
    after_results_simp <;> rfl

/-- The call's result 0. -/
theorem final0 (c : Dev nD) : (dats m 0 c).arrAt 4 cfg0.N = flat (out0 m c) := by
  refine (dats m 0 c).arrAt_eq_of_covers 4 _ (by decide +kernel) fun t hf y => ?_
  have hN : t.val < 2 := lt_of_lt_of_eq t.isLt N_0
  blk_simp
  rw [after0_4]
  frame_out
  refine step_at _ _ _ _ _ _ _ _ y _ ?_ ?_ ?_ ?_
  · exact Eq.trans (by blk_ext [iblk, idx t]) (congrFun (host m c).1 _)
  · exact Eq.trans (by blk_ext [iblk, idx t]) (congrFun (host m c).2.1 _)
  · exact Eq.trans (by blk_ext [iblk, idx t]) (congrFun (host m c).2.2.1 _)
  · exact Eq.trans (by blk_ext [iblk, idx t]) (congrFun (host m c).2.2.2 _)

/-- The call's result 1. -/
theorem final1 (c : Dev nD) : (dats m 0 c).arrAt 5 cfg0.N = flat (out1 m c) := by
  refine (dats m 0 c).arrAt_eq_of_covers 5 _ (by decide +kernel) fun t hf y => ?_
  have hN : t.val < 2 := lt_of_lt_of_eq t.isLt N_0
  blk_simp
  rw [after0_5]
  frame_out
  refine first_at _ _ _ _ y _ ?_ ?_
  · exact Eq.trans (by blk_ext [iblk, idx t]) (congrFun (host m c).2.1 _)
  · exact Eq.trans (by blk_ext [iblk, idx t]) (congrFun (host m c).2.2.1 _)

/-- The call's result 2. -/
theorem final2 (c : Dev nD) : (dats m 0 c).arrAt 6 cfg0.N = flat (out2 m c) := by
  refine (dats m 0 c).arrAt_eq_of_covers 6 _ (by decide +kernel) fun t hf y => ?_
  have hN : t.val < 2 := lt_of_lt_of_eq t.isLt N_0
  blk_simp
  rw [after0_6]
  frame_out
  refine second_at _ _ _ _ y _ ?_ ?_
  · exact Eq.trans (by blk_ext [iblk, idx t]) (congrFun (host m c).2.1 _)
  · exact Eq.trans (by blk_ext [iblk, idx t]) (congrFun (host m c).2.2.2 _)

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- The results after the host's last lines. -/
theorem tail (c : Dev nD) : Pipeline.afterTail₀ cfgs (dats m) 0 (V0 m) [hostOps1] c main_v5 = out0 m c
    ∧ Pipeline.afterTail₀ cfgs (dats m) 0 (V0 m) [hostOps1] c main_v6 = out1 m c
    ∧ Pipeline.afterTail₀ cfgs (dats m) 0 (V0 m) [hostOps1] c main_v7 = out2 m c := by
  have h := Pipeline.withArrays_arr spec0 arr_inj c (V0 m c) (fun w => (dats m 0 c).arrAt w (cfgs 0).N)
  have h0 : (left m c (Proc.devRef .tc main_v4_0) : Vec Ideal S512x1024 .f32) = flat (out0 m c) := (h 4).trans (final0 m c)
  have h1 : (left m c (Proc.devRef .tc main_v4_1) : Vec Ideal S512x1024 .f32) = flat (out1 m c) := (h 5).trans (final1 m c)
  have h2 : (left m c (Proc.devRef .tc main_v4_2) : Vec Ideal S512x1024 .f32) = flat (out2 m c) := (h 6).trans (final2 m c)
  have back (X : Vec Ideal S512x1024 .f32) (Y : Vec Ideal S4x128x1024 .f32) (h : X = flat Y) : shapeCast S4x128x1024 X shapeCasts_S512x1024_S4x128x1024 = Y :=
    (congrArg (fun X : Vec Ideal S512x1024 .f32 => shapeCast S4x128x1024 X shapeCasts_S512x1024_S4x128x1024) h).trans (shapeCast_shapeCast _ _ _)
  clear h
  show (StableHlo.after [hostOps1].flatten (left m c) (Proc.devRef .tc main_v5) : Vec Ideal S4x128x1024 .f32) = _
    ∧ (StableHlo.after [hostOps1].flatten (left m c) (Proc.devRef .tc main_v6) : Vec Ideal S4x128x1024 .f32) = _
    ∧ (StableHlo.after [hostOps1].flatten (left m c) (Proc.devRef .tc main_v7) : Vec Ideal S4x128x1024 .f32) = _
  generalize left m c = w at h0 h1 h2 ⊢
  simp only [hostOps1, List.flatten_cons, List.flatten_nil, List.cons_append, List.nil_append, List.append_nil]
  refine ⟨?_, ?_, ?_⟩ <;> after_results_simp
  · exact back _ _ h0
  · exact back _ _ h1
  · exact back _ _ h2

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out0 m c
      ∧ r.2.mem ((c.tc : Thread nD τ).loc main_v6) = out1 m c
      ∧ r.2.mem ((c.tc : Thread nD τ).loc main_v7) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).2 main_v5 (by decide)).trans (tail m c).1, ((h.2 c).2 main_v6 (by decide)).trans (tail m c).2.1,
    ((h.2 c).2 main_v7 (by decide)).trans (tail m c).2.2, h.1 c⟩) (θ_run_and (unchanged m ρ) (run_main m ρ))

/-- The value claim. -/
theorem algebraic : Cert.algebraic_AdamOutKernelIdeal_AdamOutReferenceIdeal := by
  intro m ρ m' ρ' hpre hagree
  refine ⟨out0 m, out1 m, out2 m, kernel_run m ρ, ?_⟩
  refine (θ_run Cert.AdamOutReferenceIdeal.defs _ _).mono (fun r h c => ?_) (Cert.AdamOutReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamOutReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamOutReferenceIdeal.Value.run m g)

end

end Cert.AdamOut
end
-- ==== Proof.AdamSmall.lean ====
/-
  The optimiser's step for the packed small weights: the version's call works on rows of the pack, element by
  element, and its three results are the reference's.
-/
module

public import proofs.«01_k».proof.Defs
public import proofs.«01_k».proof.Proof.Gen.AdamSmallKernelIdeal.Frame
public import proofs.«01_k».proof.Proof.Gen.AdamSmallReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.AdamSmall

open Idealize.ShloMosaic Idealize.ShloMosaic.TcCoe Idealize.SL.Sem
open Idealize.ShloMosaic.Pointwise

section
open Cert.AdamSmallKernelIdeal Cert.AdamSmallKernelIdeal.Gen

variable (m : (ℓ : Loc nD τ sig) → Buf (Elt Ideal) ℓ)

/-- A number of the float word `w`, everywhere. -/
abbrev lit (w : BitVec 32) : FVec Ideal S536x1024 .f32 :=
  broadcastInDim AdamSmallReferenceIdeal.S536x1024 ![] AdamSmallReferenceIdeal.Gen.bcast_S_S536x1024 (constant AdamSmallReferenceIdeal.S_ .f32 w)

/-- The first moment after the step. -/
abbrev first (G M : FVec Ideal S536x1024 .f32) : FVec Ideal S536x1024 .f32 :=
  addf (mulf (lit 0x3F666666#32) M) (mulf (lit 0x3DCCCCCD#32) G)

/-- The second moment after the step. -/
abbrev second (G V : FVec Ideal S536x1024 .f32) : FVec Ideal S536x1024 .f32 :=
  addf (mulf (lit 0x3F7FBE77#32) V) (mulf (lit 0x3A83126F#32) (mulf G G))

/-- The step itself. -/
abbrev step (W G M V : FVec Ideal S536x1024 .f32) : FVec Ideal S536x1024 .f32 :=
  mulf (lit 0xBA83126F#32) (addf (Host.divf (Host.divf (first G M) (lit 0x3F26BD02#32))
    (addf (Host.sqrt (Host.divf (second G V) (lit 0x3C231ACC#32))) (lit 0x322BCC77#32))) (mulf (lit 0x3C23D70A#32) W))

/-- The weight, its gradient and its two moments, by their shape. -/
abbrev w (c : Dev nD) : FVec Ideal S536x1024 .f32 := m ((c.tc : Thread nD τ).loc main_arg0)
abbrev g (c : Dev nD) : FVec Ideal S536x1024 .f32 := m ((c.tc : Thread nD τ).loc main_arg1)
abbrev mo (c : Dev nD) : FVec Ideal S536x1024 .f32 := m ((c.tc : Thread nD τ).loc main_arg2)
abbrev vo (c : Dev nD) : FVec Ideal S536x1024 .f32 := m ((c.tc : Thread nD τ).loc main_arg3)

/-- The kernel's three results, functions of its arguments. -/
def out0 (c : Dev nD) : FVec Ideal S536x1024 .f32 := step (w m c) (g m c) (mo m c) (vo m c)
def out1 (c : Dev nD) : FVec Ideal S536x1024 .f32 := first (g m c) (mo m c)
def out2 (c : Dev nD) : FVec Ideal S536x1024 .f32 := second (g m c) (vo m c)

/-- Where the windows' blocks lie. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The new first moment at an entry. -/
theorem first_at (x1 x2 : Vec Ideal S8x1024 .f32) (G M : FVec Ideal S536x1024 .f32) (y : S8x1024.Idx) (j : S536x1024.Idx)
    (h1 : (x1 y : EReal) = G j) (h2 : (x2 y : EReal) = M j) : (k0_pay1 (F := Ideal) x1 x2 y : EReal) = first G M j := by
  pointwise [k0_pay1, first, lit]
  simp only [h1, h2]

/-- The new second moment at an entry. -/
theorem second_at (x1 x3 : Vec Ideal S8x1024 .f32) (G V : FVec Ideal S536x1024 .f32) (y : S8x1024.Idx) (j : S536x1024.Idx)
    (h1 : (x1 y : EReal) = G j) (h3 : (x3 y : EReal) = V j) : (k0_pay2 (F := Ideal) x1 x3 y : EReal) = second G V j := by
  pointwise [k0_pay2, second, lit]
  simp only [h1, h3]

/-- The step at an entry. -/
theorem step_at (x0 x1 x2 x3 : Vec Ideal S8x1024 .f32) (W G M V : FVec Ideal S536x1024 .f32) (y : S8x1024.Idx) (j : S536x1024.Idx)
    (h0 : (x0 y : EReal) = W j) (h1 : (x1 y : EReal) = G j) (h2 : (x2 y : EReal) = M j) (h3 : (x3 y : EReal) = V j) :
    (k0_pay3 (F := Ideal) x0 x1 x2 x3 y : EReal) = step W G M V j := by
  pointwise [k0_pay3, k0_pay2, k0_pay1, step, first, second, lit]
  simp only [h0, h1, h2, h3]

/-- The call's result 0. -/
theorem final0 (c : Dev nD) : (dats m 0 c).arrAt 4 cfg0.N = out0 m c := by
  refine (dats m 0 c).arrAt_eq_of_covers 4 _ (by decide +kernel) fun t hf y => ?_
  have hN : t.val < 67 := lt_of_lt_of_eq t.isLt N_0
  blk_simp
  rw [after0_4]
  frame_out
  refine step_at _ _ _ _ _ _ _ _ y _ ?_ ?_ ?_ ?_
  · exact (by blk_ext [iblk, V, idx t])
  · exact (by blk_ext [iblk, V, idx t])
  · exact (by blk_ext [iblk, V, idx t])
  · exact (by blk_ext [iblk, V, idx t])

/-- The call's result 1. -/
theorem final1 (c : Dev nD) : (dats m 0 c).arrAt 5 cfg0.N = out1 m c := by
  refine (dats m 0 c).arrAt_eq_of_covers 5 _ (by decide +kernel) fun t hf y => ?_
  have hN : t.val < 67 := lt_of_lt_of_eq t.isLt N_0
  blk_simp
  rw [after0_5]
  frame_out
  refine first_at _ _ _ _ y _ ?_ ?_
  · exact (by blk_ext [iblk, V, idx t])
  · exact (by blk_ext [iblk, V, idx t])

/-- The call's result 2. -/
theorem final2 (c : Dev nD) : (dats m 0 c).arrAt 6 cfg0.N = out2 m c := by
  refine (dats m 0 c).arrAt_eq_of_covers 6 _ (by decide +kernel) fun t hf y => ?_
  have hN : t.val < 67 := lt_of_lt_of_eq t.isLt N_0
  blk_simp
  rw [after0_6]
  frame_out
  refine second_at _ _ _ _ y _ ?_ ?_
  · exact (by blk_ext [iblk, V, idx t])
  · exact (by blk_ext [iblk, V, idx t])

/-- A run of the kernel leaves the step and the moments in its results and its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = out0 m c
      ∧ r.2.mem ((c.tc : Thread nD τ).loc main_v0_1) = out1 m c
      ∧ r.2.mem ((c.tc : Thread nD τ).loc main_v0_2) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 4).trans (final0 m c), ((h.2 c).1 5).trans (final1 m c),
    ((h.2 c).1 6).trans (final2 m c), h.1 c⟩) (θ_run_and (unchanged m ρ) (run_main m ρ))

/-- The value claim. -/
theorem algebraic : Cert.algebraic_AdamSmallKernelIdeal_AdamSmallReferenceIdeal := by
  intro m ρ m' ρ' hpre hagree
  refine ⟨out0 m, out1 m, out2 m, kernel_run m ρ, ?_⟩
  refine (θ_run Cert.AdamSmallReferenceIdeal.defs _ _).mono (fun r h c => ?_) (Cert.AdamSmallReferenceIdeal.Value.run m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end

section
open Cert.AdamSmallReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, sem_eq_zero_of_no_sems rfl _⟩) (Cert.AdamSmallReferenceIdeal.Value.run m g)

end

end Cert.AdamSmall
end
-- ==== Proof.SumFfn.lean ====
/-
  The sum of the eight devices' gradients, as they arrive (352 rows of 1024): the call adds the eight tiles, the
  reference sums over the devices.
-/
module

public import proofs.«01_k».proof.Defs
public import proofs.«01_k».proof.Proof.Gen.SumFfnKernelIdeal.Frame
public import proofs.«01_k».proof.Proof.Gen.SumFfnReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.SumFfn

open Idealize.ShloMosaic Idealize.ShloMosaic.TcCoe Idealize.SL.Sem
open Idealize.ShloMosaic.Pointwise

section
open Cert.SumFfnKernelIdeal Cert.SumFfnKernelIdeal.Gen

variable (m : (ℓ : Loc nD τ sig) → Buf (Elt Ideal) ℓ)

/-- The arrived gradients, by their shape. -/
abbrev a (c : Dev nD) : FVec Ideal S8x352x1024 .f32 := m ((c.tc : Thread nD τ).loc main_arg0)

/-- The kernel's result, a function of its argument. -/
def out (c : Dev nD) : FVec Ideal S352x1024 .f32 :=
  Host.reduceAdd (a m c) (constant SumFfnReferenceIdeal.S_ .f32 0x00000000#32) SumFfnReferenceIdeal.Gen.reducesTo_S8x352x1024_S352x1024_d0 SumFfnReferenceIdeal.Gen.h_S_

/-- Where the windows' blocks lie. -/
theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![4, t.val, 0]
    ∧ win0_5.index t = ![5, t.val, 0]
    ∧ win0_6.index t = ![6, t.val, 0]
    ∧ win0_7.index t = ![7, t.val, 0]
    ∧ win0_8.index t = ![t.val, 0] :=
  (by decide +kernel : ∀ t : Fin grid0.N, _)

/-- The rounded gradients that the host code prepares. -/
theorem host_at (c : Dev nD) (i : S8x352x1024.Idx) : ((V m c main_v0 : Vec Ideal S8x352x1024 .bf16) i : EReal) = a m c i := by
  unfold V
  simp only [hostOps0]
  after_results_simp
  pointwise

/-- The sum at an entry. -/
theorem sum_at (x0 x1 x2 x3 x4 x5 x6 x7 : Vec Ideal S1x32x1024 .bf16) (A : FVec Ideal S8x352x1024 .f32) (p : Fin 32) (q : Fin 1024) (i : Fin 352)
    (h0 : (x0 (ix3 0 p q) : EReal) = A (ix3 0 i q))
    (h1 : (x1 (ix3 0 p q) : EReal) = A (ix3 1 i q))
    (h2 : (x2 (ix3 0 p q) : EReal) = A (ix3 2 i q))
    (h3 : (x3 (ix3 0 p q) : EReal) = A (ix3 3 i q))
    (h4 : (x4 (ix3 0 p q) : EReal) = A (ix3 4 i q))
    (h5 : (x5 (ix3 0 p q) : EReal) = A (ix3 5 i q))
    (h6 : (x6 (ix3 0 p q) : EReal) = A (ix3 6 i q))
    (h7 : (x7 (ix3 0 p q) : EReal) = A (ix3 7 i q))
    : (k0_pay1 (F := Ideal) x0 x1 x2 x3 x4 x5 x6 x7 (ix2 p q) : EReal)
      = (Host.reduceAdd A (constant SumFfnReferenceIdeal.S_ .f32 0x00000000#32) SumFfnReferenceIdeal.Gen.reducesTo_S8x352x1024_S352x1024_d0 SumFfnReferenceIdeal.Gen.h_S_ : FVec Ideal S352x1024 .f32) (ix2 i q) := by
  pointwise [k0_pay1]
  simp only [Fin.sum_univ_eight, h0, h1, h2, h3, h4, h5, h6, h7]

/-- The call's result. -/
theorem final (c : Dev nD) : (dats m 0 c).arrAt 8 cfg0.N = out m c := by
  refine (dats m 0 c).arrAt_eq_of_covers 8 _ (by decide +kernel) fun t hf y => ?_
  have hN : t.val < 11 := lt_of_lt_of_eq t.isLt N_0
  blk_simp
  rw [after0_8]
  frame_out
  obtain_idx i : S352x1024 := [t.val * 32 + (y 0 : ℕ), (y 1 : ℕ)] with hi
  have he : ((cfg0.win 8).blk t).view.emb y = i := by
    blk_ext [idx t]
  rw [he, eq_ix2 y, eq_ix2 i]
  have hq : i 1 = y 1 := Fin.ext hi1
  rw [hq]
  unfold out
  refine sum_at _ _ _ _ _ _ _ _ _ (y 0) (y 1) (i 0) ?_ ?_ ?_ ?_ ?_ ?_ ?_ ?_
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)

/-- A run of the kernel leaves the sum in its result and its argument unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  (θ_run defs _ _).mono (fun r h c => ⟨((h.2 c).1 8).trans (final m c), h.1 c⟩) (θ_run_and (unchanged m ρ) (run_main m ρ))

/-- The value claim. -/
theorem algebraic : Cert.algebraic_SumFfnKernelIdeal_SumFfnReferenceIdeal := by
  intro m ρ m' ρ' hpre hagree
  refine ⟨out m, kernel_run m ρ, ?_⟩
  refine (θ_run Cert.SumFfnReferenceIdeal.defs _ _).mono (fun r h c => ?_) (Cert.SumFfnReferenceIdeal.Value.run m' ρ')
  have g0 := hagree c
  refine ⟨(h c).1.trans ?_, (h c).2⟩
  rw [g0]
  rfl

end

section
open Cert.SumFfnReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h c).2, sem_eq_zero_of_no_sems rfl _⟩) (Cert.SumFfnReferenceIdeal.Value.run m g)

end

end Cert.SumFfn
end
-- ==== Proof.SumIn.lean ====
/-
  The sum of the eight devices' gradients, as they arrive (160 rows of 1024): the call adds the eight tiles, the
  reference sums over the devices.
-/
module

public import proofs.«01_k».proof.Defs
public import proofs.«01_k».proof.Proof.Gen.SumInKernelIdeal.Frame
public import proofs.«01_k».proof.Proof.Gen.SumInReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.SumIn

open Idealize.ShloMosaic Idealize.ShloMosaic.TcCoe Idealize.SL.Sem
open Idealize.ShloMosaic.Pointwise

section
open Cert.SumInKernelIdeal Cert.SumInKernelIdeal.Gen

variable (m : (ℓ : Loc nD τ sig) → Buf (Elt Ideal) ℓ)

/-- The arrived gradients, by their shape. -/
abbrev a (c : Dev nD) : FVec Ideal S8x160x1024 .f32 := m ((c.tc : Thread nD τ).loc main_arg0)

/-- The kernel's result, a function of its argument. -/
def out (c : Dev nD) : FVec Ideal S160x1024 .f32 :=
  Host.reduceAdd (a m c) (constant SumInReferenceIdeal.S_ .f32 0x00000000#32) SumInReferenceIdeal.Gen.reducesTo_S8x160x1024_S160x1024_d0 SumInReferenceIdeal.Gen.h_S_

/-- Where the windows' blocks lie. -/
theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![4, t.val, 0]
    ∧ win0_5.index t = ![5, t.val, 0]
    ∧ win0_6.index t = ![6, t.val, 0]
    ∧ win0_7.index t = ![7, t.val, 0]
    ∧ win0_8.index t = ![t.val, 0] :=
  (by decide +kernel : ∀ t : Fin grid0.N, _)

/-- The rounded gradients that the host code prepares. -/
theorem host_at (c : Dev nD) (i : S8x160x1024.Idx) : ((V m c main_v0 : Vec Ideal S8x160x1024 .bf16) i : EReal) = a m c i := by
  unfold V
  simp only [hostOps0]
  after_results_simp
  pointwise

/-- The sum at an entry. -/
theorem sum_at (x0 x1 x2 x3 x4 x5 x6 x7 : Vec Ideal S1x32x1024 .bf16) (A : FVec Ideal S8x160x1024 .f32) (p : Fin 32) (q : Fin 1024) (i : Fin 160)
    (h0 : (x0 (ix3 0 p q) : EReal) = A (ix3 0 i q))
    (h1 : (x1 (ix3 0 p q) : EReal) = A (ix3 1 i q))
    (h2 : (x2 (ix3 0 p q) : EReal) = A (ix3 2 i q))
    (h3 : (x3 (ix3 0 p q) : EReal) = A (ix3 3 i q))
    (h4 : (x4 (ix3 0 p q) : EReal) = A (ix3 4 i q))
    (h5 : (x5 (ix3 0 p q) : EReal) = A (ix3 5 i q))
    (h6 : (x6 (ix3 0 p q) : EReal) = A (ix3 6 i q))
    (h7 : (x7 (ix3 0 p q) : EReal) = A (ix3 7 i q))
    : (k0_pay1 (F := Ideal) x0 x1 x2 x3 x4 x5 x6 x7 (ix2 p q) : EReal)
      = (Host.reduceAdd A (constant SumInReferenceIdeal.S_ .f32 0x00000000#32) SumInReferenceIdeal.Gen.reducesTo_S8x160x1024_S160x1024_d0 SumInReferenceIdeal.Gen.h_S_ : FVec Ideal S160x1024 .f32) (ix2 i q) := by
  pointwise [k0_pay1]
  simp only [Fin.sum_univ_eight, h0, h1, h2, h3, h4, h5, h6, h7]

/-- The call's result. -/
theorem final (c : Dev nD) : (dats m 0 c).arrAt 8 cfg0.N = out m c := by
  refine (dats m 0 c).arrAt_eq_of_covers 8 _ (by decide +kernel) fun t hf y => ?_
  have hN : t.val < 5 := lt_of_lt_of_eq t.isLt N_0
  blk_simp
  rw [after0_8]
  frame_out
  obtain_idx i : S160x1024 := [t.val * 32 + (y 0 : ℕ), (y 1 : ℕ)] with hi
  have he : ((cfg0.win 8).blk t).view.emb y = i := by
    blk_ext [idx t]
  rw [he, eq_ix2 y, eq_ix2 i]
  have hq : i 1 = y 1 := Fin.ext hi1
  rw [hq]
  unfold out
  refine sum_at _ _ _ _ _ _ _ _ _ (y 0) (y 1) (i 0) ?_ ?_ ?_ ?_ ?_ ?_ ?_ ?_
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)

/-- A run of the kernel leaves the sum in its result and its argument unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  (θ_run defs _ _).mono (fun r h c => ⟨((h.2 c).1 8).trans (final m c), h.1 c⟩) (θ_run_and (unchanged m ρ) (run_main m ρ))

/-- The value claim. -/
theorem algebraic : Cert.algebraic_SumInKernelIdeal_SumInReferenceIdeal := by
  intro m ρ m' ρ' hpre hagree
  refine ⟨out m, kernel_run m ρ, ?_⟩
  refine (θ_run Cert.SumInReferenceIdeal.defs _ _).mono (fun r h c => ?_) (Cert.SumInReferenceIdeal.Value.run m' ρ')
  have g0 := hagree c
  refine ⟨(h c).1.trans ?_, (h c).2⟩
  rw [g0]
  rfl

end

section
open Cert.SumInReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h c).2, sem_eq_zero_of_no_sems rfl _⟩) (Cert.SumInReferenceIdeal.Value.run m g)

end

end Cert.SumIn
end
-- ==== Proof.SumUq.lean ====
/-
  The sum of the eight devices' gradients, as they arrive (32 rows of 1024): the call adds the eight tiles, the
  reference sums over the devices.
-/
module

public import proofs.«01_k».proof.Defs
public import proofs.«01_k».proof.Proof.Gen.SumUqKernelIdeal.Frame
public import proofs.«01_k».proof.Proof.Gen.SumUqReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.SumUq

open Idealize.ShloMosaic Idealize.ShloMosaic.TcCoe Idealize.SL.Sem
open Idealize.ShloMosaic.Pointwise

section
open Cert.SumUqKernelIdeal Cert.SumUqKernelIdeal.Gen

variable (m : (ℓ : Loc nD τ sig) → Buf (Elt Ideal) ℓ)

/-- The arrived gradients, by their shape. -/
abbrev a (c : Dev nD) : FVec Ideal S8x32x1024 .f32 := m ((c.tc : Thread nD τ).loc main_arg0)

/-- The kernel's result, a function of its argument. -/
def out (c : Dev nD) : FVec Ideal S32x1024 .f32 :=
  Host.reduceAdd (a m c) (constant SumUqReferenceIdeal.S_ .f32 0x00000000#32) SumUqReferenceIdeal.Gen.reducesTo_S8x32x1024_S32x1024_d0 SumUqReferenceIdeal.Gen.h_S_

/-- Where the windows' blocks lie. -/
theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![4, t.val, 0]
    ∧ win0_5.index t = ![5, t.val, 0]
    ∧ win0_6.index t = ![6, t.val, 0]
    ∧ win0_7.index t = ![7, t.val, 0]
    ∧ win0_8.index t = ![t.val, 0] :=
  (by decide +kernel : ∀ t : Fin grid0.N, _)

/-- The rounded gradients that the host code prepares. -/
theorem host_at (c : Dev nD) (i : S8x32x1024.Idx) : ((V m c main_v0 : Vec Ideal S8x32x1024 .bf16) i : EReal) = a m c i := by
  unfold V
  simp only [hostOps0]
  after_results_simp
  pointwise

/-- The sum at an entry. -/
theorem sum_at (x0 x1 x2 x3 x4 x5 x6 x7 : Vec Ideal S1x32x1024 .bf16) (A : FVec Ideal S8x32x1024 .f32) (p : Fin 32) (q : Fin 1024) (i : Fin 32)
    (h0 : (x0 (ix3 0 p q) : EReal) = A (ix3 0 i q))
    (h1 : (x1 (ix3 0 p q) : EReal) = A (ix3 1 i q))
    (h2 : (x2 (ix3 0 p q) : EReal) = A (ix3 2 i q))
    (h3 : (x3 (ix3 0 p q) : EReal) = A (ix3 3 i q))
    (h4 : (x4 (ix3 0 p q) : EReal) = A (ix3 4 i q))
    (h5 : (x5 (ix3 0 p q) : EReal) = A (ix3 5 i q))
    (h6 : (x6 (ix3 0 p q) : EReal) = A (ix3 6 i q))
    (h7 : (x7 (ix3 0 p q) : EReal) = A (ix3 7 i q))
    : (k0_pay1 (F := Ideal) x0 x1 x2 x3 x4 x5 x6 x7 (ix2 p q) : EReal)
      = (Host.reduceAdd A (constant SumUqReferenceIdeal.S_ .f32 0x00000000#32) SumUqReferenceIdeal.Gen.reducesTo_S8x32x1024_S32x1024_d0 SumUqReferenceIdeal.Gen.h_S_ : FVec Ideal S32x1024 .f32) (ix2 i q) := by
  pointwise [k0_pay1]
  simp only [Fin.sum_univ_eight, h0, h1, h2, h3, h4, h5, h6, h7]

/-- The call's result. -/
theorem final (c : Dev nD) : (dats m 0 c).arrAt 8 cfg0.N = out m c := by
  refine (dats m 0 c).arrAt_eq_of_covers 8 _ (by decide +kernel) fun t hf y => ?_
  have hN : t.val < 1 := lt_of_lt_of_eq t.isLt N_0
  blk_simp
  rw [after0_8]
  frame_out
  obtain_idx i : S32x1024 := [t.val * 32 + (y 0 : ℕ), (y 1 : ℕ)] with hi
  have he : ((cfg0.win 8).blk t).view.emb y = i := by
    blk_ext [idx t]
  rw [he, eq_ix2 y, eq_ix2 i]
  have hq : i 1 = y 1 := Fin.ext hi1
  rw [hq]
  unfold out
  refine sum_at _ _ _ _ _ _ _ _ _ (y 0) (y 1) (i 0) ?_ ?_ ?_ ?_ ?_ ?_ ?_ ?_
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)

/-- A run of the kernel leaves the sum in its result and its argument unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  (θ_run defs _ _).mono (fun r h c => ⟨((h.2 c).1 8).trans (final m c), h.1 c⟩) (θ_run_and (unchanged m ρ) (run_main m ρ))

/-- The value claim. -/
theorem algebraic : Cert.algebraic_SumUqKernelIdeal_SumUqReferenceIdeal := by
  intro m ρ m' ρ' hpre hagree
  refine ⟨out m, kernel_run m ρ, ?_⟩
  refine (θ_run Cert.SumUqReferenceIdeal.defs _ _).mono (fun r h c => ?_) (Cert.SumUqReferenceIdeal.Value.run m' ρ')
  have g0 := hagree c
  refine ⟨(h c).1.trans ?_, (h c).2⟩
  rw [g0]
  rfl

end

section
open Cert.SumUqReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h c).2, sem_eq_zero_of_no_sems rfl _⟩) (Cert.SumUqReferenceIdeal.Value.run m g)

end

end Cert.SumUq
end
-- ==== Proof.SumUkv.lean ====
/-
  The sum of the eight devices' gradients, as they arrive (16 rows of 1024): the call adds the eight tiles, the
  reference sums over the devices.
-/
module

public import proofs.«01_k».proof.Defs
public import proofs.«01_k».proof.Proof.Gen.SumUkvKernelIdeal.Frame
public import proofs.«01_k».proof.Proof.Gen.SumUkvReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.SumUkv

open Idealize.ShloMosaic Idealize.ShloMosaic.TcCoe Idealize.SL.Sem
open Idealize.ShloMosaic.Pointwise

section
open Cert.SumUkvKernelIdeal Cert.SumUkvKernelIdeal.Gen

variable (m : (ℓ : Loc nD τ sig) → Buf (Elt Ideal) ℓ)

/-- The arrived gradients, by their shape. -/
abbrev a (c : Dev nD) : FVec Ideal S8x16x1024 .f32 := m ((c.tc : Thread nD τ).loc main_arg0)

/-- The kernel's result, a function of its argument. -/
def out (c : Dev nD) : FVec Ideal S16x1024 .f32 :=
  Host.reduceAdd (a m c) (constant SumUkvReferenceIdeal.S_ .f32 0x00000000#32) SumUkvReferenceIdeal.Gen.reducesTo_S8x16x1024_S16x1024_d0 SumUkvReferenceIdeal.Gen.h_S_

/-- Where the windows' blocks lie. -/
theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![4, t.val, 0]
    ∧ win0_5.index t = ![5, t.val, 0]
    ∧ win0_6.index t = ![6, t.val, 0]
    ∧ win0_7.index t = ![7, t.val, 0]
    ∧ win0_8.index t = ![t.val, 0] :=
  (by decide +kernel : ∀ t : Fin grid0.N, _)

/-- The rounded gradients that the host code prepares. -/
theorem host_at (c : Dev nD) (i : S8x16x1024.Idx) : ((V m c main_v0 : Vec Ideal S8x16x1024 .bf16) i : EReal) = a m c i := by
  unfold V
  simp only [hostOps0]
  after_results_simp
  pointwise

/-- The sum at an entry. -/
theorem sum_at (x0 x1 x2 x3 x4 x5 x6 x7 : Vec Ideal S1x16x1024 .bf16) (A : FVec Ideal S8x16x1024 .f32) (p : Fin 16) (q : Fin 1024) (i : Fin 16)
    (h0 : (x0 (ix3 0 p q) : EReal) = A (ix3 0 i q))
    (h1 : (x1 (ix3 0 p q) : EReal) = A (ix3 1 i q))
    (h2 : (x2 (ix3 0 p q) : EReal) = A (ix3 2 i q))
    (h3 : (x3 (ix3 0 p q) : EReal) = A (ix3 3 i q))
    (h4 : (x4 (ix3 0 p q) : EReal) = A (ix3 4 i q))
    (h5 : (x5 (ix3 0 p q) : EReal) = A (ix3 5 i q))
    (h6 : (x6 (ix3 0 p q) : EReal) = A (ix3 6 i q))
    (h7 : (x7 (ix3 0 p q) : EReal) = A (ix3 7 i q))
    : (k0_pay1 (F := Ideal) x0 x1 x2 x3 x4 x5 x6 x7 (ix2 p q) : EReal)
      = (Host.reduceAdd A (constant SumUkvReferenceIdeal.S_ .f32 0x00000000#32) SumUkvReferenceIdeal.Gen.reducesTo_S8x16x1024_S16x1024_d0 SumUkvReferenceIdeal.Gen.h_S_ : FVec Ideal S16x1024 .f32) (ix2 i q) := by
  pointwise [k0_pay1]
  simp only [Fin.sum_univ_eight, h0, h1, h2, h3, h4, h5, h6, h7]

/-- The call's result. -/
theorem final (c : Dev nD) : (dats m 0 c).arrAt 8 cfg0.N = out m c := by
  refine (dats m 0 c).arrAt_eq_of_covers 8 _ (by decide +kernel) fun t hf y => ?_
  have hN : t.val < 1 := lt_of_lt_of_eq t.isLt N_0
  blk_simp
  rw [after0_8]
  frame_out
  obtain_idx i : S16x1024 := [t.val * 16 + (y 0 : ℕ), (y 1 : ℕ)] with hi
  have he : ((cfg0.win 8).blk t).view.emb y = i := by
    blk_ext [idx t]
  rw [he, eq_ix2 y, eq_ix2 i]
  have hq : i 1 = y 1 := Fin.ext hi1
  rw [hq]
  unfold out
  refine sum_at _ _ _ _ _ _ _ _ _ (y 0) (y 1) (i 0) ?_ ?_ ?_ ?_ ?_ ?_ ?_ ?_
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)

/-- A run of the kernel leaves the sum in its result and its argument unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  (θ_run defs _ _).mono (fun r h c => ⟨((h.2 c).1 8).trans (final m c), h.1 c⟩) (θ_run_and (unchanged m ρ) (run_main m ρ))

/-- The value claim. -/
theorem algebraic : Cert.algebraic_SumUkvKernelIdeal_SumUkvReferenceIdeal := by
  intro m ρ m' ρ' hpre hagree
  refine ⟨out m, kernel_run m ρ, ?_⟩
  refine (θ_run Cert.SumUkvReferenceIdeal.defs _ _).mono (fun r h c => ?_) (Cert.SumUkvReferenceIdeal.Value.run m' ρ')
  have g0 := hagree c
  refine ⟨(h c).1.trans ?_, (h c).2⟩
  rw [g0]
  rfl

end

section
open Cert.SumUkvReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h c).2, sem_eq_zero_of_no_sems rfl _⟩) (Cert.SumUkvReferenceIdeal.Value.run m g)

end

end Cert.SumUkv
end
-- ==== Proof.SumOut.lean ====
/-
  The sum of the eight devices' gradients, as they arrive (128 rows of 1024): the call adds the eight tiles, the
  reference sums over the devices.
-/
module

public import proofs.«01_k».proof.Defs
public import proofs.«01_k».proof.Proof.Gen.SumOutKernelIdeal.Frame
public import proofs.«01_k».proof.Proof.Gen.SumOutReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.SumOut

open Idealize.ShloMosaic Idealize.ShloMosaic.TcCoe Idealize.SL.Sem
open Idealize.ShloMosaic.Pointwise

section
open Cert.SumOutKernelIdeal Cert.SumOutKernelIdeal.Gen

variable (m : (ℓ : Loc nD τ sig) → Buf (Elt Ideal) ℓ)

/-- The arrived gradients, by their shape. -/
abbrev a (c : Dev nD) : FVec Ideal S8x128x1024 .f32 := m ((c.tc : Thread nD τ).loc main_arg0)

/-- The kernel's result, a function of its argument. -/
def out (c : Dev nD) : FVec Ideal S128x1024 .f32 :=
  Host.reduceAdd (a m c) (constant SumOutReferenceIdeal.S_ .f32 0x00000000#32) SumOutReferenceIdeal.Gen.reducesTo_S8x128x1024_S128x1024_d0 SumOutReferenceIdeal.Gen.h_S_

/-- Where the windows' blocks lie. -/
theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![4, t.val, 0]
    ∧ win0_5.index t = ![5, t.val, 0]
    ∧ win0_6.index t = ![6, t.val, 0]
    ∧ win0_7.index t = ![7, t.val, 0]
    ∧ win0_8.index t = ![t.val, 0] :=
  (by decide +kernel : ∀ t : Fin grid0.N, _)

/-- The rounded gradients that the host code prepares. -/
theorem host_at (c : Dev nD) (i : S8x128x1024.Idx) : ((V m c main_v0 : Vec Ideal S8x128x1024 .bf16) i : EReal) = a m c i := by
  unfold V
  simp only [hostOps0]
  after_results_simp
  pointwise

/-- The sum at an entry. -/
theorem sum_at (x0 x1 x2 x3 x4 x5 x6 x7 : Vec Ideal S1x128x1024 .bf16) (A : FVec Ideal S8x128x1024 .f32) (p : Fin 128) (q : Fin 1024) (i : Fin 128)
    (h0 : (x0 (ix3 0 p q) : EReal) = A (ix3 0 i q))
    (h1 : (x1 (ix3 0 p q) : EReal) = A (ix3 1 i q))
    (h2 : (x2 (ix3 0 p q) : EReal) = A (ix3 2 i q))
    (h3 : (x3 (ix3 0 p q) : EReal) = A (ix3 3 i q))
    (h4 : (x4 (ix3 0 p q) : EReal) = A (ix3 4 i q))
    (h5 : (x5 (ix3 0 p q) : EReal) = A (ix3 5 i q))
    (h6 : (x6 (ix3 0 p q) : EReal) = A (ix3 6 i q))
    (h7 : (x7 (ix3 0 p q) : EReal) = A (ix3 7 i q))
    : (k0_pay1 (F := Ideal) x0 x1 x2 x3 x4 x5 x6 x7 (ix2 p q) : EReal)
      = (Host.reduceAdd A (constant SumOutReferenceIdeal.S_ .f32 0x00000000#32) SumOutReferenceIdeal.Gen.reducesTo_S8x128x1024_S128x1024_d0 SumOutReferenceIdeal.Gen.h_S_ : FVec Ideal S128x1024 .f32) (ix2 i q) := by
  pointwise [k0_pay1]
  simp only [Fin.sum_univ_eight, h0, h1, h2, h3, h4, h5, h6, h7]

/-- The call's result. -/
theorem final (c : Dev nD) : (dats m 0 c).arrAt 8 cfg0.N = out m c := by
  refine (dats m 0 c).arrAt_eq_of_covers 8 _ (by decide +kernel) fun t hf y => ?_
  have hN : t.val < 1 := lt_of_lt_of_eq t.isLt N_0
  blk_simp
  rw [after0_8]
  frame_out
  obtain_idx i : S128x1024 := [t.val * 128 + (y 0 : ℕ), (y 1 : ℕ)] with hi
  have he : ((cfg0.win 8).blk t).view.emb y = i := by
    blk_ext [idx t]
  rw [he, eq_ix2 y, eq_ix2 i]
  have hq : i 1 = y 1 := Fin.ext hi1
  rw [hq]
  unfold out
  refine sum_at _ _ _ _ _ _ _ _ _ (y 0) (y 1) (i 0) ?_ ?_ ?_ ?_ ?_ ?_ ?_ ?_
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)
  · exact Eq.trans (by blk_ext [iblk, idx t]) (host_at m c _)

/-- A run of the kernel leaves the sum in its result and its argument unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = out m c
      ∧ r.2.mem ((c.tc : Thread nD τ).loc main_arg0) = m ((c.tc : Thread nD τ).loc main_arg0)) :=
  (θ_run defs _ _).mono (fun r h c => ⟨((h.2 c).1 8).trans (final m c), h.1 c⟩) (θ_run_and (unchanged m ρ) (run_main m ρ))

/-- The value claim. -/
theorem algebraic : Cert.algebraic_SumOutKernelIdeal_SumOutReferenceIdeal := by
  intro m ρ m' ρ' hpre hagree
  refine ⟨out m, kernel_run m ρ, ?_⟩
  refine (θ_run Cert.SumOutReferenceIdeal.defs _ _).mono (fun r h c => ?_) (Cert.SumOutReferenceIdeal.Value.run m' ρ')
  have g0 := hagree c
  refine ⟨(h c).1.trans ?_, (h c).2⟩
  rw [g0]
  rfl

end

section
open Cert.SumOutReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h c).2, sem_eq_zero_of_no_sems rfl _⟩) (Cert.SumOutReferenceIdeal.Value.run m g)

end

end Cert.SumOut
end
-- ==== Proof.SumSmall.lean ====
/-
  The sum of the eight devices' gradients, as they arrive (the pack of the small weights): the call adds the eight tiles, the
  reference sums over the devices.
-/
module

public import proofs.«01_k».proof.Defs
public import proofs.«01_k».proof.Proof.Gen.SumSmallKernelIdeal.Frame
public import proofs.«01_k».proof.Proof.Gen.SumSmallReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.SumSmall

open Idealize.ShloMosaic Idealize.ShloMosaic.TcCoe Idealize.SL.Sem
open Idealize.ShloMosaic.Pointwise

section
open Cert.SumSmallKernelIdeal Cert.SumSmallKernelIdeal.Gen

variable (m : (ℓ : Loc nD τ sig) → Buf (Elt Ideal) ℓ)

/-- The arrived gradients, by their shape. -/
abbrev a (c : Dev nD) : FVec Ideal S8x560x1024 .f32 := m ((c.tc : Thread nD τ).loc main_arg0)

/-- The kernel's result, a function of its argument. -/
def out (c : Dev nD) : FVec Ideal S560x1024 .f32 :=
  Host.reduceAdd (a m c) (constant SumSmallReferenceIdeal.S_ .f32 0x00000000#32) SumSmallReferenceIdeal.Gen.reducesTo_S8x560x1024_S560x1024_d0 SumSmallReferenceIdeal.Gen.h_S_

/-- Where the windows' blocks lie. -/
theorem idx : ∀ t : Fin cfg0.N, win0_0.index t = ![0, t.val, 0]
    ∧ win0_1.index t = ![1, t.val, 0]
    ∧ win0_2.index t = ![2, t.val, 0]
    ∧ win0_3.index t = ![3, t.val, 0]
    ∧ win0_4.index t = ![4, t.val, 0]
    ∧ win0_5.index t = ![5, t.val, 0]
    ∧ win0_6.index t = ![6, t.val, 0]
    ∧ win0_7.index t = ![7, t.val, 0]
    ∧ win0_8.index t = ![t.val, 0] :=
  (by decide +kernel : ∀ t : Fin grid0.N, _)

/-- The sum at an entry. -/
theorem sum_at (x0 x1 x2 x3 x4 x5 x6 x7 : Vec Ideal S1x16x1024 .f32) (A : FVec Ideal S8x560x1024 .f32) (p : Fin 16) (q : Fin 1024) (i : Fin 560)
    (h0 : (x0 (ix3 0 p q) : EReal) = A (ix3 0 i q))
    (h1 : (x1 (ix3 0 p q) : EReal) = A (ix3 1 i q))
    (h2 : (x2 (ix3 0 p q) : EReal) = A (ix3 2 i q))
    (h3 : (x3 (ix3 0 p q) : EReal) = A (ix3 3 i q))
    (h4 : (x4 (ix3 0 p q) : EReal) = A (ix3 4 i q))
    (h5 : (x5 (ix3 0 p q) : EReal) = A (ix3 5 i q))
    (h6 : (x6 (ix3 0 p q) : EReal) = A (ix3 6 i q))
    (h7 : (x7 (ix3 0 p q) : EReal) = A (ix3 7 i q))
    : (k0_pay1 (F := Ideal) x0 x1 x2 x3 x4 x5 x6 x7 (ix2 p q) : EReal)
      = (Host.reduceAdd A (constant SumSmallReferenceIdeal.S_ .f32 0x00000000#32) SumSmallReferenceIdeal.Gen.reducesTo_S8x560x1024_S560x1024_d0 SumSmallReferenceIdeal.Gen.h_S_ : FVec Ideal S560x1024 .f32) (ix2 i q) := by
  pointwise [k0_pay1]
  simp only [Fin.sum_univ_eight, h0, h1, h2, h3, h4, h5, h6, h7]

/-- The call's result. -/
theorem final (c : Dev nD) : (dats m 0 c).arrAt 8 cfg0.N = out m c := by
  refine (dats m 0 c).arrAt_eq_of_covers 8 _ (by decide +kernel) fun t hf y => ?_
  have hN : t.val < 35 := lt_of_lt_of_eq t.isLt N_0
  blk_simp
  rw [after0_8]
  frame_out
  obtain_idx i : S560x1024 := [t.val * 16 + (y 0 : ℕ), (y 1 : ℕ)] with hi
  have he : ((cfg0.win 8).blk t).view.emb y = i := by
    blk_ext [idx t]
  rw [he, eq_ix2 y, eq_ix2 i]
  have hq : i 1 = y 1 := Fin.ext hi1
  rw [hq]
  unfold out
  refine sum_at _ _ _ _ _ _ _ _ _ (y 0) (y 1) (i 0) ?_ ?_ ?_ ?_ ?_ ?_ ?_ ?_
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]
  · blk_ext [iblk, V, idx t]

/-- A run of the kernel leaves the sum in its result and its argument unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = out m c
      ∧ r.2.mem ((c.tc : Thread nD τ).loc main_arg0) = m ((c.tc : Thread nD τ).loc main_arg0)) :=
  (θ_run defs _ _).mono (fun r h c => ⟨((h.2 c).1 8).trans (final m c), h.1 c⟩) (θ_run_and (unchanged m ρ) (run_main m ρ))

/-- The value claim. -/
theorem algebraic : Cert.algebraic_SumSmallKernelIdeal_SumSmallReferenceIdeal := by
  intro m ρ m' ρ' hpre hagree
  refine ⟨out m, kernel_run m ρ, ?_⟩
  refine (θ_run Cert.SumSmallReferenceIdeal.defs _ _).mono (fun r h c => ?_) (Cert.SumSmallReferenceIdeal.Value.run m' ρ')
  have g0 := hagree c
  refine ⟨(h c).1.trans ?_, (h c).2⟩
  rw [g0]
  rfl

end

section
open Cert.SumSmallReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h c).2, sem_eq_zero_of_no_sems rfl _⟩) (Cert.SumSmallReferenceIdeal.Value.run m g)

end

end Cert.SumSmall
end
-- ==== Proof.Heads.lean ====
/-
  The version's order of the columns of the queries (768) and of the keys and values (1024): reference.py holds them head
  by head, the version by parts, each part of all heads together.
-/
module

public import Idealize.ShloMosaic.Lib.Pipeline.ValueKit

@[expose] public section

noncomputable section

namespace Cert.Heads

/-- Where a column of the queries stands in the version's order. -/
def placeq (n : ℕ) : ℕ :=
  if n % 96 < 64 then n / 96 * 64 + n % 96 else if n % 96 < 80 then n / 96 * 16 + n % 96 + 448 else n / 96 * 16 + n % 96 + 560

/-- Which column of the queries stands at a place. -/
def backq (k : ℕ) : ℕ :=
  if k < 512 then k / 64 * 96 + k % 64 else if k < 640 then (k - 512) / 16 * 96 + 64 + (k - 512) % 16 else (k - 640) / 16 * 96 + 80 + (k - 640) % 16

/-- The queries' columns in the version's order. -/
def colq : Fin 768 ≃ Fin 768 where
  toFun n := ⟨placeq n, by have := n.isLt; unfold placeq; split_ifs <;> omega⟩
  invFun k := ⟨backq k, by have := k.isLt; unfold backq; split_ifs <;> omega⟩
  left_inv n := by
    refine Fin.ext ?_
    show backq (placeq n) = n
    have := n.isLt
    unfold placeq backq
    split_ifs <;> omega
  right_inv k := by
    refine Fin.ext ?_
    show placeq (backq k) = k
    have := k.isLt
    unfold placeq backq
    split_ifs <;> omega

/-- The place of a column of the queries, case by case. -/
theorem colq_val (n : Fin 768) : (colq n : ℕ) = n / 96 * 64 + n % 96 ∧ (n : ℕ) % 96 < 64
    ∨ (colq n : ℕ) = n / 96 * 16 + n % 96 + 448 ∧ 64 ≤ (n : ℕ) % 96 ∧ (n : ℕ) % 96 < 80
    ∨ (colq n : ℕ) = n / 96 * 16 + n % 96 + 560 ∧ 80 ≤ (n : ℕ) % 96 := by
  show placeq n = _ ∧ _ ∨ placeq n = _ ∧ _ ∨ placeq n = _ ∧ _
  unfold placeq
  split_ifs <;> omega

/-- Where a column of the keys and values stands in the version's order. -/
def placev (n : ℕ) : ℕ := if n % 128 < 64 then n / 128 * 64 + n % 128 else n / 128 * 64 + n % 128 + 448

/-- Which column of the keys and values stands at a place. -/
def backv (k : ℕ) : ℕ := if k < 512 then k / 64 * 128 + k % 64 else (k - 512) / 64 * 128 + 64 + (k - 512) % 64

/-- The columns of the keys and values in the version's order. -/
def colv : Fin 1024 ≃ Fin 1024 where
  toFun n := ⟨placev n, by have := n.isLt; unfold placev; split_ifs <;> omega⟩
  invFun k := ⟨backv k, by have := k.isLt; unfold backv; split_ifs <;> omega⟩
  left_inv n := by
    refine Fin.ext ?_
    show backv (placev n) = n
    have := n.isLt
    unfold placev backv
    split_ifs <;> omega
  right_inv k := by
    refine Fin.ext ?_
    show placev (backv k) = k
    have := k.isLt
    unfold placev backv
    split_ifs <;> omega

/-- The place of a column of the keys and values, case by case. -/
theorem colv_val (n : Fin 1024) : (colv n : ℕ) = n / 128 * 64 + n % 128 ∧ (n : ℕ) % 128 < 64
    ∨ (colv n : ℕ) = n / 128 * 64 + n % 128 + 448 ∧ 64 ≤ (n : ℕ) % 128 := by
  show placev n = _ ∧ _ ∨ placev n = _ ∧ _
  unfold placev
  split_ifs <;> omega

end Cert.Heads
end
-- ==== Proof.Uq.lean ====
/-
  The queries' projection: the kernel multiplies by the weight with its columns in another order; the columns of its
  result, in the reference's order again, are the reference's product.
-/
module

public import proofs.«01_k».proof.Defs
public import proofs.«01_k».proof.Proof.Gen.UqKernelIdeal.Frame
public import proofs.«01_k».proof.Proof.Gen.UqReferenceIdeal.Run
public import proofs.«01_k».proof.Proof.Heads
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.Uq

open Idealize.ShloMosaic Idealize.ShloMosaic.TcCoe Idealize.SL.Sem
open Idealize.ShloMosaic.Pointwise

section
open Cert.UqKernelIdeal Cert.UqKernelIdeal.Gen

open Cert.Heads

variable (m : (ℓ : Loc nD τ sig) → Buf (Elt Ideal) ℓ)

/-- The reference's product over the two arguments. -/
abbrev prod (X : FVec Ideal S8192x256 .f32) (W : FVec Ideal S256x768 .f32) : FVec Ideal S8192x768 .f32 :=
  Host.dotGeneral UqReferenceIdeal.dot_S8192x256_S256x768_S8192x768_1_0_0_1_n_n none X W

/-- The kernel's result, a function of its arguments. -/
def out (c : Dev nD) : FVec Ideal S8192x768 .f32 :=
  prod (m ((c.tc : Thread nD τ).loc main_arg0)) (m ((c.tc : Thread nD τ).loc main_arg1))

/-- The first argument and the prepared array, by their shapes. -/
abbrev a0 (c : Dev nD) : Vec Ideal S8192x256 .f32 := m ((c.tc : Thread nD τ).loc main_arg0)
abbrev wp (c : Dev nD) : Vec Ideal S256x768 .bf16 := V m c main_v9

/-- Where the windows' blocks lie. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A column of the weight that the host code prepares. -/
theorem host_at (c : Dev nD) (k : Fin 256) (n : Fin 768) :
    ((V m c main_v9 : Vec Ideal S256x768 .bf16) (ix2 k (colq n)) : EReal) = m ((c.tc : Thread nD τ).loc main_arg1) (ix2 k n) := by
  unfold V V0
  simp only [hostOps0, List.flatten_cons, List.flatten_nil, List.cons_append, List.nil_append, List.append_nil]
  after_results_simp
  have hv := colq_val n
  have hn := n.isLt
  have hk := k.isLt
  pointwise
  split_ifs <;> try omega
  all_goals after_results_simp
  all_goals pointwise
  all_goals congr 3
  all_goals omega

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call its output's array holds what the write-backs fold to. -/
theorem left_arr (c : Dev nD) : left m c (Proc.devRef .tc main_v10) = (dats m 0 c).arrAt 2 cfg0.N :=
  Pipeline.withArrays_arr spec0 arr_inj c (V0 m c) (fun w => (dats m 0 c).arrAt w (cfgs 0).N) 2

/-- The columns in the reference's order, taken out of the region's result. -/
theorem tail_at (c : Dev nD) (X : Vec Ideal S8192x768 .f32) (hX : left m c (Proc.devRef .tc main_v10) = X) (i : Fin 8192) (n : Fin 768) :
    ((Pipeline.afterTail₀ cfgs (dats m) 0 (V0 m) [hostOps1] c main_v18 : Vec Ideal S8192x768 .f32) (ix2 i n) : EReal) = X (ix2 i (colq n)) := by
  subst hX
  show (StableHlo.after [hostOps1].flatten (left m c) (Proc.devRef .tc main_v18) : Vec Ideal S8192x768 .f32) (ix2 i n) = _
  generalize left m c = w
  simp only [hostOps1, List.flatten_cons, List.flatten_nil, List.cons_append, List.nil_append, List.append_nil]
  after_results_simp
  have hv := colq_val n
  have hn := n.isLt
  have hi := i.isLt
  pointwise
  split_ifs <;> try omega
  all_goals after_results_simp
  all_goals pointwise
  all_goals congr 2
  all_goals refine Fin.ext ?_
  all_goals dsimp only
  all_goals omega

/-- The product of the rounded inputs with the prepared weight. -/
def full (c : Dev nD) : Vec Ideal S8192x768 .f32 := fun i =>
  (∑ k : Fin 256, (a0 m c (ix2 (i 0) k) : EReal) * (wp m c (ix2 k (i 1)) : EReal) : EReal)

/-- The region's result array. -/
theorem final (c : Dev nD) : (dats m 0 c).arrAt 2 cfg0.N = full m c := by
  refine (dats m 0 c).arrAt_eq_of_covers 2 _ (by decide +kernel) fun t hf y => ?_
  have hN : t.val < 16 := lt_of_lt_of_eq t.isLt N_0
  blk_simp
  rw [after0_2]
  unfold outsAt0 full
  frame_out
  pointwise [k0_pay1]
  refine Fin.sum_fin_congr fun k => congrArg₂ (· * ·) ?_ ?_
  · blk_ext [iblk, V, idx t]
  · blk_ext [iblk, idx t]

/-- The result after the host's last lines. -/
theorem tail_eq (c : Dev nD) : Pipeline.afterTail₀ cfgs (dats m) 0 (V0 m) [hostOps1] c main_v18 = out m c := by
  funext j
  rw [eq_ix2 j]
  refine (tail_at m c (full m c) ((left_arr m c).trans (final m c)) (j 0) (j 1)).trans ?_
  unfold out
  unfold full
  pointwise [prod]
  refine Fin.sum_fin_congr fun k => congrArg (_ * ·) (host_at m c _ _)

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v18) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).2 main_v18 (by decide)).trans (tail_eq m c), h.1 c⟩) (θ_run_and (unchanged m g) (run_main m g))

/-- The value claim. -/
theorem algebraic : Cert.algebraic_UqKernelIdeal_UqReferenceIdeal := by
  intro m g m' g' hpre hagree
  refine ⟨out m, kernel_run m g, ?_⟩
  refine (θ_run Cert.UqReferenceIdeal.defs _ _).mono (fun r h c => ?_) (Cert.UqReferenceIdeal.Value.run m' g')
  obtain ⟨g0, g1⟩ := hagree c
  refine ⟨(h c).1.trans ?_, (h c).2⟩
  rw [g0, g1]
  rfl

end

section
open Cert.UqReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UqReferenceIdeal.Value.run m g)

end

end Cert.Uq
end
-- ==== Proof.UqDw.lean ====
/-
  The gradient of the weight of the queries' projection: the kernel adds up the products of its tiles of rows, with the columns in
  another order; its columns in the reference's order again are the reference's product.
-/
module

public import proofs.«01_k».proof.Defs
public import proofs.«01_k».proof.Proof.Gen.UqDwKernelIdeal.Frame
public import proofs.«01_k».proof.Proof.Gen.UqDwReferenceIdeal.Run
public import proofs.«01_k».proof.Proof.Heads
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.UqDw

open Idealize.ShloMosaic Idealize.ShloMosaic.TcCoe Idealize.SL.Sem
open Idealize.ShloMosaic.Pointwise

section
open Cert.UqDwKernelIdeal Cert.UqDwKernelIdeal.Gen

open Cert.Heads

variable (m : (ℓ : Loc nD τ sig) → Buf (Elt Ideal) ℓ)

/-- The reference's product over the two arguments. -/
abbrev prod (X : FVec Ideal S8192x256 .f32) (D : FVec Ideal S8192x768 .f32) : FVec Ideal S256x768 .f32 :=
  Host.dotGeneral UqDwReferenceIdeal.dot_S256x8192_S8192x768_S256x768_1_0_0_1_n_n none
    (transpose UqDwReferenceIdeal.S256x8192 [1, 0] X UqDwReferenceIdeal.Gen.transposes_S8192x256_S256x8192_1_0) D

/-- The kernel's result, a function of its arguments. -/
def out (c : Dev nD) : FVec Ideal S256x768 .f32 :=
  prod (m ((c.tc : Thread nD τ).loc main_arg0)) (m ((c.tc : Thread nD τ).loc main_arg1))

/-- The first argument and the prepared array, by their shapes. -/
abbrev a0 (c : Dev nD) : Vec Ideal S8192x256 .f32 := m ((c.tc : Thread nD τ).loc main_arg0)
abbrev wp (c : Dev nD) : Vec Ideal S8192x768 .bf16 := V m c main_v9

/-- Where the windows' blocks lie. -/
theorem idx : ∀ t : Fin cfg0.N, win0_0.index t = ![t.val % 4, 0] ∧ win0_1.index t = ![t.val % 4, 0] ∧ win0_2.index t = ![0, 0] :=
  (by decide +kernel : ∀ t : Fin grid0.N, _)

/-- One step's product, at an index. -/
theorem part_at (x : Vec Ideal S2048x256 .bf16) (z : Vec Ideal S2048x768 .bf16) (j : S256x768.Idx) :
    (k0_pay2 x z j : EReal) = 0 + ∑ k : Fin 2048, (x (ix2 k (j 0)) : EReal) * (z (ix2 k (j 1)) : EReal) := by
  pointwise [k0_pay2, k0_pay1]

/-- A later step adds its product. -/
theorem step_at (x : Vec Ideal S2048x256 .bf16) (z : Vec Ideal S2048x768 .bf16) (a : Vec Ideal S256x768 .f32) (j : S256x768.Idx) :
    (k0_pay3 x z a j : EReal) = (a j : EReal) + ∑ k : Fin 2048, (x (ix2 k (j 0)) : EReal) * (z (ix2 k (j 1)) : EReal) := by
  pointwise [k0_pay3, k0_pay1]

/-- A column of the gradient that the host code prepares. -/
theorem host_at (c : Dev nD) (k : Fin 8192) (n : Fin 768) :
    ((V m c main_v9 : Vec Ideal S8192x768 .bf16) (ix2 k (colq n)) : EReal) = m ((c.tc : Thread nD τ).loc main_arg1) (ix2 k n) := by
  unfold V V0
  simp only [hostOps0, List.flatten_cons, List.flatten_nil, List.cons_append, List.nil_append, List.append_nil]
  after_results_simp
  have hv := colq_val n
  have hn := n.isLt
  have hk := k.isLt
  pointwise
  split_ifs <;> try omega
  all_goals after_results_simp
  all_goals pointwise
  all_goals congr 3
  all_goals omega

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call its output's array holds what the write-backs fold to. -/
theorem left_arr (c : Dev nD) : left m c (Proc.devRef .tc main_v10) = (dats m 0 c).arrAt 2 cfg0.N :=
  Pipeline.withArrays_arr spec0 arr_inj c (V0 m c) (fun w => (dats m 0 c).arrAt w (cfgs 0).N) 2

/-- The columns in the reference's order, taken out of the region's result. -/
theorem tail_at (c : Dev nD) (X : Vec Ideal S256x768 .f32) (hX : left m c (Proc.devRef .tc main_v10) = X) (i : Fin 256) (n : Fin 768) :
    ((Pipeline.afterTail₀ cfgs (dats m) 0 (V0 m) [hostOps1] c main_v18 : Vec Ideal S256x768 .f32) (ix2 i n) : EReal) = X (ix2 i (colq n)) := by
  subst hX
  show (StableHlo.after [hostOps1].flatten (left m c) (Proc.devRef .tc main_v18) : Vec Ideal S256x768 .f32) (ix2 i n) = _
  generalize left m c = w
  simp only [hostOps1, List.flatten_cons, List.flatten_nil, List.cons_append, List.nil_append, List.append_nil]
  after_results_simp
  have hv := colq_val n
  have hn := n.isLt
  have hi := i.isLt
  pointwise
  split_ifs <;> try omega
  all_goals after_results_simp
  all_goals pointwise
  all_goals congr 2
  all_goals refine Fin.ext ?_
  all_goals dsimp only
  all_goals omega

/-- The product of the transposed inputs with the prepared gradient. -/
def full (c : Dev nD) : Vec Ideal S256x768 .f32 := fun i =>
  (∑ k : Fin 8192, (a0 m c (ix2 k (i 0)) : EReal) * (wp m c (ix2 k (i 1)) : EReal) : EReal)

/-- What the accumulator holds after the last step. -/
theorem acc_at (c : Dev nD) (t : Fin cfg0.N) (ht : t.val % 4 = 3) (j : S256x768.Idx) :
    ((outsAt0 m c t.val t.isLt).2 j : EReal) = full m c (((cfg0.win 2).blk t).view.emb j) := by
  rw [Pipeline.eq_sum_fin_of_reset_step_apply_of_flush (fun n h => (outsAt0 m c n h).2) 4 (fun _ => 0) _
    (fun t h j => by
      have hN : t.val < 4 := lt_of_lt_of_eq t.isLt N_0
      rw [outsAt0_A m c t h (by omega) (by omega)]; frame_out; exact part_at _ _ j)
    (fun t h j => by
      by_cases h7 : t.val % 4 = 3
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold full
  refine Fin.sum_mul_add_congr fun s k hl => ?_
  refine congrArg₂ (· * ·) ?_ ?_
  · blk_ext [iblk, V, idx ⟨_, Pipeline.run_point_lt_of_flush t ht s⟩, idx t]
  · blk_ext [iblk, idx ⟨_, Pipeline.run_point_lt_of_flush t ht s⟩, idx t]

/-- The region's result array. -/
theorem final (c : Dev nD) : (dats m 0 c).arrAt 2 cfg0.N = full m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- The result after the host's last lines. -/
theorem tail_eq (c : Dev nD) : Pipeline.afterTail₀ cfgs (dats m) 0 (V0 m) [hostOps1] c main_v18 = out m c := by
  funext j
  rw [eq_ix2 j]
  refine (tail_at m c (full m c) ((left_arr m c).trans (final m c)) (j 0) (j 1)).trans ?_
  unfold out
  unfold full
  pointwise [prod]
  refine Fin.sum_fin_congr fun k => congrArg (_ * ·) (host_at m c _ _)

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v18) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).2 main_v18 (by decide)).trans (tail_eq m c), h.1 c⟩) (θ_run_and (unchanged m g) (run_main m g))

/-- The value claim. -/
theorem algebraic : Cert.algebraic_UqDwKernelIdeal_UqDwReferenceIdeal := by
  intro m g m' g' hpre hagree
  refine ⟨out m, kernel_run m g, ?_⟩
  refine (θ_run Cert.UqDwReferenceIdeal.defs _ _).mono (fun r h c => ?_) (Cert.UqDwReferenceIdeal.Value.run m' g')
  obtain ⟨g0, g1⟩ := hagree c
  refine ⟨(h c).1.trans ?_, (h c).2⟩
  rw [g0, g1]
  rfl

end

section
open Cert.UqDwReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UqDwReferenceIdeal.Value.run m g)

end

end Cert.UqDw
end
-- ==== Proof.UqDx.lean ====
/-
  The gradient of the input of the queries' projection: the contraction runs over the columns in another order, which changes nothing
  in the sum.
-/
module

public import proofs.«01_k».proof.Defs
public import proofs.«01_k».proof.Proof.Gen.UqDxKernelIdeal.Frame
public import proofs.«01_k».proof.Proof.Gen.UqDxReferenceIdeal.Run
public import proofs.«01_k».proof.Proof.Heads
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.UqDx

open Idealize.ShloMosaic Idealize.ShloMosaic.TcCoe Idealize.SL.Sem
open Idealize.ShloMosaic.Pointwise

section
open Cert.UqDxKernelIdeal Cert.UqDxKernelIdeal.Gen

open Cert.Heads

variable (m : (ℓ : Loc nD τ sig) → Buf (Elt Ideal) ℓ)

/-- The reference's product. -/
abbrev prod (D : FVec Ideal S8192x768 .f32) (W : FVec Ideal S256x768 .f32) : FVec Ideal S8192x256 .f32 :=
  Host.dotGeneral UqDxReferenceIdeal.dot_S8192x768_S768x256_S8192x256_1_0_0_1_n_n none D
    (transpose UqDxReferenceIdeal.S768x256 [1, 0] W UqDxReferenceIdeal.Gen.transposes_S256x768_S768x256_1_0)

/-- The kernel's result, a function of its arguments. -/
def out (c : Dev nD) : FVec Ideal S8192x256 .f32 :=
  prod (m ((c.tc : Thread nD τ).loc main_arg0)) (m ((c.tc : Thread nD τ).loc main_arg1))

/-- The arguments and the prepared arrays, by their shapes. -/
abbrev a0 (c : Dev nD) : Vec Ideal S8192x768 .f32 := m ((c.tc : Thread nD τ).loc main_arg0)
abbrev a1 (c : Dev nD) : Vec Ideal S256x768 .f32 := m ((c.tc : Thread nD τ).loc main_arg1)
abbrev dp (c : Dev nD) : Vec Ideal S8192x768 .bf16 := V m c main_v8
abbrev wp (c : Dev nD) : Vec Ideal S256x768 .bf16 := V m c main_v17

/-- Where the windows' blocks lie. -/
theorem idx : ∀ t : Fin cfg0.N, win0_0.index t = ![t.val, 0] ∧ win0_1.index t = ![0, 0] ∧ win0_2.index t = ![t.val, 0] :=
  (by decide +kernel : ∀ t : Fin grid0.N, _)

/-- A column of the gradient that the host code prepares. -/
theorem host0_at (c : Dev nD) (k : Fin 8192) (n : Fin 768) :
    ((V m c main_v8 : Vec Ideal S8192x768 .bf16) (ix2 k (colq n)) : EReal) = m ((c.tc : Thread nD τ).loc main_arg0) (ix2 k n) := by
  unfold V
  simp only [hostOps0]
  after_results_simp
  have hv := colq_val n
  have hn := n.isLt
  have hk := k.isLt
  pointwise
  split_ifs <;> try omega
  all_goals after_results_simp
  all_goals pointwise
  all_goals congr 3
  all_goals omega

/-- A column of the weight that the host code prepares. -/
theorem host1_at (c : Dev nD) (k : Fin 256) (n : Fin 768) :
    ((V m c main_v17 : Vec Ideal S256x768 .bf16) (ix2 k (colq n)) : EReal) = m ((c.tc : Thread nD τ).loc main_arg1) (ix2 k n) := by
  unfold V
  simp only [hostOps0]
  after_results_simp
  have hv := colq_val n
  have hn := n.isLt
  have hk := k.isLt
  pointwise
  split_ifs <;> try omega
  all_goals after_results_simp
  all_goals pointwise
  all_goals congr 3
  all_goals omega

/-- What the kernel computes on its blocks, at an index. -/
theorem pay_at (x : Vec Ideal S1024x768 .bf16) (z : Vec Ideal S256x768 .bf16) (j : S1024x256.Idx) :
    (k0_pay1 x z j : EReal) = 0 + ∑ k : Fin 768, (x (ix2 (j 0) k) : EReal) * (z (ix2 (j 1) k) : EReal) := by
  pointwise [k0_pay1]

/-- The reference's product at an index. -/
theorem prod_at (D : FVec Ideal S8192x768 .f32) (W : FVec Ideal S256x768 .f32) (i : S8192x256.Idx) :
    (prod D W i : EReal) = ∑ n : Fin 768, (D (ix2 (i 0) n) : EReal) * (W (ix2 (i 1) n) : EReal) := by
  pointwise [prod]

/-- The contraction over the columns in the version's order is the reference's. -/
theorem sum_at (c : Dev nD) (i : Fin 8192) (n : Fin 256) :
    (∑ k : Fin 768, (dp m c (ix2 i k) : EReal) * (wp m c (ix2 n k) : EReal) : EReal)
      = ∑ k : Fin 768, (a0 m c (ix2 i k) : EReal) * (a1 m c (ix2 n k) : EReal) := by
  rw [← Equiv.sum_comp colq]
  refine Finset.sum_congr rfl fun k _ => ?_
  exact congrArg₂ (α := EReal) (β := EReal) (· * ·) (host0_at m c i k) (host1_at m c n k)

/-- The result array after the run. -/
theorem final (c : Dev nD) : (dats m 0 c).arrAt 2 cfg0.N = out m c := by
  refine (dats m 0 c).arrAt_eq_of_covers 2 _ (by decide +kernel) fun t hf y => ?_
  have hN : t.val < 8 := lt_of_lt_of_eq t.isLt N_0
  blk_simp
  rw [after0_2]
  unfold outsAt0 out
  frame_out
  refine (pay_at _ _ y).trans (Eq.trans ?_ (prod_at _ _ _).symm)
  rw [zero_add]
  refine Eq.trans ?_ (sum_at m c _ _)
  refine Fin.sum_fin_congr fun k => congrArg₂ (α := EReal) (β := EReal) (· * ·) ?_ ?_
  · blk_ext [iblk, idx t]
  · blk_ext [iblk, idx t]

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v18) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_UqDxKernelIdeal_UqDxReferenceIdeal := by
  intro m g m' g' hpre hagree
  refine ⟨out m, kernel_run m g, ?_⟩
  refine (θ_run Cert.UqDxReferenceIdeal.defs _ _).mono (fun r h c => ?_) (Cert.UqDxReferenceIdeal.Value.run m' g')
  obtain ⟨g0, g1⟩ := hagree c
  refine ⟨(h c).1.trans ?_, (h c).2⟩
  rw [g0, g1]
  rfl

end

section
open Cert.UqDxReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UqDxReferenceIdeal.Value.run m g)

end

end Cert.UqDx
end
-- ==== Proof.Ukv.lean ====
/-
  The projection to keys and values: the kernel multiplies by the weight with its columns in another order; the columns of its
  result, in the reference's order again, are the reference's product.
-/
module

public import proofs.«01_k».proof.Defs
public import proofs.«01_k».proof.Proof.Gen.UkvKernelIdeal.Frame
public import proofs.«01_k».proof.Proof.Gen.UkvReferenceIdeal.Run
public import proofs.«01_k».proof.Proof.Heads
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.Ukv

open Idealize.ShloMosaic Idealize.ShloMosaic.TcCoe Idealize.SL.Sem
open Idealize.ShloMosaic.Pointwise

section
open Cert.UkvKernelIdeal Cert.UkvKernelIdeal.Gen

open Cert.Heads

variable (m : (ℓ : Loc nD τ sig) → Buf (Elt Ideal) ℓ)

/-- The reference's product over the two arguments. -/
abbrev prod (X : FVec Ideal S8192x128 .f32) (W : FVec Ideal S128x1024 .f32) : FVec Ideal S8192x1024 .f32 :=
  Host.dotGeneral UkvReferenceIdeal.dot_S8192x128_S128x1024_S8192x1024_1_0_0_1_n_n none X W

/-- The kernel's result, a function of its arguments. -/
def out (c : Dev nD) : FVec Ideal S8192x1024 .f32 :=
  prod (m ((c.tc : Thread nD τ).loc main_arg0)) (m ((c.tc : Thread nD τ).loc main_arg1))

/-- The first argument and the prepared array, by their shapes. -/
abbrev a0 (c : Dev nD) : Vec Ideal S8192x128 .f32 := m ((c.tc : Thread nD τ).loc main_arg0)
abbrev wp (c : Dev nD) : Vec Ideal S128x1024 .bf16 := V m c main_v7

/-- Where the windows' blocks lie. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A column of the weight that the host code prepares. -/
theorem host_at (c : Dev nD) (k : Fin 128) (n : Fin 1024) :
    ((V m c main_v7 : Vec Ideal S128x1024 .bf16) (ix2 k (colv n)) : EReal) = m ((c.tc : Thread nD τ).loc main_arg1) (ix2 k n) := by
  unfold V V0
  simp only [hostOps0, List.flatten_cons, List.flatten_nil, List.cons_append, List.nil_append, List.append_nil]
  after_results_simp
  have hv := colv_val n
  have hn := n.isLt
  have hk := k.isLt
  pointwise
  split_ifs <;> try omega
  all_goals pointwise
  all_goals congr 3
  all_goals omega

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call its output's array holds what the write-backs fold to. -/
theorem left_arr (c : Dev nD) : left m c (Proc.devRef .tc main_v8) = (dats m 0 c).arrAt 2 cfg0.N :=
  Pipeline.withArrays_arr spec0 arr_inj c (V0 m c) (fun w => (dats m 0 c).arrAt w (cfgs 0).N) 2

/-- The columns in the reference's order, taken out of the region's result. -/
theorem tail_at (c : Dev nD) (X : Vec Ideal S8192x1024 .f32) (hX : left m c (Proc.devRef .tc main_v8) = X) (i : Fin 8192) (n : Fin 1024) :
    ((Pipeline.afterTail₀ cfgs (dats m) 0 (V0 m) [hostOps1] c main_v14 : Vec Ideal S8192x1024 .f32) (ix2 i n) : EReal) = X (ix2 i (colv n)) := by
  subst hX
  show (StableHlo.after [hostOps1].flatten (left m c) (Proc.devRef .tc main_v14) : Vec Ideal S8192x1024 .f32) (ix2 i n) = _
  generalize left m c = w
  simp only [hostOps1, List.flatten_cons, List.flatten_nil, List.cons_append, List.nil_append, List.append_nil]
  after_results_simp
  have hv := colv_val n
  have hn := n.isLt
  have hi := i.isLt
  pointwise
  split_ifs <;> try omega
  all_goals after_results_simp
  all_goals pointwise
  all_goals congr 2
  all_goals refine Fin.ext ?_
  all_goals dsimp only
  all_goals omega

/-- The product of the rounded inputs with the prepared weight. -/
def full (c : Dev nD) : Vec Ideal S8192x1024 .f32 := fun i =>
  (∑ k : Fin 128, (a0 m c (ix2 (i 0) k) : EReal) * (wp m c (ix2 k (i 1)) : EReal) : EReal)

/-- The region's result array. -/
theorem final (c : Dev nD) : (dats m 0 c).arrAt 2 cfg0.N = full m c := by
  refine (dats m 0 c).arrAt_eq_of_covers 2 _ (by decide +kernel) fun t hf y => ?_
  have hN : t.val < 16 := lt_of_lt_of_eq t.isLt N_0
  blk_simp
  rw [after0_2]
  unfold outsAt0 full
  frame_out
  pointwise [k0_pay1]
  refine Fin.sum_fin_congr fun k => congrArg₂ (· * ·) ?_ ?_
  · blk_ext [iblk, V, idx t]
  · blk_ext [iblk, idx t]

/-- The result after the host's last lines. -/
theorem tail_eq (c : Dev nD) : Pipeline.afterTail₀ cfgs (dats m) 0 (V0 m) [hostOps1] c main_v14 = out m c := by
  funext j
  rw [eq_ix2 j]
  refine (tail_at m c (full m c) ((left_arr m c).trans (final m c)) (j 0) (j 1)).trans ?_
  unfold out
  unfold full
  pointwise [prod]
  refine Fin.sum_fin_congr fun k => congrArg (_ * ·) (host_at m c _ _)

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v14) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).2 main_v14 (by decide)).trans (tail_eq m c), h.1 c⟩) (θ_run_and (unchanged m g) (run_main m g))

/-- The value claim. -/
theorem algebraic : Cert.algebraic_UkvKernelIdeal_UkvReferenceIdeal := by
  intro m g m' g' hpre hagree
  refine ⟨out m, kernel_run m g, ?_⟩
  refine (θ_run Cert.UkvReferenceIdeal.defs _ _).mono (fun r h c => ?_) (Cert.UkvReferenceIdeal.Value.run m' g')
  obtain ⟨g0, g1⟩ := hagree c
  refine ⟨(h c).1.trans ?_, (h c).2⟩
  rw [g0, g1]
  rfl

end

section
open Cert.UkvReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UkvReferenceIdeal.Value.run m g)

end

end Cert.Ukv
end
-- ==== Proof.UkvDw.lean ====
/-
  The gradient of the weight of the projection to keys and values: the kernel adds up the products of its tiles of rows, with the columns in
  another order; its columns in the reference's order again are the reference's product.
-/
module

public import proofs.«01_k».proof.Defs
public import proofs.«01_k».proof.Proof.Gen.UkvDwKernelIdeal.Frame
public import proofs.«01_k».proof.Proof.Gen.UkvDwReferenceIdeal.Run
public import proofs.«01_k».proof.Proof.Heads
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.UkvDw

open Idealize.ShloMosaic Idealize.ShloMosaic.TcCoe Idealize.SL.Sem
open Idealize.ShloMosaic.Pointwise

section
open Cert.UkvDwKernelIdeal Cert.UkvDwKernelIdeal.Gen

open Cert.Heads

variable (m : (ℓ : Loc nD τ sig) → Buf (Elt Ideal) ℓ)

/-- The reference's product over the two arguments. -/
abbrev prod (X : FVec Ideal S8192x128 .f32) (D : FVec Ideal S8192x1024 .f32) : FVec Ideal S128x1024 .f32 :=
  Host.dotGeneral UkvDwReferenceIdeal.dot_S128x8192_S8192x1024_S128x1024_1_0_0_1_n_n none
    (transpose UkvDwReferenceIdeal.S128x8192 [1, 0] X UkvDwReferenceIdeal.Gen.transposes_S8192x128_S128x8192_1_0) D

/-- The kernel's result, a function of its arguments. -/
def out (c : Dev nD) : FVec Ideal S128x1024 .f32 :=
  prod (m ((c.tc : Thread nD τ).loc main_arg0)) (m ((c.tc : Thread nD τ).loc main_arg1))

/-- The first argument and the prepared array, by their shapes. -/
abbrev a0 (c : Dev nD) : Vec Ideal S8192x128 .f32 := m ((c.tc : Thread nD τ).loc main_arg0)
abbrev wp (c : Dev nD) : Vec Ideal S8192x1024 .bf16 := V m c main_v7

/-- Where the windows' blocks lie. -/
theorem idx : ∀ t : Fin cfg0.N, win0_0.index t = ![t.val % 4, 0] ∧ win0_1.index t = ![t.val % 4, 0] ∧ win0_2.index t = ![0, 0] :=
  (by decide +kernel : ∀ t : Fin grid0.N, _)

/-- One step's product, at an index. -/
theorem part_at (x : Vec Ideal S2048x128 .bf16) (z : Vec Ideal S2048x1024 .bf16) (j : S128x1024.Idx) :
    (k0_pay2 x z j : EReal) = 0 + ∑ k : Fin 2048, (x (ix2 k (j 0)) : EReal) * (z (ix2 k (j 1)) : EReal) := by
  pointwise [k0_pay2, k0_pay1]

/-- A later step adds its product. -/
theorem step_at (x : Vec Ideal S2048x128 .bf16) (z : Vec Ideal S2048x1024 .bf16) (a : Vec Ideal S128x1024 .f32) (j : S128x1024.Idx) :
    (k0_pay3 x z a j : EReal) = (a j : EReal) + ∑ k : Fin 2048, (x (ix2 k (j 0)) : EReal) * (z (ix2 k (j 1)) : EReal) := by
  pointwise [k0_pay3, k0_pay1]

/-- A column of the gradient that the host code prepares. -/
theorem host_at (c : Dev nD) (k : Fin 8192) (n : Fin 1024) :
    ((V m c main_v7 : Vec Ideal S8192x1024 .bf16) (ix2 k (colv n)) : EReal) = m ((c.tc : Thread nD τ).loc main_arg1) (ix2 k n) := by
  unfold V V0
  simp only [hostOps0, List.flatten_cons, List.flatten_nil, List.cons_append, List.nil_append, List.append_nil]
  after_results_simp
  have hv := colv_val n
  have hn := n.isLt
  have hk := k.isLt
  pointwise
  split_ifs <;> try omega
  all_goals pointwise
  all_goals congr 3
  all_goals omega

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call its output's array holds what the write-backs fold to. -/
theorem left_arr (c : Dev nD) : left m c (Proc.devRef .tc main_v8) = (dats m 0 c).arrAt 2 cfg0.N :=
  Pipeline.withArrays_arr spec0 arr_inj c (V0 m c) (fun w => (dats m 0 c).arrAt w (cfgs 0).N) 2

/-- The columns in the reference's order, taken out of the region's result. -/
theorem tail_at (c : Dev nD) (X : Vec Ideal S128x1024 .f32) (hX : left m c (Proc.devRef .tc main_v8) = X) (i : Fin 128) (n : Fin 1024) :
    ((Pipeline.afterTail₀ cfgs (dats m) 0 (V0 m) [hostOps1] c main_v14 : Vec Ideal S128x1024 .f32) (ix2 i n) : EReal) = X (ix2 i (colv n)) := by
  subst hX
  show (StableHlo.after [hostOps1].flatten (left m c) (Proc.devRef .tc main_v14) : Vec Ideal S128x1024 .f32) (ix2 i n) = _
  generalize left m c = w
  simp only [hostOps1, List.flatten_cons, List.flatten_nil, List.cons_append, List.nil_append, List.append_nil]
  after_results_simp
  have hv := colv_val n
  have hn := n.isLt
  have hi := i.isLt
  pointwise
  split_ifs <;> try omega
  all_goals after_results_simp
  all_goals pointwise
  all_goals congr 2
  all_goals refine Fin.ext ?_
  all_goals dsimp only
  all_goals omega

/-- The product of the transposed inputs with the prepared gradient. -/
def full (c : Dev nD) : Vec Ideal S128x1024 .f32 := fun i =>
  (∑ k : Fin 8192, (a0 m c (ix2 k (i 0)) : EReal) * (wp m c (ix2 k (i 1)) : EReal) : EReal)

/-- What the accumulator holds after the last step. -/
theorem acc_at (c : Dev nD) (t : Fin cfg0.N) (ht : t.val % 4 = 3) (j : S128x1024.Idx) :
    ((outsAt0 m c t.val t.isLt).2 j : EReal) = full m c (((cfg0.win 2).blk t).view.emb j) := by
  rw [Pipeline.eq_sum_fin_of_reset_step_apply_of_flush (fun n h => (outsAt0 m c n h).2) 4 (fun _ => 0) _
    (fun t h j => by
      have hN : t.val < 4 := lt_of_lt_of_eq t.isLt N_0
      rw [outsAt0_A m c t h (by omega) (by omega)]; frame_out; exact part_at _ _ j)
    (fun t h j => by
      by_cases h7 : t.val % 4 = 3
      · rw [outsAt0_C m c t h (by omega) h7]; frame_out; rw [read_unread_whole]; exact step_at _ _ _ j
      · rw [outsAt0_B m c t h (by omega) h7]; frame_out; rw [read_unread_whole]; exact step_at _ _ _ j)
    t ht j, zero_add]
  unfold full
  refine Fin.sum_mul_add_congr fun s k hl => ?_
  refine congrArg₂ (· * ·) ?_ ?_
  · blk_ext [iblk, V, idx ⟨_, Pipeline.run_point_lt_of_flush t ht s⟩, idx t]
  · blk_ext [iblk, idx ⟨_, Pipeline.run_point_lt_of_flush t ht s⟩, idx t]

/-- The region's result array. -/
theorem final (c : Dev nD) : (dats m 0 c).arrAt 2 cfg0.N = full m c := by
  refine (dats m 0 c).arrAt_eq_of_covers 2 _ (by decide +kernel) fun t hf y => ?_
  have h7 := (flush0_2 t).mp hf
  blk_simp
  rw [after0_2]
  refine Eq.trans ?_ (acc_at m c t h7 y)
  rw [outsAt0_C m c t (by omega) (by omega) h7]
  frame_out

/-- The result after the host's last lines. -/
theorem tail_eq (c : Dev nD) : Pipeline.afterTail₀ cfgs (dats m) 0 (V0 m) [hostOps1] c main_v14 = out m c := by
  funext j
  rw [eq_ix2 j]
  refine (tail_at m c (full m c) ((left_arr m c).trans (final m c)) (j 0) (j 1)).trans ?_
  unfold out
  unfold full
  pointwise [prod]
  refine Fin.sum_fin_congr fun k => congrArg (_ * ·) (host_at m c _ _)

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v14) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).2 main_v14 (by decide)).trans (tail_eq m c), h.1 c⟩) (θ_run_and (unchanged m g) (run_main m g))

/-- The value claim. -/
theorem algebraic : Cert.algebraic_UkvDwKernelIdeal_UkvDwReferenceIdeal := by
  intro m g m' g' hpre hagree
  refine ⟨out m, kernel_run m g, ?_⟩
  refine (θ_run Cert.UkvDwReferenceIdeal.defs _ _).mono (fun r h c => ?_) (Cert.UkvDwReferenceIdeal.Value.run m' g')
  obtain ⟨g0, g1⟩ := hagree c
  refine ⟨(h c).1.trans ?_, (h c).2⟩
  rw [g0, g1]
  rfl

end

section
open Cert.UkvDwReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UkvDwReferenceIdeal.Value.run m g)

end

end Cert.UkvDw
end
-- ==== Proof.UkvDx.lean ====
/-
  The gradient of the input of the projection to keys and values: the contraction runs over the columns in another order, which changes nothing
  in the sum.
-/
module

public import proofs.«01_k».proof.Defs
public import proofs.«01_k».proof.Proof.Gen.UkvDxKernelIdeal.Frame
public import proofs.«01_k».proof.Proof.Gen.UkvDxReferenceIdeal.Run
public import proofs.«01_k».proof.Proof.Heads
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.UkvDx

open Idealize.ShloMosaic Idealize.ShloMosaic.TcCoe Idealize.SL.Sem
open Idealize.ShloMosaic.Pointwise

section
open Cert.UkvDxKernelIdeal Cert.UkvDxKernelIdeal.Gen

open Cert.Heads

variable (m : (ℓ : Loc nD τ sig) → Buf (Elt Ideal) ℓ)

/-- The reference's product. -/
abbrev prod (D : FVec Ideal S8192x1024 .f32) (W : FVec Ideal S128x1024 .f32) : FVec Ideal S8192x128 .f32 :=
  Host.dotGeneral UkvDxReferenceIdeal.dot_S8192x1024_S1024x128_S8192x128_1_0_0_1_n_n none D
    (transpose UkvDxReferenceIdeal.S1024x128 [1, 0] W UkvDxReferenceIdeal.Gen.transposes_S128x1024_S1024x128_1_0)

/-- The kernel's result, a function of its arguments. -/
def out (c : Dev nD) : FVec Ideal S8192x128 .f32 :=
  prod (m ((c.tc : Thread nD τ).loc main_arg0)) (m ((c.tc : Thread nD τ).loc main_arg1))

/-- The arguments and the prepared arrays, by their shapes. -/
abbrev a0 (c : Dev nD) : Vec Ideal S8192x1024 .f32 := m ((c.tc : Thread nD τ).loc main_arg0)
abbrev a1 (c : Dev nD) : Vec Ideal S128x1024 .f32 := m ((c.tc : Thread nD τ).loc main_arg1)
abbrev dp (c : Dev nD) : Vec Ideal S8192x1024 .bf16 := V m c main_v6
abbrev wp (c : Dev nD) : Vec Ideal S128x1024 .bf16 := V m c main_v13

/-- Where the windows' blocks lie. -/
theorem idx : ∀ t : Fin cfg0.N, win0_0.index t = ![t.val, 0] ∧ win0_1.index t = ![0, 0] ∧ win0_2.index t = ![t.val, 0] :=
  (by decide +kernel : ∀ t : Fin grid0.N, _)

/-- A column of the gradient that the host code prepares. -/
theorem host0_at (c : Dev nD) (k : Fin 8192) (n : Fin 1024) :
    ((V m c main_v6 : Vec Ideal S8192x1024 .bf16) (ix2 k (colv n)) : EReal) = m ((c.tc : Thread nD τ).loc main_arg0) (ix2 k n) := by
  unfold V
  simp only [hostOps0]
  after_results_simp
  have hv := colv_val n
  have hn := n.isLt
  have hk := k.isLt
  pointwise
  split_ifs <;> try omega
  all_goals pointwise
  all_goals congr 3
  all_goals omega

/-- A column of the weight that the host code prepares. -/
theorem host1_at (c : Dev nD) (k : Fin 128) (n : Fin 1024) :
    ((V m c main_v13 : Vec Ideal S128x1024 .bf16) (ix2 k (colv n)) : EReal) = m ((c.tc : Thread nD τ).loc main_arg1) (ix2 k n) := by
  unfold V
  simp only [hostOps0]
  after_results_simp
  have hv := colv_val n
  have hn := n.isLt
  have hk := k.isLt
  pointwise
  split_ifs <;> try omega
  all_goals pointwise
  all_goals congr 3
  all_goals omega

/-- What the kernel computes on its blocks, at an index. -/
theorem pay_at (x : Vec Ideal S1024x1024 .bf16) (z : Vec Ideal S128x1024 .bf16) (j : S1024x128.Idx) :
    (k0_pay1 x z j : EReal) = 0 + ∑ k : Fin 1024, (x (ix2 (j 0) k) : EReal) * (z (ix2 (j 1) k) : EReal) := by
  pointwise [k0_pay1]

/-- The reference's product at an index. -/
theorem prod_at (D : FVec Ideal S8192x1024 .f32) (W : FVec Ideal S128x1024 .f32) (i : S8192x128.Idx) :
    (prod D W i : EReal) = ∑ n : Fin 1024, (D (ix2 (i 0) n) : EReal) * (W (ix2 (i 1) n) : EReal) := by
  pointwise [prod]

/-- The contraction over the columns in the version's order is the reference's. -/
theorem sum_at (c : Dev nD) (i : Fin 8192) (n : Fin 128) :
    (∑ k : Fin 1024, (dp m c (ix2 i k) : EReal) * (wp m c (ix2 n k) : EReal) : EReal)
      = ∑ k : Fin 1024, (a0 m c (ix2 i k) : EReal) * (a1 m c (ix2 n k) : EReal) := by
  rw [← Equiv.sum_comp colv]
  refine Finset.sum_congr rfl fun k _ => ?_
  exact congrArg₂ (α := EReal) (β := EReal) (· * ·) (host0_at m c i k) (host1_at m c n k)

/-- The result array after the run. -/
theorem final (c : Dev nD) : (dats m 0 c).arrAt 2 cfg0.N = out m c := by
  refine (dats m 0 c).arrAt_eq_of_covers 2 _ (by decide +kernel) fun t hf y => ?_
  have hN : t.val < 8 := lt_of_lt_of_eq t.isLt N_0
  blk_simp
  rw [after0_2]
  unfold outsAt0 out
  frame_out
  refine (pay_at _ _ y).trans (Eq.trans ?_ (prod_at _ _ _).symm)
  rw [zero_add]
  refine Eq.trans ?_ (sum_at m c _ _)
  refine Fin.sum_fin_congr fun k => congrArg₂ (α := EReal) (β := EReal) (· * ·) ?_ ?_
  · blk_ext [iblk, idx t]
  · blk_ext [iblk, idx t]

/-- A run of the kernel leaves the product in its result and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v14) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2 c).1 2).trans (final m c), h.1 c⟩) (θ_run_and (unchanged m g) (run_main m g))

/-- The value claim. -/
theorem algebraic : Cert.algebraic_UkvDxKernelIdeal_UkvDxReferenceIdeal := by
  intro m g m' g' hpre hagree
  refine ⟨out m, kernel_run m g, ?_⟩
  refine (θ_run Cert.UkvDxReferenceIdeal.defs _ _).mono (fun r h c => ?_) (Cert.UkvDxReferenceIdeal.Value.run m' g')
  obtain ⟨g0, g1⟩ := hagree c
  refine ⟨(h c).1.trans ?_, (h c).2⟩
  rw [g0, g1]
  rfl

end

section
open Cert.UkvDxReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h c).2, sem_eq_zero_of_no_sems rfl _⟩) (Cert.UkvDxReferenceIdeal.Value.run m g)

end

end Cert.UkvDx
end
-- ==== Proof.FfnLn.lean ====
/-
  The backward pass of the norm after a feed-forward layer: the kernel's rows of the input's gradient are the reference's, and its tiles'
  sums of the gain's and the offset's gradients add up to the reference's sums over all rows.
-/
module

public import proofs.«01_k».proof.Defs
public import proofs.«01_k».proof.Proof.Gen.FfnLnKernelIdeal.Frame
public import proofs.«01_k».proof.Proof.Gen.FfnLnReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.FfnLn

open Idealize.ShloMosaic Idealize.ShloMosaic.TcCoe Idealize.SL.Sem
open Idealize.ShloMosaic.Pointwise

section
open FfnLnReferenceIdeal FfnLnReferenceIdeal.Gen

/-- The reference's arrays. -/
abbrev Rows := FVec Ideal S8192x1024 .f32
abbrev Col := FVec Ideal S8192x1 .f32
abbrev Vec1 := FVec Ideal S1024 .f32

/-- The number of the float word `w`, for every entry and for every row. -/
abbrev lit (w : BitVec 32) : Rows := broadcastInDim S8192x1024 ![] bcast_S_S8192x1024 (constant S_ .f32 w)
abbrev litc (w : BitVec 32) : Col := broadcastInDim S8192x1 ![] bcast_S_S8192x1 (constant S_ .f32 w)

/-- Zero, where a sum begins. -/
abbrev zero : FVec Ideal S_ .f32 := constant S_ .f32 0x00000000#32

/-- The mean of every row. -/
abbrev mean (Z : Rows) : Col :=
  Host.divf (broadcastInDim S8192x1 ![0] bcast_S8192_S8192x1_0 (Host.reduceAdd Z zero reducesTo_S8192x1024_S8192_d1 h_S_)) (litc 0x44800000#32)

/-- A number per row, along the row; a vector, down the columns. -/
abbrev along (Z : Col) : Rows := broadcastInDim S8192x1024 ![0, 1] bcast_S8192x1_S8192x1024_0_1 Z
abbrev cols (G : Vec1) : Rows :=
  broadcastInDim S8192x1024 ![0, 1] bcast_S1x1024_S8192x1024_0_1 (broadcastInDim S1x1024 ![1] bcast_S1024_S1x1024_1 G)

/-- The rows less their means, the variance with the norm's small number, and one over its root. -/
abbrev cent (Z : Rows) : Rows := subf Z (along (mean Z))
abbrev var (Z : Rows) : Col := addf (mean (mulf (cent Z) (cent Z))) (litc 0x3727C5AC#32)
abbrev root (Z : Rows) : Col := Host.rsqrt (var Z)

/-- The sum of every row. -/
abbrev total (Z : Rows) : Col := shapeCast S8192x1 (Host.reduceAdd Z zero reducesTo_S8192x1024_S8192_d1 h_S_) shapeCasts_S8192_S8192x1

/-- A gradient of a row's mean, spread over the row. -/
abbrev spread (C : Col) : Rows :=
  broadcastInDim S8192x1024 ![0] bcast_S8192_S8192x1024_0
    (Host.reduceAdd (Host.divf C (litc 0x44800000#32)) zero reducesTo_S8192x1_S8192_d1 h_S_)

/-- The gradient of the output, and the same times the gain. -/
abbrev same (D : Rows) : Rows := shapeCast S8192x1024 D shapeCasts_S8192x1024_S8192x1024
abbrev gained (D : Rows) (G : Vec1) : Rows := mulf (same D) (cols G)

/-- What the gradient of a row gets through the row itself and through the variance. -/
abbrev self (Z D : Rows) (G : Vec1) : Rows := mulf (gained D G) (along (root Z))
abbrev through (Z D : Rows) (G : Vec1) : Rows :=
  mulf (spread (mulf (total (mulf (cent Z) (gained D G))) (mulf (litc 0xBF000000#32) (Host.divf (root Z) (var Z)))))
    (mulf (lit 0x40000000#32) (cent Z))

/-- The gradient of the norm's input. -/
abbrev dz (Z D : Rows) (G : Vec1) : Rows :=
  addf (addf (self Z D G) (through Z D G)) (spread (addf (total (Host.negf (self Z D G))) (total (Host.negf (through Z D G)))))

/-- The gradient that goes on, rounded. -/
abbrev toHalf (A : Rows) : FVec Ideal S8192x1024 .bf16 := truncf .bf16 (mulf (lit 0x3F000000#32) A) bitsLt_bf16_f32
abbrev dzs (Z D : Rows) (G : Vec1) : FVec Ideal S8192x1024 .bf16 := toHalf (dz Z D G)

/-- The sums down the columns. -/
abbrev down (Z : Rows) : Vec1 :=
  Host.reduceAdd (shapeCast S1x1024 (Host.reduceAdd Z zero reducesTo_S8192x1024_S1024_d0 h_S_) shapeCasts_S1024_S1x1024) zero
    reducesTo_S1x1024_S1024_d0 h_S_

/-- The gradients of the gain and of the offset. -/
abbrev dg (Z D : Rows) : Vec1 := down (mulf (mulf (cent Z) (along (root Z))) (same D))
abbrev db (D : Rows) : Vec1 := down D

end

section
open Cert.FfnLnKernelIdeal Cert.FfnLnKernelIdeal.Gen

variable (m : (ℓ : Loc nD τ sig) → Buf (Elt Ideal) ℓ)

/-- The arguments, by their shapes. -/
abbrev aZ (c : Dev nD) : Vec Ideal S8192x1024 .f32 := m ((c.tc : Thread nD τ).loc main_arg0)
abbrev aG (c : Dev nD) : Vec Ideal S1024 .f32 := m ((c.tc : Thread nD τ).loc main_arg1)
abbrev aD (c : Dev nD) : Vec Ideal S8192x1024 .f32 := m ((c.tc : Thread nD τ).loc main_arg3)

/-- Where the windows' blocks lie. -/
theorem idx : ∀ t : Fin cfg0.N, win0_0.index t = ![t.val, 0] ∧ win0_1.index t = ![t.val, 0] ∧ win0_2.index t = ![0, 0]
    ∧ win0_4.index t = ![t.val, 0] ∧ win0_5.index t = ![t.val, 0] ∧ win0_6.index t = ![0, 0] ∧ win0_7.index t = ![0, 0] :=
  (by decide +kernel : ∀ t : Fin grid0.N, _)

/-- The gradient of the input on a block, at an entry. -/
theorem dz_at (Z D : Rows) (G : Vec1) (x0 x1 : Vec Ideal S512x1024 .f32) (x2 : Vec Ideal S1x1024 .f32) (p : Fin 512) (q : Fin 1024) (r : Fin 8192)
    (h0 : ∀ k : Fin 1024, (x0 (ix2 p k) : EReal) = Z (ix2 r k)) (h1 : ∀ k : Fin 1024, (x1 (ix2 p k) : EReal) = D (ix2 r k))
    (h2 : ∀ k : Fin 1024, (x2 (ix2 0 k) : EReal) = G (ix1 k)) :
    (k0_pay1 (k0_pay7 x0) (k0_pay15 x0 x1 x2) (k0_pay16 x0 x1 x2) (k0_pay17 (F := Ideal)) (ix2 p q) : EReal) = dz Z D G (ix2 r q) := by
  pointwise [k0_pay1, k0_pay7, k0_pay15, k0_pay16, k0_pay17, k0_pay14, k0_pay11, k0_pay10, k0_pay9, k0_pay8, k0_pay6, k0_pay5, dz, self,
    through, gained, same, spread, total, root, var, cent, along, cols, mean, lit, litc, zero]
  simp only [h0, h1, h2, zero_sub]

/-- The rounded gradient on a block, at an entry. -/
theorem dzs_at (A : Rows) (v12 v39 : FVec Ideal S512x1024 .f32) (v40 : FVec Ideal S512x1 .f32) (v41 : FVec Ideal S512x1024 .f32)
    (y : S512x1024.Idx) (i : S8192x1024.Idx) (h : (k0_pay1 v12 v39 v40 v41 y : EReal) = A i) :
    (k0_pay2 v12 v39 v40 v41 y : EReal) = toHalf A i := by
  pointwise [k0_pay2, toHalf, lit]
  rw [h]

/-- A row's entry under the norm, before the gain. -/
def hat (z : Fin 1024 → EReal) (q : Fin 1024) : EReal :=
  (z q - Ideal.div (∑ x, z x) (Ideal.ofBits FTy.f32 0x44800000#32))
    * Ideal.rsqrt (Ideal.div (∑ x, (z x - Ideal.div (∑ x, z x) (Ideal.ofBits FTy.f32 0x44800000#32))
        * (z x - Ideal.div (∑ x, z x) (Ideal.ofBits FTy.f32 0x44800000#32))) (Ideal.ofBits FTy.f32 0x44800000#32)
      + Ideal.ofBits FTy.f32 0x3727C5AC#32)

/-- One tile's sum for the gain, and a later tile's. -/
theorem gain_first (x0 x1 : Vec Ideal S512x1024 .f32) (j : S1x1024.Idx) :
    (k0_pay13 x0 x1 j : EReal) = 0 + ∑ k : Fin 512, hat (fun x => x0 (ix2 k x)) (j 1) * (x1 (ix2 k (j 1)) : EReal) := by
  unfold hat
  pointwise [k0_pay13, k0_pay11, k0_pay10, k0_pay9, k0_pay8, k0_pay6, k0_pay5]

theorem gain_next (x0 x1 : Vec Ideal S512x1024 .f32) (a : Vec Ideal S1x1024 .f32) (j : S1x1024.Idx) :
    (k0_pay3 (k0_pay13 x0 x1) a j : EReal) = (a j : EReal) + ∑ k : Fin 512, hat (fun x => x0 (ix2 k x)) (j 1) * (x1 (ix2 k (j 1)) : EReal) := by
  have h := gain_first x0 x1 j
  generalize k0_pay13 x0 x1 = v at h ⊢
  rw [zero_add] at h
  rw [← h]
  pointwise [k0_pay3]

/-- One tile's sum for the offset, and a later tile's. -/
theorem off_first (x1 : Vec Ideal S512x1024 .f32) (j : S1x1024.Idx) :
    (k0_pay12 x1 j : EReal) = 0 + ∑ k : Fin 512, (x1 (ix2 k (j 1)) : EReal) := by
  pointwise [k0_pay12]

theorem off_next (x1 : Vec Ideal S512x1024 .f32) (a : Vec Ideal S1x1024 .f32) (j : S1x1024.Idx) :
    (k0_pay4 (k0_pay12 x1) a j : EReal) = (a j : EReal) + ∑ k : Fin 512, (x1 (ix2 k (j 1)) : EReal) := by
  have h := off_first x1 j
  generalize k0_pay12 x1 = v at h ⊢
  rw [zero_add] at h
  rw [← h]
  pointwise [k0_pay4]

/-- The gain, as one row. -/
theorem host_gain (c : Dev nD) (k : Fin 1024) : ((V m c main_v0 : Vec Ideal S1x1024 .f32) (ix2 0 k) : EReal) = aG m c (ix1 k) := by
  unfold V V0
  simp only [hostOps0, List.flatten_cons, List.flatten_nil, List.cons_append, List.nil_append, List.append_nil]
  after_results_simp
  pointwise

/-- What the windows of the rows and of the gain hold at a step. -/
theorem blk_z (c : Dev nD) (t : Fin cfg0.N) (p : Fin 512) (r : Fin 8192) (h : r.val = t.val * 512 + p.val) (k : Fin 1024) :
    ((iblk m c 0 t : Vec Ideal S512x1024 .f32) (ix2 p k) : EReal) = aZ m c (ix2 r k) :=
  Eq.trans (by blk_ext [iblk, idx t]) (congrFun (V_main_arg0 m c) _)

theorem blk_d (c : Dev nD) (t : Fin cfg0.N) (p : Fin 512) (r : Fin 8192) (h : r.val = t.val * 512 + p.val) (k : Fin 1024) :
    ((iblk m c 1 t : Vec Ideal S512x1024 .f32) (ix2 p k) : EReal) = aD m c (ix2 r k) :=
  Eq.trans (by blk_ext [iblk, idx t]) (congrFun (V_main_arg3 m c) _)

theorem blk_g (c : Dev nD) (t : Fin cfg0.N) (k : Fin 1024) :
    ((iblk m c 2 t : Vec Ideal S1x1024 .f32) (ix2 0 k) : EReal) = aG m c (ix1 k) :=
  Eq.trans (by blk_ext [iblk, idx t]) (host_gain m c k)

/-- The gradient of the input that a step leaves. -/
theorem point_dz (c : Dev nD) (t : Fin cfg0.N) (y : S512x1024.Idx) (i : S8192x1024.Idx) (hr : (i 0).val = t.val * 512 + (y 0).val) (hi : y 1 = i 1) :
    ((outsAt0 m c t.val t.isLt).1 y : EReal) = dz (aZ m c) (aD m c) (aG m c) i
      ∧ ((outsAt0 m c t.val t.isLt).2.1 y : EReal) = dzs (aZ m c) (aD m c) (aG m c) i := by
  have hN : t.val < 16 := lt_of_lt_of_eq t.isLt N_0
  have key := dz_at (aZ m c) (aD m c) (aG m c) (iblk m c 0 t) (iblk m c 1 t) (iblk m c 2 t) (y 0) (y 1) (i 0)
    (blk_z m c t (y 0) (i 0) hr) (blk_d m c t (y 0) (i 0) hr) (blk_g m c t)
  rw [← eq_ix2 y, show (ix2 (i 0) (y 1) : S8192x1024.Idx) = i by rw [hi]; exact (eq_ix2 i).symm] at key
  by_cases h : t.val % 16 = 0
  · rw [outsAt0_A m c t h (by omega)]
    constructor
    · frame_out
      exact key
    · frame_out
      exact dzs_at _ _ _ _ _ y i key
  · rw [outsAt0_B m c t h (by omega)]
    constructor
    · frame_out
      exact key
    · frame_out
      exact dzs_at _ _ _ _ _ y i key

/-- The two arrays of rows after the call. -/
theorem final_dz (c : Dev nD) : (dats m 0 c).arrAt 4 cfg0.N = dz (aZ m c) (aD m c) (aG m c) := by
  refine (dats m 0 c).arrAt_eq_of_covers 4 _ (by decide +kernel) fun t hf y => ?_
  rw [after0_4]
  exact (point_dz m c t y _ (by blk_simp [idx t] <;> try omega) (Fin.ext (by blk_simp [idx t] <;> try omega))).1

theorem final_dzs (c : Dev nD) : (dats m 0 c).arrAt 5 cfg0.N = dzs (aZ m c) (aD m c) (aG m c) := by
  refine (dats m 0 c).arrAt_eq_of_covers 5 _ (by decide +kernel) fun t hf y => ?_
  rw [after0_5]
  exact (point_dz m c t y _ (by blk_simp [idx t] <;> try omega) (Fin.ext (by blk_simp [idx t] <;> try omega))).2

/-- The sums over all rows, as one row. -/
def gains (c : Dev nD) : Vec Ideal S1x1024 .f32 := fun i =>
  (∑ k : Fin 8192, hat (fun x => aZ m c (ix2 k x)) (i 1) * (aD m c (ix2 k (i 1)) : EReal) : EReal)
def offs (c : Dev nD) : Vec Ideal S1x1024 .f32 := fun i => (∑ k : Fin 8192, (aD m c (ix2 k (i 1)) : EReal) : EReal)

/-- What the accumulators hold after the last step. -/
theorem acc_gain (c : Dev nD) (t : Fin cfg0.N) (ht : t.val % 16 = 15) (j : S1x1024.Idx) :
    ((outsAt0 m c t.val t.isLt).2.2.1 j : EReal) = gains m c j := by
  rw [Pipeline.eq_sum_fin_of_reset_step_apply_of_flush (fun n h => (outsAt0 m c n h).2.2.1) 16 (fun _ => 0) _
    (fun t h j => by
      have hN : t.val < 16 := lt_of_lt_of_eq t.isLt N_0
      rw [outsAt0_A m c t h (by omega)]; frame_out; exact gain_first _ _ j)
    (fun t h j => by rw [outsAt0_B m c t h (by omega)]; frame_out; exact gain_next _ _ _ j)
    t ht j, zero_add]
  unfold gains
  have hN : t.val < 16 := lt_of_lt_of_eq t.isLt N_0
  refine Fin.sum_mul_add_congr fun s k hl => ?_
  exact congrArg₂ (· * ·) (congrArg (fun f => hat f (j 1)) (funext fun x => blk_z m c ⟨_, Pipeline.run_point_lt_of_flush t ht s⟩ k _ (by dsimp only; omega) x))
    (blk_d m c ⟨_, Pipeline.run_point_lt_of_flush t ht s⟩ k _ (by dsimp only; omega) (j 1))

theorem acc_off (c : Dev nD) (t : Fin cfg0.N) (ht : t.val % 16 = 15) (j : S1x1024.Idx) :
    ((outsAt0 m c t.val t.isLt).2.2.2 j : EReal) = offs m c j := by
  rw [Pipeline.eq_sum_fin_of_reset_step_apply_of_flush (fun n h => (outsAt0 m c n h).2.2.2) 16 (fun _ => 0) _
    (fun t h j => by
      have hN : t.val < 16 := lt_of_lt_of_eq t.isLt N_0
      rw [outsAt0_A m c t h (by omega)]; frame_out; exact off_first _ j)
    (fun t h j => by rw [outsAt0_B m c t h (by omega)]; frame_out; exact off_next _ _ j)
    t ht j, zero_add]
  unfold offs
  have hN : t.val < 16 := lt_of_lt_of_eq t.isLt N_0
  refine Fin.sum_mul_add_congr fun s k hl => ?_
  exact blk_d m c ⟨_, Pipeline.run_point_lt_of_flush t ht s⟩ k _ (by dsimp only; omega) (j 1)

/-- The two rows of sums after the call. -/
theorem final_gain (c : Dev nD) : (dats m 0 c).arrAt 6 cfg0.N = gains m c := by
  refine (dats m 0 c).arrAt_eq_of_covers 6 _ (by decide +kernel) fun t hf y => ?_
  rw [after0_6]
  refine (acc_gain m c t ((flush0_6 t).mp hf) y).trans (congrArg (gains m c) ?_)
  blk_ext [idx t]

theorem final_off (c : Dev nD) : (dats m 0 c).arrAt 7 cfg0.N = offs m c := by
  refine (dats m 0 c).arrAt_eq_of_covers 7 _ (by decide +kernel) fun t hf y => ?_
  rw [after0_7]
  refine (acc_off m c t ((flush0_7 t).mp hf) y).trans (congrArg (offs m c) ?_)
  blk_ext [idx t]

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call an output's array holds what the write-backs fold to. -/
theorem left_arr (c : Dev nD) (w : Fin cfg0.W) : left m c (Proc.devRef .tc (Pipeline.arrRef spec0 w)) = (dats m 0 c).arrAt w cfg0.N :=
  Pipeline.withArrays_arr spec0 arr_inj c (V0 m c) (fun w => (dats m 0 c).arrAt w (cfgs 0).N) w

/-- The host code's reshapes of the two rows of sums. -/
theorem tail_at (c : Dev nD) (X Y : Vec Ideal S1x1024 .f32) (hX : left m c (Proc.devRef .tc main_v2_2) = X) (hY : left m c (Proc.devRef .tc main_v2_3) = Y)
    (q : Fin 1024) :
    ((Pipeline.afterTail₀ cfgs (dats m) 0 (V0 m) [hostOps1] c main_v3 : Vec Ideal S1024 .f32) (ix1 q) : EReal) = X (ix2 0 q)
      ∧ ((Pipeline.afterTail₀ cfgs (dats m) 0 (V0 m) [hostOps1] c main_v4 : Vec Ideal S1024 .f32) (ix1 q) : EReal) = Y (ix2 0 q) := by
  subst hX hY
  show ((StableHlo.after [hostOps1].flatten (left m c) (Proc.devRef .tc main_v3) : Vec Ideal S1024 .f32) (ix1 q) : EReal) = _
    ∧ ((StableHlo.after [hostOps1].flatten (left m c) (Proc.devRef .tc main_v4) : Vec Ideal S1024 .f32) (ix1 q) : EReal) = _
  generalize left m c = w
  simp only [hostOps1, List.flatten_cons, List.flatten_nil, List.cons_append, List.nil_append, List.append_nil]
  constructor <;> after_results_simp <;> pointwise

/-- The reference's sums, by entries. -/
theorem dg_at (Z D : Rows) (q : Fin 1024) :
    (dg Z D (ix1 q) : EReal) = ∑ k : Fin 8192, hat (fun x => Z (ix2 k x)) q * (D (ix2 k q) : EReal) := by
  unfold hat
  pointwise [dg, down, same, root, var, cent, along, mean, litc, zero]
  exact Fin.sum_univ_one _

theorem db_at (D : Rows) (q : Fin 1024) : (db D (ix1 q) : EReal) = ∑ k : Fin 8192, (D (ix2 k q) : EReal) := by
  pointwise [db, down, zero]
  exact Fin.sum_univ_one _

/-- The gradients of the gain and of the offset, as the host code leaves them. -/
theorem tail_gain (c : Dev nD) : Pipeline.afterTail₀ cfgs (dats m) 0 (V0 m) [hostOps1] c main_v3 = dg (aZ m c) (aD m c) := by
  funext q
  rw [eq_ix1 q]
  exact (tail_at m c _ _ ((left_arr m c 6).trans (final_gain m c)) rfl (q 0)).1.trans (dg_at (aZ m c) (aD m c) (q 0)).symm

theorem tail_off (c : Dev nD) : Pipeline.afterTail₀ cfgs (dats m) 0 (V0 m) [hostOps1] c main_v4 = db (aD m c) := by
  funext q
  rw [eq_ix1 q]
  exact (tail_at m c _ _ rfl ((left_arr m c 7).trans (final_off m c)) (q 0)).2.trans (db_at (aD m c) (q 0)).symm

/-- A run of the kernel leaves the four gradients in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = dz (aZ m c) (aD m c) (aG m c)
      ∧ r.2.mem ((c.tc : Thread nD τ).loc main_v2_1) = dzs (aZ m c) (aD m c) (aG m c)
      ∧ r.2.mem ((c.tc : Thread nD τ).loc main_v3) = dg (aZ m c) (aD m c)
      ∧ r.2.mem ((c.tc : Thread nD τ).loc main_v4) = db (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 4).trans (final_dz m c), ((h.2 c).1 5).trans (final_dzs m c),
    ((h.2 c).2 main_v3 (by decide)).trans (tail_gain m c), ((h.2 c).2 main_v4 (by decide)).trans (tail_off m c), h.1 c⟩)
    (θ_run_and (unchanged m g) (run_main m g))

/-- The value claim. -/
theorem algebraic : Cert.algebraic_FfnLnKernelIdeal_FfnLnReferenceIdeal := by
  intro m g m' g' hpre hagree
  refine ⟨fun c => dz (aZ m c) (aD m c) (aG m c), fun c => dzs (aZ m c) (aD m c) (aG m c), fun c => dg (aZ m c) (aD m c),
    fun c => db (aD m c), kernel_run m g, ?_⟩
  refine (θ_run Cert.FfnLnReferenceIdeal.defs _ _).mono (fun r h c => ?_) (Cert.FfnLnReferenceIdeal.Value.run m' g')
  obtain ⟨g0, g1, g2, g3⟩ := hagree c
  refine ⟨(h c).1.trans ?_, (h c).2.1.trans ?_, (h c).2.2.1.trans ?_, (h c).2.2.2.1.trans ?_, (h c).2.2.2.2⟩
  · unfold Cert.FfnLnReferenceIdeal.Value.res_main_v62
    rw [g0, g1, g3]
    rfl
  · unfold Cert.FfnLnReferenceIdeal.Value.res_main_v65
    rw [g0, g1, g3]
    rfl
  · rw [g0, g3]
    rfl
  · rw [g3]

end

section
open Cert.FfnLnReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2.2, sem_eq_zero_of_no_sems rfl _⟩) (Cert.FfnLnReferenceIdeal.Value.run m g)

end

end Cert.FfnLn
end
-- ==== Proof.MixLn.lean ====
/-
  The backward pass of the norm after a mixer: as for the norm after a feed-forward layer, the kernel's rows of the input's gradient are the reference's, and its tiles'
  sums of the gain's and the offset's gradients add up to the reference's sums over all rows.
-/
module

public import proofs.«01_k».proof.Defs
public import proofs.«01_k».proof.Proof.FfnLn
public import proofs.«01_k».proof.Proof.Gen.MixLnKernelIdeal.Frame
public import proofs.«01_k».proof.Proof.Gen.MixLnReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.MixLn

open Idealize.ShloMosaic Idealize.ShloMosaic.TcCoe Idealize.SL.Sem
open Idealize.ShloMosaic.Pointwise

open FfnLn (Rows Vec1 dz dg db hat dg_at db_at)

/-- The gradient that goes on, rounded. -/
abbrev dzs (Z D : Rows) (G : Vec1) : FVec Ideal MixLnReferenceIdeal.S8192x1024 .bf16 := truncf .bf16 (dz Z D G) MixLnReferenceIdeal.Gen.bitsLt_bf16_f32

section
open Cert.MixLnKernelIdeal Cert.MixLnKernelIdeal.Gen

variable (m : (ℓ : Loc nD τ sig) → Buf (Elt Ideal) ℓ)

/-- The arguments, by their shapes. -/
abbrev aZ (c : Dev nD) : Vec Ideal S8192x1024 .f32 := m ((c.tc : Thread nD τ).loc main_arg0)
abbrev aG (c : Dev nD) : Vec Ideal S1024 .f32 := m ((c.tc : Thread nD τ).loc main_arg1)
abbrev aD (c : Dev nD) : Vec Ideal S8192x1024 .f32 := m ((c.tc : Thread nD τ).loc main_arg3)

/-- Where the windows' blocks lie. -/
theorem idx : ∀ t : Fin cfg0.N, win0_0.index t = ![t.val, 0] ∧ win0_1.index t = ![t.val, 0] ∧ win0_2.index t = ![0, 0]
    ∧ win0_4.index t = ![t.val, 0] ∧ win0_5.index t = ![t.val, 0] ∧ win0_6.index t = ![0, 0] ∧ win0_7.index t = ![0, 0] :=
  (by decide +kernel : ∀ t : Fin grid0.N, _)

/-- The rounded gradient on a block, at an entry. -/
theorem dzs_at (A : Rows) (v12 v39 : FVec Ideal S512x1024 .f32) (v40 : FVec Ideal S512x1 .f32) (v41 : FVec Ideal S512x1024 .f32)
    (y : S512x1024.Idx) (i : S8192x1024.Idx) (h : (k0_pay1 v12 v39 v40 v41 y : EReal) = A i) : (k0_pay2 v12 v39 v40 v41 y : EReal) = A i := by
  pointwise [k0_pay2]
  exact h

/-- The gain, as one row. -/
theorem host_gain (c : Dev nD) (k : Fin 1024) : ((V m c main_v0 : Vec Ideal S1x1024 .f32) (ix2 0 k) : EReal) = aG m c (ix1 k) := by
  unfold V V0
  simp only [hostOps0, List.flatten_cons, List.flatten_nil, List.cons_append, List.nil_append, List.append_nil]
  after_results_simp
  pointwise

/-- What the windows of the rows and of the gain hold at a step. -/
theorem blk_z (c : Dev nD) (t : Fin cfg0.N) (p : Fin 512) (r : Fin 8192) (h : r.val = t.val * 512 + p.val) (k : Fin 1024) :
    ((iblk m c 0 t : Vec Ideal S512x1024 .f32) (ix2 p k) : EReal) = aZ m c (ix2 r k) :=
  Eq.trans (by blk_ext [iblk, idx t]) (congrFun (V_main_arg0 m c) _)

theorem blk_d (c : Dev nD) (t : Fin cfg0.N) (p : Fin 512) (r : Fin 8192) (h : r.val = t.val * 512 + p.val) (k : Fin 1024) :
    ((iblk m c 1 t : Vec Ideal S512x1024 .f32) (ix2 p k) : EReal) = aD m c (ix2 r k) :=
  Eq.trans (by blk_ext [iblk, idx t]) (congrFun (V_main_arg3 m c) _)

theorem blk_g (c : Dev nD) (t : Fin cfg0.N) (k : Fin 1024) :
    ((iblk m c 2 t : Vec Ideal S1x1024 .f32) (ix2 0 k) : EReal) = aG m c (ix1 k) :=
  Eq.trans (by blk_ext [iblk, idx t]) (host_gain m c k)

/-- The gradient of the input that a step leaves. -/
theorem point_dz (c : Dev nD) (t : Fin cfg0.N) (y : S512x1024.Idx) (i : S8192x1024.Idx) (hr : (i 0).val = t.val * 512 + (y 0).val) (hi : y 1 = i 1) :
    ((outsAt0 m c t.val t.isLt).1 y : EReal) = dz (aZ m c) (aD m c) (aG m c) i
      ∧ ((outsAt0 m c t.val t.isLt).2.1 y : EReal) = dzs (aZ m c) (aD m c) (aG m c) i := by
  have hN : t.val < 16 := lt_of_lt_of_eq t.isLt N_0
  have key := FfnLn.dz_at (aZ m c) (aD m c) (aG m c) (iblk m c 0 t) (iblk m c 1 t) (iblk m c 2 t) (y 0) (y 1) (i 0)
    (blk_z m c t (y 0) (i 0) hr) (blk_d m c t (y 0) (i 0) hr) (blk_g m c t)
  rw [← eq_ix2 y, show (ix2 (i 0) (y 1) : S8192x1024.Idx) = i by rw [hi]; exact (eq_ix2 i).symm] at key
  by_cases h : t.val % 16 = 0
  · rw [outsAt0_A m c t h (by omega)]
    constructor
    · frame_out
      exact key
    · frame_out
      exact dzs_at _ _ _ _ _ y i key
  · rw [outsAt0_B m c t h (by omega)]
    constructor
    · frame_out
      exact key
    · frame_out
      exact dzs_at _ _ _ _ _ y i key

/-- The two arrays of rows after the call. -/
theorem final_dz (c : Dev nD) : (dats m 0 c).arrAt 4 cfg0.N = dz (aZ m c) (aD m c) (aG m c) := by
  refine (dats m 0 c).arrAt_eq_of_covers 4 _ (by decide +kernel) fun t hf y => ?_
  rw [after0_4]
  exact (point_dz m c t y _ (by blk_simp [idx t] <;> try omega) (Fin.ext (by blk_simp [idx t] <;> try omega))).1

theorem final_dzs (c : Dev nD) : (dats m 0 c).arrAt 5 cfg0.N = dzs (aZ m c) (aD m c) (aG m c) := by
  refine (dats m 0 c).arrAt_eq_of_covers 5 _ (by decide +kernel) fun t hf y => ?_
  rw [after0_5]
  exact (point_dz m c t y _ (by blk_simp [idx t] <;> try omega) (Fin.ext (by blk_simp [idx t] <;> try omega))).2

/-- The sums over all rows, as one row. -/
def gains (c : Dev nD) : Vec Ideal S1x1024 .f32 := fun i =>
  (∑ k : Fin 8192, hat (fun x => aZ m c (ix2 k x)) (i 1) * (aD m c (ix2 k (i 1)) : EReal) : EReal)
def offs (c : Dev nD) : Vec Ideal S1x1024 .f32 := fun i => (∑ k : Fin 8192, (aD m c (ix2 k (i 1)) : EReal) : EReal)

/-- What the accumulators hold after the last step. -/
theorem acc_gain (c : Dev nD) (t : Fin cfg0.N) (ht : t.val % 16 = 15) (j : S1x1024.Idx) :
    ((outsAt0 m c t.val t.isLt).2.2.1 j : EReal) = gains m c j := by
  rw [Pipeline.eq_sum_fin_of_reset_step_apply_of_flush (fun n h => (outsAt0 m c n h).2.2.1) 16 (fun _ => 0) _
    (fun t h j => by
      have hN : t.val < 16 := lt_of_lt_of_eq t.isLt N_0
      rw [outsAt0_A m c t h (by omega)]; frame_out; exact FfnLn.gain_first _ _ j)
    (fun t h j => by rw [outsAt0_B m c t h (by omega)]; frame_out; exact FfnLn.gain_next _ _ _ j)
    t ht j, zero_add]
  unfold gains
  have hN : t.val < 16 := lt_of_lt_of_eq t.isLt N_0
  refine Fin.sum_mul_add_congr fun s k hl => ?_
  exact congrArg₂ (· * ·) (congrArg (fun f => hat f (j 1)) (funext fun x => blk_z m c ⟨_, Pipeline.run_point_lt_of_flush t ht s⟩ k _ (by dsimp only; omega) x))
    (blk_d m c ⟨_, Pipeline.run_point_lt_of_flush t ht s⟩ k _ (by dsimp only; omega) (j 1))

theorem acc_off (c : Dev nD) (t : Fin cfg0.N) (ht : t.val % 16 = 15) (j : S1x1024.Idx) :
    ((outsAt0 m c t.val t.isLt).2.2.2 j : EReal) = offs m c j := by
  rw [Pipeline.eq_sum_fin_of_reset_step_apply_of_flush (fun n h => (outsAt0 m c n h).2.2.2) 16 (fun _ => 0) _
    (fun t h j => by
      have hN : t.val < 16 := lt_of_lt_of_eq t.isLt N_0
      rw [outsAt0_A m c t h (by omega)]; frame_out; exact FfnLn.off_first _ j)
    (fun t h j => by rw [outsAt0_B m c t h (by omega)]; frame_out; exact FfnLn.off_next _ _ j)
    t ht j, zero_add]
  unfold offs
  have hN : t.val < 16 := lt_of_lt_of_eq t.isLt N_0
  refine Fin.sum_mul_add_congr fun s k hl => ?_
  exact blk_d m c ⟨_, Pipeline.run_point_lt_of_flush t ht s⟩ k _ (by dsimp only; omega) (j 1)

/-- The two rows of sums after the call. -/
theorem final_gain (c : Dev nD) : (dats m 0 c).arrAt 6 cfg0.N = gains m c := by
  refine (dats m 0 c).arrAt_eq_of_covers 6 _ (by decide +kernel) fun t hf y => ?_
  rw [after0_6]
  refine (acc_gain m c t ((flush0_6 t).mp hf) y).trans (congrArg (gains m c) ?_)
  blk_ext [idx t]

theorem final_off (c : Dev nD) : (dats m 0 c).arrAt 7 cfg0.N = offs m c := by
  refine (dats m 0 c).arrAt_eq_of_covers 7 _ (by decide +kernel) fun t hf y => ?_
  rw [after0_7]
  refine (acc_off m c t ((flush0_7 t).mp hf) y).trans (congrArg (offs m c) ?_)
  blk_ext [idx t]

/-- The buffers as the region leaves them. -/
def left (c : Dev nD) : Valuation τ sig (Elt Ideal) :=
  Pipeline.withArrays (cfgs 0).spec c (V0 m c) fun w => (dats m 0 c).arrAt w (cfgs 0).N

/-- The windows of the call read and write different arrays. -/
theorem arr_inj : Function.Injective (Pipeline.arrRef spec0) := by decide

/-- After the call an output's array holds what the write-backs fold to. -/
theorem left_arr (c : Dev nD) (w : Fin cfg0.W) : left m c (Proc.devRef .tc (Pipeline.arrRef spec0 w)) = (dats m 0 c).arrAt w cfg0.N :=
  Pipeline.withArrays_arr spec0 arr_inj c (V0 m c) (fun w => (dats m 0 c).arrAt w (cfgs 0).N) w

/-- The host code's reshapes of the two rows of sums. -/
theorem tail_at (c : Dev nD) (X Y : Vec Ideal S1x1024 .f32) (hX : left m c (Proc.devRef .tc main_v2_2) = X) (hY : left m c (Proc.devRef .tc main_v2_3) = Y)
    (q : Fin 1024) :
    ((Pipeline.afterTail₀ cfgs (dats m) 0 (V0 m) [hostOps1] c main_v3 : Vec Ideal S1024 .f32) (ix1 q) : EReal) = X (ix2 0 q)
      ∧ ((Pipeline.afterTail₀ cfgs (dats m) 0 (V0 m) [hostOps1] c main_v4 : Vec Ideal S1024 .f32) (ix1 q) : EReal) = Y (ix2 0 q) := by
  subst hX hY
  show ((StableHlo.after [hostOps1].flatten (left m c) (Proc.devRef .tc main_v3) : Vec Ideal S1024 .f32) (ix1 q) : EReal) = _
    ∧ ((StableHlo.after [hostOps1].flatten (left m c) (Proc.devRef .tc main_v4) : Vec Ideal S1024 .f32) (ix1 q) : EReal) = _
  generalize left m c = w
  simp only [hostOps1, List.flatten_cons, List.flatten_nil, List.cons_append, List.nil_append, List.append_nil]
  constructor <;> after_results_simp <;> pointwise

/-- The gradients of the gain and of the offset, as the host code leaves them. -/
theorem tail_gain (c : Dev nD) : Pipeline.afterTail₀ cfgs (dats m) 0 (V0 m) [hostOps1] c main_v3 = dg (aZ m c) (aD m c) := by
  funext q
  rw [eq_ix1 q]
  exact (tail_at m c _ _ ((left_arr m c 6).trans (final_gain m c)) rfl (q 0)).1.trans (dg_at (aZ m c) (aD m c) (q 0)).symm

theorem tail_off (c : Dev nD) : Pipeline.afterTail₀ cfgs (dats m) 0 (V0 m) [hostOps1] c main_v4 = db (aD m c) := by
  funext q
  rw [eq_ix1 q]
  exact (tail_at m c _ _ rfl ((left_arr m c 7).trans (final_off m c)) (q 0)).2.trans (db_at (aD m c) (q 0)).symm

/-- A run of the kernel leaves the four gradients in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = dz (aZ m c) (aD m c) (aG m c)
      ∧ r.2.mem ((c.tc : Thread nD τ).loc main_v2_1) = dzs (aZ m c) (aD m c) (aG m c)
      ∧ r.2.mem ((c.tc : Thread nD τ).loc main_v3) = dg (aZ m c) (aD m c)
      ∧ r.2.mem ((c.tc : Thread nD τ).loc main_v4) = db (aD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.2 c).1 4).trans (final_dz m c), ((h.2 c).1 5).trans (final_dzs m c),
    ((h.2 c).2 main_v3 (by decide)).trans (tail_gain m c), ((h.2 c).2 main_v4 (by decide)).trans (tail_off m c), h.1 c⟩)
    (θ_run_and (unchanged m g) (run_main m g))

/-- The value claim. -/
theorem algebraic : Cert.algebraic_MixLnKernelIdeal_MixLnReferenceIdeal := by
  intro m g m' g' hpre hagree
  refine ⟨fun c => dz (aZ m c) (aD m c) (aG m c), fun c => dzs (aZ m c) (aD m c) (aG m c), fun c => dg (aZ m c) (aD m c),
    fun c => db (aD m c), kernel_run m g, ?_⟩
  refine (θ_run Cert.MixLnReferenceIdeal.defs _ _).mono (fun r h c => ?_) (Cert.MixLnReferenceIdeal.Value.run m' g')
  obtain ⟨g0, g1, g2, g3⟩ := hagree c
  refine ⟨(h c).1.trans ?_, (h c).2.1.trans ?_, (h c).2.2.1.trans ?_, (h c).2.2.2.1.trans ?_, (h c).2.2.2.2⟩
  · unfold Cert.MixLnReferenceIdeal.Value.res_main_v62
    rw [g0, g1, g3]
    rfl
  · unfold Cert.MixLnReferenceIdeal.Value.res_main_v63
    rw [g0, g1, g3]
    rfl
  · rw [g0, g3]
    rfl
  · rw [g3]

end

section
open Cert.MixLnReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2.2, sem_eq_zero_of_no_sems rfl _⟩) (Cert.MixLnReferenceIdeal.Value.run m g)

end

end Cert.MixLn
end
-- ==== Proof.Prep.lean ====
/-
  The norms of the compressed queries, keys and values: the kernel reads them as columns of the placed array, the reference as columns
  of its own, and a row's norm is one expression.
-/
module

public import proofs.«01_k».proof.Defs
public import proofs.«01_k».proof.Proof.Gen.PrepKernelIdeal.Frame
public import proofs.«01_k».proof.Proof.Gen.PrepReferenceIdeal.Run
public import Idealize.ShloMosaic.Lib.Pipeline.ValueKit
public import Idealize.ShloMosaic.Lib.Pipeline.ReadBack
public import Idealize.ShloMosaic.Lib.Claim
public import Idealize.ShloMosaic.Adequacy

@[expose] public section

set_option maxRecDepth 16384

noncomputable section

namespace Cert.Prep

open Idealize.ShloMosaic Idealize.ShloMosaic.TcCoe Idealize.SL.Sem
open Idealize.ShloMosaic.Pointwise

/-- An entry of a row of `n` numbers under the norm with a gain. -/
def unit {n : ℕ} (w : BitVec 32) (z : Fin n → EReal) (g : EReal) (q : Fin n) : EReal :=
  z q * Ideal.rsqrt (Ideal.div (∑ x, z x * z x) (Ideal.ofBits FTy.f32 w) + Ideal.ofBits FTy.f32 0x358637BD#32) * g

section
open PrepReferenceIdeal PrepReferenceIdeal.Gen

/-- The reference's columns of the queries, and of the keys and values. -/
abbrev colsq (H : FVec Ideal S8192x1184 .f32) : FVec Ideal S8192x256 .f32 := extractStridedSlice S8192x256 ![0, 512] H slices_S8192x1184_S8192x256_0_512
abbrev colsk (H : FVec Ideal S8192x1184 .f32) : FVec Ideal S8192x128 .f32 := extractStridedSlice S8192x128 ![0, 768] H slices_S8192x1184_S8192x128_0_768

/-- The reference's two norms. -/
abbrev normq (H : FVec Ideal S8192x1184 .f32) (G : FVec Ideal S256 .f32) : FVec Ideal S8192x256 .bf16 :=
  truncf .bf16 (mulf (mulf (colsq H) (broadcastInDim S8192x256 ![0, 1] bcast_S8192x1_S8192x256_0_1 (Host.rsqrt (addf (Host.divf
    (broadcastInDim S8192x1 ![0] bcast_S8192_S8192x1_0 (Host.reduceAdd (mulf (colsq H) (colsq H)) (constant S_ .f32 0x00000000#32) reducesTo_S8192x256_S8192_d1 h_S_))
    (broadcastInDim S8192x1 ![] bcast_S_S8192x1 (constant S_ .f32 0x43800000#32))) (broadcastInDim S8192x1 ![] bcast_S_S8192x1 (constant S_ .f32 0x358637BD#32))))))
    (broadcastInDim S8192x256 ![0, 1] bcast_S1x256_S8192x256_0_1 (broadcastInDim S1x256 ![1] bcast_S256_S1x256_1 G))) bitsLt_bf16_f32
abbrev normk (H : FVec Ideal S8192x1184 .f32) (G : FVec Ideal S128 .f32) : FVec Ideal S8192x128 .bf16 :=
  truncf .bf16 (mulf (mulf (colsk H) (broadcastInDim S8192x128 ![0, 1] bcast_S8192x1_S8192x128_0_1 (Host.rsqrt (addf (Host.divf
    (broadcastInDim S8192x1 ![0] bcast_S8192_S8192x1_0 (Host.reduceAdd (mulf (colsk H) (colsk H)) (constant S_ .f32 0x00000000#32) reducesTo_S8192x128_S8192_d1 h_S_))
    (broadcastInDim S8192x1 ![] bcast_S_S8192x1 (constant S_ .f32 0x43000000#32))) (broadcastInDim S8192x1 ![] bcast_S_S8192x1 (constant S_ .f32 0x358637BD#32))))))
    (broadcastInDim S8192x128 ![0, 1] bcast_S1x128_S8192x128_0_1 (broadcastInDim S1x128 ![1] bcast_S128_S1x128_1 G))) bitsLt_bf16_f32

/-- The columns, by entries. -/
theorem colsq_at (H : FVec Ideal S8192x1184 .f32) (r : Fin 8192) (q : Fin 256) :
    (colsq H (ix2 r q) : EReal) = H (ix2 r (⟨512 + q.val, by omega⟩ : Fin 1184)) := by
  pointwise [colsq]
theorem colsk_at (H : FVec Ideal S8192x1184 .f32) (r : Fin 8192) (q : Fin 128) :
    (colsk H (ix2 r q) : EReal) = H (ix2 r (⟨768 + q.val, by omega⟩ : Fin 1184)) := by
  pointwise [colsk]

/-- The norms, by entries. -/
theorem normq_at (H : FVec Ideal S8192x1184 .f32) (G : FVec Ideal S256 .f32) (r : Fin 8192) (q : Fin 256) :
    (normq H G (ix2 r q) : EReal) = unit 0x43800000#32 (fun x => colsq H (ix2 r x)) (G (ix1 q)) q := by
  unfold unit normq
  generalize colsq H = Z
  pointwise
theorem normk_at (H : FVec Ideal S8192x1184 .f32) (G : FVec Ideal S128 .f32) (r : Fin 8192) (q : Fin 128) :
    (normk H G (ix2 r q) : EReal) = unit 0x43000000#32 (fun x => colsk H (ix2 r x)) (G (ix1 q)) q := by
  unfold unit normk
  generalize colsk H = Z
  pointwise

end

section
open Cert.PrepKernelIdeal Cert.PrepKernelIdeal.Gen

variable (m : (ℓ : Loc nD τ sig) → Buf (Elt Ideal) ℓ)

/-- The arguments, by their shapes. -/
abbrev aH (c : Dev nD) : Vec Ideal S8192x1184 .f32 := m ((c.tc : Thread nD τ).loc main_arg0)
abbrev aQ (c : Dev nD) : Vec Ideal S256 .f32 := m ((c.tc : Thread nD τ).loc main_arg1)
abbrev aK (c : Dev nD) : Vec Ideal S128 .f32 := m ((c.tc : Thread nD τ).loc main_arg2)

/-- Where the windows' blocks lie. -/
theorem idx : ∀ t : Fin cfg0.N, win0_0.index t = ![t.val, 2] ∧ win0_1.index t = ![t.val, 8] ∧ win0_2.index t = ![0, 0] ∧ win0_3.index t = ![0, 0]
    ∧ win0_4.index t = ![t.val, 0] ∧ win0_5.index t = ![t.val, 0] :=
  (by decide +kernel : ∀ t : Fin grid0.N, _)

/-- The kernel's two norms on a block, by entries. -/
theorem payq_at (x : Vec Ideal S512x256 .f32) (g : Vec Ideal S1x256 .f32) (p : Fin 512) (q : Fin 256) :
    (k0_pay1 x g (ix2 p q) : EReal) = unit 0x43800000#32 (fun k => x (ix2 p k)) (g (ix2 0 q)) q := by
  unfold unit
  pointwise [k0_pay1]
theorem payk_at (x : Vec Ideal S512x128 .f32) (g : Vec Ideal S1x128 .f32) (p : Fin 512) (q : Fin 128) :
    (k0_pay2 x g (ix2 p q) : EReal) = unit 0x43000000#32 (fun k => x (ix2 p k)) (g (ix2 0 q)) q := by
  unfold unit
  pointwise [k0_pay2]

/-- The placed columns that the call reads are the reference's. -/
theorem host_q (c : Dev nD) (r : Fin 8192) (q : Fin 256) :
    ((V m c main_v6 : Vec Ideal S8192x1408 .f32) (ix2 r (⟨512 + q.val, by omega⟩ : Fin 1408)) : EReal) = aH m c (ix2 r (⟨512 + q.val, by omega⟩ : Fin 1184)) := by
  unfold V
  simp only [hostOps0, List.flatten_cons, List.flatten_nil, List.cons_append, List.nil_append, List.append_nil]
  after_results_simp
  have hq := q.isLt
  pointwise
  split_ifs <;> try omega
  all_goals after_results_simp
  all_goals pointwise
theorem host_k (c : Dev nD) (r : Fin 8192) (q : Fin 128) :
    ((V m c main_v6 : Vec Ideal S8192x1408 .f32) (ix2 r (⟨1024 + q.val, by omega⟩ : Fin 1408)) : EReal) = aH m c (ix2 r (⟨768 + q.val, by omega⟩ : Fin 1184)) := by
  unfold V
  simp only [hostOps0, List.flatten_cons, List.flatten_nil, List.cons_append, List.nil_append, List.append_nil]
  after_results_simp
  have hq := q.isLt
  pointwise
  split_ifs <;> try omega
  all_goals after_results_simp
  all_goals pointwise
  all_goals exact congrArg (fun k => aH m c (ix2 r k)) (Fin.ext (show 768 + (1024 + q.val - 768 - 256) = 768 + q.val by omega))

/-- The gains, as rows. -/
theorem host_gq (c : Dev nD) (q : Fin 256) : ((V m c main_v7 : Vec Ideal S1x256 .f32) (ix2 0 q) : EReal) = aQ m c (ix1 q) := by
  unfold V
  simp only [hostOps0, List.flatten_cons, List.flatten_nil, List.cons_append, List.nil_append, List.append_nil]
  after_results_simp
  pointwise
theorem host_gk (c : Dev nD) (q : Fin 128) : ((V m c main_v8 : Vec Ideal S1x128 .f32) (ix2 0 q) : EReal) = aK m c (ix1 q) := by
  unfold V
  simp only [hostOps0, List.flatten_cons, List.flatten_nil, List.cons_append, List.nil_append, List.append_nil]
  after_results_simp
  pointwise

/-- What the two windows of the placed array hold at a step. -/
theorem blk_q (c : Dev nD) (t : Fin cfg0.N) (p : Fin 512) (r : Fin 8192) (h : r.val = t.val * 512 + p.val) (k : Fin 256) :
    ((X0_0 m c t : Vec Ideal S512x256 .f32) (ix2 p k) : EReal) = colsq (aH m c) (ix2 r k) := by
  refine Eq.trans ?_ ((host_q m c r k).trans (colsq_at (aH m c) r k).symm)
  unfold X0_0 Pipeline.Window.fill
  rw [dif_pos (moved0_0 t _)]
  blk_ext [iblk, idx t]
theorem blk_k (c : Dev nD) (t : Fin cfg0.N) (p : Fin 512) (r : Fin 8192) (h : r.val = t.val * 512 + p.val) (k : Fin 128) :
    ((iblk m c 1 t : Vec Ideal S512x128 .f32) (ix2 p k) : EReal) = colsk (aH m c) (ix2 r k) := by
  refine Eq.trans ?_ ((host_k m c r k).trans (colsk_at (aH m c) r k).symm)
  blk_ext [iblk, idx t]

/-- The two arrays after the call. -/
theorem final_q (c : Dev nD) : (dats m 0 c).arrAt 4 cfg0.N = normq (aH m c) (aQ m c) := by
  refine (dats m 0 c).arrAt_eq_of_covers 4 _ (by decide +kernel) fun t hf y => ?_
  have hN : t.val < 16 := lt_of_lt_of_eq t.isLt N_0
  rw [after0_4]
  unfold outsAt0
  frame_out
  have hr : (((cfg0.win 4).blk t).view.emb y 0 : Fin 8192).val = t.val * 512 + (y 0).val := by blk_simp [idx t] <;> try omega
  have hi : (((cfg0.win 4).blk t).view.emb y 1 : Fin 256) = y 1 := Fin.ext (by blk_simp [idx t] <;> try omega)
  generalize ((cfg0.win 4).blk t).view.emb y = i at hr hi
  refine (congrArg _ (eq_ix2 y)).trans ((payq_at _ _ (y 0) (y 1)).trans (Eq.trans ?_ (congrArg _ (eq_ix2 i)).symm))
  refine Eq.trans ?_ (normq_at _ _ (i 0) (i 1)).symm
  have e1 : (fun k => (X0_0 m c t : Vec Ideal S512x256 .f32) (ix2 (y 0) k) : Fin 256 → EReal) = fun k => colsq (aH m c) (ix2 (i 0) k) :=
    funext fun k => blk_q m c t (y 0) (i 0) hr k
  have e2 : ((iblk m c 2 t : Vec Ideal S1x256 .f32) (ix2 0 (y 1)) : EReal) = aQ m c (ix1 (i 1)) :=
    Eq.trans (by blk_ext [iblk, idx t]) ((host_gq m c (y 1)).trans (by rw [hi]))
  exact (congrArg₂ (fun z g => unit 0x43800000#32 z g (y 1)) e1 e2).trans (by rw [hi]; rfl)
theorem final_k (c : Dev nD) : (dats m 0 c).arrAt 5 cfg0.N = normk (aH m c) (aK m c) := by
  refine (dats m 0 c).arrAt_eq_of_covers 5 _ (by decide +kernel) fun t hf y => ?_
  have hN : t.val < 16 := lt_of_lt_of_eq t.isLt N_0
  rw [after0_5]
  unfold outsAt0
  frame_out
  have hr : (((cfg0.win 5).blk t).view.emb y 0 : Fin 8192).val = t.val * 512 + (y 0).val := by blk_simp [idx t] <;> try omega
  have hi : (((cfg0.win 5).blk t).view.emb y 1 : Fin 128) = y 1 := Fin.ext (by blk_simp [idx t] <;> try omega)
  generalize ((cfg0.win 5).blk t).view.emb y = i at hr hi
  refine (congrArg _ (eq_ix2 y)).trans ((payk_at _ _ (y 0) (y 1)).trans (Eq.trans ?_ (congrArg _ (eq_ix2 i)).symm))
  refine Eq.trans ?_ (normk_at _ _ (i 0) (i 1)).symm
  have e1 : (fun k => (iblk m c 1 t : Vec Ideal S512x128 .f32) (ix2 (y 0) k) : Fin 128 → EReal) = fun k => colsk (aH m c) (ix2 (i 0) k) :=
    funext fun k => blk_k m c t (y 0) (i 0) hr k
  have e2 : ((iblk m c 3 t : Vec Ideal S1x128 .f32) (ix2 0 (y 1)) : EReal) = aK m c (ix1 (i 1)) :=
    Eq.trans (by blk_ext [iblk, idx t]) ((host_gk m c (y 1)).trans (by rw [hi]))
  exact (congrArg₂ (fun z g => unit 0x43000000#32 z g (y 1)) e1 e2).trans (by rw [hi]; rfl)

/-- A run of the kernel leaves the two norms in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v9_0) = normq (aH m c) (aQ m c)
      ∧ r.2.mem ((c.tc : Thread nD τ).loc main_v9_1) = normk (aH m c) (aK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 4).trans (final_q m c), ((h.2 c).1 5).trans (final_k m c), h.1 c⟩)
    (θ_run_and (unchanged m g) (run_main m g))

/-- The value claim. -/
theorem algebraic : Cert.algebraic_PrepKernelIdeal_PrepReferenceIdeal := by
  intro m g m' g' hpre hagree
  refine ⟨fun c => normq (aH m c) (aQ m c), fun c => normk (aH m c) (aK m c), kernel_run m g, ?_⟩
  refine (θ_run Cert.PrepReferenceIdeal.defs _ _).mono (fun r h c => ?_) (Cert.PrepReferenceIdeal.Value.run m' g')
  obtain ⟨g0, g1, g2⟩ := hagree c
  refine ⟨(h c).1.trans ?_, (h c).2.1.trans ?_, (h c).2.2⟩
  · rw [g0, g1]
  · rw [g0, g2]

end

section
open Cert.PrepReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2.2, sem_eq_zero_of_no_sems rfl _⟩) (Cert.PrepReferenceIdeal.Value.run m g)

end

end Cert.Prep
end
-- ==== Proof.PrepBwd.lean ====
/-
  The backward pass of the norms of the compressed queries, keys and values: the kernel's rows of the columns' gradients are the
  reference's, and its tiles' sums of the gains' gradients add up to the reference's sums over all rows.
-/
module

public import proofs.«01_k».proof.Defs
public import proofs.«01_k».proof.Proof.Prep
public import proofs.«01_k».proof.Proof.Gen.PrepBwdKernelIdeal.Frame
public import proofs.«01_k».proof.Proof.Gen.PrepBwdReferenceIdeal.Run

@[expose] public section

set_option maxRecDepth 16384

noncomputable section

namespace Cert.PrepBwd

open Idealize.ShloMosaic Idealize.ShloMosaic.TcCoe Idealize.SL.Sem
open Idealize.ShloMosaic.Pointwise
open Cert.Prep (colsq colsk colsq_at colsk_at)

/-- An entry of a row of `n` numbers under the norm, before the gain. -/
def hat {n : ℕ} (w : BitVec 32) (z : Fin n → EReal) (q : Fin n) : EReal :=
  z q * Ideal.rsqrt (Ideal.div (∑ x, z x * z x) (Ideal.ofBits FTy.f32 w) + Ideal.ofBits FTy.f32 0x358637BD#32)

section
open PrepBwdReferenceIdeal PrepBwdReferenceIdeal.Gen

/-- A number per row, and the same number for every row. -/
abbrev Col := FVec Ideal S8192x1 .f32
abbrev litc (w : BitVec 32) : Col := broadcastInDim S8192x1 ![] bcast_S_S8192x1 (constant S_ .f32 w)

/-- Zero, where a sum begins. -/
abbrev zero : FVec Ideal S_ .f32 := constant S_ .f32 0x00000000#32

/-- The reference's queries: a number along its row, a row's mean square with the norm's small number, one over its root, the cotangent
    times the gain, and the gradient. -/
abbrev alongq (C : Col) : FVec Ideal S8192x256 .f32 := broadcastInDim S8192x256 ![0, 1] bcast_S8192x1_S8192x256_0_1 C
abbrev varq (Z : FVec Ideal S8192x256 .f32) : Col := addf (Host.divf (broadcastInDim S8192x1 ![0] bcast_S8192_S8192x1_0
  (Host.reduceAdd (mulf Z Z) zero reducesTo_S8192x256_S8192_d1 h_S_)) (litc 0x43800000#32)) (litc 0x358637BD#32)
abbrev rootq (Z : FVec Ideal S8192x256 .f32) : Col := Host.rsqrt (varq Z)
abbrev gainedq (D : FVec Ideal S8192x256 .f32) (G : FVec Ideal S256 .f32) : FVec Ideal S8192x256 .f32 :=
  mulf D (broadcastInDim S8192x256 ![0, 1] bcast_S1x256_S8192x256_0_1 (broadcastInDim S1x256 ![1] bcast_S256_S1x256_1 G))
abbrev dzq (Z D : FVec Ideal S8192x256 .f32) (G : FVec Ideal S256 .f32) : FVec Ideal S8192x256 .f32 :=
  addf (mulf (gainedq D G) (alongq (rootq Z))) (mulf (broadcastInDim S8192x256 ![0] bcast_S8192_S8192x256_0 (Host.reduceAdd (Host.divf
    (mulf (shapeCast S8192x1 (Host.reduceAdd (mulf Z (gainedq D G)) zero reducesTo_S8192x256_S8192_d1 h_S_) shapeCasts_S8192_S8192x1)
      (mulf (litc 0xBF000000#32) (Host.divf (rootq Z) (varq Z)))) (litc 0x43800000#32)) zero reducesTo_S8192x1_S8192_d1 h_S_))
    (mulf (broadcastInDim S8192x256 ![] bcast_S_S8192x256 (constant S_ .f32 0x40000000#32)) Z))

/-- The gradient of their gain, and its entries. -/
abbrev dgq (Z D : FVec Ideal S8192x256 .f32) : FVec Ideal S256 .f32 :=
  Host.reduceAdd (shapeCast S1x256 (Host.reduceAdd (mulf (mulf Z (alongq (rootq Z))) D) zero reducesTo_S8192x256_S256_d0 h_S_) shapeCasts_S256_S1x256)
    zero reducesTo_S1x256_S256_d0 h_S_
theorem dgq_at (Z D : FVec Ideal S8192x256 .f32) (q : Fin 256) :
    (dgq Z D (ix1 q) : EReal) = ∑ k : Fin 8192, hat 0x43800000#32 (fun x => Z (ix2 k x)) q * (D (ix2 k q) : EReal) := by
  unfold hat
  pointwise [dgq, rootq, varq, alongq, litc, zero]
  exact Fin.sum_univ_one _

/-- The reference's keys and values: a number along its row, a row's mean square with the norm's small number, one over its root, the cotangent
    times the gain, and the gradient. -/
abbrev alongk (C : Col) : FVec Ideal S8192x128 .f32 := broadcastInDim S8192x128 ![0, 1] bcast_S8192x1_S8192x128_0_1 C
abbrev vark (Z : FVec Ideal S8192x128 .f32) : Col := addf (Host.divf (broadcastInDim S8192x1 ![0] bcast_S8192_S8192x1_0
  (Host.reduceAdd (mulf Z Z) zero reducesTo_S8192x128_S8192_d1 h_S_)) (litc 0x43000000#32)) (litc 0x358637BD#32)
abbrev rootk (Z : FVec Ideal S8192x128 .f32) : Col := Host.rsqrt (vark Z)
abbrev gainedk (D : FVec Ideal S8192x128 .f32) (G : FVec Ideal S128 .f32) : FVec Ideal S8192x128 .f32 :=
  mulf D (broadcastInDim S8192x128 ![0, 1] bcast_S1x128_S8192x128_0_1 (broadcastInDim S1x128 ![1] bcast_S128_S1x128_1 G))
abbrev dzk (Z D : FVec Ideal S8192x128 .f32) (G : FVec Ideal S128 .f32) : FVec Ideal S8192x128 .f32 :=
  addf (mulf (gainedk D G) (alongk (rootk Z))) (mulf (broadcastInDim S8192x128 ![0] bcast_S8192_S8192x128_0 (Host.reduceAdd (Host.divf
    (mulf (shapeCast S8192x1 (Host.reduceAdd (mulf Z (gainedk D G)) zero reducesTo_S8192x128_S8192_d1 h_S_) shapeCasts_S8192_S8192x1)
      (mulf (litc 0xBF000000#32) (Host.divf (rootk Z) (vark Z)))) (litc 0x43000000#32)) zero reducesTo_S8192x1_S8192_d1 h_S_))
    (mulf (broadcastInDim S8192x128 ![] bcast_S_S8192x128 (constant S_ .f32 0x40000000#32)) Z))

/-- The gradient of their gain, and its entries. -/
abbrev dgk (Z D : FVec Ideal S8192x128 .f32) : FVec Ideal S128 .f32 :=
  Host.reduceAdd (shapeCast S1x128 (Host.reduceAdd (mulf (mulf Z (alongk (rootk Z))) D) zero reducesTo_S8192x128_S128_d0 h_S_) shapeCasts_S128_S1x128)
    zero reducesTo_S1x128_S128_d0 h_S_
theorem dgk_at (Z D : FVec Ideal S8192x128 .f32) (q : Fin 128) :
    (dgk Z D (ix1 q) : EReal) = ∑ k : Fin 8192, hat 0x43000000#32 (fun x => Z (ix2 k x)) q * (D (ix2 k q) : EReal) := by
  unfold hat
  pointwise [dgk, rootk, vark, alongk, litc, zero]
  exact Fin.sum_univ_one _

end

section
open Cert.PrepBwdKernelIdeal Cert.PrepBwdKernelIdeal.Gen

variable (m : (ℓ : Loc nD τ sig) → Buf (Elt Ideal) ℓ)

/-- The arguments, by their shapes: the columns, the two cotangents and the two gains. -/
abbrev aH (c : Dev nD) : Vec Ideal S8192x1184 .f32 := m ((c.tc : Thread nD τ).loc main_arg0)
abbrev aDq (c : Dev nD) : Vec Ideal S8192x256 .f32 := m ((c.tc : Thread nD τ).loc main_arg1)
abbrev aDk (c : Dev nD) : Vec Ideal S8192x128 .f32 := m ((c.tc : Thread nD τ).loc main_arg2)
abbrev aGq (c : Dev nD) : Vec Ideal S256 .f32 := m ((c.tc : Thread nD τ).loc main_arg3)
abbrev aGk (c : Dev nD) : Vec Ideal S128 .f32 := m ((c.tc : Thread nD τ).loc main_arg4)

/-- Where the windows' blocks lie. -/
theorem idx : ∀ t : Fin cfg0.N, win0_0.index t = ![t.val, 2] ∧ win0_1.index t = ![t.val, 8] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

/-- The gradient of queries on a block, at an entry. -/
theorem dzq_at (Z D : FVec Ideal S8192x256 .f32) (G : FVec Ideal S256 .f32) (x0 x1 : Vec Ideal S256x256 .f32) (x2 : Vec Ideal S1x256 .f32)
    (p : Fin 256) (q : Fin 256) (r : Fin 8192) (h0 : ∀ k : Fin 256, (x0 (ix2 p k) : EReal) = Z (ix2 r k))
    (h1 : ∀ k : Fin 256, (x1 (ix2 p k) : EReal) = D (ix2 r k)) (h2 : ∀ k : Fin 256, (x2 (ix2 0 k) : EReal) = G (ix1 k)) :
    (k0_pay20 (k0_pay3 x0) x1 (k0_pay5 x2) (k0_pay7 x0) (k0_pay9 x0) (k0_pay10 x0) (ix2 p q) : EReal) = dzq Z D G (ix2 r q) := by
  pointwise [k0_pay20, k0_pay3, k0_pay5, k0_pay7, k0_pay9, k0_pay10, k0_pay8, dzq, rootq, varq, gainedq, alongq, litc, zero]
  simp only [h0, h1, h2]

/-- One tile's sum for their gain, and a later tile's. -/
theorem gainq_first (x0 x1 : Vec Ideal S256x256 .f32) (j : S1x256.Idx) :
    (k0_pay19 x1 (k0_pay11 x0) j : EReal) = 0 + ∑ k : Fin 256, hat 0x43800000#32 (fun x => x0 (ix2 k x)) (j 1) * (x1 (ix2 k (j 1)) : EReal) := by
  unfold hat
  pointwise [k0_pay19, k0_pay11, k0_pay9, k0_pay8, k0_pay3]
theorem gainq_next (x0 x1 : Vec Ideal S256x256 .f32) (a : Vec Ideal S1x256 .f32) (j : S1x256.Idx) :
    (k0_pay1 (k0_pay19 x1 (k0_pay11 x0)) a j : EReal) = (a j : EReal) + ∑ k : Fin 256, hat 0x43800000#32 (fun x => x0 (ix2 k x)) (j 1) * (x1 (ix2 k (j 1)) : EReal) := by
  have h := gainq_first x0 x1 j
  generalize k0_pay19 x1 (k0_pay11 x0) = v at h ⊢
  rw [zero_add] at h
  rw [← h]
  pointwise [k0_pay1]

/-- The placed columns that the call reads are the reference's, and the gain is one row. -/
theorem hostq (c : Dev nD) (r : Fin 8192) (q : Fin 256) :
    ((V m c main_v6 : Vec Ideal S8192x1408 .f32) (ix2 r (⟨512 + q.val, by omega⟩ : Fin 1408)) : EReal) = aH m c (ix2 r (⟨512 + q.val, by omega⟩ : Fin 1184)) := by
  unfold V V0
  simp only [hostOps0, List.flatten_cons, List.flatten_nil, List.cons_append, List.nil_append, List.append_nil]
  after_results_simp
  have hq := q.isLt
  pointwise
  split_ifs <;> try omega
  all_goals after_results_simp
  all_goals pointwise
theorem host_gainq (c : Dev nD) (q : Fin 256) : ((V m c main_v7 : Vec Ideal S1x256 .f32) (ix2 0 q) : EReal) = aGq m c (ix1 q) := by
  unfold V V0
  simp only [hostOps0, List.flatten_cons, List.flatten_nil, List.cons_append, List.nil_append, List.append_nil]
  after_results_simp
  pointwise

/-- What the windows of queries hold at a step. -/
theorem blkq_z (c : Dev nD) (t : Fin cfg0.N) (p : Fin 256) (r : Fin 8192) (h : r.val = t.val * 256 + p.val) (k : Fin 256) :
    ((X0_0 m c t : Vec Ideal S256x256 .f32) (ix2 p k) : EReal) = colsq (aH m c) (ix2 r k) := by
  refine Eq.trans ?_ ((hostq m c r k).trans (colsq_at (aH m c) r k).symm)
  unfold X0_0 Pipeline.Window.fill
  rw [dif_pos (moved0_0 t _)]
  blk_ext [iblk, idx t]
theorem blkq_d (c : Dev nD) (t : Fin cfg0.N) (p : Fin 256) (r : Fin 8192) (h : r.val = t.val * 256 + p.val) (k : Fin 256) :
    ((iblk m c 2 t : Vec Ideal S256x256 .f32) (ix2 p k) : EReal) = aDq m c (ix2 r k) :=
  Eq.trans (by blk_ext [iblk, idx t]) (congrFun (V_main_arg1 m c) _)
theorem blkq_g (c : Dev nD) (t : Fin cfg0.N) (k : Fin 256) : ((iblk m c 4 t : Vec Ideal S1x256 .f32) (ix2 0 k) : EReal) = aGq m c (ix1 k) :=
  Eq.trans (by blk_ext [iblk, idx t]) (host_gainq m c k)

/-- Their gradient that a step leaves, and the array after the call. -/
theorem pointq (c : Dev nD) (t : Fin cfg0.N) (y : S256x256.Idx) (i : S8192x256.Idx) (hr : (i 0).val = t.val * 256 + (y 0).val) (hi : y 1 = i 1) :
    ((outsAt0 m c t.val t.isLt).1 y : EReal) = dzq (colsq (aH m c)) (aDq m c) (aGq m c) i := by
  have hN : t.val < 32 := lt_of_lt_of_eq t.isLt N_0
  have key := dzq_at (colsq (aH m c)) (aDq m c) (aGq m c) (X0_0 m c t) (iblk m c 2 t) (iblk m c 4 t) (y 0) (y 1) (i 0)
    (blkq_z m c t (y 0) (i 0) hr) (blkq_d m c t (y 0) (i 0) hr) (blkq_g m c t)
  rw [← eq_ix2 y, show (ix2 (i 0) (y 1) : S8192x256.Idx) = i by rw [hi]; exact (eq_ix2 i).symm] at key
  by_cases h : t.val % 32 = 0
  · rw [outsAt0_A m c t h (by omega)]
    frame_out
    exact key
  · rw [outsAt0_B m c t h (by omega)]
    frame_out
    exact key
theorem finalq (c : Dev nD) : (dats m 0 c).arrAt 6 cfg0.N = dzq (colsq (aH m c)) (aDq m c) (aGq m c) := by
  refine (dats m 0 c).arrAt_eq_of_covers 6 _ (by decide +kernel) fun t hf y => ?_
  rw [after0_6]
  exact pointq m c t y _ (by blk_simp [idx t] <;> try omega) (Fin.ext (by blk_simp [idx t] <;> try omega))

/-- The sum for the gain over all rows, as one row; what the accumulator holds after the last step; and the row after the call. -/
def gainsq (c : Dev nD) : Vec Ideal S1x256 .f32 := fun i =>
  (∑ k : Fin 8192, hat 0x43800000#32 (fun x => colsq (aH m c) (ix2 k x)) (i 1) * (aDq m c (ix2 k (i 1)) : EReal) : EReal)
theorem accq (c : Dev nD) (t : Fin cfg0.N) (ht : t.val % 32 = 31) (j : S1x256.Idx) :
    ((outsAt0 m c t.val t.isLt).2.2.1 j : EReal) = gainsq m c j := by
  rw [Pipeline.eq_sum_fin_of_reset_step_apply_of_flush (fun n h => (outsAt0 m c n h).2.2.1) 32 (fun _ => 0) _
    (fun t h j => by
      have hN : t.val < 32 := lt_of_lt_of_eq t.isLt N_0
      rw [outsAt0_A m c t h (by omega)]; frame_out; exact gainq_first _ _ j)
    (fun t h j => by rw [outsAt0_B m c t h (by omega)]; frame_out; exact gainq_next _ _ _ j)
    t ht j, zero_add]
  unfold gainsq
  have hN : t.val < 32 := lt_of_lt_of_eq t.isLt N_0
  refine Fin.sum_mul_add_congr fun s k hl => ?_
  exact congrArg₂ (· * ·) (congrArg (fun f => hat 0x43800000#32 f (j 1)) (funext fun x => blkq_z m c ⟨_, Pipeline.run_point_lt_of_flush t ht s⟩ k _ (by dsimp only; omega) x))
    (blkq_d m c ⟨_, Pipeline.run_point_lt_of_flush t ht s⟩ k _ (by dsimp only; omega) (j 1))
theorem rowq (c : Dev nD) : (dats m 0 c).arrAt 8 cfg0.N = gainsq m c := by
  refine (dats m 0 c).arrAt_eq_of_covers 8 _ (by decide +kernel) fun t hf y => ?_
  rw [after0_8]
  refine (accq m c t ((flush0_8 t).mp hf) y).trans (congrArg (gainsq m c) ?_)
  blk_ext [idx t]

/-- The gradient of keys and values on a block, at an entry. -/
theorem dzk_at (Z D : FVec Ideal S8192x128 .f32) (G : FVec Ideal S128 .f32) (x0 x1 : Vec Ideal S256x128 .f32) (x2 : Vec Ideal S1x128 .f32)
    (p : Fin 256) (q : Fin 128) (r : Fin 8192) (h0 : ∀ k : Fin 128, (x0 (ix2 p k) : EReal) = Z (ix2 r k))
    (h1 : ∀ k : Fin 128, (x1 (ix2 p k) : EReal) = D (ix2 r k)) (h2 : ∀ k : Fin 128, (x2 (ix2 0 k) : EReal) = G (ix1 k)) :
    (k0_pay18 (k0_pay4 x0) x1 (k0_pay6 x2) (k0_pay12 x0) (k0_pay14 x0) (k0_pay15 x0) (k0_pay16 (F := Ideal)) (ix2 p q) : EReal) = dzk Z D G (ix2 r q) := by
  pointwise [k0_pay18, k0_pay4, k0_pay6, k0_pay12, k0_pay14, k0_pay15, k0_pay16, k0_pay13, dzk, rootk, vark, gainedk, alongk, litc, zero]
  simp only [h0, h1, h2]

/-- One tile's sum for their gain, and a later tile's. -/
theorem gaink_first (x0 x1 : Vec Ideal S256x128 .f32) (j : S1x128.Idx) :
    (k0_pay17 (k0_pay4 x0) x1 (k0_pay14 x0) j : EReal) = 0 + ∑ k : Fin 256, hat 0x43000000#32 (fun x => x0 (ix2 k x)) (j 1) * (x1 (ix2 k (j 1)) : EReal) := by
  unfold hat
  pointwise [k0_pay17, k0_pay4, k0_pay14, k0_pay13]
theorem gaink_next (x0 x1 : Vec Ideal S256x128 .f32) (a : Vec Ideal S1x128 .f32) (j : S1x128.Idx) :
    (k0_pay2 (k0_pay17 (k0_pay4 x0) x1 (k0_pay14 x0)) a j : EReal) = (a j : EReal) + ∑ k : Fin 256, hat 0x43000000#32 (fun x => x0 (ix2 k x)) (j 1) * (x1 (ix2 k (j 1)) : EReal) := by
  have h := gaink_first x0 x1 j
  generalize k0_pay17 (k0_pay4 x0) x1 (k0_pay14 x0) = v at h ⊢
  rw [zero_add] at h
  rw [← h]
  pointwise [k0_pay2]

/-- The placed columns that the call reads are the reference's, and the gain is one row. -/
theorem hostk (c : Dev nD) (r : Fin 8192) (q : Fin 128) :
    ((V m c main_v6 : Vec Ideal S8192x1408 .f32) (ix2 r (⟨1024 + q.val, by omega⟩ : Fin 1408)) : EReal) = aH m c (ix2 r (⟨768 + q.val, by omega⟩ : Fin 1184)) := by
  unfold V V0
  simp only [hostOps0, List.flatten_cons, List.flatten_nil, List.cons_append, List.nil_append, List.append_nil]
  after_results_simp
  have hq := q.isLt
  pointwise
  split_ifs <;> try omega
  all_goals after_results_simp
  all_goals pointwise
  all_goals exact congrArg (fun k => aH m c (ix2 r k)) (Fin.ext (show 768 + (1024 + q.val - 768 - 256) = 768 + q.val by omega))
theorem host_gaink (c : Dev nD) (q : Fin 128) : ((V m c main_v8 : Vec Ideal S1x128 .f32) (ix2 0 q) : EReal) = aGk m c (ix1 q) := by
  unfold V V0
  simp only [hostOps0, List.flatten_cons, List.flatten_nil, List.cons_append, List.nil_append, List.append_nil]
  after_results_simp
  pointwise

/-- What the windows of keys and values hold at a step. -/
theorem blkk_z (c : Dev nD) (t : Fin cfg0.N) (p : Fin 256) (r : Fin 8192) (h : r.val = t.val * 256 + p.val) (k : Fin 128) :
    ((iblk m c 1 t : Vec Ideal S256x128 .f32) (ix2 p k) : EReal) = colsk (aH m c) (ix2 r k) := by
  refine Eq.trans ?_ ((hostk m c r k).trans (colsk_at (aH m c) r k).symm)
  blk_ext [iblk, idx t]
theorem blkk_d (c : Dev nD) (t : Fin cfg0.N) (p : Fin 256) (r : Fin 8192) (h : r.val = t.val * 256 + p.val) (k : Fin 128) :
    ((iblk m c 3 t : Vec Ideal S256x128 .f32) (ix2 p k) : EReal) = aDk m c (ix2 r k) :=
  Eq.trans (by blk_ext [iblk, idx t]) (congrFun (V_main_arg2 m c) _)
theorem blkk_g (c : Dev nD) (t : Fin cfg0.N) (k : Fin 128) : ((iblk m c 5 t : Vec Ideal S1x128 .f32) (ix2 0 k) : EReal) = aGk m c (ix1 k) :=
  Eq.trans (by blk_ext [iblk, idx t]) (host_gaink m c k)

/-- Their gradient that a step leaves, and the array after the call. -/
theorem pointk (c : Dev nD) (t : Fin cfg0.N) (y : S256x128.Idx) (i : S8192x128.Idx) (hr : (i 0).val = t.val * 256 + (y 0).val) (hi : y 1 = i 1) :
    ((outsAt0 m c t.val t.isLt).2.1 y : EReal) = dzk (colsk (aH m c)) (aDk m c) (aGk m c) i := by
  have hN : t.val < 32 := lt_of_lt_of_eq t.isLt N_0
  have key := dzk_at (colsk (aH m c)) (aDk m c) (aGk m c) (iblk m c 1 t) (iblk m c 3 t) (iblk m c 5 t) (y 0) (y 1) (i 0)
    (blkk_z m c t (y 0) (i 0) hr) (blkk_d m c t (y 0) (i 0) hr) (blkk_g m c t)
  rw [← eq_ix2 y, show (ix2 (i 0) (y 1) : S8192x128.Idx) = i by rw [hi]; exact (eq_ix2 i).symm] at key
  by_cases h : t.val % 32 = 0
  · rw [outsAt0_A m c t h (by omega)]
    frame_out
    exact key
  · rw [outsAt0_B m c t h (by omega)]
    frame_out
    exact key
theorem finalk (c : Dev nD) : (dats m 0 c).arrAt 7 cfg0.N = dzk (colsk (aH m c)) (aDk m c) (aGk m c) := by
  refine (dats m 0 c).arrAt_eq_of_covers 7 _ (by decide +kernel) fun t hf y => ?_
  rw [after0_7]
  exact pointk m c t y _ (by blk_simp [idx t] <;> try omega) (Fin.ext (by blk_simp [idx t] <;> try omega))

/-- The sum for the gain over all rows, as one row; what the accumulator holds after the last step; and the row after the call. -/
def gainsk (c : Dev nD) : Vec Ideal S1x128 .f32 := fun i =>
  (∑ k : Fin 8192, hat 0x43000000#32 (fun x => colsk (aH m c) (ix2 k x)) (i 1) * (aDk m c (ix2 k (i 1)) : EReal) : EReal)
theorem acck (c : Dev nD) (t : Fin cfg0.N) (ht : t.val % 32 = 31) (j : S1x128.Idx) :
    ((outsAt0 m c t.val t.isLt).2.2.2 j : EReal) = gainsk m c j := by
  rw [Pipeline.eq_sum_fin_of_reset_step_apply_of_flush (fun n h => (outsAt0 m c n h).2.2.2) 32 (fun _ => 0) _
    (fun t h j => by
      have hN : t.val < 32 := lt_of_lt_of_eq t.isLt N_0
      rw [outsAt0_A m c t h (by omega)]; frame_out; exact gaink_first _ _ j)
    (fun t h j => by rw [outsAt0_B m c t h (by omega)]; frame_out; exact gaink_next _ _ _ j)
    t ht j, zero_add]
  unfold gainsk
  have hN : t.val < 32 := lt_of_lt_of_eq t.isLt N_0
  refine Fin.sum_mul_add_congr fun s k hl => ?_
  exact congrArg₂ (· * ·) (congrArg (fun f => hat 0x43000000#32 f (j 1)) (funext fun x => blkk_z m c ⟨_, Pipeline.run_point_lt_of_flush t ht s⟩ k _ (by dsimp only; omega) x))
    (blkk_d m c ⟨_, Pipeline.run_point_lt_of_flush t ht s⟩ k _ (by dsimp only; omega) (j 1))
theorem rowk (c : Dev nD) : (dats m 0 c).arrAt 9 cfg0.N = gainsk m c := by
  refine (dats m 0 c).arrAt_eq_of_covers 9 _ (by decide +kernel) fun t hf y => ?_
  rw [after0_9]
  refine (acck m c t ((flush0_9 t).mp hf) y).trans (congrArg (gainsk m c) ?_)
  blk_ext [idx t]

/-- The buffers as the region leaves them. -/
def left (c : Dev nD) : Valuation τ sig (Elt Ideal) :=
  Pipeline.withArrays (cfgs 0).spec c (V0 m c) fun w => (dats m 0 c).arrAt w (cfgs 0).N

/-- The host code's reshapes of the two rows of sums. -/
theorem tail_at (w : Valuation τ sig (Elt Ideal)) (q : Fin 256) (k : Fin 128) :
    ((StableHlo.after [hostOps1].flatten w (Proc.devRef .tc main_v10) : Vec Ideal S256 .f32) (ix1 q) : EReal)
        = (w (Proc.devRef .tc main_v9_2) : Vec Ideal S1x256 .f32) (ix2 0 q)
      ∧ ((StableHlo.after [hostOps1].flatten w (Proc.devRef .tc main_v11) : Vec Ideal S128 .f32) (ix1 k) : EReal)
        = (w (Proc.devRef .tc main_v9_3) : Vec Ideal S1x128 .f32) (ix2 0 k) := by
  simp only [hostOps1, List.flatten_cons, List.flatten_nil, List.cons_append, List.nil_append, List.append_nil]
  constructor <;> after_results_simp <;> pointwise

/-- The gains' gradients, as the host code leaves them. -/
theorem tail_q (c : Dev nD) : Pipeline.afterTail₀ cfgs (dats m) 0 (V0 m) [hostOps1] c main_v10 = dgq (colsq (aH m c)) (aDq m c) := by
  have h : (left m c (Proc.devRef .tc main_v9_2) : Vec Ideal S1x256 .f32) = gainsq m c := ((dats m 0 c).withArrays_arrAt sharedIn0 (V0 m c) (A_eq m c) 8).trans (rowq m c)
  funext q
  rw [eq_ix1 q]
  exact (tail_at (left m c) (q 0) 0).1.trans ((congrFun h _).trans (dgq_at _ _ (q 0)).symm)
theorem tail_k (c : Dev nD) : Pipeline.afterTail₀ cfgs (dats m) 0 (V0 m) [hostOps1] c main_v11 = dgk (colsk (aH m c)) (aDk m c) := by
  have h : (left m c (Proc.devRef .tc main_v9_3) : Vec Ideal S1x128 .f32) = gainsk m c := ((dats m 0 c).withArrays_arrAt sharedIn0 (V0 m c) (A_eq m c) 9).trans (rowk m c)
  funext q
  rw [eq_ix1 q]
  exact (tail_at (left m c) 0 (q 0)).2.trans ((congrFun h _).trans (dgk_at _ _ (q 0)).symm)

/-- A run of the kernel leaves the four gradients in its results and its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v9_0) = dzq (colsq (aH m c)) (aDq m c) (aGq m c)
      ∧ r.2.mem ((c.tc : Thread nD τ).loc main_v9_1) = dzk (colsk (aH m c)) (aDk m c) (aGk m c)
      ∧ r.2.mem ((c.tc : Thread nD τ).loc main_v10) = dgq (colsq (aH m c)) (aDq m c)
      ∧ r.2.mem ((c.tc : Thread nD τ).loc main_v11) = dgk (colsk (aH m c)) (aDk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2 c).1 6).trans (finalq m c), ((h.2 c).1 7).trans (finalk m c),
    ((h.2 c).2 main_v10 (by decide)).trans (tail_q m c), ((h.2 c).2 main_v11 (by decide)).trans (tail_k m c), h.1 c⟩)
    (θ_run_and (unchanged m g) (run_main m g))

/-- The value claim. -/
theorem algebraic : Cert.algebraic_PrepBwdKernelIdeal_PrepBwdReferenceIdeal := by
  intro m g m' g' hpre hagree
  refine ⟨fun c => dzq (colsq (aH m c)) (aDq m c) (aGq m c), fun c => dzk (colsk (aH m c)) (aDk m c) (aGk m c),
    fun c => dgq (colsq (aH m c)) (aDq m c), fun c => dgk (colsk (aH m c)) (aDk m c), kernel_run m g, ?_⟩
  refine (θ_run Cert.PrepBwdReferenceIdeal.defs _ _).mono (fun r h c => ?_) (Cert.PrepBwdReferenceIdeal.Value.run m' g')
  obtain ⟨g0, g1, g2, g3, g4⟩ := hagree c
  refine ⟨(h c).1.trans ?_, (h c).2.1.trans ?_, (h c).2.2.1.trans ?_, (h c).2.2.2.1.trans ?_, (h c).2.2.2.2⟩
  · rw [g0, g1, g3]
  · rw [g0, g2, g4]
  · rw [g0, g1]
  · rw [g0, g2]

end

section
open Cert.PrepBwdReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2.2, sem_eq_zero_of_no_sems rfl _⟩) (Cert.PrepBwdReferenceIdeal.Value.run m g)

end

end Cert.PrepBwd
end
-- ==== Proof.lean ====
/-
  The certificate: the frames of the programs, and for each of the version's calls that are taken the equation with the
  reference. The attention's gradient is put together here, the other calls in their own modules.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.ActKernel.Frame
public import proofs.«01_k».proof.Proof.Gen.DownKernel.Frame
public import proofs.«01_k».proof.Proof.Gen.GateKernel.Frame
public import proofs.«01_k».proof.Proof.Gen.UpKernel.Frame
public import proofs.«01_k».proof.Proof.Gen.DxKernel.Frame
public import proofs.«01_k».proof.Proof.Gen.AttKernel.Frame
public import proofs.«01_k».proof.Proof.Gen.MixKernel.Frame
public import proofs.«01_k».proof.Proof.Gen.OutDwKernel.Frame
public import proofs.«01_k».proof.Proof.Gen.OutDxKernel.Frame
public import proofs.«01_k».proof.Proof.Gen.InKernel.Frame
public import proofs.«01_k».proof.Proof.Gen.InDwKernel.Frame
public import proofs.«01_k».proof.Proof.Gen.InDxKernel.Frame
public import proofs.«01_k».proof.Proof.Gen.AdamUpKernel.Frame
public import proofs.«01_k».proof.Proof.Gen.AdamDownKernel.Frame
public import proofs.«01_k».proof.Proof.Gen.AdamInKernel.Frame
public import proofs.«01_k».proof.Proof.Gen.AdamUqKernel.Frame
public import proofs.«01_k».proof.Proof.Gen.AdamUkvKernel.Frame
public import proofs.«01_k».proof.Proof.Gen.AdamGluKernel.Frame
public import proofs.«01_k».proof.Proof.Gen.AdamOutKernel.Frame
public import proofs.«01_k».proof.Proof.Gen.AdamSmallKernel.Frame
public import proofs.«01_k».proof.Proof.Gen.SumFfnKernel.Frame
public import proofs.«01_k».proof.Proof.Gen.SumInKernel.Frame
public import proofs.«01_k».proof.Proof.Gen.SumUqKernel.Frame
public import proofs.«01_k».proof.Proof.Gen.SumUkvKernel.Frame
public import proofs.«01_k».proof.Proof.Gen.SumOutKernel.Frame
public import proofs.«01_k».proof.Proof.Gen.SumSmallKernel.Frame
public import proofs.«01_k».proof.Proof.Gen.UqKernel.Frame
public import proofs.«01_k».proof.Proof.Gen.UqDwKernel.Frame
public import proofs.«01_k».proof.Proof.Gen.UqDxKernel.Frame
public import proofs.«01_k».proof.Proof.Gen.UkvKernel.Frame
public import proofs.«01_k».proof.Proof.Gen.UkvDwKernel.Frame
public import proofs.«01_k».proof.Proof.Gen.UkvDxKernel.Frame
public import proofs.«01_k».proof.Proof.Gen.FfnLnKernel.Frame
public import proofs.«01_k».proof.Proof.Gen.MixLnKernel.Frame
public import proofs.«01_k».proof.Proof.Gen.PrepKernel.Frame
public import proofs.«01_k».proof.Proof.Gen.PrepBwdKernel.Frame
public import proofs.«01_k».proof.Proof.Tail
public import proofs.«01_k».proof.Proof.FfnEnd
public import proofs.«01_k».proof.Proof.Act
public import proofs.«01_k».proof.Proof.Down
public import proofs.«01_k».proof.Proof.Gate
public import proofs.«01_k».proof.Proof.Up
public import proofs.«01_k».proof.Proof.Dx
public import proofs.«01_k».proof.Proof.Att
public import proofs.«01_k».proof.Proof.Mix
public import proofs.«01_k».proof.Proof.OutDw
public import proofs.«01_k».proof.Proof.OutDx
public import proofs.«01_k».proof.Proof.In
public import proofs.«01_k».proof.Proof.InDw
public import proofs.«01_k».proof.Proof.InDx
public import proofs.«01_k».proof.Proof.AdamUp
public import proofs.«01_k».proof.Proof.AdamDown
public import proofs.«01_k».proof.Proof.AdamIn
public import proofs.«01_k».proof.Proof.AdamUq
public import proofs.«01_k».proof.Proof.AdamUkv
public import proofs.«01_k».proof.Proof.AdamGlu
public import proofs.«01_k».proof.Proof.AdamOut
public import proofs.«01_k».proof.Proof.AdamSmall
public import proofs.«01_k».proof.Proof.SumFfn
public import proofs.«01_k».proof.Proof.SumIn
public import proofs.«01_k».proof.Proof.SumUq
public import proofs.«01_k».proof.Proof.SumUkv
public import proofs.«01_k».proof.Proof.SumOut
public import proofs.«01_k».proof.Proof.SumSmall
public import proofs.«01_k».proof.Proof.Uq
public import proofs.«01_k».proof.Proof.UqDw
public import proofs.«01_k».proof.Proof.UqDx
public import proofs.«01_k».proof.Proof.Ukv
public import proofs.«01_k».proof.Proof.UkvDw
public import proofs.«01_k».proof.Proof.UkvDx
public import proofs.«01_k».proof.Proof.FfnLn
public import proofs.«01_k».proof.Proof.MixLn
public import proofs.«01_k».proof.Proof.Prep
public import proofs.«01_k».proof.Proof.PrepBwd
public import Idealize.ShloMosaic.Adequacy
public import Idealize.ShloMosaic.Init

@[expose] public section

noncomputable section

namespace Cert.Proof

open Idealize.ShloMosaic Idealize.SL.Sem Cert.FlashBwd

/-- The side conditions of the precondition's operations. -/
theorem preFacts : Cert.Pre_finite.Facts where
  bcast_S_S8192x8x64 := by decide
  bcast_S_S8192x8x32 := by decide
  bcast_S_S8192x32 := by decide

section
open Cert.KernelIdeal Cert.KernelIdeal.Gen

/-- What a run of the kernel's program leaves in its five results, its arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v53) = outQn m c
      ∧ r.2.mem ((c.tc : Thread nD τ).loc main_v54) = outQr m c
      ∧ r.2.mem ((c.tc : Thread nD τ).loc main_v55) = outKn m c
      ∧ r.2.mem ((c.tc : Thread nD τ).loc main_v52) = outKr m c
      ∧ r.2.mem ((c.tc : Thread nD τ).loc main_v50) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (unchanged m g) (run_main m g))
  have hb := fun (b : Ref sig .tc) hb => (h.2 c).2 b hb
  exact ⟨(hb main_v53 (by decide)).trans (tail_outQn m c), (hb main_v54 (by decide)).trans (tail_outQr m c),
    (hb main_v55 (by decide)).trans (tail_outKn m c), (hb main_v52 (by decide)).trans (tail_outKr m c),
    (hb main_v50 (by decide)).trans (tail_outV m c), h.1 c⟩

end

/-- The value claim. -/
theorem algebraic [Cert.Pre_finite.Facts] : Cert.algebraic_KernelIdeal_ReferenceIdeal_pre_finite := by
  intro m g m' g' hpre hagree
  refine ⟨outQn m, outQr m, outKn m, outKr m, outV m, kernel_run m g, ?_⟩
  refine (θ_run Cert.ReferenceIdeal.defs _ _).mono (fun r h c => ?_) (Cert.ReferenceIdeal.Value.run m' g')
  obtain ⟨Z⟩ := reals_of hpre c
  obtain ⟨g0, g1, g2, g3, g4, g5⟩ := hagree c
  have G : Agree m m' c := ⟨g0, g1, g2, g3, g4, g5⟩
  obtain ⟨h0, h1, h2, h3, h4, hrest⟩ := h c
  exact ⟨h0.trans (result0 Z G).symm, h1.trans (result1 Z G).symm, h2.trans (result2 Z G).symm,
    h3.trans (result3 Z G).symm, h4.trans (result4 Z G).symm, hrest⟩

section
open Cert.ReferenceIdeal

/-- The reference leaves its arguments unchanged, and it declares no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h c).2.2.2.2.2, sem_eq_zero_of_no_sems rfl _⟩) (Cert.ReferenceIdeal.Value.run m g)

end

/-- Everything that is claimed. -/
theorem claim : Cert.Claim :=
  haveI := preFacts
  haveI := Cert.Att.preFacts
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.ActKernel.Gen.facts, Cert.ActKernelIdeal.Gen.facts, Cert.ActReferenceIdeal.Gen.facts,
    Cert.DownKernel.Gen.facts, Cert.DownKernelIdeal.Gen.facts, Cert.DownReferenceIdeal.Gen.facts,
    Cert.GateKernel.Gen.facts, Cert.GateKernelIdeal.Gen.facts, Cert.GateReferenceIdeal.Gen.facts,
    Cert.UpKernel.Gen.facts, Cert.UpKernelIdeal.Gen.facts, Cert.UpReferenceIdeal.Gen.facts,
    Cert.DxKernel.Gen.facts, Cert.DxKernelIdeal.Gen.facts, Cert.DxReferenceIdeal.Gen.facts,
    Cert.AttKernel.Gen.facts, Cert.AttKernelIdeal.Gen.facts, Cert.AttReferenceIdeal.Gen.facts,
    Cert.MixKernel.Gen.facts, Cert.MixKernelIdeal.Gen.facts, Cert.MixReferenceIdeal.Gen.facts,
    Cert.OutDwKernel.Gen.facts, Cert.OutDwKernelIdeal.Gen.facts, Cert.OutDwReferenceIdeal.Gen.facts,
    Cert.OutDxKernel.Gen.facts, Cert.OutDxKernelIdeal.Gen.facts, Cert.OutDxReferenceIdeal.Gen.facts,
    Cert.InKernel.Gen.facts, Cert.InKernelIdeal.Gen.facts, Cert.InReferenceIdeal.Gen.facts,
    Cert.InDwKernel.Gen.facts, Cert.InDwKernelIdeal.Gen.facts, Cert.InDwReferenceIdeal.Gen.facts,
    Cert.InDxKernel.Gen.facts, Cert.InDxKernelIdeal.Gen.facts, Cert.InDxReferenceIdeal.Gen.facts,
    Cert.AdamUpKernel.Gen.facts, Cert.AdamUpKernelIdeal.Gen.facts, Cert.AdamUpReferenceIdeal.Gen.facts,
    Cert.AdamDownKernel.Gen.facts, Cert.AdamDownKernelIdeal.Gen.facts, Cert.AdamDownReferenceIdeal.Gen.facts,
    Cert.AdamInKernel.Gen.facts, Cert.AdamInKernelIdeal.Gen.facts, Cert.AdamInReferenceIdeal.Gen.facts,
    Cert.AdamUqKernel.Gen.facts, Cert.AdamUqKernelIdeal.Gen.facts, Cert.AdamUqReferenceIdeal.Gen.facts,
    Cert.AdamUkvKernel.Gen.facts, Cert.AdamUkvKernelIdeal.Gen.facts, Cert.AdamUkvReferenceIdeal.Gen.facts,
    Cert.AdamGluKernel.Gen.facts, Cert.AdamGluKernelIdeal.Gen.facts, Cert.AdamGluReferenceIdeal.Gen.facts,
    Cert.AdamOutKernel.Gen.facts, Cert.AdamOutKernelIdeal.Gen.facts, Cert.AdamOutReferenceIdeal.Gen.facts,
    Cert.AdamSmallKernel.Gen.facts, Cert.AdamSmallKernelIdeal.Gen.facts, Cert.AdamSmallReferenceIdeal.Gen.facts,
    Cert.SumFfnKernel.Gen.facts, Cert.SumFfnKernelIdeal.Gen.facts, Cert.SumFfnReferenceIdeal.Gen.facts,
    Cert.SumInKernel.Gen.facts, Cert.SumInKernelIdeal.Gen.facts, Cert.SumInReferenceIdeal.Gen.facts,
    Cert.SumUqKernel.Gen.facts, Cert.SumUqKernelIdeal.Gen.facts, Cert.SumUqReferenceIdeal.Gen.facts,
    Cert.SumUkvKernel.Gen.facts, Cert.SumUkvKernelIdeal.Gen.facts, Cert.SumUkvReferenceIdeal.Gen.facts,
    Cert.SumOutKernel.Gen.facts, Cert.SumOutKernelIdeal.Gen.facts, Cert.SumOutReferenceIdeal.Gen.facts,
    Cert.SumSmallKernel.Gen.facts, Cert.SumSmallKernelIdeal.Gen.facts, Cert.SumSmallReferenceIdeal.Gen.facts,
    Cert.UqKernel.Gen.facts, Cert.UqKernelIdeal.Gen.facts, Cert.UqReferenceIdeal.Gen.facts,
    Cert.UqDwKernel.Gen.facts, Cert.UqDwKernelIdeal.Gen.facts, Cert.UqDwReferenceIdeal.Gen.facts,
    Cert.UqDxKernel.Gen.facts, Cert.UqDxKernelIdeal.Gen.facts, Cert.UqDxReferenceIdeal.Gen.facts,
    Cert.UkvKernel.Gen.facts, Cert.UkvKernelIdeal.Gen.facts, Cert.UkvReferenceIdeal.Gen.facts,
    Cert.UkvDwKernel.Gen.facts, Cert.UkvDwKernelIdeal.Gen.facts, Cert.UkvDwReferenceIdeal.Gen.facts,
    Cert.UkvDxKernel.Gen.facts, Cert.UkvDxKernelIdeal.Gen.facts, Cert.UkvDxReferenceIdeal.Gen.facts,
    Cert.FfnLnKernel.Gen.facts, Cert.FfnLnKernelIdeal.Gen.facts, Cert.FfnLnReferenceIdeal.Gen.facts,
    Cert.MixLnKernel.Gen.facts, Cert.MixLnKernelIdeal.Gen.facts, Cert.MixLnReferenceIdeal.Gen.facts,
    Cert.PrepKernel.Gen.facts, Cert.PrepKernelIdeal.Gen.facts, Cert.PrepReferenceIdeal.Gen.facts,
    Cert.PrepBwdKernel.Gen.facts, Cert.PrepBwdKernelIdeal.Gen.facts, Cert.PrepBwdReferenceIdeal.Gen.facts,
    preFacts, Cert.Att.preFacts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.FfnKernel.Gen.frame m ρ,
    fun m ρ _ => Cert.FfnKernelIdeal.Gen.frame m ρ,
    fun m ρ _ => Cert.Ffn.reference_frame m ρ,
    fun m ρ _ => Cert.ActKernel.Gen.frame m ρ,
    fun m ρ _ => Cert.ActKernelIdeal.Gen.frame m ρ,
    fun m ρ _ => Cert.FfnAct.reference_frame m ρ,
    fun m ρ _ => Cert.DownKernel.Gen.frame m ρ,
    fun m ρ _ => Cert.DownKernelIdeal.Gen.frame m ρ,
    fun m ρ _ => Cert.FfnDown.reference_frame m ρ,
    fun m ρ _ => Cert.GateKernel.Gen.frame m ρ,
    fun m ρ _ => Cert.GateKernelIdeal.Gen.frame m ρ,
    fun m ρ _ => Cert.FfnGate.reference_frame m ρ,
    fun m ρ _ => Cert.UpKernel.Gen.frame m ρ,
    fun m ρ _ => Cert.UpKernelIdeal.Gen.frame m ρ,
    fun m ρ _ => Cert.FfnUp.reference_frame m ρ,
    fun m ρ _ => Cert.DxKernel.Gen.frame m ρ,
    fun m ρ _ => Cert.DxKernelIdeal.Gen.frame m ρ,
    fun m ρ _ => Cert.FfnDx.reference_frame m ρ,
    fun m ρ _ => Cert.AttKernel.Gen.frame m ρ,
    fun m ρ _ => Cert.AttKernelIdeal.Gen.frame m ρ,
    fun m ρ _ => Cert.AttKernelIdeal.Gen.frame m ρ,
    fun m ρ _ => Cert.Att.reference_frame m ρ,
    fun m ρ _ => Cert.Att.reference_frame m ρ,
    fun m ρ _ => Cert.MixKernel.Gen.frame m ρ,
    fun m ρ _ => Cert.MixKernelIdeal.Gen.frame m ρ,
    fun m ρ _ => Cert.Mix.reference_frame m ρ,
    fun m ρ _ => Cert.OutDwKernel.Gen.frame m ρ,
    fun m ρ _ => Cert.OutDwKernelIdeal.Gen.frame m ρ,
    fun m ρ _ => Cert.OutDw.reference_frame m ρ,
    fun m ρ _ => Cert.OutDxKernel.Gen.frame m ρ,
    fun m ρ _ => Cert.OutDxKernelIdeal.Gen.frame m ρ,
    fun m ρ _ => Cert.OutDx.reference_frame m ρ,
    fun m ρ _ => Cert.InKernel.Gen.frame m ρ,
    fun m ρ _ => Cert.InKernelIdeal.Gen.frame m ρ,
    fun m ρ _ => Cert.In.reference_frame m ρ,
    fun m ρ _ => Cert.InDwKernel.Gen.frame m ρ,
    fun m ρ _ => Cert.InDwKernelIdeal.Gen.frame m ρ,
    fun m ρ _ => Cert.InDw.reference_frame m ρ,
    fun m ρ _ => Cert.InDxKernel.Gen.frame m ρ,
    fun m ρ _ => Cert.InDxKernelIdeal.Gen.frame m ρ,
    fun m ρ _ => Cert.InDx.reference_frame m ρ,
    fun m ρ _ => Cert.AdamUpKernel.Gen.frame m ρ,
    fun m ρ _ => Cert.AdamUpKernelIdeal.Gen.frame m ρ,
    fun m ρ _ => Cert.AdamUp.reference_frame m ρ,
    fun m ρ _ => Cert.AdamDownKernel.Gen.frame m ρ,
    fun m ρ _ => Cert.AdamDownKernelIdeal.Gen.frame m ρ,
    fun m ρ _ => Cert.AdamDown.reference_frame m ρ,
    fun m ρ _ => Cert.AdamInKernel.Gen.frame m ρ,
    fun m ρ _ => Cert.AdamInKernelIdeal.Gen.frame m ρ,
    fun m ρ _ => Cert.AdamIn.reference_frame m ρ,
    fun m ρ _ => Cert.AdamUqKernel.Gen.frame m ρ,
    fun m ρ _ => Cert.AdamUqKernelIdeal.Gen.frame m ρ,
    fun m ρ _ => Cert.AdamUq.reference_frame m ρ,
    fun m ρ _ => Cert.AdamUkvKernel.Gen.frame m ρ,
    fun m ρ _ => Cert.AdamUkvKernelIdeal.Gen.frame m ρ,
    fun m ρ _ => Cert.AdamUkv.reference_frame m ρ,
    fun m ρ _ => Cert.AdamGluKernel.Gen.frame m ρ,
    fun m ρ _ => Cert.AdamGluKernelIdeal.Gen.frame m ρ,
    fun m ρ _ => Cert.AdamGlu.reference_frame m ρ,
    fun m ρ _ => Cert.AdamOutKernel.Gen.frame m ρ,
    fun m ρ _ => Cert.AdamOutKernelIdeal.Gen.frame m ρ,
    fun m ρ _ => Cert.AdamOut.reference_frame m ρ,
    fun m ρ _ => Cert.AdamSmallKernel.Gen.frame m ρ,
    fun m ρ _ => Cert.AdamSmallKernelIdeal.Gen.frame m ρ,
    fun m ρ _ => Cert.AdamSmall.reference_frame m ρ,
    fun m ρ _ => Cert.SumFfnKernel.Gen.frame m ρ,
    fun m ρ _ => Cert.SumFfnKernelIdeal.Gen.frame m ρ,
    fun m ρ _ => Cert.SumFfn.reference_frame m ρ,
    fun m ρ _ => Cert.SumInKernel.Gen.frame m ρ,
    fun m ρ _ => Cert.SumInKernelIdeal.Gen.frame m ρ,
    fun m ρ _ => Cert.SumIn.reference_frame m ρ,
    fun m ρ _ => Cert.SumUqKernel.Gen.frame m ρ,
    fun m ρ _ => Cert.SumUqKernelIdeal.Gen.frame m ρ,
    fun m ρ _ => Cert.SumUq.reference_frame m ρ,
    fun m ρ _ => Cert.SumUkvKernel.Gen.frame m ρ,
    fun m ρ _ => Cert.SumUkvKernelIdeal.Gen.frame m ρ,
    fun m ρ _ => Cert.SumUkv.reference_frame m ρ,
    fun m ρ _ => Cert.SumOutKernel.Gen.frame m ρ,
    fun m ρ _ => Cert.SumOutKernelIdeal.Gen.frame m ρ,
    fun m ρ _ => Cert.SumOut.reference_frame m ρ,
    fun m ρ _ => Cert.SumSmallKernel.Gen.frame m ρ,
    fun m ρ _ => Cert.SumSmallKernelIdeal.Gen.frame m ρ,
    fun m ρ _ => Cert.SumSmall.reference_frame m ρ,
    fun m ρ _ => Cert.UqKernel.Gen.frame m ρ,
    fun m ρ _ => Cert.UqKernelIdeal.Gen.frame m ρ,
    fun m ρ _ => Cert.Uq.reference_frame m ρ,
    fun m ρ _ => Cert.UqDwKernel.Gen.frame m ρ,
    fun m ρ _ => Cert.UqDwKernelIdeal.Gen.frame m ρ,
    fun m ρ _ => Cert.UqDw.reference_frame m ρ,
    fun m ρ _ => Cert.UqDxKernel.Gen.frame m ρ,
    fun m ρ _ => Cert.UqDxKernelIdeal.Gen.frame m ρ,
    fun m ρ _ => Cert.UqDx.reference_frame m ρ,
    fun m ρ _ => Cert.UkvKernel.Gen.frame m ρ,
    fun m ρ _ => Cert.UkvKernelIdeal.Gen.frame m ρ,
    fun m ρ _ => Cert.Ukv.reference_frame m ρ,
    fun m ρ _ => Cert.UkvDwKernel.Gen.frame m ρ,
    fun m ρ _ => Cert.UkvDwKernelIdeal.Gen.frame m ρ,
    fun m ρ _ => Cert.UkvDw.reference_frame m ρ,
    fun m ρ _ => Cert.UkvDxKernel.Gen.frame m ρ,
    fun m ρ _ => Cert.UkvDxKernelIdeal.Gen.frame m ρ,
    fun m ρ _ => Cert.UkvDx.reference_frame m ρ,
    fun m ρ _ => Cert.FfnLnKernel.Gen.frame m ρ,
    fun m ρ _ => Cert.FfnLnKernelIdeal.Gen.frame m ρ,
    fun m ρ _ => Cert.FfnLn.reference_frame m ρ,
    fun m ρ _ => Cert.MixLnKernel.Gen.frame m ρ,
    fun m ρ _ => Cert.MixLnKernelIdeal.Gen.frame m ρ,
    fun m ρ _ => Cert.MixLn.reference_frame m ρ,
    fun m ρ _ => Cert.PrepKernel.Gen.frame m ρ,
    fun m ρ _ => Cert.PrepKernelIdeal.Gen.frame m ρ,
    fun m ρ _ => Cert.Prep.reference_frame m ρ,
    fun m ρ _ => Cert.PrepBwdKernel.Gen.frame m ρ,
    fun m ρ _ => Cert.PrepBwdKernelIdeal.Gen.frame m ρ,
    fun m ρ _ => Cert.PrepBwd.reference_frame m ρ,
    trivial, algebraic,
    trivial, Cert.Ffn.algebraic,
    trivial, Cert.FfnAct.algebraic,
    trivial, Cert.FfnDown.algebraic,
    trivial, Cert.FfnGate.algebraic,
    trivial, Cert.FfnUp.algebraic,
    trivial, Cert.FfnDx.algebraic,
    Cert.Att.preserves, Cert.Att.algebraic,
    trivial, Cert.Mix.algebraic,
    trivial, Cert.OutDw.algebraic,
    trivial, Cert.OutDx.algebraic,
    trivial, Cert.In.algebraic,
    trivial, Cert.InDw.algebraic,
    trivial, Cert.InDx.algebraic,
    trivial, Cert.AdamUp.algebraic,
    trivial, Cert.AdamDown.algebraic,
    trivial, Cert.AdamIn.algebraic,
    trivial, Cert.AdamUq.algebraic,
    trivial, Cert.AdamUkv.algebraic,
    trivial, Cert.AdamGlu.algebraic,
    trivial, Cert.AdamOut.algebraic,
    trivial, Cert.AdamSmall.algebraic,
    trivial, Cert.SumFfn.algebraic,
    trivial, Cert.SumIn.algebraic,
    trivial, Cert.SumUq.algebraic,
    trivial, Cert.SumUkv.algebraic,
    trivial, Cert.SumOut.algebraic,
    trivial, Cert.SumSmall.algebraic,
    trivial, Cert.Uq.algebraic,
    trivial, Cert.UqDw.algebraic,
    trivial, Cert.UqDx.algebraic,
    trivial, Cert.Ukv.algebraic,
    trivial, Cert.UkvDw.algebraic,
    trivial, Cert.UkvDx.algebraic,
    trivial, Cert.FfnLn.algebraic,
    trivial, Cert.MixLn.algebraic,
    trivial, Cert.Prep.algebraic,
    trivial, Cert.PrepBwd.algebraic⟩

end Cert.Proof

end
